-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  IdealRules.named_const.Statement Cert.KernelIdeal.κ "mask" .f32 0xC6EA6000#32 ⊥
  ∧ IdealRules.named_const.Statement Cert.KernelIdeal.κ "scale_log2" .f32 0x3E16C740#32 (((3424635 / 33554432) * (Real.log 2)⁻¹ : ℝ) : EReal)
  ∧ IdealRules.named_const.Statement Cert.KernelIdeal.κ "log2_e" .f32 0x3FB8AA3B#32 (((Real.log 2)⁻¹ : ℝ) : EReal)

def algebraic_KernelIdeal_ReferenceIdeal_on_read_pre_finite [hKernelIdeal : Cert.KernelIdeal.Facts] [hReferenceIdeal : Cert.ReferenceIdeal.Facts] [hPre_finite : Cert.Pre_finite.Facts] [hOn_read : Cert.On_read.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v20_0)) (v3 : (c : Dev Cert.KernelIdeal.nD) → Buf (Elt Ideal) ((c.tc : Thread Cert.KernelIdeal.nD Cert.KernelIdeal.τ).loc Cert.KernelIdeal.main_v20_1)) (v4 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4352, 512]⟩ : Shape).Idx, (Cert.On_read.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v17_0) i = v0 c i)
          ∧ (∀ i : (⟨3, ![4, 4352, 2]⟩ : Shape).Idx, (Cert.On_read.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v17_1) i = v1 c i)
          ∧ (∀ i : (⟨2, ![4352, 1024]⟩ : Shape).Idx, (Cert.On_read.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 i = 1#1 → r.2.mem ((c.tc : Thread Cert.KernelIdeal.nD Cert.KernelIdeal.τ).loc Cert.KernelIdeal.main_v20_0) i = v2 c i)
          ∧ (∀ i : (⟨2, ![4352, 1024]⟩ : Shape).Idx, (Cert.On_read.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 i = 1#1 → r.2.mem ((c.tc : Thread Cert.KernelIdeal.nD Cert.KernelIdeal.τ).loc Cert.KernelIdeal.main_v20_1) i = v3 c i)
          ∧ (∀ i : (⟨2, ![4352, 512]⟩ : Shape).Idx, (Cert.On_read.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 i = 1#1 → r.2.mem ((c.tc : Thread Cert.KernelIdeal.nD Cert.KernelIdeal.τ).loc Cert.KernelIdeal.main_v20_2) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4352, 512]⟩ : Shape).Idx, (Cert.On_read.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v76) i = v0 c i)
          ∧ (∀ i : (⟨3, ![4, 4352, 2]⟩ : Shape).Idx, (Cert.On_read.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v73) i = v1 c i)
          ∧ (∀ i : (⟨2, ![4352, 1024]⟩ : Shape).Idx, (Cert.On_read.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 i = 1#1 → r.2.mem ((c.tc : Thread Cert.ReferenceIdeal.nD Cert.ReferenceIdeal.τ).loc Cert.ReferenceIdeal.main_v78) i = v2 c i)
          ∧ (∀ i : (⟨2, ![4352, 1024]⟩ : Shape).Idx, (Cert.On_read.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 i = 1#1 → r.2.mem ((c.tc : Thread Cert.ReferenceIdeal.nD Cert.ReferenceIdeal.τ).loc Cert.ReferenceIdeal.main_v80) i = v3 c i)
          ∧ (∀ i : (⟨2, ![4352, 512]⟩ : Shape).Idx, (Cert.On_read.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 i = 1#1 → r.2.mem ((c.tc : Thread Cert.ReferenceIdeal.nD Cert.ReferenceIdeal.τ).loc Cert.ReferenceIdeal.main_v82) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)) (v3 : (c : Dev Cert.Kernel2Ideal.nD) → Buf (Elt Ideal) ((c.tc : Thread Cert.Kernel2Ideal.nD Cert.Kernel2Ideal.τ).loc Cert.Kernel2Ideal.main_v14_3)) (v4 : (c : Dev Cert.Kernel2Ideal.nD) → Buf (Elt Ideal) ((c.tc : Thread Cert.Kernel2Ideal.nD Cert.Kernel2Ideal.τ).loc Cert.Kernel2Ideal.main_v14_4)) (v5 : (c : Dev Cert.Kernel2Ideal.nD) → Buf (Elt Ideal) ((c.tc : Thread Cert.Kernel2Ideal.nD Cert.Kernel2Ideal.τ).loc Cert.Kernel2Ideal.main_v14_5)) (v6 : (c : Dev Cert.Kernel2Ideal.nD) → Buf (Elt Ideal) ((c.tc : Thread Cert.Kernel2Ideal.nD Cert.Kernel2Ideal.τ).loc Cert.Kernel2Ideal.main_v14_6)) (v7 : (c : Dev Cert.Kernel2Ideal.nD) → Buf (Elt Ideal) ((c.tc : Thread Cert.Kernel2Ideal.nD Cert.Kernel2Ideal.τ).loc Cert.Kernel2Ideal.main_v14_7)) (v8 : (c : Dev Cert.Kernel2Ideal.nD) → Buf (Elt Ideal) ((c.tc : Thread Cert.Kernel2Ideal.nD Cert.Kernel2Ideal.τ).loc Cert.Kernel2Ideal.main_v14_8)) (v9 : (c : Dev Cert.Kernel2Ideal.nD) → Buf (Elt Ideal) ((c.tc : Thread Cert.Kernel2Ideal.nD Cert.Kernel2Ideal.τ).loc Cert.Kernel2Ideal.main_v14_9)) (v10 : (c : Dev Cert.Kernel2Ideal.nD) → Buf (Elt Ideal) ((c.tc : Thread Cert.Kernel2Ideal.nD Cert.Kernel2Ideal.τ).loc Cert.Kernel2Ideal.main_v14_10)) (v11 : (c : Dev Cert.Kernel2Ideal.nD) → Buf (Elt Ideal) ((c.tc : Thread Cert.Kernel2Ideal.nD Cert.Kernel2Ideal.τ).loc Cert.Kernel2Ideal.main_v14_11)) (v12 : (c : Dev Cert.Kernel2Ideal.nD) → Buf (Elt Ideal) ((c.tc : Thread Cert.Kernel2Ideal.nD Cert.Kernel2Ideal.τ).loc Cert.Kernel2Ideal.main_v14_12)) (v13 : (c : Dev Cert.Kernel2Ideal.nD) → Buf (Elt Ideal) ((c.tc : Thread Cert.Kernel2Ideal.nD Cert.Kernel2Ideal.τ).loc Cert.Kernel2Ideal.main_v14_13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_v14_3) = v3 c
          ∧ r.2.mem ((c.tc : Thread Cert.Kernel2Ideal.nD Cert.Kernel2Ideal.τ).loc Cert.Kernel2Ideal.main_v14_4) = v4 c
          ∧ r.2.mem ((c.tc : Thread Cert.Kernel2Ideal.nD Cert.Kernel2Ideal.τ).loc Cert.Kernel2Ideal.main_v14_5) = v5 c
          ∧ r.2.mem ((c.tc : Thread Cert.Kernel2Ideal.nD Cert.Kernel2Ideal.τ).loc Cert.Kernel2Ideal.main_v14_6) = v6 c
          ∧ r.2.mem ((c.tc : Thread Cert.Kernel2Ideal.nD Cert.Kernel2Ideal.τ).loc Cert.Kernel2Ideal.main_v14_7) = v7 c
          ∧ r.2.mem ((c.tc : Thread Cert.Kernel2Ideal.nD Cert.Kernel2Ideal.τ).loc Cert.Kernel2Ideal.main_v14_8) = v8 c
          ∧ r.2.mem ((c.tc : Thread Cert.Kernel2Ideal.nD Cert.Kernel2Ideal.τ).loc Cert.Kernel2Ideal.main_v14_9) = v9 c
          ∧ r.2.mem ((c.tc : Thread Cert.Kernel2Ideal.nD Cert.Kernel2Ideal.τ).loc Cert.Kernel2Ideal.main_v14_10) = v10 c
          ∧ r.2.mem ((c.tc : Thread Cert.Kernel2Ideal.nD Cert.Kernel2Ideal.τ).loc Cert.Kernel2Ideal.main_v14_11) = v11 c
          ∧ r.2.mem ((c.tc : Thread Cert.Kernel2Ideal.nD Cert.Kernel2Ideal.τ).loc Cert.Kernel2Ideal.main_v14_12) = v12 c
          ∧ r.2.mem ((c.tc : Thread Cert.Kernel2Ideal.nD Cert.Kernel2Ideal.τ).loc Cert.Kernel2Ideal.main_v14_13) = v13 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v151) = v0 c
          ∧ r.2.mem ((c.tc : Thread Cert.Reference2Ideal.nD Cert.Reference2Ideal.τ).loc Cert.Reference2Ideal.main_v153) = v1 c
          ∧ r.2.mem ((c.tc : Thread Cert.Reference2Ideal.nD Cert.Reference2Ideal.τ).loc Cert.Reference2Ideal.main_v155) = v2 c
          ∧ r.2.mem ((c.tc : Thread Cert.Reference2Ideal.nD Cert.Reference2Ideal.τ).loc Cert.Reference2Ideal.main_v158) = v3 c
          ∧ r.2.mem ((c.tc : Thread Cert.Reference2Ideal.nD Cert.Reference2Ideal.τ).loc Cert.Reference2Ideal.main_v161) = v4 c
          ∧ r.2.mem ((c.tc : Thread Cert.Reference2Ideal.nD Cert.Reference2Ideal.τ).loc Cert.Reference2Ideal.main_v164) = v5 c
          ∧ r.2.mem ((c.tc : Thread Cert.Reference2Ideal.nD Cert.Reference2Ideal.τ).loc Cert.Reference2Ideal.main_v167) = v6 c
          ∧ r.2.mem ((c.tc : Thread Cert.Reference2Ideal.nD Cert.Reference2Ideal.τ).loc Cert.Reference2Ideal.main_v170) = v7 c
          ∧ r.2.mem ((c.tc : Thread Cert.Reference2Ideal.nD Cert.Reference2Ideal.τ).loc Cert.Reference2Ideal.main_v173) = v8 c
          ∧ r.2.mem ((c.tc : Thread Cert.Reference2Ideal.nD Cert.Reference2Ideal.τ).loc Cert.Reference2Ideal.main_v176) = v9 c
          ∧ r.2.mem ((c.tc : Thread Cert.Reference2Ideal.nD Cert.Reference2Ideal.τ).loc Cert.Reference2Ideal.main_v177) = v10 c
          ∧ r.2.mem ((c.tc : Thread Cert.Reference2Ideal.nD Cert.Reference2Ideal.τ).loc Cert.Reference2Ideal.main_v178) = v11 c
          ∧ r.2.mem ((c.tc : Thread Cert.Reference2Ideal.nD Cert.Reference2Ideal.τ).loc Cert.Reference2Ideal.main_v179) = v12 c
          ∧ r.2.mem ((c.tc : Thread Cert.Reference2Ideal.nD Cert.Reference2Ideal.τ).loc Cert.Reference2Ideal.main_v180) = v13 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  IdealRules.named_const.Statement Cert.Kernel3Ideal.κ "inv_384" .f32 0x3B2AAAAB#32 ((1 / 384 : ℝ) : EReal)
  ∧ IdealRules.named_const.Statement Cert.Kernel3Ideal.κ "inv_96" .f32 0x3C2AAAAB#32 ((1 / 96 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v54_0)) (v1 : (c : Dev Cert.Kernel3Ideal.nD) → Buf (Elt Ideal) ((c.tc : Thread Cert.Kernel3Ideal.nD Cert.Kernel3Ideal.τ).loc Cert.Kernel3Ideal.main_v54_1)) (v2 : (c : Dev Cert.Kernel3Ideal.nD) → Buf (Elt Ideal) ((c.tc : Thread Cert.Kernel3Ideal.nD Cert.Kernel3Ideal.τ).loc Cert.Kernel3Ideal.main_v54_2)) (v3 : (c : Dev Cert.Kernel3Ideal.nD) → Buf (Elt Ideal) ((c.tc : Thread Cert.Kernel3Ideal.nD Cert.Kernel3Ideal.τ).loc Cert.Kernel3Ideal.main_v54_3)) (v4 : (c : Dev Cert.Kernel3Ideal.nD) → Buf (Elt Ideal) ((c.tc : Thread Cert.Kernel3Ideal.nD Cert.Kernel3Ideal.τ).loc Cert.Kernel3Ideal.main_v54_4)) (v5 : (c : Dev Cert.Kernel3Ideal.nD) → Buf (Elt Ideal) ((c.tc : Thread Cert.Kernel3Ideal.nD Cert.Kernel3Ideal.τ).loc Cert.Kernel3Ideal.main_v54_5)) (v6 : (c : Dev Cert.Kernel3Ideal.nD) → Buf (Elt Ideal) ((c.tc : Thread Cert.Kernel3Ideal.nD Cert.Kernel3Ideal.τ).loc Cert.Kernel3Ideal.main_v54_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v54_0) = v0 c
          ∧ r.2.mem ((c.tc : Thread Cert.Kernel3Ideal.nD Cert.Kernel3Ideal.τ).loc Cert.Kernel3Ideal.main_v54_1) = v1 c
          ∧ r.2.mem ((c.tc : Thread Cert.Kernel3Ideal.nD Cert.Kernel3Ideal.τ).loc Cert.Kernel3Ideal.main_v54_2) = v2 c
          ∧ r.2.mem ((c.tc : Thread Cert.Kernel3Ideal.nD Cert.Kernel3Ideal.τ).loc Cert.Kernel3Ideal.main_v54_3) = v3 c
          ∧ r.2.mem ((c.tc : Thread Cert.Kernel3Ideal.nD Cert.Kernel3Ideal.τ).loc Cert.Kernel3Ideal.main_v54_4) = v4 c
          ∧ r.2.mem ((c.tc : Thread Cert.Kernel3Ideal.nD Cert.Kernel3Ideal.τ).loc Cert.Kernel3Ideal.main_v54_5) = v5 c
          ∧ r.2.mem ((c.tc : Thread Cert.Kernel3Ideal.nD Cert.Kernel3Ideal.τ).loc Cert.Kernel3Ideal.main_v54_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v227) = v0 c
          ∧ r.2.mem ((c.tc : Thread Cert.Reference3Ideal.nD Cert.Reference3Ideal.τ).loc Cert.Reference3Ideal.main_v229) = v1 c
          ∧ r.2.mem ((c.tc : Thread Cert.Reference3Ideal.nD Cert.Reference3Ideal.τ).loc Cert.Reference3Ideal.main_v232) = v2 c
          ∧ r.2.mem ((c.tc : Thread Cert.Reference3Ideal.nD Cert.Reference3Ideal.τ).loc Cert.Reference3Ideal.main_v237) = v3 c
          ∧ r.2.mem ((c.tc : Thread Cert.Reference3Ideal.nD Cert.Reference3Ideal.τ).loc Cert.Reference3Ideal.main_v242) = v4 c
          ∧ r.2.mem ((c.tc : Thread Cert.Reference3Ideal.nD Cert.Reference3Ideal.τ).loc Cert.Reference3Ideal.main_v244) = v5 c
          ∧ r.2.mem ((c.tc : Thread Cert.Reference3Ideal.nD Cert.Reference3Ideal.τ).loc Cert.Reference3Ideal.main_v246) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v23_0)) (v1 : (c : Dev Cert.Kernel4Ideal.nD) → Buf (Elt Ideal) ((c.tc : Thread Cert.Kernel4Ideal.nD Cert.Kernel4Ideal.τ).loc Cert.Kernel4Ideal.main_v23_1)) (v2 : (c : Dev Cert.Kernel4Ideal.nD) → Buf (Elt Ideal) ((c.tc : Thread Cert.Kernel4Ideal.nD Cert.Kernel4Ideal.τ).loc Cert.Kernel4Ideal.main_v23_2)) (v3 : (c : Dev Cert.Kernel4Ideal.nD) → Buf (Elt Ideal) ((c.tc : Thread Cert.Kernel4Ideal.nD Cert.Kernel4Ideal.τ).loc Cert.Kernel4Ideal.main_v23_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23_0) = v0 c
          ∧ r.2.mem ((c.tc : Thread Cert.Kernel4Ideal.nD Cert.Kernel4Ideal.τ).loc Cert.Kernel4Ideal.main_v23_1) = v1 c
          ∧ r.2.mem ((c.tc : Thread Cert.Kernel4Ideal.nD Cert.Kernel4Ideal.τ).loc Cert.Kernel4Ideal.main_v23_2) = v2 c
          ∧ r.2.mem ((c.tc : Thread Cert.Kernel4Ideal.nD Cert.Kernel4Ideal.τ).loc Cert.Kernel4Ideal.main_v23_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_v49) = v2 c
          ∧ r.2.mem ((c.tc : Thread Cert.Reference4Ideal.nD Cert.Reference4Ideal.τ).loc Cert.Reference4Ideal.main_v50) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  IdealRules.named_const.Statement Cert.Kernel5Ideal.κ "inv_384" .f32 0x3B2AAAAB#32 ((1 / 384 : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)) (v2 : (c : Dev Cert.Kernel5Ideal.nD) → Buf (Elt Ideal) ((c.tc : Thread Cert.Kernel5Ideal.nD Cert.Kernel5Ideal.τ).loc Cert.Kernel5Ideal.main_v15_2)) (v3 : (c : Dev Cert.Kernel5Ideal.nD) → Buf (Elt Ideal) ((c.tc : Thread Cert.Kernel5Ideal.nD Cert.Kernel5Ideal.τ).loc Cert.Kernel5Ideal.main_v15_3)) (v4 : (c : Dev Cert.Kernel5Ideal.nD) → Buf (Elt Ideal) ((c.tc : Thread Cert.Kernel5Ideal.nD Cert.Kernel5Ideal.τ).loc Cert.Kernel5Ideal.main_v15_4)) (v5 : (c : Dev Cert.Kernel5Ideal.nD) → Buf (Elt Ideal) ((c.tc : Thread Cert.Kernel5Ideal.nD Cert.Kernel5Ideal.τ).loc Cert.Kernel5Ideal.main_v15_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_v15_2) = v2 c
          ∧ r.2.mem ((c.tc : Thread Cert.Kernel5Ideal.nD Cert.Kernel5Ideal.τ).loc Cert.Kernel5Ideal.main_v15_3) = v3 c
          ∧ r.2.mem ((c.tc : Thread Cert.Kernel5Ideal.nD Cert.Kernel5Ideal.τ).loc Cert.Kernel5Ideal.main_v15_4) = v4 c
          ∧ r.2.mem ((c.tc : Thread Cert.Kernel5Ideal.nD Cert.Kernel5Ideal.τ).loc Cert.Kernel5Ideal.main_v15_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v82) = v0 c
          ∧ r.2.mem ((c.tc : Thread Cert.Reference5Ideal.nD Cert.Reference5Ideal.τ).loc Cert.Reference5Ideal.main_v84) = v1 c
          ∧ r.2.mem ((c.tc : Thread Cert.Reference5Ideal.nD Cert.Reference5Ideal.τ).loc Cert.Reference5Ideal.main_v87) = v2 c
          ∧ r.2.mem ((c.tc : Thread Cert.Reference5Ideal.nD Cert.Reference5Ideal.τ).loc Cert.Reference5Ideal.main_v90) = v3 c
          ∧ r.2.mem ((c.tc : Thread Cert.Reference5Ideal.nD Cert.Reference5Ideal.τ).loc Cert.Reference5Ideal.main_v91) = v4 c
          ∧ r.2.mem ((c.tc : Thread Cert.Reference5Ideal.nD Cert.Reference5Ideal.τ).loc Cert.Reference5Ideal.main_v92) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  IdealRules.named_const.Statement Cert.Kernel6Ideal.κ "inv_384" .f32 0x3B2AAAAB#32 ((1 / 384 : ℝ) : EReal)
  ∧ IdealRules.named_const.Statement Cert.Kernel6Ideal.κ "inv_96" .f32 0x3C2AAAAB#32 ((1 / 96 : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v61_0)) (v1 : (c : Dev Cert.Kernel6Ideal.nD) → Buf (Elt Ideal) ((c.tc : Thread Cert.Kernel6Ideal.nD Cert.Kernel6Ideal.τ).loc Cert.Kernel6Ideal.main_v61_1)) (v2 : (c : Dev Cert.Kernel6Ideal.nD) → Buf (Elt Ideal) ((c.tc : Thread Cert.Kernel6Ideal.nD Cert.Kernel6Ideal.τ).loc Cert.Kernel6Ideal.main_v61_2)) (v3 : (c : Dev Cert.Kernel6Ideal.nD) → Buf (Elt Ideal) ((c.tc : Thread Cert.Kernel6Ideal.nD Cert.Kernel6Ideal.τ).loc Cert.Kernel6Ideal.main_v61_3)) (v4 : (c : Dev Cert.Kernel6Ideal.nD) → Buf (Elt Ideal) ((c.tc : Thread Cert.Kernel6Ideal.nD Cert.Kernel6Ideal.τ).loc Cert.Kernel6Ideal.main_v61_4)) (v5 : (c : Dev Cert.Kernel6Ideal.nD) → Buf (Elt Ideal) ((c.tc : Thread Cert.Kernel6Ideal.nD Cert.Kernel6Ideal.τ).loc Cert.Kernel6Ideal.main_v61_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v61_0) = v0 c
          ∧ r.2.mem ((c.tc : Thread Cert.Kernel6Ideal.nD Cert.Kernel6Ideal.τ).loc Cert.Kernel6Ideal.main_v61_1) = v1 c
          ∧ r.2.mem ((c.tc : Thread Cert.Kernel6Ideal.nD Cert.Kernel6Ideal.τ).loc Cert.Kernel6Ideal.main_v61_2) = v2 c
          ∧ r.2.mem ((c.tc : Thread Cert.Kernel6Ideal.nD Cert.Kernel6Ideal.τ).loc Cert.Kernel6Ideal.main_v61_3) = v3 c
          ∧ r.2.mem ((c.tc : Thread Cert.Kernel6Ideal.nD Cert.Kernel6Ideal.τ).loc Cert.Kernel6Ideal.main_v61_4) = v4 c
          ∧ r.2.mem ((c.tc : Thread Cert.Kernel6Ideal.nD Cert.Kernel6Ideal.τ).loc Cert.Kernel6Ideal.main_v61_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v154) = v0 c
          ∧ r.2.mem ((c.tc : Thread Cert.Reference6Ideal.nD Cert.Reference6Ideal.τ).loc Cert.Reference6Ideal.main_v156) = v1 c
          ∧ r.2.mem ((c.tc : Thread Cert.Reference6Ideal.nD Cert.Reference6Ideal.τ).loc Cert.Reference6Ideal.main_v158) = v2 c
          ∧ r.2.mem ((c.tc : Thread Cert.Reference6Ideal.nD Cert.Reference6Ideal.τ).loc Cert.Reference6Ideal.main_v166) = v3 c
          ∧ r.2.mem ((c.tc : Thread Cert.Reference6Ideal.nD Cert.Reference6Ideal.τ).loc Cert.Reference6Ideal.main_v173) = v4 c
          ∧ r.2.mem ((c.tc : Thread Cert.Reference6Ideal.nD Cert.Reference6Ideal.τ).loc Cert.Reference6Ideal.main_v177) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hOn_read : Cert.On_read.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_on_read_pre_finite (hKernelIdeal := hKernelIdeal) (hReferenceIdeal := hReferenceIdeal) (hPre_finite := hPre_finite) (hOn_read := hOn_read)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== On_read.lean ====
abbrev S2x2064x8x96 : Shape := ⟨4, ![2, 2064, 8, 96]⟩
abbrev S2x2064x8x64 : Shape := ⟨4, ![2, 2064, 8, 64]⟩
abbrev S2x2064x512 : Shape := ⟨3, ![2, 2064, 512]⟩
abbrev S4352x1024 : Shape := ⟨2, ![4352, 1024]⟩
abbrev S_ : Shape := ⟨0, ![]⟩
abbrev S4352x512 : Shape := ⟨2, ![4352, 512]⟩
abbrev S4x4352x2 : Shape := ⟨3, ![4, 4352, 2]⟩

class Facts : Prop where
  bcast_S_S4352x1024 : S_.BroadcastsInDim S4352x1024 (![] : Fin 0 → Fin S4352x1024.rank)
  bcast_S_S4352x512 : S_.BroadcastsInDim S4352x512 (![] : Fin 0 → Fin S4352x512.rank)
  bcast_S_S4x4352x2 : S_.BroadcastsInDim S4x4352x2 (![] : Fin 0 → Fin S4x4352x2.rank)

variable [Facts]

def fn_part1 {F : FTy → Type} [FloatOps F] (main_v3 : IVec S4352x1024 1) (main_v8 : IVec S4352x512 1) (main_v13 : IVec S4x4352x2 1) (main_v15 : IVec S4352x1024 1) (main_c_6 : IVec S_ 1) : IVec S4352x512 1 × IVec S4x4352x2 1 × IVec S4352x1024 1 × IVec S4352x1024 1 × IVec S4352x512 1 :=
  let main_v16 : IVec S4352x512 1 := broadcastInDim S4352x512 ![] bcast_S_S4352x512 main_c_6
  (main_v8, main_v13, main_v3, main_v15, main_v16)

def fn {F : FTy → Type} [FloatOps F] (main_arg0 : FVec F S2x2064x8x96 .f32) (main_arg1 : FVec F S2x2064x8x96 .f32) (main_arg2 : FVec F S2x2064x8x64 .f32) (main_arg3 : FVec F S2x2064x512 .f32) : IVec S4352x512 1 × IVec S4x4352x2 1 × IVec S4352x1024 1 × IVec S4352x1024 1 × IVec S4352x512 1 :=
  let main_v0 : IVec S4352x1024 32 := iotaInDim S4352x1024 32 1
  let main_c : IVec S_ 32 := constantI S_ 32 128#32
  let main_v1 : IVec S4352x1024 32 := broadcastInDim S4352x1024 ![] bcast_S_S4352x1024 main_c
  let main_v2 : IVec S4352x1024 32 := Host.remsi main_v0 main_v1
  let main_c_0 : IVec S_ 1 := constantI S_ 1 1#1
  let main_v3 : IVec S4352x1024 1 := broadcastInDim S4352x1024 ![] bcast_S_S4352x1024 main_c_0
  let main_v4 : IVec S4352x512 32 := iotaInDim S4352x512 32 0
  let main_c_1 : IVec S_ 32 := constantI S_ 32 2176#32
  let main_v5 : IVec S4352x512 32 := broadcastInDim S4352x512 ![] bcast_S_S4352x512 main_c_1
  let main_v6 : IVec S4352x512 32 := Host.remsi main_v4 main_v5
  let main_c_2 : IVec S_ 32 := constantI S_ 32 2064#32
  let main_v7 : IVec S4352x512 32 := broadcastInDim S4352x512 ![] bcast_S_S4352x512 main_c_2
  let main_v8 : IVec S4352x512 1 := cmpi .slt main_v6 main_v7
  let main_v9 : IVec S4x4352x2 32 := iotaInDim S4x4352x2 32 1
  let main_c_3 : IVec S_ 32 := constantI S_ 32 2176#32
  let main_v10 : IVec S4x4352x2 32 := broadcastInDim S4x4352x2 ![] bcast_S_S4x4352x2 main_c_3
  let main_v11 : IVec S4x4352x2 32 := Host.remsi main_v9 main_v10
  let main_c_4 : IVec S_ 32 := constantI S_ 32 2064#32
  let main_v12 : IVec S4x4352x2 32 := broadcastInDim S4x4352x2 ![] bcast_S_S4x4352x2 main_c_4
  let main_v13 : IVec S4x4352x2 1 := cmpi .slt main_v11 main_v12
  let main_c_5 : IVec S_ 32 := constantI S_ 32 96#32
  let main_v14 : IVec S4352x1024 32 := broadcastInDim S4352x1024 ![] bcast_S_S4352x1024 main_c_5
  let main_v15 : IVec S4352x1024 1 := cmpi .ne main_v2 main_v14
  let main_c_6 : IVec S_ 1 := constantI S_ 1 1#1
  fn_part1 (F := F) main_v3 main_v8 main_v13 main_v15 main_c_6
-- ==== Pre_finite.lean ====
abbrev S2x2064x8x96 : Shape := ⟨4, ![2, 2064, 8, 96]⟩
abbrev S2x2064x8x64 : Shape := ⟨4, ![2, 2064, 8, 64]⟩
abbrev S2x2064x512 : Shape := ⟨3, ![2, 2064, 512]⟩
abbrev S_ : Shape := ⟨0, ![]⟩

class Facts : Prop where
  bcast_S_S2x2064x8x96 : S_.BroadcastsInDim S2x2064x8x96 (![] : Fin 0 → Fin S2x2064x8x96.rank)
  reducesTo_S2x2064x8x96_S_d0_1_2_3 : S2x2064x8x96.ReducesTo [0, 1, 2, 3] S_
  h_S_ : 0 < S_.numel
  bcast_S_S2x2064x8x64 : S_.BroadcastsInDim S2x2064x8x64 (![] : Fin 0 → Fin S2x2064x8x64.rank)
  reducesTo_S2x2064x8x64_S_d0_1_2_3 : S2x2064x8x64.ReducesTo [0, 1, 2, 3] S_
  bcast_S_S2x2064x512 : S_.BroadcastsInDim S2x2064x512 (![] : Fin 0 → Fin S2x2064x512.rank)
  reducesTo_S2x2064x512_S_d0_1_2 : S2x2064x512.ReducesTo [0, 1, 2] S_

variable [Facts]

def fn_part1 {F : FTy → Type} [FloatOps F] (main_v13 : IVec S_ 1) (main_v16 : IVec S2x2064x512 1) : IVec S_ 1 :=
  let main_c_5 : IVec S_ 1 := constantI S_ 1 1#1
  let main_v17 : IVec S_ 1 := (fun x v => Host.reduce IntOp.andi x v reducesTo_S2x2064x512_S_d0_1_2 h_S_) main_v16 main_c_5
  let main_v18 : IVec S_ 1 := andi main_v13 main_v17
  main_v18

def fn {F : FTy → Type} [FloatOps F] (main_arg0 : FVec F S2x2064x8x96 .f32) (main_arg1 : FVec F S2x2064x8x96 .f32) (main_arg2 : FVec F S2x2064x8x64 .f32) (main_arg3 : FVec F S2x2064x512 .f32) : IVec S_ 1 :=
  let main_v0 : FVec F S2x2064x8x96 .f32 := Host.absf main_arg0
  let main_cst : FVec F S_ .f32 := constant S_ .f32 0x7F800000#32
  let main_v1 : FVec F S2x2064x8x96 .f32 := broadcastInDim S2x2064x8x96 ![] bcast_S_S2x2064x8x96 main_cst
  let main_v2 : IVec S2x2064x8x96 1 := cmpf .olt main_v0 main_v1
  let main_c : IVec S_ 1 := constantI S_ 1 1#1
  let main_v3 : IVec S_ 1 := (fun x v => Host.reduce IntOp.andi x v reducesTo_S2x2064x8x96_S_d0_1_2_3 h_S_) main_v2 main_c
  let main_v4 : FVec F S2x2064x8x96 .f32 := Host.absf main_arg1
  let main_cst_0 : FVec F S_ .f32 := constant S_ .f32 0x7F800000#32
  let main_v5 : FVec F S2x2064x8x96 .f32 := broadcastInDim S2x2064x8x96 ![] bcast_S_S2x2064x8x96 main_cst_0
  let main_v6 : IVec S2x2064x8x96 1 := cmpf .olt main_v4 main_v5
  let main_c_1 : IVec S_ 1 := constantI S_ 1 1#1
  let main_v7 : IVec S_ 1 := (fun x v => Host.reduce IntOp.andi x v reducesTo_S2x2064x8x96_S_d0_1_2_3 h_S_) main_v6 main_c_1
  let main_v8 : IVec S_ 1 := andi main_v3 main_v7
  let main_v9 : FVec F S2x2064x8x64 .f32 := Host.absf main_arg2
  let main_cst_2 : FVec F S_ .f32 := constant S_ .f32 0x7F800000#32
  let main_v10 : FVec F S2x2064x8x64 .f32 := broadcastInDim S2x2064x8x64 ![] bcast_S_S2x2064x8x64 main_cst_2
  let main_v11 : IVec S2x2064x8x64 1 := cmpf .olt main_v9 main_v10
  let main_c_3 : IVec S_ 1 := constantI S_ 1 1#1
  let main_v12 : IVec S_ 1 := (fun x v => Host.reduce IntOp.andi x v reducesTo_S2x2064x8x64_S_d0_1_2_3 h_S_) main_v11 main_c_3
  let main_v13 : IVec S_ 1 := andi main_v8 main_v12
  let main_v14 : FVec F S2x2064x512 .f32 := Host.absf main_arg3
  let main_cst_4 : FVec F S_ .f32 := constant S_ .f32 0x7F800000#32
  let main_v15 : FVec F S2x2064x512 .f32 := broadcastInDim S2x2064x512 ![] bcast_S_S2x2064x512 main_cst_4
  let main_v16 : IVec S2x2064x512 1 := cmpf .olt main_v14 main_v15
  fn_part1 (F := F) main_v13 main_v16
-- ==== Kernel.lean ====
abbrev S2x2064x8x96 : Shape := ⟨4, ![2, 2064, 8, 96]⟩
abbrev S2x2064x8x64 : Shape := ⟨4, ![2, 2064, 8, 64]⟩
abbrev S2x2064x512 : Shape := ⟨3, ![2, 2064, 512]⟩
abbrev S_ : Shape := ⟨0, ![]⟩
abbrev S2x2176x8x1 : Shape := ⟨4, ![2, 2176, 8, 1]⟩
abbrev S2176x1 : Shape := ⟨2, ![2176, 1]⟩
abbrev S1x2176x1x1 : Shape := ⟨4, ![1, 2176, 1, 1]⟩
abbrev S2x2176x8x31 : Shape := ⟨4, ![2, 2176, 8, 31]⟩
abbrev S2x2176x8x96 : Shape := ⟨4, ![2, 2176, 8, 96]⟩
abbrev S2x2176x8x128 : Shape := ⟨4, ![2, 2176, 8, 128]⟩
abbrev S4352x1024 : Shape := ⟨2, ![4352, 1024]⟩
abbrev S2x2176x8x64 : Shape := ⟨4, ![2, 2176, 8, 64]⟩
abbrev S4352x512 : Shape := ⟨2, ![4352, 512]⟩
abbrev S4x4352x2 : Shape := ⟨3, ![4, 4352, 2]⟩
abbrev S1088x256 : Shape := ⟨2, ![1088, 256]⟩
abbrev S2176x256 : Shape := ⟨2, ![2176, 256]⟩
abbrev S2176x128 : Shape := ⟨2, ![2176, 128]⟩
abbrev S1088x128 : Shape := ⟨2, ![1088, 128]⟩
abbrev S1x1088x2 : Shape := ⟨3, ![1, 1088, 2]⟩
abbrev S1088x2176 : Shape := ⟨2, ![1088, 2176]⟩
abbrev S1088 : Shape := ⟨1, ![1088]⟩
abbrev S1088x1 : Shape := ⟨2, ![1088, 1]⟩
abbrev S1x128 : Shape := ⟨2, ![1, 128]⟩
abbrev S1088x2 : Shape := ⟨2, ![1088, 2]⟩
abbrev S2x2176x512 : Shape := ⟨3, ![2, 2176, 512]⟩
abbrev S1x1088x1 : Shape := ⟨3, ![1, 1088, 1]⟩

abbrev nBuf : Space → Nat
  | .hbm => 39
  | .vmem => 30
  | .smem => 0
  | _ => 0

abbrev bufTy : (tb : Table) → Fin (tcTables nBuf tb) → BufTy
  | .hbm, ⟨0, _⟩ => ⟨S2x2064x8x96, .f32⟩
  | .hbm, ⟨1, _⟩ => ⟨S2x2064x8x96, .f32⟩
  | .hbm, ⟨2, _⟩ => ⟨S2x2064x8x64, .f32⟩
  | .hbm, ⟨3, _⟩ => ⟨S2x2064x512, .f32⟩
  | .hbm, ⟨4, _⟩ => ⟨S_, .f32⟩
  | .hbm, ⟨5, _⟩ => ⟨S2x2176x8x1, .f32⟩
  | .hbm, ⟨6, _⟩ => ⟨S_, .f32⟩
  | .hbm, ⟨7, _⟩ => ⟨S2176x1, .f32⟩
  | .hbm, ⟨8, _⟩ => ⟨S2176x1, .f32⟩
  | .hbm, ⟨9, _⟩ => ⟨S1x2176x1x1, .f32⟩
  | .hbm, ⟨10, _⟩ => ⟨S2x2176x8x1, .f32⟩
  | .hbm, ⟨11, _⟩ => ⟨S_, .f32⟩
  | .hbm, ⟨12, _⟩ => ⟨S2x2176x8x31, .f32⟩
  | .hbm, ⟨13, _⟩ => ⟨S_, .i32⟩
  | .hbm, ⟨14, _⟩ => ⟨S_, .f32⟩
  | .hbm, ⟨15, _⟩ => ⟨S2x2176x8x96, .f32⟩
  | .hbm, ⟨16, _⟩ => ⟨S2x2176x8x128, .f32⟩
  | .hbm, ⟨17, _⟩ => ⟨S4352x1024, .f32⟩
  | .hbm, ⟨18, _⟩ => ⟨S4352x1024, .bf16⟩
  | .hbm, ⟨19, _⟩ => ⟨S_, .i32⟩
  | .hbm, ⟨20, _⟩ => ⟨S_, .f32⟩
  | .hbm, ⟨21, _⟩ => ⟨S2x2176x8x96, .f32⟩
  | .hbm, ⟨22, _⟩ => ⟨S2x2176x8x128, .f32⟩
  | .hbm, ⟨23, _⟩ => ⟨S4352x1024, .f32⟩
  | .hbm, ⟨24, _⟩ => ⟨S4352x1024, .bf16⟩
  | .hbm, ⟨25, _⟩ => ⟨S_, .i32⟩
  | .hbm, ⟨26, _⟩ => ⟨S_, .f32⟩
  | .hbm, ⟨27, _⟩ => ⟨S2x2176x8x64, .f32⟩
  | .hbm, ⟨28, _⟩ => ⟨S4352x512, .f32⟩
  | .hbm, ⟨29, _⟩ => ⟨S4352x512, .bf16⟩
  | .hbm, ⟨30, _⟩ => ⟨S4352x512, .f32⟩
  | .hbm, ⟨31, _⟩ => ⟨S4x4352x2, .f32⟩
  | .hbm, ⟨32, _⟩ => ⟨S_, .i32⟩
  | .hbm, ⟨33, _⟩ => ⟨S_, .f32⟩
  | .hbm, ⟨34, _⟩ => ⟨S2x2176x512, .f32⟩
  | .hbm, ⟨35, _⟩ => ⟨S4352x512, .f32⟩
  | .hbm, ⟨36, _⟩ => ⟨S4352x1024, .f32⟩
  | .hbm, ⟨37, _⟩ => ⟨S4352x1024, .f32⟩
  | .hbm, ⟨38, _⟩ => ⟨S4352x512, .f32⟩
  | .local _ .vmem, ⟨0, _⟩ => ⟨S2176x1, .f32⟩
  | .local _ .vmem, ⟨1, _⟩ => ⟨S2176x1, .f32⟩
  | .local _ .vmem, ⟨2, _⟩ => ⟨S1088x256, .bf16⟩
  | .local _ .vmem, ⟨3, _⟩ => ⟨S1088x256, .bf16⟩
  | .local _ .vmem, ⟨4, _⟩ => ⟨S2176x256, .bf16⟩
  | .local _ .vmem, ⟨5, _⟩ => ⟨S2176x256, .bf16⟩
  | .local _ .vmem, ⟨6, _⟩ => ⟨S2176x128, .bf16⟩
  | .local _ .vmem, ⟨7, _⟩ => ⟨S2176x128, .bf16⟩
  | .local _ .vmem, ⟨8, _⟩ => ⟨S1088x128, .f32⟩
  | .local _ .vmem, ⟨9, _⟩ => ⟨S1088x128, .f32⟩
  | .local _ .vmem, ⟨10, _⟩ => ⟨S1x1088x2, .f32⟩
  | .local _ .vmem, ⟨11, _⟩ => ⟨S1x1088x2, .f32⟩
  | .local _ .vmem, ⟨12, _⟩ => ⟨S1088x256, .bf16⟩
  | .local _ .vmem, ⟨13, _⟩ => ⟨S1088x256, .bf16⟩
  | .local _ .vmem, ⟨14, _⟩ => ⟨S2176x256, .bf16⟩
  | .local _ .vmem, ⟨15, _⟩ => ⟨S2176x256, .bf16⟩
  | .local _ .vmem, ⟨16, _⟩ => ⟨S2176x128, .bf16⟩
  | .local _ .vmem, ⟨17, _⟩ => ⟨S2176x128, .bf16⟩
  | .local _ .vmem, ⟨18, _⟩ => ⟨S1088x128, .f32⟩
  | .local _ .vmem, ⟨19, _⟩ => ⟨S1088x128, .f32⟩
  | .local _ .vmem, ⟨20, _⟩ => ⟨S1x1088x2, .f32⟩
  | .local _ .vmem, ⟨21, _⟩ => ⟨S1x1088x2, .f32⟩
  | .local _ .vmem, ⟨22, _⟩ => ⟨S1088x128, .f32⟩
  | .local _ .vmem, ⟨23, _⟩ => ⟨S1088x128, .f32⟩
  | .local _ .vmem, ⟨24, _⟩ => ⟨S1088x256, .f32⟩
  | .local _ .vmem, ⟨25, _⟩ => ⟨S1088x256, .f32⟩
  | .local _ .vmem, ⟨26, _⟩ => ⟨S2176x256, .f32⟩
  | .local _ .vmem, ⟨27, _⟩ => ⟨S2176x256, .f32⟩
  | .local _ .vmem, ⟨28, _⟩ => ⟨S2176x128, .f32⟩
  | .local _ .vmem, ⟨29, _⟩ => ⟨S2176x128, .f32⟩
  | _, _ => ⟨S2x2064x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_c_4 : Ref sig .tc := ⟨.hbm, 32, rfl⟩
abbrev main_call3_v0 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := .none

abbrev stage0_0 : Fin 1 → Memref sig .tc .vmem S2176x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2176x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨3, ![2, 4, 2], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![arg1.toNat, v1.toNat, c0_i32.toNat]

abbrev stage1_0 : Fin 2 → Memref sig .tc .vmem S1088x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2176x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2176x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1088x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1088x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨3, ![2, 4, 2], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![arg1.toNat, v1.toNat, c0_i32.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_8 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1088x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S2176x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S2176x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1088x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S1x1088x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

abbrev stage2_5 : Fin 2 → Memref sig .tc .vmem S1088x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, true]

abbrev stage2_6 : Fin 2 → Memref sig .tc .vmem S1088x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, true]

abbrev stage2_7 : Fin 2 → Memref sig .tc .vmem S2176x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

abbrev stage2_8 : Fin 2 → Memref sig .tc .vmem S2176x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true, false]
-- ==== KernelIdeal.lean ====
variable {F : FTy → Type} [FloatOps F] [Named F]
def κ : String → Option EReal := fun
  | "log2_e" => some (((Real.log 2)⁻¹ : ℝ) : EReal)
  | "mask" => some ⊥
  | "scale_log2" => some (((3424635 / 33554432) * (Real.log 2)⁻¹ : ℝ) : EReal)
  | _ => none
-- ==== ReferenceIdeal.lean ====
abbrev S2x2064x8x96 : Shape := ⟨4, ![2, 2064, 8, 96]⟩
abbrev S2x2064x8x64 : Shape := ⟨4, ![2, 2064, 8, 64]⟩
abbrev S2x2064x512 : Shape := ⟨3, ![2, 2064, 512]⟩
abbrev S2x8x2064x96 : Shape := ⟨4, ![2, 8, 2064, 96]⟩
abbrev S2x8x2064x64 : Shape := ⟨4, ![2, 8, 2064, 64]⟩
abbrev S2x8x2064x2064 : Shape := ⟨4, ![2, 8, 2064, 2064]⟩
abbrev S_ : Shape := ⟨0, ![]⟩
abbrev S2x8x2064 : Shape := ⟨3, ![2, 8, 2064]⟩
abbrev S2x8x2064x1 : Shape := ⟨4, ![2, 8, 2064, 1]⟩
abbrev S2x8x64x2064 : Shape := ⟨4, ![2, 8, 64, 2064]⟩
abbrev S2x8x2176 : Shape := ⟨3, ![2, 8, 2176]⟩
abbrev S2x4x2x2176 : Shape := ⟨4, ![2, 4, 2, 2176]⟩
abbrev S4x2x2176x2 : Shape := ⟨4, ![4, 2, 2176, 2]⟩
abbrev S4x4352x2 : Shape := ⟨3, ![4, 4352, 2]⟩
abbrev S2x2176x8x64 : Shape := ⟨4, ![2, 2176, 8, 64]⟩
abbrev S4352x512 : Shape := ⟨2, ![4352, 512]⟩
abbrev S2x2176x8x128 : Shape := ⟨4, ![2, 2176, 8, 128]⟩
abbrev S4352x1024 : Shape := ⟨2, ![4352, 1024]⟩

abbrev nBuf : Space → Nat
  | .hbm => 114
  | .vmem => 0
  | .smem => 0
  | _ => 0

abbrev bufTy : (tb : Table) → Fin (tcTables nBuf tb) → BufTy
  | .hbm, ⟨0, _⟩ => ⟨S2x2064x8x96, .f32⟩
  | .hbm, ⟨1, _⟩ => ⟨S2x2064x8x96, .f32⟩
  | .hbm, ⟨2, _⟩ => ⟨S2x2064x8x64, .f32⟩
  | .hbm, ⟨3, _⟩ => ⟨S2x2064x512, .f32⟩
  | .hbm, ⟨4, _⟩ => ⟨S2x8x2064x96, .f32⟩
  | .hbm, ⟨5, _⟩ => ⟨S2x8x2064x96, .f32⟩
  | .hbm, ⟨6, _⟩ => ⟨S2x8x2064x64, .f32⟩
  | .hbm, ⟨7, _⟩ => ⟨S2x8x2064x2064, .f32⟩
  | .hbm, ⟨8, _⟩ => ⟨S_, .f32⟩
  | .hbm, ⟨9, _⟩ => ⟨S2x8x2064x2064, .f32⟩
  | .hbm, ⟨10, _⟩ => ⟨S2x8x2064x2064, .f32⟩
  | .hbm, ⟨11, _⟩ => ⟨S_, .f32⟩
  | .hbm, ⟨12, _⟩ => ⟨S2x8x2064, .f32⟩
  | .hbm, ⟨13, _⟩ => ⟨S2x8x2064x1, .f32⟩
  | .hbm, ⟨14, _⟩ => ⟨S2x8x2064x2064, .f32⟩
  | .hbm, ⟨15, _⟩ => ⟨S2x8x2064x2064, .i1⟩
  | .hbm, ⟨16, _⟩ => ⟨S2x8x2064x2064, .f32⟩
  | .hbm, ⟨17, _⟩ => ⟨S_, .f32⟩
  | .hbm, ⟨18, _⟩ => ⟨S2x8x2064, .f32⟩
  | .hbm, ⟨19, _⟩ => ⟨S_, .f32⟩
  | .hbm, ⟨20, _⟩ => ⟨S2x8x2064, .f32⟩
  | .hbm, ⟨21, _⟩ => ⟨S2x8x2064, .f32⟩
  | .hbm, ⟨22, _⟩ => ⟨S_, .f32⟩
  | .hbm, ⟨23, _⟩ => ⟨S2x8x2064, .f32⟩
  | .hbm, ⟨24, _⟩ => ⟨S2x8x2064, .i1⟩
  | .hbm, ⟨25, _⟩ => ⟨S_, .f32⟩
  | .hbm, ⟨26, _⟩ => ⟨S2x8x2064, .f32⟩
  | .hbm, ⟨27, _⟩ => ⟨S2x8x2064, .i1⟩
  | .hbm, ⟨28, _⟩ => ⟨S_, .f32⟩
  | .hbm, ⟨29, _⟩ => ⟨S2x8x2064, .f32⟩
  | .hbm, ⟨30, _⟩ => ⟨S_, .f32⟩
  | .hbm, ⟨31, _⟩ => ⟨S2x8x2064, .f32⟩
  | .hbm, ⟨32, _⟩ => ⟨S_, .f32⟩
  | .hbm, ⟨33, _⟩ => ⟨S2x8x2064, .f32⟩
  | .hbm, ⟨34, _⟩ => ⟨S2x8x2064, .f32⟩
  | .hbm, ⟨35, _⟩ => ⟨S2x8x2064, .f32⟩
  | .hbm, ⟨36, _⟩ => ⟨S2x8x2064x1, .f32⟩
  | .hbm, ⟨37, _⟩ => ⟨S2x8x2064x2064, .f32⟩
  | .hbm, ⟨38, _⟩ => ⟨S2x8x2064x2064, .f32⟩
  | .hbm, ⟨39, _⟩ => ⟨S2x8x2064x2064, .f32⟩
  | .hbm, ⟨40, _⟩ => ⟨S_, .f32⟩
  | .hbm, ⟨41, _⟩ => ⟨S2x8x2064, .f32⟩
  | .hbm, ⟨42, _⟩ => ⟨S2x8x2064x1, .f32⟩
  | .hbm, ⟨43, _⟩ => ⟨S2x8x2064x2064, .f32⟩
  | .hbm, ⟨44, _⟩ => ⟨S2x8x2064x2064, .f32⟩
  | .hbm, ⟨45, _⟩ => ⟨S2x8x2064x1, .f32⟩
  | .hbm, ⟨46, _⟩ => ⟨S_, .f32⟩
  | .hbm, ⟨47, _⟩ => ⟨S2x8x2064x1, .f32⟩
  | .hbm, ⟨48, _⟩ => ⟨S2x8x2064x1, .f32⟩
  | .hbm, ⟨49, _⟩ => ⟨S2x8x2064x64, .f32⟩
  | .hbm, ⟨50, _⟩ => ⟨S2x2064x8x64, .f32⟩
  | .hbm, ⟨51, _⟩ => ⟨S2x2064x512, .f32⟩
  | .hbm, ⟨52, _⟩ => ⟨S2x2064x8x64, .f32⟩
  | .hbm, ⟨53, _⟩ => ⟨S2x8x2064x64, .f32⟩
  | .hbm, ⟨54, _⟩ => ⟨S2x8x64x2064, .f32⟩
  | .hbm, ⟨55, _⟩ => ⟨S2x8x2064x64, .f32⟩
  | .hbm, ⟨56, _⟩ => ⟨S2x8x2064x2064, .f32⟩
  | .hbm, ⟨57, _⟩ => ⟨S2x8x2064x2064, .f32⟩
  | .hbm, ⟨58, _⟩ => ⟨S2x8x2064x2064, .f32⟩
  | .hbm, ⟨59, _⟩ => ⟨S2x8x2064x2064, .f32⟩
  | .hbm, ⟨60, _⟩ => ⟨S_, .f32⟩
  | .hbm, ⟨61, _⟩ => ⟨S2x8x2064, .f32⟩
  | .hbm, ⟨62, _⟩ => ⟨S2x8x2064x1, .f32⟩
  | .hbm, ⟨63, _⟩ => ⟨S2x8x2064x1, .f32⟩
  | .hbm, ⟨64, _⟩ => ⟨S2x8x2064x2064, .f32⟩
  | .hbm, ⟨65, _⟩ => ⟨S2x8x2064x2064, .f32⟩
  | .hbm, ⟨66, _⟩ => ⟨S_, .f32⟩
  | .hbm, ⟨67, _⟩ => ⟨S2x8x2064, .f32⟩
  | .hbm, ⟨68, _⟩ => ⟨S2x8x2064x2064, .f32⟩
  | .hbm, ⟨69, _⟩ => ⟨S2x8x2064x2064, .f32⟩
  | .hbm, ⟨70, _⟩ => ⟨S2x8x2064x2064, .f32⟩
  | .hbm, ⟨71, _⟩ => ⟨S_, .f32⟩
  | .hbm, ⟨72, _⟩ => ⟨S2x8x2064x2064, .f32⟩
  | .hbm, ⟨73, _⟩ => ⟨S2x8x2064x2064, .f32⟩
  | .hbm, ⟨74, _⟩ => ⟨S2x8x2064x96, .f32⟩
  | .hbm, ⟨75, _⟩ => ⟨S2x8x2064x96, .f32⟩
  | .hbm, ⟨76, _⟩ => ⟨S2x2064x8x64, .f32⟩
  | .hbm, ⟨77, _⟩ => ⟨S2x2064x8x96, .f32⟩
  | .hbm, ⟨78, _⟩ => ⟨S2x2064x8x96, .f32⟩
  | .hbm, ⟨79, _⟩ => ⟨S2x8x2064x2064, .f32⟩
  | .hbm, ⟨80, _⟩ => ⟨S_, .f32⟩
  | .hbm, ⟨81, _⟩ => ⟨S2x8x2064x2064, .f32⟩
  | .hbm, ⟨82, _⟩ => ⟨S2x8x2064x2064, .f32⟩
  | .hbm, ⟨83, _⟩ => ⟨S2x8x2064x2064, .f32⟩
  | .hbm, ⟨84, _⟩ => ⟨S_, .f32⟩
  | .hbm, ⟨85, _⟩ => ⟨S2x8x2064, .f32⟩
  | .hbm, ⟨86, _⟩ => ⟨S2x8x2064, .f32⟩
  | .hbm, ⟨87, _⟩ => ⟨S_, .f32⟩
  | .hbm, ⟨88, _⟩ => ⟨S_, .f32⟩
  | .hbm, ⟨89, _⟩ => ⟨S2x8x2064, .f32⟩
  | .hbm, ⟨90, _⟩ => ⟨S2x8x2064, .f32⟩
  | .hbm, ⟨91, _⟩ => ⟨S_, .i32⟩
  | .hbm, ⟨92, _⟩ => ⟨S_, .f32⟩
  | .hbm, ⟨93, _⟩ => ⟨S2x8x2176, .f32⟩
  | .hbm, ⟨94, _⟩ => ⟨S2x4x2x2176, .f32⟩
  | .hbm, ⟨95, _⟩ => ⟨S4x2x2176x2, .f32⟩
  | .hbm, ⟨96, _⟩ => ⟨S4x4352x2, .f32⟩
  | .hbm, ⟨97, _⟩ => ⟨S2x2064x8x64, .f32⟩
  | .hbm, ⟨98, _⟩ => ⟨S_, .i32⟩
  | .hbm, ⟨99, _⟩ => ⟨S_, .f32⟩
  | .hbm, ⟨100, _⟩ => ⟨S2x2176x8x64, .f32⟩
  | .hbm, ⟨101, _⟩ => ⟨S4352x512, .f32⟩
  | .hbm, ⟨102, _⟩ => ⟨S_, .i32⟩
  | .hbm, ⟨103, _⟩ => ⟨S_, .f32⟩
  | .hbm, ⟨104, _⟩ => ⟨S2x2176x8x128, .f32⟩
  | .hbm, ⟨105, _⟩ => ⟨S4352x1024, .f32⟩
  | .hbm, ⟨106, _⟩ => ⟨S_, .i32⟩
  | .hbm, ⟨107, _⟩ => ⟨S_, .f32⟩
  | .hbm, ⟨108, _⟩ => ⟨S2x2176x8x128, .f32⟩
  | .hbm, ⟨109, _⟩ => ⟨S4352x1024, .f32⟩
  | .hbm, ⟨110, _⟩ => ⟨S_, .i32⟩
  | .hbm, ⟨111, _⟩ => ⟨S_, .f32⟩
  | .hbm, ⟨112, _⟩ => ⟨S2x2176x8x64, .f32⟩
  | .hbm, ⟨113, _⟩ => ⟨S4352x512, .f32⟩
  | _, _ => ⟨S2x2064x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_13 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_14 : Ref sig .tc := ⟨.hbm, 84, rfl⟩
abbrev main_v65 : Ref sig .tc := ⟨.hbm, 85, rfl⟩
abbrev main_v66 : Ref sig .tc := ⟨.hbm, 86, rfl⟩
abbrev main_cst_15 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c : Ref sig .tc := ⟨.hbm, 91, rfl⟩
abbrev main_call0_v0 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_16 : Ref sig .tc := ⟨.hbm, 98, rfl⟩
abbrev main_call1_v0 : Ref sig .tc := ⟨.hbm, 99, rfl⟩
abbrev main_v75 : Ref sig .tc := ⟨.hbm, 100, rfl⟩
abbrev main_v76 : Ref sig .tc := ⟨.hbm, 101, rfl⟩
abbrev main_c_17 : Ref sig .tc := ⟨.hbm, 102, rfl⟩
abbrev main_call2_v0 : Ref sig .tc := ⟨.hbm, 103, rfl⟩
abbrev main_v77 : Ref sig .tc := ⟨.hbm, 104, rfl⟩
abbrev main_v78 : Ref sig .tc := ⟨.hbm, 105, rfl⟩
abbrev main_c_18 : Ref sig .tc := ⟨.hbm, 106, rfl⟩
abbrev main_call3_v0 : Ref sig .tc := ⟨.hbm, 107, rfl⟩
abbrev main_v79 : Ref sig .tc := ⟨.hbm, 108, rfl⟩
abbrev main_v80 : Ref sig .tc := ⟨.hbm, 109, rfl⟩
abbrev main_c_19 : Ref sig .tc := ⟨.hbm, 110, rfl⟩
abbrev main_call4_v0 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]
-- ==== Kernel2.lean ====
abbrev S2x2064x1024 : Shape := ⟨3, ![2, 2064, 1024]⟩
abbrev S2x2064x512 : Shape := ⟨3, ![2, 2064, 512]⟩
abbrev S2x2048x1024 : Shape := ⟨3, ![2, 2048, 1024]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2176x1024 : Shape := ⟨3, ![2, 2176, 1024]⟩
abbrev S4352x1024 : Shape := ⟨2, ![4352, 1024]⟩
abbrev S2x2176x512 : Shape := ⟨3, ![2, 2176, 512]⟩
abbrev S4352x512 : Shape := ⟨2, ![4352, 512]⟩
abbrev S4352x2816 : Shape := ⟨2, ![4352, 2816]⟩
abbrev S1x1 : Shape := ⟨2, ![1, 1]⟩
abbrev S1x512 : Shape := ⟨2, ![1, 512]⟩
abbrev S1x1024 : Shape := ⟨2, ![1, 1024]⟩
abbrev S256x1024 : Shape := ⟨2, ![256, 1024]⟩
abbrev S256x512 : Shape := ⟨2, ![256, 512]⟩
abbrev S256x2816 : Shape := ⟨2, ![256, 2816]⟩
abbrev S256 : Shape := ⟨1, ![256]⟩
abbrev S256x1 : Shape := ⟨2, ![256, 1]⟩
abbrev S512x1024 : Shape := ⟨2, ![512, 1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 47
  | .vmem => 39
  | .smem => 0
  | _ => 0

abbrev bufTy : (tb : Table) → Fin (tcTables nBuf tb) → BufTy
  | .hbm, ⟨0, _⟩ => ⟨S2x2064x1024, .f32⟩
  | .hbm, ⟨1, _⟩ => ⟨S2x2064x512, .f32⟩
  | .hbm, ⟨2, _⟩ => ⟨S2x2064x512, .f32⟩
  | .hbm, ⟨3, _⟩ => ⟨S2x2048x1024, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024x1024, .bf16⟩
  | .hbm, ⟨12, _⟩ => ⟨S2816x1024, .f32⟩
  | .hbm, ⟨13, _⟩ => ⟨S2816x1024, .bf16⟩
  | .hbm, ⟨14, _⟩ => ⟨S2816x1024, .f32⟩
  | .hbm, ⟨15, _⟩ => ⟨S2816x1024, .bf16⟩
  | .hbm, ⟨16, _⟩ => ⟨S2816x1024, .bf16⟩
  | .hbm, ⟨17, _⟩ => ⟨S_, .i32⟩
  | .hbm, ⟨18, _⟩ => ⟨S_, .f32⟩
  | .hbm, ⟨19, _⟩ => ⟨S2x2176x1024, .f32⟩
  | .hbm, ⟨20, _⟩ => ⟨S4352x1024, .f32⟩
  | .hbm, ⟨21, _⟩ => ⟨S_, .i32⟩
  | .hbm, ⟨22, _⟩ => ⟨S_, .f32⟩
  | .hbm, ⟨23, _⟩ => ⟨S2x2176x512, .f32⟩
  | .hbm, ⟨24, _⟩ => ⟨S4352x512, .f32⟩
  | .hbm, ⟨25, _⟩ => ⟨S_, .i32⟩
  | .hbm, ⟨26, _⟩ => ⟨S_, .f32⟩
  | .hbm, ⟨27, _⟩ => ⟨S2x2176x512, .f32⟩
  | .hbm, ⟨28, _⟩ => ⟨S4352x512, .f32⟩
  | .hbm, ⟨29, _⟩ => ⟨S_, .i32⟩
  | .hbm, ⟨30, _⟩ => ⟨S_, .f32⟩
  | .hbm, ⟨31, _⟩ => ⟨S2x2176x1024, .f32⟩
  | .hbm, ⟨32, _⟩ => ⟨S4352x1024, .f32⟩
  | .hbm, ⟨33, _⟩ => ⟨S4352x512, .f32⟩
  | .hbm, ⟨34, _⟩ => ⟨S4352x512, .f32⟩
  | .hbm, ⟨35, _⟩ => ⟨S4352x1024, .f32⟩
  | .hbm, ⟨36, _⟩ => ⟨S4352x1024, .bf16⟩
  | .hbm, ⟨37, _⟩ => ⟨S4352x1024, .bf16⟩
  | .hbm, ⟨38, _⟩ => ⟨S4352x1024, .bf16⟩
  | .hbm, ⟨39, _⟩ => ⟨S4352x2816, .bf16⟩
  | .hbm, ⟨40, _⟩ => ⟨S4352x2816, .bf16⟩
  | .hbm, ⟨41, _⟩ => ⟨S4352x2816, .bf16⟩
  | .hbm, ⟨42, _⟩ => ⟨S4352x1024, .bf16⟩
  | .hbm, ⟨43, _⟩ => ⟨S1x1, .f32⟩
  | .hbm, ⟨44, _⟩ => ⟨S1x512, .f32⟩
  | .hbm, ⟨45, _⟩ => ⟨S1x512, .f32⟩
  | .hbm, ⟨46, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S512, .f32⟩
  | .local _ .vmem, ⟨9, _⟩ => ⟨S512, .f32⟩
  | .local _ .vmem, ⟨10, _⟩ => ⟨S1024x1024, .bf16⟩
  | .local _ .vmem, ⟨11, _⟩ => ⟨S1024, .f32⟩
  | .local _ .vmem, ⟨12, _⟩ => ⟨S2816x1024, .bf16⟩
  | .local _ .vmem, ⟨13, _⟩ => ⟨S2816x1024, .bf16⟩
  | .local _ .vmem, ⟨14, _⟩ => ⟨S2816x1024, .bf16⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x2816, .bf16⟩
  | .local _ .vmem, ⟨28, _⟩ => ⟨S256x2816, .bf16⟩
  | .local _ .vmem, ⟨29, _⟩ => ⟨S256x2816, .bf16⟩
  | .local _ .vmem, ⟨30, _⟩ => ⟨S256x2816, .bf16⟩
  | .local _ .vmem, ⟨31, _⟩ => ⟨S256x2816, .bf16⟩
  | .local _ .vmem, ⟨32, _⟩ => ⟨S256x2816, .bf16⟩
  | .local _ .vmem, ⟨33, _⟩ => ⟨S256x1024, .bf16⟩
  | .local _ .vmem, ⟨34, _⟩ => ⟨S256x1024, .bf16⟩
  | .local _ .vmem, ⟨35, _⟩ => ⟨S1x1, .f32⟩
  | .local _ .vmem, ⟨36, _⟩ => ⟨S1x512, .f32⟩
  | .local _ .vmem, ⟨37, _⟩ => ⟨S1x512, .f32⟩
  | .local _ .vmem, ⟨38, _⟩ => ⟨S1x1024, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_call1_v0 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_call2_v0 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_call3_v0 : Ref sig .tc := ⟨.hbm, 30, rfl⟩
abbrev main_v12 : Ref sig .tc := ⟨.hbm, 31, rfl⟩
abbrev main_v13 : Ref sig .tc := ⟨.hbm, 32, rfl⟩
abbrev main_v14_0 : Ref sig .tc := ⟨.hbm, 33, rfl⟩
abbrev main_v14_1 : Ref sig .tc := ⟨.hbm, 34, rfl⟩
abbrev main_v14_2 : Ref sig .tc := ⟨.hbm, 35, rfl⟩
abbrev main_v14_3 : Ref sig .tc := ⟨.hbm, 36, rfl⟩
abbrev main_v14_4 : Ref sig .tc := ⟨.hbm, 37, rfl⟩
abbrev main_v14_5 : Ref sig .tc := ⟨.hbm, 38, rfl⟩
abbrev main_v14_6 : Ref sig .tc := ⟨.hbm, 39, rfl⟩
abbrev main_v14_7 : Ref sig .tc := ⟨.hbm, 40, rfl⟩
abbrev main_v14_8 : Ref sig .tc := ⟨.hbm, 41, rfl⟩
abbrev main_v14_9 : Ref sig .tc := ⟨.hbm, 42, rfl⟩
abbrev main_v14_10 : Ref sig .tc := ⟨.hbm, 43, rfl⟩
abbrev main_v14_11 : Ref sig .tc := ⟨.hbm, 44, rfl⟩
abbrev main_v14_12 : Ref sig .tc := ⟨.hbm, 45, rfl⟩
abbrev main_v14_13 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem22_0 : DmaSem sig := 36
abbrev cc0_sem23_0 : DmaSem sig := 37
abbrev cc0_sem24_0 : DmaSem sig := 38

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2816 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2816 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== Reference2Ideal.lean ====
abbrev S2x2064x1024 : Shape := ⟨3, ![2, 2064, 1024]⟩
abbrev S2x2064x512 : Shape := ⟨3, ![2, 2064, 512]⟩
abbrev S2x2048x1024 : Shape := ⟨3, ![2, 2048, 1024]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2064x2816 : Shape := ⟨3, ![2, 2064, 2816]⟩
abbrev S2x2064 : Shape := ⟨2, ![2, 2064]⟩
abbrev S2x2064x1 : Shape := ⟨3, ![2, 2064, 1]⟩
abbrev S1x1x512 : Shape := ⟨3, ![1, 1, 512]⟩
abbrev S1x1x1024 : Shape := ⟨3, ![1, 1, 1024]⟩
abbrev S2x2048 : Shape := ⟨2, ![2, 2048]⟩
abbrev S2x2176x512 : Shape := ⟨3, ![2, 2176, 512]⟩
abbrev S4352x512 : Shape := ⟨2, ![4352, 512]⟩
abbrev S2x2176x1024 : Shape := ⟨3, ![2, 2176, 1024]⟩
abbrev S4352x1024 : Shape := ⟨2, ![4352, 1024]⟩
abbrev S2x2176x2816 : Shape := ⟨3, ![2, 2176, 2816]⟩
abbrev S4352x2816 : Shape := ⟨2, ![4352, 2816]⟩
abbrev S1x1 : Shape := ⟨2, ![1, 1]⟩
abbrev S1x512 : Shape := ⟨2, ![1, 512]⟩
abbrev S1x1024 : Shape := ⟨2, ![1, 1024]⟩

abbrev nBuf : Space → Nat
  | .hbm => 264
  | .vmem => 0
  | .smem => 0
  | _ => 0

abbrev hbmTy0_0 (i : Nat) : BufTy := match i % 128 with
  | 0 => ⟨S2x2064x1024, .f32⟩
  | 1 => ⟨S2x2064x512, .f32⟩
  | 2 => ⟨S2x2064x512, .f32⟩
  | 3 => ⟨S2x2048x1024, .f32⟩
  | 4 => ⟨S512, .f32⟩
  | 5 => ⟨S512, .f32⟩
  | 6 => ⟨S1024x1024, .f32⟩
  | 7 => ⟨S1024, .f32⟩
  | 8 => ⟨S1024x2816, .f32⟩
  | 9 => ⟨S1024x2816, .f32⟩
  | 10 => ⟨S2816x1024, .f32⟩
  | 11 => ⟨S_, .f32⟩
  | 12 => ⟨S2x2064x2816, .f32⟩
  | 13 => ⟨S_, .f32⟩
  | 14 => ⟨S2x2064x1024, .f32⟩
  | 15 => ⟨S2x2064x512, .f32⟩
  | 16 => ⟨S_, .f32⟩
  | 17 => ⟨S2x2064, .f32⟩
  | 18 => ⟨S2x2064x1, .f32⟩
  | 19 => ⟨S_, .f32⟩
  | 20 => ⟨S2x2064x1, .f32⟩
  | 21 => ⟨S2x2064x1, .f32⟩
  | 22 => ⟨S_, .f32⟩
  | 23 => ⟨S2x2064x1, .f32⟩
  | 24 => ⟨S2x2064x1, .f32⟩
  | 25 => ⟨S2x2064x1, .f32⟩
  | 26 => ⟨S2x2064x1, .f32⟩
  | 27 => ⟨S_, .f32⟩
  | 28 => ⟨S2x2064x1, .f32⟩
  | 29 => ⟨S2x2064x1, .f32⟩
  | 30 => ⟨S2x2064x512, .f32⟩
  | 31 => ⟨S2x2064x512, .f32⟩
  | 32 => ⟨S1x1x512, .f32⟩
  | 33 => ⟨S2x2064x512, .f32⟩
  | 34 => ⟨S2x2064x512, .f32⟩
  | 35 => ⟨S2x2064x512, .f32⟩
  | 36 => ⟨S_, .f32⟩
  | 37 => ⟨S2x2064, .f32⟩
  | 38 => ⟨S2x2064x1, .f32⟩
  | 39 => ⟨S_, .f32⟩
  | 40 => ⟨S2x2064x1, .f32⟩
  | 41 => ⟨S2x2064x1, .f32⟩
  | 42 => ⟨S_, .f32⟩
  | 43 => ⟨S2x2064x1, .f32⟩
  | 44 => ⟨S2x2064x1, .f32⟩
  | 45 => ⟨S2x2064x1, .f32⟩
  | 46 => ⟨S2x2064x1, .f32⟩
  | 47 => ⟨S_, .f32⟩
  | 48 => ⟨S2x2064x1, .f32⟩
  | 49 => ⟨S2x2064x1, .f32⟩
  | 50 => ⟨S2x2064x512, .f32⟩
  | 51 => ⟨S2x2064x512, .f32⟩
  | 52 => ⟨S1x1x512, .f32⟩
  | 53 => ⟨S2x2064x512, .f32⟩
  | 54 => ⟨S2x2064x512, .f32⟩
  | 55 => ⟨S2x2064x1024, .f32⟩
  | 56 => ⟨S2x2064x1024, .f32⟩
  | 57 => ⟨S2x2064x1024, .f32⟩
  | 58 => ⟨S2x2064x1024, .f32⟩
  | 59 => ⟨S_, .f32⟩
  | 60 => ⟨S2x2064, .f32⟩
  | 61 => ⟨S2x2064x1, .f32⟩
  | 62 => ⟨S_, .f32⟩
  | 63 => ⟨S2x2064x1, .f32⟩
  | 64 => ⟨S2x2064x1, .f32⟩
  | 65 => ⟨S_, .f32⟩
  | 66 => ⟨S2x2064x1, .f32⟩
  | 67 => ⟨S2x2064x1, .f32⟩
  | 68 => ⟨S2x2064x1, .f32⟩
  | 69 => ⟨S2x2064x1, .f32⟩
  | 70 => ⟨S_, .f32⟩
  | 71 => ⟨S2x2064x1, .f32⟩
  | 72 => ⟨S2x2064x1, .f32⟩
  | 73 => ⟨S2x2064x1024, .f32⟩
  | 74 => ⟨S2x2064x1024, .f32⟩
  | 75 => ⟨S1x1x1024, .f32⟩
  | 76 => ⟨S2x2064x1024, .f32⟩
  | 77 => ⟨S2x2064x1024, .f32⟩
  | 78 => ⟨S2x2064x2816, .f32⟩
  | 79 => ⟨S2x2064x2816, .f32⟩
  | 80 => ⟨S2x2064x2816, .f32⟩
  | 81 => ⟨S2x2064x2816, .f32⟩
  | 82 => ⟨S2x2064x2816, .f32⟩
  | 83 => ⟨S2x2064x2816, .f32⟩
  | 84 => ⟨S_, .f32⟩
  | 85 => ⟨S2x2064x2816, .f32⟩
  | 86 => ⟨S2x2064x2816, .f32⟩
  | 87 => ⟨S_, .f32⟩
  | 88 => ⟨S2x2064x2816, .f32⟩
  | 89 => ⟨S2x2064x2816, .f32⟩
  | 90 => ⟨S_, .f32⟩
  | 91 => ⟨S2x2064x2816, .f32⟩
  | 92 => ⟨S2x2064x2816, .f32⟩
  | 93 => ⟨S2x2064x2816, .f32⟩
  | 94 => ⟨S2x2064x2816, .f32⟩
  | 95 => ⟨S2x2064x2816, .f32⟩
  | 96 => ⟨S2x2064x1024, .f32⟩
  | 97 => ⟨S2x2064x1024, .f32⟩
  | 98 => ⟨S2x2064x1024, .f32⟩
  | 99 => ⟨S2x2048x1024, .f32⟩
  | 100 => ⟨S2x2048x1024, .f32⟩
  | 101 => ⟨S2x2048x1024, .f32⟩
  | 102 => ⟨S_, .f32⟩
  | 103 => ⟨S2x2048, .f32⟩
  | 104 => ⟨S_, .f32⟩
  | 105 => ⟨S2x2048, .f32⟩
  | 106 => ⟨S2x2048, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S2x2048, .f32⟩
  | 115 => ⟨S_, .f32⟩
  | 116 => ⟨S2x2048, .f32⟩
  | 117 => ⟨S2x2048, .f32⟩
  | 118 => ⟨S2x2048x1024, .f32⟩
  | 119 => ⟨S2x2048x1024, .f32⟩
  | 120 => ⟨S2x2048x1024, .f32⟩
  | 121 => ⟨S2x2048x1024, .f32⟩
  | 122 => ⟨S_, .f32⟩
  | 123 => ⟨S2x2064x1024, .f32⟩
  | 124 => ⟨S2x2064x2816, .f32⟩
  | 125 => ⟨S2x2064x2816, .f32⟩
  | 126 => ⟨S2x2064x2816, .f32⟩
  | 127 => ⟨S2x2064x2816, .f32⟩
  | _ => ⟨S2x2064x1024, .f32⟩

abbrev hbmTy0_1 (i : Nat) : BufTy := match i % 128 with
  | 0 => ⟨S2x2064x2816, .f32⟩
  | 1 => ⟨S2x2064x2816, .f32⟩
  | 2 => ⟨S2x2064x2816, .f32⟩
  | 3 => ⟨S2x2064x1024, .f32⟩
  | 4 => ⟨S2x2064x1024, .f32⟩
  | 5 => ⟨S2x2064x1024, .f32⟩
  | 6 => ⟨S2x2064x1024, .f32⟩
  | 7 => ⟨S_, .f32⟩
  | 8 => ⟨S1024, .f32⟩
  | 9 => ⟨S1x1x1024, .f32⟩
  | 10 => ⟨S2x2064x1024, .f32⟩
  | 11 => ⟨S2x2064x1024, .f32⟩
  | 12 => ⟨S_, .f32⟩
  | 13 => ⟨S1024, .f32⟩
  | 14 => ⟨S2x2064x1024, .f32⟩
  | 15 => ⟨S_, .f32⟩
  | 16 => ⟨S2x2064, .f32⟩
  | 17 => ⟨S2x2064x1, .f32⟩
  | 18 => ⟨S2x2064x1024, .f32⟩
  | 19 => ⟨S2x2064x1024, .f32⟩
  | 20 => ⟨S2x2064x1024, .f32⟩
  | 21 => ⟨S2x2064x1, .f32⟩
  | 22 => ⟨S_, .f32⟩
  | 23 => ⟨S2x2064x1, .f32⟩
  | 24 => ⟨S2x2064x1, .f32⟩
  | 25 => ⟨S_, .f32⟩
  | 26 => ⟨S2x2064, .f32⟩
  | 27 => ⟨S2x2064x1024, .f32⟩
  | 28 => ⟨S2x2064x1024, .f32⟩
  | 29 => ⟨S2x2064x1024, .f32⟩
  | 30 => ⟨S2x2064x1024, .f32⟩
  | 31 => ⟨S2x2064x1024, .f32⟩
  | 32 => ⟨S2x2064x1024, .f32⟩
  | 33 => ⟨S2x2064x512, .f32⟩
  | 34 => ⟨S2x2064x512, .f32⟩
  | 35 => ⟨S2x2064x512, .f32⟩
  | 36 => ⟨S_, .f32⟩
  | 37 => ⟨S512, .f32⟩
  | 38 => ⟨S1x1x512, .f32⟩
  | 39 => ⟨S2x2064x512, .f32⟩
  | 40 => ⟨S2x2064x512, .f32⟩
  | 41 => ⟨S_, .f32⟩
  | 42 => ⟨S512, .f32⟩
  | 43 => ⟨S2x2064x512, .f32⟩
  | 44 => ⟨S_, .f32⟩
  | 45 => ⟨S2x2064, .f32⟩
  | 46 => ⟨S2x2064x1, .f32⟩
  | 47 => ⟨S2x2064x512, .f32⟩
  | 48 => ⟨S2x2064x512, .f32⟩
  | 49 => ⟨S2x2064x1, .f32⟩
  | 50 => ⟨S_, .f32⟩
  | 51 => ⟨S2x2064x1, .f32⟩
  | 52 => ⟨S2x2064x1, .f32⟩
  | 53 => ⟨S_, .f32⟩
  | 54 => ⟨S2x2064, .f32⟩
  | 55 => ⟨S2x2064x512, .f32⟩
  | 56 => ⟨S2x2064x512, .f32⟩
  | 57 => ⟨S2x2064x512, .f32⟩
  | 58 => ⟨S2x2064x512, .f32⟩
  | 59 => ⟨S2x2064x512, .f32⟩
  | 60 => ⟨S2x2064x512, .f32⟩
  | 61 => ⟨S_, .f32⟩
  | 62 => ⟨S512, .f32⟩
  | 63 => ⟨S1x1x512, .f32⟩
  | 64 => ⟨S2x2064x512, .f32⟩
  | 65 => ⟨S2x2064x512, .f32⟩
  | 66 => ⟨S_, .f32⟩
  | 67 => ⟨S512, .f32⟩
  | 68 => ⟨S2x2064x512, .f32⟩
  | 69 => ⟨S_, .f32⟩
  | 70 => ⟨S2x2064, .f32⟩
  | 71 => ⟨S2x2064x1, .f32⟩
  | 72 => ⟨S2x2064x512, .f32⟩
  | 73 => ⟨S2x2064x512, .f32⟩
  | 74 => ⟨S2x2064x1, .f32⟩
  | 75 => ⟨S_, .f32⟩
  | 76 => ⟨S2x2064x1, .f32⟩
  | 77 => ⟨S2x2064x1, .f32⟩
  | 78 => ⟨S_, .f32⟩
  | 79 => ⟨S2x2064, .f32⟩
  | 80 => ⟨S2x2064x512, .f32⟩
  | 81 => ⟨S2x2064x512, .f32⟩
  | 82 => ⟨S2x2064x512, .f32⟩
  | 83 => ⟨S2x2064x512, .f32⟩
  | 84 => ⟨S2x2064x512, .f32⟩
  | 85 => ⟨S_, .i32⟩
  | 86 => ⟨S_, .f32⟩
  | 87 => ⟨S2x2176x512, .f32⟩
  | 88 => ⟨S4352x512, .f32⟩
  | 89 => ⟨S_, .i32⟩
  | 90 => ⟨S_, .f32⟩
  | 91 => ⟨S2x2176x512, .f32⟩
  | 92 => ⟨S4352x512, .f32⟩
  | 93 => ⟨S_, .i32⟩
  | 94 => ⟨S_, .f32⟩
  | 95 => ⟨S2x2176x1024, .f32⟩
  | 96 => ⟨S4352x1024, .f32⟩
  | 97 => ⟨S_, .i32⟩
  | 98 => ⟨S_, .f32⟩
  | 99 => ⟨S2x2176x1024, .f32⟩
  | 100 => ⟨S4352x1024, .f32⟩
  | 101 => ⟨S4352x1024, .bf16⟩
  | 102 => ⟨S_, .i32⟩
  | 103 => ⟨S_, .f32⟩
  | 104 => ⟨S2x2176x1024, .f32⟩
  | 105 => ⟨S4352x1024, .f32⟩
  | 106 => ⟨S4352x1024, .bf16⟩
  | 107 => ⟨S_, .i32⟩
  | 108 => ⟨S_, .f32⟩
  | 109 => ⟨S2x2176x1024, .f32⟩
  | 110 => ⟨S4352x1024, .f32⟩
  | 111 => ⟨S4352x1024, .bf16⟩
  | 112 => ⟨S_, .i32⟩
  | 113 => ⟨S_, .f32⟩
  | 114 => ⟨S2x2176x2816, .f32⟩
  | 115 => ⟨S4352x2816, .f32⟩
  | 116 => ⟨S4352x2816, .bf16⟩
  | 117 => ⟨S_, .i32⟩
  | 118 => ⟨S_, .f32⟩
  | 119 => ⟨S2x2176x2816, .f32⟩
  | 120 => ⟨S4352x2816, .f32⟩
  | 121 => ⟨S4352x2816, .bf16⟩
  | 122 => ⟨S_, .i32⟩
  | 123 => ⟨S_, .f32⟩
  | 124 => ⟨S2x2176x2816, .f32⟩
  | 125 => ⟨S4352x2816, .f32⟩
  | 126 => ⟨S4352x2816, .bf16⟩
  | 127 => ⟨S_, .i32⟩
  | _ => ⟨S2x2064x1024, .f32⟩

abbrev hbmTy0_2 (i : Nat) : BufTy := match i % 128 with
  | 0 => ⟨S_, .f32⟩
  | 1 => ⟨S2x2176x1024, .f32⟩
  | 2 => ⟨S4352x1024, .f32⟩
  | 3 => ⟨S4352x1024, .bf16⟩
  | 4 => ⟨S1x1, .f32⟩
  | 5 => ⟨S1x512, .f32⟩
  | 6 => ⟨S1x512, .f32⟩
  | 7 => ⟨S1x1024, .f32⟩
  | _ => ⟨S2x2064x1024, .f32⟩

abbrev hbmTy (i : Nat) : BufTy := match i / 128 with
  | 0 => hbmTy0_0 i
  | 1 => hbmTy0_1 i
  | 2 => hbmTy0_2 i
  | _ => ⟨S2x2064x1024, .f32⟩

abbrev bufTy : (tb : Table) → Fin (tcTables nBuf tb) → BufTy
  | .hbm, ⟨i, _⟩ => hbmTy i
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_cst_3 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_v22 : Ref sig .tc := ⟨.hbm, 41, rfl⟩
abbrev main_cst_7 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_cst_11 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_12 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_v57_2 : Ref sig .tc := ⟨.hbm, 89, rfl⟩
abbrev main_call0_cst_1 : Ref sig .tc := ⟨.hbm, 90, rfl⟩
abbrev main_call0_v6 : Ref sig .tc := ⟨.hbm, 91, rfl⟩
abbrev main_call0_v7 : Ref sig .tc := ⟨.hbm, 92, rfl⟩
abbrev main_v57_1 : Ref sig .tc := ⟨.hbm, 93, rfl⟩
abbrev main_v57_0 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_13 : Ref sig .tc := ⟨.hbm, 102, rfl⟩
abbrev main_v65 : Ref sig .tc := ⟨.hbm, 103, rfl⟩
abbrev main_cst_14 : Ref sig .tc := ⟨.hbm, 104, rfl⟩
abbrev main_v66 : Ref sig .tc := ⟨.hbm, 105, rfl⟩
abbrev main_v67 : Ref sig .tc := ⟨.hbm, 106, rfl⟩
abbrev main_cst_15 : Ref sig .tc := ⟨.hbm, 107, rfl⟩
abbrev main_v68 : Ref sig .tc := ⟨.hbm, 108, rfl⟩
abbrev main_cst_16 : Ref sig .tc := ⟨.hbm, 109, rfl⟩
abbrev main_v69 : Ref sig .tc := ⟨.hbm, 110, rfl⟩
abbrev main_cst_17 : Ref sig .tc := ⟨.hbm, 111, rfl⟩
abbrev main_cst_18 : Ref sig .tc := ⟨.hbm, 112, rfl⟩
abbrev main_v70 : Ref sig .tc := ⟨.hbm, 113, rfl⟩
abbrev main_v71 : Ref sig .tc := ⟨.hbm, 114, rfl⟩
abbrev main_cst_19 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_20 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_21 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_22 : Ref sig .tc := ⟨.hbm, 140, rfl⟩
abbrev main_v91 : Ref sig .tc := ⟨.hbm, 141, rfl⟩
abbrev main_v92 : Ref sig .tc := ⟨.hbm, 142, rfl⟩
abbrev main_cst_23 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_24 : Ref sig .tc := ⟨.hbm, 150, rfl⟩
abbrev main_v99 : Ref sig .tc := ⟨.hbm, 151, rfl⟩
abbrev main_v100 : Ref sig .tc := ⟨.hbm, 152, rfl⟩
abbrev main_cst_25 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_cst_26 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_cst_27 : Ref sig .tc := ⟨.hbm, 169, rfl⟩
abbrev main_v115 : Ref sig .tc := ⟨.hbm, 170, rfl⟩
abbrev main_v116 : Ref sig .tc := ⟨.hbm, 171, rfl⟩
abbrev main_cst_28 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_cst_29 : Ref sig .tc := ⟨.hbm, 178, rfl⟩
abbrev main_v122 : Ref sig .tc := ⟨.hbm, 179, rfl⟩
abbrev main_v123 : Ref sig .tc := ⟨.hbm, 180, rfl⟩
abbrev main_cst_30 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_cst_31 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_cst_32 : Ref sig .tc := ⟨.hbm, 194, rfl⟩
abbrev main_v135 : Ref sig .tc := ⟨.hbm, 195, rfl⟩
abbrev main_v136 : Ref sig .tc := ⟨.hbm, 196, rfl⟩
abbrev main_cst_33 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_cst_34 : Ref sig .tc := ⟨.hbm, 203, rfl⟩
abbrev main_v142 : Ref sig .tc := ⟨.hbm, 204, rfl⟩
abbrev main_v143 : Ref sig .tc := ⟨.hbm, 205, rfl⟩
abbrev main_cst_35 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_c : Ref sig .tc := ⟨.hbm, 213, rfl⟩
abbrev main_call2_v0 : Ref sig .tc := ⟨.hbm, 214, rfl⟩
abbrev main_v150 : Ref sig .tc := ⟨.hbm, 215, rfl⟩
abbrev main_v151 : Ref sig .tc := ⟨.hbm, 216, rfl⟩
abbrev main_c_36 : Ref sig .tc := ⟨.hbm, 217, rfl⟩
abbrev main_call3_v0 : Ref sig .tc := ⟨.hbm, 218, rfl⟩
abbrev main_v152 : Ref sig .tc := ⟨.hbm, 219, rfl⟩
abbrev main_v153 : Ref sig .tc := ⟨.hbm, 220, rfl⟩
abbrev main_c_37 : Ref sig .tc := ⟨.hbm, 221, rfl⟩
abbrev main_call4_v0 : Ref sig .tc := ⟨.hbm, 222, rfl⟩
abbrev main_v154 : Ref sig .tc := ⟨.hbm, 223, rfl⟩
abbrev main_v155 : Ref sig .tc := ⟨.hbm, 224, rfl⟩
abbrev main_c_38 : Ref sig .tc := ⟨.hbm, 225, rfl⟩
abbrev main_call5_v0 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_c_39 : Ref sig .tc := ⟨.hbm, 230, rfl⟩
abbrev main_call6_v0 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_c_40 : Ref sig .tc := ⟨.hbm, 235, rfl⟩
abbrev main_call7_v0 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_c_41 : Ref sig .tc := ⟨.hbm, 240, rfl⟩
abbrev main_call8_v0 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_c_42 : Ref sig .tc := ⟨.hbm, 245, rfl⟩
abbrev main_call9_v0 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_c_43 : Ref sig .tc := ⟨.hbm, 250, rfl⟩
abbrev main_call10_v0 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_c_44 : Ref sig .tc := ⟨.hbm, 255, rfl⟩
abbrev main_call11_v0 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩

abbrev nD : Nat := 1
abbrev τ : Topo := Topo.v7x

variable {F : FTy → Type} [FloatOps F]
-- ==== Kernel3.lean ====
abbrev S2x2064x384 : Shape := ⟨3, ![2, 2064, 384]⟩
abbrev S2x2064x256 : Shape := ⟨3, ![2, 2064, 256]⟩
abbrev S2x2064x32 : Shape := ⟨3, ![2, 2064, 32]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S96 : Shape := ⟨1, ![96]⟩
abbrev S2x2064x8x96 : Shape := ⟨4, ![2, 2064, 8, 96]⟩
abbrev S768x384 : Shape := ⟨2, ![768, 384]⟩
abbrev S1024x256 : Shape := ⟨2, ![1024, 256]⟩
abbrev S8x96x384 : Shape := ⟨3, ![8, 96, 384]⟩
abbrev S_ : Shape := ⟨0, ![]⟩
abbrev S8x128x384 : Shape := ⟨3, ![8, 128, 384]⟩
abbrev S8x128x256 : Shape := ⟨3, ![8, 128, 256]⟩
abbrev S8x64x256 : Shape := ⟨3, ![8, 64, 256]⟩
abbrev S1024x384 : Shape := ⟨2, ![1024, 384]⟩
abbrev S128 : Shape := ⟨1, ![128]⟩
abbrev S16 : Shape := ⟨1, ![16]⟩
abbrev S2176 : Shape := ⟨1, ![2176]⟩
abbrev S2176x1 : Shape := ⟨2, ![2176, 1]⟩
abbrev S1x16 : Shape := ⟨2, ![1, 16]⟩
abbrev S2176x16 : Shape := ⟨2, ![2176, 16]⟩
abbrev S2176x64 : Shape := ⟨2, ![2176, 64]⟩
abbrev S2176x32 : Shape := ⟨2, ![2176, 32]⟩
abbrev S2176x128 : Shape := ⟨2, ![2176, 128]⟩
abbrev S1x2176x1x128 : Shape := ⟨4, ![1, 2176, 1, 128]⟩
abbrev S2x2176x1x128 : Shape := ⟨4, ![2, 2176, 1, 128]⟩
abbrev S4352x128 : Shape := ⟨2, ![4352, 128]⟩
abbrev S2x2064x128 : Shape := ⟨3, ![2, 2064, 128]⟩
abbrev S2x2064x768 : Shape := ⟨3, ![2, 2064, 768]⟩
abbrev S2x2176x768 : Shape := ⟨3, ![2, 2176, 768]⟩
abbrev S4352x768 : Shape := ⟨2, ![4352, 768]⟩
abbrev S2x2064x8x128 : Shape := ⟨4, ![2, 2064, 8, 128]⟩
abbrev S2x2064x1024 : Shape := ⟨3, ![2, 2064, 1024]⟩
abbrev S2x2176x1024 : Shape := ⟨3, ![2, 2176, 1024]⟩
abbrev S4352x1024 : Shape := ⟨2, ![4352, 1024]⟩
abbrev S4352x384 : Shape := ⟨2, ![4352, 384]⟩
abbrev S4352x256 : Shape := ⟨2, ![4352, 256]⟩
abbrev S1x128 : Shape := ⟨2, ![1, 128]⟩
abbrev S256x768 : Shape := ⟨2, ![256, 768]⟩
abbrev S256x128 : Shape := ⟨2, ![256, 128]⟩
abbrev S256x384 : Shape := ⟨2, ![256, 384]⟩
abbrev S256x256 : Shape := ⟨2, ![256, 256]⟩
abbrev S256x1 : Shape := ⟨2, ![256, 1]⟩
abbrev S1x384 : Shape := ⟨2, ![1, 384]⟩
abbrev S1x256 : Shape := ⟨2, ![1, 256]⟩

abbrev nBuf : Space → Nat
  | .hbm => 99
  | .vmem => 28
  | .smem => 0
  | _ => 0

abbrev bufTy : (tb : Table) → Fin (tcTables nBuf tb) → BufTy
  | .hbm, ⟨0, _⟩ => ⟨S2x2064x384, .f32⟩
  | .hbm, ⟨1, _⟩ => ⟨S2x2064x256, .f32⟩
  | .hbm, ⟨2, _⟩ => ⟨S2x2064x32, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S96, .f32⟩
  | .hbm, ⟨8, _⟩ => ⟨S96, .f32⟩
  | .hbm, ⟨9, _⟩ => ⟨S2x2064x8x96, .f32⟩
  | .hbm, ⟨10, _⟩ => ⟨S2x2064x8x96, .f32⟩
  | .hbm, ⟨11, _⟩ => ⟨S768x384, .f32⟩
  | .hbm, ⟨12, _⟩ => ⟨S1024x256, .f32⟩
  | .hbm, ⟨13, _⟩ => ⟨S8x96x384, .f32⟩
  | .hbm, ⟨14, _⟩ => ⟨S_, .i32⟩
  | .hbm, ⟨15, _⟩ => ⟨S_, .f32⟩
  | .hbm, ⟨16, _⟩ => ⟨S8x128x384, .f32⟩
  | .hbm, ⟨17, _⟩ => ⟨S8x128x256, .f32⟩
  | .hbm, ⟨18, _⟩ => ⟨S8x64x256, .f32⟩
  | .hbm, ⟨19, _⟩ => ⟨S_, .i32⟩
  | .hbm, ⟨20, _⟩ => ⟨S_, .f32⟩
  | .hbm, ⟨21, _⟩ => ⟨S8x128x256, .f32⟩
  | .hbm, ⟨22, _⟩ => ⟨S8x128x384, .bf16⟩
  | .hbm, ⟨23, _⟩ => ⟨S1024x384, .bf16⟩
  | .hbm, ⟨24, _⟩ => ⟨S8x128x256, .bf16⟩
  | .hbm, ⟨25, _⟩ => ⟨S1024x256, .bf16⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S_, .i32⟩
  | .hbm, ⟨30, _⟩ => ⟨S_, .f32⟩
  | .hbm, ⟨31, _⟩ => ⟨S128, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S2176, .f32⟩
  | .hbm, ⟨43, _⟩ => ⟨S2176x1, .f32⟩
  | .hbm, ⟨44, _⟩ => ⟨S1x16, .f32⟩
  | .hbm, ⟨45, _⟩ => ⟨S2176x16, .f32⟩
  | .hbm, ⟨46, _⟩ => ⟨S2176x16, .f32⟩
  | .hbm, ⟨47, _⟩ => ⟨S2176x16, .f32⟩
  | .hbm, ⟨48, _⟩ => ⟨S_, .f32⟩
  | .hbm, ⟨49, _⟩ => ⟨S2176x64, .f32⟩
  | .hbm, ⟨50, _⟩ => ⟨S_, .f32⟩
  | .hbm, ⟨51, _⟩ => ⟨S2176x64, .f32⟩
  | .hbm, ⟨52, _⟩ => ⟨S_, .f32⟩
  | .hbm, ⟨53, _⟩ => ⟨S2176x32, .f32⟩
  | .hbm, ⟨54, _⟩ => ⟨S_, .f32⟩
  | .hbm, ⟨55, _⟩ => ⟨S2176x32, .f32⟩
  | .hbm, ⟨56, _⟩ => ⟨S2176x16, .f32⟩
  | .hbm, ⟨57, _⟩ => ⟨S2176x16, .f32⟩
  | .hbm, ⟨58, _⟩ => ⟨S2176x128, .f32⟩
  | .hbm, ⟨59, _⟩ => ⟨S2176x16, .f32⟩
  | .hbm, ⟨60, _⟩ => ⟨S2176x16, .f32⟩
  | .hbm, ⟨61, _⟩ => ⟨S2176x128, .f32⟩
  | .hbm, ⟨62, _⟩ => ⟨S1x2176x1x128, .f32⟩
  | .hbm, ⟨63, _⟩ => ⟨S2x2176x1x128, .f32⟩
  | .hbm, ⟨64, _⟩ => ⟨S4352x128, .f32⟩
  | .hbm, ⟨65, _⟩ => ⟨S1x2176x1x128, .f32⟩
  | .hbm, ⟨66, _⟩ => ⟨S2x2176x1x128, .f32⟩
  | .hbm, ⟨67, _⟩ => ⟨S4352x128, .f32⟩
  | .hbm, ⟨68, _⟩ => ⟨S_, .i32⟩
  | .hbm, ⟨69, _⟩ => ⟨S_, .f32⟩
  | .hbm, ⟨70, _⟩ => ⟨S2x2064x128, .f32⟩
  | .hbm, ⟨71, _⟩ => ⟨S2x2064x768, .f32⟩
  | .hbm, ⟨72, _⟩ => ⟨S_, .i32⟩
  | .hbm, ⟨73, _⟩ => ⟨S_, .f32⟩
  | .hbm, ⟨74, _⟩ => ⟨S2x2176x768, .f32⟩
  | .hbm, ⟨75, _⟩ => ⟨S4352x768, .f32⟩
  | .hbm, ⟨76, _⟩ => ⟨S_, .i32⟩
  | .hbm, ⟨77, _⟩ => ⟨S_, .f32⟩
  | .hbm, ⟨78, _⟩ => ⟨S2x2064x8x128, .f32⟩
  | .hbm, ⟨79, _⟩ => ⟨S2x2064x1024, .f32⟩
  | .hbm, ⟨80, _⟩ => ⟨S_, .i32⟩
  | .hbm, ⟨81, _⟩ => ⟨S_, .f32⟩
  | .hbm, ⟨82, _⟩ => ⟨S2x2176x1024, .f32⟩
  | .hbm, ⟨83, _⟩ => ⟨S4352x1024, .f32⟩
  | .hbm, ⟨84, _⟩ => ⟨S_, .i32⟩
  | .hbm, ⟨85, _⟩ => ⟨S_, .f32⟩
  | .hbm, ⟨86, _⟩ => ⟨S2x2064x8x128, .f32⟩
  | .hbm, ⟨87, _⟩ => ⟨S2x2064x1024, .f32⟩
  | .hbm, ⟨88, _⟩ => ⟨S_, .i32⟩
  | .hbm, ⟨89, _⟩ => ⟨S_, .f32⟩
  | .hbm, ⟨90, _⟩ => ⟨S2x2176x1024, .f32⟩
  | .hbm, ⟨91, _⟩ => ⟨S4352x1024, .f32⟩
  | .hbm, ⟨92, _⟩ => ⟨S4352x384, .f32⟩
  | .hbm, ⟨93, _⟩ => ⟨S4352x256, .f32⟩
  | .hbm, ⟨94, _⟩ => ⟨S4352x128, .f32⟩
  | .hbm, ⟨95, _⟩ => ⟨S4352x1024, .bf16⟩
  | .hbm, ⟨96, _⟩ => ⟨S4352x1024, .bf16⟩
  | .hbm, ⟨97, _⟩ => ⟨S1x128, .f32⟩
  | .hbm, ⟨98, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x768, .f32⟩
  | .local _ .vmem, ⟨5, _⟩ => ⟨S256x768, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S384, .f32⟩
  | .local _ .vmem, ⟨11, _⟩ => ⟨S1024x384, .bf16⟩
  | .local _ .vmem, ⟨12, _⟩ => ⟨S256, .f32⟩
  | .local _ .vmem, ⟨13, _⟩ => ⟨S1024x256, .bf16⟩
  | .local _ .vmem, ⟨14, _⟩ => ⟨S128, .f32⟩
  | .local _ .vmem, ⟨15, _⟩ => ⟨S128, .f32⟩
  | .local _ .vmem, ⟨16, _⟩ => ⟨S256x384, .f32⟩
  | .local _ .vmem, ⟨17, _⟩ => ⟨S256x384, .f32⟩
  | .local _ .vmem, ⟨18, _⟩ => ⟨S256x256, .f32⟩
  | .local _ .vmem, ⟨19, _⟩ => ⟨S256x256, .f32⟩
  | .local _ .vmem, ⟨20, _⟩ => ⟨S256x128, .f32⟩
  | .local _ .vmem, ⟨21, _⟩ => ⟨S256x128, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S1x128, .f32⟩
  | .local _ .vmem, ⟨27, _⟩ => ⟨S1x128, .f32⟩
  | _, _ => ⟨S2x2064x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_call1_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_call2_v0 : Ref sig .tc := ⟨.hbm, 27, rfl⟩
abbrev main_v11 : Ref sig .tc := ⟨.hbm, 28, rfl⟩
abbrev main_c_2 : Ref sig .tc := ⟨.hbm, 29, rfl⟩
abbrev main_call3_v0 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_cst_7 : Ref sig .tc := ⟨.hbm, 52, rfl⟩
abbrev main_v28 : Ref sig .tc := ⟨.hbm, 53, rfl⟩
abbrev main_cst_8 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_9 : Ref sig .tc := ⟨.hbm, 68, rfl⟩
abbrev main_call4_v0 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_call5_v0 : Ref sig .tc := ⟨.hbm, 73, rfl⟩
abbrev main_v44 : Ref sig .tc := ⟨.hbm, 74, rfl⟩
abbrev main_v45 : Ref sig .tc := ⟨.hbm, 75, rfl⟩
abbrev main_c_11 : Ref sig .tc := ⟨.hbm, 76, rfl⟩
abbrev main_call6_v0 : Ref sig .tc := ⟨.hbm, 77, rfl⟩
abbrev main_v46 : Ref sig .tc := ⟨.hbm, 78, rfl⟩
abbrev main_v47 : Ref sig .tc := ⟨.hbm, 79, rfl⟩
abbrev main_c_12 : Ref sig .tc := ⟨.hbm, 80, rfl⟩
abbrev main_call7_v0 : Ref sig .tc := ⟨.hbm, 81, rfl⟩
abbrev main_v48 : Ref sig .tc := ⟨.hbm, 82, rfl⟩
abbrev main_v49 : Ref sig .tc := ⟨.hbm, 83, rfl⟩
abbrev main_c_13 : Ref sig .tc := ⟨.hbm, 84, rfl⟩
abbrev main_call8_v0 : Ref sig .tc := ⟨.hbm, 85, rfl⟩
abbrev main_v50 : Ref sig .tc := ⟨.hbm, 86, rfl⟩
abbrev main_v51 : Ref sig .tc := ⟨.hbm, 87, rfl⟩
abbrev main_c_14 : Ref sig .tc := ⟨.hbm, 88, rfl⟩
abbrev main_call9_v0 : Ref sig .tc := ⟨.hbm, 89, rfl⟩
abbrev main_v52 : Ref sig .tc := ⟨.hbm, 90, rfl⟩
abbrev main_v53 : Ref sig .tc := ⟨.hbm, 91, rfl⟩
abbrev main_v54_0 : Ref sig .tc := ⟨.hbm, 92, rfl⟩
abbrev main_v54_1 : Ref sig .tc := ⟨.hbm, 93, rfl⟩
abbrev main_v54_2 : Ref sig .tc := ⟨.hbm, 94, rfl⟩
abbrev main_v54_3 : Ref sig .tc := ⟨.hbm, 95, rfl⟩
abbrev main_v54_4 : Ref sig .tc := ⟨.hbm, 96, rfl⟩
abbrev main_v54_5 : Ref sig .tc := ⟨.hbm, 97, rfl⟩
abbrev main_v54_6 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Kernel3Ideal.lean ====
variable {F : FTy → Type} [FloatOps F] [Named F]
def κ : String → Option EReal := fun
  | "inv_384" => some ((1 / 384 : ℝ) : EReal)
  | "inv_96" => some ((1 / 96 : ℝ) : EReal)
  | _ => none
-- ==== Reference3Ideal.lean ====
abbrev S2x2064x384 : Shape := ⟨3, ![2, 2064, 384]⟩
abbrev S2x2064x256 : Shape := ⟨3, ![2, 2064, 256]⟩
abbrev S2x2064x32 : Shape := ⟨3, ![2, 2064, 32]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S96 : Shape := ⟨1, ![96]⟩
abbrev S2x2064x8x96 : Shape := ⟨4, ![2, 2064, 8, 96]⟩
abbrev S_ : Shape := ⟨0, ![]⟩
abbrev S2x2064 : Shape := ⟨2, ![2, 2064]⟩
abbrev S2x2064x1 : Shape := ⟨3, ![2, 2064, 1]⟩
abbrev S1x1x384 : Shape := ⟨3, ![1, 1, 384]⟩
abbrev S1x1x256 : Shape := ⟨3, ![1, 1, 256]⟩
abbrev S2x2064x768 : Shape := ⟨3, ![2, 2064, 768]⟩
abbrev S2x2064x1024 : Shape := ⟨3, ![2, 2064, 1024]⟩
abbrev S2x2064x8x128 : Shape := ⟨4, ![2, 2064, 8, 128]⟩
abbrev S2x2064x8x64 : Shape := ⟨4, ![2, 2064, 8, 64]⟩
abbrev S2x2064x1x32 : Shape := ⟨4, ![2, 2064, 1, 32]⟩
abbrev S2x2064x8x32 : Shape := ⟨4, ![2, 2064, 8, 32]⟩
abbrev S2x2064x8 : Shape := ⟨3, ![2, 2064, 8]⟩
abbrev S2x2064x8x1 : Shape := ⟨4, ![2, 2064, 8, 1]⟩
abbrev S1x1x1x96 : Shape := ⟨4, ![1, 1, 1, 96]⟩
abbrev S2064 : Shape := ⟨1, ![2064]⟩
abbrev S16 : Shape := ⟨1, ![16]⟩
abbrev S2064x1 : Shape := ⟨2, ![2064, 1]⟩
abbrev S1x16 : Shape := ⟨2, ![1, 16]⟩
abbrev S2064x16 : Shape := ⟨2, ![2064, 16]⟩
abbrev S1x2064x1x16 : Shape := ⟨4, ![1, 2064, 1, 16]⟩
abbrev S2x2064x8x16 : Shape := ⟨4, ![2, 2064, 8, 16]⟩
abbrev S2x2176x384 : Shape := ⟨3, ![2, 2176, 384]⟩
abbrev S4352x384 : Shape := ⟨2, ![4352, 384]⟩
abbrev S2x2176x256 : Shape := ⟨3, ![2, 2176, 256]⟩
abbrev S4352x256 : Shape := ⟨2, ![4352, 256]⟩
abbrev S2x2064x128 : Shape := ⟨3, ![2, 2064, 128]⟩
abbrev S2x2176x128 : Shape := ⟨3, ![2, 2176, 128]⟩
abbrev S4352x128 : Shape := ⟨2, ![4352, 128]⟩
abbrev S2x2176x1024 : Shape := ⟨3, ![2, 2176, 1024]⟩
abbrev S4352x1024 : Shape := ⟨2, ![4352, 1024]⟩
abbrev S1x96 : Shape := ⟨2, ![1, 96]⟩
abbrev S1x128 : Shape := ⟨2, ![1, 128]⟩

abbrev nBuf : Space → Nat
  | .hbm => 320
  | .vmem => 0
  | .smem => 0
  | _ => 0

abbrev hbmTy0_0 (i : Nat) : BufTy := match i % 128 with
  | 0 => ⟨S2x2064x384, .f32⟩
  | 1 => ⟨S2x2064x256, .f32⟩
  | 2 => ⟨S2x2064x32, .f32⟩
  | 3 => ⟨S384, .f32⟩
  | 4 => ⟨S384x768, .f32⟩
  | 5 => ⟨S256, .f32⟩
  | 6 => ⟨S256x1024, .f32⟩
  | 7 => ⟨S96, .f32⟩
  | 8 => ⟨S96, .f32⟩
  | 9 => ⟨S2x2064x8x96, .f32⟩
  | 10 => ⟨S2x2064x8x96, .f32⟩
  | 11 => ⟨S2x2064x384, .f32⟩
  | 12 => ⟨S_, .f32⟩
  | 13 => ⟨S2x2064, .f32⟩
  | 14 => ⟨S2x2064x1, .f32⟩
  | 15 => ⟨S_, .f32⟩
  | 16 => ⟨S2x2064x1, .f32⟩
  | 17 => ⟨S2x2064x1, .f32⟩
  | 18 => ⟨S_, .f32⟩
  | 19 => ⟨S2x2064x1, .f32⟩
  | 20 => ⟨S2x2064x1, .f32⟩
  | 21 => ⟨S2x2064x1, .f32⟩
  | 22 => ⟨S2x2064x384, .f32⟩
  | 23 => ⟨S2x2064x384, .f32⟩
  | 24 => ⟨S1x1x384, .f32⟩
  | 25 => ⟨S2x2064x384, .f32⟩
  | 26 => ⟨S2x2064x384, .f32⟩
  | 27 => ⟨S2x2064x256, .f32⟩
  | 28 => ⟨S_, .f32⟩
  | 29 => ⟨S2x2064, .f32⟩
  | 30 => ⟨S2x2064x1, .f32⟩
  | 31 => ⟨S_, .f32⟩
  | 32 => ⟨S2x2064x1, .f32⟩
  | 33 => ⟨S2x2064x1, .f32⟩
  | 34 => ⟨S_, .f32⟩
  | 35 => ⟨S2x2064x1, .f32⟩
  | 36 => ⟨S2x2064x1, .f32⟩
  | 37 => ⟨S2x2064x1, .f32⟩
  | 38 => ⟨S2x2064x256, .f32⟩
  | 39 => ⟨S2x2064x256, .f32⟩
  | 40 => ⟨S1x1x256, .f32⟩
  | 41 => ⟨S2x2064x256, .f32⟩
  | 42 => ⟨S2x2064x256, .f32⟩
  | 43 => ⟨S_, .f32⟩
  | 44 => ⟨S2x2064x8x96, .f32⟩
  | 45 => ⟨S2x2064x768, .f32⟩
  | 46 => ⟨S2x2064x8x96, .f32⟩
  | 47 => ⟨S2x2064x8x96, .f32⟩
  | 48 => ⟨S2x2064x1024, .f32⟩
  | 49 => ⟨S2x2064x8x128, .f32⟩
  | 50 => ⟨S2x2064x8x64, .f32⟩
  | 51 => ⟨S2x2064x1x32, .f32⟩
  | 52 => ⟨S2x2064x8x32, .f32⟩
  | 53 => ⟨S2x2064x8x96, .f32⟩
  | 54 => ⟨S2x2064x8x96, .f32⟩
  | 55 => ⟨S2x2064x8x96, .f32⟩
  | 56 => ⟨S_, .f32⟩
  | 57 => ⟨S2x2064x8, .f32⟩
  | 58 => ⟨S2x2064x8x1, .f32⟩
  | 59 => ⟨S_, .f32⟩
  | 60 => ⟨S2x2064x8x1, .f32⟩
  | 61 => ⟨S2x2064x8x1, .f32⟩
  | 62 => ⟨S_, .f32⟩
  | 63 => ⟨S2x2064x8x1, .f32⟩
  | 64 => ⟨S2x2064x8x1, .f32⟩
  | 65 => ⟨S2x2064x8x1, .f32⟩
  | 66 => ⟨S2x2064x8x1, .f32⟩
  | 67 => ⟨S_, .f32⟩
  | 68 => ⟨S2x2064x8x1, .f32⟩
  | 69 => ⟨S2x2064x8x1, .f32⟩
  | 70 => ⟨S2x2064x8x96, .f32⟩
  | 71 => ⟨S2x2064x8x96, .f32⟩
  | 72 => ⟨S1x1x1x96, .f32⟩
  | 73 => ⟨S2x2064x8x96, .f32⟩
  | 74 => ⟨S2x2064x8x96, .f32⟩
  | 75 => ⟨S2x2064x8x96, .f32⟩
  | 76 => ⟨S_, .f32⟩
  | 77 => ⟨S2x2064x8, .f32⟩
  | 78 => ⟨S2x2064x8x1, .f32⟩
  | 79 => ⟨S_, .f32⟩
  | 80 => ⟨S2x2064x8x1, .f32⟩
  | 81 => ⟨S2x2064x8x1, .f32⟩
  | 82 => ⟨S_, .f32⟩
  | 83 => ⟨S2x2064x8x1, .f32⟩
  | 84 => ⟨S2x2064x8x1, .f32⟩
  | 85 => ⟨S2x2064x8x1, .f32⟩
  | 86 => ⟨S2x2064x8x1, .f32⟩
  | 87 => ⟨S_, .f32⟩
  | 88 => ⟨S2x2064x8x1, .f32⟩
  | 89 => ⟨S2x2064x8x1, .f32⟩
  | 90 => ⟨S2x2064x8x96, .f32⟩
  | 91 => ⟨S2x2064x8x96, .f32⟩
  | 92 => ⟨S1x1x1x96, .f32⟩
  | 93 => ⟨S2x2064x8x96, .f32⟩
  | 94 => ⟨S2x2064x8x96, .f32⟩
  | 95 => ⟨S2064, .f32⟩
  | 96 => ⟨S2x2064x8x64, .f32⟩
  | 97 => ⟨S2x2064x8x32, .f32⟩
  | 98 => ⟨S16, .f32⟩
  | 99 => ⟨S_, .f32⟩
  | 100 => ⟨S16, .f32⟩
  | 101 => ⟨S16, .f32⟩
  | 102 => ⟨S_, .f32⟩
  | 103 => ⟨S16, .f32⟩
  | 104 => ⟨S16, .f32⟩
  | 105 => ⟨S_, .f32⟩
  | 106 => ⟨S16, .f32⟩
  | 107 => ⟨S16, .f32⟩
  | 108 => ⟨S2064x1, .f32⟩
  | 109 => ⟨S1x16, .f32⟩
  | 110 => ⟨S2064x16, .f32⟩
  | 111 => ⟨S2064x16, .f32⟩
  | 112 => ⟨S2064x16, .f32⟩
  | 113 => ⟨S2064x16, .f32⟩
  | 114 => ⟨S1x2064x1x16, .f32⟩
  | 115 => ⟨S2064x16, .f32⟩
  | 116 => ⟨S1x2064x1x16, .f32⟩
  | 117 => ⟨S2x2064x8x16, .f32⟩
  | 118 => ⟨S2x2064x8x16, .f32⟩
  | 119 => ⟨S2x2064x8x16, .f32⟩
  | 120 => ⟨S2x2064x8x16, .f32⟩
  | 121 => ⟨S2x2064x8x16, .f32⟩
  | 122 => ⟨S2x2064x8x16, .f32⟩
  | 123 => ⟨S2x2064x8x16, .f32⟩
  | 124 => ⟨S2x2064x8x16, .f32⟩
  | 125 => ⟨S2x2064x8x16, .f32⟩
  | 126 => ⟨S2x2064x8x16, .f32⟩
  | 127 => ⟨S2x2064x8x16, .f32⟩
  | _ => ⟨S2x2064x384, .f32⟩

abbrev hbmTy0_1 (i : Nat) : BufTy := match i % 128 with
  | 0 => ⟨S2x2064x8x16, .f32⟩
  | 1 => ⟨S2x2064x8x32, .f32⟩
  | 2 => ⟨S2x2064x8x96, .f32⟩
  | 3 => ⟨S2x2064x8x64, .f32⟩
  | 4 => ⟨S2x2064x8x32, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S2064x1, .f32⟩
  | 16 => ⟨S1x16, .f32⟩
  | 17 => ⟨S2064x16, .f32⟩
  | 18 => ⟨S2064x16, .f32⟩
  | 19 => ⟨S2064x16, .f32⟩
  | 20 => ⟨S2064x16, .f32⟩
  | 21 => ⟨S1x2064x1x16, .f32⟩
  | 22 => ⟨S2064x16, .f32⟩
  | 23 => ⟨S1x2064x1x16, .f32⟩
  | 24 => ⟨S2x2064x8x16, .f32⟩
  | 25 => ⟨S2x2064x8x16, .f32⟩
  | 26 => ⟨S2x2064x8x16, .f32⟩
  | 27 => ⟨S2x2064x8x16, .f32⟩
  | 28 => ⟨S2x2064x8x16, .f32⟩
  | 29 => ⟨S2x2064x8x16, .f32⟩
  | 30 => ⟨S2x2064x8x16, .f32⟩
  | 31 => ⟨S2x2064x8x16, .f32⟩
  | 32 => ⟨S2x2064x8x16, .f32⟩
  | 33 => ⟨S2x2064x8x16, .f32⟩
  | 34 => ⟨S2x2064x8x16, .f32⟩
  | 35 => ⟨S2x2064x8x16, .f32⟩
  | 36 => ⟨S2x2064x8x32, .f32⟩
  | 37 => ⟨S2x2064x8x96, .f32⟩
  | 38 => ⟨S2x2064x8x64, .f32⟩
  | 39 => ⟨S2x2064x8x32, .f32⟩
  | 40 => ⟨S2x2064x8x16, .f32⟩
  | 41 => ⟨S2x2064x8x16, .f32⟩
  | 42 => ⟨S2x2064x8x16, .f32⟩
  | 43 => ⟨S2x2064x8x16, .f32⟩
  | 44 => ⟨S2x2064x8x16, .f32⟩
  | 45 => ⟨S2x2064x8x16, .f32⟩
  | 46 => ⟨S2x2064x8x16, .f32⟩
  | 47 => ⟨S2x2064x8x16, .f32⟩
  | 48 => ⟨S2x2064x8x16, .f32⟩
  | 49 => ⟨S2x2064x8x16, .f32⟩
  | 50 => ⟨S2x2064x8x16, .f32⟩
  | 51 => ⟨S2x2064x8x16, .f32⟩
  | 52 => ⟨S2x2064x8x16, .f32⟩
  | 53 => ⟨S_, .f32⟩
  | 54 => ⟨S2x2064x8x32, .f32⟩
  | 55 => ⟨S_, .f32⟩
  | 56 => ⟨S2x2064x8x32, .f32⟩
  | 57 => ⟨S2x2064x8x32, .f32⟩
  | 58 => ⟨S_, .f32⟩
  | 59 => ⟨S2x2064x8x96, .f32⟩
  | 60 => ⟨S_, .f32⟩
  | 61 => ⟨S2x2064x8x96, .f32⟩
  | 62 => ⟨S2x2064x8x96, .f32⟩
  | 63 => ⟨S2x2064x8x64, .f32⟩
  | 64 => ⟨S2x2064x8x32, .f32⟩
  | 65 => ⟨S2x2064x8x16, .f32⟩
  | 66 => ⟨S2x2064x8x16, .f32⟩
  | 67 => ⟨S2x2064x8x16, .f32⟩
  | 68 => ⟨S2x2064x8x16, .f32⟩
  | 69 => ⟨S2x2064x8x16, .f32⟩
  | 70 => ⟨S2x2064x8x16, .f32⟩
  | 71 => ⟨S2x2064x8x16, .f32⟩
  | 72 => ⟨S2x2064x8x16, .f32⟩
  | 73 => ⟨S2x2064x8x16, .f32⟩
  | 74 => ⟨S2x2064x8x16, .f32⟩
  | 75 => ⟨S2x2064x8x16, .f32⟩
  | 76 => ⟨S2x2064x8x16, .f32⟩
  | 77 => ⟨S2x2064x8x16, .f32⟩
  | 78 => ⟨S_, .f32⟩
  | 79 => ⟨S2x2064x8x32, .f32⟩
  | 80 => ⟨S_, .f32⟩
  | 81 => ⟨S2x2064x8x32, .f32⟩
  | 82 => ⟨S2x2064x8x32, .f32⟩
  | 83 => ⟨S_, .f32⟩
  | 84 => ⟨S2x2064x8x96, .f32⟩
  | 85 => ⟨S_, .f32⟩
  | 86 => ⟨S2x2064x8x96, .f32⟩
  | 87 => ⟨S2x2064x8x96, .f32⟩
  | 88 => ⟨S2x2064x8x96, .f32⟩
  | 89 => ⟨S_, .f32⟩
  | 90 => ⟨S96, .f32⟩
  | 91 => ⟨S1x1x1x96, .f32⟩
  | 92 => ⟨S2x2064x8x96, .f32⟩
  | 93 => ⟨S2x2064x8x96, .f32⟩
  | 94 => ⟨S_, .f32⟩
  | 95 => ⟨S96, .f32⟩
  | 96 => ⟨S2x2064x8x96, .f32⟩
  | 97 => ⟨S_, .f32⟩
  | 98 => ⟨S2x2064x8, .f32⟩
  | 99 => ⟨S2x2064x8x1, .f32⟩
  | 100 => ⟨S2x2064x8x96, .f32⟩
  | 101 => ⟨S2x2064x8x96, .f32⟩
  | 102 => ⟨S2x2064x8x1, .f32⟩
  | 103 => ⟨S_, .f32⟩
  | 104 => ⟨S2x2064x8x1, .f32⟩
  | 105 => ⟨S2x2064x8x1, .f32⟩
  | 106 => ⟨S_, .f32⟩
  | 107 => ⟨S2x2064x8, .f32⟩
  | 108 => ⟨S2x2064x8x96, .f32⟩
  | 109 => ⟨S2x2064x8x96, .f32⟩
  | 110 => ⟨S2x2064x8x96, .f32⟩
  | 111 => ⟨S2x2064x8x96, .f32⟩
  | 112 => ⟨S2x2064x8x96, .f32⟩
  | 113 => ⟨S2x2064x8x96, .f32⟩
  | 114 => ⟨S_, .f32⟩
  | 115 => ⟨S96, .f32⟩
  | 116 => ⟨S1x1x1x96, .f32⟩
  | 117 => ⟨S2x2064x8x96, .f32⟩
  | 118 => ⟨S2x2064x8x96, .f32⟩
  | 119 => ⟨S_, .f32⟩
  | 120 => ⟨S96, .f32⟩
  | 121 => ⟨S2x2064x8x96, .f32⟩
  | 122 => ⟨S_, .f32⟩
  | 123 => ⟨S2x2064x8, .f32⟩
  | 124 => ⟨S2x2064x8x1, .f32⟩
  | 125 => ⟨S2x2064x8x96, .f32⟩
  | 126 => ⟨S2x2064x8x96, .f32⟩
  | 127 => ⟨S2x2064x8x1, .f32⟩
  | _ => ⟨S2x2064x384, .f32⟩

abbrev hbmTy0_2 (i : Nat) : BufTy := match i % 128 with
  | 0 => ⟨S_, .f32⟩
  | 1 => ⟨S2x2064x8x1, .f32⟩
  | 2 => ⟨S2x2064x8x1, .f32⟩
  | 3 => ⟨S_, .f32⟩
  | 4 => ⟨S2x2064x8, .f32⟩
  | 5 => ⟨S2x2064x8x96, .f32⟩
  | 6 => ⟨S2x2064x8x96, .f32⟩
  | 7 => ⟨S2x2064x8x96, .f32⟩
  | 8 => ⟨S2x2064x8x96, .f32⟩
  | 9 => ⟨S2x2064x8x96, .f32⟩
  | 10 => ⟨S2x2064x8x64, .f32⟩
  | 11 => ⟨S2x2064x8x32, .f32⟩
  | 12 => ⟨S_, .f32⟩
  | 13 => ⟨S2x2064x32, .f32⟩
  | 14 => ⟨S2x2064x1x32, .f32⟩
  | 15 => ⟨S_, .f32⟩
  | 16 => ⟨S2x2064x32, .f32⟩
  | 17 => ⟨S_, .f32⟩
  | 18 => ⟨S2x2064x8x128, .f32⟩
  | 19 => ⟨S2x2064x1024, .f32⟩
  | 20 => ⟨S2x2064x256, .f32⟩
  | 21 => ⟨S2x2064x768, .f32⟩
  | 22 => ⟨S2x2064x384, .f32⟩
  | 23 => ⟨S_, .i32⟩
  | 24 => ⟨S_, .f32⟩
  | 25 => ⟨S2x2176x384, .f32⟩
  | 26 => ⟨S4352x384, .f32⟩
  | 27 => ⟨S_, .i32⟩
  | 28 => ⟨S_, .f32⟩
  | 29 => ⟨S2x2176x256, .f32⟩
  | 30 => ⟨S4352x256, .f32⟩
  | 31 => ⟨S_, .i32⟩
  | 32 => ⟨S_, .f32⟩
  | 33 => ⟨S2x2064x128, .f32⟩
  | 34 => ⟨S_, .i32⟩
  | 35 => ⟨S_, .f32⟩
  | 36 => ⟨S2x2176x128, .f32⟩
  | 37 => ⟨S4352x128, .f32⟩
  | 38 => ⟨S_, .i32⟩
  | 39 => ⟨S_, .f32⟩
  | 40 => ⟨S2x2064x8x128, .f32⟩
  | 41 => ⟨S2x2064x1024, .f32⟩
  | 42 => ⟨S_, .i32⟩
  | 43 => ⟨S_, .f32⟩
  | 44 => ⟨S2x2176x1024, .f32⟩
  | 45 => ⟨S4352x1024, .f32⟩
  | 46 => ⟨S4352x1024, .bf16⟩
  | 47 => ⟨S_, .i32⟩
  | 48 => ⟨S_, .f32⟩
  | 49 => ⟨S2x2064x8x128, .f32⟩
  | 50 => ⟨S2x2064x1024, .f32⟩
  | 51 => ⟨S_, .i32⟩
  | 52 => ⟨S_, .f32⟩
  | 53 => ⟨S2x2176x1024, .f32⟩
  | 54 => ⟨S4352x1024, .f32⟩
  | 55 => ⟨S4352x1024, .bf16⟩
  | 56 => ⟨S1x96, .f32⟩
  | 57 => ⟨S_, .i32⟩
  | 58 => ⟨S_, .f32⟩
  | 59 => ⟨S1x128, .f32⟩
  | 60 => ⟨S1x96, .f32⟩
  | 61 => ⟨S_, .i32⟩
  | 62 => ⟨S_, .f32⟩
  | 63 => ⟨S1x128, .f32⟩
  | _ => ⟨S2x2064x384, .f32⟩

abbrev hbmTy (i : Nat) : BufTy := match i / 128 with
  | 0 => hbmTy0_0 i
  | 1 => hbmTy0_1 i
  | 2 => hbmTy0_2 i
  | _ => ⟨S2x2064x384, .f32⟩

abbrev bufTy : (tb : Table) → Fin (tcTables nBuf tb) → BufTy
  | .hbm, ⟨i, _⟩ => hbmTy i
  | _, _ => ⟨S2x2064x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_cst_16 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_17 : Ref sig .tc := ⟨.hbm, 134, rfl⟩
abbrev main_v105 : Ref sig .tc := ⟨.hbm, 135, rfl⟩
abbrev main_v106 : Ref sig .tc := ⟨.hbm, 136, rfl⟩
abbrev main_cst_18 : Ref sig .tc := ⟨.hbm, 137, rfl⟩
abbrev main_v107 : Ref sig .tc := ⟨.hbm, 138, rfl⟩
abbrev main_v108 : Ref sig .tc := ⟨.hbm, 139, rfl⟩
abbrev main_cst_19 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_cst_20 : Ref sig .tc := ⟨.hbm, 181, rfl⟩
abbrev main_v149 : Ref sig .tc := ⟨.hbm, 182, rfl⟩
abbrev main_cst_21 : Ref sig .tc := ⟨.hbm, 183, rfl⟩
abbrev main_v150 : Ref sig .tc := ⟨.hbm, 184, rfl⟩
abbrev main_v151 : Ref sig .tc := ⟨.hbm, 185, rfl⟩
abbrev main_cst_22 : Ref sig .tc := ⟨.hbm, 186, rfl⟩
abbrev main_v152 : Ref sig .tc := ⟨.hbm, 187, rfl⟩
abbrev main_cst_23 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_cst_24 : Ref sig .tc := ⟨.hbm, 206, rfl⟩
abbrev main_v170 : Ref sig .tc := ⟨.hbm, 207, rfl⟩
abbrev main_cst_25 : Ref sig .tc := ⟨.hbm, 208, rfl⟩
abbrev main_v171 : Ref sig .tc := ⟨.hbm, 209, rfl⟩
abbrev main_v172 : Ref sig .tc := ⟨.hbm, 210, rfl⟩
abbrev main_cst_26 : Ref sig .tc := ⟨.hbm, 211, rfl⟩
abbrev main_v173 : Ref sig .tc := ⟨.hbm, 212, rfl⟩
abbrev main_cst_27 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_cst_28 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_cst_29 : Ref sig .tc := ⟨.hbm, 222, rfl⟩
abbrev main_v181 : Ref sig .tc := ⟨.hbm, 223, rfl⟩
abbrev main_v182 : Ref sig .tc := ⟨.hbm, 224, rfl⟩
abbrev main_cst_30 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_cst_31 : Ref sig .tc := ⟨.hbm, 231, rfl⟩
abbrev main_v188 : Ref sig .tc := ⟨.hbm, 232, rfl⟩
abbrev main_v189 : Ref sig .tc := ⟨.hbm, 233, rfl⟩
abbrev main_cst_32 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_cst_33 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_cst_34 : Ref sig .tc := ⟨.hbm, 247, rfl⟩
abbrev main_v201 : Ref sig .tc := ⟨.hbm, 248, rfl⟩
abbrev main_v202 : Ref sig .tc := ⟨.hbm, 249, rfl⟩
abbrev main_cst_35 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_cst_36 : Ref sig .tc := ⟨.hbm, 256, rfl⟩
abbrev main_v208 : Ref sig .tc := ⟨.hbm, 257, rfl⟩
abbrev main_v209 : Ref sig .tc := ⟨.hbm, 258, rfl⟩
abbrev main_cst_37 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_cst_38 : Ref sig .tc := ⟨.hbm, 268, rfl⟩
abbrev main_v218 : Ref sig .tc := ⟨.hbm, 269, rfl⟩
abbrev main_v219 : Ref sig .tc := ⟨.hbm, 270, rfl⟩
abbrev main_cst_39 : Ref sig .tc := ⟨.hbm, 271, rfl⟩
abbrev main_v220 : Ref sig .tc := ⟨.hbm, 272, rfl⟩
abbrev main_cst_40 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_c : Ref sig .tc := ⟨.hbm, 279, rfl⟩
abbrev main_call0_v0 : Ref sig .tc := ⟨.hbm, 280, rfl⟩
abbrev main_v226 : Ref sig .tc := ⟨.hbm, 281, rfl⟩
abbrev main_v227 : Ref sig .tc := ⟨.hbm, 282, rfl⟩
abbrev main_c_41 : Ref sig .tc := ⟨.hbm, 283, rfl⟩
abbrev main_call1_v0 : Ref sig .tc := ⟨.hbm, 284, rfl⟩
abbrev main_v228 : Ref sig .tc := ⟨.hbm, 285, rfl⟩
abbrev main_v229 : Ref sig .tc := ⟨.hbm, 286, rfl⟩
abbrev main_c_42 : Ref sig .tc := ⟨.hbm, 287, rfl⟩
abbrev main_call2_v0 : Ref sig .tc := ⟨.hbm, 288, rfl⟩
abbrev main_v230 : Ref sig .tc := ⟨.hbm, 289, rfl⟩
abbrev main_c_43 : Ref sig .tc := ⟨.hbm, 290, rfl⟩
abbrev main_call3_v0 : Ref sig .tc := ⟨.hbm, 291, rfl⟩
abbrev main_v231 : Ref sig .tc := ⟨.hbm, 292, rfl⟩
abbrev main_v232 : Ref sig .tc := ⟨.hbm, 293, rfl⟩
abbrev main_c_44 : Ref sig .tc := ⟨.hbm, 294, rfl⟩
abbrev main_call4_v0 : Ref sig .tc := ⟨.hbm, 295, rfl⟩
abbrev main_v233 : Ref sig .tc := ⟨.hbm, 296, rfl⟩
abbrev main_v234 : Ref sig .tc := ⟨.hbm, 297, rfl⟩
abbrev main_c_45 : Ref sig .tc := ⟨.hbm, 298, rfl⟩
abbrev main_call5_v0 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_c_46 : Ref sig .tc := ⟨.hbm, 303, rfl⟩
abbrev main_call6_v0 : Ref sig .tc := ⟨.hbm, 304, rfl⟩
abbrev main_v238 : Ref sig .tc := ⟨.hbm, 305, rfl⟩
abbrev main_v239 : Ref sig .tc := ⟨.hbm, 306, rfl⟩
abbrev main_c_47 : Ref sig .tc := ⟨.hbm, 307, rfl⟩
abbrev main_call7_v0 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_c_48 : Ref sig .tc := ⟨.hbm, 313, rfl⟩
abbrev main_call8_v0 : Ref sig .tc := ⟨.hbm, 314, rfl⟩
abbrev main_v244 : Ref sig .tc := ⟨.hbm, 315, rfl⟩
abbrev main_v245 : Ref sig .tc := ⟨.hbm, 316, rfl⟩
abbrev main_c_49 : Ref sig .tc := ⟨.hbm, 317, rfl⟩
abbrev main_call9_v0 : Ref sig .tc := ⟨.hbm, 318, rfl⟩
abbrev main_v246 : Ref sig .tc := ⟨.hbm, 319, rfl⟩

abbrev nD : Nat := 1
abbrev τ : Topo := Topo.v7x

variable {F : FTy → Type} [FloatOps F]
-- ==== Kernel4.lean ====
abbrev S2x2064x1024 : Shape := ⟨3, ![2, 2064, 1024]⟩
abbrev S1024 : Shape := ⟨1, ![1024]⟩
abbrev S1024x1696 : Shape := ⟨2, ![1024, 1696]⟩
abbrev S2x2064x384 : Shape := ⟨3, ![2, 2064, 384]⟩
abbrev S2x2064x256 : Shape := ⟨3, ![2, 2064, 256]⟩
abbrev S2x2064x32 : Shape := ⟨3, ![2, 2064, 32]⟩
abbrev S2x2064x512 : Shape := ⟨3, ![2, 2064, 512]⟩
abbrev S1696x1024 : Shape := ⟨2, ![1696, 1024]⟩
abbrev S32x1024 : Shape := ⟨2, ![32, 1024]⟩
abbrev S640x1024 : Shape := ⟨2, ![640, 1024]⟩
abbrev S_ : Shape := ⟨0, ![]⟩
abbrev S64x1024 : Shape := ⟨2, ![64, 1024]⟩
abbrev S1024x1024 : Shape := ⟨2, ![1024, 1024]⟩
abbrev S1792x1024 : Shape := ⟨2, ![1792, 1024]⟩
abbrev S2x2176x384 : Shape := ⟨3, ![2, 2176, 384]⟩
abbrev S4352x384 : Shape := ⟨2, ![4352, 384]⟩
abbrev S2x2176x256 : Shape := ⟨3, ![2, 2176, 256]⟩
abbrev S4352x256 : Shape := ⟨2, ![4352, 256]⟩
abbrev S2x2064x128 : Shape := ⟨3, ![2, 2064, 128]⟩
abbrev S2x2176x128 : Shape := ⟨3, ![2, 2176, 128]⟩
abbrev S4352x128 : Shape := ⟨2, ![4352, 128]⟩
abbrev S2x2176x512 : Shape := ⟨3, ![2, 2176, 512]⟩
abbrev S4352x512 : Shape := ⟨2, ![4352, 512]⟩
abbrev S2x2176x1024 : Shape := ⟨3, ![2, 2176, 1024]⟩
abbrev S4352x1024 : Shape := ⟨2, ![4352, 1024]⟩
abbrev S4352x1792 : Shape := ⟨2, ![4352, 1792]⟩
abbrev S1x1024 : Shape := ⟨2, ![1, 1024]⟩
abbrev S256x384 : Shape := ⟨2, ![256, 384]⟩
abbrev S256x256 : Shape := ⟨2, ![256, 256]⟩
abbrev S256x128 : Shape := ⟨2, ![256, 128]⟩
abbrev S256x512 : Shape := ⟨2, ![256, 512]⟩
abbrev S256x1024 : Shape := ⟨2, ![256, 1024]⟩
abbrev S256x1792 : Shape := ⟨2, ![256, 1792]⟩
abbrev S256 : Shape := ⟨1, ![256]⟩
abbrev S256x1 : Shape := ⟨2, ![256, 1]⟩

abbrev nBuf : Space → Nat
  | .hbm => 54
  | .vmem => 23
  | .smem => 0
  | _ => 0

abbrev bufTy : (tb : Table) → Fin (tcTables nBuf tb) → BufTy
  | .hbm, ⟨0, _⟩ => ⟨S2x2064x1024, .f32⟩
  | .hbm, ⟨1, _⟩ => ⟨S1024, .f32⟩
  | .hbm, ⟨2, _⟩ => ⟨S1024x1696, .f32⟩
  | .hbm, ⟨3, _⟩ => ⟨S2x2064x384, .f32⟩
  | .hbm, ⟨4, _⟩ => ⟨S2x2064x256, .f32⟩
  | .hbm, ⟨5, _⟩ => ⟨S2x2064x32, .f32⟩
  | .hbm, ⟨6, _⟩ => ⟨S2x2064x512, .f32⟩
  | .hbm, ⟨7, _⟩ => ⟨S2x2064x512, .f32⟩
  | .hbm, ⟨8, _⟩ => ⟨S2x2064x1024, .f32⟩
  | .hbm, ⟨9, _⟩ => ⟨S1696x1024, .f32⟩
  | .hbm, ⟨10, _⟩ => ⟨S32x1024, .f32⟩
  | .hbm, ⟨11, _⟩ => ⟨S640x1024, .f32⟩
  | .hbm, ⟨12, _⟩ => ⟨S_, .f32⟩
  | .hbm, ⟨13, _⟩ => ⟨S64x1024, .f32⟩
  | .hbm, ⟨14, _⟩ => ⟨S_, .f32⟩
  | .hbm, ⟨15, _⟩ => ⟨S32x1024, .f32⟩
  | .hbm, ⟨16, _⟩ => ⟨S1024x1024, .f32⟩
  | .hbm, ⟨17, _⟩ => ⟨S1792x1024, .f32⟩
  | .hbm, ⟨18, _⟩ => ⟨S1792x1024, .bf16⟩
  | .hbm, ⟨19, _⟩ => ⟨S_, .i32⟩
  | .hbm, ⟨20, _⟩ => ⟨S_, .f32⟩
  | .hbm, ⟨21, _⟩ => ⟨S2x2176x384, .f32⟩
  | .hbm, ⟨22, _⟩ => ⟨S4352x384, .f32⟩
  | .hbm, ⟨23, _⟩ => ⟨S_, .i32⟩
  | .hbm, ⟨24, _⟩ => ⟨S_, .f32⟩
  | .hbm, ⟨25, _⟩ => ⟨S2x2176x256, .f32⟩
  | .hbm, ⟨26, _⟩ => ⟨S4352x256, .f32⟩
  | .hbm, ⟨27, _⟩ => ⟨S_, .i32⟩
  | .hbm, ⟨28, _⟩ => ⟨S_, .f32⟩
  | .hbm, ⟨29, _⟩ => ⟨S2x2064x128, .f32⟩
  | .hbm, ⟨30, _⟩ => ⟨S_, .i32⟩
  | .hbm, ⟨31, _⟩ => ⟨S_, .f32⟩
  | .hbm, ⟨32, _⟩ => ⟨S2x2176x128, .f32⟩
  | .hbm, ⟨33, _⟩ => ⟨S4352x128, .f32⟩
  | .hbm, ⟨34, _⟩ => ⟨S_, .i32⟩
  | .hbm, ⟨35, _⟩ => ⟨S_, .f32⟩
  | .hbm, ⟨36, _⟩ => ⟨S2x2176x512, .f32⟩
  | .hbm, ⟨37, _⟩ => ⟨S4352x512, .f32⟩
  | .hbm, ⟨38, _⟩ => ⟨S_, .i32⟩
  | .hbm, ⟨39, _⟩ => ⟨S_, .f32⟩
  | .hbm, ⟨40, _⟩ => ⟨S2x2176x512, .f32⟩
  | .hbm, ⟨41, _⟩ => ⟨S4352x512, .f32⟩
  | .hbm, ⟨42, _⟩ => ⟨S_, .i32⟩
  | .hbm, ⟨43, _⟩ => ⟨S_, .f32⟩
  | .hbm, ⟨44, _⟩ => ⟨S2x2176x1024, .f32⟩
  | .hbm, ⟨45, _⟩ => ⟨S4352x1024, .f32⟩
  | .hbm, ⟨46, _⟩ => ⟨S_, .i32⟩
  | .hbm, ⟨47, _⟩ => ⟨S_, .f32⟩
  | .hbm, ⟨48, _⟩ => ⟨S2x2176x1024, .f32⟩
  | .hbm, ⟨49, _⟩ => ⟨S4352x1024, .f32⟩
  | .hbm, ⟨50, _⟩ => ⟨S4352x1024, .f32⟩
  | .hbm, ⟨51, _⟩ => ⟨S4352x1792, .bf16⟩
  | .hbm, ⟨52, _⟩ => ⟨S4352x1024, .bf16⟩
  | .hbm, ⟨53, _⟩ => ⟨S1x1024, .f32⟩
  | .local _ .vmem, ⟨0, _⟩ => ⟨S256x384, .f32⟩
  | .local _ .vmem, ⟨1, _⟩ => ⟨S256x384, .f32⟩
  | .local _ .vmem, ⟨2, _⟩ => ⟨S256x256, .f32⟩
  | .local _ .vmem, ⟨3, _⟩ => ⟨S256x256, .f32⟩
  | .local _ .vmem, ⟨4, _⟩ => ⟨S256x128, .f32⟩
  | .local _ .vmem, ⟨5, _⟩ => ⟨S256x128, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1024, .f32⟩
  | .local _ .vmem, ⟨15, _⟩ => ⟨S1792x1024, .bf16⟩
  | .local _ .vmem, ⟨16, _⟩ => ⟨S256x1024, .f32⟩
  | .local _ .vmem, ⟨17, _⟩ => ⟨S256x1024, .f32⟩
  | .local _ .vmem, ⟨18, _⟩ => ⟨S256x1792, .bf16⟩
  | .local _ .vmem, ⟨19, _⟩ => ⟨S256x1792, .bf16⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_call1_v0 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_call2_v0 : Ref sig .tc := ⟨.hbm, 28, rfl⟩
abbrev main_v12 : Ref sig .tc := ⟨.hbm, 29, rfl⟩
abbrev main_c_3 : Ref sig .tc := ⟨.hbm, 30, rfl⟩
abbrev main_call3_v0 : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_call4_v0 : Ref sig .tc := ⟨.hbm, 35, rfl⟩
abbrev main_v15 : Ref sig .tc := ⟨.hbm, 36, rfl⟩
abbrev main_v16 : Ref sig .tc := ⟨.hbm, 37, rfl⟩
abbrev main_c_5 : Ref sig .tc := ⟨.hbm, 38, rfl⟩
abbrev main_call5_v0 : Ref sig .tc := ⟨.hbm, 39, rfl⟩
abbrev main_v17 : Ref sig .tc := ⟨.hbm, 40, rfl⟩
abbrev main_v18 : Ref sig .tc := ⟨.hbm, 41, rfl⟩
abbrev main_c_6 : Ref sig .tc := ⟨.hbm, 42, rfl⟩
abbrev main_call6_v0 : Ref sig .tc := ⟨.hbm, 43, rfl⟩
abbrev main_v19 : Ref sig .tc := ⟨.hbm, 44, rfl⟩
abbrev main_v20 : Ref sig .tc := ⟨.hbm, 45, rfl⟩
abbrev main_c_7 : Ref sig .tc := ⟨.hbm, 46, rfl⟩
abbrev main_call7_v0 : Ref sig .tc := ⟨.hbm, 47, rfl⟩
abbrev main_v21 : Ref sig .tc := ⟨.hbm, 48, rfl⟩
abbrev main_v22 : Ref sig .tc := ⟨.hbm, 49, rfl⟩
abbrev main_v23_0 : Ref sig .tc := ⟨.hbm, 50, rfl⟩
abbrev main_v23_1 : Ref sig .tc := ⟨.hbm, 51, rfl⟩
abbrev main_v23_2 : Ref sig .tc := ⟨.hbm, 52, rfl⟩
abbrev main_v23_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1792x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1792 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S2x2064x1024 : Shape := ⟨3, ![2, 2064, 1024]⟩
abbrev S1024 : Shape := ⟨1, ![1024]⟩
abbrev S1024x1696 : Shape := ⟨2, ![1024, 1696]⟩
abbrev S2x2064x384 : Shape := ⟨3, ![2, 2064, 384]⟩
abbrev S2x2064x256 : Shape := ⟨3, ![2, 2064, 256]⟩
abbrev S2x2064x32 : Shape := ⟨3, ![2, 2064, 32]⟩
abbrev S2x2064x512 : Shape := ⟨3, ![2, 2064, 512]⟩
abbrev S_ : Shape := ⟨0, ![]⟩
abbrev S2x2064 : Shape := ⟨2, ![2, 2064]⟩
abbrev S2x2064x1 : Shape := ⟨3, ![2, 2064, 1]⟩
abbrev S1x1x1024 : Shape := ⟨3, ![1, 1, 1024]⟩
abbrev S2x2064x1696 : Shape := ⟨3, ![2, 2064, 1696]⟩
abbrev S2x2064x128 : Shape := ⟨3, ![2, 2064, 128]⟩
abbrev S2x2064x1792 : Shape := ⟨3, ![2, 2064, 1792]⟩
abbrev S2x2176x1024 : Shape := ⟨3, ![2, 2176, 1024]⟩
abbrev S4352x1024 : Shape := ⟨2, ![4352, 1024]⟩
abbrev S2x2176x1792 : Shape := ⟨3, ![2, 2176, 1792]⟩
abbrev S4352x1792 : Shape := ⟨2, ![4352, 1792]⟩
abbrev S1x1024 : Shape := ⟨2, ![1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S2x2064x1024, .f32⟩
  | .hbm, ⟨1, _⟩ => ⟨S1024, .f32⟩
  | .hbm, ⟨2, _⟩ => ⟨S1024x1696, .f32⟩
  | .hbm, ⟨3, _⟩ => ⟨S2x2064x384, .f32⟩
  | .hbm, ⟨4, _⟩ => ⟨S2x2064x256, .f32⟩
  | .hbm, ⟨5, _⟩ => ⟨S2x2064x32, .f32⟩
  | .hbm, ⟨6, _⟩ => ⟨S2x2064x512, .f32⟩
  | .hbm, ⟨7, _⟩ => ⟨S2x2064x512, .f32⟩
  | .hbm, ⟨8, _⟩ => ⟨S2x2064x1024, .f32⟩
  | .hbm, ⟨9, _⟩ => ⟨S2x2064x1024, .f32⟩
  | .hbm, ⟨10, _⟩ => ⟨S_, .f32⟩
  | .hbm, ⟨11, _⟩ => ⟨S2x2064, .f32⟩
  | .hbm, ⟨12, _⟩ => ⟨S2x2064x1, .f32⟩
  | .hbm, ⟨13, _⟩ => ⟨S_, .f32⟩
  | .hbm, ⟨14, _⟩ => ⟨S2x2064x1, .f32⟩
  | .hbm, ⟨15, _⟩ => ⟨S2x2064x1, .f32⟩
  | .hbm, ⟨16, _⟩ => ⟨S_, .f32⟩
  | .hbm, ⟨17, _⟩ => ⟨S2x2064x1, .f32⟩
  | .hbm, ⟨18, _⟩ => ⟨S2x2064x1, .f32⟩
  | .hbm, ⟨19, _⟩ => ⟨S2x2064x1, .f32⟩
  | .hbm, ⟨20, _⟩ => ⟨S2x2064x1, .f32⟩
  | .hbm, ⟨21, _⟩ => ⟨S_, .f32⟩
  | .hbm, ⟨22, _⟩ => ⟨S2x2064x1, .f32⟩
  | .hbm, ⟨23, _⟩ => ⟨S2x2064x1, .f32⟩
  | .hbm, ⟨24, _⟩ => ⟨S2x2064x1024, .f32⟩
  | .hbm, ⟨25, _⟩ => ⟨S2x2064x1024, .f32⟩
  | .hbm, ⟨26, _⟩ => ⟨S1x1x1024, .f32⟩
  | .hbm, ⟨27, _⟩ => ⟨S2x2064x1024, .f32⟩
  | .hbm, ⟨28, _⟩ => ⟨S2x2064x1024, .f32⟩
  | .hbm, ⟨29, _⟩ => ⟨S2x2064x1696, .f32⟩
  | .hbm, ⟨30, _⟩ => ⟨S2x2064x1696, .f32⟩
  | .hbm, ⟨31, _⟩ => ⟨S2x2064x1024, .f32⟩
  | .hbm, ⟨32, _⟩ => ⟨S2x2064x1024, .f32⟩
  | .hbm, ⟨33, _⟩ => ⟨S_, .f32⟩
  | .hbm, ⟨34, _⟩ => ⟨S1024, .f32⟩
  | .hbm, ⟨35, _⟩ => ⟨S1x1x1024, .f32⟩
  | .hbm, ⟨36, _⟩ => ⟨S2x2064x1024, .f32⟩
  | .hbm, ⟨37, _⟩ => ⟨S2x2064x1024, .f32⟩
  | .hbm, ⟨38, _⟩ => ⟨S_, .f32⟩
  | .hbm, ⟨39, _⟩ => ⟨S1024, .f32⟩
  | .hbm, ⟨40, _⟩ => ⟨S2x2064x1024, .f32⟩
  | .hbm, ⟨41, _⟩ => ⟨S_, .f32⟩
  | .hbm, ⟨42, _⟩ => ⟨S2x2064, .f32⟩
  | .hbm, ⟨43, _⟩ => ⟨S2x2064x1, .f32⟩
  | .hbm, ⟨44, _⟩ => ⟨S2x2064x1024, .f32⟩
  | .hbm, ⟨45, _⟩ => ⟨S2x2064x1024, .f32⟩
  | .hbm, ⟨46, _⟩ => ⟨S2x2064x1024, .f32⟩
  | .hbm, ⟨47, _⟩ => ⟨S2x2064x1, .f32⟩
  | .hbm, ⟨48, _⟩ => ⟨S_, .f32⟩
  | .hbm, ⟨49, _⟩ => ⟨S2x2064x1, .f32⟩
  | .hbm, ⟨50, _⟩ => ⟨S2x2064x1, .f32⟩
  | .hbm, ⟨51, _⟩ => ⟨S_, .f32⟩
  | .hbm, ⟨52, _⟩ => ⟨S2x2064, .f32⟩
  | .hbm, ⟨53, _⟩ => ⟨S2x2064x1024, .f32⟩
  | .hbm, ⟨54, _⟩ => ⟨S2x2064x1024, .f32⟩
  | .hbm, ⟨55, _⟩ => ⟨S2x2064x1024, .f32⟩
  | .hbm, ⟨56, _⟩ => ⟨S2x2064x1024, .f32⟩
  | .hbm, ⟨57, _⟩ => ⟨S2x2064x1024, .f32⟩
  | .hbm, ⟨58, _⟩ => ⟨S_, .i32⟩
  | .hbm, ⟨59, _⟩ => ⟨S_, .f32⟩
  | .hbm, ⟨60, _⟩ => ⟨S2x2064x128, .f32⟩
  | .hbm, ⟨61, _⟩ => ⟨S2x2064x1792, .f32⟩
  | .hbm, ⟨62, _⟩ => ⟨S_, .i32⟩
  | .hbm, ⟨63, _⟩ => ⟨S_, .f32⟩
  | .hbm, ⟨64, _⟩ => ⟨S2x2176x1024, .f32⟩
  | .hbm, ⟨65, _⟩ => ⟨S4352x1024, .f32⟩
  | .hbm, ⟨66, _⟩ => ⟨S_, .i32⟩
  | .hbm, ⟨67, _⟩ => ⟨S_, .f32⟩
  | .hbm, ⟨68, _⟩ => ⟨S2x2176x1792, .f32⟩
  | .hbm, ⟨69, _⟩ => ⟨S4352x1792, .f32⟩
  | .hbm, ⟨70, _⟩ => ⟨S4352x1792, .bf16⟩
  | .hbm, ⟨71, _⟩ => ⟨S_, .i32⟩
  | .hbm, ⟨72, _⟩ => ⟨S_, .f32⟩
  | .hbm, ⟨73, _⟩ => ⟨S2x2176x1024, .f32⟩
  | .hbm, ⟨74, _⟩ => ⟨S4352x1024, .f32⟩
  | .hbm, ⟨75, _⟩ => ⟨S4352x1024, .bf16⟩
  | .hbm, ⟨76, _⟩ => ⟨S1x1024, .f32⟩
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c : Ref sig .tc := ⟨.hbm, 58, rfl⟩
abbrev main_call0_v0 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_call1_v0 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_call2_v0 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_10 : Ref sig .tc := ⟨.hbm, 71, rfl⟩
abbrev main_call3_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]
-- ==== Kernel5.lean ====
abbrev S2x2064x384 : Shape := ⟨3, ![2, 2064, 384]⟩
abbrev S2x2064x256 : Shape := ⟨3, ![2, 2064, 256]⟩
abbrev S2x2064x32 : Shape := ⟨3, ![2, 2064, 32]⟩
abbrev S384 : Shape := ⟨1, ![384]⟩
abbrev S256 : Shape := ⟨1, ![256]⟩
abbrev S256x1024 : Shape := ⟨2, ![256, 1024]⟩
abbrev S2x2064x512 : Shape := ⟨3, ![2, 2064, 512]⟩
abbrev S1024x256 : Shape := ⟨2, ![1024, 256]⟩
abbrev S8x128x256 : Shape := ⟨3, ![8, 128, 256]⟩
abbrev S8x64x256 : Shape := ⟨3, ![8, 64, 256]⟩
abbrev S512x256 : Shape := ⟨2, ![512, 256]⟩
abbrev S_ : Shape := ⟨0, ![]⟩
abbrev S2x2064x128 : Shape := ⟨3, ![2, 2064, 128]⟩
abbrev S2x2064x768 : Shape := ⟨3, ![2, 2064, 768]⟩
abbrev S2x2176x768 : Shape := ⟨3, ![2, 2176, 768]⟩
abbrev S4352x768 : Shape := ⟨2, ![4352, 768]⟩
abbrev S2x2176x384 : Shape := ⟨3, ![2, 2176, 384]⟩
abbrev S4352x384 : Shape := ⟨2, ![4352, 384]⟩
abbrev S2x2176x256 : Shape := ⟨3, ![2, 2176, 256]⟩
abbrev S4352x256 : Shape := ⟨2, ![4352, 256]⟩
abbrev S2x2176x512 : Shape := ⟨3, ![2, 2176, 512]⟩
abbrev S4352x512 : Shape := ⟨2, ![4352, 512]⟩
abbrev S1x384 : Shape := ⟨2, ![1, 384]⟩
abbrev S1x256 : Shape := ⟨2, ![1, 256]⟩
abbrev S256x384 : Shape := ⟨2, ![256, 384]⟩
abbrev S256x256 : Shape := ⟨2, ![256, 256]⟩
abbrev S256x512 : Shape := ⟨2, ![256, 512]⟩
abbrev S256x768 : Shape := ⟨2, ![256, 768]⟩
abbrev S256x1 : Shape := ⟨2, ![256, 1]⟩

abbrev nBuf : Space → Nat
  | .hbm => 40
  | .vmem => 21
  | .smem => 0
  | _ => 0

abbrev bufTy : (tb : Table) → Fin (tcTables nBuf tb) → BufTy
  | .hbm, ⟨0, _⟩ => ⟨S2x2064x384, .f32⟩
  | .hbm, ⟨1, _⟩ => ⟨S2x2064x256, .f32⟩
  | .hbm, ⟨2, _⟩ => ⟨S2x2064x32, .f32⟩
  | .hbm, ⟨3, _⟩ => ⟨S384, .f32⟩
  | .hbm, ⟨4, _⟩ => ⟨S256, .f32⟩
  | .hbm, ⟨5, _⟩ => ⟨S256x1024, .f32⟩
  | .hbm, ⟨6, _⟩ => ⟨S2x2064x384, .f32⟩
  | .hbm, ⟨7, _⟩ => ⟨S2x2064x256, .f32⟩
  | .hbm, ⟨8, _⟩ => ⟨S2x2064x512, .f32⟩
  | .hbm, ⟨9, _⟩ => ⟨S1024x256, .f32⟩
  | .hbm, ⟨10, _⟩ => ⟨S8x128x256, .f32⟩
  | .hbm, ⟨11, _⟩ => ⟨S8x64x256, .f32⟩
  | .hbm, ⟨12, _⟩ => ⟨S512x256, .f32⟩
  | .hbm, ⟨13, _⟩ => ⟨S512x256, .bf16⟩
  | .hbm, ⟨14, _⟩ => ⟨S_, .i32⟩
  | .hbm, ⟨15, _⟩ => ⟨S_, .f32⟩
  | .hbm, ⟨16, _⟩ => ⟨S2x2064x128, .f32⟩
  | .hbm, ⟨17, _⟩ => ⟨S2x2064x768, .f32⟩
  | .hbm, ⟨18, _⟩ => ⟨S_, .i32⟩
  | .hbm, ⟨19, _⟩ => ⟨S_, .f32⟩
  | .hbm, ⟨20, _⟩ => ⟨S2x2176x768, .f32⟩
  | .hbm, ⟨21, _⟩ => ⟨S4352x768, .f32⟩
  | .hbm, ⟨22, _⟩ => ⟨S_, .i32⟩
  | .hbm, ⟨23, _⟩ => ⟨S_, .f32⟩
  | .hbm, ⟨24, _⟩ => ⟨S2x2176x384, .f32⟩
  | .hbm, ⟨25, _⟩ => ⟨S4352x384, .f32⟩
  | .hbm, ⟨26, _⟩ => ⟨S_, .i32⟩
  | .hbm, ⟨27, _⟩ => ⟨S_, .f32⟩
  | .hbm, ⟨28, _⟩ => ⟨S2x2176x256, .f32⟩
  | .hbm, ⟨29, _⟩ => ⟨S4352x256, .f32⟩
  | .hbm, ⟨30, _⟩ => ⟨S_, .i32⟩
  | .hbm, ⟨31, _⟩ => ⟨S_, .f32⟩
  | .hbm, ⟨32, _⟩ => ⟨S2x2176x512, .f32⟩
  | .hbm, ⟨33, _⟩ => ⟨S4352x512, .f32⟩
  | .hbm, ⟨34, _⟩ => ⟨S4352x384, .f32⟩
  | .hbm, ⟨35, _⟩ => ⟨S4352x256, .f32⟩
  | .hbm, ⟨36, _⟩ => ⟨S4352x384, .bf16⟩
  | .hbm, ⟨37, _⟩ => ⟨S4352x256, .bf16⟩
  | .hbm, ⟨38, _⟩ => ⟨S1x384, .f32⟩
  | .hbm, ⟨39, _⟩ => ⟨S1x256, .f32⟩
  | .local _ .vmem, ⟨0, _⟩ => ⟨S256x384, .f32⟩
  | .local _ .vmem, ⟨1, _⟩ => ⟨S256x384, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S256x768, .f32⟩
  | .local _ .vmem, ⟨7, _⟩ => ⟨S256x768, .f32⟩
  | .local _ .vmem, ⟨8, _⟩ => ⟨S384, .f32⟩
  | .local _ .vmem, ⟨9, _⟩ => ⟨S256, .f32⟩
  | .local _ .vmem, ⟨10, _⟩ => ⟨S512x256, .bf16⟩
  | .local _ .vmem, ⟨11, _⟩ => ⟨S256x384, .f32⟩
  | .local _ .vmem, ⟨12, _⟩ => ⟨S256x384, .f32⟩
  | .local _ .vmem, ⟨13, _⟩ => ⟨S256x256, .f32⟩
  | .local _ .vmem, ⟨14, _⟩ => ⟨S256x256, .f32⟩
  | .local _ .vmem, ⟨15, _⟩ => ⟨S256x384, .bf16⟩
  | .local _ .vmem, ⟨16, _⟩ => ⟨S256x384, .bf16⟩
  | .local _ .vmem, ⟨17, _⟩ => ⟨S256x256, .bf16⟩
  | .local _ .vmem, ⟨18, _⟩ => ⟨S256x256, .bf16⟩
  | .local _ .vmem, ⟨19, _⟩ => ⟨S1x384, .f32⟩
  | .local _ .vmem, ⟨20, _⟩ => ⟨S1x256, .f32⟩
  | _, _ => ⟨S2x2064x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_call2_v0 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_call3_v0 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_call4_v0 : Ref sig .tc := ⟨.hbm, 31, rfl⟩
abbrev main_v13 : Ref sig .tc := ⟨.hbm, 32, rfl⟩
abbrev main_v14 : Ref sig .tc := ⟨.hbm, 33, rfl⟩
abbrev main_v15_0 : Ref sig .tc := ⟨.hbm, 34, rfl⟩
abbrev main_v15_1 : Ref sig .tc := ⟨.hbm, 35, rfl⟩
abbrev main_v15_2 : Ref sig .tc := ⟨.hbm, 36, rfl⟩
abbrev main_v15_3 : Ref sig .tc := ⟨.hbm, 37, rfl⟩
abbrev main_v15_4 : Ref sig .tc := ⟨.hbm, 38, rfl⟩
abbrev main_v15_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Kernel5Ideal.lean ====
variable {F : FTy → Type} [FloatOps F] [Named F]
def κ : String → Option EReal := fun
  | "inv_384" => some ((1 / 384 : ℝ) : EReal)
  | _ => none
-- ==== Reference5Ideal.lean ====
abbrev S2x2064x384 : Shape := ⟨3, ![2, 2064, 384]⟩
abbrev S2x2064x256 : Shape := ⟨3, ![2, 2064, 256]⟩
abbrev S2x2064x32 : Shape := ⟨3, ![2, 2064, 32]⟩
abbrev S384 : Shape := ⟨1, ![384]⟩
abbrev S256 : Shape := ⟨1, ![256]⟩
abbrev S256x1024 : Shape := ⟨2, ![256, 1024]⟩
abbrev S2x2064x512 : Shape := ⟨3, ![2, 2064, 512]⟩
abbrev S_ : Shape := ⟨0, ![]⟩
abbrev S2x2064 : Shape := ⟨2, ![2, 2064]⟩
abbrev S2x2064x1 : Shape := ⟨3, ![2, 2064, 1]⟩
abbrev S1x1x384 : Shape := ⟨3, ![1, 1, 384]⟩
abbrev S1x1x256 : Shape := ⟨3, ![1, 1, 256]⟩
abbrev S2x2064x1024 : Shape := ⟨3, ![2, 2064, 1024]⟩
abbrev S2x2064x8x128 : Shape := ⟨4, ![2, 2064, 8, 128]⟩
abbrev S2x2064x8x64 : Shape := ⟨4, ![2, 2064, 8, 64]⟩
abbrev S2x2176x384 : Shape := ⟨3, ![2, 2176, 384]⟩
abbrev S4352x384 : Shape := ⟨2, ![4352, 384]⟩
abbrev S2x2176x256 : Shape := ⟨3, ![2, 2176, 256]⟩
abbrev S4352x256 : Shape := ⟨2, ![4352, 256]⟩
abbrev S1x384 : Shape := ⟨2, ![1, 384]⟩
abbrev S1x256 : Shape := ⟨2, ![1, 256]⟩

abbrev nBuf : Space → Nat
  | .hbm => 129
  | .vmem => 0
  | .smem => 0
  | _ => 0

abbrev hbmTy0_0 (i : Nat) : BufTy := match i % 128 with
  | 0 => ⟨S2x2064x384, .f32⟩
  | 1 => ⟨S2x2064x256, .f32⟩
  | 2 => ⟨S2x2064x32, .f32⟩
  | 3 => ⟨S384, .f32⟩
  | 4 => ⟨S256, .f32⟩
  | 5 => ⟨S256x1024, .f32⟩
  | 6 => ⟨S2x2064x384, .f32⟩
  | 7 => ⟨S2x2064x256, .f32⟩
  | 8 => ⟨S2x2064x512, .f32⟩
  | 9 => ⟨S2x2064x384, .f32⟩
  | 10 => ⟨S_, .f32⟩
  | 11 => ⟨S2x2064, .f32⟩
  | 12 => ⟨S2x2064x1, .f32⟩
  | 13 => ⟨S_, .f32⟩
  | 14 => ⟨S2x2064x1, .f32⟩
  | 15 => ⟨S2x2064x1, .f32⟩
  | 16 => ⟨S_, .f32⟩
  | 17 => ⟨S2x2064x1, .f32⟩
  | 18 => ⟨S2x2064x1, .f32⟩
  | 19 => ⟨S2x2064x1, .f32⟩
  | 20 => ⟨S2x2064x1, .f32⟩
  | 21 => ⟨S_, .f32⟩
  | 22 => ⟨S2x2064x1, .f32⟩
  | 23 => ⟨S2x2064x1, .f32⟩
  | 24 => ⟨S2x2064x384, .f32⟩
  | 25 => ⟨S2x2064x384, .f32⟩
  | 26 => ⟨S1x1x384, .f32⟩
  | 27 => ⟨S2x2064x384, .f32⟩
  | 28 => ⟨S2x2064x384, .f32⟩
  | 29 => ⟨S2x2064x256, .f32⟩
  | 30 => ⟨S_, .f32⟩
  | 31 => ⟨S2x2064, .f32⟩
  | 32 => ⟨S2x2064x1, .f32⟩
  | 33 => ⟨S_, .f32⟩
  | 34 => ⟨S2x2064x1, .f32⟩
  | 35 => ⟨S2x2064x1, .f32⟩
  | 36 => ⟨S_, .f32⟩
  | 37 => ⟨S2x2064x1, .f32⟩
  | 38 => ⟨S2x2064x1, .f32⟩
  | 39 => ⟨S2x2064x1, .f32⟩
  | 40 => ⟨S2x2064x1, .f32⟩
  | 41 => ⟨S_, .f32⟩
  | 42 => ⟨S2x2064x1, .f32⟩
  | 43 => ⟨S2x2064x1, .f32⟩
  | 44 => ⟨S2x2064x256, .f32⟩
  | 45 => ⟨S2x2064x256, .f32⟩
  | 46 => ⟨S1x1x256, .f32⟩
  | 47 => ⟨S2x2064x256, .f32⟩
  | 48 => ⟨S2x2064x256, .f32⟩
  | 49 => ⟨S2x2064x1024, .f32⟩
  | 50 => ⟨S2x2064x8x128, .f32⟩
  | 51 => ⟨S2x2064x8x64, .f32⟩
  | 52 => ⟨S2x2064x512, .f32⟩
  | 53 => ⟨S2x2064x8x64, .f32⟩
  | 54 => ⟨S_, .f32⟩
  | 55 => ⟨S2x2064x8x128, .f32⟩
  | 56 => ⟨S2x2064x1024, .f32⟩
  | 57 => ⟨S2x2064x256, .f32⟩
  | 58 => ⟨S2x2064x256, .f32⟩
  | 59 => ⟨S2x2064x256, .f32⟩
  | 60 => ⟨S_, .f32⟩
  | 61 => ⟨S256, .f32⟩
  | 62 => ⟨S1x1x256, .f32⟩
  | 63 => ⟨S2x2064x256, .f32⟩
  | 64 => ⟨S2x2064x256, .f32⟩
  | 65 => ⟨S_, .f32⟩
  | 66 => ⟨S256, .f32⟩
  | 67 => ⟨S2x2064x256, .f32⟩
  | 68 => ⟨S_, .f32⟩
  | 69 => ⟨S2x2064, .f32⟩
  | 70 => ⟨S2x2064x1, .f32⟩
  | 71 => ⟨S2x2064x256, .f32⟩
  | 72 => ⟨S2x2064x256, .f32⟩
  | 73 => ⟨S2x2064x1, .f32⟩
  | 74 => ⟨S_, .f32⟩
  | 75 => ⟨S2x2064x1, .f32⟩
  | 76 => ⟨S2x2064x1, .f32⟩
  | 77 => ⟨S_, .f32⟩
  | 78 => ⟨S2x2064, .f32⟩
  | 79 => ⟨S2x2064x256, .f32⟩
  | 80 => ⟨S2x2064x256, .f32⟩
  | 81 => ⟨S2x2064x256, .f32⟩
  | 82 => ⟨S2x2064x256, .f32⟩
  | 83 => ⟨S2x2064x256, .f32⟩
  | 84 => ⟨S2x2064x384, .f32⟩
  | 85 => ⟨S_, .f32⟩
  | 86 => ⟨S384, .f32⟩
  | 87 => ⟨S1x1x384, .f32⟩
  | 88 => ⟨S2x2064x384, .f32⟩
  | 89 => ⟨S2x2064x384, .f32⟩
  | 90 => ⟨S_, .f32⟩
  | 91 => ⟨S384, .f32⟩
  | 92 => ⟨S2x2064x384, .f32⟩
  | 93 => ⟨S_, .f32⟩
  | 94 => ⟨S2x2064, .f32⟩
  | 95 => ⟨S2x2064x1, .f32⟩
  | 96 => ⟨S2x2064x384, .f32⟩
  | 97 => ⟨S2x2064x384, .f32⟩
  | 98 => ⟨S2x2064x1, .f32⟩
  | 99 => ⟨S_, .f32⟩
  | 100 => ⟨S2x2064x1, .f32⟩
  | 101 => ⟨S2x2064x1, .f32⟩
  | 102 => ⟨S_, .f32⟩
  | 103 => ⟨S2x2064, .f32⟩
  | 104 => ⟨S2x2064x384, .f32⟩
  | 105 => ⟨S2x2064x384, .f32⟩
  | 106 => ⟨S2x2064x384, .f32⟩
  | 107 => ⟨S2x2064x384, .f32⟩
  | 108 => ⟨S2x2064x384, .f32⟩
  | 109 => ⟨S_, .i32⟩
  | 110 => ⟨S_, .f32⟩
  | 111 => ⟨S2x2176x384, .f32⟩
  | 112 => ⟨S4352x384, .f32⟩
  | 113 => ⟨S_, .i32⟩
  | 114 => ⟨S_, .f32⟩
  | 115 => ⟨S2x2176x256, .f32⟩
  | 116 => ⟨S4352x256, .f32⟩
  | 117 => ⟨S_, .i32⟩
  | 118 => ⟨S_, .f32⟩
  | 119 => ⟨S2x2176x384, .f32⟩
  | 120 => ⟨S4352x384, .f32⟩
  | 121 => ⟨S4352x384, .bf16⟩
  | 122 => ⟨S_, .i32⟩
  | 123 => ⟨S_, .f32⟩
  | 124 => ⟨S2x2176x256, .f32⟩
  | 125 => ⟨S4352x256, .f32⟩
  | 126 => ⟨S4352x256, .bf16⟩
  | 127 => ⟨S1x384, .f32⟩
  | _ => ⟨S2x2064x384, .f32⟩

abbrev hbmTy0_1 (i : Nat) : BufTy := match i % 128 with
  | 0 => ⟨S1x256, .f32⟩
  | _ => ⟨S2x2064x384, .f32⟩

abbrev hbmTy (i : Nat) : BufTy := match i / 128 with
  | 0 => hbmTy0_0 i
  | 1 => hbmTy0_1 i
  | _ => ⟨S2x2064x384, .f32⟩

abbrev bufTy : (tb : Table) → Fin (tcTables nBuf tb) → BufTy
  | .hbm, ⟨i, _⟩ => hbmTy i
  | _, _ => ⟨S2x2064x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_16 : Ref sig .tc := ⟨.hbm, 99, rfl⟩
abbrev main_v73 : Ref sig .tc := ⟨.hbm, 100, rfl⟩
abbrev main_v74 : Ref sig .tc := ⟨.hbm, 101, rfl⟩
abbrev main_cst_17 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c : Ref sig .tc := ⟨.hbm, 109, rfl⟩
abbrev main_call0_v0 : Ref sig .tc := ⟨.hbm, 110, rfl⟩
abbrev main_v81 : Ref sig .tc := ⟨.hbm, 111, rfl⟩
abbrev main_v82 : Ref sig .tc := ⟨.hbm, 112, rfl⟩
abbrev main_c_18 : Ref sig .tc := ⟨.hbm, 113, rfl⟩
abbrev main_call1_v0 : Ref sig .tc := ⟨.hbm, 114, rfl⟩
abbrev main_v83 : Ref sig .tc := ⟨.hbm, 115, rfl⟩
abbrev main_v84 : Ref sig .tc := ⟨.hbm, 116, rfl⟩
abbrev main_c_19 : Ref sig .tc := ⟨.hbm, 117, rfl⟩
abbrev main_call2_v0 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_20 : Ref sig .tc := ⟨.hbm, 122, rfl⟩
abbrev main_call3_v0 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]
-- ==== Kernel6.lean ====
abbrev S2x2064x1024 : Shape := ⟨3, ![2, 2064, 1024]⟩
abbrev S1024 : Shape := ⟨1, ![1024]⟩
abbrev S1024x1696 : Shape := ⟨2, ![1024, 1696]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S96 : Shape := ⟨1, ![96]⟩
abbrev S1696x1024 : Shape := ⟨2, ![1696, 1024]⟩
abbrev S768x384 : Shape := ⟨2, ![768, 384]⟩
abbrev S1024x256 : Shape := ⟨2, ![1024, 256]⟩
abbrev S32x1024 : Shape := ⟨2, ![32, 1024]⟩
abbrev S640x1024 : Shape := ⟨2, ![640, 1024]⟩
abbrev S_ : Shape := ⟨0, ![]⟩
abbrev S64x1024 : Shape := ⟨2, ![64, 1024]⟩
abbrev S1024x1024 : Shape := ⟨2, ![1024, 1024]⟩
abbrev S1792x1024 : Shape := ⟨2, ![1792, 1024]⟩
abbrev S8x96x384 : Shape := ⟨3, ![8, 96, 384]⟩
abbrev S8x128x384 : Shape := ⟨3, ![8, 128, 384]⟩
abbrev S8x128x256 : Shape := ⟨3, ![8, 128, 256]⟩
abbrev S8x64x256 : Shape := ⟨3, ![8, 64, 256]⟩
abbrev S1024x384 : Shape := ⟨2, ![1024, 384]⟩
abbrev S128 : Shape := ⟨1, ![128]⟩
abbrev S512x256 : Shape := ⟨2, ![512, 256]⟩
abbrev S1x1024 : Shape := ⟨2, ![1, 1024]⟩
abbrev S1x384 : Shape := ⟨2, ![1, 384]⟩
abbrev S1x256 : Shape := ⟨2, ![1, 256]⟩
abbrev S1x128 : Shape := ⟨2, ![1, 128]⟩
abbrev S16 : Shape := ⟨1, ![16]⟩
abbrev S2176 : Shape := ⟨1, ![2176]⟩
abbrev S2176x1 : Shape := ⟨2, ![2176, 1]⟩
abbrev S1x16 : Shape := ⟨2, ![1, 16]⟩
abbrev S2176x16 : Shape := ⟨2, ![2176, 16]⟩
abbrev S2176x64 : Shape := ⟨2, ![2176, 64]⟩
abbrev S2176x32 : Shape := ⟨2, ![2176, 32]⟩
abbrev S2176x128 : Shape := ⟨2, ![2176, 128]⟩
abbrev S1x2176x1x128 : Shape := ⟨4, ![1, 2176, 1, 128]⟩
abbrev S2x2176x1x128 : Shape := ⟨4, ![2, 2176, 1, 128]⟩
abbrev S4352x128 : Shape := ⟨2, ![4352, 128]⟩
abbrev S2x2176x1024 : Shape := ⟨3, ![2, 2176, 1024]⟩
abbrev S4352x1024 : Shape := ⟨2, ![4352, 1024]⟩
abbrev S4352x768 : Shape := ⟨2, ![4352, 768]⟩
abbrev S4352x512 : Shape := ⟨2, ![4352, 512]⟩
abbrev S272x1024 : Shape := ⟨2, ![272, 1024]⟩
abbrev S272x128 : Shape := ⟨2, ![272, 128]⟩
abbrev S272x768 : Shape := ⟨2, ![272, 768]⟩
abbrev S272x512 : Shape := ⟨2, ![272, 512]⟩
abbrev S272 : Shape := ⟨1, ![272]⟩
abbrev S272x1 : Shape := ⟨2, ![272, 1]⟩
abbrev S272x1792 : Shape := ⟨2, ![272, 1792]⟩
abbrev S272x384 : Shape := ⟨2, ![272, 384]⟩
abbrev S272x256 : Shape := ⟨2, ![272, 256]⟩

abbrev nBuf : Space → Nat
  | .hbm => 95
  | .vmem => 27
  | .smem => 0
  | _ => 0

abbrev bufTy : (tb : Table) → Fin (tcTables nBuf tb) → BufTy
  | .hbm, ⟨0, _⟩ => ⟨S2x2064x1024, .f32⟩
  | .hbm, ⟨1, _⟩ => ⟨S1024, .f32⟩
  | .hbm, ⟨2, _⟩ => ⟨S1024x1696, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S96, .f32⟩
  | .hbm, ⟨8, _⟩ => ⟨S96, .f32⟩
  | .hbm, ⟨9, _⟩ => ⟨S1696x1024, .f32⟩
  | .hbm, ⟨10, _⟩ => ⟨S768x384, .f32⟩
  | .hbm, ⟨11, _⟩ => ⟨S1024x256, .f32⟩
  | .hbm, ⟨12, _⟩ => ⟨S32x1024, .f32⟩
  | .hbm, ⟨13, _⟩ => ⟨S640x1024, .f32⟩
  | .hbm, ⟨14, _⟩ => ⟨S_, .f32⟩
  | .hbm, ⟨15, _⟩ => ⟨S64x1024, .f32⟩
  | .hbm, ⟨16, _⟩ => ⟨S_, .f32⟩
  | .hbm, ⟨17, _⟩ => ⟨S32x1024, .f32⟩
  | .hbm, ⟨18, _⟩ => ⟨S1024x1024, .f32⟩
  | .hbm, ⟨19, _⟩ => ⟨S1792x1024, .f32⟩
  | .hbm, ⟨20, _⟩ => ⟨S1792x1024, .bf16⟩
  | .hbm, ⟨21, _⟩ => ⟨S8x96x384, .f32⟩
  | .hbm, ⟨22, _⟩ => ⟨S_, .i32⟩
  | .hbm, ⟨23, _⟩ => ⟨S_, .f32⟩
  | .hbm, ⟨24, _⟩ => ⟨S8x128x384, .f32⟩
  | .hbm, ⟨25, _⟩ => ⟨S8x128x256, .f32⟩
  | .hbm, ⟨26, _⟩ => ⟨S8x64x256, .f32⟩
  | .hbm, ⟨27, _⟩ => ⟨S_, .i32⟩
  | .hbm, ⟨28, _⟩ => ⟨S_, .f32⟩
  | .hbm, ⟨29, _⟩ => ⟨S8x128x256, .f32⟩
  | .hbm, ⟨30, _⟩ => ⟨S8x128x384, .bf16⟩
  | .hbm, ⟨31, _⟩ => ⟨S1024x384, .bf16⟩
  | .hbm, ⟨32, _⟩ => ⟨S8x128x256, .bf16⟩
  | .hbm, ⟨33, _⟩ => ⟨S1024x256, .bf16⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S_, .i32⟩
  | .hbm, ⟨38, _⟩ => ⟨S_, .f32⟩
  | .hbm, ⟨39, _⟩ => ⟨S128, .f32⟩
  | .hbm, ⟨40, _⟩ => ⟨S8x128x256, .f32⟩
  | .hbm, ⟨41, _⟩ => ⟨S8x64x256, .f32⟩
  | .hbm, ⟨42, _⟩ => ⟨S512x256, .f32⟩
  | .hbm, ⟨43, _⟩ => ⟨S512x256, .bf16⟩
  | .hbm, ⟨44, _⟩ => ⟨S1x1024, .f32⟩
  | .hbm, ⟨45, _⟩ => ⟨S1x384, .f32⟩
  | .hbm, ⟨46, _⟩ => ⟨S1x256, .f32⟩
  | .hbm, ⟨47, _⟩ => ⟨S1x128, .f32⟩
  | .hbm, ⟨48, _⟩ => ⟨S1x128, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S2176, .f32⟩
  | .hbm, ⟨60, _⟩ => ⟨S2176x1, .f32⟩
  | .hbm, ⟨61, _⟩ => ⟨S1x16, .f32⟩
  | .hbm, ⟨62, _⟩ => ⟨S2176x16, .f32⟩
  | .hbm, ⟨63, _⟩ => ⟨S2176x16, .f32⟩
  | .hbm, ⟨64, _⟩ => ⟨S2176x16, .f32⟩
  | .hbm, ⟨65, _⟩ => ⟨S_, .f32⟩
  | .hbm, ⟨66, _⟩ => ⟨S2176x64, .f32⟩
  | .hbm, ⟨67, _⟩ => ⟨S_, .f32⟩
  | .hbm, ⟨68, _⟩ => ⟨S2176x64, .f32⟩
  | .hbm, ⟨69, _⟩ => ⟨S_, .f32⟩
  | .hbm, ⟨70, _⟩ => ⟨S2176x32, .f32⟩
  | .hbm, ⟨71, _⟩ => ⟨S_, .f32⟩
  | .hbm, ⟨72, _⟩ => ⟨S2176x32, .f32⟩
  | .hbm, ⟨73, _⟩ => ⟨S2176x16, .f32⟩
  | .hbm, ⟨74, _⟩ => ⟨S2176x16, .f32⟩
  | .hbm, ⟨75, _⟩ => ⟨S2176x128, .f32⟩
  | .hbm, ⟨76, _⟩ => ⟨S2176x16, .f32⟩
  | .hbm, ⟨77, _⟩ => ⟨S2176x16, .f32⟩
  | .hbm, ⟨78, _⟩ => ⟨S2176x128, .f32⟩
  | .hbm, ⟨79, _⟩ => ⟨S1x2176x1x128, .f32⟩
  | .hbm, ⟨80, _⟩ => ⟨S2x2176x1x128, .f32⟩
  | .hbm, ⟨81, _⟩ => ⟨S4352x128, .f32⟩
  | .hbm, ⟨82, _⟩ => ⟨S1x2176x1x128, .f32⟩
  | .hbm, ⟨83, _⟩ => ⟨S2x2176x1x128, .f32⟩
  | .hbm, ⟨84, _⟩ => ⟨S4352x128, .f32⟩
  | .hbm, ⟨85, _⟩ => ⟨S_, .i32⟩
  | .hbm, ⟨86, _⟩ => ⟨S_, .f32⟩
  | .hbm, ⟨87, _⟩ => ⟨S2x2176x1024, .f32⟩
  | .hbm, ⟨88, _⟩ => ⟨S4352x1024, .f32⟩
  | .hbm, ⟨89, _⟩ => ⟨S4352x768, .f32⟩
  | .hbm, ⟨90, _⟩ => ⟨S4352x512, .f32⟩
  | .hbm, ⟨91, _⟩ => ⟨S4352x512, .f32⟩
  | .hbm, ⟨92, _⟩ => ⟨S4352x1024, .bf16⟩
  | .hbm, ⟨93, _⟩ => ⟨S4352x1024, .bf16⟩
  | .hbm, ⟨94, _⟩ => ⟨S4352x512, .bf16⟩
  | .local _ .vmem, ⟨0, _⟩ => ⟨S272x1024, .f32⟩
  | .local _ .vmem, ⟨1, _⟩ => ⟨S272x1024, .f32⟩
  | .local _ .vmem, ⟨2, _⟩ => ⟨S272x128, .f32⟩
  | .local _ .vmem, ⟨3, _⟩ => ⟨S272x128, .f32⟩
  | .local _ .vmem, ⟨4, _⟩ => ⟨S272x128, .f32⟩
  | .local _ .vmem, ⟨5, _⟩ => ⟨S272x128, .f32⟩
  | .local _ .vmem, ⟨6, _⟩ => ⟨S1x1024, .f32⟩
  | .local _ .vmem, ⟨7, _⟩ => ⟨S1792x1024, .bf16⟩
  | .local _ .vmem, ⟨8, _⟩ => ⟨S1x384, .f32⟩
  | .local _ .vmem, ⟨9, _⟩ => ⟨S1024x384, .bf16⟩
  | .local _ .vmem, ⟨10, _⟩ => ⟨S1x256, .f32⟩
  | .local _ .vmem, ⟨11, _⟩ => ⟨S1024x256, .bf16⟩
  | .local _ .vmem, ⟨12, _⟩ => ⟨S512x256, .bf16⟩
  | .local _ .vmem, ⟨13, _⟩ => ⟨S1x128, .f32⟩
  | .local _ .vmem, ⟨14, _⟩ => ⟨S1x128, .f32⟩
  | .local _ .vmem, ⟨15, _⟩ => ⟨S272x768, .f32⟩
  | .local _ .vmem, ⟨16, _⟩ => ⟨S272x768, .f32⟩
  | .local _ .vmem, ⟨17, _⟩ => ⟨S272x512, .f32⟩
  | .local _ .vmem, ⟨18, _⟩ => ⟨S272x512, .f32⟩
  | .local _ .vmem, ⟨19, _⟩ => ⟨S272x512, .f32⟩
  | .local _ .vmem, ⟨20, _⟩ => ⟨S272x512, .f32⟩
  | .local _ .vmem, ⟨21, _⟩ => ⟨S272x1024, .bf16⟩
  | .local _ .vmem, ⟨22, _⟩ => ⟨S272x1024, .bf16⟩
  | .local _ .vmem, ⟨23, _⟩ => ⟨S272x1024, .bf16⟩
  | .local _ .vmem, ⟨24, _⟩ => ⟨S272x1024, .bf16⟩
  | .local _ .vmem, ⟨25, _⟩ => ⟨S272x512, .bf16⟩
  | .local _ .vmem, ⟨26, _⟩ => ⟨S272x512, .bf16⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call0_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_call1_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_call2_v0 : Ref sig .tc := ⟨.hbm, 35, rfl⟩
abbrev main_v19 : Ref sig .tc := ⟨.hbm, 36, rfl⟩
abbrev main_c_3 : Ref sig .tc := ⟨.hbm, 37, rfl⟩
abbrev main_call3_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_call4_v0 : Ref sig .tc := ⟨.hbm, 86, rfl⟩
abbrev main_v59 : Ref sig .tc := ⟨.hbm, 87, rfl⟩
abbrev main_v60 : Ref sig .tc := ⟨.hbm, 88, rfl⟩
abbrev main_v61_0 : Ref sig .tc := ⟨.hbm, 89, rfl⟩
abbrev main_v61_1 : Ref sig .tc := ⟨.hbm, 90, rfl⟩
abbrev main_v61_2 : Ref sig .tc := ⟨.hbm, 91, rfl⟩
abbrev main_v61_3 : Ref sig .tc := ⟨.hbm, 92, rfl⟩
abbrev main_v61_4 : Ref sig .tc := ⟨.hbm, 93, rfl⟩
abbrev main_v61_5 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1792x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S272x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S272x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S272x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S272x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S272x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S272x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel6Ideal.lean ====
variable {F : FTy → Type} [FloatOps F] [Named F]
def κ : String → Option EReal := fun
  | "inv_384" => some ((1 / 384 : ℝ) : EReal)
  | "inv_96" => some ((1 / 96 : ℝ) : EReal)
  | _ => none
-- ==== Reference6Ideal.lean ====
abbrev S2x2064x1024 : Shape := ⟨3, ![2, 2064, 1024]⟩
abbrev S1024 : Shape := ⟨1, ![1024]⟩
abbrev S1024x1696 : Shape := ⟨2, ![1024, 1696]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S96 : Shape := ⟨1, ![96]⟩
abbrev S_ : Shape := ⟨0, ![]⟩
abbrev S2x2064 : Shape := ⟨2, ![2, 2064]⟩
abbrev S2x2064x1 : Shape := ⟨3, ![2, 2064, 1]⟩
abbrev S1x1x1024 : Shape := ⟨3, ![1, 1, 1024]⟩
abbrev S2x2064x1696 : Shape := ⟨3, ![2, 2064, 1696]⟩
abbrev S2x2064x384 : Shape := ⟨3, ![2, 2064, 384]⟩
abbrev S2x2064x256 : Shape := ⟨3, ![2, 2064, 256]⟩
abbrev S2x2064x32 : Shape := ⟨3, ![2, 2064, 32]⟩
abbrev S2x2064x512 : Shape := ⟨3, ![2, 2064, 512]⟩
abbrev S1x1x384 : Shape := ⟨3, ![1, 1, 384]⟩
abbrev S2x2064x768 : Shape := ⟨3, ![2, 2064, 768]⟩
abbrev S2x2064x8x96 : Shape := ⟨4, ![2, 2064, 8, 96]⟩
abbrev S1x1x256 : Shape := ⟨3, ![1, 1, 256]⟩
abbrev S2x2064x8x128 : Shape := ⟨4, ![2, 2064, 8, 128]⟩
abbrev S2x2064x8x64 : Shape := ⟨4, ![2, 2064, 8, 64]⟩
abbrev S2x2064x1x32 : Shape := ⟨4, ![2, 2064, 1, 32]⟩
abbrev S2x2064x8x32 : Shape := ⟨4, ![2, 2064, 8, 32]⟩
abbrev S2x2064x8 : Shape := ⟨3, ![2, 2064, 8]⟩
abbrev S2x2064x8x1 : Shape := ⟨4, ![2, 2064, 8, 1]⟩
abbrev S1x1x1x96 : Shape := ⟨4, ![1, 1, 1, 96]⟩
abbrev S2064 : Shape := ⟨1, ![2064]⟩
abbrev S16 : Shape := ⟨1, ![16]⟩
abbrev S2064x1 : Shape := ⟨2, ![2064, 1]⟩
abbrev S1x16 : Shape := ⟨2, ![1, 16]⟩
abbrev S2064x16 : Shape := ⟨2, ![2064, 16]⟩
abbrev S1x2064x1x16 : Shape := ⟨4, ![1, 2064, 1, 16]⟩
abbrev S2x2064x8x16 : Shape := ⟨4, ![2, 2064, 8, 16]⟩
abbrev S2x2064x128 : Shape := ⟨3, ![2, 2064, 128]⟩
abbrev S2176 : Shape := ⟨1, ![2176]⟩
abbrev S2x2176x768 : Shape := ⟨3, ![2, 2176, 768]⟩
abbrev S4352x768 : Shape := ⟨2, ![4352, 768]⟩
abbrev S2x2176x512 : Shape := ⟨3, ![2, 2176, 512]⟩
abbrev S4352x512 : Shape := ⟨2, ![4352, 512]⟩
abbrev S2x2176x8x96 : Shape := ⟨4, ![2, 2176, 8, 96]⟩
abbrev S1x2176x1x1 : Shape := ⟨4, ![1, 2176, 1, 1]⟩
abbrev S2x2176x8x1 : Shape := ⟨4, ![2, 2176, 8, 1]⟩
abbrev S2x2176x8x31 : Shape := ⟨4, ![2, 2176, 8, 31]⟩
abbrev S2x2176x8x128 : Shape := ⟨4, ![2, 2176, 8, 128]⟩
abbrev S4352x1024 : Shape := ⟨2, ![4352, 1024]⟩

abbrev nBuf : Space → Nat
  | .hbm => 228
  | .vmem => 0
  | .smem => 0
  | _ => 0

abbrev hbmTy0_0 (i : Nat) : BufTy := match i % 128 with
  | 0 => ⟨S2x2064x1024, .f32⟩
  | 1 => ⟨S1024, .f32⟩
  | 2 => ⟨S1024x1696, .f32⟩
  | 3 => ⟨S384, .f32⟩
  | 4 => ⟨S384x768, .f32⟩
  | 5 => ⟨S256, .f32⟩
  | 6 => ⟨S256x1024, .f32⟩
  | 7 => ⟨S96, .f32⟩
  | 8 => ⟨S96, .f32⟩
  | 9 => ⟨S2x2064x1024, .f32⟩
  | 10 => ⟨S_, .f32⟩
  | 11 => ⟨S2x2064, .f32⟩
  | 12 => ⟨S2x2064x1, .f32⟩
  | 13 => ⟨S_, .f32⟩
  | 14 => ⟨S2x2064x1, .f32⟩
  | 15 => ⟨S2x2064x1, .f32⟩
  | 16 => ⟨S_, .f32⟩
  | 17 => ⟨S2x2064x1, .f32⟩
  | 18 => ⟨S2x2064x1, .f32⟩
  | 19 => ⟨S2x2064x1, .f32⟩
  | 20 => ⟨S2x2064x1024, .f32⟩
  | 21 => ⟨S2x2064x1024, .f32⟩
  | 22 => ⟨S1x1x1024, .f32⟩
  | 23 => ⟨S2x2064x1024, .f32⟩
  | 24 => ⟨S2x2064x1024, .f32⟩
  | 25 => ⟨S2x2064x1696, .f32⟩
  | 26 => ⟨S2x2064x384, .f32⟩
  | 27 => ⟨S2x2064x256, .f32⟩
  | 28 => ⟨S2x2064x32, .f32⟩
  | 29 => ⟨S2x2064x512, .f32⟩
  | 30 => ⟨S2x2064x512, .f32⟩
  | 31 => ⟨S2x2064x384, .f32⟩
  | 32 => ⟨S_, .f32⟩
  | 33 => ⟨S2x2064, .f32⟩
  | 34 => ⟨S2x2064x1, .f32⟩
  | 35 => ⟨S_, .f32⟩
  | 36 => ⟨S2x2064x1, .f32⟩
  | 37 => ⟨S2x2064x1, .f32⟩
  | 38 => ⟨S_, .f32⟩
  | 39 => ⟨S2x2064x1, .f32⟩
  | 40 => ⟨S2x2064x1, .f32⟩
  | 41 => ⟨S2x2064x1, .f32⟩
  | 42 => ⟨S2x2064x384, .f32⟩
  | 43 => ⟨S2x2064x384, .f32⟩
  | 44 => ⟨S1x1x384, .f32⟩
  | 45 => ⟨S2x2064x384, .f32⟩
  | 46 => ⟨S2x2064x384, .f32⟩
  | 47 => ⟨S2x2064x768, .f32⟩
  | 48 => ⟨S2x2064x8x96, .f32⟩
  | 49 => ⟨S2x2064x256, .f32⟩
  | 50 => ⟨S_, .f32⟩
  | 51 => ⟨S2x2064, .f32⟩
  | 52 => ⟨S2x2064x1, .f32⟩
  | 53 => ⟨S_, .f32⟩
  | 54 => ⟨S2x2064x1, .f32⟩
  | 55 => ⟨S2x2064x1, .f32⟩
  | 56 => ⟨S_, .f32⟩
  | 57 => ⟨S2x2064x1, .f32⟩
  | 58 => ⟨S2x2064x1, .f32⟩
  | 59 => ⟨S2x2064x1, .f32⟩
  | 60 => ⟨S2x2064x256, .f32⟩
  | 61 => ⟨S2x2064x256, .f32⟩
  | 62 => ⟨S1x1x256, .f32⟩
  | 63 => ⟨S2x2064x256, .f32⟩
  | 64 => ⟨S2x2064x256, .f32⟩
  | 65 => ⟨S2x2064x1024, .f32⟩
  | 66 => ⟨S2x2064x8x128, .f32⟩
  | 67 => ⟨S2x2064x8x64, .f32⟩
  | 68 => ⟨S2x2064x8x64, .f32⟩
  | 69 => ⟨S2x2064x1x32, .f32⟩
  | 70 => ⟨S2x2064x8x32, .f32⟩
  | 71 => ⟨S2x2064x8x96, .f32⟩
  | 72 => ⟨S2x2064x8x96, .f32⟩
  | 73 => ⟨S_, .f32⟩
  | 74 => ⟨S2x2064x8, .f32⟩
  | 75 => ⟨S2x2064x8x1, .f32⟩
  | 76 => ⟨S_, .f32⟩
  | 77 => ⟨S2x2064x8x1, .f32⟩
  | 78 => ⟨S2x2064x8x1, .f32⟩
  | 79 => ⟨S_, .f32⟩
  | 80 => ⟨S2x2064x8x1, .f32⟩
  | 81 => ⟨S2x2064x8x1, .f32⟩
  | 82 => ⟨S2x2064x8x1, .f32⟩
  | 83 => ⟨S2x2064x8x96, .f32⟩
  | 84 => ⟨S2x2064x8x96, .f32⟩
  | 85 => ⟨S1x1x1x96, .f32⟩
  | 86 => ⟨S2x2064x8x96, .f32⟩
  | 87 => ⟨S2x2064x8x96, .f32⟩
  | 88 => ⟨S2x2064x8x96, .f32⟩
  | 89 => ⟨S_, .f32⟩
  | 90 => ⟨S2x2064x8, .f32⟩
  | 91 => ⟨S2x2064x8x1, .f32⟩
  | 92 => ⟨S_, .f32⟩
  | 93 => ⟨S2x2064x8x1, .f32⟩
  | 94 => ⟨S2x2064x8x1, .f32⟩
  | 95 => ⟨S_, .f32⟩
  | 96 => ⟨S2x2064x8x1, .f32⟩
  | 97 => ⟨S2x2064x8x1, .f32⟩
  | 98 => ⟨S2x2064x8x1, .f32⟩
  | 99 => ⟨S2x2064x8x96, .f32⟩
  | 100 => ⟨S2x2064x8x96, .f32⟩
  | 101 => ⟨S1x1x1x96, .f32⟩
  | 102 => ⟨S2x2064x8x96, .f32⟩
  | 103 => ⟨S2x2064x8x96, .f32⟩
  | 104 => ⟨S2064, .f32⟩
  | 105 => ⟨S2x2064x8x64, .f32⟩
  | 106 => ⟨S2x2064x8x32, .f32⟩
  | 107 => ⟨S16, .f32⟩
  | 108 => ⟨S_, .f32⟩
  | 109 => ⟨S16, .f32⟩
  | 110 => ⟨S16, .f32⟩
  | 111 => ⟨S_, .f32⟩
  | 112 => ⟨S16, .f32⟩
  | 113 => ⟨S16, .f32⟩
  | 114 => ⟨S_, .f32⟩
  | 115 => ⟨S16, .f32⟩
  | 116 => ⟨S16, .f32⟩
  | 117 => ⟨S2064x1, .f32⟩
  | 118 => ⟨S1x16, .f32⟩
  | 119 => ⟨S2064x16, .f32⟩
  | 120 => ⟨S2064x16, .f32⟩
  | 121 => ⟨S2064x16, .f32⟩
  | 122 => ⟨S2064x16, .f32⟩
  | 123 => ⟨S1x2064x1x16, .f32⟩
  | 124 => ⟨S2064x16, .f32⟩
  | 125 => ⟨S1x2064x1x16, .f32⟩
  | 126 => ⟨S2x2064x8x16, .f32⟩
  | 127 => ⟨S2x2064x8x16, .f32⟩
  | _ => ⟨S2x2064x1024, .f32⟩

abbrev hbmTy0_1 (i : Nat) : BufTy := match i % 128 with
  | 0 => ⟨S2x2064x8x16, .f32⟩
  | 1 => ⟨S2x2064x8x16, .f32⟩
  | 2 => ⟨S2x2064x8x16, .f32⟩
  | 3 => ⟨S2x2064x8x16, .f32⟩
  | 4 => ⟨S2x2064x8x16, .f32⟩
  | 5 => ⟨S2x2064x8x16, .f32⟩
  | 6 => ⟨S2x2064x8x16, .f32⟩
  | 7 => ⟨S2x2064x8x16, .f32⟩
  | 8 => ⟨S2x2064x8x16, .f32⟩
  | 9 => ⟨S2x2064x8x16, .f32⟩
  | 10 => ⟨S2x2064x8x32, .f32⟩
  | 11 => ⟨S2x2064x8x96, .f32⟩
  | 12 => ⟨S2x2064x8x64, .f32⟩
  | 13 => ⟨S2x2064x8x32, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S2064x1, .f32⟩
  | 25 => ⟨S1x16, .f32⟩
  | 26 => ⟨S2064x16, .f32⟩
  | 27 => ⟨S2064x16, .f32⟩
  | 28 => ⟨S2064x16, .f32⟩
  | 29 => ⟨S2064x16, .f32⟩
  | 30 => ⟨S1x2064x1x16, .f32⟩
  | 31 => ⟨S2064x16, .f32⟩
  | 32 => ⟨S1x2064x1x16, .f32⟩
  | 33 => ⟨S2x2064x8x16, .f32⟩
  | 34 => ⟨S2x2064x8x16, .f32⟩
  | 35 => ⟨S2x2064x8x16, .f32⟩
  | 36 => ⟨S2x2064x8x16, .f32⟩
  | 37 => ⟨S2x2064x8x16, .f32⟩
  | 38 => ⟨S2x2064x8x16, .f32⟩
  | 39 => ⟨S2x2064x8x16, .f32⟩
  | 40 => ⟨S2x2064x8x16, .f32⟩
  | 41 => ⟨S2x2064x8x16, .f32⟩
  | 42 => ⟨S2x2064x8x16, .f32⟩
  | 43 => ⟨S2x2064x8x16, .f32⟩
  | 44 => ⟨S2x2064x8x16, .f32⟩
  | 45 => ⟨S2x2064x8x32, .f32⟩
  | 46 => ⟨S2x2064x8x96, .f32⟩
  | 47 => ⟨S_, .i32⟩
  | 48 => ⟨S_, .f32⟩
  | 49 => ⟨S2x2064x128, .f32⟩
  | 50 => ⟨S2x2064x768, .f32⟩
  | 51 => ⟨S2176, .i32⟩
  | 52 => ⟨S_, .i32⟩
  | 53 => ⟨S2176, .i32⟩
  | 54 => ⟨S2176, .i1⟩
  | 55 => ⟨S_, .f32⟩
  | 56 => ⟨S2176, .f32⟩
  | 57 => ⟨S_, .f32⟩
  | 58 => ⟨S2176, .f32⟩
  | 59 => ⟨S2176, .f32⟩
  | 60 => ⟨S_, .i32⟩
  | 61 => ⟨S_, .f32⟩
  | 62 => ⟨S2x2176x768, .f32⟩
  | 63 => ⟨S4352x768, .f32⟩
  | 64 => ⟨S_, .i32⟩
  | 65 => ⟨S_, .f32⟩
  | 66 => ⟨S2x2176x512, .f32⟩
  | 67 => ⟨S4352x512, .f32⟩
  | 68 => ⟨S_, .i32⟩
  | 69 => ⟨S_, .f32⟩
  | 70 => ⟨S2x2176x512, .f32⟩
  | 71 => ⟨S4352x512, .f32⟩
  | 72 => ⟨S_, .f32⟩
  | 73 => ⟨S2176, .f32⟩
  | 74 => ⟨S_, .i32⟩
  | 75 => ⟨S_, .f32⟩
  | 76 => ⟨S2x2176x8x96, .f32⟩
  | 77 => ⟨S1x2176x1x1, .f32⟩
  | 78 => ⟨S2x2176x8x1, .f32⟩
  | 79 => ⟨S_, .f32⟩
  | 80 => ⟨S2x2176x8x31, .f32⟩
  | 81 => ⟨S2x2176x8x128, .f32⟩
  | 82 => ⟨S4352x1024, .f32⟩
  | 83 => ⟨S4352x1024, .bf16⟩
  | 84 => ⟨S_, .i32⟩
  | 85 => ⟨S_, .f32⟩
  | 86 => ⟨S2x2176x8x96, .f32⟩
  | 87 => ⟨S1x2176x1x1, .f32⟩
  | 88 => ⟨S2x2176x8x1, .f32⟩
  | 89 => ⟨S_, .f32⟩
  | 90 => ⟨S2x2176x8x31, .f32⟩
  | 91 => ⟨S2x2176x8x128, .f32⟩
  | 92 => ⟨S4352x1024, .f32⟩
  | 93 => ⟨S4352x1024, .bf16⟩
  | 94 => ⟨S2x2064x512, .f32⟩
  | 95 => ⟨S_, .i32⟩
  | 96 => ⟨S_, .f32⟩
  | 97 => ⟨S2x2176x512, .f32⟩
  | 98 => ⟨S4352x512, .f32⟩
  | 99 => ⟨S4352x512, .bf16⟩
  | _ => ⟨S2x2064x1024, .f32⟩

abbrev hbmTy (i : Nat) : BufTy := match i / 128 with
  | 0 => hbmTy0_0 i
  | 1 => hbmTy0_1 i
  | _ => ⟨S2x2064x1024, .f32⟩

abbrev bufTy : (tb : Table) → Fin (tcTables nBuf tb) → BufTy
  | .hbm, ⟨i, _⟩ => hbmTy i
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_14 : Ref sig .tc := ⟨.hbm, 108, rfl⟩
abbrev main_v84 : Ref sig .tc := ⟨.hbm, 109, rfl⟩
abbrev main_v85 : Ref sig .tc := ⟨.hbm, 110, rfl⟩
abbrev main_cst_15 : Ref sig .tc := ⟨.hbm, 111, rfl⟩
abbrev main_v86 : Ref sig .tc := ⟨.hbm, 112, rfl⟩
abbrev main_v87 : Ref sig .tc := ⟨.hbm, 113, rfl⟩
abbrev main_cst_16 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_17 : Ref sig .tc := ⟨.hbm, 143, rfl⟩
abbrev main_v116 : Ref sig .tc := ⟨.hbm, 144, rfl⟩
abbrev main_v117 : Ref sig .tc := ⟨.hbm, 145, rfl⟩
abbrev main_cst_18 : Ref sig .tc := ⟨.hbm, 146, rfl⟩
abbrev main_v118 : Ref sig .tc := ⟨.hbm, 147, rfl⟩
abbrev main_v119 : Ref sig .tc := ⟨.hbm, 148, rfl⟩
abbrev main_cst_19 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_c : Ref sig .tc := ⟨.hbm, 175, rfl⟩
abbrev main_call0_v0 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_c_20 : Ref sig .tc := ⟨.hbm, 180, rfl⟩
abbrev main_v148 : Ref sig .tc := ⟨.hbm, 181, rfl⟩
abbrev main_v149 : Ref sig .tc := ⟨.hbm, 182, rfl⟩
abbrev main_cst_21 : Ref sig .tc := ⟨.hbm, 183, rfl⟩
abbrev main_v150 : Ref sig .tc := ⟨.hbm, 184, rfl⟩
abbrev main_cst_22 : Ref sig .tc := ⟨.hbm, 185, rfl⟩
abbrev main_v151 : Ref sig .tc := ⟨.hbm, 186, rfl⟩
abbrev main_v152 : Ref sig .tc := ⟨.hbm, 187, rfl⟩
abbrev main_c_23 : Ref sig .tc := ⟨.hbm, 188, rfl⟩
abbrev main_call2_v0 : Ref sig .tc := ⟨.hbm, 189, rfl⟩
abbrev main_v153 : Ref sig .tc := ⟨.hbm, 190, rfl⟩
abbrev main_v154 : Ref sig .tc := ⟨.hbm, 191, rfl⟩
abbrev main_c_24 : Ref sig .tc := ⟨.hbm, 192, rfl⟩
abbrev main_call3_v0 : Ref sig .tc := ⟨.hbm, 193, rfl⟩
abbrev main_v155 : Ref sig .tc := ⟨.hbm, 194, rfl⟩
abbrev main_v156 : Ref sig .tc := ⟨.hbm, 195, rfl⟩
abbrev main_c_25 : Ref sig .tc := ⟨.hbm, 196, rfl⟩
abbrev main_call4_v0 : Ref sig .tc := ⟨.hbm, 197, rfl⟩
abbrev main_v157 : Ref sig .tc := ⟨.hbm, 198, rfl⟩
abbrev main_v158 : Ref sig .tc := ⟨.hbm, 199, rfl⟩
abbrev main_cst_26 : Ref sig .tc := ⟨.hbm, 200, rfl⟩
abbrev main_v159 : Ref sig .tc := ⟨.hbm, 201, rfl⟩
abbrev main_c_27 : Ref sig .tc := ⟨.hbm, 202, rfl⟩
abbrev main_call5_v0 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_cst_28 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_c_29 : Ref sig .tc := ⟨.hbm, 212, rfl⟩
abbrev main_call6_v0 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_cst_30 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_c_31 : Ref sig .tc := ⟨.hbm, 223, rfl⟩
abbrev main_call7_v0 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩

abbrev nD : Nat := 1
abbrev τ : Topo := Topo.v7x

variable {F : FTy → Type} [FloatOps F]
-- ==== Proof.HeadMask.lean ====
/- The mask that picks one head's 64 lanes of a pair of heads. -/
module

public import Idealize.ShloMosaic.Lib.Pointwise

@[expose] public section

noncomputable section

open Idealize.ShloMosaic Idealize.ShloMosaic.TcCoe Idealize.SL.Sem

namespace Cert.Attn

/-- One on the lanes of head `half` of the pair (0: lanes below 64, 1: the others), zero elsewhere. -/
def headMask (half : Bool) (l : ℕ) : EReal := if decide (64 ≤ l) = half then 1 else 0

/-- The bits the kernels compute for the first head of a pair, as a number. -/
theorem mask_first (l : Fin 128) :
    FloatOps.sitofp (F := Ideal) FTy.f32 (BitVec.setWidth 32
      (IntOp.xori (IntOp.xori (IntOp.cmpi CmpIPredicate.sge (BitVec.ofNat 32 ↑l) 64#32) 0#1) 1#1)) = headMask false l := by
  have h : ∀ l : Fin 128, BitVec.setWidth 32
      (IntOp.xori (IntOp.xori (IntOp.cmpi CmpIPredicate.sge (BitVec.ofNat 32 ↑l) 64#32) 0#1) 1#1)
      = if decide (64 ≤ (l : ℕ)) = false then 1#32 else 0#32 := by decide +kernel
  rw [h l]; unfold headMask
  split <;> simp [FloatOps.sitofp]

/-- The bits the kernels compute for the second head of a pair, as a number. -/
theorem mask_second (l : Fin 128) :
    FloatOps.sitofp (F := Ideal) FTy.f32 (BitVec.setWidth 32
      (IntOp.xori (IntOp.xori (IntOp.cmpi CmpIPredicate.sge (BitVec.ofNat 32 ↑l) 64#32) 1#1) 1#1)) = headMask true l := by
  have h : ∀ l : Fin 128, BitVec.setWidth 32
      (IntOp.xori (IntOp.xori (IntOp.cmpi CmpIPredicate.sge (BitVec.ofNat 32 ↑l) 64#32) 1#1) 1#1)
      = if decide (64 ≤ (l : ℕ)) = true then 1#32 else 0#32 := by decide +kernel
  rw [h l]; unfold headMask
  split <;> simp [FloatOps.sitofp]

end Cert.Attn

end
-- ==== Proof.FwdScores.lean ====
/- A head's scores, their maximum, the exponentials and their sum, as the forward kernel's body computes them. -/
module

public import proofs.«01_k».proof.Proof.Gen.KernelIdeal.Skeleton
public import proofs.«01_k».proof.Proof.HeadMask
public import Idealize.ShloMosaic.Lib.Pointwise

@[expose] public section

set_option maxRecDepth 16384

noncomputable section

open Idealize.ShloMosaic Idealize.ShloMosaic.TcCoe Idealize.SL.Sem

namespace Cert.KernelIdeal.Value
open Cert.KernelIdeal Cert.KernelIdeal.Gen

open Cert.Attn

variable (Q : FVec Ideal S1088x128 .bf16) (K : FVec Ideal S2176x128 .bf16)

theorem raw_at (j) : k1_pay3 (F := Ideal) Q K j = ∑ l : Fin 128, Q (ix2 (j 0) l) * K (ix2 (j 1) l) := by
  pointwise [k1_pay3]

theorem max_at (j) : k1_pay4 (F := Ideal) Q K j
    = Finset.univ.fold max (Ideal.ofBits FTy.f32 4286578688#32) fun s : Fin 2176 => k1_pay3 (F := Ideal) Q K (ix2 (j 0) s) := by
  pointwise [k1_pay4]

theorem exp_at (j) : k1_pay5 (F := Ideal) Q K j
    = FloatOps.exp2 ((k1_pay3 (F := Ideal) Q K j - k1_pay4 (F := Ideal) Q K (ix2 (j 0) 0))
        * Named.named (F := Ideal) (φ := .f32) κ "scale_log2" 0x3E16C740#32) := by
  pointwise [k1_pay5]

theorem sum_at (j) : k1_pay6 (F := Ideal) Q K j = ∑ s : Fin 2176, k1_pay5 (F := Ideal) Q K (ix2 (j 0) s) := by
  pointwise [k1_pay6]

end Cert.KernelIdeal.Value

end
-- ==== Proof.FwdPay.lean ====
/- What the forward kernel's body computes, element by element. -/
module

public import proofs.«01_k».proof.Proof.Gen.KernelIdeal.Skeleton
public import proofs.«01_k».proof.Proof.HeadMask
public import proofs.«01_k».proof.Proof.FwdScores
public import Idealize.ShloMosaic.Lib.Pointwise

@[expose] public section

set_option maxRecDepth 16384

noncomputable section

open Idealize.ShloMosaic Idealize.ShloMosaic.TcCoe Idealize.SL.Sem

namespace Cert.KernelIdeal.Value
open Cert.KernelIdeal Cert.KernelIdeal.Gen

open Cert.Attn

variable (Q : FVec Ideal S1088x128 .bf16) (K : FVec Ideal S2176x128 .bf16) (V : FVec Ideal S2176x128 .bf16)

theorem out_first_at (r : Fin 1088) (l : Fin 128) : k1_pay7 (F := Ideal) V Q K (ix2 r l)
    = (∑ s : Fin 2176, k1_pay5 (F := Ideal) Q K (ix2 r s) * (V (ix2 s l) * headMask false l))
      * Ideal.div 1 (k1_pay6 (F := Ideal) Q K (ix2 r 0)) := by
  pointwise [k1_pay7, k1_pay2]
  simp only [← mask_first]

theorem out_second_at (acc : FVec Ideal S1088x128 .f32) (r : Fin 1088) (l : Fin 128) :
    k1_pay15 (F := Ideal) (k1_pay2 (F := Ideal) V) acc Q K (ix2 r l)
    = acc (ix2 r l) + (∑ s : Fin 2176, k1_pay5 (F := Ideal) Q K (ix2 r s) * (V (ix2 s l) * headMask true l))
      * Ideal.div 1 (k1_pay6 (F := Ideal) Q K (ix2 r 0)) := by
  have h13 : k1_pay13 (F := Ideal) Q K = k1_pay5 (F := Ideal) Q K := rfl
  have h14 : k1_pay14 (F := Ideal) Q K = k1_pay6 (F := Ideal) Q K := rfl
  unfold k1_pay15
  rw [h13, h14]
  pointwise [k1_pay2]
  simp only [← mask_second]

/-- One head's log-sum of a row. -/
def rowLse (r : Fin 1088) : EReal :=
  k1_pay4 (F := Ideal) Q K (ix2 r 0) * Named.named (F := Ideal) (φ := .f32) κ "scale_log2" 0x3E16C740#32
    + Ideal.log (k1_pay6 (F := Ideal) Q K (ix2 r 0)) * Named.named (F := Ideal) (φ := .f32) κ "log2_e" 0x3FB8AA3B#32

theorem lse_at (Q' : FVec Ideal S1088x128 .bf16) (K' : FVec Ideal S2176x128 .bf16) (a : Fin 1) (r : Fin 1088) (h : Fin 2) :
    k1_pay1 (F := Ideal) (k1_pay10 (k1_pay8 (F := Ideal) Q K) (k1_pay9 (F := Ideal) Q K) (Named.named (F := Ideal) (φ := .f32) κ "log2_e" 0x3FB8AA3B#32))
      (k1_pay16 (F := Ideal) Q' K') (ix3 a r h) = if h.val = 0 then rowLse Q K r else rowLse Q' K' r := by
  have h12 : k1_pay12 (F := Ideal) Q' K' = k1_pay4 (F := Ideal) Q' K' := rfl
  have h14 : k1_pay14 (F := Ideal) Q' K' = k1_pay6 (F := Ideal) Q' K' := rfl
  unfold k1_pay16
  rw [h12, h14]
  pointwise [k1_pay1, k1_pay10, k1_pay8, k1_pay9]
  have hb : ∀ h : Fin 2, IntOp.cmpi CmpIPredicate.eq (BitVec.ofNat 32 (h : ℕ)) 0#32 = if h.val = 0 then 1#1 else 0#1 := by decide
  rw [hb h]
  by_cases h0 : h.val = 0 <;> simp [h0, rowLse, Scalar.select]

end Cert.KernelIdeal.Value

end
-- ==== Proof.Spec.lean ====
/- One attention head over the real numbers: softmax of the scaled scores, its output and log-sum, and the gradients. -/
module

public import Idealize.ShloMosaic.PureOps.Ideal

@[expose] public section

noncomputable section

open Idealize.ShloMosaic

namespace Cert.Attn

/-- The scores' scale: the number the f32 constant 0x3DD105EC denotes. -/
def scale : ℝ := 3424635 / 33554432

/-- Number of rows of a sequence. -/
abbrev nRows : ℕ := 2064

/-- The rows of a head's keys. -/
abbrev Keys := Fin nRows → Fin 96 → ℝ
/-- The rows of a head's values. -/
abbrev Vals := Fin nRows → Fin 64 → ℝ

def score (q : Fin 96 → ℝ) (k : Keys) (s : Fin nRows) : ℝ := ∑ d, q d * k s d

def weight (q : Fin 96 → ℝ) (k : Keys) (s : Fin nRows) : ℝ := Real.exp (score q k s * scale)

def total (q : Fin 96 → ℝ) (k : Keys) : ℝ := ∑ s, weight q k s

def prob (q : Fin 96 → ℝ) (k : Keys) (s : Fin nRows) : ℝ := weight q k s / total q k

def out (q : Fin 96 → ℝ) (k : Keys) (v : Vals) (d : Fin 64) : ℝ := ∑ s, prob q k s * v s d

/-- The logarithm to base 2 of a row's sum of exponentials. -/
def logSum (q : Fin 96 → ℝ) (k : Keys) : ℝ := Real.log (total q k) / Real.log 2

/-- The gradient of a row's probabilities. -/
def dprob (g : Fin 64 → ℝ) (v : Vals) (s : Fin nRows) : ℝ := ∑ d, g d * v s d

/-- The gradient of a row's scaled scores. -/
def dscore (q : Fin 96 → ℝ) (k : Keys) (v : Vals) (g : Fin 64 → ℝ) (s : Fin nRows) : ℝ :=
  prob q k s * (dprob g v s - ∑ d, g d * out q k v d)

def gradQ (q : Fin 96 → ℝ) (k : Keys) (v : Vals) (g : Fin 64 → ℝ) (d : Fin 96) : ℝ :=
  (∑ s, dscore q k v g s * k s d) * scale

def gradK (q : Fin nRows → Fin 96 → ℝ) (k : Keys) (v : Vals) (g : Fin nRows → Fin 64 → ℝ) (s : Fin nRows) (d : Fin 96) : ℝ :=
  (∑ t, dscore (q t) k v (g t) s * q t d) * scale

def gradV (q : Fin nRows → Fin 96 → ℝ) (k : Keys) (g : Fin nRows → Fin 64 → ℝ) (s : Fin nRows) (d : Fin 64) : ℝ :=
  ∑ t, prob (q t) k s * g t d

theorem scale_pos : 0 < scale := by unfold scale; norm_num

theorem total_pos (q : Fin 96 → ℝ) (k : Keys) : 0 < total q k :=
  Finset.sum_pos (fun s _ => Real.exp_pos _) ⟨⟨0, by norm_num⟩, Finset.mem_univ _⟩

/-- A sum of reals read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the padded rows whose padding terms vanish. -/
theorem sum_rows {M : Type*} [AddCommMonoid M] (f : Fin 2176 → M) (h : ∀ s : Fin 2176, ¬ (s : ℕ) < nRows → f s = 0) :
    ∑ s, f s = ∑ s : Fin nRows, f ⟨s, lt_trans s.2 (by norm_num)⟩ := by
  rw [show (∑ s, f s) = ∑ s : Fin (2064 + 112), f s from rfl, Fin.sum_univ_add,
    Finset.sum_eq_zero (s := Finset.univ) (f := fun i : Fin 112 => f (Fin.natAdd 2064 i)), add_zero]
  · rfl
  · intro i _; exact h _ (by simp [Fin.natAdd])

/-- A sum over the 128 lanes of a head: 96 of data, the constant lane, and lanes that vanish. -/
theorem sum_lanes {M : Type*} [AddCommMonoid M] (f : Fin 128 → M) (h : ∀ l : Fin 128, 96 < (l : ℕ) → f l = 0) :
    ∑ l, f l = (∑ d : Fin 96, f ⟨d, lt_trans d.2 (by norm_num)⟩) + f ⟨96, by norm_num⟩ := by
  rw [show (∑ s, f s) = ∑ s : Fin (97 + 31), f s from rfl, Fin.sum_univ_add,
    Finset.sum_eq_zero (s := Finset.univ) (f := fun i : Fin 31 => f (Fin.natAdd 97 i)), add_zero]
  · rw [show (∑ i : Fin 97, f (Fin.castAdd 31 i)) = ∑ i : Fin (96 + 1), f (Fin.castAdd 31 i) from rfl, Fin.sum_univ_castSucc]; rfl
  · intro i _; exact h _ (by simp only [Fin.natAdd]; omega)

/-- A sum over the 128 lanes of a pair of heads. -/
theorem sum_pair {M : Type*} [AddCommMonoid M] (f : Fin 128 → M) :
    ∑ l, f l = (∑ d : Fin 64, f ⟨d, lt_trans d.2 (by norm_num)⟩) + ∑ d : Fin 64, f ⟨64 + d, by omega⟩ := by
  rw [show (∑ s, f s) = ∑ s : Fin (64 + 64), f s from rfl, Fin.sum_univ_add]; rfl

end Cert.Attn

end
-- ==== Proof.Lanes.lean ====
/- A head's packed rows, and the scores, exponentials and sums the kernels compute of them. -/
module

public import proofs.«01_k».proof.Proof.Spec

@[expose] public section

noncomputable section

open Idealize.ShloMosaic

namespace Cert.Attn

/-- A packed row of a head's queries: 96 lanes of data, the constant one, zeros. -/
def qLane (q : Fin 96 → ℝ) (l : Fin 128) : EReal :=
  if h : (l : ℕ) < 96 then (q ⟨l, h⟩ : EReal) else if (l : ℕ) = 96 then 1 else 0

/-- A packed row of a head's keys: 96 lanes of data (zero in the padding rows), the row's mask, zeros. -/
def kLane (k : Keys) (s : Fin 2176) (l : Fin 128) : EReal :=
  if h : (l : ℕ) < 96 then (if hs : (s : ℕ) < nRows then (k ⟨s, hs⟩ ⟨l, h⟩ : EReal) else 0)
  else if (l : ℕ) = 96 then (if (s : ℕ) < nRows then 0 else ⊥) else 0

/-- The constant the kernels multiply the scores by, under the power of two. -/
def scaleLog2 : ℝ := 3424635 / 33554432 * (Real.log 2)⁻¹

theorem log_two_pos : 0 < Real.log 2 := Real.log_pos (by norm_num)

theorem scaleLog2_pos : 0 < scaleLog2 := mul_pos (by norm_num) (inv_pos.mpr log_two_pos)

theorem scaleLog2_mul : scaleLog2 * Real.log 2 = scale := by
  unfold scaleLog2 scale
  rw [mul_assoc, inv_mul_cancel₀ log_two_pos.ne', mul_one]

/-- A score of packed rows: the score of the data, or minus infinity at a padding key. -/
theorem sum_score (q : Fin 96 → ℝ) (k : Keys) (s : Fin 2176) :
    ∑ l, qLane q l * kLane k s l = if hs : (s : ℕ) < nRows then (score q k ⟨s, hs⟩ : EReal) else ⊥ := by
  rw [sum_lanes _ fun l hl => by
    rw [qLane, dif_neg (by omega), if_neg (by omega), zero_mul]]
  have hd : ∀ d : Fin 96, qLane q ⟨d, lt_trans d.2 (by norm_num)⟩ = (q d : EReal) := fun d => by
    rw [qLane, dif_pos (show (d : ℕ) < 96 from d.2)]
  have h1 : qLane q ⟨96, by norm_num⟩ = 1 := by rw [qLane, dif_neg (by simp), if_pos rfl]
  have hk : kLane k s ⟨96, by norm_num⟩ = if (s : ℕ) < nRows then 0 else ⊥ := by
    rw [kLane, dif_neg (by simp), if_pos rfl]
  rw [h1, hk, one_mul]
  split
  · next hs =>
    have hkd : ∀ d : Fin 96, kLane k s ⟨d, lt_trans d.2 (by norm_num)⟩ = (k ⟨s, hs⟩ d : EReal) := fun d => by
      rw [kLane, dif_pos (show (d : ℕ) < 96 from d.2), dif_pos hs]
    rw [add_zero, score, coe_sum]
    exact Finset.sum_congr rfl fun d _ => by rw [hd, hkd, EReal.coe_mul]
  · rw [EReal.add_bot]

/-- The largest score of a row is a real number. -/
theorem max_real (q : Fin 96 → ℝ) (k : Keys) (f : Fin 2176 → EReal)
    (hf : ∀ s, f s = if hs : (s : ℕ) < nRows then (score q k ⟨s, hs⟩ : EReal) else ⊥) :
    ∃ M : ℝ, Finset.univ.fold max ⊥ f = (M : EReal) := by
  have hlt : Finset.univ.fold max ⊥ f < ⊤ := by
    rw [Finset.fold_max_lt]
    refine ⟨bot_lt_top, fun s _ => ?_⟩
    rw [hf]; split
    · exact EReal.coe_lt_top _
    · exact bot_lt_top
  have hgt : ⊥ < Finset.univ.fold max ⊥ f := by
    rw [Finset.lt_fold_max]
    refine .inr ⟨⟨0, by norm_num⟩, Finset.mem_univ _, ?_⟩
    rw [hf, dif_pos (by norm_num)]
    exact EReal.bot_lt_coe _
  exact ⟨_, (EReal.coe_toReal hlt.ne hgt.ne').symm⟩

/-- A power of two of a scaled difference of scores is an exponential of the scores' difference. -/
theorem rpow_scale (x : ℝ) : Real.rpow 2 (x * scaleLog2) = Real.exp (x * scale) := by
  show (2 : ℝ) ^ (x * scaleLog2) = _
  rw [Real.rpow_def_of_pos (by norm_num), ← scaleLog2_mul]
  congr 1; ring

/-- The forward kernel's exponential of a score less the row's maximum `M`. -/
theorem exp_score (q : Fin 96 → ℝ) (k : Keys) (M : ℝ) (s : Fin 2176) :
    Ideal.exp2 (((if hs : (s : ℕ) < nRows then (score q k ⟨s, hs⟩ : EReal) else ⊥) - (M : EReal)) * (scaleLog2 : EReal))
      = if hs : (s : ℕ) < nRows then ((weight q k ⟨s, hs⟩ * Real.exp (-(M * scale)) : ℝ) : EReal) else 0 := by
  split
  · rw [← EReal.coe_sub, ← EReal.coe_mul, Ideal.exp2_coe, rpow_scale, weight, ← Real.exp_add]
    congr 2; ring
  · rw [EReal.bot_sub, EReal.bot_mul_coe_of_pos scaleLog2_pos, Ideal.exp2_bot]

/-- The row's sum of the kernel's exponentials. -/
theorem sum_exp (q : Fin 96 → ℝ) (k : Keys) (M : ℝ) (f : Fin 2176 → EReal)
    (hf : ∀ s, f s = if hs : (s : ℕ) < nRows then ((weight q k ⟨s, hs⟩ * Real.exp (-(M * scale)) : ℝ) : EReal) else 0) :
    ∑ s, f s = ((total q k * Real.exp (-(M * scale)) : ℝ) : EReal) := by
  rw [sum_rows f fun s hs => by rw [hf, dif_neg hs], total, Finset.sum_mul, coe_sum]
  exact Finset.sum_congr rfl fun s _ => by rw [hf, dif_pos s.2]

/-- The kernel's quotient of sums is the head's output. -/
theorem quotient_out (q : Fin 96 → ℝ) (k : Keys) (v : Vals) (d : Fin 64) (M : ℝ) (f g : Fin 2176 → EReal)
    (hf : ∀ s, f s = if hs : (s : ℕ) < nRows then ((weight q k ⟨s, hs⟩ * Real.exp (-(M * scale)) : ℝ) : EReal) else 0)
    (hg : ∀ (s : Fin 2176) (hs : (s : ℕ) < nRows), g s = (v ⟨s, hs⟩ d : EReal)) :
    (∑ s, f s * g s) * Ideal.div 1 ((total q k * Real.exp (-(M * scale)) : ℝ) : EReal) = (out q k v d : EReal) := by
  have hp : total q k * Real.exp (-(M * scale)) ≠ 0 := (mul_pos (total_pos q k) (Real.exp_pos _)).ne'
  rw [sum_rows _ fun s hs => by rw [hf, dif_neg hs, zero_mul], Ideal.div_coe hp, one_mul]
  have : (∑ s : Fin nRows, f ⟨s, lt_trans s.2 (by norm_num)⟩ * g ⟨s, lt_trans s.2 (by norm_num)⟩)
      = ((∑ s : Fin nRows, weight q k s * Real.exp (-(M * scale)) * v s d : ℝ) : EReal) := by
    rw [coe_sum]
    exact Finset.sum_congr rfl fun s _ => by rw [hf, dif_pos s.2, hg _ s.2, EReal.coe_mul (_ * _)]
  rw [this, ← EReal.coe_mul, out, Finset.sum_mul]
  congr 1
  refine Finset.sum_congr rfl fun s _ => ?_
  rw [prob]
  have h1 := (total_pos q k).ne'
  have h2 := (Real.exp_pos (-(M * scale))).ne'
  field_simp

/-- The kernel's log-sum of a row. -/
theorem lse_real (q : Fin 96 → ℝ) (k : Keys) (M : ℝ) :
    (M : EReal) * (scaleLog2 : EReal) + Ideal.log ((total q k * Real.exp (-(M * scale)) : ℝ) : EReal) * (((Real.log 2)⁻¹ : ℝ) : EReal)
      = (logSum q k : EReal) := by
  have hp : 0 < total q k * Real.exp (-(M * scale)) := mul_pos (total_pos q k) (Real.exp_pos _)
  rw [Ideal.log_coe, if_neg (not_le.mpr hp), ← EReal.coe_mul, ← EReal.coe_mul, ← EReal.coe_add,
    Real.log_mul (total_pos q k).ne' (Real.exp_pos _).ne', Real.log_exp, logSum]
  congr 1
  rw [← scaleLog2_mul]
  have := log_two_pos.ne'
  field_simp
  ring

/-- The backward kernel's probability, from the saved log-sum. -/
theorem prob_real (q : Fin 96 → ℝ) (k : Keys) (s : Fin 2176) :
    Ideal.exp2 ((if hs : (s : ℕ) < nRows then (score q k ⟨s, hs⟩ : EReal) else ⊥) * (scaleLog2 : EReal) - (logSum q k : EReal))
      = if hs : (s : ℕ) < nRows then (prob q k ⟨s, hs⟩ : EReal) else 0 := by
  split
  · next hs =>
    rw [← EReal.coe_mul, ← EReal.coe_sub, Ideal.exp2_coe]
    congr 1
    show (2 : ℝ) ^ (score q k ⟨s, hs⟩ * scaleLog2 - logSum q k) = _
    rw [Real.rpow_sub (by norm_num)]
    have h1 := rpow_scale (score q k ⟨s, hs⟩)
    change (2 : ℝ) ^ (score q k ⟨s, hs⟩ * scaleLog2) = _ at h1
    rw [h1, prob, weight]
    congr 1
    rw [Real.rpow_def_of_pos (by norm_num), logSum, mul_div_cancel₀ _ log_two_pos.ne', Real.exp_log (total_pos q k)]
  · rw [EReal.bot_mul_coe_of_pos scaleLog2_pos, EReal.bot_sub, Ideal.exp2_bot]

end Cert.Attn

end
-- ==== Proof.FwdRow.lean ====
/- The forward kernel's block on packed rows: the two heads' outputs and log-sums. -/
module

public import proofs.«01_k».proof.Proof.FwdPay
public import proofs.«01_k».proof.Proof.Lanes
public import Idealize.ShloMosaic.PureOps.IdealRules

@[expose] public section

set_option maxRecDepth 16384

noncomputable section

open Idealize.ShloMosaic Idealize.ShloMosaic.TcCoe Idealize.SL.Sem

namespace Cert.KernelIdeal.Value
open Cert.KernelIdeal Cert.KernelIdeal.Gen

open Cert.Attn

theorem named_scale : Named.named (F := Ideal) (φ := .f32) κ "scale_log2" 0x3E16C740#32 = ((scaleLog2 : ℝ) : EReal) :=
  IdealRules.named_const.ideal_named_scalar _ _ _ _ rfl

theorem named_log2_e : Named.named (F := Ideal) (φ := .f32) κ "log2_e" 0x3FB8AA3B#32 = (((Real.log 2)⁻¹ : ℝ) : EReal) :=
  IdealRules.named_const.ideal_named_scalar _ _ _ _ rfl

theorem named_mask : Named.named (F := Ideal) (φ := .f32) κ "mask" 0xC6EA6000#32 = (⊥ : EReal) :=
  IdealRules.named_const.ideal_named_scalar _ _ _ _ rfl

theorem neg_inf : Ideal.ofBits FTy.f32 4286578688#32 = (⊥ : EReal) := by simp [Ideal.ofBits, Ideal.ieee]

theorem scale_bits : Ideal.ofBits .f32 0x3DD105EC#32 = ((scale : ℝ) : EReal) := by
  unfold scale; simp [Ideal.ofBits, Ideal.ieee, -EReal.coe_mul]; norm_num

section
variable {Q : FVec Ideal S1088x128 .bf16} {K : FVec Ideal S2176x128 .bf16}
  {q : Fin 1088 → Fin 96 → ℝ} {k : Keys}

theorem raw_row (hQ : ∀ r l, Q (ix2 r l) = qLane (q r) l) (hK : ∀ s l, K (ix2 s l) = kLane k s l) (r : Fin 1088) (s : Fin 2176) :
    k1_pay3 (F := Ideal) Q K (ix2 r s) = if hs : (s : ℕ) < nRows then (score (q r) k ⟨s, hs⟩ : EReal) else ⊥ := by
  rw [raw_at, ← sum_score]
  exact Finset.sum_congr rfl fun l _ => by rw [← hQ, ← hK]; rfl

/-- A row's maximum is a real number, and with it the exponentials and their sum. -/
theorem row_max (hQ : ∀ r l, Q (ix2 r l) = qLane (q r) l) (hK : ∀ s l, K (ix2 s l) = kLane k s l) (r : Fin 1088) :
    ∃ M : ℝ, k1_pay4 (F := Ideal) Q K (ix2 r 0) = (M : EReal)
      ∧ (∀ s : Fin 2176, k1_pay5 (F := Ideal) Q K (ix2 r s)
          = if hs : (s : ℕ) < nRows then ((weight (q r) k ⟨s, hs⟩ * Real.exp (-(M * scale)) : ℝ) : EReal) else 0)
      ∧ k1_pay6 (F := Ideal) Q K (ix2 r 0) = ((total (q r) k * Real.exp (-(M * scale)) : ℝ) : EReal) := by
  obtain ⟨M, hM⟩ := max_real (q r) k _ (raw_row hQ hK r)
  have h4 : k1_pay4 (F := Ideal) Q K (ix2 r 0) = (M : EReal) := by
    rw [max_at, neg_inf]; exact hM
  have h5 : ∀ s : Fin 2176, k1_pay5 (F := Ideal) Q K (ix2 r s)
      = if hs : (s : ℕ) < nRows then ((weight (q r) k ⟨s, hs⟩ * Real.exp (-(M * scale)) : ℝ) : EReal) else 0 := fun s => by
    rw [exp_at, raw_row hQ hK, named_scale]
    rw [show k1_pay4 (F := Ideal) Q K (ix2 ((ix2 r s : S1088x2176.Idx) 0) 0) = (M : EReal) from h4]
    exact exp_score (q r) k M s
  exact ⟨M, h4, h5, by rw [sum_at]; exact sum_exp (q r) k M _ h5⟩

theorem rowLse_real (hQ : ∀ r l, Q (ix2 r l) = qLane (q r) l) (hK : ∀ s l, K (ix2 s l) = kLane k s l) (r : Fin 1088) :
    rowLse Q K r = (logSum (q r) k : EReal) := by
  obtain ⟨M, h4, -, h6⟩ := row_max hQ hK r
  rw [rowLse, h4, h6, named_scale, named_log2_e]
  exact lse_real (q r) k M

end

/-- A packed row of a pair of heads' values, zero in the padding rows. -/
def vLane (v₀ v₁ : Vals) (s : Fin 2176) (l : Fin 128) : EReal :=
  if hs : (s : ℕ) < nRows then
    (if h : (l : ℕ) < 64 then (v₀ ⟨s, hs⟩ ⟨l, h⟩ : EReal) else (v₁ ⟨s, hs⟩ ⟨(l : ℕ) - 64, by omega⟩ : EReal))
  else 0

/-- A row of a pair of heads' 64 lanes each. -/
def pairLane (g₀ g₁ : Fin 64 → ℝ) (l : Fin 128) : ℝ :=
  if h : (l : ℕ) < 64 then g₀ ⟨l, h⟩ else g₁ ⟨(l : ℕ) - 64, by omega⟩

theorem mask_low {l : Fin 128} (h : (l : ℕ) < 64) : headMask false l = 1 ∧ headMask true l = 0 := by
  unfold headMask; constructor <;> simp <;> omega

theorem mask_high {l : Fin 128} (h : ¬ (l : ℕ) < 64) : headMask false l = 0 ∧ headMask true l = 1 := by
  unfold headMask; constructor <;> simp <;> omega

theorem pair_out {Q₀ Q₁ : FVec Ideal S1088x128 .bf16} {K₀ K₁ V : FVec Ideal S2176x128 .bf16}
    {q₀ q₁ : Fin 1088 → Fin 96 → ℝ} {k₀ k₁ : Keys} {v₀ v₁ : Vals}
    (hQ₀ : ∀ r l, Q₀ (ix2 r l) = qLane (q₀ r) l) (hK₀ : ∀ s l, K₀ (ix2 s l) = kLane k₀ s l)
    (hQ₁ : ∀ r l, Q₁ (ix2 r l) = qLane (q₁ r) l) (hK₁ : ∀ s l, K₁ (ix2 s l) = kLane k₁ s l)
    (hV : ∀ s l, V (ix2 s l) = vLane v₀ v₁ s l) (r : Fin 1088) (l : Fin 128) :
    k1_pay15 (F := Ideal) (k1_pay2 (F := Ideal) V) (k1_pay7 (F := Ideal) V Q₀ K₀) Q₁ K₁ (ix2 r l)
      = ((pairLane (out (q₀ r) k₀ v₀) (out (q₁ r) k₁ v₁) l : ℝ) : EReal) := by
  obtain ⟨M₀, -, h5, h6⟩ := row_max hQ₀ hK₀ r
  obtain ⟨M₁, -, h5', h6'⟩ := row_max hQ₁ hK₁ r
  rw [out_second_at, out_first_at, h6, h6']
  have hz : ∀ f : Fin 2176 → EReal, (∑ s, f s * (V (ix2 s l) * 0)) = 0 := fun f =>
    Finset.sum_eq_zero fun s _ => by rw [mul_zero, mul_zero]
  by_cases h : (l : ℕ) < 64
  · rw [(mask_low h).1, (mask_low h).2, hz, zero_mul, add_zero, pairLane, dif_pos h]
    exact quotient_out (q₀ r) k₀ v₀ _ M₀ _ _ h5 fun s hs => by rw [mul_one, hV, vLane, dif_pos hs, dif_pos h]
  · rw [(mask_high h).1, (mask_high h).2, hz, zero_mul, zero_add, pairLane, dif_neg h]
    exact quotient_out (q₁ r) k₁ v₁ _ M₁ _ _ h5' fun s hs => by rw [mul_one, hV, vLane, dif_pos hs, dif_neg h]

end Cert.KernelIdeal.Value

end
-- ==== Proof.Host.lean ====
/- The arrays the attention kernels take, element by element: the heads' rows padded, packed and masked. -/
module

public import proofs.«01_k».proof.Proof.FwdRow
public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelIdeal.Value
open Cert.KernelIdeal Cert.KernelIdeal.Gen

open Cert.Attn

variable (m : (ℓ : Loc nD τ sig) → Buf (Elt Ideal) ℓ) (ρ : Dev nD → PrngReg) (c : Dev nD)

/-- The padding rows of a query or key array. -/
abbrev padQK (x : FVec Ideal S2x2064x8x96 .f32) : FVec Ideal S2x2176x8x96 .f32 :=
  pad S2x2176x8x96 ![0, 0, 0, 0] ![0, 112, 0, 0] ![0, 0, 0, 0] x (sitofp .f32 (constantI S_ 32 0#32))
    pads_S2x2064x8x96_S2x2176x8x96_000_01120_000_000 h_S_

/-- The padding rows of a value array. -/
abbrev padV (x : FVec Ideal S2x2064x8x64 .f32) : FVec Ideal S2x2176x8x64 .f32 :=
  pad S2x2176x8x64 ![0, 0, 0, 0] ![0, 112, 0, 0] ![0, 0, 0, 0] x (sitofp .f32 (constantI S_ 32 0#32))
    pads_S2x2064x8x64_S2x2176x8x64_000_01120_000_000 h_S_

/-- The padding rows of the cotangent. -/
abbrev padG (x : FVec Ideal S2x2064x512 .f32) : FVec Ideal S2x2176x512 .f32 :=
  pad S2x2176x512 ![0, 0, 0] ![0, 112, 0] ![0, 0, 0] x (sitofp .f32 (constantI S_ 32 0#32))
    pads_S2x2064x512_S2x2176x512_000_01120_000 h_S_

/-- Three pieces of a head's 128 lanes side by side, the heads in one row. -/
abbrev packLanes (x : FVec Ideal S2x2176x8x96 .f32) (y : FVec Ideal S2x2176x8x1 .f32) (z : FVec Ideal S2x2176x8x31 .f32) :
    FVec Ideal S4352x1024 .bf16 :=
  truncf .bf16 (shapeCast S4352x1024 (concatenate S2x2176x8x128 3 [⟨S2x2176x8x96, x⟩, ⟨S2x2176x8x1, y⟩, ⟨S2x2176x8x31, z⟩]
    concatenates_S2x2176x8x96_S2x2176x8x1_S2x2176x8x31_S2x2176x8x128_d3) shapeCasts_S2x2176x8x128_S4352x1024) bitsLt_bf16_f32

section
variable (σ : Valuation τ sig (Elt Ideal))

theorem host_v1 : StableHlo.after hostOps0 σ main_v1
    = (broadcastInDim S2176x1 ![] bcast_S_S2176x1 (constant S_ .f32 0x00000000#32) : FVec Ideal S2176x1 .f32) := by
  entry_read
  rfl

theorem host_v0 : StableHlo.after hostOps0 σ main_v0
    = (broadcastInDim S2x2176x8x1 ![] bcast_S_S2x2176x8x1 (constant S_ .f32 0x3F800000#32) : FVec Ideal S2x2176x8x1 .f32) := by
  entry_read
  rfl

theorem host_v5 : StableHlo.after hostOps1 σ main_v5
    = (broadcastInDim S2x2176x8x31 ![] bcast_S_S2x2176x8x31 (constant S_ .f32 0x00000000#32) : FVec Ideal S2x2176x8x31 .f32) := by
  entry_read
  rfl

theorem host_v4 : StableHlo.after hostOps1 σ main_v4
    = (broadcastInDim S2x2176x8x1 ![0, 1, 2, 3] bcast_S1x2176x1x1_S2x2176x8x1_0_1_2_3
      (broadcastInDim S1x2176x1x1 ![1, 3] bcast_S2176x1_S1x2176x1x1_1_3 (σ main_v2 : FVec Ideal S2176x1 .f32)) :
      FVec Ideal S2x2176x8x1 .f32) := by
  entry_read
  rfl

theorem host_c : StableHlo.after hostOps1 σ main_c = constantI S_ 32 0#32 := by entry_read; rfl
theorem host_c_2 : StableHlo.after hostOps1_2 σ main_c_2 = constantI S_ 32 0#32 := by entry_read; rfl
theorem host_c_3 : StableHlo.after hostOps1_4 σ main_c_3 = constantI S_ 32 0#32 := by entry_read; rfl
theorem host_c_4 : StableHlo.after hostOps2 σ main_c_4 = constantI S_ 32 0#32 := by entry_read; rfl

theorem host_v6 (hc : σ main_c = constantI S_ 32 0#32) : StableHlo.after hostOps1_1 σ main_v6 = padQK (σ main_arg0) := by
  entry_read
  rw [hc]
  rfl

theorem host_v9 : StableHlo.after hostOps1_2 σ main_v9 = packLanes (σ main_v6) (σ main_v0) (σ main_v5) := by
  entry_read
  rfl

theorem host_v10 (hc : σ main_c_2 = constantI S_ 32 0#32) : StableHlo.after hostOps1_3 σ main_v10 = padQK (σ main_arg1) := by
  entry_read
  rw [hc]
  rfl

theorem host_v13 : StableHlo.after hostOps1_4 σ main_v13 = packLanes (σ main_v10) (σ main_v4) (σ main_v5) := by
  entry_read
  rfl

theorem host_v14 (hc : σ main_c_3 = constantI S_ 32 0#32) : StableHlo.after hostOps1_5 σ main_v14 = padV (σ main_arg2) := by
  entry_read
  rw [hc]
  rfl

theorem host_v16 : StableHlo.after hostOps1_6 σ main_v16
    = (truncf .bf16 (shapeCast S4352x512 (σ main_v14 : FVec Ideal S2x2176x8x64 .f32) shapeCasts_S2x2176x8x64_S4352x512) bitsLt_bf16_f32 :
      FVec Ideal S4352x512 .bf16) := by
  entry_read
  rfl

theorem host_v18 (hc : σ main_c_4 = constantI S_ 32 0#32) : StableHlo.after hostOps2_1 σ main_v18
    = padG (σ main_arg3) := by
  entry_read
  rw [hc]
  rfl

theorem host_v19 : StableHlo.after hostOps2_2 σ main_v19
    = (shapeCast S4352x512 (σ main_v18 : FVec Ideal S2x2176x512 .f32) shapeCasts_S2x2176x512_S4352x512 : FVec Ideal S4352x512 .f32) := by
  entry_read
  rfl

end

theorem sitofp_zero : FloatOps.sitofp (F := Ideal) FTy.f32 (0#32) = (0 : EReal) := by
  show (((0#32 : BitVec 32).toInt : ℝ) : EReal) = 0
  simp

/-- The packed lanes at an index. -/
theorem pack_at (x : FVec Ideal S2x2064x8x96 .f32) (y : FVec Ideal S2x2176x8x1 .f32) (z : FVec Ideal S2x2176x8x31 .f32) (hz : ∀ i, z i = 0)
    (j : S4352x1024.Idx) (b : Fin 2) (t : Fin 2176) (h : Fin 8) (l : Fin 128)
    (h0 : (j 0 : ℕ) = b * 2176 + t) (h1 : (j 1 : ℕ) = h * 128 + l) :
    packLanes (padQK x) y z j = if hl : (l : ℕ) < 96 then (if ht : (t : ℕ) < nRows then x (ix4 b ⟨t, ht⟩ h ⟨l, hl⟩) else 0)
      else if (l : ℕ) = 96 then y (ix4 b t h 0) else 0 := by
  have e0 : (j 0 : ℕ) / 2176 = b := by omega
  have e1 : (j 0 : ℕ) % 2176 = t := by omega
  have e2 : (j 1 : ℕ) / 128 = h := by omega
  have e3 : (j 1 : ℕ) % 128 = l := by omega
  pointwise [packLanes, padQK]
  simp only [e0, e1, e2, e3, hz, sitofp_zero, b.2, h.2, true_and]
  by_cases hl : (l : ℕ) < 96
  · simp only [dif_pos hl, hl, and_true]
    rfl
  · rw [dif_neg hl, dif_neg hl]
    by_cases h96 : (l : ℕ) = 96
    · rw [if_pos h96, dif_pos (by omega)]
      congr 2
      exact Fin.ext (by simp; omega)
    · rw [if_neg h96, dif_neg (by omega)]

/-- The packed values at an index. -/
theorem packV_at (x : FVec Ideal S2x2064x8x64 .f32) (j : S4352x512.Idx) (b : Fin 2) (t : Fin 2176) (h : Fin 8) (d : Fin 64)
    (h0 : (j 0 : ℕ) = b * 2176 + t) (h1 : (j 1 : ℕ) = h * 64 + d) :
    (truncf .bf16 (shapeCast S4352x512 (padV x) shapeCasts_S2x2176x8x64_S4352x512) bitsLt_bf16_f32 : FVec Ideal S4352x512 .bf16) j
    = if ht : (t : ℕ) < nRows then x (ix4 b ⟨t, ht⟩ h d) else 0 := by
  have e0 : (j 0 : ℕ) / 2176 = b := by omega
  have e1 : (j 0 : ℕ) % 2176 = t := by omega
  have e2 : (j 1 : ℕ) / 64 = h := by omega
  have e3 : (j 1 : ℕ) % 64 = d := by omega
  pointwise [padV]
  simp only [e0, e1, e2, e3, sitofp_zero, b.2, h.2, d.2, true_and, and_true]

/-- The padded cotangent at an index. -/
theorem packG_at (x : FVec Ideal S2x2064x512 .f32) (j : S4352x512.Idx) (b : Fin 2) (t : Fin 2176) (l : Fin 512)
    (h0 : (j 0 : ℕ) = b * 2176 + t) (h1 : (j 1 : ℕ) = l) :
    (shapeCast S4352x512 (padG x) shapeCasts_S2x2176x512_S4352x512 : FVec Ideal S4352x512 .f32) j
    = if ht : (t : ℕ) < nRows then x (ix3 b ⟨t, ht⟩ l) else 0 := by
  have e0 : (j 0 : ℕ) / 2176 = b := by omega
  have e1 : (j 0 : ℕ) % 2176 = t := by omega
  have e2 : j 1 = l := Fin.ext h1
  pointwise [padG]
  simp only [e0, e1, e2, sitofp_zero, b.2, l.2, true_and, and_true]

/-- The kernel that writes the mask: zero at the sequence's rows, minus infinity at the padding rows. -/
theorem mask_pay (x : FVec Ideal S2176x1 .f32) (hx : ∀ i, x i = 0) (i : S2176x1.Idx) :
    k0_pay1 (F := Ideal) x i = if (i 0 : ℕ) < nRows then (0 : EReal) else ⊥ := by
  have h : ∀ r : Fin 2176, IntOp.cmpi CmpIPredicate.slt (BitVec.ofNat 32 (r : ℕ)) 2064#32 = if (r : ℕ) < nRows then 1#1 else 0#1 := by
    decide +kernel
  pointwise [k0_pay1]
  have h0 := h (i 0)
  rw [named_mask, hx]
  erw [h0]
  split
  · rfl
  · rfl

/-- The mask the first region leaves. -/
theorem v2_at (i : S2176x1.Idx) : W2 m ρ c main_v2 i = if (i 0 : ℕ) < nRows then (0 : EReal) else ⊥ := by
  have h1 : ∀ i : S2176x1.Idx, V1 m ρ c main_v1 i = (0 : EReal) := fun i => by
    show StableHlo.after hostOps0 (W0 m ρ c) main_v1 i = (0 : EReal)
    rw [host_v1]
    pointwise
  have h2 : W2 m ρ c main_v2 = (dat0 (V1 m ρ) c).arrAt 1 cfg0.N := W2_arr m ρ c 1
  have h3 : (dat0 (V1 m ρ) c).arrAt 1 cfg0.N = fun i : S2176x1.Idx => if (i 0 : ℕ) < nRows then (0 : EReal) else ⊥ := by
    refine (dat0 (V1 m ρ) c).arrAt_eq_of_covers 1 _ (by decide +kernel) fun t hf y => ?_
    blk_simp
    rw [after0_1]
    frame_out
    rw [mask_pay _ (fun i => by blk_simp [iblk0]; exact h1 _)]
    have h0 : win0_1.index t 0 = 0 := by
      have := (by decide +kernel : ∀ t : Fin grid0.N, win0_1.index t 0 = 0) t
      exact this
    rw [h0, zero_mul, zero_add]
  rw [h2, h3]

end Cert.KernelIdeal.Value

end
-- ==== Proof.Entry.lean ====
/- The arrays at the entry of the attention regions, in terms of the real numbers the arguments hold. -/
module

public import proofs.«01_k».proof.Proof.Host

@[expose] public section

set_option maxRecDepth 16384

noncomputable section

open Idealize.ShloMosaic Idealize.ShloMosaic.TcCoe Idealize.SL.Sem

namespace Cert.KernelIdeal.Value
open Cert.KernelIdeal Cert.KernelIdeal.Gen

open Cert.Attn

/-- The real numbers of an array of heads. -/
def headsOf {n : ℕ} (x : FVec Ideal ⟨4, ![2, 2064, 8, n]⟩ .f32) (b : Fin 2) (h : Fin 8) (t : Fin nRows) (d : Fin n) : ℝ :=
  EReal.toReal (x (ix4 b t h d))

/-- The real numbers of the cotangent, by heads. -/
def cotOf (x : FVec Ideal ⟨3, ![2, 2064, 512]⟩ .f32) (b : Fin 2) (h : Fin 8) (t : Fin nRows) (d : Fin 64) : ℝ :=
  EReal.toReal (x (ix3 b t ⟨(h : ℕ) * 64 + d, by omega⟩))

/-- A head's rows continued by rows of zeros. -/
def padRow {n : ℕ} (q : Fin nRows → Fin n → ℝ) (t : ℕ) : Fin n → ℝ := fun d => if ht : t < nRows then q ⟨t, ht⟩ d else 0

section
variable (m : (ℓ : Loc nD τ sig) → Buf (Elt Ideal) ℓ) (ρ : Dev nD → PrngReg) (c : Dev nD)

/-- The arguments of a device. -/
abbrev argQ : FVec Ideal S2x2064x8x96 .f32 := m ((c : Thread nD τ).loc main_arg0)
abbrev argK : FVec Ideal S2x2064x8x96 .f32 := m ((c : Thread nD τ).loc main_arg1)
abbrev argV : FVec Ideal S2x2064x8x64 .f32 := m ((c : Thread nD τ).loc main_arg2)
abbrev argG : FVec Ideal S2x2064x512 .f32 := m ((c : Thread nD τ).loc main_arg3)

/-- Every element of an array is a real number. -/
def AllReal {s : Shape} (x : FVec Ideal s .f32) : Prop := ∀ i, (x i : EReal) = (EReal.toReal (x i) : EReal)

theorem zeros_at (i : S2x2176x8x31.Idx) : W3 m ρ c main_v5 i = (0 : EReal) := by
  show StableHlo.after hostOps1 (W2 m ρ c) main_v5 i = (0 : EReal)
  rw [host_v5]
  pointwise

theorem ones_at (i : S2x2176x8x1.Idx) : W1 m ρ c main_v0 i = (1 : EReal) := by
  show StableHlo.after hostOps0 (W0 m ρ c) main_v0 i = (1 : EReal)
  rw [host_v0]
  pointwise

theorem mask_at (b : Fin 2) (t : Fin 2176) (h : Fin 8) :
    W3 m ρ c main_v4 (ix4 b t h 0) = if (t : ℕ) < nRows then (0 : EReal) else ⊥ := by
  show StableHlo.after hostOps1 (W2 m ρ c) main_v4 (ix4 b t h 0) = if (t : ℕ) < nRows then (0 : EReal) else ⊥
  rw [host_v4]
  pointwise
  exact v2_at m ρ c (ix2 t 0)

theorem entry_q (hx : AllReal (argQ m c)) (j : S4352x1024.Idx) (b : Fin 2) (t : Fin 2176) (h : Fin 8) (l : Fin 128)
    (h0 : (j 0 : ℕ) = b * 2176 + t) (h1 : (j 1 : ℕ) = h * 128 + l) :
    V9 m ρ c main_v9 j = qLane (padRow (headsOf (argQ m c) b h) t) l := by
  have e : V9 m ρ c main_v9 = packLanes (padQK (argQ m c)) (W4 m ρ c main_v0) (W4 m ρ c main_v5) := by
    show W9 m ρ c main_v9 = _
    rw [W9_of m ρ c main_v9 (by decide), W8_of m ρ c main_v9 (by decide), W7_of m ρ c main_v9 (by decide), W6_of m ρ c main_v9 (by decide)]
    show StableHlo.after hostOps1_2 (W4 m ρ c) main_v9 = _
    rw [host_v9]
    have e6 : W4 m ρ c main_v6 = padQK (argQ m c) := by
      show StableHlo.after hostOps1_1 (W3 m ρ c) main_v6 = _
      rw [host_v6]
      · exact congrArg padQK (W3_args m ρ c main_arg0 (by decide))
      · exact host_c (W2 m ρ c)
    rw [e6]
  rw [e, pack_at (argQ m c) _ _ (fun i => by rw [W4_of m ρ c main_v5 (by decide)]; exact zeros_at m ρ c i) j b t h l h0 h1, qLane]
  have e1 : W4 m ρ c main_v0 (ix4 b t h 0) = (1 : EReal) := by
    rw [W4_of m ρ c main_v0 (by decide), W3_of m ρ c main_v0 (by decide), W2_of m ρ c main_v0 (by decide)]
    exact ones_at m ρ c _
  rw [e1]
  split
  · next hl =>
    rw [padRow]
    split
    · exact hx _
    · rw [EReal.coe_zero]
  · rfl

theorem entry_k (hx : AllReal (argK m c)) (j : S4352x1024.Idx) (b : Fin 2) (t : Fin 2176) (h : Fin 8) (l : Fin 128)
    (h0 : (j 0 : ℕ) = b * 2176 + t) (h1 : (j 1 : ℕ) = h * 128 + l) :
    V9 m ρ c main_v13 j = kLane (headsOf (argK m c) b h) t l := by
  have e : V9 m ρ c main_v13 = packLanes (padQK (argK m c)) (W6 m ρ c main_v4) (W6 m ρ c main_v5) := by
    show W9 m ρ c main_v13 = _
    rw [W9_of m ρ c main_v13 (by decide), W8_of m ρ c main_v13 (by decide)]
    show StableHlo.after hostOps1_4 (W6 m ρ c) main_v13 = _
    rw [host_v13]
    have e6 : W6 m ρ c main_v10 = padQK (argK m c) := by
      show StableHlo.after hostOps1_3 (W5 m ρ c) main_v10 = _
      rw [host_v10]
      · exact congrArg padQK (W5_args m ρ c main_arg1 (by decide))
      · exact host_c_2 (W4 m ρ c)
    rw [e6]
  rw [e, pack_at (argK m c) _ _ (fun i => by
    rw [W6_of m ρ c main_v5 (by decide), W5_of m ρ c main_v5 (by decide), W4_of m ρ c main_v5 (by decide)]
    exact zeros_at m ρ c i) j b t h l h0 h1, kLane]
  have e1 : W6 m ρ c main_v4 (ix4 b t h 0) = if (t : ℕ) < nRows then (0 : EReal) else ⊥ := by
    rw [W6_of m ρ c main_v4 (by decide), W5_of m ρ c main_v4 (by decide), W4_of m ρ c main_v4 (by decide)]
    exact mask_at m ρ c b t h
  rw [e1]
  split
  · next hl =>
    split
    · exact hx _
    · rfl
  · rfl

theorem entry_v (hx : AllReal (argV m c)) (j : S4352x512.Idx) (b : Fin 2) (t : Fin 2176) (h : Fin 8) (d : Fin 64)
    (h0 : (j 0 : ℕ) = b * 2176 + t) (h1 : (j 1 : ℕ) = h * 64 + d) :
    V9 m ρ c main_v16 j = if ht : (t : ℕ) < nRows then (headsOf (argV m c) b h ⟨t, ht⟩ d : EReal) else 0 := by
  have e6 : W8 m ρ c main_v14 = padV (argV m c) := by
    show StableHlo.after hostOps1_5 (W7 m ρ c) main_v14 = _
    rw [host_v14]
    · exact congrArg padV (W7_args m ρ c main_arg2 (by decide))
    · exact host_c_3 (W6 m ρ c)
  show StableHlo.after hostOps1_6 (W8 m ρ c) main_v16 j = if ht : (t : ℕ) < nRows then (headsOf (argV m c) b h ⟨t, ht⟩ d : EReal) else 0
  rw [host_v16, e6, packV_at (argV m c) j b t h d h0 h1]
  split
  · exact hx _
  · rfl

theorem entry_g (hx : AllReal (argG m c)) (j : S4352x512.Idx) (b : Fin 2) (t : Fin 2176) (h : Fin 8) (d : Fin 64)
    (h0 : (j 0 : ℕ) = b * 2176 + t) (h1 : (j 1 : ℕ) = h * 64 + d) :
    V13 m ρ c main_v19 j = (padRow (cotOf (argG m c) b h) t d : EReal) := by
  have e6 : W12 m ρ c main_v18 = padG (argG m c) := by
    show StableHlo.after hostOps2_1 (W11 m ρ c) main_v18 = _
    rw [host_v18]
    · exact congrArg padG (W11_args m ρ c main_arg3 (by decide))
    · exact host_c_4 (W10 m ρ c)
  show StableHlo.after hostOps2_2 (W12 m ρ c) main_v19 j = (padRow (cotOf (argG m c) b h) t d : EReal)
  rw [host_v19, e6, packG_at (argG m c) j b t ⟨(h : ℕ) * 64 + d, by omega⟩ h0 h1, padRow]
  split
  · exact hx _
  · rw [EReal.coe_zero]

end

end Cert.KernelIdeal.Value

end
-- ==== Proof.RefRows.lean ====
/- The reference's attention, element by element, as numbers: scores, probabilities, output. -/
module

public import proofs.«01_k».proof.Proof.Gen.ReferenceIdeal.Read
public import proofs.«01_k».proof.Proof.Entry

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read
open Cert.Attn
open Cert.KernelIdeal.Value (headsOf cotOf AllReal scale_bits neg_inf)

/-- An array of rank four at an index told by its coordinates. -/
theorem at4 {α : Type} {n₀ n₁ n₂ n₃ : ℕ} (x : Shape.Idx ⟨4, ![n₀, n₁, n₂, n₃]⟩ → α) (i : Shape.Idx ⟨4, ![n₀, n₁, n₂, n₃]⟩)
    (a : Fin n₀) (b : Fin n₁) (c : Fin n₂) (d : Fin n₃) (h0 : (i 0 : ℕ) = a) (h1 : (i 1 : ℕ) = b) (h2 : (i 2 : ℕ) = c) (h3 : (i 3 : ℕ) = d) :
    x i = x (ix4 a b c d) :=
  congrArg x (funext fun k => match k with
    | ⟨0, _⟩ => Fin.ext h0
    | ⟨1, _⟩ => Fin.ext h1
    | ⟨2, _⟩ => Fin.ext h2
    | ⟨3, _⟩ => Fin.ext h3)

/-- An array of rank three at an index told by its coordinates. -/
theorem at3 {α : Type} {n₀ n₁ n₂ : ℕ} (x : Shape.Idx ⟨3, ![n₀, n₁, n₂]⟩ → α) (i : Shape.Idx ⟨3, ![n₀, n₁, n₂]⟩)
    (a : Fin n₀) (b : Fin n₁) (c : Fin n₂) (h0 : (i 0 : ℕ) = a) (h1 : (i 1 : ℕ) = b) (h2 : (i 2 : ℕ) = c) :
    x i = x (ix3 a b c) :=
  congrArg x (funext fun k => match k with
    | ⟨0, _⟩ => Fin.ext h0
    | ⟨1, _⟩ => Fin.ext h1
    | ⟨2, _⟩ => Fin.ext h2)

theorem zero_bits : Ideal.ofBits FTy.f32 0#32 = 0 := by
  simp [Ideal.ofBits, Ideal.ieee]

theorem quot_mul (a b c : ℝ) (hc : c ≠ 0) : a * c * (1 / (b * c)) = a / b := by
  rw [mul_one_div, mul_div_mul_right _ _ hc]

/-- The largest of finitely many reals is a real. -/
theorem fold_real (f : Fin nRows → ℝ) : ∃ M : ℝ, Finset.univ.fold max ⊥ (fun s => (f s : EReal)) = (M : EReal) := by
  have hlt : Finset.univ.fold max ⊥ (fun s => (f s : EReal)) < ⊤ := by
    rw [Finset.fold_max_lt]
    exact ⟨bot_lt_top, fun s _ => EReal.coe_lt_top _⟩
  have hgt : ⊥ < Finset.univ.fold max ⊥ fun s => (f s : EReal) := by
    rw [Finset.lt_fold_max]
    exact .inr ⟨⟨0, by norm_num⟩, Finset.mem_univ _, EReal.bot_lt_coe _⟩
  exact ⟨_, (EReal.coe_toReal hlt.ne hgt.ne').symm⟩

section
variable {x0 x1 : FVec Ideal S2x2064x8x96 .f32} {x2 : FVec Ideal S2x2064x8x64 .f32} {x3 : FVec Ideal S2x2064x512 .f32}

section
variable (h0 : AllReal x0) (h1 : AllReal x1)

include h0 in
theorem v0_at (b : Fin 2) (h : Fin 8) (t : Fin nRows) (d : Fin 96) :
    val_main_v0 (F := Ideal) x0 (ix4 b h t d) = (headsOf x0 b h t d : EReal) := by
  rw [val_main_v0_apply, at4 x0 _ b t h d rfl rfl rfl rfl]
  exact h0 _

include h1 in
theorem v1_at (b : Fin 2) (h : Fin 8) (t : Fin nRows) (d : Fin 96) :
    val_main_v1 (F := Ideal) x1 (ix4 b h t d) = (headsOf x1 b h t d : EReal) := by
  rw [val_main_v1_apply, at4 x1 _ b t h d rfl rfl rfl rfl]
  exact h1 _

theorem v2_at (h2 : AllReal x2) (b : Fin 2) (h : Fin 8) (t : Fin nRows) (d : Fin 64) :
    val_main_v2 (F := Ideal) x2 (ix4 b h t d) = (headsOf x2 b h t d : EReal) := by
  rw [val_main_v2_apply, at4 x2 _ b t h d rfl rfl rfl rfl]
  exact h2 _

include h0 h1

theorem v3_at (b : Fin 2) (h : Fin 8) (t s : Fin nRows) :
    val_main_v3 (F := Ideal) x0 x1 (ix4 b h t s) = (score (headsOf x0 b h t) (headsOf x1 b h) s : EReal) := by
  rw [val_main_v3_apply, score, coe_sum]
  refine Finset.sum_congr rfl fun d _ => ?_
  rw [at4 (val_main_v0 (F := Ideal) x0) _ b h t d rfl rfl rfl rfl, at4 (val_main_v1 (F := Ideal) x1) _ b h s d rfl rfl rfl rfl,
    v0_at h0, v1_at h1, EReal.coe_mul]

theorem v5_at (b : Fin 2) (h : Fin 8) (t s : Fin nRows) :
    val_main_v5 (F := Ideal) x0 x1 (ix4 b h t s) = ((score (headsOf x0 b h t) (headsOf x1 b h) s * scale : ℝ) : EReal) := by
  rw [val_main_v5_apply, v3_at h0 h1, val_main_v4_apply, val_main_cst_apply, EReal.coe_mul]
  exact congrArg (_ * ·) scale_bits

theorem v6_at (b : Fin 2) (h : Fin 8) (t : Fin nRows) : ∃ M : ℝ, val_main_v6 (F := Ideal) x0 x1 (ix3 b h t) = (M : EReal) := by
  have e : val_main_v6 (F := Ideal) x0 x1 (ix3 b h t)
      = Finset.univ.fold max ⊥ fun s : Fin nRows => ((score (headsOf x0 b h t) (headsOf x1 b h) s * scale : ℝ) : EReal) := by
    pointwise [val_main_v6, val_main_cst_0]
    rw [neg_inf]
    exact congrArg (fun f => Finset.univ.fold max ⊥ f) (funext fun s => v5_at h0 h1 b h t s)
  rw [e]
  exact fold_real _

section
variable {b : Fin 2} {h : Fin 8} {t : Fin nRows} {M : ℝ} (hM : val_main_v6 (F := Ideal) x0 x1 (ix3 b h t) = (M : EReal))
include hM

theorem v26_at (s : Fin nRows) :
    val_main_v26 (F := Ideal) x0 x1 (ix4 b h t s) = ((weight (headsOf x0 b h t) (headsOf x1 b h) s * Real.exp (-M) : ℝ) : EReal) := by
  rw [val_main_v26_apply, val_main_v25_apply, v5_at h0 h1, val_main_v24_apply, val_main_v23_apply,
    at3 (val_main_v13 (F := Ideal) x0 x1) _ b h t rfl rfl rfl, val_main_v13_apply, hM, val_main_v12_apply, val_main_cst_2_apply]
  rw [Ideal.hostUnary_exp_def, Ideal.subf_def, Ideal.maximumf_def]
  refine (congrArg (fun x => Ideal.exp (_ - max x _)) neg_inf).trans ?_
  rw [max_eq_right bot_le, ← EReal.coe_sub, Ideal.exp_coe, weight, ← Real.exp_add]
  congr 2

theorem v27_at : val_main_v27 (F := Ideal) x0 x1 (ix3 b h t) = ((total (headsOf x0 b h t) (headsOf x1 b h) * Real.exp (-M) : ℝ) : EReal) := by
  rw [val_main_v27_apply, total, Finset.sum_mul, coe_sum]
  refine (congrArg (· + _) ?_).trans (zero_add _) |>.trans ?_
  · exact zero_bits
  · refine Finset.sum_congr rfl fun s _ => ?_
    rw [at4 (val_main_v26 (F := Ideal) x0 x1) _ b h t s rfl rfl rfl rfl, v26_at h0 h1 hM]

theorem v28_at (i : S2x8x2064x1.Idx) (e0 : (i 0 : ℕ) = b) (e1 : (i 1 : ℕ) = h) (e2 : (i 2 : ℕ) = t) : val_main_v28 (F := Ideal) x0 x1 i = ((total (headsOf x0 b h t) (headsOf x1 b h) * Real.exp (-M) : ℝ) : EReal) := by
  rw [val_main_v28_apply, at3 (val_main_v27 (F := Ideal) x0 x1) _ b h t e0 e1 e2, v27_at h0 h1 hM]

theorem row_ne : total (headsOf x0 b h t) (headsOf x1 b h) * Real.exp (-M) ≠ 0 := (mul_pos (total_pos _ _) (Real.exp_pos _)).ne'

end

theorem v30_at (b : Fin 2) (h : Fin 8) (t s : Fin nRows) :
    val_main_v30 (F := Ideal) x0 x1 (ix4 b h t s) = (prob (headsOf x0 b h t) (headsOf x1 b h) s : EReal) := by
  obtain ⟨M, hM⟩ := v6_at h0 h1 b h t
  rw [val_main_v30_apply, v26_at h0 h1 hM, val_main_v29_apply, v28_at h0 h1 hM _ rfl rfl rfl]
  rw [Ideal.hostDivf_def, Ideal.div_coe (row_ne h0 h1 hM), ← EReal.coe_mul, prob]
  exact congrArg (fun x : ℝ => (x : EReal)) (quot_mul _ _ _ (Real.exp_pos (-M)).ne')

theorem v34_at (h2 : AllReal x2) (b : Fin 2) (h : Fin 8) (t : Fin nRows) (d : Fin 64) :
    val_main_v34 (F := Ideal) x0 x1 x2 (ix4 b h t d) = (out (headsOf x0 b h t) (headsOf x1 b h) (headsOf x2 b h) d : EReal) := by
  rw [val_main_v34_apply, out, coe_sum]
  refine Finset.sum_congr rfl fun s _ => ?_
  rw [at4 (val_main_v30 (F := Ideal) x0 x1) _ b h t s rfl rfl rfl rfl, at4 (val_main_v2 (F := Ideal) x2) _ b h s d rfl rfl rfl rfl,
    v30_at h0 h1, v2_at h2, EReal.coe_mul]

/-- The reference's logarithm of a row's sum of exponentials, to base two. -/
theorem v69_at (b : Fin 2) (h : Fin 8) (t : Fin nRows) :
    val_main_v69 (F := Ideal) x0 x1 (ix3 b h t) = (logSum (headsOf x0 b h t) (headsOf x1 b h) : EReal) := by
  have e61 : ∀ s : Fin nRows, val_main_v61 (F := Ideal) x0 x1 (ix4 b h t s) = (score (headsOf x0 b h t) (headsOf x1 b h) s : EReal) := fun s => by
    rw [val_main_v61_apply, score, coe_sum]
    refine Finset.sum_congr rfl fun d _ => ?_
    rw [at4 x0 _ b t h d rfl rfl rfl rfl, at4 x1 _ b s h d rfl rfl rfl rfl, EReal.coe_mul]
    exact congrArg₂ (· * ·) (h0 _) (h1 _)
  have e65 : val_main_v65 (F := Ideal) x0 x1 (ix3 b h t) = (total (headsOf x0 b h t) (headsOf x1 b h) : EReal) := by
    rw [val_main_v65_apply, total, coe_sum]
    refine (congrArg (· + _) ?_).trans (zero_add _) |>.trans ?_
    · exact zero_bits
    · refine Finset.sum_congr rfl fun s _ => ?_
      rw [at4 (val_main_v64 (F := Ideal) x0 x1) _ b h t s rfl rfl rfl rfl, val_main_v64_apply, val_main_v63_apply, e61, val_main_v62_apply,
        val_main_cst_13_apply]
      rw [Ideal.hostUnary_exp_def, Ideal.mulf_def]
      refine (congrArg (fun x => Ideal.exp (_ * x)) scale_bits).trans ?_
      rw [← EReal.coe_mul, Ideal.exp_coe]
      rfl
  have two : Ideal.ofBits FTy.f32 0x40000000#32 = ((2 : ℝ) : EReal) := by
    simp [Ideal.ofBits, Ideal.ieee, -EReal.coe_mul]; norm_num
  rw [val_main_v69_apply, val_main_v66_apply, e65, val_main_v68_apply, val_main_v67_apply, val_main_cst_15_apply]
  rw [Ideal.hostDivf_def, Ideal.hostUnary_log_def, Ideal.hostUnary_log_def]
  refine (congrArg (fun x => Ideal.div _ (Ideal.log x)) two).trans ?_
  rw [Ideal.log_coe, Ideal.log_coe, if_neg (not_le.mpr (total_pos _ _)), if_neg (by norm_num), Ideal.div_coe (Real.log_pos (by norm_num)).ne',
    ← EReal.coe_mul, logSum, mul_one_div]

end
end

end Cert.ReferenceIdeal.Value

end
-- ==== Proof.RefGrads.lean ====
/- The reference's gradients of attention, element by element, as numbers. -/
module

public import proofs.«01_k».proof.Proof.RefRows

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read
open Cert.Attn
open Cert.KernelIdeal.Value (headsOf cotOf AllReal scale_bits neg_inf)

/-- The row sum that the derivative of the softmax subtracts is the product of the output and its cotangent. -/
theorem sum_prob_dprob (q : Fin 96 → ℝ) (k : Keys) (v : Vals) (g : Fin 64 → ℝ) :
    ∑ s, prob q k s * dprob g v s = ∑ d, g d * out q k v d := by
  simp only [dprob, out, Finset.mul_sum]
  rw [Finset.sum_comm]
  exact Finset.sum_congr rfl fun d _ => Finset.sum_congr rfl fun s _ => by ring

/-- One term of the row sum. -/
theorem term_eq (w T c p : ℝ) (hT : T ≠ 0) (hc : c ≠ 0) : p * (1 * (1 / (T * c * (T * c)))) * (w * c) = w / T * p * (1 / (T * c)) := by
  field_simp

/-- The derivative of a softmax by the rule for a quotient. -/
theorem quot_rule (w T c p S : ℝ) (hT : T ≠ 0) (hc : c ≠ 0) :
    (p * (1 / (T * c)) + (0 + -(S * (1 / (T * c))))) * (w * c) = w / T * (p - S) := by
  field_simp
  ring

section
variable {x0 x1 : FVec Ideal S2x2064x8x96 .f32} {x2 : FVec Ideal S2x2064x8x64 .f32} {x3 : FVec Ideal S2x2064x512 .f32}
variable (h0 : AllReal x0) (h1 : AllReal x1) (h2 : AllReal x2) (h3 : AllReal x3)

include h3 in
theorem v38_at (b : Fin 2) (h : Fin 8) (t : Fin nRows) (d : Fin 64) :
    val_main_v38 (F := Ideal) x3 (ix4 b h t d) = (cotOf x3 b h t d : EReal) := by
  rw [val_main_v38_apply, at4 (val_main_v37 (F := Ideal) x3) _ b t h d rfl rfl rfl rfl, val_main_v37_apply]
  refine (at3 x3 _ b t ⟨(h : ℕ) * 64 + d, by omega⟩ ?_ ?_ ?_).trans (h3 _)
  all_goals have := b.2; have := h.2; have ht : (t : ℕ) < 2064 := t.2; have := d.2
  · show ((((b : ℕ) * 2064 + t) * 8 + h) * 64 + d) / 1056768 = b
    omega
  · show ((((b : ℕ) * 2064 + t) * 8 + h) * 64 + d) / 512 % 2064 = t
    omega
  · show ((((b : ℕ) * 2064 + t) * 8 + h) * 64 + d) % 512 = h * 64 + d
    omega

include h2 h3 in
theorem v41_at (b : Fin 2) (h : Fin 8) (t s : Fin nRows) :
    val_main_v41 (F := Ideal) x2 x3 (ix4 b h t s) = (dprob (cotOf x3 b h t) (headsOf x2 b h) s : EReal) := by
  rw [val_main_v41_apply, dprob, coe_sum]
  refine Finset.sum_congr rfl fun d _ => ?_
  rw [at4 (val_main_v38 (F := Ideal) x3) _ b h t d rfl rfl rfl rfl, at4 (val_main_v2 (F := Ideal) x2) _ b h s d rfl rfl rfl rfl,
    v38_at h3, v2_at h2, EReal.coe_mul]

include h0 h1 h2 h3

section
variable {b : Fin 2} {h : Fin 8} {t : Fin nRows} {M : ℝ} (hM : val_main_v6 (F := Ideal) x0 x1 (ix3 b h t) = (M : EReal))
include hM

omit h2 h3 in
theorem v33_at (i : S2x8x2064x1.Idx) (e0 : (i 0 : ℕ) = b) (e1 : (i 1 : ℕ) = h) (e2 : (i 2 : ℕ) = t) :
    val_main_v33 (F := Ideal) x0 x1 i
      = ((1 * (1 / (total (headsOf x0 b h t) (headsOf x1 b h) * Real.exp (-M) * (total (headsOf x0 b h t) (headsOf x1 b h) * Real.exp (-M)))) : ℝ) : EReal) := by
  rw [val_main_v33_apply, val_main_v32_apply, val_main_v31_apply, v28_at h0 h1 hM i e0 e1 e2, val_main_cst_9_apply, Ideal.hostDivf_def,
    Ideal.mulf_def, ← EReal.coe_mul, Ideal.div_coe (mul_ne_zero (row_ne h0 h1 hM) (row_ne h0 h1 hM)), EReal.coe_mul]
  refine congrArg (· * _) ?_
  show Ideal.ofBits .f32 0x3F800000#32 = _
  simp [Ideal.ofBits, Ideal.ieee, -EReal.coe_mul]; norm_num

theorem v45_at : val_main_v45 (F := Ideal) x0 x1 x2 x3 (ix3 b h t)
    = (((∑ d, cotOf x3 b h t d * out (headsOf x0 b h t) (headsOf x1 b h) (headsOf x2 b h) d)
        * (1 / (total (headsOf x0 b h t) (headsOf x1 b h) * Real.exp (-M))) : ℝ) : EReal) := by
  rw [val_main_v45_apply, ← sum_prob_dprob, Finset.sum_mul, coe_sum]
  refine (congrArg (· + _) zero_bits).trans (zero_add _) |>.trans ?_
  refine Finset.sum_congr rfl fun s _ => ?_
  rw [at4 (val_main_v44 (F := Ideal) x0 x1 x2 x3) _ b h t s rfl rfl rfl rfl, val_main_v44_apply, val_main_v43_apply, v41_at h2 h3,
    val_main_v42_apply, v33_at h0 h1 hM _ rfl rfl rfl, v26_at h0 h1 hM, Ideal.mulf_def, Ideal.mulf_def, ← EReal.coe_mul, ← EReal.coe_mul]
  exact congrArg (fun x : ℝ => (x : EReal)) (term_eq _ _ _ _ (total_pos _ _).ne' (Real.exp_pos _).ne')

theorem v50_at : val_main_v50 (F := Ideal) x0 x1 x2 x3 (ix3 b h t)
    = ((0 + -((∑ d, cotOf x3 b h t d * out (headsOf x0 b h t) (headsOf x1 b h) (headsOf x2 b h) d)
        * (1 / (total (headsOf x0 b h t) (headsOf x1 b h) * Real.exp (-M)))) : ℝ) : EReal) := by
  rw [val_main_v50_apply, EReal.coe_add]
  refine congrArg₂ (· + ·) zero_bits ?_
  rw [Fin.sum_univ_one, val_main_v47_apply, val_main_v46_apply, Ideal.hostNegf_def, Ideal.negf_def, EReal.coe_neg]
  refine congrArg (fun x : EReal => -x) ?_
  refine (at3 (val_main_v45 (F := Ideal) x0 x1 x2 x3) _ b h t ?_ ?_ ?_).trans (v45_at h0 h1 h2 h3 hM)
  all_goals have := b.2; have := h.2; have ht : (t : ℕ) < 2064 := t.2
  · show ((((b : ℕ) * 8 + h) * 2064 + t) * 1 + 0) / 16512 = b
    omega
  · show ((((b : ℕ) * 8 + h) * 2064 + t) * 1 + 0) / 2064 % 8 = h
    omega
  · show ((((b : ℕ) * 8 + h) * 2064 + t) * 1 + 0) % 2064 = t
    omega

end

/-- The gradient of a scaled score. -/
theorem v53_at (b : Fin 2) (h : Fin 8) (t s : Fin nRows) : val_main_v53 (F := Ideal) x0 x1 x2 x3 (ix4 b h t s)
    = (dscore (headsOf x0 b h t) (headsOf x1 b h) (headsOf x2 b h) (cotOf x3 b h t) s : EReal) := by
  obtain ⟨M, hM⟩ := v6_at h0 h1 b h t
  rw [val_main_v53_apply, val_main_v52_apply, val_main_v49_apply, v41_at h2 h3, val_main_v48_apply, v28_at h0 h1 hM _ rfl rfl rfl,
    val_main_v51_apply, at3 (val_main_v50 (F := Ideal) x0 x1 x2 x3) _ b h t rfl rfl rfl, v50_at h0 h1 h2 h3 hM, v26_at h0 h1 hM,
    Ideal.hostDivf_def, Ideal.div_coe (row_ne h0 h1 hM), Ideal.addf_def, Ideal.mulf_def, ← EReal.coe_mul, ← EReal.coe_add, ← EReal.coe_mul]
  exact congrArg (fun x : ℝ => (x : EReal)) (quot_rule _ _ _ _ _ (total_pos _ _).ne' (Real.exp_pos _).ne')

theorem v55_at (b : Fin 2) (h : Fin 8) (t s : Fin nRows) : val_main_v55 (F := Ideal) x0 x1 x2 x3 (ix4 b h t s)
    = ((dscore (headsOf x0 b h t) (headsOf x1 b h) (headsOf x2 b h) (cotOf x3 b h t) s * scale : ℝ) : EReal) := by
  rw [val_main_v55_apply, v53_at h0 h1 h2 h3, val_main_v54_apply, val_main_cst_12_apply, EReal.coe_mul]
  exact congrArg (_ * ·) scale_bits

theorem v57_at (b : Fin 2) (h : Fin 8) (t : Fin nRows) (d : Fin 96) : val_main_v57 (F := Ideal) x0 x1 x2 x3 (ix4 b h t d)
    = (gradQ (headsOf x0 b h t) (headsOf x1 b h) (headsOf x2 b h) (cotOf x3 b h t) d : EReal) := by
  rw [val_main_v57_apply, gradQ, Finset.sum_mul, coe_sum]
  refine Finset.sum_congr rfl fun s _ => ?_
  rw [at4 (val_main_v55 (F := Ideal) x0 x1 x2 x3) _ b h t s rfl rfl rfl rfl, at4 (val_main_v1 (F := Ideal) x1) _ b h s d rfl rfl rfl rfl,
    v55_at h0 h1 h2 h3, v1_at h1, ← EReal.coe_mul, mul_right_comm]

theorem v56_at (b : Fin 2) (h : Fin 8) (s : Fin nRows) (d : Fin 96) : val_main_v56 (F := Ideal) x0 x1 x2 x3 (ix4 b h s d)
    = (gradK (headsOf x0 b h) (headsOf x1 b h) (headsOf x2 b h) (cotOf x3 b h) s d : EReal) := by
  rw [val_main_v56_apply, gradK, Finset.sum_mul, coe_sum]
  refine Finset.sum_congr rfl fun t _ => ?_
  rw [at4 (val_main_v55 (F := Ideal) x0 x1 x2 x3) _ b h t s rfl rfl rfl rfl, at4 (val_main_v0 (F := Ideal) x0) _ b h t d rfl rfl rfl rfl,
    v55_at h0 h1 h2 h3, v0_at h0, ← EReal.coe_mul, mul_right_comm]

omit h2 in
theorem v40_at (b : Fin 2) (h : Fin 8) (s : Fin nRows) (d : Fin 64) : val_main_v40 (F := Ideal) x0 x1 x3 (ix4 b h s d)
    = (gradV (headsOf x0 b h) (headsOf x1 b h) (cotOf x3 b h) s d : EReal) := by
  rw [val_main_v40_apply, at4 (val_main_v39 (F := Ideal) x0 x1 x3) _ b h d s rfl rfl rfl rfl, val_main_v39_apply, gradV, coe_sum]
  refine Finset.sum_congr rfl fun t _ => ?_
  rw [at4 (val_main_v38 (F := Ideal) x3) _ b h t d rfl rfl rfl rfl, at4 (val_main_v30 (F := Ideal) x0 x1) _ b h t s rfl rfl rfl rfl,
    v38_at h3, v30_at h0 h1, ← EReal.coe_mul, mul_comm]

end

end Cert.ReferenceIdeal.Value

end
-- ==== Proof.FwdBlocks.lean ====
/- The blocks the forward attention kernel reads at a grid point. -/
module

public import proofs.«01_k».proof.Proof.Entry

@[expose] public section

set_option maxRecDepth 16384

noncomputable section

open Idealize.ShloMosaic Idealize.ShloMosaic.TcCoe Idealize.SL.Sem

namespace Cert.KernelIdeal.Value
open Cert.KernelIdeal Cert.KernelIdeal.Gen

open Cert.Attn

theorem idx1 : ∀ t : Fin cfg1.N, win1_0.index t = ![t.val / 8 * 2 + t.val % 2, t.val / 2 % 4] ∧ win1_1.index t = ![t.val / 8, t.val / 2 % 4]
    ∧ win1_2.index t = ![t.val / 8, t.val / 2 % 4] ∧ win1_3.index t = ![t.val / 8 * 2 + t.val % 2, t.val / 2 % 4]
    ∧ win1_4.index t = ![t.val / 2 % 4, t.val / 8 * 2 + t.val % 2, 0] :=
  (by decide +kernel : ∀ t : Fin grid1.N, _)

/-- The sequence of a grid point. -/
def seqOf (t : Fin 16) : Fin 2 := ⟨t / 8, by omega⟩
/-- A head of a grid point's pair. -/
def headOf (t : Fin 16) (e : Fin 2) : Fin 8 := ⟨t / 2 % 4 * 2 + e, by omega⟩
/-- A row of a grid point's query block, in its sequence. -/
def rowOf (t : Fin 16) (r : Fin 1088) : Fin 2176 := ⟨t % 2 * 1088 + r, by omega⟩

section
variable (m : (ℓ : Loc nD τ sig) → Buf (Elt Ideal) ℓ) (ρ : Dev nD → PrngReg) (c : Dev nD)

theorem fwd_q (hx : AllReal (argQ m c)) (t : Fin cfg1.N) (e : Fin 2) (r : Fin 1088) (l : Fin 128) (y : S1088x256.Idx)
    (h0 : (y 0 : ℕ) = r) (h1 : (y 1 : ℕ) = e * 128 + l) :
    iblk1 (V9 m ρ) c 0 t y = qLane (padRow (headsOf (argQ m c) (seqOf t) (headOf t e)) (rowOf t r)) l := by
  blk_simp [iblk1]
  refine entry_q m ρ c hx _ (seqOf t) (rowOf t r) (headOf t e) l ?_ ?_
  · blk_simp [idx1 t]
    simp only [seqOf, rowOf]
    omega
  · blk_simp [idx1 t]
    simp only [headOf]
    omega

theorem fwd_k (hx : AllReal (argK m c)) (t : Fin cfg1.N) (e : Fin 2) (s : Fin 2176) (l : Fin 128) (y : S2176x256.Idx)
    (h0 : (y 0 : ℕ) = s) (h1 : (y 1 : ℕ) = e * 128 + l) :
    iblk1 (V9 m ρ) c 1 t y = kLane (headsOf (argK m c) (seqOf t) (headOf t e)) s l := by
  blk_simp [iblk1]
  refine entry_k m ρ c hx _ (seqOf t) s (headOf t e) l ?_ ?_
  · blk_simp [idx1 t]
    simp only [seqOf]
    omega
  · blk_simp [idx1 t]
    simp only [headOf]
    omega

theorem fwd_v (hx : AllReal (argV m c)) (t : Fin cfg1.N) (s : Fin 2176) (l : Fin 128) (y : S2176x128.Idx)
    (h0 : (y 0 : ℕ) = s) (h1 : (y 1 : ℕ) = l) :
    iblk1 (V9 m ρ) c 2 t y = vLane (headsOf (argV m c) (seqOf t) (headOf t 0)) (headsOf (argV m c) (seqOf t) (headOf t 1)) s l := by
  blk_simp [iblk1]
  by_cases hl : (l : ℕ) < 64
  · rw [entry_v m ρ c hx _ (seqOf t) s (headOf t 0) ⟨l, hl⟩, vLane]
    · simp only [dif_pos hl]
    · blk_simp [idx1 t]
      simp only [seqOf]
      omega
    · blk_simp [idx1 t]
      simp only [headOf, Fin.val_zero]
      omega
  · rw [entry_v m ρ c hx _ (seqOf t) s (headOf t 1) ⟨(l : ℕ) - 64, by omega⟩, vLane]
    · simp only [dif_neg hl]
    · blk_simp [idx1 t]
      simp only [seqOf]
      omega
    · blk_simp [idx1 t]
      simp only [headOf, Fin.val_one]
      omega

/-- A load of a rectangle of a block, at an index. -/
theorem ld_at {a b o₀ o₁ n₀ n₁ : ℕ} {e : EltTy} {inb} (x : Vec Ideal ⟨2, ![a, b]⟩ e) (y : Shape.Idx ⟨2, ![n₀, n₁]⟩)
    (i : Shape.Idx ⟨2, ![a, b]⟩) (h0 : (i 0 : ℕ) = o₀ + y 0) (h1 : (i 1 : ℕ) = o₁ + y 1) :
    View.ld x (Rect.unit (s := ⟨2, ![a, b]⟩) ![o₀, o₁] ![n₀, n₁] inb) y = x i :=
  View.ld_unit_apply_of x _ _ inb y i fun k => match k with
    | ⟨0, _⟩ => h0
    | ⟨1, _⟩ => h1

theorem ld_q0 (x : Vec Ideal S1088x256 .bf16) (r : Fin 1088) (l : Fin 128) : View.ld x r1_1 (ix2 r l) = x (ix2 r ⟨l, by omega⟩) := by
  exact ld_at x _ _ (by simp) (by simp)
theorem ld_q1 (x : Vec Ideal S1088x256 .bf16) (r : Fin 1088) (l : Fin 128) : View.ld x r1_3 (ix2 r l) = x (ix2 r ⟨128 + l, by omega⟩) := by
  exact ld_at x _ _ (by simp) (by simp)
theorem ld_k0 (x : Vec Ideal S2176x256 .bf16) (r : Fin 2176) (l : Fin 128) : View.ld x r1_2 (ix2 r l) = x (ix2 r ⟨l, by omega⟩) := by
  exact ld_at x _ _ (by simp) (by simp)
theorem ld_k1 (x : Vec Ideal S2176x256 .bf16) (r : Fin 2176) (l : Fin 128) : View.ld x r1_4 (ix2 r l) = x (ix2 r ⟨128 + l, by omega⟩) := by
  exact ld_at x _ _ (by simp) (by simp)
theorem ld_v (x : Vec Ideal S2176x128 .bf16) (r : Fin 2176) (l : Fin 128) : View.ld x r1_0 (ix2 r l) = x (ix2 r l) := by
  exact ld_at x _ _ (by simp) (by simp)

/-! The operands of the two heads of a grid point's pair. -/

theorem fwd_q₀ (hx : AllReal (argQ m c)) (t : Fin cfg1.N) (r : Fin 1088) (l : Fin 128) :
    View.ld (iblk1 (V9 m ρ) c 0 t) r1_1 (ix2 r l) = qLane (padRow (headsOf (argQ m c) (seqOf t) (headOf t 0)) (rowOf t r)) l := by
  rw [ld_q0]; exact fwd_q m ρ c hx t 0 r l _ rfl (by simp)

theorem fwd_q₁ (hx : AllReal (argQ m c)) (t : Fin cfg1.N) (r : Fin 1088) (l : Fin 128) :
    View.ld (iblk1 (V9 m ρ) c 0 t) r1_3 (ix2 r l) = qLane (padRow (headsOf (argQ m c) (seqOf t) (headOf t 1)) (rowOf t r)) l := by
  rw [ld_q1]; exact fwd_q m ρ c hx t 1 r l _ rfl (by simp)

theorem fwd_k₀ (hx : AllReal (argK m c)) (t : Fin cfg1.N) (s : Fin 2176) (l : Fin 128) :
    View.ld (iblk1 (V9 m ρ) c 1 t) r1_2 (ix2 s l) = kLane (headsOf (argK m c) (seqOf t) (headOf t 0)) s l := by
  rw [ld_k0]; exact fwd_k m ρ c hx t 0 s l _ rfl (by simp)

theorem fwd_k₁ (hx : AllReal (argK m c)) (t : Fin cfg1.N) (s : Fin 2176) (l : Fin 128) :
    View.ld (iblk1 (V9 m ρ) c 1 t) r1_4 (ix2 s l) = kLane (headsOf (argK m c) (seqOf t) (headOf t 1)) s l := by
  rw [ld_k1]; exact fwd_k m ρ c hx t 1 s l _ rfl (by simp)

theorem fwd_v₀ (hx : AllReal (argV m c)) (t : Fin cfg1.N) (s : Fin 2176) (l : Fin 128) :
    iblk1 (V9 m ρ) c 2 t (ix2 s l)
      = vLane (headsOf (argV m c) (seqOf t) (headOf t 0)) (headsOf (argV m c) (seqOf t) (headOf t 1)) s l :=
  fwd_v m ρ c hx t s l _ rfl rfl

end

end Cert.KernelIdeal.Value

end
-- ==== Proof.FwdArrays.lean ====
/- What the forward attention region leaves: the output and the log-sums, as numbers. -/
module

public import proofs.«01_k».proof.Proof.FwdBlocks

@[expose] public section

set_option maxRecDepth 16384

noncomputable section

open Idealize.ShloMosaic Idealize.ShloMosaic.TcCoe Idealize.SL.Sem

namespace Cert.KernelIdeal.Value
open Cert.KernelIdeal Cert.KernelIdeal.Gen

open Cert.Attn

section
variable (m : (ℓ : Loc nD τ sig) → Buf (Elt Ideal) ℓ) (ρ : Dev nD → PrngReg) (c : Dev nD)

/-- A row of a head's output. -/
def outRow (b : Fin 2) (h : Fin 8) (t : Fin 2176) : Fin 64 → ℝ :=
  out (padRow (headsOf (argQ m c) b h) t) (headsOf (argK m c) b h) (headsOf (argV m c) b h)

/-- A row's log-sum. -/
def lseRow (b : Fin 2) (h : Fin 8) (t : Fin 2176) : ℝ :=
  logSum (padRow (headsOf (argQ m c) b h) t) (headsOf (argK m c) b h)

theorem outRow_ext {b b' : Fin 2} {h h' : Fin 8} {t t' : Fin 2176} {d d' : Fin 64} (hb : (b : ℕ) = b') (hh : (h : ℕ) = h')
    (ht : (t : ℕ) = t') (hd : (d : ℕ) = d') : outRow m c b h t d = outRow m c b' h' t' d' := by
  rw [Fin.ext hb, Fin.ext hh, Fin.ext ht, Fin.ext hd]

theorem lseRow_ext {b b' : Fin 2} {h h' : Fin 8} {t t' : Fin 2176} (hb : (b : ℕ) = b') (hh : (h : ℕ) = h')
    (ht : (t : ℕ) = t') : lseRow m c b h t = lseRow m c b' h' t' := by
  rw [Fin.ext hb, Fin.ext hh, Fin.ext ht]

theorem point_o (hq : AllReal (argQ m c)) (hk : AllReal (argK m c)) (hv : AllReal (argV m c)) (t : Fin cfg1.N) (y0 : Fin 1088) (y1 : Fin 128) :
    k1_pay15 (F := Ideal) (k1_pay2 (iblk1 (V9 m ρ) c 2 t))
      (k1_pay7 (iblk1 (V9 m ρ) c 2 t) (View.ld (iblk1 (V9 m ρ) c 0 t) r1_1) (View.ld (iblk1 (V9 m ρ) c 1 t) r1_2))
      (View.ld (iblk1 (V9 m ρ) c 0 t) r1_3) (View.ld (iblk1 (V9 m ρ) c 1 t) r1_4) (ix2 y0 y1)
    = (outRow m c (seqOf t) (headOf t ⟨y1 / 64, by omega⟩) (rowOf t y0) ⟨y1 % 64, by omega⟩ : EReal) := by
  refine (pair_out (fwd_q₀ m ρ c hq t) (fwd_k₀ m ρ c hk t) (fwd_q₁ m ρ c hq t) (fwd_k₁ m ρ c hk t) (fwd_v₀ m ρ c hv t) y0 y1).trans ?_
  rw [pairLane]
  split
  · next h => exact congrArg _ (outRow_ext m c rfl (by simp only [headOf, Fin.val_zero]; omega) rfl (by simp only []; omega))
  · next h => exact congrArg _ (outRow_ext m c rfl (by simp only [headOf, Fin.val_one]; omega) rfl (by simp only []; omega))

theorem point_l (hq : AllReal (argQ m c)) (hk : AllReal (argK m c)) (t : Fin cfg1.N) (y1 : Fin 1088) (y2 : Fin 2) :
    k1_pay1 (F := Ideal)
      (k1_pay10 (k1_pay8 (View.ld (iblk1 (V9 m ρ) c 0 t) r1_1) (View.ld (iblk1 (V9 m ρ) c 1 t) r1_2))
        (k1_pay9 (View.ld (iblk1 (V9 m ρ) c 0 t) r1_1) (View.ld (iblk1 (V9 m ρ) c 1 t) r1_2))
        (Named.named (F := Ideal) (φ := .f32) κ "log2_e" 0x3FB8AA3B#32))
      (k1_pay16 (View.ld (iblk1 (V9 m ρ) c 0 t) r1_3) (View.ld (iblk1 (V9 m ρ) c 1 t) r1_4)) (ix3 0 y1 y2)
    = (lseRow m c (seqOf t) (headOf t y2) (rowOf t y1) : EReal) := by
  rw [lse_at]
  split
  · next h =>
    refine (rowLse_real (fwd_q₀ m ρ c hq t) (fwd_k₀ m ρ c hk t) y1).trans ?_
    exact congrArg _ (lseRow_ext m c rfl (by simp only [headOf, Fin.val_zero]; omega) rfl)
  · next h =>
    refine (rowLse_real (fwd_q₁ m ρ c hq t) (fwd_k₁ m ρ c hk t) y1).trans ?_
    exact congrArg _ (lseRow_ext m c rfl (by simp only [headOf, Fin.val_one]; omega) rfl)

/-- The row of the packed arrays at which a row of a grid point's query block lies. -/
theorem place (t : Fin 16) (r : Fin 1088) (n : ℕ) (hn : n = t.val / 8 * 2 + t.val % 2) :
    (seqOf t : ℕ) = (n * 1088 + r) / 2176 ∧ (rowOf t r : ℕ) = (n * 1088 + r) % 2176 := by
  subst hn
  simp only [seqOf, rowOf]
  omega

/-- The head a lane of a grid point's output block belongs to. -/
theorem place_head (t : Fin 16) (l : Fin 128) (n : ℕ) (hn : n = t.val / 2 % 4) :
    (headOf t ⟨l / 64, by omega⟩ : ℕ) = (n * 128 + l) / 64 ∧ (l : ℕ) % 64 = (n * 128 + l) % 64 := by
  subst hn
  simp only [headOf]
  omega

theorem fwd_o (hq : AllReal (argQ m c)) (hk : AllReal (argK m c)) (hv : AllReal (argV m c)) :
    (dat1 (V9 m ρ) c).arrAt 3 cfg1.N = fun j : S4352x512.Idx =>
      ((outRow m c ⟨j 0 / 2176, by have := (j 0).2; simp at this; omega⟩ ⟨j 1 / 64, by have := (j 1).2; simp at this; omega⟩
        ⟨j 0 % 2176, by omega⟩ ⟨j 1 % 64, by omega⟩ : ℝ) : EReal) := by
  refine (dat1 (V9 m ρ) c).arrAt_eq_of_covers 3 _ (by decide +kernel) fun t hf y => ?_
  blk_simp
  rw [after1_3]
  frame_out
  idx_vars y
  have i0 : win1_3.index t 0 = t.val / 8 * 2 + t.val % 2 := by rw [(idx1 t).2.2.2.1]; rfl
  have i1 : win1_3.index t 1 = t.val / 2 % 4 := by rw [(idx1 t).2.2.2.1]; rfl
  exact (point_o m ρ c hq hk hv t y0 y1).trans (congrArg _ (outRow_ext m c (place t y0 _ i0).1 (place_head t y1 _ i1).1 (place t y0 _ i0).2
    (place_head t y1 _ i1).2))

theorem fwd_l (hq : AllReal (argQ m c)) (hk : AllReal (argK m c)) :
    (dat1 (V9 m ρ) c).arrAt 4 cfg1.N = fun j : S4x4352x2.Idx =>
      ((lseRow m c ⟨j 1 / 2176, by have := (j 1).2; simp at this; omega⟩
        ⟨j 0 * 2 + j 2, by have := (j 0).2; have := (j 2).2; simp at *; omega⟩ ⟨j 1 % 2176, by omega⟩ : ℝ) : EReal) := by
  refine (dat1 (V9 m ρ) c).arrAt_eq_of_covers 4 _ (by decide +kernel) fun t hf y => ?_
  blk_simp
  rw [after1_4]
  frame_out
  idx_vars y
  have e0 : y0 = 0 := Subsingleton.elim _ _
  subst e0
  have i0 : win1_4.index t 0 = t.val / 2 % 4 := by rw [(idx1 t).2.2.2.2]; rfl
  have i1 : win1_4.index t 1 = t.val / 8 * 2 + t.val % 2 := by rw [(idx1 t).2.2.2.2]; rfl
  have i2 : win1_4.index t 2 = 0 := by rw [(idx1 t).2.2.2.2]; rfl
  refine (point_l m ρ c hq hk t y1 y2).trans (congrArg _ (lseRow_ext m c (place t y1 _ i1).1 ?_ (place t y1 _ i1).2))
  simp only [headOf, i0, i2]
  omega

end

end Cert.KernelIdeal.Value

end
-- ==== Proof.BwdPay.lean ====
/- What the backward kernel's body computes, element by element. -/
module

public import proofs.«01_k».proof.Proof.Gen.KernelIdeal.Skeleton
public import proofs.«01_k».proof.Proof.HeadMask
public import Idealize.ShloMosaic.Lib.Pointwise

@[expose] public section

set_option maxRecDepth 16384

noncomputable section

open Idealize.ShloMosaic Idealize.ShloMosaic.TcCoe Idealize.SL.Sem

namespace Cert.KernelIdeal.Value
open Cert.KernelIdeal Cert.KernelIdeal.Gen

open Cert.Attn

variable (Q : FVec Ideal S1088x128 .bf16) (K : FVec Ideal S2176x128 .bf16) (V : FVec Ideal S2176x128 .bf16)
  (O : FVec Ideal S1088x128 .f32) (D : FVec Ideal S1088x128 .f32) (L : FVec Ideal S1x1088x1 .f32)

theorem prob_at (r : Fin 1088) (s : Fin 2176) : k2_pay14 (F := Ideal) Q K L (ix2 r s)
    = FloatOps.exp2 ((∑ l : Fin 128, Q (ix2 r l) * K (ix2 s l)) * Named.named (F := Ideal) (φ := .f32) κ "scale_log2" 0x3E16C740#32
        - L (ix3 0 r 0)) := by
  pointwise [k2_pay14, k2_pay12, k2_pay13]
  rfl

/-- The gradient of the scores, first head of the pair. -/
abbrev dsFirst : FVec Ideal S1088x2176 .bf16 :=
  k2_pay16 (F := Ideal) (k2_pay8 D) (k2_pay9 D O) (k2_pay10 V) (k2_pay14 Q K L) (k2_pay15 (F := Ideal))

/-- The gradient of the scores, second head of the pair. -/
abbrev dsSecond : FVec Ideal S1088x2176 .bf16 :=
  k2_pay1 (F := Ideal) (k2_pay24 Q K L) (k2_pay25 (k2_pay8 D) (k2_pay10 V)) (k2_pay26 (k2_pay9 D O))

theorem dsFirst_at (r : Fin 1088) (s : Fin 2176) : dsFirst Q K V O D L (ix2 r s)
    = k2_pay14 (F := Ideal) Q K L (ix2 r s) * ((∑ l : Fin 128, D (ix2 r l) * (V (ix2 s l) * headMask false l))
        - ∑ l : Fin 128, D (ix2 r l) * O (ix2 r l) * headMask false l) := by
  pointwise [dsFirst, k2_pay16, k2_pay8, k2_pay7, k2_pay9, k2_pay10, k2_pay15]
  simp only [← mask_first]

theorem dsSecond_at (r : Fin 1088) (s : Fin 2176) : dsSecond Q K V O D L (ix2 r s)
    = k2_pay14 (F := Ideal) Q K L (ix2 r s) * ((∑ l : Fin 128, D (ix2 r l) * (V (ix2 s l) * headMask true l))
        - ∑ l : Fin 128, D (ix2 r l) * O (ix2 r l) * headMask true l) := by
  have h24 : k2_pay24 (F := Ideal) Q K L = k2_pay14 (F := Ideal) Q K L := rfl
  unfold dsSecond
  rw [h24]
  pointwise [k2_pay1, k2_pay25, k2_pay26, k2_pay8, k2_pay7, k2_pay9, k2_pay10]
  simp only [← mask_second]

theorem dqFirst_at (r : Fin 1088) (l : Fin 128) :
    k2_pay17 (F := Ideal) (k2_pay8 D) (k2_pay9 D O) (k2_pay10 V) (k2_pay13 K) (k2_pay14 Q K L) (k2_pay15 (F := Ideal)) (ix2 r l)
    = (∑ s : Fin 2176, dsFirst Q K V O D L (ix2 r s) * K (ix2 s l)) * Ideal.ofBits .f32 0x3DD105EC#32 := by
  pointwise [k2_pay17, k2_pay13]

theorem dqSecond_at (r : Fin 1088) (l : Fin 128) :
    k2_pay2 (F := Ideal) (k2_pay23 K) (k2_pay24 Q K L) (k2_pay25 (k2_pay8 D) (k2_pay10 V)) (k2_pay26 (k2_pay9 D O)) (ix2 r l)
    = (∑ s : Fin 2176, dsSecond Q K V O D L (ix2 r s) * K (ix2 s l)) * Ideal.ofBits .f32 0x3DD105EC#32 := by
  pointwise [k2_pay2, k2_pay23]

theorem dkFirst_at (acc : FVec Ideal S2176x128 .f32) (s : Fin 2176) (l : Fin 128) :
    k2_pay18 (F := Ideal) (k2_pay8 D) (k2_pay9 D O) (k2_pay10 V) (k2_pay12 Q) (k2_pay14 Q K L) (k2_pay15 (F := Ideal)) acc (ix2 s l)
    = acc (ix2 s l) + (∑ r : Fin 1088, dsFirst Q K V O D L (ix2 r s) * Q (ix2 r l)) * Ideal.ofBits .f32 0x3DD105EC#32 := by
  pointwise [k2_pay18, k2_pay12]

theorem dkSecond_at (acc : FVec Ideal S2176x128 .f32) (s : Fin 2176) (l : Fin 128) :
    k2_pay3 (F := Ideal) (k2_pay22 Q) (k2_pay24 Q K L) (k2_pay25 (k2_pay8 D) (k2_pay10 V)) (k2_pay26 (k2_pay9 D O)) acc (ix2 s l)
    = acc (ix2 s l) + (∑ r : Fin 1088, dsSecond Q K V O D L (ix2 r s) * Q (ix2 r l)) * Ideal.ofBits .f32 0x3DD105EC#32 := by
  pointwise [k2_pay3, k2_pay22]

theorem dv_at (Q' : FVec Ideal S1088x128 .bf16) (K' : FVec Ideal S2176x128 .bf16) (L' : FVec Ideal S1x1088x1 .f32)
    (acc : FVec Ideal S2176x128 .f32) (s : Fin 2176) (l : Fin 128) :
    k2_pay4 (F := Ideal) (k2_pay8 D) (k2_pay21 (k2_pay11 (F := Ideal)) (k2_pay19 (k2_pay8 D) (k2_pay14 Q K L)) k2_pay20) (k2_pay24 Q' K' L') acc (ix2 s l)
    = acc (ix2 s l) + ((∑ r : Fin 1088, k2_pay14 (F := Ideal) Q K L (ix2 r s) * D (ix2 r l)) * headMask false l
        + (∑ r : Fin 1088, k2_pay14 (F := Ideal) Q' K' L' (ix2 r s) * D (ix2 r l)) * headMask true l) := by
  have h24 : k2_pay24 (F := Ideal) Q' K' L' = k2_pay14 (F := Ideal) Q' K' L' := rfl
  rw [h24]
  pointwise [k2_pay4, k2_pay21, k2_pay11, k2_pay19, k2_pay20, k2_pay8, k2_pay7]
  simp only [← mask_first, ← mask_second]

theorem zero_dk_at (j) : k2_pay5 (F := Ideal) j = 0 := by pointwise [k2_pay5]
theorem zero_dv_at (j) : k2_pay6 (F := Ideal) j = 0 := by pointwise [k2_pay6]

end Cert.KernelIdeal.Value

end
-- ==== Proof.BwdRow.lean ====
/- The backward kernel's block on packed rows: the gradients of one query block. -/
module

public import proofs.«01_k».proof.Proof.BwdPay
public import proofs.«01_k».proof.Proof.FwdRow

@[expose] public section

set_option maxRecDepth 16384

noncomputable section

open Idealize.ShloMosaic Idealize.ShloMosaic.TcCoe Idealize.SL.Sem

namespace Cert.KernelIdeal.Value
open Cert.KernelIdeal Cert.KernelIdeal.Gen

open Cert.Attn

section
variable {Q : FVec Ideal S1088x128 .bf16} {K V : FVec Ideal S2176x128 .bf16} {O D : FVec Ideal S1088x128 .f32}
  {L : FVec Ideal S1x1088x1 .f32} {q : Fin 1088 → Fin 96 → ℝ} {k : Keys} {v₀ v₁ : Vals} {g₀ g₁ o₀ o₁ : Fin 1088 → Fin 64 → ℝ}

theorem prob_row (hQ : ∀ r l, Q (ix2 r l) = qLane (q r) l) (hK : ∀ s l, K (ix2 s l) = kLane k s l)
    (hL : ∀ r, L (ix3 0 r 0) = (logSum (q r) k : EReal)) (r : Fin 1088) (s : Fin 2176) :
    k2_pay14 (F := Ideal) Q K L (ix2 r s) = if hs : (s : ℕ) < nRows then (prob (q r) k ⟨s, hs⟩ : EReal) else 0 := by
  rw [prob_at, hL, named_scale]
  have h : ∑ l : Fin 128, Q (ix2 r l) * K (ix2 s l) = ∑ l, qLane (q r) l * kLane k s l :=
    Finset.sum_congr rfl fun l _ => by rw [hQ, hK]
  rw [h, sum_score]
  exact prob_real (q r) k s

/-- The sum over the first head's lanes of a product. -/
theorem sum_first (f : Fin 128 → EReal) (g : Fin 64 → ℝ)
    (hf : ∀ d : Fin 64, f ⟨d, lt_trans d.2 (by norm_num)⟩ * headMask false d = (g d : EReal)) :
    ∑ l : Fin 128, f l * headMask false l = ((∑ d, g d : ℝ) : EReal) := by
  rw [sum_pair, coe_sum, Finset.sum_eq_zero (s := Finset.univ)
    (f := fun d : Fin 64 => f ⟨64 + d, by omega⟩ * headMask false ((⟨64 + d, by omega⟩ : Fin 128) : ℕ)), add_zero]
  · exact Finset.sum_congr rfl fun d _ => hf d
  · intro d _
    rw [(mask_high (l := ⟨64 + d, by omega⟩) (by simp)).1, mul_zero]

/-- The sum over the second head's lanes of a product. -/
theorem sum_second (f : Fin 128 → EReal) (g : Fin 64 → ℝ)
    (hf : ∀ d : Fin 64, f ⟨64 + d, by omega⟩ * headMask true (64 + d) = (g d : EReal)) :
    ∑ l : Fin 128, f l * headMask true l = ((∑ d, g d : ℝ) : EReal) := by
  rw [sum_pair, coe_sum, Finset.sum_eq_zero (s := Finset.univ)
    (f := fun d : Fin 64 => f ⟨d, lt_trans d.2 (by norm_num)⟩ * headMask true ((⟨d, lt_trans d.2 (by norm_num)⟩ : Fin 128) : ℕ)), zero_add]
  · exact Finset.sum_congr rfl fun d _ => hf d
  · intro d _
    rw [(mask_low (l := ⟨d, lt_trans d.2 (by norm_num)⟩) d.2).2, mul_zero]

theorem pairLane_low (a b : Fin 64 → ℝ) (d : Fin 64) : pairLane a b ⟨d, lt_trans d.2 (by norm_num)⟩ = a d := by
  rw [pairLane, dif_pos (show (d : ℕ) < 64 from d.2)]

theorem pairLane_high (a b : Fin 64 → ℝ) (d : Fin 64) : pairLane a b ⟨64 + d, by omega⟩ = b d := by
  rw [pairLane, dif_neg (by simp)]; congr 1; exact Fin.ext (by simp)

theorem ds_first_row (hQ : ∀ r l, Q (ix2 r l) = qLane (q r) l) (hK : ∀ s l, K (ix2 s l) = kLane k s l)
    (hV : ∀ s l, V (ix2 s l) = vLane v₀ v₁ s l)
    (hD : ∀ r l, D (ix2 r l) = ((pairLane (g₀ r) (g₁ r) l : ℝ) : EReal))
    (hO : ∀ r l, O (ix2 r l) = ((pairLane (out (q r) k v₀) (o₁ r) l : ℝ) : EReal))
    (hL : ∀ r, L (ix3 0 r 0) = (logSum (q r) k : EReal)) (r : Fin 1088) (s : Fin 2176) :
    dsFirst Q K V O D L (ix2 r s) = if hs : (s : ℕ) < nRows then (dscore (q r) k v₀ (g₀ r) ⟨s, hs⟩ : EReal) else 0 := by
  rw [dsFirst_at, prob_row hQ hK hL]
  split
  · next hs =>
    have h1 : ∑ l : Fin 128, D (ix2 r l) * (V (ix2 s l) * headMask false l) = (dprob (g₀ r) v₀ ⟨s, hs⟩ : EReal) := by
      rw [show (∑ l : Fin 128, D (ix2 r l) * (V (ix2 s l) * headMask false l))
        = ∑ l : Fin 128, D (ix2 r l) * V (ix2 s l) * headMask false l from Finset.sum_congr rfl fun l _ => by rw [mul_assoc]]
      refine sum_first _ _ fun d => ?_
      rw [show headMask false (d : ℕ) = 1 from (mask_low (l := ⟨d, lt_trans d.2 (by norm_num)⟩) d.2).1, mul_one, hD, hV,
        pairLane_low, vLane, dif_pos hs, dif_pos (show (d : ℕ) < 64 from d.2), ← EReal.coe_mul]
    have h2 : ∑ l : Fin 128, D (ix2 r l) * O (ix2 r l) * headMask false l = ((∑ d, g₀ r d * out (q r) k v₀ d : ℝ) : EReal) := by
      refine sum_first _ _ fun d => ?_
      rw [show headMask false (d : ℕ) = 1 from (mask_low (l := ⟨d, lt_trans d.2 (by norm_num)⟩) d.2).1, mul_one, hD, hO,
        pairLane_low, pairLane_low, ← EReal.coe_mul]
    rw [h1, h2, ← EReal.coe_sub, ← EReal.coe_mul, dscore]
  · rw [zero_mul]

theorem ds_second_row (hQ : ∀ r l, Q (ix2 r l) = qLane (q r) l) (hK : ∀ s l, K (ix2 s l) = kLane k s l)
    (hV : ∀ s l, V (ix2 s l) = vLane v₀ v₁ s l)
    (hD : ∀ r l, D (ix2 r l) = ((pairLane (g₀ r) (g₁ r) l : ℝ) : EReal))
    (hO : ∀ r l, O (ix2 r l) = ((pairLane (o₀ r) (out (q r) k v₁) l : ℝ) : EReal))
    (hL : ∀ r, L (ix3 0 r 0) = (logSum (q r) k : EReal)) (r : Fin 1088) (s : Fin 2176) :
    dsSecond Q K V O D L (ix2 r s) = if hs : (s : ℕ) < nRows then (dscore (q r) k v₁ (g₁ r) ⟨s, hs⟩ : EReal) else 0 := by
  rw [dsSecond_at, prob_row hQ hK hL]
  split
  · next hs =>
    have h1 : ∑ l : Fin 128, D (ix2 r l) * (V (ix2 s l) * headMask true l) = (dprob (g₁ r) v₁ ⟨s, hs⟩ : EReal) := by
      rw [show (∑ l : Fin 128, D (ix2 r l) * (V (ix2 s l) * headMask true l))
        = ∑ l : Fin 128, D (ix2 r l) * V (ix2 s l) * headMask true l from Finset.sum_congr rfl fun l _ => by rw [mul_assoc]]
      refine sum_second _ _ fun d => ?_
      rw [show headMask true (64 + d : ℕ) = 1 from (mask_high (l := ⟨64 + d, by omega⟩) (by simp)).2, mul_one, hD, hV,
        pairLane_high, vLane, dif_pos hs, dif_neg (by simp), ← EReal.coe_mul]
      congr 3; exact Fin.ext (by simp)
    have h2 : ∑ l : Fin 128, D (ix2 r l) * O (ix2 r l) * headMask true l = ((∑ d, g₁ r d * out (q r) k v₁ d : ℝ) : EReal) := by
      refine sum_second _ _ fun d => ?_
      rw [show headMask true (64 + d : ℕ) = 1 from (mask_high (l := ⟨64 + d, by omega⟩) (by simp)).2, mul_one, hD, hO,
        pairLane_high, pairLane_high, ← EReal.coe_mul]
    rw [h1, h2, ← EReal.coe_sub, ← EReal.coe_mul, dscore]
  · rw [zero_mul]

end

/-- A lane of a query gradient: 96 lanes of data, zero elsewhere. -/
def gradLane (g : Fin 96 → ℝ) (l : Fin 128) : ℝ := if h : (l : ℕ) < 96 then g ⟨l, h⟩ else 0

/-- The scores' gradient times the packed keys. -/
theorem dq_row (q : Fin 96 → ℝ) (k : Keys) (v : Vals) (g : Fin 64 → ℝ) (ds kl : Fin 2176 → EReal) (l : Fin 128)
    (hds : ∀ s, ds s = if hs : (s : ℕ) < nRows then (dscore q k v g ⟨s, hs⟩ : EReal) else 0) (hk : ∀ s, kl s = kLane k s l) :
    (∑ s, ds s * kl s) * Ideal.ofBits .f32 0x3DD105EC#32 = ((gradLane (gradQ q k v g) l : ℝ) : EReal) := by
  have hin : ∀ s : Fin nRows, ds ⟨s, lt_trans s.2 (by norm_num)⟩ = (dscore q k v g s : EReal) := fun s => by
    have hs : ((⟨s, lt_trans s.2 (by norm_num)⟩ : Fin 2176) : ℕ) < nRows := s.2
    rw [hds, dif_pos hs]
  have hkin : ∀ s : Fin nRows, kl ⟨s, lt_trans s.2 (by norm_num)⟩
      = if h : (l : ℕ) < 96 then (k s ⟨l, h⟩ : EReal) else 0 := fun s => by
    have hs : ((⟨s, lt_trans s.2 (by norm_num)⟩ : Fin 2176) : ℕ) < nRows := s.2
    rw [hk, kLane]
    by_cases h : (l : ℕ) < 96
    · rw [dif_pos h, dif_pos h, dif_pos hs]
    · rw [dif_neg h, dif_neg h, if_pos hs, ite_self]
  rw [sum_rows _ fun s hs => by rw [hds, dif_neg hs, zero_mul], gradLane, scale_bits]
  simp only [hin, hkin]
  split
  · next h =>
    rw [gradQ, EReal.coe_mul, coe_sum]
    simp only [EReal.coe_mul]
  · next h => simp only [mul_zero, Finset.sum_const_zero, zero_mul, EReal.coe_zero]

/-- One query block's part of the keys' gradient. -/
def partK (q : Fin 1088 → Fin 96 → ℝ) (k : Keys) (v : Vals) (g : Fin 1088 → Fin 64 → ℝ) (s : Fin 2176) (l : Fin 128) : ℝ :=
  if h : (s : ℕ) < nRows ∧ (l : ℕ) < 96 then (∑ r, dscore (q r) k v (g r) ⟨s, h.1⟩ * q r ⟨l, h.2⟩) * scale else 0

theorem dk_part (q : Fin 1088 → Fin 96 → ℝ) (k : Keys) (v : Vals) (g : Fin 1088 → Fin 64 → ℝ) (s : Fin 2176) (l : Fin 128)
    (hl : (l : ℕ) ≠ 96) (ds ql : Fin 1088 → EReal)
    (hds : ∀ r, ds r = if hs : (s : ℕ) < nRows then (dscore (q r) k v (g r) ⟨s, hs⟩ : EReal) else 0)
    (hq : ∀ r, ql r = qLane (q r) l) :
    (∑ r, ds r * ql r) * Ideal.ofBits .f32 0x3DD105EC#32 = ((partK q k v g s l : ℝ) : EReal) := by
  rw [partK, scale_bits]
  split
  · next h =>
    rw [EReal.coe_mul, coe_sum]
    congr 1
    exact Finset.sum_congr rfl fun r _ => by rw [hds, dif_pos h.1, hq, qLane, dif_pos h.2, ← EReal.coe_mul]
  · next h =>
    rw [Finset.sum_eq_zero, zero_mul, EReal.coe_zero]
    intro r _
    by_cases hs : (s : ℕ) < nRows
    · rw [hq, qLane, dif_neg (fun h' => h ⟨hs, h'⟩), if_neg hl, mul_zero]
    · rw [hds, dif_neg hs, zero_mul]

/-- One query block's part of the values' gradient, one head. -/
def partV (q : Fin 1088 → Fin 96 → ℝ) (k : Keys) (g : Fin 1088 → Fin 64 → ℝ) (s : Fin 2176) (d : Fin 64) : ℝ :=
  if hs : (s : ℕ) < nRows then ∑ r, prob (q r) k ⟨s, hs⟩ * g r d else 0

theorem dv_part (q₀ q₁ : Fin 1088 → Fin 96 → ℝ) (k₀ k₁ : Keys) (g₀ g₁ : Fin 1088 → Fin 64 → ℝ) (s : Fin 2176) (l : Fin 128)
    (p₀ p₁ D : Fin 1088 → EReal)
    (hp₀ : ∀ r, p₀ r = if hs : (s : ℕ) < nRows then (prob (q₀ r) k₀ ⟨s, hs⟩ : EReal) else 0)
    (hp₁ : ∀ r, p₁ r = if hs : (s : ℕ) < nRows then (prob (q₁ r) k₁ ⟨s, hs⟩ : EReal) else 0)
    (hD : ∀ r, D r = ((pairLane (g₀ r) (g₁ r) l : ℝ) : EReal)) :
    (∑ r, p₀ r * D r) * headMask false l + (∑ r, p₁ r * D r) * headMask true l
      = ((pairLane (partV q₀ k₀ g₀ s) (partV q₁ k₁ g₁ s) l : ℝ) : EReal) := by
  by_cases h : (l : ℕ) < 64
  · rw [(mask_low h).1, (mask_low h).2, mul_zero, add_zero, mul_one, pairLane, dif_pos h, partV]
    split
    · next hs =>
      rw [coe_sum]
      exact Finset.sum_congr rfl fun r _ => by rw [hp₀, dif_pos hs, hD, pairLane, dif_pos h, ← EReal.coe_mul]
    · next hs => rw [Finset.sum_eq_zero, EReal.coe_zero]; intro r _; rw [hp₀, dif_neg hs, zero_mul]
  · rw [(mask_high h).1, (mask_high h).2, mul_zero, zero_add, mul_one, pairLane, dif_neg h, partV]
    split
    · next hs =>
      rw [coe_sum]
      exact Finset.sum_congr rfl fun r _ => by rw [hp₁, dif_pos hs, hD, pairLane, dif_neg h, ← EReal.coe_mul]
    · next hs => rw [Finset.sum_eq_zero, EReal.coe_zero]; intro r _; rw [hp₁, dif_neg hs, zero_mul]

end Cert.KernelIdeal.Value

end
-- ==== Proof.BwdBlocks.lean ====
/- The blocks the backward attention kernel reads at a grid point. -/
module

public import proofs.«01_k».proof.Proof.FwdArrays
public import proofs.«01_k».proof.Proof.BwdRow

@[expose] public section

set_option maxRecDepth 16384

noncomputable section

open Idealize.ShloMosaic Idealize.ShloMosaic.TcCoe Idealize.SL.Sem

namespace Cert.KernelIdeal.Value
open Cert.KernelIdeal Cert.KernelIdeal.Gen

open Cert.Attn

theorem idx2 : ∀ t : Fin cfg2.N, win2_0.index t = ![t.val / 8 * 2 + t.val % 2, t.val / 2 % 4] ∧ win2_1.index t = ![t.val / 8, t.val / 2 % 4]
    ∧ win2_2.index t = ![t.val / 8, t.val / 2 % 4] ∧ win2_3.index t = ![t.val / 8 * 2 + t.val % 2, t.val / 2 % 4]
    ∧ win2_4.index t = ![t.val / 2 % 4, t.val / 8 * 2 + t.val % 2, 0] ∧ win2_5.index t = ![t.val / 8 * 2 + t.val % 2, t.val / 2 % 4]
    ∧ win2_6.index t = ![t.val / 8 * 2 + t.val % 2, t.val / 2 % 4] ∧ win2_7.index t = ![t.val / 8, t.val / 2 % 4]
    ∧ win2_8.index t = ![t.val / 8, t.val / 2 % 4] :=
  (by decide +kernel : ∀ t : Fin grid2.N, _)

section
variable (m : (ℓ : Loc nD τ sig) → Buf (Elt Ideal) ℓ) (ρ : Dev nD → PrngReg) (c : Dev nD)

/-- An array region 1 only reads enters region 2 as it entered region 1. -/
theorem V13_of (r : Ref sig .tc) (h : r ∉ hostOps2_2_W) (h' : r ∉ hostOps2_1_W) (h'' : r ∉ hostOps2_W)
    (hw : ∀ w : Fin cfg1.W, Pipeline.arrRef spec1 w = r → (cfg1.win w).isOut = false) : V13 m ρ c r = V9 m ρ c r :=
  (W13_of m ρ c r h).trans ((W12_of m ρ c r h').trans ((W11_of m ρ c r h'').trans (W10_of m ρ c r hw)))

theorem V13_q : V13 m ρ c main_v9 = V9 m ρ c main_v9 :=
  V13_of m ρ c main_v9 (by decide) (by decide) (by decide) (by decide)
theorem V13_k : V13 m ρ c main_v13 = V9 m ρ c main_v13 :=
  V13_of m ρ c main_v13 (by decide) (by decide) (by decide) (by decide)
theorem V13_v : V13 m ρ c main_v16 = V9 m ρ c main_v16 :=
  V13_of m ρ c main_v16 (by decide) (by decide) (by decide) (by decide)

/-- What the forward region left enters region 2 unchanged. -/
theorem V13_o : V13 m ρ c main_v17_0 = (dat1 (V9 m ρ) c).arrAt 3 cfg1.N :=
  (W13_of m ρ c _ (by decide)).trans ((W12_of m ρ c _ (by decide)).trans ((W11_of m ρ c _ (by decide)).trans (W10_arr m ρ c 3)))
theorem V13_l : V13 m ρ c main_v17_1 = (dat1 (V9 m ρ) c).arrAt 4 cfg1.N :=
  (W13_of m ρ c _ (by decide)).trans ((W12_of m ρ c _ (by decide)).trans ((W11_of m ρ c _ (by decide)).trans (W10_arr m ρ c 4)))

/-! The numbers of a grid point: a query row, a head's keys and values, a row of the cotangent. -/

abbrev qAt (t : Fin 16) (e : Fin 2) (r : Fin 1088) : Fin 96 → ℝ := padRow (headsOf (argQ m c) (seqOf t) (headOf t e)) (rowOf t r)
abbrev kAt (t : Fin 16) (e : Fin 2) : Keys := headsOf (argK m c) (seqOf t) (headOf t e)
abbrev vAt (t : Fin 16) (e : Fin 2) : Vals := headsOf (argV m c) (seqOf t) (headOf t e)
abbrev gAt (t : Fin 16) (e : Fin 2) (r : Fin 1088) : Fin 64 → ℝ := padRow (cotOf (argG m c) (seqOf t) (headOf t e)) (rowOf t r)

theorem bwd_q (hx : AllReal (argQ m c)) (t : Fin cfg2.N) (e : Fin 2) (r : Fin 1088) (l : Fin 128) (y : S1088x256.Idx)
    (h0 : (y 0 : ℕ) = r) (h1 : (y 1 : ℕ) = e * 128 + l) :
    iblk2 (V13 m ρ) c 0 t y = qLane (qAt m c t e r) l := by
  blk_simp [iblk2]
  refine (congrFun (V13_q m ρ c) _).trans (entry_q m ρ c hx _ (seqOf t) (rowOf t r) (headOf t e) l ?_ ?_)
  · blk_simp [idx2 t]
    simp only [seqOf, rowOf]
    omega
  · blk_simp [idx2 t]
    simp only [headOf]
    omega

theorem bwd_k (hx : AllReal (argK m c)) (t : Fin cfg2.N) (e : Fin 2) (s : Fin 2176) (l : Fin 128) (y : S2176x256.Idx)
    (h0 : (y 0 : ℕ) = s) (h1 : (y 1 : ℕ) = e * 128 + l) :
    iblk2 (V13 m ρ) c 1 t y = kLane (kAt m c t e) s l := by
  blk_simp [iblk2]
  refine (congrFun (V13_k m ρ c) _).trans (entry_k m ρ c hx _ (seqOf t) s (headOf t e) l ?_ ?_)
  · blk_simp [idx2 t]
    simp only [seqOf]
    omega
  · blk_simp [idx2 t]
    simp only [headOf]
    omega

theorem bwd_v (hx : AllReal (argV m c)) (t : Fin cfg2.N) (s : Fin 2176) (l : Fin 128) :
    iblk2 (V13 m ρ) c 2 t (ix2 s l) = vLane (vAt m c t 0) (vAt m c t 1) s l := by
  blk_simp [iblk2]
  refine (congrFun (V13_v m ρ c) _).trans ?_
  by_cases hl : (l : ℕ) < 64
  · rw [entry_v m ρ c hx _ (seqOf t) s (headOf t 0) ⟨l, hl⟩, vLane]
    · simp only [dif_pos hl]
    · blk_simp [idx2 t]
      simp only [seqOf]
    · blk_simp [idx2 t]
      simp only [headOf, Fin.val_zero]
      omega
  · rw [entry_v m ρ c hx _ (seqOf t) s (headOf t 1) ⟨(l : ℕ) - 64, by omega⟩, vLane]
    · simp only [dif_neg hl]
    · blk_simp [idx2 t]
      simp only [seqOf]
    · blk_simp [idx2 t]
      simp only [headOf, Fin.val_one]
      omega

theorem bwd_d (hx : AllReal (argG m c)) (t : Fin cfg2.N) (r : Fin 1088) (l : Fin 128) :
    iblk2 (V13 m ρ) c 5 t (ix2 r l) = ((pairLane (gAt m c t 0 r) (gAt m c t 1 r) l : ℝ) : EReal) := by
  blk_simp [iblk2]
  rw [pairLane]
  split
  · next hl =>
    refine entry_g m ρ c hx _ (seqOf t) (rowOf t r) (headOf t 0) ⟨l, hl⟩ ?_ ?_
    · blk_simp [idx2 t]
      simp only [seqOf, rowOf]
      omega
    · blk_simp [idx2 t]
      simp only [headOf, Fin.val_zero]
      omega
  · next hl =>
    refine entry_g m ρ c hx _ (seqOf t) (rowOf t r) (headOf t 1) ⟨(l : ℕ) - 64, by omega⟩ ?_ ?_
    · blk_simp [idx2 t]
      simp only [seqOf, rowOf]
      omega
    · blk_simp [idx2 t]
      simp only [headOf, Fin.val_one]
      omega

/-- The output region 1 left, as an entry of region 2. -/
theorem entry_o (hq : AllReal (argQ m c)) (hk : AllReal (argK m c)) (hv : AllReal (argV m c)) (j : S4352x512.Idx) (b : Fin 2)
    (t : Fin 2176) (h : Fin 8) (d : Fin 64) (h0 : (j 0 : ℕ) = b * 2176 + t) (h1 : (j 1 : ℕ) = h * 64 + d) :
    V13 m ρ c main_v17_0 j = ((outRow m c b h t d : ℝ) : EReal) := by
  refine (congrFun ((V13_o m ρ c).trans (fwd_o m ρ c hq hk hv)) j).trans (congrArg _ (outRow_ext m c ?_ ?_ ?_ ?_)) <;> simp only [h0, h1] <;> omega

theorem entry_l (hq : AllReal (argQ m c)) (hk : AllReal (argK m c)) (j : S4x4352x2.Idx) (b : Fin 2)
    (t : Fin 2176) (h : Fin 8) (h0 : (j 1 : ℕ) = b * 2176 + t) (h1 : (j 0 : ℕ) * 2 + j 2 = h) :
    V13 m ρ c main_v17_1 j = ((lseRow m c b h t : ℝ) : EReal) := by
  refine (congrFun ((V13_l m ρ c).trans (fwd_l m ρ c hq hk)) j).trans (congrArg _ (lseRow_ext m c ?_ ?_ ?_)) <;> simp only [h0, h1] <;> omega

theorem bwd_o (hq : AllReal (argQ m c)) (hk : AllReal (argK m c)) (hv : AllReal (argV m c)) (t : Fin cfg2.N) (r : Fin 1088) (l : Fin 128) :
    iblk2 (V13 m ρ) c 3 t (ix2 r l) = ((pairLane (out (qAt m c t 0 r) (kAt m c t 0) (vAt m c t 0))
      (out (qAt m c t 1 r) (kAt m c t 1) (vAt m c t 1)) l : ℝ) : EReal) := by
  blk_simp [iblk2]
  rw [pairLane]
  split
  · next hl =>
    refine entry_o m ρ c hq hk hv _ (seqOf t) (rowOf t r) (headOf t 0) ⟨l, hl⟩ ?_ ?_
    · blk_simp [idx2 t]
      simp only [seqOf, rowOf]
      omega
    · blk_simp [idx2 t]
      simp only [headOf, Fin.val_zero]
      omega
  · next hl =>
    refine entry_o m ρ c hq hk hv _ (seqOf t) (rowOf t r) (headOf t 1) ⟨(l : ℕ) - 64, by omega⟩ ?_ ?_
    · blk_simp [idx2 t]
      simp only [seqOf, rowOf]
      omega
    · blk_simp [idx2 t]
      simp only [headOf, Fin.val_one]
      omega

theorem bwd_l (hq : AllReal (argQ m c)) (hk : AllReal (argK m c)) (t : Fin cfg2.N) (e : Fin 2) (r : Fin 1088) (y : S1x1088x2.Idx)
    (h1 : (y 1 : ℕ) = r) (h2 : (y 2 : ℕ) = e) :
    iblk2 (V13 m ρ) c 4 t y = ((logSum (qAt m c t e r) (kAt m c t e) : ℝ) : EReal) := by
  have h0 : (y 0 : ℕ) = 0 := Nat.lt_one_iff.mp (y 0).2
  blk_simp [iblk2]
  refine entry_l m ρ c hq hk _ (seqOf t) (rowOf t r) (headOf t e) ?_ ?_
  · blk_simp [idx2 t]
    simp only [seqOf, rowOf]
    omega
  · blk_simp [idx2 t]
    simp only [headOf]
    omega

/-! The operands of the two heads of a grid point's pair. -/

theorem bwd_q₀ {inb} (hx : AllReal (argQ m c)) (t : Fin cfg2.N) (r : Fin 1088) (l : Fin 128) :
    View.ld (iblk2 (V13 m ρ) c 0 t) (Rect.unit (s := S1088x256) ![0, 0] ![1088, 128] inb) (ix2 r l) = qLane (qAt m c t 0 r) l := by
  refine (ld_at (iblk2 (V13 m ρ) c 0 t) (ix2 r l) (ix2 r ⟨l, by omega⟩) (by simp) (by simp)).trans ?_
  exact bwd_q m ρ c hx t 0 r l _ rfl (by simp)

theorem bwd_q₁ {inb} (hx : AllReal (argQ m c)) (t : Fin cfg2.N) (r : Fin 1088) (l : Fin 128) :
    View.ld (iblk2 (V13 m ρ) c 0 t) (Rect.unit (s := S1088x256) ![0, 128] ![1088, 128] inb) (ix2 r l) = qLane (qAt m c t 1 r) l := by
  refine (ld_at (iblk2 (V13 m ρ) c 0 t) (ix2 r l) (ix2 r ⟨128 + l, by omega⟩) (by simp) (by simp)).trans ?_
  exact bwd_q m ρ c hx t 1 r l _ rfl (by simp)

theorem bwd_k₀ {inb} (hx : AllReal (argK m c)) (t : Fin cfg2.N) (s : Fin 2176) (l : Fin 128) :
    View.ld (iblk2 (V13 m ρ) c 1 t) (Rect.unit (s := S2176x256) ![0, 0] ![2176, 128] inb) (ix2 s l) = kLane (kAt m c t 0) s l := by
  refine (ld_at (iblk2 (V13 m ρ) c 1 t) (ix2 s l) (ix2 s ⟨l, by omega⟩) (by simp) (by simp)).trans ?_
  exact bwd_k m ρ c hx t 0 s l _ rfl (by simp)

theorem bwd_k₁ {inb} (hx : AllReal (argK m c)) (t : Fin cfg2.N) (s : Fin 2176) (l : Fin 128) :
    View.ld (iblk2 (V13 m ρ) c 1 t) (Rect.unit (s := S2176x256) ![0, 128] ![2176, 128] inb) (ix2 s l) = kLane (kAt m c t 1) s l := by
  refine (ld_at (iblk2 (V13 m ρ) c 1 t) (ix2 s l) (ix2 s ⟨128 + l, by omega⟩) (by simp) (by simp)).trans ?_
  exact bwd_k m ρ c hx t 1 s l _ rfl (by simp)

theorem bwd_l₀ {inb} (hq : AllReal (argQ m c)) (hk : AllReal (argK m c)) (t : Fin cfg2.N) (r : Fin 1088) :
    View.ld (iblk2 (V13 m ρ) c 4 t) (Rect.unit (s := S1x1088x2) ![0, 0, 0] ![1, 1088, 1] inb) (ix3 0 r 0)
      = ((logSum (qAt m c t 0 r) (kAt m c t 0) : ℝ) : EReal) := by
  refine (View.ld_unit_apply_of (iblk2 (V13 m ρ) c 4 t) _ _ inb (ix3 0 r 0) (ix3 0 r 0) fun a => ?_).trans
    (bwd_l m ρ c hq hk t 0 r _ rfl rfl)
  match a with
  | ⟨0, _⟩ => rfl
  | ⟨1, _⟩ => simp
  | ⟨2, _⟩ => rfl

theorem bwd_l₁ {inb} (hq : AllReal (argQ m c)) (hk : AllReal (argK m c)) (t : Fin cfg2.N) (r : Fin 1088) :
    View.ld (iblk2 (V13 m ρ) c 4 t) (Rect.unit (s := S1x1088x2) ![0, 0, 1] ![1, 1088, 1] inb) (ix3 0 r 0)
      = ((logSum (qAt m c t 1 r) (kAt m c t 1) : ℝ) : EReal) := by
  refine (View.ld_unit_apply_of (iblk2 (V13 m ρ) c 4 t) _ _ inb (ix3 0 r 0) (ix3 0 r 1) fun a => ?_).trans
    (bwd_l m ρ c hq hk t 1 r _ rfl rfl)
  match a with
  | ⟨0, _⟩ => rfl
  | ⟨1, _⟩ => simp
  | ⟨2, _⟩ => rfl

end

end Cert.KernelIdeal.Value

end
-- ==== Proof.TwoBlocks.lean ====
/- The two query blocks of a sequence together: the sums over a block's rows add up to the sums over the sequence's rows. -/
module

public import proofs.«01_k».proof.Proof.BwdRow
public import proofs.«01_k».proof.Proof.Entry

@[expose] public section

set_option maxRecDepth 16384

noncomputable section

open Idealize.ShloMosaic Idealize.ShloMosaic.TcCoe Idealize.SL.Sem

namespace Cert.KernelIdeal.Value
open Cert.KernelIdeal Cert.KernelIdeal.Gen

open Cert.Attn

theorem padRow_in {n : ℕ} (q : Fin nRows → Fin n → ℝ) (t : Fin nRows) : padRow q t = q t := by
  funext d
  rw [padRow, dif_pos t.2]

theorem padRow_out {n : ℕ} (q : Fin nRows → Fin n → ℝ) {t : ℕ} (h : ¬ t < nRows) : padRow q t = fun _ => 0 := by
  funext d
  rw [padRow, dif_neg h]

/-- Without a cotangent the scores have no gradient. -/
theorem dscore_zero (q : Fin 96 → ℝ) (k : Keys) (v : Vals) (s : Fin nRows) : dscore q k v (fun _ => 0) s = 0 := by
  simp [dscore, dprob]

/-- A sum over the rows of two blocks of 1088. -/
theorem sum_blocks (f : ℕ → ℝ) (h : ∀ t, ¬ t < nRows → f t = 0) :
    (∑ r : Fin 1088, f (0 * 1088 + r)) + ∑ r : Fin 1088, f (1 * 1088 + r) = ∑ t : Fin nRows, f t := by
  have e := sum_rows (fun t : Fin 2176 => f t) (fun s hs => h s hs)
  rw [show (∑ t : Fin 2176, f t) = ∑ t : Fin (1088 + 1088), f t from rfl, Fin.sum_univ_add] at e
  refine Eq.trans ?_ e
  simp [Nat.add_comm]

theorem partK_sum (q : Fin nRows → Fin 96 → ℝ) (k : Keys) (v : Vals) (g : Fin nRows → Fin 64 → ℝ) (s : Fin 2176) (l : Fin 128) :
    partK (fun r => padRow q (0 * 1088 + r)) k v (fun r => padRow g (0 * 1088 + r)) s l
      + partK (fun r => padRow q (1 * 1088 + r)) k v (fun r => padRow g (1 * 1088 + r)) s l
    = if h : (s : ℕ) < nRows ∧ (l : ℕ) < 96 then gradK q k v g ⟨s, h.1⟩ ⟨l, h.2⟩ else 0 := by
  unfold partK
  split
  · next h =>
    rw [← add_mul, sum_blocks (fun t => dscore (padRow q t) k v (padRow g t) ⟨s, h.1⟩ * padRow q t ⟨l, h.2⟩), gradK]
    · simp only [padRow_in]
    · intro t ht
      simp only [padRow_out _ ht, mul_zero]
  · rw [add_zero]

theorem partV_sum (q : Fin nRows → Fin 96 → ℝ) (k : Keys) (g : Fin nRows → Fin 64 → ℝ) (s : Fin 2176) (d : Fin 64) :
    partV (fun r => padRow q (0 * 1088 + r)) k (fun r => padRow g (0 * 1088 + r)) s d
      + partV (fun r => padRow q (1 * 1088 + r)) k (fun r => padRow g (1 * 1088 + r)) s d
    = if h : (s : ℕ) < nRows then gradV q k g ⟨s, h⟩ d else 0 := by
  unfold partV
  split
  · next h =>
    rw [sum_blocks (fun t => prob (padRow q t) k ⟨s, h⟩ * padRow g t d), gradV]
    · simp only [padRow_in]
    · intro t ht
      simp only [padRow_out _ ht, mul_zero]
  · rw [add_zero]

/-- The queries' gradient vanishes at the padding rows. -/
theorem gradQ_zero (q : Fin 96 → ℝ) (k : Keys) (v : Vals) (d : Fin 96) : gradQ q k v (fun _ => 0) d = 0 := by
  simp [gradQ, dscore_zero]

/-! ## Blocks written in two halves of 128 lanes -/

/-- Two stores of 128 lanes each, over any earlier stores, at an index. -/
theorem canon_halves {n : ℕ} {e : EltTy} [∀ e, Nonempty (Elt Ideal e)] {inb₀ inb₁} (w₀ w₁ : Vec Ideal ⟨2, ![n, 128]⟩ e)
    (L : List (View.Piece (Elt Ideal) ⟨2, ![n, 256]⟩ e)) (y : Shape.Idx ⟨2, ![n, 256]⟩) (r : Fin n) (h0 : (y 0 : ℕ) = r) (l : Fin 128) :
    ((y 1 : ℕ) = l → View.canon (⟨Rect.unit (s := ⟨2, ![n, 256]⟩) ![0, 128] ![n, 128] inb₁, w₁⟩
      :: ⟨Rect.unit (s := ⟨2, ![n, 256]⟩) ![0, 0] ![n, 128] inb₀, w₀⟩ :: L) y = w₀ (ix2 r l))
    ∧ ((y 1 : ℕ) = 128 + l → View.canon (⟨Rect.unit (s := ⟨2, ![n, 256]⟩) ![0, 128] ![n, 128] inb₁, w₁⟩
      :: ⟨Rect.unit (s := ⟨2, ![n, 256]⟩) ![0, 0] ![n, 128] inb₀, w₀⟩ :: L) y = w₁ (ix2 r l)) := by
  constructor
  · intro h1
    rw [View.canon_cons_of_not_mem]
    · have hy : (Rect.unit (s := ⟨2, ![n, 256]⟩) ![0, 0] ![n, 128] inb₀).emb (ix2 r l) = y := by
        refine Rect.emb_eq_of_coords _ _ _ fun a => ?_
        match a with
        | ⟨0, _⟩ => simp [h0]
        | ⟨1, _⟩ => simp [h1]
      rw [← hy]
      exact View.canon_cons_emb (Rect.unit (s := ⟨2, ![n, 256]⟩) ![0, 0] ![n, 128] inb₀) w₀ L (ix2 r l)
    · rw [Rect.mem_set_unit]
      intro h
      have := (h 1).1
      simp at this
      omega
  · intro h1
    have hy : (Rect.unit (s := ⟨2, ![n, 256]⟩) ![0, 128] ![n, 128] inb₁).emb (ix2 r l) = y := by
      refine Rect.emb_eq_of_coords _ _ _ fun a => ?_
      match a with
      | ⟨0, _⟩ => simp [h0]
      | ⟨1, _⟩ => simp [h1]
    rw [← hy]
    exact View.canon_cons_emb (Rect.unit (s := ⟨2, ![n, 256]⟩) ![0, 128] ![n, 128] inb₁) w₁ _ (ix2 r l)

/-- The two stores as one function of the index. -/
theorem two_halves {n : ℕ} {e : EltTy} [∀ e, Nonempty (Elt Ideal e)] {inb₀ inb₁} {w₀ w₁ : Vec Ideal ⟨2, ![n, 128]⟩ e}
    {L : List (View.Piece (Elt Ideal) ⟨2, ![n, 256]⟩ e)} (f : Shape.Idx ⟨2, ![n, 256]⟩ → Elt Ideal e)
    (h₀ : ∀ (r : Fin n) (l : Fin 128), w₀ (ix2 r l) = f (ix2 r ⟨l, by omega⟩))
    (h₁ : ∀ (r : Fin n) (l : Fin 128), w₁ (ix2 r l) = f (ix2 r ⟨128 + l, by omega⟩)) (y : Shape.Idx ⟨2, ![n, 256]⟩) :
    View.canon (⟨Rect.unit (s := ⟨2, ![n, 256]⟩) ![0, 128] ![n, 128] inb₁, w₁⟩
      :: ⟨Rect.unit (s := ⟨2, ![n, 256]⟩) ![0, 0] ![n, 128] inb₀, w₀⟩ :: L) y = f y := by
  have hn : (y 1 : ℕ) < 256 := (y 1).2
  by_cases h : (y 1 : ℕ) < 128
  · refine ((canon_halves w₀ w₁ L y (y 0) rfl ⟨y 1, h⟩).1 rfl).trans ((h₀ (y 0) ⟨y 1, h⟩).trans ?_)
    refine congrArg f (funext fun a => ?_)
    match a with
    | ⟨0, _⟩ => rfl
    | ⟨1, _⟩ => rfl
  · refine ((canon_halves w₀ w₁ L y (y 0) rfl ⟨(y 1 : ℕ) - 128, by omega⟩).2 (by simp only []; omega)).trans
      ((h₁ (y 0) ⟨(y 1 : ℕ) - 128, by omega⟩).trans ?_)
    refine congrArg f (funext fun a => ?_)
    match a with
    | ⟨0, _⟩ => rfl
    | ⟨1, _⟩ => exact Fin.ext (by simp only [ix2]; show 128 + ((y 1 : ℕ) - 128) = y 1; omega)

end Cert.KernelIdeal.Value

end
-- ==== Proof.BwdPoint.lean ====
/- What the backward attention kernel adds at a grid point, as numbers. -/
module

public import proofs.«01_k».proof.Proof.BwdBlocks
public import proofs.«01_k».proof.Proof.TwoBlocks
public import Idealize.ShloMosaic.Lib.Pipeline.ReadBack

@[expose] public section

set_option maxRecDepth 16384

noncomputable section

open Idealize.ShloMosaic Idealize.ShloMosaic.TcCoe Idealize.SL.Sem

namespace Cert.KernelIdeal.Value
open Cert.KernelIdeal Cert.KernelIdeal.Gen

open Cert.Attn

section
variable (m : (ℓ : Loc nD τ sig) → Buf (Elt Ideal) ℓ) (ρ : Dev nD → PrngReg) (c : Dev nD)

/-- The scores' gradient at a grid point: a query row, a head, a key position. -/
def dsAt (t : Fin 16) (e : Fin 2) (r : Fin 1088) (s : Fin 2176) : EReal :=
  if hs : (s : ℕ) < nRows then (dscore (qAt m c t e r) (kAt m c t e) (vAt m c t e) (gAt m c t e r) ⟨s, hs⟩ : EReal) else 0

/-- What a grid point adds to the keys' gradient. -/
def dkTerm (t : Fin 16) (e : Fin 2) (s : Fin 2176) (l : Fin 128) : EReal :=
  (∑ r, dsAt m c t e r s * qLane (qAt m c t e r) l) * Ideal.ofBits .f32 0x3DD105EC#32

/-- What a grid point adds to the values' gradient. -/
def dvTerm (t : Fin 16) (s : Fin 2176) (l : Fin 128) : ℝ :=
  pairLane (partV (qAt m c t 0) (kAt m c t 0) (gAt m c t 0) s) (partV (qAt m c t 1) (kAt m c t 1) (gAt m c t 1) s) l

theorem dkTerm_real (t : Fin 16) (e : Fin 2) (s : Fin 2176) (l : Fin 128) (hl : (l : ℕ) ≠ 96) :
    dkTerm m c t e s l = ((partK (qAt m c t e) (kAt m c t e) (vAt m c t e) (gAt m c t e) s l : ℝ) : EReal) :=
  dk_part _ _ _ _ s l hl _ _ (fun _ => rfl) fun _ => rfl

section
variable (hq : AllReal (argQ m c)) (hk : AllReal (argK m c)) (hv : AllReal (argV m c)) (hg : AllReal (argG m c))
include hq hk hv hg

theorem ds_first_at {i₁ i₂ i₃} (t : Fin cfg2.N) (r : Fin 1088) (s : Fin 2176) :
    dsFirst (View.ld (iblk2 (V13 m ρ) c 0 t) (Rect.unit (s := S1088x256) ![0, 0] ![1088, 128] i₁))
      (View.ld (iblk2 (V13 m ρ) c 1 t) (Rect.unit (s := S2176x256) ![0, 0] ![2176, 128] i₂)) (iblk2 (V13 m ρ) c 2 t)
      (iblk2 (V13 m ρ) c 3 t) (iblk2 (V13 m ρ) c 5 t)
      (View.ld (iblk2 (V13 m ρ) c 4 t) (Rect.unit (s := S1x1088x2) ![0, 0, 0] ![1, 1088, 1] i₃)) (ix2 r s) = dsAt m c t 0 r s :=
  ds_first_row (bwd_q₀ m ρ c hq t) (bwd_k₀ m ρ c hk t) (bwd_v m ρ c hv t) (bwd_d m ρ c hg t) (bwd_o m ρ c hq hk hv t)
    (bwd_l₀ m ρ c hq hk t) r s

theorem ds_second_at {i₁ i₂ i₃} (t : Fin cfg2.N) (r : Fin 1088) (s : Fin 2176) :
    dsSecond (View.ld (iblk2 (V13 m ρ) c 0 t) (Rect.unit (s := S1088x256) ![0, 128] ![1088, 128] i₁))
      (View.ld (iblk2 (V13 m ρ) c 1 t) (Rect.unit (s := S2176x256) ![0, 128] ![2176, 128] i₂)) (iblk2 (V13 m ρ) c 2 t)
      (iblk2 (V13 m ρ) c 3 t) (iblk2 (V13 m ρ) c 5 t)
      (View.ld (iblk2 (V13 m ρ) c 4 t) (Rect.unit (s := S1x1088x2) ![0, 0, 1] ![1, 1088, 1] i₃)) (ix2 r s) = dsAt m c t 1 r s :=
  ds_second_row (bwd_q₁ m ρ c hq t) (bwd_k₁ m ρ c hk t) (bwd_v m ρ c hv t) (bwd_d m ρ c hg t) (bwd_o m ρ c hq hk hv t)
    (bwd_l₁ m ρ c hq hk t) r s

theorem dk_first {i₁ i₂ i₃} (t : Fin cfg2.N) (acc : FVec Ideal S2176x128 .f32) (s : Fin 2176) (l : Fin 128) :
    k2_pay18 (F := Ideal) (k2_pay8 (iblk2 (V13 m ρ) c 5 t)) (k2_pay9 (iblk2 (V13 m ρ) c 5 t) (iblk2 (V13 m ρ) c 3 t)) (k2_pay10 (iblk2 (V13 m ρ) c 2 t))
      (k2_pay12 (View.ld (iblk2 (V13 m ρ) c 0 t) (Rect.unit (s := S1088x256) ![0, 0] ![1088, 128] i₁)))
      (k2_pay14 (View.ld (iblk2 (V13 m ρ) c 0 t) (Rect.unit (s := S1088x256) ![0, 0] ![1088, 128] i₁))
        (View.ld (iblk2 (V13 m ρ) c 1 t) (Rect.unit (s := S2176x256) ![0, 0] ![2176, 128] i₂))
        (View.ld (iblk2 (V13 m ρ) c 4 t) (Rect.unit (s := S1x1088x2) ![0, 0, 0] ![1, 1088, 1] i₃)))
      (k2_pay15 (F := Ideal)) acc (ix2 s l)
    = acc (ix2 s l) + dkTerm m c t 0 s l := by
  rw [dkFirst_at]
  unfold dkTerm
  exact congrArg (fun z => acc (ix2 s l) + z * Ideal.ofBits .f32 0x3DD105EC#32) (Finset.sum_congr rfl fun r _ =>
    congrArg₂ (· * ·) (ds_first_at m ρ c hq hk hv hg t r s) (bwd_q₀ m ρ c hq t r l))

theorem dk_second {i₁ i₂ i₃} (t : Fin cfg2.N) (acc : FVec Ideal S2176x128 .f32) (s : Fin 2176) (l : Fin 128) :
    k2_pay3 (F := Ideal) (k2_pay22 (View.ld (iblk2 (V13 m ρ) c 0 t) (Rect.unit (s := S1088x256) ![0, 128] ![1088, 128] i₁)))
      (k2_pay24 (View.ld (iblk2 (V13 m ρ) c 0 t) (Rect.unit (s := S1088x256) ![0, 128] ![1088, 128] i₁))
        (View.ld (iblk2 (V13 m ρ) c 1 t) (Rect.unit (s := S2176x256) ![0, 128] ![2176, 128] i₂))
        (View.ld (iblk2 (V13 m ρ) c 4 t) (Rect.unit (s := S1x1088x2) ![0, 0, 1] ![1, 1088, 1] i₃)))
      (k2_pay25 (k2_pay8 (iblk2 (V13 m ρ) c 5 t)) (k2_pay10 (iblk2 (V13 m ρ) c 2 t)))
      (k2_pay26 (k2_pay9 (iblk2 (V13 m ρ) c 5 t) (iblk2 (V13 m ρ) c 3 t))) acc (ix2 s l)
    = acc (ix2 s l) + dkTerm m c t 1 s l := by
  rw [dkSecond_at]
  unfold dkTerm
  exact congrArg (fun z => acc (ix2 s l) + z * Ideal.ofBits .f32 0x3DD105EC#32) (Finset.sum_congr rfl fun r _ =>
    congrArg₂ (· * ·) (ds_second_at m ρ c hq hk hv hg t r s) (bwd_q₁ m ρ c hq t r l))

theorem dq_first {i₁ i₂ i₃} (t : Fin cfg2.N) (r : Fin 1088) (l : Fin 128) :
    k2_pay17 (F := Ideal) (k2_pay8 (iblk2 (V13 m ρ) c 5 t)) (k2_pay9 (iblk2 (V13 m ρ) c 5 t) (iblk2 (V13 m ρ) c 3 t)) (k2_pay10 (iblk2 (V13 m ρ) c 2 t))
      (k2_pay13 (View.ld (iblk2 (V13 m ρ) c 1 t) (Rect.unit (s := S2176x256) ![0, 0] ![2176, 128] i₂)))
      (k2_pay14 (View.ld (iblk2 (V13 m ρ) c 0 t) (Rect.unit (s := S1088x256) ![0, 0] ![1088, 128] i₁))
        (View.ld (iblk2 (V13 m ρ) c 1 t) (Rect.unit (s := S2176x256) ![0, 0] ![2176, 128] i₂))
        (View.ld (iblk2 (V13 m ρ) c 4 t) (Rect.unit (s := S1x1088x2) ![0, 0, 0] ![1, 1088, 1] i₃)))
      (k2_pay15 (F := Ideal)) (ix2 r l)
    = ((gradLane (gradQ (qAt m c t 0 r) (kAt m c t 0) (vAt m c t 0) (gAt m c t 0 r)) l : ℝ) : EReal) := by
  rw [dqFirst_at]
  exact dq_row _ _ _ _ _ _ l (fun s => ds_first_at m ρ c hq hk hv hg t r s) fun s => bwd_k₀ m ρ c hk t s l

theorem dq_second {i₁ i₂ i₃} (t : Fin cfg2.N) (r : Fin 1088) (l : Fin 128) :
    k2_pay2 (F := Ideal) (k2_pay23 (View.ld (iblk2 (V13 m ρ) c 1 t) (Rect.unit (s := S2176x256) ![0, 128] ![2176, 128] i₂)))
      (k2_pay24 (View.ld (iblk2 (V13 m ρ) c 0 t) (Rect.unit (s := S1088x256) ![0, 128] ![1088, 128] i₁))
        (View.ld (iblk2 (V13 m ρ) c 1 t) (Rect.unit (s := S2176x256) ![0, 128] ![2176, 128] i₂))
        (View.ld (iblk2 (V13 m ρ) c 4 t) (Rect.unit (s := S1x1088x2) ![0, 0, 1] ![1, 1088, 1] i₃)))
      (k2_pay25 (k2_pay8 (iblk2 (V13 m ρ) c 5 t)) (k2_pay10 (iblk2 (V13 m ρ) c 2 t)))
      (k2_pay26 (k2_pay9 (iblk2 (V13 m ρ) c 5 t) (iblk2 (V13 m ρ) c 3 t))) (ix2 r l)
    = ((gradLane (gradQ (qAt m c t 1 r) (kAt m c t 1) (vAt m c t 1) (gAt m c t 1 r)) l : ℝ) : EReal) := by
  rw [dqSecond_at]
  exact dq_row _ _ _ _ _ _ l (fun s => ds_second_at m ρ c hq hk hv hg t r s) fun s => bwd_k₁ m ρ c hk t s l

end

theorem dv_both {i₁ i₂ i₃ j₁ j₂ j₃} (hq : AllReal (argQ m c)) (hk : AllReal (argK m c)) (hg : AllReal (argG m c)) (t : Fin cfg2.N)
    (acc : FVec Ideal S2176x128 .f32) (s : Fin 2176) (l : Fin 128) :
    k2_pay4 (F := Ideal) (k2_pay8 (iblk2 (V13 m ρ) c 5 t)) (k2_pay21 (k2_pay11 (F := Ideal)) (k2_pay19 (k2_pay8 (iblk2 (V13 m ρ) c 5 t))
        (k2_pay14 (View.ld (iblk2 (V13 m ρ) c 0 t) (Rect.unit (s := S1088x256) ![0, 0] ![1088, 128] i₁))
          (View.ld (iblk2 (V13 m ρ) c 1 t) (Rect.unit (s := S2176x256) ![0, 0] ![2176, 128] i₂))
          (View.ld (iblk2 (V13 m ρ) c 4 t) (Rect.unit (s := S1x1088x2) ![0, 0, 0] ![1, 1088, 1] i₃)))) k2_pay20)
      (k2_pay24 (View.ld (iblk2 (V13 m ρ) c 0 t) (Rect.unit (s := S1088x256) ![0, 128] ![1088, 128] j₁))
        (View.ld (iblk2 (V13 m ρ) c 1 t) (Rect.unit (s := S2176x256) ![0, 128] ![2176, 128] j₂))
        (View.ld (iblk2 (V13 m ρ) c 4 t) (Rect.unit (s := S1x1088x2) ![0, 0, 1] ![1, 1088, 1] j₃))) acc (ix2 s l)
    = acc (ix2 s l) + ((dvTerm m c t s l : ℝ) : EReal) := by
  rw [dv_at]
  exact congrArg (fun z => acc (ix2 s l) + z) (dv_part _ _ _ _ _ _ s l _ _ _
    (fun r => prob_row (bwd_q₀ m ρ c hq t) (bwd_k₀ m ρ c hk t) (bwd_l₀ m ρ c hq hk t) r s)
    (fun r => prob_row (bwd_q₁ m ρ c hq t) (bwd_k₁ m ρ c hk t) (bwd_l₁ m ρ c hq hk t) r s)
    fun r => bwd_d m ρ c hg t r l)

end

end Cert.KernelIdeal.Value

end
-- ==== Proof.BwdArrays.lean ====
/- What the backward attention region leaves: the three gradients, as numbers. -/
module

public import proofs.«01_k».proof.Proof.BwdPoint

@[expose] public section

set_option maxRecDepth 16384

noncomputable section

open Idealize.ShloMosaic Idealize.ShloMosaic.TcCoe Idealize.SL.Sem

namespace Cert.KernelIdeal.Value
open Cert.KernelIdeal Cert.KernelIdeal.Gen

open Cert.Attn

section
variable (m : (ℓ : Loc nD τ sig) → Buf (Elt Ideal) ℓ) (ρ : Dev nD → PrngReg) (c : Dev nD)

/-- The queries' gradient. -/
def dqRow (b : Fin 2) (h : Fin 8) (t : Fin 2176) : Fin 96 → ℝ :=
  gradQ (padRow (headsOf (argQ m c) b h) t) (headsOf (argK m c) b h) (headsOf (argV m c) b h) (padRow (cotOf (argG m c) b h) t)

theorem dqRow_ext {b b' : Fin 2} {h h' : Fin 8} {t t' : Fin 2176} {l l' : Fin 128} (hb : (b : ℕ) = b') (hh : (h : ℕ) = h')
    (ht : (t : ℕ) = t') (hl : (l : ℕ) = l') : gradLane (dqRow m c b h t) l = gradLane (dqRow m c b' h' t') l' := by
  rw [Fin.ext hb, Fin.ext hh, Fin.ext ht, Fin.ext hl]

theorem dkTerm_ext {t : Fin 16} {e e' : Fin 2} {s s' : Fin 2176} {l l' : Fin 128} (he : (e : ℕ) = e') (hs : (s : ℕ) = s') (hl : (l : ℕ) = l') :
    dkTerm m c t e s l = dkTerm m c t e' s' l' := by
  rw [Fin.ext he, Fin.ext hs, Fin.ext hl]

/-- What a grid point adds to the keys' gradient, by lanes of the pair's block. -/
def dkLane (t : Fin 16) (j : S2176x256.Idx) : EReal :=
  dkTerm m c t ⟨j 1 / 128, by have := (j 1).2; simp at this; omega⟩ (j 0) ⟨j 1 % 128, by omega⟩

theorem dkLane_low (t : Fin 16) (s : Fin 2176) (l : Fin 128) : dkTerm m c t 0 s l = dkLane m c t (ix2 s ⟨l, by omega⟩) :=
  dkTerm_ext m c (by simp only [ix2]; show 0 = (l : ℕ) / 128; omega) rfl (by show (l : ℕ) = (l : ℕ) % 128; omega)
theorem dkLane_high (t : Fin 16) (s : Fin 2176) (l : Fin 128) : dkTerm m c t 1 s l = dkLane m c t (ix2 s ⟨128 + l, by omega⟩) :=
  dkTerm_ext m c (by show 1 = (128 + (l : ℕ)) / 128; omega) rfl (by show (l : ℕ) = (128 + (l : ℕ)) % 128; omega)

/-- A row of the queries' gradient, by lanes of the pair's block. -/
def dqLane (t : Fin 16) (j : S1088x256.Idx) : EReal :=
  ((gradLane (dqRow m c (seqOf t) (headOf t ⟨j 1 / 128, by have := (j 1).2; simp at this; omega⟩) (rowOf t (j 0))) ⟨j 1 % 128, by omega⟩ : ℝ) : EReal)

theorem dqLane_low (t : Fin 16) (r : Fin 1088) (l : Fin 128) :
    ((gradLane (gradQ (qAt m c t 0 r) (kAt m c t 0) (vAt m c t 0) (gAt m c t 0 r)) l : ℝ) : EReal) = dqLane m c t (ix2 r ⟨l, by omega⟩) :=
  congrArg _ (dqRow_ext m c rfl (by show t / 2 % 4 * 2 + 0 = t / 2 % 4 * 2 + (l : ℕ) / 128; omega) rfl (by show (l : ℕ) = (l : ℕ) % 128; omega))
theorem dqLane_high (t : Fin 16) (r : Fin 1088) (l : Fin 128) :
    ((gradLane (gradQ (qAt m c t 1 r) (kAt m c t 1) (vAt m c t 1) (gAt m c t 1 r)) l : ℝ) : EReal) = dqLane m c t (ix2 r ⟨128 + l, by omega⟩) :=
  congrArg _ (dqRow_ext m c rfl (by show t / 2 % 4 * 2 + 1 = t / 2 % 4 * 2 + (128 + (l : ℕ)) / 128; omega) rfl
    (by show (l : ℕ) = (128 + (l : ℕ)) % 128; omega))

theorem ld_low {inb} (x : Vec Ideal S2176x256 .f32) (s : Fin 2176) (l : Fin 128) :
    View.ld x (Rect.unit (s := S2176x256) ![0, 0] ![2176, 128] inb) (ix2 s l) = x (ix2 s ⟨l, by omega⟩) := by
  exact ld_at x _ _ (by simp) (by simp)
theorem ld_high {inb} (x : Vec Ideal S2176x256 .f32) (s : Fin 2176) (l : Fin 128) :
    View.ld x (Rect.unit (s := S2176x256) ![0, 128] ![2176, 128] inb) (ix2 s l) = x (ix2 s ⟨128 + l, by omega⟩) := by
  exact ld_at x _ _ (by simp) (by simp)

/-- A load of the freshly cleared block of the keys' gradient. -/
theorem zero_first {κ' : Kind} {sp : Space} {i₀ i₁} (v : View sig κ' sp S2176x256 .f32) (j : S2176x128.Idx) :
    v.readCov [(⟨Rect.unit (s := S2176x256) ![0, 0] ![2176, 256] i₀, k2_pay5 (F := Ideal)⟩ : View.Piece (Elt Ideal) S2176x256 .f32)]
      (Rect.unit (s := S2176x256) ![0, 0] ![2176, 128] i₁).toLoadRect j = (0 : EReal) := by
  rw [View.readCov_fill _ _ _ _ _ (by decide)]
  exact zero_dk_at _

theorem zero_second {κ' : Kind} {sp : Space} {i₀ i₁ i₂} (v : View sig κ' sp S2176x256 .f32) (w : FVec Ideal S2176x128 .f32) (j : S2176x128.Idx) :
    v.readCov [(⟨Rect.unit (s := S2176x256) ![0, 0] ![2176, 128] i₂, w⟩ : View.Piece (Elt Ideal) S2176x256 .f32),
        ⟨Rect.unit (s := S2176x256) ![0, 0] ![2176, 256] i₀, k2_pay5 (F := Ideal)⟩]
      (Rect.unit (s := S2176x256) ![0, 128] ![2176, 128] i₁).toLoadRect j = (0 : EReal) := by
  rw [View.readCov_skip _ _ _ _ _ rfl, View.readCov_fill _ _ _ _ _ (by decide)]
  exact zero_dk_at _

theorem dqLane_place (t : Fin 16) (y0 : Fin 1088) (y1 : Fin 256) (n₀ n₁ : ℕ) (i0 : n₀ = t.val / 8 * 2 + t.val % 2)
    (i1 : n₁ = t.val / 2 % 4) :
    dqLane m c t (ix2 y0 y1)
      = ((gradLane (dqRow m c ⟨(n₀ * 1088 + y0) / 2176, by omega⟩ ⟨(n₁ * 256 + y1) / 128, by omega⟩
        ⟨(n₀ * 1088 + y0) % 2176, by omega⟩) ⟨(n₁ * 256 + y1) % 128, by omega⟩ : ℝ) : EReal) := by
  refine congrArg (fun x : ℝ => (x : EReal)) (dqRow_ext m c (place t y0 _ i0).1 ?_ (place t y0 _ i0).2 ?_)
  · show t / 2 % 4 * 2 + (y1 : ℕ) / 128 = (n₁ * 256 + y1) / 128
    omega
  · show (y1 : ℕ) % 128 = (n₁ * 256 + y1) % 128
    omega

section
variable (hq : AllReal (argQ m c)) (hk : AllReal (argK m c)) (hv : AllReal (argV m c)) (hg : AllReal (argG m c))
include hq hk hv hg

theorem dq_block (t : Fin cfg2.N) (y : S1088x256.Idx) : (outsAt2 (V13 m ρ) c t.val t.isLt).1 y = dqLane m c t y := by
  by_cases h : t.val % 2 = 0
  · rw [outsAt2_A _ c t h]
    frame_out
    refine two_halves (e := .f32) (dqLane m c t) (fun r l => ?_) (fun r l => ?_) y
    · exact (dq_first m ρ c hq hk hv hg t r l).trans (dqLane_low m c t r l)
    · exact (dq_second m ρ c hq hk hv hg t r l).trans (dqLane_high m c t r l)
  · rw [outsAt2_B _ c t h]
    frame_out
    refine two_halves (e := .f32) (dqLane m c t) (fun r l => ?_) (fun r l => ?_) y
    · exact (dq_first m ρ c hq hk hv hg t r l).trans (dqLane_low m c t r l)
    · exact (dq_second m ρ c hq hk hv hg t r l).trans (dqLane_high m c t r l)

theorem dq_arr : (dat2 (V13 m ρ) c).arrAt 6 cfg2.N = fun j : S4352x1024.Idx =>
    ((gradLane (dqRow m c ⟨j 0 / 2176, by have := (j 0).2; simp at this; omega⟩ ⟨j 1 / 128, by have := (j 1).2; simp at this; omega⟩
      ⟨j 0 % 2176, by omega⟩) ⟨j 1 % 128, by omega⟩ : ℝ) : EReal) := by
  refine (dat2 (V13 m ρ) c).arrAt_eq_of_covers 6 _ (by decide +kernel) fun t hf y => ?_
  blk_simp
  rw [after2_6]
  idx_vars y
  have i0 : win2_6.index t 0 = t.val / 8 * 2 + t.val % 2 := by rw [(idx2 t).2.2.2.2.2.2.1]; rfl
  have i1 : win2_6.index t 1 = t.val / 2 % 4 := by rw [(idx2 t).2.2.2.2.2.2.1]; rfl
  exact (dq_block m ρ c hq hk hv hg t (ix2 y0 y1)).trans (dqLane_place m c t y0 y1 _ _ i0 i1)

/-- Two query blocks make the keys' gradient. -/
theorem dk_block (t : Fin cfg2.N) (h : t.val % 2 = 1) (y : S2176x256.Idx) :
    (outsAt2 (V13 m ρ) c t.val t.isLt).2.1 y
      = ∑ s : Fin 2, dkLane m c ⟨2 * (t / 2) + s, by have : (t : ℕ) < 16 := t.2; omega⟩ y := by
  rw [Pipeline.eq_sum_fin_of_reset_step_apply_of_flush (fun n h => (outsAt2 (V13 m ρ) c n h).2.1) 2 (fun _ => 0)
    (fun t y => dkLane m c t y)
    (fun t h j => by
      rw [outsAt2_A _ c t h]
      frame_out
      refine two_halves (e := .f32) (fun j => 0 + dkLane m c t j) (fun s l => ?_) (fun s l => ?_) j
      · exact (dk_first m ρ c hq hk hv hg t _ s l).trans (congrArg₂ (· + ·) (zero_first _ _) (dkLane_low m c t s l))
      · exact (dk_second m ρ c hq hk hv hg t _ s l).trans (congrArg₂ (· + ·) (zero_second _ _ _) (dkLane_high m c t s l)))
    (fun t h j => by
      rw [outsAt2_B _ c t h]
      frame_out
      refine two_halves (e := .f32) (fun j => (outsAt2 (V13 m ρ) c (t - 1) _).2.1 j + dkLane m c t j) (fun s l => ?_) (fun s l => ?_) j
      · exact (dk_first m ρ c hq hk hv hg t _ s l).trans (congrArg₂ (· + ·) (ld_low _ s l) (dkLane_low m c t s l))
      · exact (dk_second m ρ c hq hk hv hg t _ s l).trans (congrArg₂ (· + ·) (ld_high _ s l) (dkLane_high m c t s l))) t h _]
  exact zero_add _

omit hv in
theorem dv_block (t : Fin cfg2.N) (h : t.val % 2 = 1) (y : S2176x128.Idx) :
    (outsAt2 (V13 m ρ) c t.val t.isLt).2.2 y
      = ∑ s : Fin 2, ((dvTerm m c ⟨2 * (t / 2) + s, by have : (t : ℕ) < 16 := t.2; omega⟩ (y 0) (y 1) : ℝ) : EReal) := by
  rw [Pipeline.eq_sum_fin_of_reset_step_apply_of_flush (fun n h => (outsAt2 (V13 m ρ) c n h).2.2) 2 (fun _ => 0)
    (fun t y => ((dvTerm m c t (y 0) (y 1) : ℝ) : EReal))
    (fun t h j => by
      rw [outsAt2_A _ c t h]
      frame_out
      idx_vars j
      exact (dv_both m ρ c hq hk hg t _ j0 j1).trans (congrArg (· + _) (zero_dv_at _)))
    (fun t h j => by
      rw [outsAt2_B _ c t h]
      frame_out
      idx_vars j
      exact dv_both m ρ c hq hk hg t _ j0 j1) t h _]
  exact zero_add _

end

end

end Cert.KernelIdeal.Value

end
-- ==== Proof.BwdSums.lean ====
/- The keys' and the values' gradients the backward attention region leaves, as numbers. -/
module

public import proofs.«01_k».proof.Proof.BwdArrays

@[expose] public section

set_option maxRecDepth 16384

noncomputable section

open Idealize.ShloMosaic Idealize.ShloMosaic.TcCoe Idealize.SL.Sem

namespace Cert.KernelIdeal.Value
open Cert.KernelIdeal Cert.KernelIdeal.Gen

open Cert.Attn

section
variable (m : (ℓ : Loc nD τ sig) → Buf (Elt Ideal) ℓ) (ρ : Dev nD → PrngReg) (c : Dev nD)

/-- The keys' gradient at a position and a lane of a head's block. -/
def dkVal (b : Fin 2) (h : Fin 8) (s : Fin 2176) (l : Fin 128) : ℝ :=
  if hs : (s : ℕ) < nRows ∧ (l : ℕ) < 96 then
    gradK (headsOf (argQ m c) b h) (headsOf (argK m c) b h) (headsOf (argV m c) b h) (cotOf (argG m c) b h) ⟨s, hs.1⟩ ⟨l, hs.2⟩
  else 0

/-- The values' gradient at a position and a lane of a head. -/
def dvVal (b : Fin 2) (h : Fin 8) (s : Fin 2176) (d : Fin 64) : ℝ :=
  if hs : (s : ℕ) < nRows then gradV (headsOf (argQ m c) b h) (headsOf (argK m c) b h) (cotOf (argG m c) b h) ⟨s, hs⟩ d else 0

theorem dkVal_ext {b b' : Fin 2} {h h' : Fin 8} {s s' : Fin 2176} {l l' : Fin 128} (hb : (b : ℕ) = b') (hh : (h : ℕ) = h')
    (hs : (s : ℕ) = s') (hl : (l : ℕ) = l') : dkVal m c b h s l = dkVal m c b' h' s' l' := by
  rw [Fin.ext hb, Fin.ext hh, Fin.ext hs, Fin.ext hl]
theorem dvVal_ext {b b' : Fin 2} {h h' : Fin 8} {s s' : Fin 2176} {l l' : Fin 64} (hb : (b : ℕ) = b') (hh : (h : ℕ) = h')
    (hs : (s : ℕ) = s') (hl : (l : ℕ) = l') : dvVal m c b h s l = dvVal m c b' h' s' l' := by
  rw [Fin.ext hb, Fin.ext hh, Fin.ext hs, Fin.ext hl]

/-- The two grid points of a sequence and a pair of heads. -/
def twin (t : Fin 16) (i : Fin 2) : Fin 16 := ⟨2 * (t / 2) + i, by omega⟩

theorem seq_twin (t : Fin 16) (i : Fin 2) : seqOf (twin t i) = seqOf t := Fin.ext (by simp only [seqOf, twin]; omega)
theorem head_twin (t : Fin 16) (i : Fin 2) (e : Fin 2) : headOf (twin t i) e = headOf t e := Fin.ext (by simp only [headOf, twin]; omega)
theorem row_twin (t : Fin 16) (i : Fin 2) (r : Fin 1088) : (rowOf (twin t i) r : ℕ) = i * 1088 + r := by simp only [rowOf, twin]; omega

theorem qAt_twin₀ (t : Fin 16) (e : Fin 2) :
    qAt m c (twin t 0) e = fun r : Fin 1088 => padRow (headsOf (argQ m c) (seqOf t) (headOf t e)) (0 * 1088 + r) := by
  funext r
  simp only [qAt, seq_twin, head_twin, row_twin, Fin.val_zero]
theorem qAt_twin₁ (t : Fin 16) (e : Fin 2) :
    qAt m c (twin t 1) e = fun r : Fin 1088 => padRow (headsOf (argQ m c) (seqOf t) (headOf t e)) (1 * 1088 + r) := by
  funext r
  simp only [qAt, seq_twin, head_twin, row_twin, Fin.val_one]
theorem gAt_twin₀ (t : Fin 16) (e : Fin 2) :
    gAt m c (twin t 0) e = fun r : Fin 1088 => padRow (cotOf (argG m c) (seqOf t) (headOf t e)) (0 * 1088 + r) := by
  funext r
  simp only [gAt, seq_twin, head_twin, row_twin, Fin.val_zero]
theorem gAt_twin₁ (t : Fin 16) (e : Fin 2) :
    gAt m c (twin t 1) e = fun r : Fin 1088 => padRow (cotOf (argG m c) (seqOf t) (headOf t e)) (1 * 1088 + r) := by
  funext r
  simp only [gAt, seq_twin, head_twin, row_twin, Fin.val_one]
theorem kAt_twin (t : Fin 16) (i e : Fin 2) : kAt m c (twin t i) e = headsOf (argK m c) (seqOf t) (headOf t e) := by
  simp only [kAt, seq_twin, head_twin]
theorem vAt_twin (t : Fin 16) (i e : Fin 2) : vAt m c (twin t i) e = headsOf (argV m c) (seqOf t) (headOf t e) := by
  simp only [vAt, seq_twin, head_twin]

theorem dk_twins (t : Fin 16) (e : Fin 2) (s : Fin 2176) (l : Fin 128) (hl : (l : ℕ) ≠ 96) :
    ∑ i : Fin 2, dkTerm m c (twin t i) e s l = ((dkVal m c (seqOf t) (headOf t e) s l : ℝ) : EReal) := by
  rw [Fin.sum_univ_two, dkTerm_real _ _ _ _ _ _ hl, dkTerm_real _ _ _ _ _ _ hl, ← EReal.coe_add]
  refine congrArg (fun x : ℝ => (x : EReal)) ?_
  rw [qAt_twin₀, qAt_twin₁, gAt_twin₀, gAt_twin₁, kAt_twin, kAt_twin, vAt_twin, vAt_twin]
  exact partK_sum _ _ _ _ s l

theorem pairV_low (f g : Fin 64 → ℝ) (f' g' : Fin 64 → ℝ) (l : Fin 128) :
    pairLane f g l + pairLane f' g' l = pairLane (fun d => f d + f' d) (fun d => g d + g' d) l := by
  simp only [pairLane]
  split <;> rfl

theorem dv_twins (t : Fin 16) (s : Fin 2176) (l : Fin 128) :
    ∑ i : Fin 2, ((dvTerm m c (twin t i) s l : ℝ) : EReal)
      = ((dvVal m c (seqOf t) (headOf t ⟨l / 64, by omega⟩) s ⟨l % 64, by omega⟩ : ℝ) : EReal) := by
  rw [Fin.sum_univ_two, ← EReal.coe_add]
  refine congrArg (fun x : ℝ => (x : EReal)) ?_
  unfold dvTerm
  rw [pairV_low, pairLane]
  simp only [qAt_twin₀, qAt_twin₁, gAt_twin₀, gAt_twin₁, kAt_twin]
  split
  · next h =>
    refine (partV_sum _ _ _ s ⟨l, h⟩).trans ?_
    exact dvVal_ext m c rfl (by simp only [headOf, Fin.val_zero]; omega) rfl (by simp only []; omega)
  · next h =>
    refine (partV_sum _ _ _ s ⟨(l : ℕ) - 64, by omega⟩).trans ?_
    exact dvVal_ext m c rfl (by simp only [headOf, Fin.val_one]; omega) rfl (by simp only []; omega)

/-- Where a lane of the keys' block lies. -/
theorem dk_place (t : Fin 16) (y0 : Fin 2176) (y1 : Fin 256) (n₀ n₁ : ℕ) (i0 : n₀ = t.val / 8) (i1 : n₁ = t.val / 2 % 4)
    (h : (n₁ * 256 + (y1 : ℕ)) % 128 ≠ 96) :
    ∑ i : Fin 2, dkLane m c (twin t i) (ix2 y0 y1)
      = ((dkVal m c ⟨(n₀ * 2176 + y0) / 2176, by omega⟩ ⟨(n₁ * 256 + y1) / 128, by omega⟩
        ⟨(n₀ * 2176 + y0) % 2176, by omega⟩ ⟨(n₁ * 256 + y1) % 128, by omega⟩ : ℝ) : EReal) := by
  refine (dk_twins m c t ⟨y1 / 128, by omega⟩ y0 ⟨y1 % 128, by omega⟩ (by simp only []; omega)).trans ?_
  refine congrArg (fun x : ℝ => (x : EReal)) (dkVal_ext m c ?_ ?_ ?_ ?_) <;> simp only [seqOf, headOf] <;> omega

theorem dv_place (t : Fin 16) (y0 : Fin 2176) (y1 : Fin 128) (n₀ n₁ : ℕ) (i0 : n₀ = t.val / 8) (i1 : n₁ = t.val / 2 % 4) :
    ∑ i : Fin 2, ((dvTerm m c (twin t i) y0 y1 : ℝ) : EReal)
      = ((dvVal m c ⟨(n₀ * 2176 + y0) / 2176, by omega⟩ ⟨(n₁ * 128 + y1) / 64, by omega⟩
        ⟨(n₀ * 2176 + y0) % 2176, by omega⟩ ⟨(n₁ * 128 + y1) % 64, by omega⟩ : ℝ) : EReal) := by
  refine (dv_twins m c t y0 y1).trans ?_
  refine congrArg (fun x : ℝ => (x : EReal)) (dvVal_ext m c ?_ ?_ ?_ ?_) <;> simp only [seqOf, headOf] <;> omega

section
variable (hq : AllReal (argQ m c)) (hk : AllReal (argK m c)) (hv : AllReal (argV m c)) (hg : AllReal (argG m c))
include hq hk hv hg

theorem dk_arr (j : S4352x1024.Idx) (hj : (j 1 : ℕ) % 128 ≠ 96) : (dat2 (V13 m ρ) c).arrAt 7 cfg2.N j =
    ((dkVal m c ⟨j 0 / 2176, by have := (j 0).2; simp at this; omega⟩ ⟨j 1 / 128, by have := (j 1).2; simp at this; omega⟩
      ⟨j 0 % 2176, by omega⟩ ⟨j 1 % 128, by omega⟩ : ℝ) : EReal) := by
  refine (dat2 (V13 m ρ) c).arrAt_forall_of_covers 7 (fun (j : S4352x1024.Idx) x => (j 1 : ℕ) % 128 ≠ 96 → x =
    ((dkVal m c ⟨j 0 / 2176, by have := (j 0).2; simp at this; omega⟩ ⟨j 1 / 128, by have := (j 1).2; simp at this; omega⟩
      ⟨j 0 % 2176, by omega⟩ ⟨j 1 % 128, by omega⟩ : ℝ) : EReal)) (by decide +kernel) (fun t hf y => ?_) j (harr := Memref.isWhole_whole _) hj
  blk_simp
  rw [after2_7]
  idx_vars y
  have i0 : win2_7.index t 0 = t.val / 8 := by rw [(idx2 t).2.2.2.2.2.2.2.1]; rfl
  have i1 : win2_7.index t 1 = t.val / 2 % 4 := by rw [(idx2 t).2.2.2.2.2.2.2.1]; rfl
  intro hl
  exact (dk_block m ρ c hq hk hv hg t ((flush2_7 t).mp hf) (ix2 y0 y1)).trans (dk_place m c t y0 y1 _ _ i0 i1 hl)

omit hv in
theorem dv_arr : (dat2 (V13 m ρ) c).arrAt 8 cfg2.N = fun j : S4352x512.Idx =>
    ((dvVal m c ⟨j 0 / 2176, by have := (j 0).2; simp at this; omega⟩ ⟨j 1 / 64, by have := (j 1).2; simp at this; omega⟩
      ⟨j 0 % 2176, by omega⟩ ⟨j 1 % 64, by omega⟩ : ℝ) : EReal) := by
  refine (dat2 (V13 m ρ) c).arrAt_eq_of_covers 8 _ (by decide +kernel) fun t hf y => ?_
  blk_simp
  rw [after2_8]
  idx_vars y
  have i0 : win2_8.index t 0 = t.val / 8 := by rw [(idx2 t).2.2.2.2.2.2.2.2]; rfl
  have i1 : win2_8.index t 1 = t.val / 2 % 4 := by rw [(idx2 t).2.2.2.2.2.2.2.2]; rfl
  exact (dv_block m ρ c hq hk hg t ((flush2_8 t).mp hf) (ix2 y0 y1)).trans (dv_place m c t y0 y1 _ _ i0 i1)

end

end

end Cert.KernelIdeal.Value

end
-- ==== Proof.RefArrays.lean ====
/- The reference's five results at an index told by sequence, row, head and lane. -/
module

public import proofs.«01_k».proof.Proof.RefGrads
public import proofs.«01_k».proof.Proof.BwdSums

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read
open Cert.Attn
open Cert.KernelIdeal.Value (padRow headsOf cotOf AllReal scale_bits neg_inf)

open Cert.KernelIdeal.Value (gradQ_zero sitofp_zero padRow padRow_in padRow_out gradLane)

theorem row_in {n : ℕ} (q : Fin nRows → Fin n → ℝ) {t : ℕ} (h : t < nRows) : padRow q t = q ⟨t, h⟩ := padRow_in q ⟨t, h⟩

section
variable {x0 x1 : FVec Ideal S2x2064x8x96 .f32} {x2 : FVec Ideal S2x2064x8x64 .f32} {x3 : FVec Ideal S2x2064x512 .f32}
variable (h0 : AllReal x0) (h1 : AllReal x1) (h2 : AllReal x2) (h3 : AllReal x3)

include h0 h1

theorem v73_at (j : S4x4352x2.Idx) (b : Fin 2) (h : Fin 8) (t : Fin 2176) (ht : (t : ℕ) < nRows)
    (e1 : (j 1 : ℕ) = b * 2176 + t) (e0 : (j 0 : ℕ) * 2 + j 2 = h) :
    val_main_v73 (F := Ideal) x0 x1 j = (logSum (padRow (headsOf x0 b h) t) (headsOf x1 b h) : EReal) := by
  have hj0 : (j 0 : ℕ) < 4 := (j 0).2
  have hj2 : (j 2 : ℕ) < 2 := (j 2).2
  have hb := b.2
  have ht' := t.2
  rw [row_in _ ht, val_main_v73_apply]
  refine (at4 (val_main_v72 (F := Ideal) x0 x1) _ (j 0) b t (j 2) ?_ ?_ ?_ ?_).trans ?_
  · show (((j 0 : ℕ) * 4352 + j 1) * 2 + j 2) / 8704 = j 0
    omega
  · show (((j 0 : ℕ) * 4352 + j 1) * 2 + j 2) / 4352 % 2 = b
    omega
  · show (((j 0 : ℕ) * 4352 + j 1) * 2 + j 2) / 2 % 2176 = t
    omega
  · show (((j 0 : ℕ) * 4352 + j 1) * 2 + j 2) % 2 = j 2
    omega
  rw [val_main_v72_apply]
  refine (at4 (val_main_v71 (F := Ideal) x0 x1) _ b (j 0) (j 2) t rfl rfl rfl rfl).trans ?_
  rw [val_main_v71_apply]
  refine (at3 (val_main_v70 (F := Ideal) x0 x1) _ b h t ?_ ?_ ?_).trans ?_
  · show ((((b : ℕ) * 4 + j 0) * 2 + j 2) * 2176 + t) / 17408 = b
    omega
  · show ((((b : ℕ) * 4 + j 0) * 2 + j 2) * 2176 + t) / 2176 % 8 = h
    omega
  · show ((((b : ℕ) * 4 + j 0) * 2 + j 2) * 2176 + t) % 2176 = t
    omega
  · pointwise [val_main_v70]
    rw [dif_pos ht]
    exact v69_at h0 h1 b h ⟨t, ht⟩

include h2 in
theorem v36_at (b : Fin 2) (h : Fin 8) (t : Fin nRows) (d : Fin 64) (l : Fin 512) (hl : (l : ℕ) = h * 64 + d) :
    val_main_v36 (F := Ideal) x0 x1 x2 (ix3 b t l) = (out (headsOf x0 b h t) (headsOf x1 b h) (headsOf x2 b h) d : EReal) := by
  have hb := b.2
  have hh := h.2
  have hd := d.2
  have ht : (t : ℕ) < 2064 := t.2
  rw [val_main_v36_apply, val_main_v35_apply]
  refine (at4 (val_main_v34 (F := Ideal) x0 x1 x2) _ b h t d ?_ ?_ ?_ ?_).trans (v34_at h0 h1 h2 b h t d)
  · show (((b : ℕ) * 2064 + t) * 512 + l) / 1056768 = b
    omega
  · show (((b : ℕ) * 2064 + t) * 512 + l) / 64 % 8 = h
    omega
  · show (((b : ℕ) * 2064 + t) * 512 + l) / 512 % 2064 = t
    omega
  · show (((b : ℕ) * 2064 + t) * 512 + l) % 64 = d
    omega

include h2 in
theorem v74_at (b : Fin 2) (h : Fin 8) (t : Fin nRows) (d : Fin 64) :
    val_main_v74 (F := Ideal) x0 x1 x2 (ix4 b t h d) = (out (headsOf x0 b h t) (headsOf x1 b h) (headsOf x2 b h) d : EReal) := by
  have hb := b.2
  have hh := h.2
  have hd := d.2
  have ht : (t : ℕ) < 2064 := t.2
  rw [val_main_v74_apply]
  refine (at3 (val_main_v36 (F := Ideal) x0 x1 x2) _ b t ⟨(h : ℕ) * 64 + d, by omega⟩ ?_ ?_ ?_).trans (v36_at h0 h1 h2 b h t d _ rfl)
  · show ((((b : ℕ) * 2064 + t) * 8 + h) * 64 + d) / 1056768 = b
    omega
  · show ((((b : ℕ) * 2064 + t) * 8 + h) * 64 + d) / 512 % 2064 = t
    omega
  · show ((((b : ℕ) * 2064 + t) * 8 + h) * 64 + d) % 512 = h * 64 + d
    omega

include h2 in
theorem v76_at (j : S4352x512.Idx) (b : Fin 2) (h : Fin 8) (t : Fin 2176) (d : Fin 64) (ht : (t : ℕ) < nRows)
    (e0 : (j 0 : ℕ) = b * 2176 + t) (e1 : (j 1 : ℕ) = h * 64 + d) :
    val_main_v76 (F := Ideal) x0 x1 x2 j = (out (padRow (headsOf x0 b h) t) (headsOf x1 b h) (headsOf x2 b h) d : EReal) := by
  have hb := b.2
  have hh := h.2
  have hd := d.2
  have ht' := t.2
  have ht'' : (t : ℕ) < 2064 := ht
  rw [row_in _ ht, val_main_v76_apply]
  refine (at4 (val_main_v75 (F := Ideal) x0 x1 x2) _ b t h d ?_ ?_ ?_ ?_).trans ?_
  · simp only [idx_main_v76]
    omega
  · simp only [idx_main_v76]
    omega
  · simp only [idx_main_v76]
    omega
  · simp only [idx_main_v76]
    omega
  · pointwise [val_main_v75]
    rw [dif_pos ht]
    exact v74_at h0 h1 h2 b h ⟨t, ht⟩ d

include h3

theorem v82_at (j : S4352x512.Idx) (b : Fin 2) (h : Fin 8) (s : Fin 2176) (d : Fin 64)
    (e0 : (j 0 : ℕ) = b * 2176 + s) (e1 : (j 1 : ℕ) = h * 64 + d) :
    val_main_v82 (F := Ideal) x0 x1 x3 j
      = ((if hs : (s : ℕ) < nRows then gradV (headsOf x0 b h) (headsOf x1 b h) (cotOf x3 b h) ⟨s, hs⟩ d else 0 : ℝ) : EReal) := by
  have hb := b.2
  have hh := h.2
  have hd := d.2
  have hs' := s.2
  rw [val_main_v82_apply]
  refine (at4 (val_main_v81 (F := Ideal) x0 x1 x3) _ b s h d ?_ ?_ ?_ ?_).trans ?_
  · simp only [idx_main_v82]
    omega
  · simp only [idx_main_v82]
    omega
  · simp only [idx_main_v82]
    omega
  · simp only [idx_main_v82]
    omega
  · pointwise [val_main_v81]
    by_cases hs : (s : ℕ) < nRows
    · rw [dif_pos hs, dif_pos hs, val_main_v58_apply]
      exact (at4 (val_main_v40 (F := Ideal) x0 x1 x3) _ b h ⟨s, hs⟩ d rfl rfl rfl rfl).trans (v40_at h0 h1 h3 b h ⟨s, hs⟩ d)
    · rw [dif_neg hs, dif_neg hs]
      exact sitofp_zero

include h2

theorem v80_at (j : S4352x1024.Idx) (b : Fin 2) (h : Fin 8) (s : Fin 2176) (l : Fin 128)
    (e0 : (j 0 : ℕ) = b * 2176 + s) (e1 : (j 1 : ℕ) = h * 128 + l) :
    val_main_v80 (F := Ideal) x0 x1 x2 x3 j
      = ((if hs : (s : ℕ) < nRows ∧ (l : ℕ) < 96 then
          gradK (headsOf x0 b h) (headsOf x1 b h) (headsOf x2 b h) (cotOf x3 b h) ⟨s, hs.1⟩ ⟨l, hs.2⟩ else 0 : ℝ) : EReal) := by
  have hb := b.2
  have hh := h.2
  have hl := l.2
  have hs' := s.2
  rw [val_main_v80_apply]
  refine (at4 (val_main_v79 (F := Ideal) x0 x1 x2 x3) _ b s h l ?_ ?_ ?_ ?_).trans ?_
  · simp only [idx_main_v80]
    omega
  · simp only [idx_main_v80]
    omega
  · simp only [idx_main_v80]
    omega
  · simp only [idx_main_v80]
    omega
  · pointwise [val_main_v79]
    by_cases hs : (s : ℕ) < nRows ∧ (l : ℕ) < 96
    · rw [dif_pos hs, dif_pos hs, val_main_v59_apply]
      exact (at4 (val_main_v56 (F := Ideal) x0 x1 x2 x3) _ b h ⟨s, hs.1⟩ ⟨l, hs.2⟩ rfl rfl rfl rfl).trans
        (v56_at h0 h1 h2 h3 b h ⟨s, hs.1⟩ ⟨l, hs.2⟩)
    · rw [dif_neg hs, dif_neg hs]
      exact sitofp_zero

theorem v78_at (j : S4352x1024.Idx) (b : Fin 2) (h : Fin 8) (t : Fin 2176) (l : Fin 128)
    (e0 : (j 0 : ℕ) = b * 2176 + t) (e1 : (j 1 : ℕ) = h * 128 + l) :
    val_main_v78 (F := Ideal) x0 x1 x2 x3 j
      = (gradLane (gradQ (padRow (headsOf x0 b h) t) (headsOf x1 b h) (headsOf x2 b h) (padRow (cotOf x3 b h) t)) l : EReal) := by
  have hb := b.2
  have hh := h.2
  have hl := l.2
  have hs' := t.2
  rw [val_main_v78_apply]
  refine (at4 (val_main_v77 (F := Ideal) x0 x1 x2 x3) _ b t h l ?_ ?_ ?_ ?_).trans ?_
  · simp only [idx_main_v78]
    omega
  · simp only [idx_main_v78]
    omega
  · simp only [idx_main_v78]
    omega
  · simp only [idx_main_v78]
    omega
  · pointwise [val_main_v77]
    unfold gradLane
    by_cases hl : (l : ℕ) < 96
    · by_cases ht : (t : ℕ) < nRows
      · rw [dif_pos ⟨ht, hl⟩, dif_pos hl, val_main_v60_apply, row_in _ ht, row_in _ ht]
        exact (at4 (val_main_v57 (F := Ideal) x0 x1 x2 x3) _ b h ⟨t, ht⟩ ⟨l, hl⟩ rfl rfl rfl rfl).trans
          (v57_at h0 h1 h2 h3 b h ⟨t, ht⟩ ⟨l, hl⟩)
      · rw [dif_neg fun h => ht h.1, dif_pos hl, padRow_out (cotOf x3 b h) ht, gradQ_zero]
        exact sitofp_zero
    · rw [dif_neg fun h => hl h.2, dif_neg hl]
      exact sitofp_zero

end

end Cert.ReferenceIdeal.Value

end
-- ==== Proof.Decode.lean ====
/- The precondition and the mask read: finite arguments are arrays of reals, and the mask leaves out the padding rows and one lane. -/
module

public import proofs.«01_k».proof.Proof.Entry
public import proofs.«01_k».proof.Proof.Gen.Pre_finite
public import proofs.«01_k».proof.Proof.Gen.On_read
public import Idealize.ShloMosaic.Lib.ReduceAll

@[expose] public section

set_option maxRecDepth 16384

noncomputable section

open Idealize.ShloMosaic Idealize.ShloMosaic.TcCoe Idealize.SL.Sem

namespace Cert.KernelIdeal.Value

/-- A number whose absolute value is below infinity is a real. -/
theorem real_of_abs_lt (x : EReal) (h : max x (-x) < ⊤) : x = (EReal.toReal x : EReal) := by
  refine (EReal.coe_toReal ?_ ?_).symm
  · rintro rfl
    simp at h
  · rintro rfl
    simp at h

theorem inf_bits : Ideal.ofBits FTy.f32 0x7F800000#32 = ⊤ := by
  simp [Ideal.ofBits, Ideal.ieee]

/-- One argument's part of the precondition. -/
theorem allReal_of {s : Shape} (x y : FVec Ideal s .f32) (hy : ∀ i, y i = Ideal.ofBits FTy.f32 0x7F800000#32)
    (h : ∀ i, cmpf (F := Ideal) .olt (Host.absf x) y i = 1#1) : AllReal x := fun i => by
  refine real_of_abs_lt (x i) ?_
  have hi : Ideal.cmp .olt (max (x i) (-(x i))) (y i) = 1#1 := h i
  rw [hy, inf_bits] at hi
  by_contra hn
  have : Ideal.cmp .olt (max (x i) (-(x i))) ⊤ = 0#1 := by
    simp only [Ideal.cmp, decide_eq_false hn]
    rfl
  rw [this] at hi
  exact absurd hi (by decide)

theorem real_args (x0 x1 : FVec Ideal ⟨4, ![2, 2064, 8, 96]⟩ .f32) (x2 : FVec Ideal ⟨4, ![2, 2064, 8, 64]⟩ .f32) (x3 : FVec Ideal ⟨3, ![2, 2064, 512]⟩ .f32)
    (h : Cert.Pre_finite.fn (F := Ideal) x0 x1 x2 x3 = fun _ => 1#1) : AllReal x0 ∧ AllReal x1 ∧ AllReal x2 ∧ AllReal x3 := by
  have h0 := congrFun h (Shape.Idx.first Cert.Pre_finite.Gen.facts.h_S_)
  unfold Cert.Pre_finite.fn Cert.Pre_finite.fn_part1 at h0
  obtain ⟨h012, h3⟩ := IntOp.andi_eq_one.1 h0
  obtain ⟨h01, h2⟩ := IntOp.andi_eq_one.1 h012
  obtain ⟨h0, h1⟩ := IntOp.andi_eq_one.1 h01
  have sub : Subsingleton (Cert.Pre_finite.S_.Idx) := ⟨fun a b => funext fun k => k.elim0⟩
  exact ⟨allReal_of x0 _ (fun _ => rfl) (Host.reduce_andi_all _ _ _ _ _ h0), allReal_of x1 _ (fun _ => rfl) (Host.reduce_andi_all _ _ _ _ _ h1),
    allReal_of x2 _ (fun _ => rfl) (Host.reduce_andi_all _ _ _ _ _ h2), allReal_of x3 _ (fun _ => rfl) (Host.reduce_andi_all _ _ _ _ _ h3)⟩

/-- The remainder of a small word by a small positive word. -/
theorem rem_word (n k : ℕ) (hn : n < 2 ^ 31) (hk : 0 < k) (hk' : k < 2 ^ 31) :
    IntOp.remsi .host (BitVec.ofNat 32 n) (BitVec.ofNat 32 k) = BitVec.ofNat 32 (n % k) := by
  have hx : (BitVec.ofNat 32 n).toNat = n := by rw [BitVec.toNat_ofNat]; omega
  have hm : n % k < k := Nat.mod_lt _ hk
  apply BitVec.eq_of_toNat_eq
  rw [IntOp.toNat_remsi _ (by rw [hx]; omega) k hk (by omega), hx, BitVec.toNat_ofNat]
  omega

section
variable (x0 x1 : FVec Ideal ⟨4, ![2, 2064, 8, 96]⟩ .f32) (x2 : FVec Ideal ⟨4, ![2, 2064, 8, 64]⟩ .f32) (x3 : FVec Ideal ⟨3, ![2, 2064, 512]⟩ .f32)

theorem word_lt (n : ℕ) (hn : n < 2176) (h : IntOp.cmpi .slt (BitVec.ofNat 32 n) 2064#32 = 1#1) : n < 2064 := by
  have all : ∀ r : Fin 2176, IntOp.cmpi CmpIPredicate.slt (BitVec.ofNat 32 (r : ℕ)) 2064#32 = 1#1 → (r : ℕ) < 2064 := by decide +kernel
  exact all ⟨n, hn⟩ h

theorem word_ne (n : ℕ) (hn : n < 128) (h : IntOp.cmpi .ne (BitVec.ofNat 32 n) 96#32 = 1#1) : n ≠ 96 := by
  rintro rfl
  exact absurd h (by decide)

theorem read_o (i : Shape.Idx ⟨2, ![4352, 512]⟩) (h : (Cert.On_read.fn (F := Ideal) x0 x1 x2 x3).1 i = 1#1) : (i 0 : ℕ) % 2176 < 2064 := by
  have hi : (i 0 : ℕ) < 4352 := (i 0).2
  have h' : IntOp.cmpi .slt (IntOp.remsi .host (BitVec.ofNat 32 (i 0 : ℕ)) (BitVec.ofNat 32 2176)) 2064#32 = 1#1 := h
  rw [rem_word _ _ (by omega) (by omega) (by omega)] at h'
  exact word_lt _ (by omega) h'

theorem read_l (i : Shape.Idx ⟨3, ![4, 4352, 2]⟩) (h : (Cert.On_read.fn (F := Ideal) x0 x1 x2 x3).2.1 i = 1#1) : (i 1 : ℕ) % 2176 < 2064 := by
  have hi : (i 1 : ℕ) < 4352 := (i 1).2
  have h' : IntOp.cmpi .slt (IntOp.remsi .host (BitVec.ofNat 32 (i 1 : ℕ)) (BitVec.ofNat 32 2176)) 2064#32 = 1#1 := h
  rw [rem_word _ _ (by omega) (by omega) (by omega)] at h'
  exact word_lt _ (by omega) h'

theorem read_dk (i : Shape.Idx ⟨2, ![4352, 1024]⟩) (h : (Cert.On_read.fn (F := Ideal) x0 x1 x2 x3).2.2.2.1 i = 1#1) : (i 1 : ℕ) % 128 ≠ 96 := by
  have hi : (i 1 : ℕ) < 1024 := (i 1).2
  have h' : IntOp.cmpi .ne (IntOp.remsi .host (BitVec.ofNat 32 (i 1 : ℕ)) (BitVec.ofNat 32 128)) 96#32 = 1#1 := h
  rw [rem_word _ _ (by omega) (by omega) (by omega)] at h'
  exact word_ne _ (by omega) h'

end

end Cert.KernelIdeal.Value

end
-- ==== Proof.Agree.lean ====
/- The kernel's five arrays and the reference's five results are equal wherever the mask reads them. -/
module

public import proofs.«01_k».proof.Proof.RefArrays
public import proofs.«01_k».proof.Proof.Decode

@[expose] public section

set_option maxRecDepth 16384

noncomputable section

open Idealize.ShloMosaic Idealize.ShloMosaic.TcCoe Idealize.SL.Sem

namespace Cert.KernelIdeal.Value

open Cert.KernelIdeal Cert.KernelIdeal.Gen
open Cert.Attn
open Cert.ReferenceIdeal.Read
open Cert.ReferenceIdeal.Value (v73_at v76_at v78_at v80_at v82_at)

section
variable (m : (ℓ : Loc nD τ sig) → Buf (Elt Ideal) ℓ) (ρ : Dev nD → PrngReg) (c : Dev nD)
variable (hq : AllReal (argQ m c)) (hk : AllReal (argK m c)) (hv : AllReal (argV m c)) (hg : AllReal (argG m c))
include hq hk

theorem agree_o (hv : AllReal (argV m c)) (i : S4352x512.Idx) (hi : (i 0 : ℕ) % 2176 < 2064) :
    val_main_v76 (F := Ideal) (argQ m c) (argK m c) (argV m c) i = (dat1 (V9 m ρ) c).arrAt 3 cfg1.N i := by
  refine Eq.trans ?_ (congrFun (fwd_o m ρ c hq hk hv) i).symm
  have h0 : (i 0 : ℕ) < 4352 := (i 0).2
  have h1 : (i 1 : ℕ) < 512 := (i 1).2
  exact v76_at hq hk hv i ⟨i 0 / 2176, by omega⟩ ⟨i 1 / 64, by omega⟩ ⟨i 0 % 2176, by omega⟩ ⟨i 1 % 64, by omega⟩ hi
    (by show (i 0 : ℕ) = i 0 / 2176 * 2176 + i 0 % 2176; omega) (by show (i 1 : ℕ) = i 1 / 64 * 64 + i 1 % 64; omega)

theorem agree_l (i : S4x4352x2.Idx) (hi : (i 1 : ℕ) % 2176 < 2064) :
    val_main_v73 (F := Ideal) (argQ m c) (argK m c) i = (dat1 (V9 m ρ) c).arrAt 4 cfg1.N i := by
  refine Eq.trans ?_ (congrFun (fwd_l m ρ c hq hk) i).symm
  have h0 : (i 0 : ℕ) < 4 := (i 0).2
  have h1 : (i 1 : ℕ) < 4352 := (i 1).2
  have h2 : (i 2 : ℕ) < 2 := (i 2).2
  exact v73_at hq hk i ⟨i 1 / 2176, by omega⟩ ⟨i 0 * 2 + i 2, by omega⟩ ⟨i 1 % 2176, by omega⟩ hi
    (by show (i 1 : ℕ) = i 1 / 2176 * 2176 + i 1 % 2176; omega) rfl

include hg

theorem agree_dv (i : S4352x512.Idx) :
    val_main_v82 (F := Ideal) (argQ m c) (argK m c) (argG m c) i = (dat2 (V13 m ρ) c).arrAt 8 cfg2.N i := by
  refine Eq.trans ?_ (congrFun (dv_arr m ρ c hq hk hg) i).symm
  have h0 : (i 0 : ℕ) < 4352 := (i 0).2
  have h1 : (i 1 : ℕ) < 512 := (i 1).2
  exact v82_at hq hk hg i ⟨i 0 / 2176, by omega⟩ ⟨i 1 / 64, by omega⟩ ⟨i 0 % 2176, by omega⟩ ⟨i 1 % 64, by omega⟩
    (by show (i 0 : ℕ) = i 0 / 2176 * 2176 + i 0 % 2176; omega) (by show (i 1 : ℕ) = i 1 / 64 * 64 + i 1 % 64; omega)

include hv

theorem agree_dq (i : S4352x1024.Idx) :
    val_main_v78 (F := Ideal) (argQ m c) (argK m c) (argV m c) (argG m c) i = (dat2 (V13 m ρ) c).arrAt 6 cfg2.N i := by
  refine Eq.trans ?_ (congrFun (dq_arr m ρ c hq hk hv hg) i).symm
  have h0 : (i 0 : ℕ) < 4352 := (i 0).2
  have h1 : (i 1 : ℕ) < 1024 := (i 1).2
  exact v78_at hq hk hv hg i ⟨i 0 / 2176, by omega⟩ ⟨i 1 / 128, by omega⟩ ⟨i 0 % 2176, by omega⟩ ⟨i 1 % 128, by omega⟩
    (by show (i 0 : ℕ) = i 0 / 2176 * 2176 + i 0 % 2176; omega) (by show (i 1 : ℕ) = i 1 / 128 * 128 + i 1 % 128; omega)

theorem agree_dk (i : S4352x1024.Idx) (hi : (i 1 : ℕ) % 128 ≠ 96) :
    val_main_v80 (F := Ideal) (argQ m c) (argK m c) (argV m c) (argG m c) i = (dat2 (V13 m ρ) c).arrAt 7 cfg2.N i := by
  refine Eq.trans ?_ (dk_arr m ρ c hq hk hv hg i hi).symm
  have h0 : (i 0 : ℕ) < 4352 := (i 0).2
  have h1 : (i 1 : ℕ) < 1024 := (i 1).2
  exact v80_at hq hk hv hg i ⟨i 0 / 2176, by omega⟩ ⟨i 1 / 128, by omega⟩ ⟨i 0 % 2176, by omega⟩ ⟨i 1 % 128, by omega⟩
    (by show (i 0 : ℕ) = i 0 / 2176 * 2176 + i 0 % 2176; omega) (by show (i 1 : ℕ) = i 1 / 128 * 128 + i 1 % 128; omega)

end

end Cert.KernelIdeal.Value

end
-- ==== Proof.KRun.lean ====
/- The kernel program's run with its results: what region 1 and region 2 left, and the arguments unchanged. -/
module

public import proofs.«01_k».proof.Proof.BwdSums

@[expose] public section

set_option maxRecDepth 16384

noncomputable section

open Idealize.ShloMosaic Idealize.ShloMosaic.TcCoe Idealize.SL.Sem

namespace Cert.KernelIdeal.Value
open Cert.KernelIdeal Cert.KernelIdeal.Gen

open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem W14_o (c : Dev nD) : W14 m ρ c main_v17_0 = (dat1 (V9 m ρ) c).arrAt 3 cfg1.N :=
  (W14_of m ρ c main_v17_0 (by decide)).trans (V13_o m ρ c)
theorem W14_l (c : Dev nD) : W14 m ρ c main_v17_1 = (dat1 (V9 m ρ) c).arrAt 4 cfg1.N :=
  (W14_of m ρ c main_v17_1 (by decide)).trans (V13_l m ρ c)

set_option backward.isDefEq.respectTransparency.types false in
/-- Every run ends with the five result arrays as the regions left them and the arguments as launched. -/
theorem run : θ_run defs (onTc (τ := τ) (main (F := Ideal))) ⟨m, fun _ => 0, ρ⟩ (fun r => (∀ c : Dev nD,
      r.2.mem ((c.tc : Thread nD τ).loc main_v17_0) = (dat1 (V9 m ρ) c).arrAt 3 cfg1.N
      ∧ r.2.mem ((c.tc : Thread nD τ).loc main_v17_1) = (dat1 (V9 m ρ) c).arrAt 4 cfg1.N
      ∧ r.2.mem ((c.tc : Thread nD τ).loc main_v20_0) = (dat2 (V13 m ρ) c).arrAt 6 cfg2.N
      ∧ r.2.mem ((c.tc : Thread nD τ).loc main_v20_1) = (dat2 (V13 m ρ) c).arrAt 7 cfg2.N
      ∧ r.2.mem ((c.tc : Thread nD τ).loc main_v20_2) = (dat2 (V13 m ρ) c).arrAt 8 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨(fun c =>
      ⟨(h c _ (mem_uc main_v17_0 (by decide))).trans (W14_o m ρ c),
       (h c _ (mem_uc main_v17_1 (by decide))).trans (W14_l m ρ c),
       (h c _ (mem_uc main_v20_0 (by decide))).trans (W14_arr m ρ c 6),
       (h c _ (mem_uc main_v20_1 (by decide))).trans (W14_arr m ρ c 7),
       (h c _ (mem_uc main_v20_2 (by decide))).trans (W14_arr m ρ c 8),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c)⟩), funext fun g => hz g (.inr (no_unscoped g.2))⟩)

end Cert.KernelIdeal.Value

end
-- ==== Proof.MixSpec.lean ====
/- One row of the layer's second half and of its gradient: the two norms of the mixed lanes, the output projection, the
   gated feed-forward, the squared error, and what each of them sends back. -/
module

public import Idealize.ShloMosaic.PureOps.Ideal

@[expose] public section

noncomputable section

open Idealize.ShloMosaic

namespace Cert.Mix

/-- A row of `n` numbers. -/
abbrev Row (n : ℕ) := Fin n → EReal

/-- What the norms add to the mean square. -/
def eps : EReal := Ideal.ofBits .f32 0x358637BD#32
/-- One 512th. -/
def c512 : EReal := Ideal.ofBits .f32 0x3B000000#32
/-- One 1024th. -/
def c1024 : EReal := Ideal.ofBits .f32 0x3A800000#32
/-- Minus one half. -/
def mhalf : EReal := Ideal.ofBits .f32 0xBF000000#32

section
variable {n : ℕ} (s : EReal) (x : Row n)

/-- The mean square of a row (`s` is one over its length), with `eps` added. -/
def meanSq : EReal := (∑ k, x k * x k) * s + eps
/-- The factor a norm scales its row by. -/
def inv : EReal := Ideal.rsqrt (meanSq s x)
/-- The derivative of that factor in the mean square. -/
def slope : EReal := mhalf * Ideal.div (inv s x) (meanSq s x)
/-- The row scaled. -/
def unit : Row n := fun j => x j * inv s x
/-- What the mean square's share of a cotangent `c` of the scaled row comes to, per element. -/
def share (c : Row n) : EReal := (∑ k, x k * c k) * slope s x * s
/-- The cotangent of the row, of a cotangent `c` of the scaled row. -/
def pull (c : Row n) : Row n := fun j => c j * inv s x + x j * share s x c + share s x c * x j

end

/-- The weights of the layer's second half. -/
structure Weights where
  ga : Row 512
  gr : Row 512
  wout : Fin 1024 → Row 1024
  ln2 : Row 1024
  wg : Fin 1024 → Row 2816
  wu : Fin 1024 → Row 2816
  wd : Fin 2816 → Row 1024

/-- What one row takes: the residual stream, the attention's and the recurrence's lanes, the target, and whether the loss
    counts the row. -/
structure RowIn where
  h : Row 1024
  o : Row 512
  y : Row 512
  t : Row 1024
  live : Bool

/-- A lane of the attention's half. -/
def lo (j : Fin 512) : Fin 1024 := ⟨j, by omega⟩
/-- A lane of the recurrence's half. -/
def hi (j : Fin 512) : Fin 1024 := ⟨512 + j, by omega⟩

variable (w : Weights) (r : RowIn)

def mixA : Row 512 := fun j => unit c512 r.o j * w.ga j
def mixR : Row 512 := fun j => unit c512 r.y j * w.gr j
/-- The two normed halves side by side. -/
def mix : Row 1024 := fun j => if hj : (j : ℕ) < 512 then mixA w r ⟨j, hj⟩ else mixR w r ⟨j - 512, by omega⟩
/-- The residual stream after the output projection. -/
def h1 : Row 1024 := fun j => r.h j + ∑ k, mix w r k * w.wout k j
/-- The feed-forward's input. -/
def hn : Row 1024 := fun j => unit c1024 (h1 w r) j * w.ln2 j
def gate : Row 2816 := fun f => ∑ k, hn w r k * w.wg k f
def up : Row 2816 := fun f => ∑ k, hn w r k * w.wu k f
def sgm : Row 2816 := fun f => Ideal.logistic (gate w r f)
def silu : Row 2816 := fun f => gate w r f * sgm w r f
def act : Row 2816 := fun f => silu w r f * up w r f
/-- The error of the row's prediction, nothing for a row the loss leaves out. -/
def err : Row 1024 := fun j => if r.live then h1 w r j + (∑ f, act w r f * w.wd f j) - r.t j else 0
/-- The cotangent of the stream after the feed-forward. -/
def dh2 : Row 1024 := fun j => err w r j * c1024
def dact : Row 2816 := fun f => ∑ j, dh2 w r j * w.wd f j
def dgate : Row 2816 := fun f => dact w r f * up w r f * sgm w r f
  + gate w r f * (dact w r f * up w r f) * (sgm w r f * (1 - sgm w r f))
def dup : Row 2816 := fun f => silu w r f * dact w r f
def dhn : Row 1024 := fun j => (∑ f, dgate w r f * w.wg j f) + ∑ f, dup w r f * w.wu j f
/-- The cotangent of the stream before the feed-forward. -/
def dh1 : Row 1024 := fun j => dh2 w r j + pull c1024 (h1 w r) (fun k => dhn w r k * w.ln2 k) j
def dmix : Row 1024 := fun k => ∑ j, dh1 w r j * w.wout k j
/-- The cotangent of the attention's lanes. -/
def dO : Row 512 := pull c512 r.o fun j => dmix w r (lo j) * w.ga j
/-- The cotangent of the recurrence's lanes. -/
def dY : Row 512 := pull c512 r.y fun j => dmix w r (hi j) * w.gr j
/-- What the row adds to the loss, before its scale. -/
def sqErr : EReal := ∑ j, err w r j * err w r j
/-- What the row adds to the gradients of the three norms' scales. -/
def gaTerm : Row 512 := fun j => unit c512 r.o j * dmix w r (lo j)
def grTerm : Row 512 := fun j => unit c512 r.y j * dmix w r (hi j)
def lnTerm : Row 1024 := fun j => unit c1024 (h1 w r) j * dhn w r j

/-- A row of padding. -/
def RowIn.pad : RowIn := ⟨0, 0, 0, 0, false⟩

/-- A sum over the mixed lanes, half by half. -/
theorem sum_halves (F : Fin 1024 → EReal) : ∑ k, F k = (∑ j : Fin 512, F (lo j)) + ∑ j : Fin 512, F (hi j) :=
  Fin.sum_univ_add (a := 512) (b := 512) F

theorem mix_lo (j : Fin 512) : mix w r (lo j) = mixA w r j := by
  have : ((lo j : Fin 1024) : ℕ) < 512 := j.2
  simp only [mix, dif_pos this]; rfl

theorem mix_hi (j : Fin 512) : mix w r (hi j) = mixR w r j := by
  have : ¬ ((hi j : Fin 1024) : ℕ) < 512 := by simp [hi]
  simp only [mix, dif_neg this]
  exact congrArg _ (Fin.ext (by simp [hi]))

/-- The stream after the output projection, its two halves added one after the other. -/
theorem h1_halves (j : Fin 1024) : h1 w r j
    = r.h j + (∑ k, mixA w r k * w.wout (lo k) j) + ∑ k, mixR w r k * w.wout (hi k) j := by
  rw [h1, sum_halves, ← add_assoc]
  simp only [mix_lo, mix_hi]

/-! A row of padding sends nothing anywhere. -/

section
variable {w}

theorem mix_pad : mix w .pad = 0 := by
  funext j; simp [mix, mixA, mixR, unit, RowIn.pad]
theorem h1_pad : h1 w .pad = 0 := by
  funext j; simp [h1, mix_pad]; rfl
theorem hn_pad : hn w .pad = 0 := by
  funext j; simp [hn, unit, h1_pad]
theorem gate_pad : gate w .pad = 0 := by
  funext j; simp [gate, hn_pad]
theorem silu_pad : silu w .pad = 0 := by
  funext j; simp [silu, gate_pad]
theorem act_pad : act w .pad = 0 := by
  funext j; simp [act, silu_pad]
theorem err_pad : err w .pad = 0 := by
  funext j; simp [err, RowIn.pad]
theorem dh2_pad : dh2 w .pad = 0 := by
  funext j; simp [dh2, err_pad]
theorem dact_pad : dact w .pad = 0 := by
  funext j; simp [dact, dh2_pad]
theorem dgate_pad : dgate w .pad = 0 := by
  funext j; simp [dgate, dact_pad]
theorem dup_pad : dup w .pad = 0 := by
  funext j; simp [dup, silu_pad]
theorem dhn_pad : dhn w .pad = 0 := by
  funext j; simp [dhn, dgate_pad, dup_pad]
theorem pull_zero {n : ℕ} (s : EReal) (c : Row n) (hc : c = 0) : pull s 0 c = 0 := by
  funext j; simp [pull, hc]
theorem dh1_pad : dh1 w .pad = 0 := by
  funext j
  rw [dh1, h1_pad, pull_zero _ _ (by funext k; simp [dhn_pad]), dh2_pad]
  simp
theorem dmix_pad : dmix w .pad = 0 := by
  funext j; simp [dmix, dh1_pad]
theorem dO_pad : dO w .pad = 0 := pull_zero _ _ (by funext k; simp [dmix_pad])
theorem dY_pad : dY w .pad = 0 := pull_zero _ _ (by funext k; simp [dmix_pad])
theorem sqErr_pad : sqErr w .pad = 0 := by simp [sqErr, err_pad]
theorem gaTerm_pad : gaTerm w .pad = 0 := by funext j; simp [gaTerm, dmix_pad]
theorem grTerm_pad : grTerm w .pad = 0 := by funext j; simp [grTerm, dmix_pad]
theorem lnTerm_pad : lnTerm w .pad = 0 := by funext j; simp [lnTerm, dhn_pad]

end

end Cert.Mix

end
-- ==== Proof.MixPay.lean ====
/- What the feed-forward kernel's body computes, element by element: each value a row of the block holds, of the row's inputs. -/
module

public import proofs.«01_k».proof.Proof.Gen.Kernel2Ideal.Skeleton
public import proofs.«01_k».proof.Proof.MixSpec
public import Idealize.ShloMosaic.Lib.Pointwise

@[expose] public section

set_option maxRecDepth 16384

noncomputable section

open Idealize.ShloMosaic Idealize.ShloMosaic.TcCoe Idealize.SL.Sem

namespace Cert.Kernel2Ideal.Value
open Cert.Kernel2Ideal Cert.Kernel2Ideal.Gen

open Cert.Mix

/-- Whether the loss counts a row, as the kernel decides it from its block and its place there. -/
def liveWord (a b : BitVec 32) : BitVec 1 :=
  IntOp.andi
    (IntOp.cmpi CmpIPredicate.sge
      (Scalar.select (IntOp.cmpi CmpIPredicate.sge (IntOp.addi (Scalar.muli a 256#32) b) 2176#32)
        (IntOp.subi (IntOp.addi (Scalar.muli a 256#32) b) 2176#32) (IntOp.addi (Scalar.muli a 256#32) b)) 16#32)
    (IntOp.cmpi CmpIPredicate.slt
      (Scalar.select (IntOp.cmpi CmpIPredicate.sge (IntOp.addi (Scalar.muli a 256#32) b) 2176#32)
        (IntOp.subi (IntOp.addi (Scalar.muli a 256#32) b) 2176#32) (IntOp.addi (Scalar.muli a 256#32) b)) 2064#32)

/-- Whether the loss counts a row of the packed array. -/
def liveRow (n : ℕ) : Bool := decide (16 ≤ n % 2176 ∧ n % 2176 < 2064)

theorem liveWord_eq : ∀ (t : Fin 17) (i : Fin 256),
    liveWord (BitVec.ofNat 32 t) (BitVec.ofNat 32 i) = if liveRow (t * 256 + i) then 1#1 else 0#1 := by
  decide +kernel

/-! The norms of the attention's and the recurrence's lanes. -/

section
variable (X : FVec Ideal S256x512 .f32) (G : FVec Ideal S512 .f32) (i : Fin 256)

/-- A row of a block. -/
abbrev row {a b : ℕ} {φ : FTy} (x : FVec Ideal ⟨2, ![a, b]⟩ φ) (i : Fin a) : Row b := fun j => x (ix2 i j)
/-- A list of scales. -/
abbrev lst {b : ℕ} {φ : FTy} (x : FVec Ideal ⟨1, ![b]⟩ φ) : Row b := fun j => x (ix1 j)

theorem pay7_at (z : Fin 1) : k0_pay7 (F := Ideal) X (ix2 i z) = meanSq c512 (row X i) := by
  pointwise [k0_pay7, k0_pay6]
  rfl

theorem pay8_at (z : Fin 1) : k0_pay8 (F := Ideal) X (ix2 i z) = inv c512 (row X i) := by
  pointwise [k0_pay8]
  rw [pay7_at]
  rfl

theorem pay9_at (z : Fin 1) : k0_pay9 (F := Ideal) X (ix2 i z) = slope c512 (row X i) := by
  pointwise [k0_pay9]
  rw [pay7_at, pay8_at]
  rfl

theorem pay10_at (j : Fin 512) : k0_pay10 (F := Ideal) X (ix2 i j) = unit c512 (row X i) j := by
  pointwise [k0_pay10, k0_pay6]
  rw [pay8_at]
  rfl

theorem pay19_at (j : Fin 512) : k0_pay19 (F := Ideal) X G (ix2 i j) = unit c512 (row X i) j * lst G j := by
  pointwise [k0_pay19, k0_pay11]
  rw [pay10_at]

theorem pay18_at (j : Fin 512) : k0_pay18 (F := Ideal) X G (ix2 i j) = unit c512 (row X i) j * lst G j := by
  pointwise [k0_pay18, k0_pay17]
  exact congrArg (· * _) (pay10_at X i j)

end

/-! The output projection and the norm before the feed-forward. -/

section
variable {A B : FVec Ideal S256x512 .bf16} {v40 : FVec Ideal S256x512 .f32} {v41 : FVec Ideal S256x512 .bf16} {v45 : FVec Ideal S256x1024 .f32}
  {v47 v51 : FVec Ideal S512x1024 .bf16} {v55 : FVec Ideal S1024 .f32} {v74 v77 v88 v128 : FVec Ideal S2816x1024 .bf16}
variable {w : Weights} {r : RowIn} {i : Fin 256}

theorem pay21_at (h40 : ∀ j, v40 (ix2 i j) = mixR w r j) (h41 : ∀ j, v41 (ix2 i j) = mixA w r j) (h45 : ∀ j, v45 (ix2 i j) = r.h j)
    (h47 : ∀ k j, v47 (ix2 k j) = w.wout (lo k) j) (h51 : ∀ k j, v51 (ix2 k j) = w.wout (hi k) j) (j : Fin 1024) :
    k0_pay21 (F := Ideal) v40 v41 v45 v47 v51 (ix2 i j) = h1 w r j := by
  pointwise [k0_pay21, k0_pay20]
  rw [h1_halves]
  simp only [h40, h41, h45, h47, h51]

variable (h21 : ∀ j, k0_pay21 (F := Ideal) v40 v41 v45 v47 v51 (ix2 i j) = h1 w r j)
include h21

theorem pay22_at (z : Fin 1) : k0_pay22 (F := Ideal) v40 v41 v45 v47 v51 (ix2 i z) = meanSq c1024 (h1 w r) := by
  pointwise [k0_pay22]
  simp only [h21]
  rfl

theorem pay23_at (z : Fin 1) : k0_pay23 (F := Ideal) v40 v41 v45 v47 v51 (ix2 i z) = inv c1024 (h1 w r) := by
  pointwise [k0_pay23]
  rw [pay22_at h21]
  rfl

theorem pay24_at (z : Fin 1) : k0_pay24 (F := Ideal) v40 v41 v45 v47 v51 (ix2 i z) = slope c1024 (h1 w r) := by
  pointwise [k0_pay24]
  rw [pay22_at h21, pay23_at h21]
  rfl

theorem pay25_at (j : Fin 1024) : k0_pay25 (F := Ideal) v40 v41 v45 v47 v51 (ix2 i j) = unit c1024 (h1 w r) j := by
  pointwise [k0_pay25]
  rw [pay23_at h21, h21]
  rfl

theorem pay27_at (h55 : ∀ j, v55 (ix1 j) = w.ln2 j) (j : Fin 1024) :
    k0_pay27 (F := Ideal) v40 v41 v45 v47 v51 v55 (ix2 i j) = hn w r j := by
  pointwise [k0_pay27, k0_pay26]
  rw [pay25_at h21]
  exact congrArg _ (h55 j)

theorem pay28_at (h55 : ∀ j, v55 (ix1 j) = w.ln2 j) (h74 : ∀ f k, v74 (ix2 f k) = w.wg k f) (f : Fin 2816) :
    k0_pay28 (F := Ideal) v40 v41 v45 v47 v51 v55 v74 (ix2 i f) = gate w r f := by
  pointwise [k0_pay28]
  simp only [pay27_at h21 h55, h74]
  rfl

end

/-! The gated feed-forward and the error. -/

section
variable {v54 v112 v106 v147 : FVec Ideal S256x1024 .f32} {v72 : FVec Ideal S256x1024 .bf16} {v76 v79 v80 v83 v84 : FVec Ideal S256x2816 .f32}
  {v74 v77 v88 v128 v141 v144 : FVec Ideal S2816x1024 .bf16}
variable {w : Weights} {r : RowIn} {i : Fin 256}

theorem pay29_at (h72 : ∀ j, v72 (ix2 i j) = hn w r j) (h77 : ∀ f k, v77 (ix2 f k) = w.wu k f) (f : Fin 2816) :
    k0_pay29 (F := Ideal) v72 v77 (ix2 i f) = up w r f := by
  pointwise [k0_pay29]
  simp only [h72, h77]
  rfl

section
variable (h76 : ∀ f, v76 (ix2 i f) = gate w r f)
include h76

theorem pay30_at (f : Fin 2816) : k0_pay30 (F := Ideal) v76 (ix2 i f) = sgm w r f := by
  pointwise [k0_pay30]
  rw [h76]
  rfl

theorem pay31_at (f : Fin 2816) : k0_pay31 (F := Ideal) v76 (ix2 i f) = sgm w r f * (1 - sgm w r f) := by
  pointwise [k0_pay31]
  rw [pay30_at h76]

theorem pay32_at (f : Fin 2816) : k0_pay32 (F := Ideal) v76 (ix2 i f) = silu w r f := by
  pointwise [k0_pay32]
  rw [pay30_at h76, h76]
  rfl

theorem pay33_at (h72 : ∀ j, v72 (ix2 i j) = hn w r j) (h77 : ∀ f k, v77 (ix2 f k) = w.wu k f) (f : Fin 2816) :
    k0_pay33 (F := Ideal) v72 v76 v77 (ix2 i f) = act w r f := by
  pointwise [k0_pay33]
  rw [pay32_at h76, pay29_at h72 h77]
  rfl

end

section
variable (h76 : ∀ f, v76 (ix2 i f) = gate w r f)
include h76

theorem pay34_at (a : BitVec 32) (hl : liveWord a (BitVec.ofNat 32 i) = if r.live then 1#1 else 0#1)
    (h54 : ∀ j, v54 (ix2 i j) = h1 w r j) (h72 : ∀ j, v72 (ix2 i j) = hn w r j) (h77 : ∀ f k, v77 (ix2 f k) = w.wu k f)
    (h88 : ∀ f j, v88 (ix2 f j) = w.wd f j) (h106 : ∀ j, v106 (ix2 i j) = r.t j) (j : Fin 1024) :
    k0_pay34 (F := Ideal) a v54 v72 v76 v77 v88 v106 (ix2 i j) = err w r j := by
  pointwise [k0_pay34]
  simp only [pay33_at h76 h72 h77, h88, h54, h106]
  refine (congrArg (fun z => Scalar.select z _ (0 : EReal)) hl).trans ?_
  cases h : r.live <;> simp [h, Scalar.select, err]

end

section
variable (h112 : ∀ j, v112 (ix2 i j) = err w r j)
include h112

theorem pay38_at (j : Fin 1024) : k0_pay38 (F := Ideal) v112 (ix2 i j) = dh2 w r j := by
  pointwise [k0_pay38]
  rw [h112]
  rfl

variable (h128 : ∀ f j, v128 (ix2 f j) = w.wd f j)
include h128

theorem pay39_at (f : Fin 2816) : k0_pay39 (F := Ideal) v112 v128 (ix2 i f) = dact w r f := by
  pointwise [k0_pay39]
  simp only [pay38_at h112, h128]
  rfl

theorem pay41_at (h84 : ∀ f, v84 (ix2 i f) = silu w r f) (f : Fin 2816) : k0_pay41 (F := Ideal) v84 v112 v128 (ix2 i f) = dup w r f := by
  pointwise [k0_pay41]
  rw [pay39_at h112 h128, h84]
  rfl

variable (h76 : ∀ f, v76 (ix2 i f) = gate w r f) (h79 : ∀ f, v79 (ix2 i f) = up w r f) (h80 : ∀ f, v80 (ix2 i f) = sgm w r f)
  (h83 : ∀ f, v83 (ix2 i f) = sgm w r f * (1 - sgm w r f))
include h76 h79 h80 h83

theorem pay40_at (f : Fin 2816) : k0_pay40 (F := Ideal) v76 v79 v80 v83 v112 v128 (ix2 i f) = dgate w r f := by
  pointwise [k0_pay40]
  rw [pay39_at h112 h128, h76, h79, h80, h83]
  rfl

theorem pay42_at (h84 : ∀ f, v84 (ix2 i f) = silu w r f) (h141 : ∀ f k, v141 (ix2 f k) = w.wg k f) (h144 : ∀ f k, v144 (ix2 f k) = w.wu k f)
    (j : Fin 1024) : k0_pay42 (F := Ideal) v76 v79 v80 v83 v84 v112 v128 v141 v144 (ix2 i j) = dhn w r j := by
  pointwise [k0_pay42]
  simp only [pay40_at h112 h128 h76 h79 h80 h83, pay41_at h112 h128 h84, h141, h144]
  rfl

end

end

/-! Back through the norm before the feed-forward and the output projection. -/

section
variable {v54 v112 v147 v151 : FVec Ideal S256x1024 .f32} {v63 v66 : FVec Ideal S256x1 .f32} {v175 : FVec Ideal S1024x1024 .bf16}
variable {w : Weights} {r : RowIn} {i : Fin 256}
variable (h54 : ∀ j, v54 (ix2 i j) = h1 w r j) (h63 : ∀ z, v63 (ix2 i z) = inv c1024 (h1 w r)) (h66 : ∀ z, v66 (ix2 i z) = slope c1024 (h1 w r))
  (h112 : ∀ j, v112 (ix2 i j) = err w r j) (h147 : ∀ j, v147 (ix2 i j) = dhn w r j) (h151 : ∀ j, v151 (ix2 i j) = w.ln2 j)
include h54 h63 h66 h112 h147 h151

theorem pay46_at (j : Fin 1024) : k0_pay46 (F := Ideal) v54 v63 v66 v112 v147 v151 (ix2 i j) = dh1 w r j := by
  pointwise [k0_pay46]
  simp only [h54, h63, h66, h112, h147, h151, Fin.sum_univ_one]
  rfl

theorem pay48_at (h175 : ∀ k j, v175 (ix2 k j) = w.wout k j) (k : Fin 1024) :
    k0_pay48 (F := Ideal) v54 v63 v66 v112 v147 v151 v175 (ix2 i k) = dmix w r k := by
  pointwise [k0_pay48, k0_pay47]
  simp only [pay46_at h54 h63 h66 h112 h147 h151, h175]
  rfl

theorem pay49_at (h175 : ∀ k j, v175 (ix2 k j) = w.wout k j) (j : Fin 512) :
    k0_pay49 (F := Ideal) v54 v63 v66 v112 v147 v151 v175 (ix2 i j) = dmix w r (lo j) := by
  pointwise [k0_pay49]
  exact (pay48_at h54 h63 h66 h112 h147 h151 h175 _).trans (congrArg _ (Fin.ext (by simp [lo])))

end

/-! Back through the norms of the mixed lanes. -/

section
variable {v4 v189 v192 : FVec Ideal S256x512 .f32} {v177 : FVec Ideal S256x1024 .f32} {v16 v32 v35 v63 v66 : FVec Ideal S256x1 .f32}
variable {v19 v38 : FVec Ideal S1x512 .f32} {x c : Row 512} {i : Fin 256}

/-- Back through a norm of 512 lanes, in the kernel's order of operations. -/
theorem pay56_at {w : Weights} {r : RowIn} (h23 : ∀ j, v4 (ix2 i j) = r.y j) (h32 : ∀ z, v32 (ix2 i z) = inv c512 r.y) (h35 : ∀ z, v35 (ix2 i z) = slope c512 r.y)
    (h38 : ∀ z j, v38 (ix2 z j) = w.gr j) (h177 : ∀ k, v177 (ix2 i k) = dmix w r k) (j : Fin 512) :
    k0_pay56 (F := Ideal) v4 v32 v35 v38 v177 (ix2 i j) = dY w r j := by
  pointwise [k0_pay56, k0_pay55]
  simp only [h23, h32, h35, h38, h177, Fin.sum_univ_one]
  rfl

theorem pay54_at {w : Weights} {r : RowIn} (h4 : ∀ j, v4 (ix2 i j) = r.o j)
    (h189 : ∀ j, v189 (ix2 i j) = dmix w r (lo j) * w.ga j * inv c512 r.o) (z : Fin 1) (v192 : FVec Ideal S256x1 .f32)
    (h192 : ∀ z, v192 (ix2 i z) = share c512 r.o fun j => dmix w r (lo j) * w.ga j) (j : Fin 512) :
    k0_pay54 (F := Ideal) v4 v189 v192 (ix2 i j) = dO w r j := by
  pointwise [k0_pay54]
  simp only [h4, h189, h192, Fin.sum_univ_one]
  rfl

variable {v54 v112 v147 v151 : FVec Ideal S256x1024 .f32} {v175 : FVec Ideal S1024x1024 .bf16} {v13 : FVec Ideal S256x1 .f32}

section
variable {w : Weights} {r : RowIn} (h49 : ∀ j, k0_pay49 (F := Ideal) v54 v63 v66 v112 v147 v151 v175 (ix2 i j) = dmix w r (lo j))
  (h19 : ∀ z j, v19 (ix2 z j) = w.ga j)
include h49 h19

theorem pay52_at (h13 : ∀ z, v13 (ix2 i z) = inv c512 r.o) (j : Fin 512) :
    k0_pay52 (F := Ideal) v13 v19 v54 v63 v66 v112 v147 v151 v175 (ix2 i j) = dmix w r (lo j) * w.ga j * inv c512 r.o := by
  pointwise [k0_pay52, k0_pay50]
  rw [h49, h19, h13]

theorem pay53_at (h4 : ∀ j, v4 (ix2 i j) = r.o j) (h16 : ∀ z, v16 (ix2 i z) = slope c512 r.o) (z : Fin 1) :
    k0_pay53 (F := Ideal) v4 v16 v19 v54 v63 v66 v112 v147 v151 v175 (ix2 i z) = share c512 r.o fun j => dmix w r (lo j) * w.ga j := by
  pointwise [k0_pay53, k0_pay50]
  simp only [h4, h16, h19, h49]
  rfl

end

end

/-! What a block adds to the loss and to the gradients of the norms' scales. -/

section
variable {v37 : FVec Ideal S256x512 .f32} {v54 v68 v112 v147 v151 v177 : FVec Ideal S256x1024 .f32} {v63 v66 : FVec Ideal S256x1 .f32}
  {v175 : FVec Ideal S1024x1024 .bf16} {v76 v79 v80 v83 v84 : FVec Ideal S256x2816 .f32} {v128 v141 v144 : FVec Ideal S2816x1024 .bf16}
variable {w : Weights} {r : Fin 256 → RowIn}

theorem pay51_at (h18 : ∀ i j, v37 (ix2 i j) = unit c512 (r i).o j)
    (h49 : ∀ i j, k0_pay49 (F := Ideal) v54 v63 v66 v112 v147 v151 v175 (ix2 i j) = dmix w (r i) (lo j)) (acc : FVec Ideal S1x512 .f32) (z : Fin 1) (j : Fin 512) :
    k0_pay57 (F := Ideal) (k0_pay51 v37 v54 v63 v66 v112 v147 v151 v175) acc (ix2 z j) = acc (ix2 z j) + ∑ i, gaTerm w (r i) j := by
  pointwise [k0_pay57, k0_pay51]
  simp only [h18, h49, Fin.sum_univ_one]
  rfl

theorem pay58_at (h37 : ∀ i j, v37 (ix2 i j) = unit c512 (r i).y j) (h177 : ∀ i k, v177 (ix2 i k) = dmix w (r i) k)
    (acc : FVec Ideal S1x512 .f32) (z : Fin 1) (j : Fin 512) :
    k0_pay58 (F := Ideal) v37 v177 acc (ix2 z j) = acc (ix2 z j) + ∑ i, grTerm w (r i) j := by
  pointwise [k0_pay58, k0_pay55]
  simp only [h37, h177, Fin.sum_univ_one]
  rfl

theorem pay1_at (h68 : ∀ i j, v68 (ix2 i j) = unit c1024 (h1 w (r i)) j)
    (h42 : ∀ i j, k0_pay42 (F := Ideal) v76 v79 v80 v83 v84 v112 v128 v141 v144 (ix2 i j) = dhn w (r i) j)
    (acc : FVec Ideal S1x1024 .f32) (z : Fin 1) (j : Fin 1024) :
    k0_pay1 (F := Ideal) (k0_pay45 (k0_pay43 v68 v76 v79 v80 v83 v84 v112 v128 v141 v144)) acc (ix2 z j)
      = acc (ix2 z j) + ∑ i, lnTerm w (r i) j := by
  pointwise [k0_pay1, k0_pay45, k0_pay43]
  simp only [h68, h42, Fin.sum_univ_one]
  rfl

end

section
variable {v54 v106 : FVec Ideal S256x1024 .f32} {v72 : FVec Ideal S256x1024 .bf16} {v76 : FVec Ideal S256x2816 .f32} {v77 v88 : FVec Ideal S2816x1024 .bf16}
variable {w : Weights} {r : Fin 256 → RowIn}

theorem pay37_at {a : BitVec 32} (h34 : ∀ i j, k0_pay34 (F := Ideal) a v54 v72 v76 v77 v88 v106 (ix2 i j) = err w (r i) j)
    (acc : FVec Ideal S1x1 .f32) (z z' : Fin 1) :
    k0_pay37 (F := Ideal) (k0_pay35 acc) (k0_pay36 a v54 v72 v76 v77 v88 v106) (ix2 z z')
      = acc (ix2 z z') + (∑ i, sqErr w (r i)) * Ideal.ofBits .f32 0x3A000000#32 := by
  pointwise [k0_pay37, k0_pay36, k0_pay35]
  simp only [h34]
  rfl

end

end Cert.Kernel2Ideal.Value

end
-- ==== Proof.MixRows.lean ====
/- The rows of the layer's second half, read off the arrays the programs take. -/
module

public import proofs.«01_k».proof.Proof.MixSpec
public import Idealize.ShloMosaic.Lib.Pointwise

@[expose] public section

noncomputable section

open Idealize.ShloMosaic Idealize.ShloMosaic.TcCoe

namespace Cert.Mix

/-- The weights, read off their arrays. -/
def weightsOf (ga gr : FVec Ideal ⟨1, ![512]⟩ .f32) (wout : FVec Ideal ⟨2, ![1024, 1024]⟩ .f32) (ln2 : FVec Ideal ⟨1, ![1024]⟩ .f32)
    (wg wu : FVec Ideal ⟨2, ![1024, 2816]⟩ .f32) (wd : FVec Ideal ⟨2, ![2816, 1024]⟩ .f32) : Weights where
  ga j := ga (ix1 j)
  gr j := gr (ix1 j)
  wout k j := wout (ix2 k j)
  ln2 j := ln2 (ix1 j)
  wg k f := wg (ix2 k f)
  wu k f := wu (ix2 k f)
  wd f j := wd (ix2 f j)

section
variable (h : FVec Ideal ⟨3, ![2, 2064, 1024]⟩ .f32) (o y : FVec Ideal ⟨3, ![2, 2064, 512]⟩ .f32) (t : FVec Ideal ⟨3, ![2, 2048, 1024]⟩ .f32)

/-- A row of a sequence. The first 16 rows have no target. -/
def rowOf (b : Fin 2) (s : Fin 2064) : RowIn where
  h j := h (ix3 b s j)
  o j := o (ix3 b s j)
  y j := y (ix3 b s j)
  t j := if hs : 16 ≤ (s : ℕ) then t (ix3 b ⟨s - 16, by omega⟩ j) else 0
  live := decide (16 ≤ (s : ℕ))

/-- A row of the packed arrays: the two sequences one after the other, each followed by rows of padding. -/
def packed (b : Fin 2) (s : Fin 2176) : RowIn := if hs : (s : ℕ) < 2064 then rowOf h o y t b ⟨s, hs⟩ else .pad

theorem packed_in (b : Fin 2) (s : Fin 2064) : packed h o y t b ⟨s, by omega⟩ = rowOf h o y t b s := dif_pos s.2
theorem packed_out (b : Fin 2) (s : Fin 2176) (hs : ¬ (s : ℕ) < 2064) : packed h o y t b s = .pad := dif_neg hs

theorem packed_h (b : Fin 2) (s : Fin 2176) (j : Fin 1024) :
    (packed h o y t b s).h j = if hs : (s : ℕ) < 2064 then h (ix3 b ⟨s, hs⟩ j) else 0 := by
  unfold packed
  split <;> rfl
theorem packed_o (b : Fin 2) (s : Fin 2176) (j : Fin 512) :
    (packed h o y t b s).o j = if hs : (s : ℕ) < 2064 then o (ix3 b ⟨s, hs⟩ j) else 0 := by
  unfold packed
  split <;> rfl
theorem packed_y (b : Fin 2) (s : Fin 2176) (j : Fin 512) :
    (packed h o y t b s).y j = if hs : (s : ℕ) < 2064 then y (ix3 b ⟨s, hs⟩ j) else 0 := by
  unfold packed
  split <;> rfl
theorem packed_t (b : Fin 2) (s : Fin 2176) (j : Fin 1024) :
    (packed h o y t b s).t j = if hs : 16 ≤ (s : ℕ) ∧ (s : ℕ) < 2064 then t (ix3 b ⟨s - 16, by omega⟩ j) else 0 := by
  unfold packed
  by_cases h1 : (s : ℕ) < 2064
  · rw [dif_pos h1]
    by_cases h2 : 16 ≤ (s : ℕ)
    · rw [dif_pos ⟨h2, h1⟩]
      exact dif_pos h2
    · rw [dif_neg fun x => h2 x.1]
      exact dif_neg h2
  · rw [dif_neg h1, dif_neg fun x => h1 x.2]
    rfl
theorem packed_live (b : Fin 2) (s : Fin 2176) : (packed h o y t b s).live = decide (16 ≤ (s : ℕ) ∧ (s : ℕ) < 2064) := by
  unfold packed
  by_cases h1 : (s : ℕ) < 2064
  · simp [rowOf, h1]
  · simp [RowIn.pad, h1]

/-- Both sequences' sums, over the packed rows block by block. -/
theorem sum_packed (F : RowIn → EReal) (h0 : F .pad = 0) :
    ∑ t' : Fin 17, ∑ i : Fin 256, F (packed h o y t ⟨(t' * 256 + i) / 2176, by omega⟩ ⟨(t' * 256 + i) % 2176, by omega⟩)
      = ∑ b : Fin 2, ∑ s : Fin 2064, F (rowOf h o y t b s) := by
  have e1 : ∀ b : Fin 2, ∑ s : Fin 2064, F (rowOf h o y t b s) = ∑ s : Fin 2176, F (packed h o y t b s) := by
    intro b
    rw [show (∑ s : Fin 2176, F (packed h o y t b s)) = ∑ s : Fin (2064 + 112), F (packed h o y t b s) from rfl, Fin.sum_univ_add]
    rw [Finset.sum_eq_zero (s := Finset.univ (α := Fin 112)), add_zero]
    · refine Finset.sum_congr rfl fun s _ => ?_
      exact congrArg F (packed_in h o y t b s).symm
    · intro s _
      rw [packed_out h o y t b _ (by simp), h0]
  simp only [e1]
  rw [← Fintype.sum_prod_type', ← Fintype.sum_prod_type']
  let G : Fin 4352 → EReal := fun n => F (packed h o y t ⟨n / 2176, by omega⟩ ⟨n % 2176, by omega⟩)
  refine Eq.trans (b := ∑ n, G n) ?_ ?_
  · refine Fintype.sum_equiv (finProdFinEquiv (m := 17) (n := 256)) _ G fun x => ?_
    show _ = F _
    congr 2 <;> simp only [finProdFinEquiv, Equiv.coe_fn_mk] <;> refine Fin.ext ?_ <;> simp only [] <;> omega
  · symm
    refine Fintype.sum_equiv (finProdFinEquiv (m := 2) (n := 2176)) _ G fun x => ?_
    show _ = F _
    congr 2 <;> simp only [finProdFinEquiv, Equiv.coe_fn_mk] <;> refine Fin.ext ?_ <;> simp only [] <;> omega

end

end Cert.Mix

end
-- ==== Proof.MixHost.lean ====
/- The arrays the feed-forward kernel takes, element by element: the rows padded and packed, the weights turned. -/
module

public import proofs.«01_k».proof.Proof.MixPay
public import proofs.«01_k».proof.Proof.MixRows
public import proofs.«01_k».proof.Proof.Gen.Kernel2Ideal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel2Ideal.Value
open Cert.Kernel2Ideal Cert.Kernel2Ideal.Gen

open Cert.Mix

variable (m : (ℓ : Loc nD τ sig) → Buf (Elt Ideal) ℓ) (c : Dev nD)

/-- The arguments of a device. -/
abbrev arg (b : Ref sig .tc) : Buf (Elt Ideal) ((c : Thread nD τ).loc b) := m ((c : Thread nD τ).loc b)

/-- The weights of a device. -/
abbrev wts : Weights := weightsOf (arg m c main_arg4) (arg m c main_arg5) (arg m c main_arg6) (arg m c main_arg7) (arg m c main_arg8)
  (arg m c main_arg9) (arg m c main_arg10)
/-- A packed row of a device. -/
abbrev rowAt (b : Fin 2) (s : Fin 2176) : RowIn := packed (arg m c main_arg0) (arg m c main_arg1) (arg m c main_arg2) (arg m c main_arg3) b s

/-- The zero that fills the padding. -/
abbrev zeroF : FVec Ideal S_ .f32 := sitofp .f32 (constantI S_ 32 0#32)

theorem zero_at : FloatOps.sitofp (F := Ideal) FTy.f32 (0#32) = (0 : EReal) := by
  show (((0#32 : BitVec 32).toInt : ℝ) : EReal) = 0
  simp

abbrev padH (x : FVec Ideal S2x2064x1024 .f32) : FVec Ideal S2x2176x1024 .f32 :=
  pad S2x2176x1024 ![0, 0, 0] ![0, 112, 0] ![0, 0, 0] x zeroF pads_S2x2064x1024_S2x2176x1024_000_01120_000 h_S_
abbrev padO (x : FVec Ideal S2x2064x512 .f32) : FVec Ideal S2x2176x512 .f32 :=
  pad S2x2176x512 ![0, 0, 0] ![0, 112, 0] ![0, 0, 0] x zeroF pads_S2x2064x512_S2x2176x512_000_01120_000 h_S_
abbrev padT (x : FVec Ideal S2x2048x1024 .f32) : FVec Ideal S2x2176x1024 .f32 :=
  pad S2x2176x1024 ![0, 16, 0] ![0, 112, 0] ![0, 0, 0] x zeroF pads_S2x2048x1024_S2x2176x1024_000_161120_000 h_S_

theorem entry_v7 : V m c main_v7 = (shapeCast S4352x1024 (padH (arg m c main_arg0)) shapeCasts_S2x2176x1024_S4352x1024 : FVec Ideal S4352x1024 .f32) := by
  entry_read
  rfl
theorem entry_v9 : V m c main_v9 = (shapeCast S4352x512 (padO (arg m c main_arg1)) shapeCasts_S2x2176x512_S4352x512 : FVec Ideal S4352x512 .f32) := by
  entry_read
  rfl
theorem entry_v11 : V m c main_v11 = (shapeCast S4352x512 (padO (arg m c main_arg2)) shapeCasts_S2x2176x512_S4352x512 : FVec Ideal S4352x512 .f32) := by
  entry_read
  rfl
theorem entry_v13 : V m c main_v13 = (shapeCast S4352x1024 (padT (arg m c main_arg3)) shapeCasts_S2x2176x1024_S4352x1024 : FVec Ideal S4352x1024 .f32) := by
  entry_read
  rfl
theorem entry_v0 : V m c main_v0 = (truncf .bf16 (arg m c main_arg6 : FVec Ideal S1024x1024 .f32) bitsLt_bf16_f32 : FVec Ideal S1024x1024 .bf16) := by
  entry_read
  rfl
theorem entry_v2 : V m c main_v2 = (truncf .bf16 (transpose S2816x1024 [1, 0] (arg m c main_arg8 : FVec Ideal S1024x2816 .f32)
    transposes_S1024x2816_S2816x1024_1_0) bitsLt_bf16_f32 : FVec Ideal S2816x1024 .bf16) := by
  entry_read
  rfl
theorem entry_v4 : V m c main_v4 = (truncf .bf16 (transpose S2816x1024 [1, 0] (arg m c main_arg9 : FVec Ideal S1024x2816 .f32)
    transposes_S1024x2816_S2816x1024_1_0) bitsLt_bf16_f32 : FVec Ideal S2816x1024 .bf16) := by
  entry_read
  rfl
theorem entry_v5 : V m c main_v5 = (truncf .bf16 (arg m c main_arg10 : FVec Ideal S2816x1024 .f32) bitsLt_bf16_f32 : FVec Ideal S2816x1024 .bf16) := by
  entry_read
  rfl

section
variable (b : Fin 2) (s : Fin 2176)

theorem row_h (j : S4352x1024.Idx) (l : Fin 1024) (h0 : (j 0 : ℕ) = b * 2176 + s) (h1 : (j 1 : ℕ) = l) :
    V m c main_v7 j = (rowAt m c b s).h l := by
  have e0 : (j 0 : ℕ) / 2176 = b := by omega
  have e1 : (j 0 : ℕ) % 2176 = s := by omega
  have e2 : j 1 = l := Fin.ext h1
  rw [entry_v7, packed_h]
  pointwise [padH]
  simp only [e0, e1, e2, zero_at, b.2, l.2, true_and, and_true]

theorem row_o (j : S4352x512.Idx) (l : Fin 512) (h0 : (j 0 : ℕ) = b * 2176 + s) (h1 : (j 1 : ℕ) = l) :
    V m c main_v9 j = (rowAt m c b s).o l := by
  have e0 : (j 0 : ℕ) / 2176 = b := by omega
  have e1 : (j 0 : ℕ) % 2176 = s := by omega
  have e2 : j 1 = l := Fin.ext h1
  rw [entry_v9, packed_o]
  pointwise [padO]
  simp only [e0, e1, e2, zero_at, b.2, l.2, true_and, and_true]

theorem row_y (j : S4352x512.Idx) (l : Fin 512) (h0 : (j 0 : ℕ) = b * 2176 + s) (h1 : (j 1 : ℕ) = l) :
    V m c main_v11 j = (rowAt m c b s).y l := by
  have e0 : (j 0 : ℕ) / 2176 = b := by omega
  have e1 : (j 0 : ℕ) % 2176 = s := by omega
  have e2 : j 1 = l := Fin.ext h1
  rw [entry_v11, packed_y]
  pointwise [padO]
  simp only [e0, e1, e2, zero_at, b.2, l.2, true_and, and_true]

theorem row_t (j : S4352x1024.Idx) (l : Fin 1024) (h0 : (j 0 : ℕ) = b * 2176 + s) (h1 : (j 1 : ℕ) = l) :
    V m c main_v13 j = (rowAt m c b s).t l := by
  have e0 : (j 0 : ℕ) / 2176 = b := by omega
  have e1 : (j 0 : ℕ) % 2176 = s := by omega
  have e2 : j 1 = l := Fin.ext h1
  rw [entry_v13, packed_t]
  pointwise [padT]
  simp only [e0, e1, e2, zero_at, b.2, l.2, true_and, and_true]
  by_cases h : 16 ≤ (s : ℕ) ∧ (s : ℕ) < 2064
  · rw [dif_pos h, dif_pos ⟨h.1, by omega⟩]
  · rw [dif_neg h, dif_neg (by omega)]

end

end Cert.Kernel2Ideal.Value

end
-- ==== Proof.MixBlocks.lean ====
/- The blocks the feed-forward kernel reads at a grid point: 256 packed rows and the whole weights. -/
module

public import proofs.«01_k».proof.Proof.MixHost

@[expose] public section

set_option maxRecDepth 16384

noncomputable section

open Idealize.ShloMosaic Idealize.ShloMosaic.TcCoe Idealize.SL.Sem

namespace Cert.Kernel2Ideal.Value
open Cert.Kernel2Ideal Cert.Kernel2Ideal.Gen

open Cert.Mix

theorem idx_rows : ∀ t : Fin cfg0.N, win0_0.index t = ![t.val, 0] ∧ win0_1.index t = ![t.val, 0] ∧ win0_2.index t = ![t.val, 0]
    ∧ win0_3.index t = ![t.val, 0] :=
  (by decide +kernel : ∀ t : Fin grid0.N, _)

theorem idx_weights : ∀ t : Fin cfg0.N, win0_4.index t = ![0] ∧ win0_5.index t = ![0] ∧ win0_6.index t = ![0, 0]
    ∧ win0_7.index t = ![0] ∧ win0_8.index t = ![0, 0] ∧ win0_9.index t = ![0, 0] ∧ win0_10.index t = ![0, 0] :=
  (by decide +kernel : ∀ t : Fin grid0.N, _)

theorem coord_eq : ∀ t : Fin cfg0.N, (grid0.coords t 0 : ℕ) = t.val :=
  (by decide +kernel : ∀ t : Fin grid0.N, _)

/-- The sequence of a row of a grid point's block. -/
def seqAt (t : Fin 17) (i : Fin 256) : Fin 2 := ⟨(t * 256 + i) / 2176, by omega⟩
/-- Its place in the sequence. -/
def posAt (t : Fin 17) (i : Fin 256) : Fin 2176 := ⟨(t * 256 + i) % 2176, by omega⟩

section
variable (m : (ℓ : Loc nD τ sig) → Buf (Elt Ideal) ℓ) (c : Dev nD)

/-- A row of a grid point's block. -/
abbrev blockRow (t : Fin 17) (i : Fin 256) : RowIn := rowAt m c (seqAt t i) (posAt t i)

variable (t : Fin cfg0.N)

theorem blk_h (i : Fin 256) (j : Fin 1024) : iblk m c 0 t (ix2 i j) = (blockRow m c t i).h j := by
  blk_simp [iblk]
  refine row_h m c (seqAt t i) (posAt t i) _ j ?_ ?_
  · blk_simp [idx_rows t]
    simp only [seqAt, posAt]
    omega
  · blk_simp [idx_rows t]

theorem blk_o (i : Fin 256) (j : Fin 512) : iblk m c 1 t (ix2 i j) = (blockRow m c t i).o j := by
  blk_simp [iblk]
  refine row_o m c (seqAt t i) (posAt t i) _ j ?_ ?_
  · blk_simp [idx_rows t]
    simp only [seqAt, posAt]
    omega
  · blk_simp [idx_rows t]

theorem blk_y (i : Fin 256) (j : Fin 512) : iblk m c 2 t (ix2 i j) = (blockRow m c t i).y j := by
  blk_simp [iblk]
  refine row_y m c (seqAt t i) (posAt t i) _ j ?_ ?_
  · blk_simp [idx_rows t]
    simp only [seqAt, posAt]
    omega
  · blk_simp [idx_rows t]

theorem blk_t (i : Fin 256) (j : Fin 1024) : iblk m c 3 t (ix2 i j) = (blockRow m c t i).t j := by
  blk_simp [iblk]
  refine row_t m c (seqAt t i) (posAt t i) _ j ?_ ?_
  · blk_simp [idx_rows t]
    simp only [seqAt, posAt]
    omega
  · blk_simp [idx_rows t]

theorem blk_ga (j : Fin 512) : iblk m c 4 t (ix1 j) = (wts m c).ga j := by
  blk_simp [iblk]
  refine (congrFun (V_main_arg4 m c) _).trans ?_
  refine congrArg (arg m c main_arg4) ?_
  funext a
  match a with
  | ⟨0, _⟩ => exact Fin.ext (by blk_simp [idx_weights t])

theorem blk_gr (j : Fin 512) : iblk m c 5 t (ix1 j) = (wts m c).gr j := by
  blk_simp [iblk]
  refine (congrFun (V_main_arg5 m c) _).trans ?_
  refine congrArg (arg m c main_arg5) ?_
  funext a
  match a with
  | ⟨0, _⟩ => exact Fin.ext (by blk_simp [idx_weights t])

theorem blk_ln2 (j : Fin 1024) : iblk m c 7 t (ix1 j) = (wts m c).ln2 j := by
  blk_simp [iblk]
  refine (congrFun (V_main_arg7 m c) _).trans ?_
  refine congrArg (arg m c main_arg7) ?_
  funext a
  match a with
  | ⟨0, _⟩ => exact Fin.ext (by blk_simp [idx_weights t])

theorem blk_wout (k : Fin 1024) (j : Fin 1024) : iblk m c 6 t (ix2 k j) = (wts m c).wout k j := by
  blk_simp [iblk]
  refine (congrFun (entry_v0 m c) _).trans ?_
  pointwise
  refine congrArg (arg m c main_arg6) (funext fun a => ?_)
  match a with
  | ⟨0, _⟩ => exact Fin.ext (by blk_simp [idx_weights t])
  | ⟨1, _⟩ => exact Fin.ext (by blk_simp [idx_weights t])

theorem blk_wg (k : Fin 2816) (j : Fin 1024) : iblk m c 8 t (ix2 k j) = (wts m c).wg j k := by
  blk_simp [iblk]
  refine (congrFun (entry_v2 m c) _).trans ?_
  pointwise
  refine congrArg (arg m c main_arg8) (funext fun a => ?_)
  match a with
  | ⟨0, _⟩ => exact Fin.ext (by blk_simp [idx_weights t])
  | ⟨1, _⟩ => exact Fin.ext (by blk_simp [idx_weights t])

theorem blk_wu (k : Fin 2816) (j : Fin 1024) : iblk m c 9 t (ix2 k j) = (wts m c).wu j k := by
  blk_simp [iblk]
  refine (congrFun (entry_v4 m c) _).trans ?_
  pointwise
  refine congrArg (arg m c main_arg9) (funext fun a => ?_)
  match a with
  | ⟨0, _⟩ => exact Fin.ext (by blk_simp [idx_weights t])
  | ⟨1, _⟩ => exact Fin.ext (by blk_simp [idx_weights t])

theorem blk_wd (k : Fin 2816) (j : Fin 1024) : iblk m c 10 t (ix2 k j) = (wts m c).wd k j := by
  blk_simp [iblk]
  refine (congrFun (entry_v5 m c) _).trans ?_
  pointwise
  refine congrArg (arg m c main_arg10) (funext fun a => ?_)
  match a with
  | ⟨0, _⟩ => exact Fin.ext (by blk_simp [idx_weights t])
  | ⟨1, _⟩ => exact Fin.ext (by blk_simp [idx_weights t])

theorem blk_live (i : Fin 256) : liveWord (BitVec.ofNat 32 (grid0.coords t 0)) (BitVec.ofNat 32 i)
    = if (blockRow m c t i).live then 1#1 else 0#1 := by
  rw [coord_eq]
  refine (liveWord_eq t i).trans ?_
  rw [packed_live]
  rfl

end

end Cert.Kernel2Ideal.Value

end
-- ==== Proof.MixPoint.lean ====
/- What the feed-forward kernel's values are at a grid point: the row functions of the block's packed rows. -/
module

public import proofs.«01_k».proof.Proof.MixBlocks

@[expose] public section

set_option maxRecDepth 16384

noncomputable section

open Idealize.ShloMosaic Idealize.ShloMosaic.TcCoe Idealize.SL.Sem

namespace Cert.Kernel2Ideal.Value
open Cert.Kernel2Ideal Cert.Kernel2Ideal.Gen

open Cert.Mix

section
variable (m : (ℓ : Loc nD τ sig) → Buf (Elt Ideal) ℓ) (c : Dev nD) (t : Fin cfg0.N)

/-! The body's values at a grid point, as it computes them one from the other. -/

abbrev pA : FVec Ideal S256x512 .bf16 := k0_pay19 (iblk m c 1 t) (iblk m c 4 t)
abbrev pR : FVec Ideal S256x512 .f32 := k0_pay18 (iblk m c 2 t) (iblk m c 5 t)
abbrev pWl : FVec Ideal S512x1024 .bf16 := View.ld (iblk m c 6 t) (Rect.unit ![0, 0] ![512, 1024] inb_S1024x1024_S512x1024_0_0)
abbrev pWh : FVec Ideal S512x1024 .bf16 := View.ld (iblk m c 6 t) (Rect.unit ![512, 0] ![512, 1024] inb_S1024x1024_S512x1024_512_0)
abbrev pH1 : FVec Ideal S256x1024 .f32 := k0_pay21 (pR m c t) (pA m c t) (iblk m c 0 t) (pWl m c t) (pWh m c t)
abbrev pInv : FVec Ideal S256x1 .f32 := k0_pay23 (pR m c t) (pA m c t) (iblk m c 0 t) (pWl m c t) (pWh m c t)
abbrev pSlope : FVec Ideal S256x1 .f32 := k0_pay24 (pR m c t) (pA m c t) (iblk m c 0 t) (pWl m c t) (pWh m c t)
abbrev pUnit : FVec Ideal S256x1024 .f32 := k0_pay25 (pR m c t) (pA m c t) (iblk m c 0 t) (pWl m c t) (pWh m c t)
abbrev pHn : FVec Ideal S256x1024 .bf16 := k0_pay27 (pR m c t) (pA m c t) (iblk m c 0 t) (pWl m c t) (pWh m c t) (iblk m c 7 t)
abbrev pGate : FVec Ideal S256x2816 .f32 := k0_pay28 (pR m c t) (pA m c t) (iblk m c 0 t) (pWl m c t) (pWh m c t) (iblk m c 7 t) (iblk m c 8 t)
abbrev pUp : FVec Ideal S256x2816 .f32 := k0_pay29 (pHn m c t) (iblk m c 9 t)
abbrev pSg : FVec Ideal S256x2816 .f32 := k0_pay30 (pGate m c t)
abbrev pSg1 : FVec Ideal S256x2816 .f32 := k0_pay31 (pGate m c t)
abbrev pSilu : FVec Ideal S256x2816 .f32 := k0_pay32 (pGate m c t)
abbrev pErr : FVec Ideal S256x1024 .f32 :=
  k0_pay34 (BitVec.ofNat 32 (grid0.coords t 0)) (pH1 m c t) (pHn m c t) (pGate m c t) (iblk m c 9 t) (iblk m c 10 t) (iblk m c 3 t)
abbrev pDhn : FVec Ideal S256x1024 .f32 := k0_pay42 (pGate m c t) (pUp m c t) (pSg m c t) (pSg1 m c t) (pSilu m c t) (pErr m c t)
  (iblk m c 10 t) (iblk m c 8 t) (iblk m c 9 t)
abbrev pLn : FVec Ideal S256x1024 .f32 := k0_pay44 (k0_pay26 (iblk m c 7 t))
abbrev pDmix : FVec Ideal S256x1024 .f32 :=
  k0_pay48 (pH1 m c t) (pInv m c t) (pSlope m c t) (pErr m c t) (pDhn m c t) (pLn m c t) (iblk m c 6 t)

variable (i : Fin 256)

theorem row_at_o : row (φ := .f32) (iblk m c 1 t) i = (blockRow m c t i).o := funext fun j => blk_o m c t i j
theorem row_at_y : row (φ := .f32) (iblk m c 2 t) i = (blockRow m c t i).y := funext fun j => blk_y m c t i j

theorem pA_at (j : Fin 512) : pA m c t (ix2 i j) = mixA (wts m c) (blockRow m c t i) j := by
  refine (pay19_at (iblk m c 1 t) (iblk m c 4 t) i j).trans ?_
  rw [row_at_o]
  exact congrArg _ (blk_ga m c t j)
theorem pR_at (j : Fin 512) : pR m c t (ix2 i j) = mixR (wts m c) (blockRow m c t i) j := by
  refine (pay18_at (iblk m c 2 t) (iblk m c 5 t) i j).trans ?_
  rw [row_at_y]
  exact congrArg _ (blk_gr m c t j)
theorem pWl_at (k : Fin 512) (j : Fin 1024) : pWl m c t (ix2 k j) = (wts m c).wout (lo k) j := by
  refine (View.ld_unit_apply_of (iblk m c 6 t) _ _ inb_S1024x1024_S512x1024_0_0 (ix2 k j) (ix2 (lo k) j) fun a => ?_).trans (blk_wout m c t _ _)
  match a with
  | ⟨0, _⟩ => simp [lo]
  | ⟨1, _⟩ => simp
theorem pWh_at (k : Fin 512) (j : Fin 1024) : pWh m c t (ix2 k j) = (wts m c).wout (hi k) j := by
  refine (View.ld_unit_apply_of (iblk m c 6 t) _ _ inb_S1024x1024_S512x1024_512_0 (ix2 k j) (ix2 (hi k) j) fun a => ?_).trans (blk_wout m c t _ _)
  match a with
  | ⟨0, _⟩ => simp [hi]
  | ⟨1, _⟩ => simp
theorem pH1_at (j : Fin 1024) : pH1 m c t (ix2 i j) = h1 (wts m c) (blockRow m c t i) j :=
  pay21_at (pR_at m c t i) (pA_at m c t i) (blk_h m c t i) (pWl_at m c t) (pWh_at m c t) j
theorem pInv_at (z : Fin 1) : pInv m c t (ix2 i z) = inv c1024 (h1 (wts m c) (blockRow m c t i)) := pay23_at (pH1_at m c t i) z
theorem pSlope_at (z : Fin 1) : pSlope m c t (ix2 i z) = slope c1024 (h1 (wts m c) (blockRow m c t i)) := pay24_at (pH1_at m c t i) z
theorem pUnit_at (j : Fin 1024) : pUnit m c t (ix2 i j) = unit c1024 (h1 (wts m c) (blockRow m c t i)) j := pay25_at (pH1_at m c t i) j
theorem pHn_at (j : Fin 1024) : pHn m c t (ix2 i j) = hn (wts m c) (blockRow m c t i) j := pay27_at (pH1_at m c t i) (blk_ln2 m c t) j
theorem pGate_at (f : Fin 2816) : pGate m c t (ix2 i f) = gate (wts m c) (blockRow m c t i) f :=
  pay28_at (pH1_at m c t i) (blk_ln2 m c t) (blk_wg m c t) f
theorem pUp_at (f : Fin 2816) : pUp m c t (ix2 i f) = up (wts m c) (blockRow m c t i) f := pay29_at (pHn_at m c t i) (blk_wu m c t) f
theorem pSg_at (f : Fin 2816) : pSg m c t (ix2 i f) = sgm (wts m c) (blockRow m c t i) f := pay30_at (pGate_at m c t i) f
theorem pSg1_at (f : Fin 2816) : pSg1 m c t (ix2 i f)
    = sgm (wts m c) (blockRow m c t i) f * (1 - sgm (wts m c) (blockRow m c t i) f) := pay31_at (pGate_at m c t i) f
theorem pSilu_at (f : Fin 2816) : pSilu m c t (ix2 i f) = silu (wts m c) (blockRow m c t i) f := pay32_at (pGate_at m c t i) f
theorem act_at (f : Fin 2816) : k0_pay33 (F := Ideal) (pHn m c t) (pGate m c t) (iblk m c 9 t) (ix2 i f) = act (wts m c) (blockRow m c t i) f :=
  pay33_at (pGate_at m c t i) (pHn_at m c t i) (blk_wu m c t) f
theorem pErr_at (j : Fin 1024) : pErr m c t (ix2 i j) = err (wts m c) (blockRow m c t i) j :=
  pay34_at (pGate_at m c t i) _ (blk_live m c t i) (pH1_at m c t i) (pHn_at m c t i) (blk_wu m c t) (blk_wd m c t) (blk_t m c t i) j
theorem dh2_at (j : Fin 1024) : k0_pay38 (F := Ideal) (pErr m c t) (ix2 i j) = dh2 (wts m c) (blockRow m c t i) j := pay38_at (pErr_at m c t i) j
theorem dup_at (f : Fin 2816) : k0_pay41 (F := Ideal) (pSilu m c t) (pErr m c t) (iblk m c 10 t) (ix2 i f) = dup (wts m c) (blockRow m c t i) f :=
  pay41_at (pErr_at m c t i) (blk_wd m c t) (pSilu_at m c t i) f
theorem dgate_at (f : Fin 2816) :
    k0_pay40 (F := Ideal) (pGate m c t) (pUp m c t) (pSg m c t) (pSg1 m c t) (pErr m c t) (iblk m c 10 t) (ix2 i f)
      = dgate (wts m c) (blockRow m c t i) f :=
  pay40_at (pErr_at m c t i) (blk_wd m c t) (pGate_at m c t i) (pUp_at m c t i) (pSg_at m c t i) (pSg1_at m c t i) f
theorem pDhn_at (j : Fin 1024) : pDhn m c t (ix2 i j) = dhn (wts m c) (blockRow m c t i) j :=
  pay42_at (pErr_at m c t i) (blk_wd m c t) (pGate_at m c t i) (pUp_at m c t i) (pSg_at m c t i) (pSg1_at m c t i) (pSilu_at m c t i)
    (blk_wg m c t) (blk_wu m c t) j
theorem pLn_at (j : Fin 1024) : pLn m c t (ix2 i j) = (wts m c).ln2 j := by
  pointwise [pLn, k0_pay44, k0_pay26]
  exact blk_ln2 m c t j
theorem dh1_at (j : Fin 1024) :
    k0_pay46 (F := Ideal) (pH1 m c t) (pInv m c t) (pSlope m c t) (pErr m c t) (pDhn m c t) (pLn m c t) (ix2 i j)
      = dh1 (wts m c) (blockRow m c t i) j :=
  pay46_at (pH1_at m c t i) (pInv_at m c t i) (pSlope_at m c t i) (pErr_at m c t i) (pDhn_at m c t i) (pLn_at m c t i) j
theorem dh1b_at (j : Fin 1024) :
    k0_pay47 (F := Ideal) (pH1 m c t) (pInv m c t) (pSlope m c t) (pErr m c t) (pDhn m c t) (pLn m c t) (ix2 i j)
      = dh1 (wts m c) (blockRow m c t i) j := by
  pointwise [k0_pay47]
  exact dh1_at m c t i j
theorem pDmix_at (k : Fin 1024) : pDmix m c t (ix2 i k) = dmix (wts m c) (blockRow m c t i) k :=
  pay48_at (pH1_at m c t i) (pInv_at m c t i) (pSlope_at m c t i) (pErr_at m c t i) (pDhn_at m c t i) (pLn_at m c t i) (blk_wout m c t) k
theorem dmix_lo_at (j : Fin 512) :
    k0_pay49 (F := Ideal) (pH1 m c t) (pInv m c t) (pSlope m c t) (pErr m c t) (pDhn m c t) (pLn m c t) (iblk m c 6 t) (ix2 i j)
      = dmix (wts m c) (blockRow m c t i) (lo j) :=
  pay49_at (pH1_at m c t i) (pInv_at m c t i) (pSlope_at m c t i) (pErr_at m c t i) (pDhn_at m c t i) (pLn_at m c t i) (blk_wout m c t) j

theorem o_at (j : Fin 512) : k0_pay6 (F := Ideal) (iblk m c 1 t) (ix2 i j) = (blockRow m c t i).o j := by
  pointwise [k0_pay6]
  exact blk_o m c t i j
theorem y_at (j : Fin 512) : k0_pay12 (F := Ideal) (iblk m c 2 t) (ix2 i j) = (blockRow m c t i).y j := by
  pointwise [k0_pay12]
  exact blk_y m c t i j
theorem ga_at (z : Fin 1) (j : Fin 512) : k0_pay11 (F := Ideal) (iblk m c 4 t) (ix2 z j) = (wts m c).ga j := by
  pointwise [k0_pay11]
  exact blk_ga m c t j
theorem gr_at (z : Fin 1) (j : Fin 512) : k0_pay17 (F := Ideal) (iblk m c 5 t) (ix2 z j) = (wts m c).gr j := by
  pointwise [k0_pay17]
  exact blk_gr m c t j
theorem invO_at (z : Fin 1) : k0_pay8 (F := Ideal) (iblk m c 1 t) (ix2 i z) = inv c512 (blockRow m c t i).o := by
  rw [← row_at_o]
  exact pay8_at (iblk m c 1 t) i z
theorem slopeO_at (z : Fin 1) : k0_pay9 (F := Ideal) (iblk m c 1 t) (ix2 i z) = slope c512 (blockRow m c t i).o := by
  rw [← row_at_o]
  exact pay9_at (iblk m c 1 t) i z
theorem unitO_at (j : Fin 512) : k0_pay10 (F := Ideal) (iblk m c 1 t) (ix2 i j) = unit c512 (blockRow m c t i).o j := by
  rw [← row_at_o]
  exact pay10_at (iblk m c 1 t) i j
theorem invY_at (z : Fin 1) : k0_pay14 (F := Ideal) (iblk m c 2 t) (ix2 i z) = inv c512 (blockRow m c t i).y := by
  rw [← row_at_y]
  exact pay8_at (iblk m c 2 t) i z
theorem slopeY_at (z : Fin 1) : k0_pay15 (F := Ideal) (iblk m c 2 t) (ix2 i z) = slope c512 (blockRow m c t i).y := by
  rw [← row_at_y]
  exact pay9_at (iblk m c 2 t) i z
theorem unitY_at (j : Fin 512) : k0_pay16 (F := Ideal) (iblk m c 2 t) (ix2 i j) = unit c512 (blockRow m c t i).y j := by
  rw [← row_at_y]
  exact pay10_at (iblk m c 2 t) i j

theorem dO_at (j : Fin 512) :
    k0_pay54 (F := Ideal) (k0_pay6 (iblk m c 1 t))
      (k0_pay52 (k0_pay8 (iblk m c 1 t)) (k0_pay11 (iblk m c 4 t)) (pH1 m c t) (pInv m c t) (pSlope m c t) (pErr m c t) (pDhn m c t) (pLn m c t)
        (iblk m c 6 t))
      (k0_pay53 (k0_pay6 (iblk m c 1 t)) (k0_pay9 (iblk m c 1 t)) (k0_pay11 (iblk m c 4 t)) (pH1 m c t) (pInv m c t) (pSlope m c t)
        (pErr m c t) (pDhn m c t) (pLn m c t) (iblk m c 6 t)) (ix2 i j)
      = dO (wts m c) (blockRow m c t i) j :=
  pay54_at (o_at m c t i) (pay52_at (dmix_lo_at m c t i) (ga_at m c t) (invO_at m c t i)) 0 _
    (pay53_at (dmix_lo_at m c t i) (ga_at m c t) (o_at m c t i) (slopeO_at m c t i)) j

theorem dY_at (j : Fin 512) :
    k0_pay56 (F := Ideal) (k0_pay12 (iblk m c 2 t)) (k0_pay14 (iblk m c 2 t)) (k0_pay15 (iblk m c 2 t)) (k0_pay17 (iblk m c 5 t)) (pDmix m c t)
      (ix2 i j) = dY (wts m c) (blockRow m c t i) j :=
  pay56_at (y_at m c t i) (invY_at m c t i) (slopeY_at m c t i) (gr_at m c t) (pDmix_at m c t i) j

end

end Cert.Kernel2Ideal.Value

end
-- ==== Proof.MixArrays.lean ====
/- What the feed-forward region leaves: its fourteen arrays, by the row functions of the packed rows. -/
module

public import proofs.«01_k».proof.Proof.MixPoint
public import proofs.«01_k».proof.Proof.Gen.Kernel2Ideal.Value

@[expose] public section

set_option maxRecDepth 16384

noncomputable section

open Idealize.ShloMosaic Idealize.ShloMosaic.TcCoe Idealize.SL.Sem

namespace Cert.Kernel2Ideal.Value
open Cert.Kernel2Ideal Cert.Kernel2Ideal.Gen

open Cert.Mix

theorem idx_outs : ∀ t : Fin cfg0.N, win0_11.index t = ![t.val, 0] ∧ win0_12.index t = ![t.val, 0] ∧ win0_13.index t = ![t.val, 0]
    ∧ win0_14.index t = ![t.val, 0] ∧ win0_15.index t = ![t.val, 0] ∧ win0_16.index t = ![t.val, 0] ∧ win0_17.index t = ![t.val, 0]
    ∧ win0_18.index t = ![t.val, 0] ∧ win0_19.index t = ![t.val, 0] ∧ win0_20.index t = ![t.val, 0] :=
  (by decide +kernel : ∀ t : Fin grid0.N, _)

theorem idx_sums : ∀ t : Fin cfg0.N, win0_21.index t = ![0, 0] ∧ win0_22.index t = ![0, 0] ∧ win0_23.index t = ![0, 0]
    ∧ win0_24.index t = ![0, 0] :=
  (by decide +kernel : ∀ t : Fin grid0.N, _)

/-- A block of 1024 lanes stored in two halves. -/
theorem mix_halves {inb₀ inb₁} {w₀ w₁ : Vec Ideal S256x512 .bf16} (f : S256x1024.Idx → Elt Ideal .bf16)
    (h₀ : ∀ (r : Fin 256) (l : Fin 512), w₀ (ix2 r l) = f (ix2 r (lo l)))
    (h₁ : ∀ (r : Fin 256) (l : Fin 512), w₁ (ix2 r l) = f (ix2 r (hi l))) (y : S256x1024.Idx) :
    View.canon [⟨Rect.unit (s := S256x1024) ![0, 512] ![256, 512] inb₁, w₁⟩, ⟨Rect.unit (s := S256x1024) ![0, 0] ![256, 512] inb₀, w₀⟩] y = f y := by
  idx_vars y
  by_cases h : (y1 : ℕ) < 512
  · have hy : (Rect.unit (s := S256x1024) ![0, 0] ![256, 512] inb₀).emb (ix2 y0 (⟨y1, h⟩ : Fin 512)) = ix2 y0 y1 := by
      refine Rect.emb_eq_of_coords _ _ _ fun a => ?_
      match a with
      | ⟨0, _⟩ => simp
      | ⟨1, _⟩ => simp
    rw [View.canon_cons_of_not_mem, ← hy]
    · refine (View.canon_cons_emb (Rect.unit (s := S256x1024) ![0, 0] ![256, 512] inb₀) w₀ [] _).trans ?_
      rw [hy]
      exact h₀ y0 ⟨y1, h⟩
    · rw [Rect.mem_set_unit]
      intro h'
      have := (h' 1).1
      simp at this
      omega
  · have hy : (Rect.unit (s := S256x1024) ![0, 512] ![256, 512] inb₁).emb (ix2 y0 (⟨y1 - 512, by omega⟩ : Fin 512)) = ix2 y0 y1 := by
      refine Rect.emb_eq_of_coords _ _ _ fun a => ?_
      match a with
      | ⟨0, _⟩ => simp
      | ⟨1, _⟩ => simp; omega
    rw [← hy]
    refine (View.canon_cons_emb (Rect.unit (s := S256x1024) ![0, 512] ![256, 512] inb₁) w₁ _ _).trans ?_
    rw [hy]
    refine (h₁ y0 ⟨y1 - 512, by omega⟩).trans (congrArg (fun z => f (ix2 y0 z)) (Fin.ext ?_))
    simp only [hi]
    omega

section
variable (m : (ℓ : Loc nD τ sig) → Buf (Elt Ideal) ℓ) (c : Dev nD)

/-- A packed row, by its place in the packed array. -/
abbrev packedRow (n : Fin 4352) : RowIn := rowAt m c ⟨n / 2176, by omega⟩ ⟨n % 2176, by omega⟩

theorem packed_place (t : Fin 17) (i : Fin 256) (n : Fin 4352) (h : (n : ℕ) = t * 256 + i) : blockRow m c t i = packedRow m c n := by
  show rowAt m c _ _ = rowAt m c _ _
  congr 1 <;> refine Fin.ext ?_ <;> simp only [seqAt, posAt] <;> omega

theorem block11 (t : Fin cfg0.N) (y : S256x512.Idx) : (outsAt0 m c t.val t.isLt).1 y = dO (wts m c) (blockRow m c t (y 0)) (y 1) := by
  by_cases h : t.val % 17 = 0
  · rw [outsAt0_A _ c t h]
    frame_out
    idx_vars y
    exact dO_at m c t y0 y1
  · rw [outsAt0_B _ c t h]
    frame_out
    idx_vars y
    exact dO_at m c t y0 y1

theorem arr11 : (dats m 0 c).arrAt 11 cfg0.N = fun j : S4352x512.Idx => dO (wts m c) (packedRow m c (j 0)) (j 1) := by
  refine (dats m 0 c).arrAt_eq_of_covers 11 _ (by decide +kernel) fun t hf y => ?_
  blk_simp
  rw [after0_11]
  idx_vars y
  have i0 : win0_11.index t 0 = t.val := by rw [(idx_outs t).1]; rfl
  have i1 : win0_11.index t 1 = 0 := by rw [(idx_outs t).1]; rfl
  refine (block11 m c t (ix2 y0 y1)).trans ?_
  refine congrArg₂ (fun r j => dO (wts m c) r j) (packed_place m c t y0 _ ?_) (Fin.ext ?_)
  · simp [i0]
  · simp [i1]

theorem block12 (t : Fin cfg0.N) (y : S256x512.Idx) : (outsAt0 m c t.val t.isLt).2.1 y = dY (wts m c) (blockRow m c t (y 0)) (y 1) := by
  by_cases h : t.val % 17 = 0
  · rw [outsAt0_A _ c t h]
    frame_out
    idx_vars y
    exact dY_at m c t y0 y1
  · rw [outsAt0_B _ c t h]
    frame_out
    idx_vars y
    exact dY_at m c t y0 y1

theorem arr12 : (dats m 0 c).arrAt 12 cfg0.N = fun j : S4352x512.Idx => dY (wts m c) (packedRow m c (j 0)) (j 1) := by
  refine (dats m 0 c).arrAt_eq_of_covers 12 _ (by decide +kernel) fun t hf y => ?_
  blk_simp
  rw [after0_12]
  idx_vars y
  have i0 : win0_12.index t 0 = t.val := by rw [(idx_outs t).2.1]; rfl
  have i1 : win0_12.index t 1 = 0 := by rw [(idx_outs t).2.1]; rfl
  refine (block12 m c t (ix2 y0 y1)).trans ?_
  refine congrArg₂ (fun r j => dY (wts m c) r j) (packed_place m c t y0 _ ?_) (Fin.ext ?_)
  · simp [i0]
  · simp [i1]

theorem block13 (t : Fin cfg0.N) (y : S256x1024.Idx) : (outsAt0 m c t.val t.isLt).2.2.1 y = dh1 (wts m c) (blockRow m c t (y 0)) (y 1) := by
  by_cases h : t.val % 17 = 0
  · rw [outsAt0_A _ c t h]
    frame_out
    idx_vars y
    exact dh1_at m c t y0 y1
  · rw [outsAt0_B _ c t h]
    frame_out
    idx_vars y
    exact dh1_at m c t y0 y1

theorem arr13 : (dats m 0 c).arrAt 13 cfg0.N = fun j : S4352x1024.Idx => dh1 (wts m c) (packedRow m c (j 0)) (j 1) := by
  refine (dats m 0 c).arrAt_eq_of_covers 13 _ (by decide +kernel) fun t hf y => ?_
  blk_simp
  rw [after0_13]
  idx_vars y
  have i0 : win0_13.index t 0 = t.val := by rw [(idx_outs t).2.2.1]; rfl
  have i1 : win0_13.index t 1 = 0 := by rw [(idx_outs t).2.2.1]; rfl
  refine (block13 m c t (ix2 y0 y1)).trans ?_
  refine congrArg₂ (fun r j => dh1 (wts m c) r j) (packed_place m c t y0 _ ?_) (Fin.ext ?_)
  · simp [i0]
  · simp [i1]

theorem block14 (t : Fin cfg0.N) (y : S256x1024.Idx) : (outsAt0 m c t.val t.isLt).2.2.2.1 y = mix (wts m c) (blockRow m c t (y 0)) (y 1) := by
  by_cases h : t.val % 17 = 0
  · rw [outsAt0_A _ c t h]
    frame_out
    idx_vars y
    refine mix_halves (fun j : S256x1024.Idx => mix (wts m c) (blockRow m c t (j 0)) (j 1)) (fun r l => ?_) (fun r l => ?_) (ix2 y0 y1)
    · exact (pA_at m c t r l).trans (mix_lo _ _ l).symm
    · exact (pR_at m c t r l).trans (mix_hi _ _ l).symm
  · rw [outsAt0_B _ c t h]
    frame_out
    idx_vars y
    refine mix_halves (fun j : S256x1024.Idx => mix (wts m c) (blockRow m c t (j 0)) (j 1)) (fun r l => ?_) (fun r l => ?_) (ix2 y0 y1)
    · exact (pA_at m c t r l).trans (mix_lo _ _ l).symm
    · exact (pR_at m c t r l).trans (mix_hi _ _ l).symm

theorem arr14 : (dats m 0 c).arrAt 14 cfg0.N = fun j : S4352x1024.Idx => mix (wts m c) (packedRow m c (j 0)) (j 1) := by
  refine (dats m 0 c).arrAt_eq_of_covers 14 _ (by decide +kernel) fun t hf y => ?_
  blk_simp
  rw [after0_14]
  idx_vars y
  have i0 : win0_14.index t 0 = t.val := by rw [(idx_outs t).2.2.2.1]; rfl
  have i1 : win0_14.index t 1 = 0 := by rw [(idx_outs t).2.2.2.1]; rfl
  refine (block14 m c t (ix2 y0 y1)).trans ?_
  refine congrArg₂ (fun r j => mix (wts m c) r j) (packed_place m c t y0 _ ?_) (Fin.ext ?_)
  · simp [i0]
  · simp [i1]

theorem block15 (t : Fin cfg0.N) (y : S256x1024.Idx) : (outsAt0 m c t.val t.isLt).2.2.2.2.1 y = dh1 (wts m c) (blockRow m c t (y 0)) (y 1) := by
  by_cases h : t.val % 17 = 0
  · rw [outsAt0_A _ c t h]
    frame_out
    idx_vars y
    exact dh1b_at m c t y0 y1
  · rw [outsAt0_B _ c t h]
    frame_out
    idx_vars y
    exact dh1b_at m c t y0 y1

theorem arr15 : (dats m 0 c).arrAt 15 cfg0.N = fun j : S4352x1024.Idx => dh1 (wts m c) (packedRow m c (j 0)) (j 1) := by
  refine (dats m 0 c).arrAt_eq_of_covers 15 _ (by decide +kernel) fun t hf y => ?_
  blk_simp
  rw [after0_15]
  idx_vars y
  have i0 : win0_15.index t 0 = t.val := by rw [(idx_outs t).2.2.2.2.1]; rfl
  have i1 : win0_15.index t 1 = 0 := by rw [(idx_outs t).2.2.2.2.1]; rfl
  refine (block15 m c t (ix2 y0 y1)).trans ?_
  refine congrArg₂ (fun r j => dh1 (wts m c) r j) (packed_place m c t y0 _ ?_) (Fin.ext ?_)
  · simp [i0]
  · simp [i1]

theorem block16 (t : Fin cfg0.N) (y : S256x1024.Idx) : (outsAt0 m c t.val t.isLt).2.2.2.2.2.1 y = hn (wts m c) (blockRow m c t (y 0)) (y 1) := by
  by_cases h : t.val % 17 = 0
  · rw [outsAt0_A _ c t h]
    frame_out
    idx_vars y
    exact pHn_at m c t y0 y1
  · rw [outsAt0_B _ c t h]
    frame_out
    idx_vars y
    exact pHn_at m c t y0 y1

theorem arr16 : (dats m 0 c).arrAt 16 cfg0.N = fun j : S4352x1024.Idx => hn (wts m c) (packedRow m c (j 0)) (j 1) := by
  refine (dats m 0 c).arrAt_eq_of_covers 16 _ (by decide +kernel) fun t hf y => ?_
  blk_simp
  rw [after0_16]
  idx_vars y
  have i0 : win0_16.index t 0 = t.val := by rw [(idx_outs t).2.2.2.2.2.1]; rfl
  have i1 : win0_16.index t 1 = 0 := by rw [(idx_outs t).2.2.2.2.2.1]; rfl
  refine (block16 m c t (ix2 y0 y1)).trans ?_
  refine congrArg₂ (fun r j => hn (wts m c) r j) (packed_place m c t y0 _ ?_) (Fin.ext ?_)
  · simp [i0]
  · simp [i1]

theorem block17 (t : Fin cfg0.N) (y : S256x2816.Idx) : (outsAt0 m c t.val t.isLt).2.2.2.2.2.2.1 y = dgate (wts m c) (blockRow m c t (y 0)) (y 1) := by
  by_cases h : t.val % 17 = 0
  · rw [outsAt0_A _ c t h]
    frame_out
    idx_vars y
    exact dgate_at m c t y0 y1
  · rw [outsAt0_B _ c t h]
    frame_out
    idx_vars y
    exact dgate_at m c t y0 y1

theorem arr17 : (dats m 0 c).arrAt 17 cfg0.N = fun j : S4352x2816.Idx => dgate (wts m c) (packedRow m c (j 0)) (j 1) := by
  refine (dats m 0 c).arrAt_eq_of_covers 17 _ (by decide +kernel) fun t hf y => ?_
  blk_simp
  rw [after0_17]
  idx_vars y
  have i0 : win0_17.index t 0 = t.val := by rw [(idx_outs t).2.2.2.2.2.2.1]; rfl
  have i1 : win0_17.index t 1 = 0 := by rw [(idx_outs t).2.2.2.2.2.2.1]; rfl
  refine (block17 m c t (ix2 y0 y1)).trans ?_
  refine congrArg₂ (fun r j => dgate (wts m c) r j) (packed_place m c t y0 _ ?_) (Fin.ext ?_)
  · simp [i0]
  · simp [i1]

theorem block18 (t : Fin cfg0.N) (y : S256x2816.Idx) : (outsAt0 m c t.val t.isLt).2.2.2.2.2.2.2.1 y = dup (wts m c) (blockRow m c t (y 0)) (y 1) := by
  by_cases h : t.val % 17 = 0
  · rw [outsAt0_A _ c t h]
    frame_out
    idx_vars y
    exact dup_at m c t y0 y1
  · rw [outsAt0_B _ c t h]
    frame_out
    idx_vars y
    exact dup_at m c t y0 y1

theorem arr18 : (dats m 0 c).arrAt 18 cfg0.N = fun j : S4352x2816.Idx => dup (wts m c) (packedRow m c (j 0)) (j 1) := by
  refine (dats m 0 c).arrAt_eq_of_covers 18 _ (by decide +kernel) fun t hf y => ?_
  blk_simp
  rw [after0_18]
  idx_vars y
  have i0 : win0_18.index t 0 = t.val := by rw [(idx_outs t).2.2.2.2.2.2.2.1]; rfl
  have i1 : win0_18.index t 1 = 0 := by rw [(idx_outs t).2.2.2.2.2.2.2.1]; rfl
  refine (block18 m c t (ix2 y0 y1)).trans ?_
  refine congrArg₂ (fun r j => dup (wts m c) r j) (packed_place m c t y0 _ ?_) (Fin.ext ?_)
  · simp [i0]
  · simp [i1]

theorem block19 (t : Fin cfg0.N) (y : S256x2816.Idx) : (outsAt0 m c t.val t.isLt).2.2.2.2.2.2.2.2.1 y = act (wts m c) (blockRow m c t (y 0)) (y 1) := by
  by_cases h : t.val % 17 = 0
  · rw [outsAt0_A _ c t h]
    frame_out
    idx_vars y
    exact act_at m c t y0 y1
  · rw [outsAt0_B _ c t h]
    frame_out
    idx_vars y
    exact act_at m c t y0 y1

theorem arr19 : (dats m 0 c).arrAt 19 cfg0.N = fun j : S4352x2816.Idx => act (wts m c) (packedRow m c (j 0)) (j 1) := by
  refine (dats m 0 c).arrAt_eq_of_covers 19 _ (by decide +kernel) fun t hf y => ?_
  blk_simp
  rw [after0_19]
  idx_vars y
  have i0 : win0_19.index t 0 = t.val := by rw [(idx_outs t).2.2.2.2.2.2.2.2.1]; rfl
  have i1 : win0_19.index t 1 = 0 := by rw [(idx_outs t).2.2.2.2.2.2.2.2.1]; rfl
  refine (block19 m c t (ix2 y0 y1)).trans ?_
  refine congrArg₂ (fun r j => act (wts m c) r j) (packed_place m c t y0 _ ?_) (Fin.ext ?_)
  · simp [i0]
  · simp [i1]

theorem block20 (t : Fin cfg0.N) (y : S256x1024.Idx) : (outsAt0 m c t.val t.isLt).2.2.2.2.2.2.2.2.2.1 y = dh2 (wts m c) (blockRow m c t (y 0)) (y 1) := by
  by_cases h : t.val % 17 = 0
  · rw [outsAt0_A _ c t h]
    frame_out
    idx_vars y
    exact dh2_at m c t y0 y1
  · rw [outsAt0_B _ c t h]
    frame_out
    idx_vars y
    exact dh2_at m c t y0 y1

theorem arr20 : (dats m 0 c).arrAt 20 cfg0.N = fun j : S4352x1024.Idx => dh2 (wts m c) (packedRow m c (j 0)) (j 1) := by
  refine (dats m 0 c).arrAt_eq_of_covers 20 _ (by decide +kernel) fun t hf y => ?_
  blk_simp
  rw [after0_20]
  idx_vars y
  have i0 : win0_20.index t 0 = t.val := by rw [(idx_outs t).2.2.2.2.2.2.2.2.2]; rfl
  have i1 : win0_20.index t 1 = 0 := by rw [(idx_outs t).2.2.2.2.2.2.2.2.2]; rfl
  refine (block20 m c t (ix2 y0 y1)).trans ?_
  refine congrArg₂ (fun r j => dh2 (wts m c) r j) (packed_place m c t y0 _ ?_) (Fin.ext ?_)
  · simp [i0]
  · simp [i1]

end

end Cert.Kernel2Ideal.Value

end
-- ==== Proof.MixScale.lean ====
/- What the constants of the layer's second half are, and sums of scaled terms. -/
module

public import proofs.«01_k».proof.Proof.MixRows

@[expose] public section

noncomputable section

open Idealize.ShloMosaic Idealize.ShloMosaic.TcCoe

namespace Cert.Mix

/-- The loss's scale: one half, and one 1024th. -/
abbrev lossScale : EReal := Ideal.ofBits .f32 0x3A000000#32

theorem c512_real : c512 = ((1 / 512 : ℝ) : EReal) := by
  unfold c512; simp [Ideal.ofBits, Ideal.ieee, -EReal.coe_mul]; norm_num
theorem c1024_real : c1024 = ((1 / 1024 : ℝ) : EReal) := by
  unfold c1024; simp [Ideal.ofBits, Ideal.ieee, -EReal.coe_mul]; norm_num
theorem lossScale_real : lossScale = ((1 / 2048 : ℝ) : EReal) := by
  unfold lossScale; simp [Ideal.ofBits, Ideal.ieee, -EReal.coe_mul]; norm_num
theorem half_real : Ideal.ofBits .f32 0x3F000000#32 = ((1 / 2 : ℝ) : EReal) := by
  simp [Ideal.ofBits, Ideal.ieee, -EReal.coe_mul]; norm_num
theorem n512_real : Ideal.ofBits .f32 0x44000000#32 = ((512 : ℝ) : EReal) := by
  simp [Ideal.ofBits, Ideal.ieee, -EReal.coe_mul]; norm_num
theorem n1024_real : Ideal.ofBits .f32 0x44800000#32 = ((1024 : ℝ) : EReal) := by
  simp [Ideal.ofBits, Ideal.ieee, -EReal.coe_mul]; norm_num

/-- A division by 512 is a product with one 512th. -/
theorem div_512 (x : EReal) : Ideal.div x (Ideal.ofBits .f32 0x44000000#32) = x * c512 := by
  rw [n512_real, c512_real, Ideal.div_coe (by norm_num)]
theorem div_1024 (x : EReal) : Ideal.div x (Ideal.ofBits .f32 0x44800000#32) = x * c1024 := by
  rw [n1024_real, c1024_real, Ideal.div_coe (by norm_num)]

/-- Half a 1024th of a number, twice, is its 1024th. -/
theorem halves (x : EReal) :
    x * (Ideal.ofBits .f32 0x3F000000#32 * c1024) + Ideal.ofBits .f32 0x3F000000#32 * c1024 * x = x * c1024 := by
  have h : (0 : EReal) ≤ Ideal.ofBits .f32 0x3F000000#32 * c1024 := by
    rw [half_real, c1024_real, ← EReal.coe_mul]; exact EReal.coe_nonneg.mpr (by norm_num)
  rw [mul_comm _ x, ← EReal.left_distrib_of_nonneg h h]
  refine congrArg (x * ·) ?_
  rw [half_real, c1024_real, ← EReal.coe_mul, ← EReal.coe_add]
  norm_num

/-- The word zero as a number. -/
theorem zero_word : FloatOps.sitofp (F := Ideal) FTy.f32 (0#32) = (0 : EReal) := by
  show (((0#32 : BitVec 32).toInt : ℝ) : EReal) = 0
  simp

/-- A sum of squares is not negative. -/
theorem sqErr_nonneg (w : Weights) (r : RowIn) : 0 ≤ sqErr w r := Finset.sum_nonneg fun j _ => by
  rcases le_total 0 (err w r j) with h | h
  · exact EReal.mul_nonneg h h
  · exact EReal.mul_nonneg_iff.mpr (Or.inr ⟨h, h⟩)

/-- A scale taken out of a sum of numbers that are not negative. -/
theorem sum_scaled (k : EReal) {n : ℕ} (F : Fin n → EReal) (h : ∀ s, 0 ≤ F s) : ∑ s, F s * k = (∑ s, F s) * k := by
  induction n with
  | zero => simp
  | succ n ih =>
    rw [Fin.sum_univ_succ, Fin.sum_univ_succ, ih _ fun s => h _,
      EReal.right_distrib_of_nonneg (h 0) (Finset.sum_nonneg fun s _ => h _)]

/-- A sum over a rank-3 array's first two axes, read at an element. -/
theorem sum_first_two {n0 n1 n2 : ℕ} (h : (⟨3, ![n0, n1, n2]⟩ : Shape).ReducesTo [0, 1] ⟨1, ![n2]⟩)
    (v : (⟨3, ![n0, n1, n2]⟩ : Shape).Idx → EReal) (z : EReal) (j : Fin n2) :
    Ideal.hostReduceAdd h v z (ix1 j) = z + ∑ a : Fin n0, ∑ b : Fin n1, v (ix3 a b j) := by
  refine congrArg (z + ·) ?_
  refine (Finset.sum_filter_eq_sum_of_fiber _ (fun k : Fin n0 × Fin n1 => ix3 k.1 k.2 j)
    (fun _ _ e => Prod.ext (congrFun e 0) (congrFun e 1)) (fun i => ?_) v).trans ?_
  · constructor
    · intro e
      refine ⟨(i 0, i 1), ?_⟩
      funext a
      refine Fin.ext ?_
      match a with
      | ⟨0, _⟩ => rfl
      | ⟨1, _⟩ => rfl
      | ⟨2, _⟩ => exact (congrArg Fin.val (congrFun e (0 : Fin 1))).symm
    · rintro ⟨k, rfl⟩
      funext b
      refine Fin.ext ?_
      match b with
      | ⟨0, _⟩ => rfl
  · simp only [Fintype.sum_prod_type]

section
variable (h : FVec Ideal ⟨3, ![2, 2064, 1024]⟩ .f32) (o y : FVec Ideal ⟨3, ![2, 2064, 512]⟩ .f32) (t : FVec Ideal ⟨3, ![2, 2048, 1024]⟩ .f32)
  (w : Weights) (b : Fin 2)

theorem err_live (s : Fin 2064) (hs : 16 ≤ (s : ℕ)) (j : Fin 1024) : err w (rowOf h o y t b s) j
    = h1 w (rowOf h o y t b s) j + (∑ f, act w (rowOf h o y t b s) f * w.wd f j) - t (ix3 b ⟨s - 16, by omega⟩ j) := by
  have e1 : (rowOf h o y t b s).live = true := decide_eq_true hs
  have e2 : (rowOf h o y t b s).t j = t (ix3 b ⟨s - 16, by omega⟩ j) := dif_pos hs
  rw [err, if_pos e1, e2]

theorem err_dead (s : Fin 2064) (hs : ¬ 16 ≤ (s : ℕ)) (j : Fin 1024) : err w (rowOf h o y t b s) j = 0 := by
  have e1 : ¬ (rowOf h o y t b s).live = true := by simpa [rowOf] using hs
  rw [err, if_neg e1]

/-- The loss's sum leaves out the rows without a target. -/
theorem sum_sqErr : ∑ s : Fin 2064, sqErr w (rowOf h o y t b s) = ∑ s : Fin 2048, sqErr w (rowOf h o y t b ⟨16 + s, by omega⟩) := by
  rw [show (∑ s : Fin 2064, sqErr w (rowOf h o y t b s)) = ∑ s : Fin (16 + 2048), sqErr w (rowOf h o y t b s) from rfl, Fin.sum_univ_add,
    Finset.sum_eq_zero, zero_add]
  · rfl
  · intro s _
    refine Finset.sum_eq_zero fun j _ => ?_
    rw [err_dead h o y t w b _ (by simp), zero_mul]

/-- A packed row's quantity, where padding has none. -/
theorem packed_at (F : RowIn → EReal) (h0 : F .pad = 0) (n : Fin 4352) :
    (if hn : (n : ℕ) / 2176 < 2 ∧ (n : ℕ) % 2176 < 2064 then F (rowOf h o y t ⟨n / 2176, hn.1⟩ ⟨n % 2176, hn.2⟩) else 0)
      = F (packed h o y t ⟨n / 2176, by omega⟩ ⟨n % 2176, by omega⟩) := by
  by_cases hs : (n : ℕ) % 2176 < 2064
  · rw [dif_pos ⟨by omega, hs⟩]
    exact congrArg F (packed_in h o y t ⟨n / 2176, by omega⟩ ⟨n % 2176, hs⟩).symm
  · rw [dif_neg fun x => hs x.2, packed_out h o y t _ _ hs, h0]

end

end Cert.Mix

end
-- ==== Proof.MixSums.lean ====
/- What the feed-forward region adds up over its blocks: the loss and the gradients of the norms' scales. -/
module

public import proofs.«01_k».proof.Proof.MixArrays
public import proofs.«01_k».proof.Proof.MixScale

@[expose] public section

set_option maxRecDepth 16384

noncomputable section

open Idealize.ShloMosaic Idealize.ShloMosaic.TcCoe Idealize.SL.Sem

namespace Cert.Kernel2Ideal.Value
open Cert.Kernel2Ideal Cert.Kernel2Ideal.Gen

open Cert.Mix

theorem zero2_at (y : S1x1.Idx) : k0_pay2 (F := Ideal) y = (0 : EReal) := by pointwise [k0_pay2]
theorem zero3_at (y : S1x512.Idx) : k0_pay3 (F := Ideal) y = (0 : EReal) := by pointwise [k0_pay3]
theorem zero4_at (y : S1x512.Idx) : k0_pay4 (F := Ideal) y = (0 : EReal) := by pointwise [k0_pay4]
theorem zero5_at (y : S1x1024.Idx) : k0_pay5 (F := Ideal) y = (0 : EReal) := by pointwise [k0_pay5]

section
variable (m : (ℓ : Loc nD τ sig) → Buf (Elt Ideal) ℓ) (c : Dev nD)

theorem sum21 (t : Fin cfg0.N) (h : t.val % 17 = 16) (y : S1x1.Idx) : (outsAt0 m c t.val t.isLt).2.2.2.2.2.2.2.2.2.2.1 y
    = ∑ s : Fin 17, (fun (t : Fin 17) (y : S1x1.Idx) => (∑ i, sqErr (wts m c) (blockRow m c t i)) * lossScale) s y := by
  have ht : t.val / 17 = 0 := by have : t.val < 17 := t.2; omega
  rw [Pipeline.eq_sum_fin_of_reset_step_apply_of_flush (fun n h => (outsAt0 m c n h).2.2.2.2.2.2.2.2.2.2.1) 17 (fun _ => 0)
    (fun (t : Fin cfg0.N) (y : S1x1.Idx) => (∑ i, sqErr (wts m c) (blockRow m c t i)) * lossScale)
    (fun t h j => by
      rw [outsAt0_A _ c t h]
      frame_out
      idx_vars j
      exact (pay37_at (fun i => pErr_at m c t i) _ j0 j1).trans (congrArg (· + _) (zero2_at _)))
    (fun t h j => by
      rw [outsAt0_B _ c t h]
      frame_out
      idx_vars j
      exact pay37_at (fun i => pErr_at m c t i) _ j0 j1) t h _]
  refine (zero_add _).trans (Finset.sum_congr rfl fun s _ => ?_)
  exact congrArg (fun t : Fin 17 => (∑ i, sqErr (wts m c) (blockRow m c t i)) * lossScale) (Fin.ext (by simp only [ht]; omega))

theorem sum22 (t : Fin cfg0.N) (h : t.val % 17 = 16) (y : S1x512.Idx) : (outsAt0 m c t.val t.isLt).2.2.2.2.2.2.2.2.2.2.2.1 y
    = ∑ s : Fin 17, (fun (t : Fin 17) (y : S1x512.Idx) => ∑ i, gaTerm (wts m c) (blockRow m c t i) (y 1)) s y := by
  have ht : t.val / 17 = 0 := by have : t.val < 17 := t.2; omega
  rw [Pipeline.eq_sum_fin_of_reset_step_apply_of_flush (fun n h => (outsAt0 m c n h).2.2.2.2.2.2.2.2.2.2.2.1) 17 (fun _ => 0)
    (fun (t : Fin cfg0.N) (y : S1x512.Idx) => ∑ i, gaTerm (wts m c) (blockRow m c t i) (y 1))
    (fun t h j => by
      rw [outsAt0_A _ c t h]
      frame_out
      idx_vars j
      exact (pay51_at (fun i => unitO_at m c t i) (fun i => dmix_lo_at m c t i) _ j0 j1).trans (congrArg (· + _) (zero3_at _)))
    (fun t h j => by
      rw [outsAt0_B _ c t h]
      frame_out
      idx_vars j
      exact pay51_at (fun i => unitO_at m c t i) (fun i => dmix_lo_at m c t i) _ j0 j1) t h _]
  refine (zero_add _).trans (Finset.sum_congr rfl fun s _ => ?_)
  exact congrArg (fun t : Fin 17 => ∑ i, gaTerm (wts m c) (blockRow m c t i) (y 1)) (Fin.ext (by simp only [ht]; omega))

theorem sum23 (t : Fin cfg0.N) (h : t.val % 17 = 16) (y : S1x512.Idx) : (outsAt0 m c t.val t.isLt).2.2.2.2.2.2.2.2.2.2.2.2.1 y
    = ∑ s : Fin 17, (fun (t : Fin 17) (y : S1x512.Idx) => ∑ i, grTerm (wts m c) (blockRow m c t i) (y 1)) s y := by
  have ht : t.val / 17 = 0 := by have : t.val < 17 := t.2; omega
  rw [Pipeline.eq_sum_fin_of_reset_step_apply_of_flush (fun n h => (outsAt0 m c n h).2.2.2.2.2.2.2.2.2.2.2.2.1) 17 (fun _ => 0)
    (fun (t : Fin cfg0.N) (y : S1x512.Idx) => ∑ i, grTerm (wts m c) (blockRow m c t i) (y 1))
    (fun t h j => by
      rw [outsAt0_A _ c t h]
      frame_out
      idx_vars j
      exact (pay58_at (fun i => unitY_at m c t i) (fun i => pDmix_at m c t i) _ j0 j1).trans (congrArg (· + _) (zero4_at _)))
    (fun t h j => by
      rw [outsAt0_B _ c t h]
      frame_out
      idx_vars j
      exact pay58_at (fun i => unitY_at m c t i) (fun i => pDmix_at m c t i) _ j0 j1) t h _]
  refine (zero_add _).trans (Finset.sum_congr rfl fun s _ => ?_)
  exact congrArg (fun t : Fin 17 => ∑ i, grTerm (wts m c) (blockRow m c t i) (y 1)) (Fin.ext (by simp only [ht]; omega))

theorem sum24 (t : Fin cfg0.N) (h : t.val % 17 = 16) (y : S1x1024.Idx) : (outsAt0 m c t.val t.isLt).2.2.2.2.2.2.2.2.2.2.2.2.2 y
    = ∑ s : Fin 17, (fun (t : Fin 17) (y : S1x1024.Idx) => ∑ i, lnTerm (wts m c) (blockRow m c t i) (y 1)) s y := by
  have ht : t.val / 17 = 0 := by have : t.val < 17 := t.2; omega
  rw [Pipeline.eq_sum_fin_of_reset_step_apply_of_flush (fun n h => (outsAt0 m c n h).2.2.2.2.2.2.2.2.2.2.2.2.2) 17 (fun _ => 0)
    (fun (t : Fin cfg0.N) (y : S1x1024.Idx) => ∑ i, lnTerm (wts m c) (blockRow m c t i) (y 1))
    (fun t h j => by
      rw [outsAt0_A _ c t h]
      frame_out
      idx_vars j
      exact (pay1_at (fun i => pUnit_at m c t i) (fun i => pDhn_at m c t i) _ j0 j1).trans (congrArg (· + _) (zero5_at _)))
    (fun t h j => by
      rw [outsAt0_B _ c t h]
      frame_out
      idx_vars j
      exact pay1_at (fun i => pUnit_at m c t i) (fun i => pDhn_at m c t i) _ j0 j1) t h _]
  refine (zero_add _).trans (Finset.sum_congr rfl fun s _ => ?_)
  exact congrArg (fun t : Fin 17 => ∑ i, lnTerm (wts m c) (blockRow m c t i) (y 1)) (Fin.ext (by simp only [ht]; omega))

/-- A row of a device's sequence. -/
abbrev inRow (b : Fin 2) (s : Fin 2064) : RowIn := rowOf (arg m c main_arg0) (arg m c main_arg1) (arg m c main_arg2) (arg m c main_arg3) b s

theorem arr21 : (dats m 0 c).arrAt 21 cfg0.N = fun j : S1x1.Idx => (∑ b : Fin 2, ∑ s : Fin 2064, sqErr (wts m c) (inRow m c b s)) * lossScale := by
  refine (dats m 0 c).arrAt_eq_of_covers 21 _ (by decide +kernel) fun t hf y => ?_
  blk_simp
  rw [after0_21]
  idx_vars y
  have i1 : win0_21.index t 1 = 0 := by rw [(idx_sums t).1]; rfl
  refine (sum21 m c t ((flush0_21 t).mp hf) (ix2 y0 y1)).trans ?_
  refine (sum_scaled _ _ fun s => Finset.sum_nonneg fun i _ => sqErr_nonneg _ _).trans ?_
  exact congrArg (· * lossScale) (sum_packed _ _ _ _ (fun r => sqErr (wts m c) r) sqErr_pad)

theorem arr22 : (dats m 0 c).arrAt 22 cfg0.N = fun j : S1x512.Idx => ∑ b : Fin 2, ∑ s : Fin 2064, gaTerm (wts m c) (inRow m c b s) (j 1) := by
  refine (dats m 0 c).arrAt_eq_of_covers 22 _ (by decide +kernel) fun t hf y => ?_
  blk_simp
  rw [after0_22]
  idx_vars y
  have i1 : win0_22.index t 1 = 0 := by rw [(idx_sums t).2.1]; rfl
  refine (sum22 m c t ((flush0_22 t).mp hf) (ix2 y0 y1)).trans ?_
  refine (sum_packed _ _ _ _ (fun r => gaTerm (wts m c) r y1) (congrFun gaTerm_pad y1)).trans ?_
  exact congrArg (fun j => ∑ b : Fin 2, ∑ s : Fin 2064, gaTerm (wts m c) (inRow m c b s) j) (Fin.ext (by simp [i1]))

theorem arr23 : (dats m 0 c).arrAt 23 cfg0.N = fun j : S1x512.Idx => ∑ b : Fin 2, ∑ s : Fin 2064, grTerm (wts m c) (inRow m c b s) (j 1) := by
  refine (dats m 0 c).arrAt_eq_of_covers 23 _ (by decide +kernel) fun t hf y => ?_
  blk_simp
  rw [after0_23]
  idx_vars y
  have i1 : win0_23.index t 1 = 0 := by rw [(idx_sums t).2.2.1]; rfl
  refine (sum23 m c t ((flush0_23 t).mp hf) (ix2 y0 y1)).trans ?_
  refine (sum_packed _ _ _ _ (fun r => grTerm (wts m c) r y1) (congrFun grTerm_pad y1)).trans ?_
  exact congrArg (fun j => ∑ b : Fin 2, ∑ s : Fin 2064, grTerm (wts m c) (inRow m c b s) j) (Fin.ext (by simp [i1]))

theorem arr24 : (dats m 0 c).arrAt 24 cfg0.N = fun j : S1x1024.Idx => ∑ b : Fin 2, ∑ s : Fin 2064, lnTerm (wts m c) (inRow m c b s) (j 1) := by
  refine (dats m 0 c).arrAt_eq_of_covers 24 _ (by decide +kernel) fun t hf y => ?_
  blk_simp
  rw [after0_24]
  idx_vars y
  have i1 : win0_24.index t 1 = 0 := by rw [(idx_sums t).2.2.2]; rfl
  refine (sum24 m c t ((flush0_24 t).mp hf) (ix2 y0 y1)).trans ?_
  refine (sum_packed _ _ _ _ (fun r => lnTerm (wts m c) r y1) (congrFun lnTerm_pad y1)).trans ?_
  exact congrArg (fun j => ∑ b : Fin 2, ∑ s : Fin 2064, lnTerm (wts m c) (inRow m c b s) j) (Fin.ext (by simp [i1]))

end

end Cert.Kernel2Ideal.Value

end
-- ==== Proof.MixRef.lean ====
/- The reference's derivative of the layer's second half, row by row. -/
module

public import proofs.«01_k».proof.Proof.Gen.Reference2Ideal.Read
public import proofs.«01_k».proof.Proof.MixScale

@[expose] public section

set_option maxRecDepth 16384

noncomputable section

open Idealize.ShloMosaic Idealize.ShloMosaic.TcCoe Idealize.SL.Sem

namespace Cert.Reference2Ideal.Value
open Cert.Reference2Ideal Cert.Reference2Ideal.Gen Cert.Reference2Ideal.Read

open Cert.Mix

variable (x0 : FVec Ideal S2x2064x1024 .f32) (x1 x2 : FVec Ideal S2x2064x512 .f32) (x3 : FVec Ideal S2x2048x1024 .f32)
  (x4 x5 : FVec Ideal S512 .f32) (x6 : FVec Ideal S1024x1024 .f32) (x7 : FVec Ideal S1024 .f32) (x8 x9 : FVec Ideal S1024x2816 .f32)
  (x10 : FVec Ideal S2816x1024 .f32)

section
variable (b : Fin 2) (s : Fin 2064)

include x0 x1 x2 x3 x4 x5 x6 x7 x8 x9 x10

theorem v8_at (z : Fin 1) : val_main_v8 (F := Ideal) x1 (ix3 b s z) = meanSq c512 (rowOf x0 x1 x2 x3 b s).o := by
  pointwise [val_main_v8, val_main_v7, val_main_v6, val_main_v5, val_main_v4, val_main_v3, val_main_v2, val_main_cst_1, val_main_cst_2, val_main_cst_3]
  rw [div_512]
  rfl

theorem v9_at (z : Fin 1) : val_main_v9 (F := Ideal) x1 (ix3 b s z) = inv c512 (rowOf x0 x1 x2 x3 b s).o := by
  pointwise [val_main_v9]
  rw [v8_at x0 x1 x2 x3 x4 x5 x6 x7 x8 x9 x10 b s z]
  rfl

theorem v12_at (z : Fin 1) : val_main_v12 (F := Ideal) x1 (ix3 b s z) = slope c512 (rowOf x0 x1 x2 x3 b s).o := by
  pointwise [val_main_v12, val_main_v11, val_main_v10, val_main_cst_4]
  simp only [v8_at x0 x1 x2 x3 x4 x5 x6 x7 x8 x9 x10 b s, v9_at x0 x1 x2 x3 x4 x5 x6 x7 x8 x9 x10 b s]
  rfl

theorem v14_at (j : Fin 512) : val_main_v14 (F := Ideal) x1 (ix3 b s j) = unit c512 (rowOf x0 x1 x2 x3 b s).o j := by
  pointwise [val_main_v14, val_main_v13]
  simp only [v9_at x0 x1 x2 x3 x4 x5 x6 x7 x8 x9 x10 b s]
  rfl

theorem v17_at (j : Fin 512) : val_main_v17 (F := Ideal) x1 x4 (ix3 b s j) = mixA (weightsOf x4 x5 x6 x7 x8 x9 x10) (rowOf x0 x1 x2 x3 b s) j := by
  pointwise [val_main_v17, val_main_v16, val_main_v15]
  simp only [v14_at x0 x1 x2 x3 x4 x5 x6 x7 x8 x9 x10 b s]
  rfl

theorem v24_at (z : Fin 1) : val_main_v24 (F := Ideal) x2 (ix3 b s z) = meanSq c512 (rowOf x0 x1 x2 x3 b s).y := by
  pointwise [val_main_v24, val_main_v23, val_main_v22, val_main_v21, val_main_v20, val_main_v19, val_main_v18, val_main_cst_5, val_main_cst_6, val_main_cst_7]
  rw [div_512]
  rfl

theorem v25_at (z : Fin 1) : val_main_v25 (F := Ideal) x2 (ix3 b s z) = inv c512 (rowOf x0 x1 x2 x3 b s).y := by
  pointwise [val_main_v25]
  rw [v24_at x0 x1 x2 x3 x4 x5 x6 x7 x8 x9 x10 b s z]
  rfl

theorem v28_at (z : Fin 1) : val_main_v28 (F := Ideal) x2 (ix3 b s z) = slope c512 (rowOf x0 x1 x2 x3 b s).y := by
  pointwise [val_main_v28, val_main_v27, val_main_v26, val_main_cst_8]
  simp only [v24_at x0 x1 x2 x3 x4 x5 x6 x7 x8 x9 x10 b s, v25_at x0 x1 x2 x3 x4 x5 x6 x7 x8 x9 x10 b s]
  rfl

theorem v30_at (j : Fin 512) : val_main_v30 (F := Ideal) x2 (ix3 b s j) = unit c512 (rowOf x0 x1 x2 x3 b s).y j := by
  pointwise [val_main_v30, val_main_v29]
  simp only [v25_at x0 x1 x2 x3 x4 x5 x6 x7 x8 x9 x10 b s]
  rfl

theorem v33_at (j : Fin 512) : val_main_v33 (F := Ideal) x2 x5 (ix3 b s j) = mixR (weightsOf x4 x5 x6 x7 x8 x9 x10) (rowOf x0 x1 x2 x3 b s) j := by
  pointwise [val_main_v33, val_main_v32, val_main_v31]
  simp only [v30_at x0 x1 x2 x3 x4 x5 x6 x7 x8 x9 x10 b s]
  rfl

theorem v34_at (j : Fin 1024) : val_main_v34 (F := Ideal) x1 x2 x4 x5 (ix3 b s j) = mix (weightsOf x4 x5 x6 x7 x8 x9 x10) (rowOf x0 x1 x2 x3 b s) j := by
  pointwise [val_main_v34]
  simp only [v17_at x0 x1 x2 x3 x4 x5 x6 x7 x8 x9 x10 b s, v33_at x0 x1 x2 x3 x4 x5 x6 x7 x8 x9 x10 b s]
  rfl

theorem v36_at (j : Fin 1024) : val_main_v36 (F := Ideal) x0 x1 x2 x4 x5 x6 (ix3 b s j) = h1 (weightsOf x4 x5 x6 x7 x8 x9 x10) (rowOf x0 x1 x2 x3 b s) j := by
  pointwise [val_main_v36, val_main_v35]
  simp only [v34_at x0 x1 x2 x3 x4 x5 x6 x7 x8 x9 x10 b s]
  rfl

theorem v43_at (z : Fin 1) : val_main_v43 (F := Ideal) x0 x1 x2 x4 x5 x6 (ix3 b s z) = meanSq c1024 (h1 (weightsOf x4 x5 x6 x7 x8 x9 x10) (rowOf x0 x1 x2 x3 b s)) := by
  pointwise [val_main_v43, val_main_v42, val_main_v41, val_main_v40, val_main_v39, val_main_v38, val_main_v37, val_main_cst_9, val_main_cst_10, val_main_cst_11]
  simp only [v36_at x0 x1 x2 x3 x4 x5 x6 x7 x8 x9 x10 b s]
  rw [div_1024]
  rfl

theorem v44_at (z : Fin 1) : val_main_v44 (F := Ideal) x0 x1 x2 x4 x5 x6 (ix3 b s z) = inv c1024 (h1 (weightsOf x4 x5 x6 x7 x8 x9 x10) (rowOf x0 x1 x2 x3 b s)) := by
  pointwise [val_main_v44]
  rw [v43_at x0 x1 x2 x3 x4 x5 x6 x7 x8 x9 x10 b s z]
  rfl

theorem v47_at (z : Fin 1) : val_main_v47 (F := Ideal) x0 x1 x2 x4 x5 x6 (ix3 b s z) = slope c1024 (h1 (weightsOf x4 x5 x6 x7 x8 x9 x10) (rowOf x0 x1 x2 x3 b s)) := by
  pointwise [val_main_v47, val_main_v46, val_main_v45, val_main_cst_12]
  simp only [v43_at x0 x1 x2 x3 x4 x5 x6 x7 x8 x9 x10 b s, v44_at x0 x1 x2 x3 x4 x5 x6 x7 x8 x9 x10 b s]
  rfl

theorem v49_at (j : Fin 1024) : val_main_v49 (F := Ideal) x0 x1 x2 x4 x5 x6 (ix3 b s j) = unit c1024 (h1 (weightsOf x4 x5 x6 x7 x8 x9 x10) (rowOf x0 x1 x2 x3 b s)) j := by
  pointwise [val_main_v49, val_main_v48]
  simp only [v36_at x0 x1 x2 x3 x4 x5 x6 x7 x8 x9 x10 b s, v44_at x0 x1 x2 x3 x4 x5 x6 x7 x8 x9 x10 b s]
  rfl

theorem v52_at (j : Fin 1024) : val_main_v52 (F := Ideal) x0 x1 x2 x4 x5 x6 x7 (ix3 b s j) = hn (weightsOf x4 x5 x6 x7 x8 x9 x10) (rowOf x0 x1 x2 x3 b s) j := by
  pointwise [val_main_v52, val_main_v51, val_main_v50]
  simp only [v49_at x0 x1 x2 x3 x4 x5 x6 x7 x8 x9 x10 b s]
  rfl

theorem v54_at (j : Fin 2816) : val_main_v54 (F := Ideal) x0 x1 x2 x4 x5 x6 x7 x8 (ix3 b s j) = gate (weightsOf x4 x5 x6 x7 x8 x9 x10) (rowOf x0 x1 x2 x3 b s) j := by
  pointwise [val_main_v54, val_main_v53, val_main_v0, val_main_cst]
  simp only [v52_at x0 x1 x2 x3 x4 x5 x6 x7 x8 x9 x10 b s]
  first | rfl | (rw [add_zero]; rfl)

theorem v56_at (j : Fin 2816) : val_main_v56 (F := Ideal) x0 x1 x2 x4 x5 x6 x7 x9 (ix3 b s j) = up (weightsOf x4 x5 x6 x7 x8 x9 x10) (rowOf x0 x1 x2 x3 b s) j := by
  pointwise [val_main_v56, val_main_v55, val_main_v0, val_main_cst]
  simp only [v52_at x0 x1 x2 x3 x4 x5 x6 x7 x8 x9 x10 b s]
  first | rfl | (rw [add_zero]; rfl)

theorem v57_2_at (j : Fin 2816) : val_main_v57_2 (F := Ideal) x0 x1 x2 x4 x5 x6 x7 x8 (ix3 b s j) = sgm (weightsOf x4 x5 x6 x7 x8 x9 x10) (rowOf x0 x1 x2 x3 b s) j := by
  pointwise [val_main_v57_2, val_main_call0_v4, val_main_call0_v3, val_main_call0_cst_0, val_main_call0_v2, val_main_call0_v1, val_main_call0_v0, val_main_call0_cst]
  simp only [v54_at x0 x1 x2 x3 x4 x5 x6 x7 x8 x9 x10 b s]
  rfl

theorem v57_1_at (j : Fin 2816) : val_main_v57_1 (F := Ideal) x0 x1 x2 x4 x5 x6 x7 x8 (ix3 b s j) = sgm (weightsOf x4 x5 x6 x7 x8 x9 x10) (rowOf x0 x1 x2 x3 b s) j * (1 - sgm (weightsOf x4 x5 x6 x7 x8 x9 x10) (rowOf x0 x1 x2 x3 b s) j) := by
  pointwise [val_main_v57_1, val_main_call0_v7, val_main_call0_v6, val_main_call0_cst_1]
  simp only [v57_2_at x0 x1 x2 x3 x4 x5 x6 x7 x8 x9 x10 b s]

theorem v57_0_at (j : Fin 2816) : val_main_v57_0 (F := Ideal) x0 x1 x2 x4 x5 x6 x7 x8 (ix3 b s j) = silu (weightsOf x4 x5 x6 x7 x8 x9 x10) (rowOf x0 x1 x2 x3 b s) j := by
  pointwise [val_main_v57_0]
  simp only [v57_2_at x0 x1 x2 x3 x4 x5 x6 x7 x8 x9 x10 b s, v54_at x0 x1 x2 x3 x4 x5 x6 x7 x8 x9 x10 b s]
  rfl

theorem v58_at (j : Fin 2816) : val_main_v58 (F := Ideal) x0 x1 x2 x4 x5 x6 x7 x8 x9 (ix3 b s j) = act (weightsOf x4 x5 x6 x7 x8 x9 x10) (rowOf x0 x1 x2 x3 b s) j := by
  pointwise [val_main_v58]
  simp only [v57_0_at x0 x1 x2 x3 x4 x5 x6 x7 x8 x9 x10 b s, v56_at x0 x1 x2 x3 x4 x5 x6 x7 x8 x9 x10 b s]
  rfl

theorem v63_at (t : Fin 2048) (j : Fin 1024) : val_main_v63 (F := Ideal) x0 x1 x2 x3 x4 x5 x6 x7 x8 x9 x10 (ix3 b t j) = err (weightsOf x4 x5 x6 x7 x8 x9 x10) (rowOf x0 x1 x2 x3 b ⟨16 + t, by omega⟩) j := by
  pointwise [val_main_v63, val_main_v62, val_main_v61, val_main_v60, val_main_v59, val_main_v1, val_main_cst_0]
  rw [err_live x0 x1 x2 x3 _ b _ (by simp)]
  simp only [v36_at x0 x1 x2 x3 x4 x5 x6 x7 x8 x9 x10, v58_at x0 x1 x2 x3 x4 x5 x6 x7 x8 x9 x10, Nat.add_sub_cancel_left]
  rfl

theorem v78_at (j : Fin 1024) : val_main_v78 (F := Ideal) x0 x1 x2 x3 x4 x5 x6 x7 x8 x9 x10 (ix3 b s j) = dh2 (weightsOf x4 x5 x6 x7 x8 x9 x10) (rowOf x0 x1 x2 x3 b s) j := by
  pointwise [val_main_v78, val_main_v77, val_main_v76, val_main_v75, val_main_v74, val_main_v73, val_main_v72, val_main_v71, val_main_v70, val_main_cst_20, val_main_cst_19, val_main_cst_18, val_main_cst_17]
  rw [dh2]
  by_cases hs : 16 ≤ (s : ℕ)
  · rw [dif_pos ⟨hs, by omega⟩, v63_at x0 x1 x2 x3 x4 x5 x6 x7 x8 x9 x10 b ⟨s - 16, by omega⟩ j, div_1024]
    refine (halves _).trans ?_
    exact congrArg (fun s' : Fin 2064 => err (weightsOf x4 x5 x6 x7 x8 x9 x10) (rowOf x0 x1 x2 x3 b s') j * c1024) (Fin.ext (by simp only []; omega))
  · rw [dif_neg fun x => hs x.1, err_dead x0 x1 x2 x3 _ b s hs, zero_mul]

theorem v79_at (j : Fin 2816) : val_main_v79 (F := Ideal) x0 x1 x2 x3 x4 x5 x6 x7 x8 x9 x10 (ix3 b s j) = dact (weightsOf x4 x5 x6 x7 x8 x9 x10) (rowOf x0 x1 x2 x3 b s) j := by
  pointwise [val_main_v79]
  simp only [v78_at x0 x1 x2 x3 x4 x5 x6 x7 x8 x9 x10 b s]
  rfl

theorem v80_at (j : Fin 2816) : val_main_v80 (F := Ideal) x0 x1 x2 x3 x4 x5 x6 x7 x8 x9 x10 (ix3 b s j) = dup (weightsOf x4 x5 x6 x7 x8 x9 x10) (rowOf x0 x1 x2 x3 b s) j := by
  pointwise [val_main_v80]
  simp only [v57_0_at x0 x1 x2 x3 x4 x5 x6 x7 x8 x9 x10 b s, v79_at x0 x1 x2 x3 x4 x5 x6 x7 x8 x9 x10 b s]
  rfl

theorem v82_at (j : Fin 2816) : val_main_v82 (F := Ideal) x0 x1 x2 x3 x4 x5 x6 x7 x8 x9 x10 (ix3 b s j) = dgate (weightsOf x4 x5 x6 x7 x8 x9 x10) (rowOf x0 x1 x2 x3 b s) j := by
  pointwise [val_main_v82, val_main_call1_v0, val_main_call1_v1, val_main_call1_v2, val_main_v81]
  simp only [v57_1_at x0 x1 x2 x3 x4 x5 x6 x7 x8 x9 x10 b s, v57_2_at x0 x1 x2 x3 x4 x5 x6 x7 x8 x9 x10 b s, v54_at x0 x1 x2 x3 x4 x5 x6 x7 x8 x9 x10 b s, v79_at x0 x1 x2 x3 x4 x5 x6 x7 x8 x9 x10 b s, v56_at x0 x1 x2 x3 x4 x5 x6 x7 x8 x9 x10 b s]
  rfl

theorem v85_at (j : Fin 1024) : val_main_v85 (F := Ideal) x0 x1 x2 x3 x4 x5 x6 x7 x8 x9 x10 (ix3 b s j) = dhn (weightsOf x4 x5 x6 x7 x8 x9 x10) (rowOf x0 x1 x2 x3 b s) j := by
  pointwise [val_main_v85, val_main_v84, val_main_v83]
  simp only [v80_at x0 x1 x2 x3 x4 x5 x6 x7 x8 x9 x10 b s, v82_at x0 x1 x2 x3 x4 x5 x6 x7 x8 x9 x10 b s]
  rw [add_comm]
  rfl

theorem v86_at (j : Fin 1024) : val_main_v86 (F := Ideal) x0 x1 x2 x3 x4 x5 x6 x7 x8 x9 x10 (ix3 b s j) = lnTerm (weightsOf x4 x5 x6 x7 x8 x9 x10) (rowOf x0 x1 x2 x3 b s) j := by
  pointwise [val_main_v86]
  simp only [v49_at x0 x1 x2 x3 x4 x5 x6 x7 x8 x9 x10 b s, v85_at x0 x1 x2 x3 x4 x5 x6 x7 x8 x9 x10 b s]
  rfl

theorem v90_at (j : Fin 1024) : val_main_v90 (F := Ideal) x0 x1 x2 x3 x4 x5 x6 x7 x8 x9 x10 (ix3 b s j) = dhn (weightsOf x4 x5 x6 x7 x8 x9 x10) (rowOf x0 x1 x2 x3 b s) j * x7 (ix1 j) := by
  pointwise [val_main_v90, val_main_v89, val_main_v50]
  simp only [v85_at x0 x1 x2 x3 x4 x5 x6 x7 x8 x9 x10 b s]

theorem v102_at (j : Fin 1024) : val_main_v102 (F := Ideal) x0 x1 x2 x3 x4 x5 x6 x7 x8 x9 x10 (ix3 b s j) = share c1024 (h1 (weightsOf x4 x5 x6 x7 x8 x9 x10) (rowOf x0 x1 x2 x3 b s)) fun k => dhn (weightsOf x4 x5 x6 x7 x8 x9 x10) (rowOf x0 x1 x2 x3 b s) k * x7 (ix1 k) := by
  pointwise [val_main_v102, val_main_v101, val_main_cst_25, val_main_v100, val_main_v99, val_main_v98, val_main_v94, val_main_v93, val_main_v92, val_main_cst_23, val_main_cst_24]
  simp only [v36_at x0 x1 x2 x3 x4 x5 x6 x7 x8 x9 x10 b s, v90_at x0 x1 x2 x3 x4 x5 x6 x7 x8 x9 x10 b s, v47_at x0 x1 x2 x3 x4 x5 x6 x7 x8 x9 x10 b s]
  simp only [div_1024, Fin.sum_univ_one]
  rfl

theorem v106_at (j : Fin 1024) : val_main_v106 (F := Ideal) x0 x1 x2 x3 x4 x5 x6 x7 x8 x9 x10 (ix3 b s j) = dh1 (weightsOf x4 x5 x6 x7 x8 x9 x10) (rowOf x0 x1 x2 x3 b s) j := by
  pointwise [val_main_v106, val_main_v105, val_main_v104, val_main_v103, val_main_v97, val_main_v96, val_main_v95]
  simp only [v78_at x0 x1 x2 x3 x4 x5 x6 x7 x8 x9 x10 b s, v36_at x0 x1 x2 x3 x4 x5 x6 x7 x8 x9 x10 b s, v90_at x0 x1 x2 x3 x4 x5 x6 x7 x8 x9 x10 b s, v44_at x0 x1 x2 x3 x4 x5 x6 x7 x8 x9 x10 b s, v102_at x0 x1 x2 x3 x4 x5 x6 x7 x8 x9 x10 b s]
  rw [dh1, pull, ← add_assoc, ← add_assoc]
  rfl

theorem v107_at (j : Fin 1024) : val_main_v107 (F := Ideal) x0 x1 x2 x3 x4 x5 x6 x7 x8 x9 x10 (ix3 b s j) = dmix (weightsOf x4 x5 x6 x7 x8 x9 x10) (rowOf x0 x1 x2 x3 b s) j := by
  pointwise [val_main_v107]
  simp only [v106_at x0 x1 x2 x3 x4 x5 x6 x7 x8 x9 x10 b s]
  rfl

theorem v110_at (j : Fin 512) : val_main_v110 (F := Ideal) x0 x1 x2 x3 x4 x5 x6 x7 x8 x9 x10 (ix3 b s j) = grTerm (weightsOf x4 x5 x6 x7 x8 x9 x10) (rowOf x0 x1 x2 x3 b s) j := by
  pointwise [val_main_v110, val_main_v109]
  simp only [v30_at x0 x1 x2 x3 x4 x5 x6 x7 x8 x9 x10 b s, v107_at x0 x1 x2 x3 x4 x5 x6 x7 x8 x9 x10 b s]
  rfl

theorem v114_at (j : Fin 512) : val_main_v114 (F := Ideal) x0 x1 x2 x3 x4 x5 x6 x7 x8 x9 x10 (ix3 b s j) = dmix (weightsOf x4 x5 x6 x7 x8 x9 x10) (rowOf x0 x1 x2 x3 b s) (hi j) * x5 (ix1 j) := by
  pointwise [val_main_v114, val_main_v113, val_main_v31, val_main_v109]
  simp only [v107_at x0 x1 x2 x3 x4 x5 x6 x7 x8 x9 x10 b s]
  rfl

theorem v125_at (j : Fin 512) : val_main_v125 (F := Ideal) x0 x1 x2 x3 x4 x5 x6 x7 x8 x9 x10 (ix3 b s j) = share c512 (rowOf x0 x1 x2 x3 b s).y fun k => dmix (weightsOf x4 x5 x6 x7 x8 x9 x10) (rowOf x0 x1 x2 x3 b s) (hi k) * x5 (ix1 k) := by
  pointwise [val_main_v125, val_main_v124, val_main_v123, val_main_v122, val_main_v121, val_main_v118, val_main_v117, val_main_v116, val_main_cst_28, val_main_cst_29, val_main_cst_30]
  simp only [v114_at x0 x1 x2 x3 x4 x5 x6 x7 x8 x9 x10 b s, v28_at x0 x1 x2 x3 x4 x5 x6 x7 x8 x9 x10 b s]
  simp only [div_512, Fin.sum_univ_one]
  rfl

theorem v129_at (j : Fin 512) : val_main_v129 (F := Ideal) x0 x1 x2 x3 x4 x5 x6 x7 x8 x9 x10 (ix3 b s j) = dY (weightsOf x4 x5 x6 x7 x8 x9 x10) (rowOf x0 x1 x2 x3 b s) j := by
  pointwise [val_main_v129, val_main_v128, val_main_v127, val_main_v126, val_main_v120, val_main_v119]
  simp only [v114_at x0 x1 x2 x3 x4 x5 x6 x7 x8 x9 x10 b s, v25_at x0 x1 x2 x3 x4 x5 x6 x7 x8 x9 x10 b s, v125_at x0 x1 x2 x3 x4 x5 x6 x7 x8 x9 x10 b s]
  rfl

theorem v130_at (j : Fin 512) : val_main_v130 (F := Ideal) x0 x1 x2 x3 x4 x5 x6 x7 x8 x9 x10 (ix3 b s j) = gaTerm (weightsOf x4 x5 x6 x7 x8 x9 x10) (rowOf x0 x1 x2 x3 b s) j := by
  pointwise [val_main_v130, val_main_v108]
  simp only [v14_at x0 x1 x2 x3 x4 x5 x6 x7 x8 x9 x10 b s, v107_at x0 x1 x2 x3 x4 x5 x6 x7 x8 x9 x10 b s]
  rfl

theorem v134_at (j : Fin 512) : val_main_v134 (F := Ideal) x0 x1 x2 x3 x4 x5 x6 x7 x8 x9 x10 (ix3 b s j) = dmix (weightsOf x4 x5 x6 x7 x8 x9 x10) (rowOf x0 x1 x2 x3 b s) (lo j) * x4 (ix1 j) := by
  pointwise [val_main_v134, val_main_v133, val_main_v15, val_main_v108]
  simp only [v107_at x0 x1 x2 x3 x4 x5 x6 x7 x8 x9 x10 b s]
  rfl

theorem v145_at (j : Fin 512) : val_main_v145 (F := Ideal) x0 x1 x2 x3 x4 x5 x6 x7 x8 x9 x10 (ix3 b s j) = share c512 (rowOf x0 x1 x2 x3 b s).o fun k => dmix (weightsOf x4 x5 x6 x7 x8 x9 x10) (rowOf x0 x1 x2 x3 b s) (lo k) * x4 (ix1 k) := by
  pointwise [val_main_v145, val_main_v144, val_main_v143, val_main_v142, val_main_v141, val_main_v138, val_main_v137, val_main_v136, val_main_cst_33, val_main_cst_34, val_main_cst_35]
  simp only [v134_at x0 x1 x2 x3 x4 x5 x6 x7 x8 x9 x10 b s, v12_at x0 x1 x2 x3 x4 x5 x6 x7 x8 x9 x10 b s]
  simp only [div_512, Fin.sum_univ_one]
  rfl

theorem v149_at (j : Fin 512) : val_main_v149 (F := Ideal) x0 x1 x2 x3 x4 x5 x6 x7 x8 x9 x10 (ix3 b s j) = dO (weightsOf x4 x5 x6 x7 x8 x9 x10) (rowOf x0 x1 x2 x3 b s) j := by
  pointwise [val_main_v149, val_main_v148, val_main_v147, val_main_v146, val_main_v140, val_main_v139]
  simp only [v134_at x0 x1 x2 x3 x4 x5 x6 x7 x8 x9 x10 b s, v9_at x0 x1 x2 x3 x4 x5 x6 x7 x8 x9 x10 b s, v145_at x0 x1 x2 x3 x4 x5 x6 x7 x8 x9 x10 b s]
  rfl

end

end Cert.Reference2Ideal.Value

end
-- ==== Proof.MixRefArrays.lean ====
/- The reference's results: the rows packed, and what the rows add to the loss and to the scales' gradients. -/
module

public import proofs.«01_k».proof.Proof.MixRef

@[expose] public section

set_option maxRecDepth 16384

noncomputable section

open Idealize.ShloMosaic Idealize.ShloMosaic.TcCoe Idealize.SL.Sem

namespace Cert.Reference2Ideal.Value
open Cert.Reference2Ideal Cert.Reference2Ideal.Gen Cert.Reference2Ideal.Read

open Cert.Mix

variable (x0 : FVec Ideal S2x2064x1024 .f32) (x1 x2 : FVec Ideal S2x2064x512 .f32) (x3 : FVec Ideal S2x2048x1024 .f32)
  (x4 x5 : FVec Ideal S512 .f32) (x6 : FVec Ideal S1024x1024 .f32) (x7 : FVec Ideal S1024 .f32) (x8 x9 : FVec Ideal S1024x2816 .f32)
  (x10 : FVec Ideal S2816x1024 .f32)

/-- A packed row. -/
abbrev packedIn (n : Fin 4352) : RowIn := packed x0 x1 x2 x3 ⟨n / 2176, by omega⟩ ⟨n % 2176, by omega⟩

include x0 x1 x2 x3 x4 x5 x6 x7 x8 x9 x10

theorem v151_eq : val_main_v151 (F := Ideal) x0 x1 x2 x3 x4 x5 x6 x7 x8 x9 x10 = fun z : S4352x512.Idx => dO (weightsOf x4 x5 x6 x7 x8 x9 x10) (packedIn x0 x1 x2 x3 (z 0)) (z 1) := by
  funext z
  pointwise [val_main_v151, val_main_v150, val_main_call2_v0, val_main_c]
  exact (dite_congr rfl (fun h => v149_at x0 x1 x2 x3 x4 x5 x6 x7 x8 x9 x10 _ _ (z 1)) fun _ => by first | rfl | exact zero_word).trans
    (packed_at x0 x1 x2 x3 (fun r => dO (weightsOf x4 x5 x6 x7 x8 x9 x10) r (z 1)) (congrFun dO_pad _) (z 0))

theorem v153_eq : val_main_v153 (F := Ideal) x0 x1 x2 x3 x4 x5 x6 x7 x8 x9 x10 = fun z : S4352x512.Idx => dY (weightsOf x4 x5 x6 x7 x8 x9 x10) (packedIn x0 x1 x2 x3 (z 0)) (z 1) := by
  funext z
  pointwise [val_main_v153, val_main_v152, val_main_call3_v0, val_main_c_36]
  exact (dite_congr rfl (fun h => v129_at x0 x1 x2 x3 x4 x5 x6 x7 x8 x9 x10 _ _ (z 1)) fun _ => by first | rfl | exact zero_word).trans
    (packed_at x0 x1 x2 x3 (fun r => dY (weightsOf x4 x5 x6 x7 x8 x9 x10) r (z 1)) (congrFun dY_pad _) (z 0))

theorem v155_eq : val_main_v155 (F := Ideal) x0 x1 x2 x3 x4 x5 x6 x7 x8 x9 x10 = fun z : S4352x1024.Idx => dh1 (weightsOf x4 x5 x6 x7 x8 x9 x10) (packedIn x0 x1 x2 x3 (z 0)) (z 1) := by
  funext z
  pointwise [val_main_v155, val_main_v154, val_main_call4_v0, val_main_c_37]
  exact (dite_congr rfl (fun h => v106_at x0 x1 x2 x3 x4 x5 x6 x7 x8 x9 x10 _ _ (z 1)) fun _ => by first | rfl | exact zero_word).trans
    (packed_at x0 x1 x2 x3 (fun r => dh1 (weightsOf x4 x5 x6 x7 x8 x9 x10) r (z 1)) (congrFun dh1_pad _) (z 0))

theorem v158_eq : val_main_v158 (F := Ideal) x1 x2 x4 x5 = fun z : S4352x1024.Idx => mix (weightsOf x4 x5 x6 x7 x8 x9 x10) (packedIn x0 x1 x2 x3 (z 0)) (z 1) := by
  funext z
  pointwise [val_main_v158, val_main_v157, val_main_v156, val_main_call5_v0, val_main_c_38]
  exact (dite_congr rfl (fun h => v34_at x0 x1 x2 x3 x4 x5 x6 x7 x8 x9 x10 _ _ (z 1)) fun _ => by first | rfl | exact zero_word).trans
    (packed_at x0 x1 x2 x3 (fun r => mix (weightsOf x4 x5 x6 x7 x8 x9 x10) r (z 1)) (congrFun mix_pad _) (z 0))

theorem v161_eq : val_main_v161 (F := Ideal) x0 x1 x2 x3 x4 x5 x6 x7 x8 x9 x10 = fun z : S4352x1024.Idx => dh1 (weightsOf x4 x5 x6 x7 x8 x9 x10) (packedIn x0 x1 x2 x3 (z 0)) (z 1) := by
  funext z
  pointwise [val_main_v161, val_main_v160, val_main_v159, val_main_call6_v0, val_main_c_39]
  exact (dite_congr rfl (fun h => v106_at x0 x1 x2 x3 x4 x5 x6 x7 x8 x9 x10 _ _ (z 1)) fun _ => by first | rfl | exact zero_word).trans
    (packed_at x0 x1 x2 x3 (fun r => dh1 (weightsOf x4 x5 x6 x7 x8 x9 x10) r (z 1)) (congrFun dh1_pad _) (z 0))

theorem v164_eq : val_main_v164 (F := Ideal) x0 x1 x2 x4 x5 x6 x7 = fun z : S4352x1024.Idx => hn (weightsOf x4 x5 x6 x7 x8 x9 x10) (packedIn x0 x1 x2 x3 (z 0)) (z 1) := by
  funext z
  pointwise [val_main_v164, val_main_v163, val_main_v162, val_main_call7_v0, val_main_c_40]
  exact (dite_congr rfl (fun h => v52_at x0 x1 x2 x3 x4 x5 x6 x7 x8 x9 x10 _ _ (z 1)) fun _ => by first | rfl | exact zero_word).trans
    (packed_at x0 x1 x2 x3 (fun r => hn (weightsOf x4 x5 x6 x7 x8 x9 x10) r (z 1)) (congrFun hn_pad _) (z 0))

theorem v167_eq : val_main_v167 (F := Ideal) x0 x1 x2 x3 x4 x5 x6 x7 x8 x9 x10 = fun z : S4352x2816.Idx => dgate (weightsOf x4 x5 x6 x7 x8 x9 x10) (packedIn x0 x1 x2 x3 (z 0)) (z 1) := by
  funext z
  pointwise [val_main_v167, val_main_v166, val_main_v165, val_main_call8_v0, val_main_c_41]
  exact (dite_congr rfl (fun h => v82_at x0 x1 x2 x3 x4 x5 x6 x7 x8 x9 x10 _ _ (z 1)) fun _ => by first | rfl | exact zero_word).trans
    (packed_at x0 x1 x2 x3 (fun r => dgate (weightsOf x4 x5 x6 x7 x8 x9 x10) r (z 1)) (congrFun dgate_pad _) (z 0))

theorem v170_eq : val_main_v170 (F := Ideal) x0 x1 x2 x3 x4 x5 x6 x7 x8 x9 x10 = fun z : S4352x2816.Idx => dup (weightsOf x4 x5 x6 x7 x8 x9 x10) (packedIn x0 x1 x2 x3 (z 0)) (z 1) := by
  funext z
  pointwise [val_main_v170, val_main_v169, val_main_v168, val_main_call9_v0, val_main_c_42]
  exact (dite_congr rfl (fun h => v80_at x0 x1 x2 x3 x4 x5 x6 x7 x8 x9 x10 _ _ (z 1)) fun _ => by first | rfl | exact zero_word).trans
    (packed_at x0 x1 x2 x3 (fun r => dup (weightsOf x4 x5 x6 x7 x8 x9 x10) r (z 1)) (congrFun dup_pad _) (z 0))

theorem v173_eq : val_main_v173 (F := Ideal) x0 x1 x2 x4 x5 x6 x7 x8 x9 = fun z : S4352x2816.Idx => act (weightsOf x4 x5 x6 x7 x8 x9 x10) (packedIn x0 x1 x2 x3 (z 0)) (z 1) := by
  funext z
  pointwise [val_main_v173, val_main_v172, val_main_v171, val_main_call10_v0, val_main_c_43]
  exact (dite_congr rfl (fun h => v58_at x0 x1 x2 x3 x4 x5 x6 x7 x8 x9 x10 _ _ (z 1)) fun _ => by first | rfl | exact zero_word).trans
    (packed_at x0 x1 x2 x3 (fun r => act (weightsOf x4 x5 x6 x7 x8 x9 x10) r (z 1)) (congrFun act_pad _) (z 0))

theorem v176_eq : val_main_v176 (F := Ideal) x0 x1 x2 x3 x4 x5 x6 x7 x8 x9 x10 = fun z : S4352x1024.Idx => dh2 (weightsOf x4 x5 x6 x7 x8 x9 x10) (packedIn x0 x1 x2 x3 (z 0)) (z 1) := by
  funext z
  pointwise [val_main_v176, val_main_v175, val_main_v174, val_main_call11_v0, val_main_c_44]
  exact (dite_congr rfl (fun h => v78_at x0 x1 x2 x3 x4 x5 x6 x7 x8 x9 x10 _ _ (z 1)) fun _ => by first | rfl | exact zero_word).trans
    (packed_at x0 x1 x2 x3 (fun r => dh2 (weightsOf x4 x5 x6 x7 x8 x9 x10) r (z 1)) (congrFun dh2_pad _) (z 0))

theorem v177_eq : val_main_v177 (F := Ideal) x0 x1 x2 x3 x4 x5 x6 x7 x8 x9 x10 = fun z : S1x1.Idx => (∑ b : Fin 2, ∑ s : Fin 2064, sqErr (weightsOf x4 x5 x6 x7 x8 x9 x10) (rowOf x0 x1 x2 x3 b s)) * lossScale := by
  funext z
  pointwise [val_main_v177, val_main_v69, val_main_v68, val_main_v67, val_main_v66, val_main_v65, val_main_v64, val_main_cst_16, val_main_cst_15, val_main_cst_14, val_main_cst_13]
  simp only [v63_at x0 x1 x2 x3 x4 x5 x6 x7 x8 x9 x10, div_1024, sum_sqErr]
  refine (congrArg (_ * ·) (Finset.sum_congr rfl fun b _ => sum_scaled c1024 (fun s : Fin 2048 => sqErr (weightsOf x4 x5 x6 x7 x8 x9 x10) (rowOf x0 x1 x2 x3 b ⟨16 + s, by omega⟩))
    fun s => sqErr_nonneg _ _)).trans ?_
  rw [sum_scaled c1024 (fun b : Fin 2 => ∑ s : Fin 2048, sqErr (weightsOf x4 x5 x6 x7 x8 x9 x10) (rowOf x0 x1 x2 x3 b ⟨16 + s, by omega⟩))
    fun b => Finset.sum_nonneg fun s _ => sqErr_nonneg _ _, mul_comm, mul_assoc]
  refine congrArg (_ * ·) ?_
  rw [c1024_real, half_real, lossScale_real, ← EReal.coe_mul]
  norm_num

theorem v178_eq : val_main_v178 (F := Ideal) x0 x1 x2 x3 x4 x5 x6 x7 x8 x9 x10 = fun z : S1x512.Idx => ∑ b : Fin 2, ∑ s : Fin 2064, gaTerm (weightsOf x4 x5 x6 x7 x8 x9 x10) (rowOf x0 x1 x2 x3 b s) (z 1) := by
  have e : ∀ j : Fin 512, val_main_v131 (F := Ideal) x0 x1 x2 x3 x4 x5 x6 x7 x8 x9 x10 (ix1 j) = ∑ b : Fin 2, ∑ s : Fin 2064, gaTerm (weightsOf x4 x5 x6 x7 x8 x9 x10) (rowOf x0 x1 x2 x3 b s) j := by
    intro j
    pointwise [val_main_v131, val_main_cst_31]
    rw [sum_first_two, zero_add]
    simp only [v130_at x0 x1 x2 x3 x4 x5 x6 x7 x8 x9 x10]
  funext z
  pointwise [val_main_v178, val_main_v135, val_main_v132, val_main_cst_32]
  refine (sum_first_two _ _ _ (z 1)).trans ?_
  pointwise [val_main_v132]
  simp only [Fin.sum_univ_one, zero_add]
  exact e (z 1)

theorem v179_eq : val_main_v179 (F := Ideal) x0 x1 x2 x3 x4 x5 x6 x7 x8 x9 x10 = fun z : S1x512.Idx => ∑ b : Fin 2, ∑ s : Fin 2064, grTerm (weightsOf x4 x5 x6 x7 x8 x9 x10) (rowOf x0 x1 x2 x3 b s) (z 1) := by
  have e : ∀ j : Fin 512, val_main_v111 (F := Ideal) x0 x1 x2 x3 x4 x5 x6 x7 x8 x9 x10 (ix1 j) = ∑ b : Fin 2, ∑ s : Fin 2064, grTerm (weightsOf x4 x5 x6 x7 x8 x9 x10) (rowOf x0 x1 x2 x3 b s) j := by
    intro j
    pointwise [val_main_v111, val_main_cst_26]
    rw [sum_first_two, zero_add]
    simp only [v110_at x0 x1 x2 x3 x4 x5 x6 x7 x8 x9 x10]
  funext z
  pointwise [val_main_v179, val_main_v115, val_main_v112, val_main_cst_27]
  refine (sum_first_two _ _ _ (z 1)).trans ?_
  pointwise [val_main_v112]
  simp only [Fin.sum_univ_one, zero_add]
  exact e (z 1)

theorem v180_eq : val_main_v180 (F := Ideal) x0 x1 x2 x3 x4 x5 x6 x7 x8 x9 x10 = fun z : S1x1024.Idx => ∑ b : Fin 2, ∑ s : Fin 2064, lnTerm (weightsOf x4 x5 x6 x7 x8 x9 x10) (rowOf x0 x1 x2 x3 b s) (z 1) := by
  have e : ∀ j : Fin 1024, val_main_v87 (F := Ideal) x0 x1 x2 x3 x4 x5 x6 x7 x8 x9 x10 (ix1 j) = ∑ b : Fin 2, ∑ s : Fin 2064, lnTerm (weightsOf x4 x5 x6 x7 x8 x9 x10) (rowOf x0 x1 x2 x3 b s) j := by
    intro j
    pointwise [val_main_v87, val_main_cst_21]
    rw [sum_first_two, zero_add]
    simp only [v86_at x0 x1 x2 x3 x4 x5 x6 x7 x8 x9 x10]
  funext z
  pointwise [val_main_v180, val_main_v91, val_main_v88, val_main_cst_22]
  refine (sum_first_two _ _ _ (z 1)).trans ?_
  pointwise [val_main_v88]
  simp only [Fin.sum_univ_one, zero_add]
  exact e (z 1)

end Cert.Reference2Ideal.Value

end
-- ==== Proof.MixAgree.lean ====
/- The feed-forward kernel's arrays are the reference's. -/
module

public import proofs.«01_k».proof.Proof.MixSums
public import proofs.«01_k».proof.Proof.MixRefArrays

@[expose] public section

set_option maxRecDepth 16384

noncomputable section

open Idealize.ShloMosaic Idealize.ShloMosaic.TcCoe Idealize.SL.Sem

namespace Cert.Kernel2Ideal.Value
open Cert.Kernel2Ideal Cert.Kernel2Ideal.Gen

open Cert.Reference2Ideal.Read
open Cert.Reference2Ideal.Value

variable (m : (ℓ : Loc nD τ sig) → Buf (Elt Ideal) ℓ) (c : Dev nD)
  {x0 : FVec Ideal S2x2064x1024 .f32} {x1 x2 : FVec Ideal S2x2064x512 .f32} {x3 : FVec Ideal S2x2048x1024 .f32}
  {x4 x5 : FVec Ideal S512 .f32} {x6 : FVec Ideal S1024x1024 .f32} {x7 : FVec Ideal S1024 .f32} {x8 x9 : FVec Ideal S1024x2816 .f32}
  {x10 : FVec Ideal S2816x1024 .f32}
  (e0 : x0 = arg m c main_arg0) (e1 : x1 = arg m c main_arg1) (e2 : x2 = arg m c main_arg2) (e3 : x3 = arg m c main_arg3) (e4 : x4 = arg m c main_arg4) (e5 : x5 = arg m c main_arg5)
  (e6 : x6 = arg m c main_arg6) (e7 : x7 = arg m c main_arg7) (e8 : x8 = arg m c main_arg8) (e9 : x9 = arg m c main_arg9) (e10 : x10 = arg m c main_arg10)

include e0 e1 e2 e3 e4 e5 e6 e7 e8 e9 e10

theorem same11 : val_main_v151 (F := Ideal) x0 x1 x2 x3 x4 x5 x6 x7 x8 x9 x10 = (dats m 0 c).arrAt 11 cfg0.N := by
  subst e0 e1 e2 e3 e4 e5 e6 e7 e8 e9 e10
  exact (v151_eq ..).trans (arr11 m c).symm
theorem same12 : val_main_v153 (F := Ideal) x0 x1 x2 x3 x4 x5 x6 x7 x8 x9 x10 = (dats m 0 c).arrAt 12 cfg0.N := by
  subst e0 e1 e2 e3 e4 e5 e6 e7 e8 e9 e10
  exact (v153_eq ..).trans (arr12 m c).symm
theorem same13 : val_main_v155 (F := Ideal) x0 x1 x2 x3 x4 x5 x6 x7 x8 x9 x10 = (dats m 0 c).arrAt 13 cfg0.N := by
  subst e0 e1 e2 e3 e4 e5 e6 e7 e8 e9 e10
  exact (v155_eq ..).trans (arr13 m c).symm
theorem same14 : val_main_v158 (F := Ideal) x1 x2 x4 x5 = (dats m 0 c).arrAt 14 cfg0.N := by
  subst e0 e1 e2 e3 e4 e5 e6 e7 e8 e9 e10
  exact (v158_eq ..).trans (arr14 m c).symm
theorem same15 : val_main_v161 (F := Ideal) x0 x1 x2 x3 x4 x5 x6 x7 x8 x9 x10 = (dats m 0 c).arrAt 15 cfg0.N := by
  subst e0 e1 e2 e3 e4 e5 e6 e7 e8 e9 e10
  exact (v161_eq ..).trans (arr15 m c).symm
theorem same16 : val_main_v164 (F := Ideal) x0 x1 x2 x4 x5 x6 x7 = (dats m 0 c).arrAt 16 cfg0.N := by
  subst e0 e1 e2 e3 e4 e5 e6 e7 e8 e9 e10
  exact (v164_eq ..).trans (arr16 m c).symm
theorem same17 : val_main_v167 (F := Ideal) x0 x1 x2 x3 x4 x5 x6 x7 x8 x9 x10 = (dats m 0 c).arrAt 17 cfg0.N := by
  subst e0 e1 e2 e3 e4 e5 e6 e7 e8 e9 e10
  exact (v167_eq ..).trans (arr17 m c).symm
theorem same18 : val_main_v170 (F := Ideal) x0 x1 x2 x3 x4 x5 x6 x7 x8 x9 x10 = (dats m 0 c).arrAt 18 cfg0.N := by
  subst e0 e1 e2 e3 e4 e5 e6 e7 e8 e9 e10
  exact (v170_eq ..).trans (arr18 m c).symm
theorem same19 : val_main_v173 (F := Ideal) x0 x1 x2 x4 x5 x6 x7 x8 x9 = (dats m 0 c).arrAt 19 cfg0.N := by
  subst e0 e1 e2 e3 e4 e5 e6 e7 e8 e9 e10
  exact (v173_eq ..).trans (arr19 m c).symm
theorem same20 : val_main_v176 (F := Ideal) x0 x1 x2 x3 x4 x5 x6 x7 x8 x9 x10 = (dats m 0 c).arrAt 20 cfg0.N := by
  subst e0 e1 e2 e3 e4 e5 e6 e7 e8 e9 e10
  exact (v176_eq ..).trans (arr20 m c).symm
theorem same21 : val_main_v177 (F := Ideal) x0 x1 x2 x3 x4 x5 x6 x7 x8 x9 x10 = (dats m 0 c).arrAt 21 cfg0.N := by
  subst e0 e1 e2 e3 e4 e5 e6 e7 e8 e9 e10
  exact (v177_eq ..).trans (arr21 m c).symm
theorem same22 : val_main_v178 (F := Ideal) x0 x1 x2 x3 x4 x5 x6 x7 x8 x9 x10 = (dats m 0 c).arrAt 22 cfg0.N := by
  subst e0 e1 e2 e3 e4 e5 e6 e7 e8 e9 e10
  exact (v178_eq ..).trans (arr22 m c).symm
theorem same23 : val_main_v179 (F := Ideal) x0 x1 x2 x3 x4 x5 x6 x7 x8 x9 x10 = (dats m 0 c).arrAt 23 cfg0.N := by
  subst e0 e1 e2 e3 e4 e5 e6 e7 e8 e9 e10
  exact (v179_eq ..).trans (arr23 m c).symm
theorem same24 : val_main_v180 (F := Ideal) x0 x1 x2 x3 x4 x5 x6 x7 x8 x9 x10 = (dats m 0 c).arrAt 24 cfg0.N := by
  subst e0 e1 e2 e3 e4 e5 e6 e7 e8 e9 e10
  exact (v180_eq ..).trans (arr24 m c).symm

end Cert.Kernel2Ideal.Value

end
-- ==== Proof.Packing.lean ====
/- Rows of two sequences packed one sequence after the other, each followed by rows of padding. -/
module

public import Idealize.ShloMosaic.PureOps.Ideal

@[expose] public section

noncomputable section

open Idealize.ShloMosaic

namespace Cert.Packing

variable {ρ : Type} (row : Fin 2 → Fin 2064 → ρ) (none : ρ)

/-- A row of the packed sequences. -/
def packed (b : Fin 2) (s : Fin 2176) : ρ := if hs : (s : ℕ) < 2064 then row b ⟨s, hs⟩ else none

theorem packed_in (b : Fin 2) (s : Fin 2064) : packed row none b ⟨s, by omega⟩ = row b s := dif_pos s.2
theorem packed_out (b : Fin 2) (s : Fin 2176) (hs : ¬ (s : ℕ) < 2064) : packed row none b s = none := dif_neg hs

/-- A quantity of a packed row: a row's, or the padding's. -/
theorem packed_val {α : Type} (F : ρ → α) (b : Fin 2) (s : Fin 2176) :
    F (packed row none b s) = if hs : (s : ℕ) < 2064 then F (row b ⟨s, hs⟩) else F none := by
  unfold packed
  split <;> rfl

/-- A quantity that padding has none of, at a place of the packed array. -/
theorem packed_at (F : ρ → EReal) (h0 : F none = 0) (n : Fin 4352) :
    (if hn : (n : ℕ) / 2176 < 2 ∧ (n : ℕ) % 2176 < 2064 then F (row ⟨n / 2176, hn.1⟩ ⟨n % 2176, hn.2⟩) else 0)
      = F (packed row none ⟨n / 2176, by omega⟩ ⟨n % 2176, by omega⟩) := by
  rw [packed_val row none F]
  by_cases hs : (n : ℕ) % 2176 < 2064
  · rw [dif_pos ⟨by omega, hs⟩, dif_pos hs]
  · rw [dif_neg fun x => hs x.2, dif_neg hs, h0]

/-- Both sequences' sums, over the packed rows block by block. -/
theorem sum_packed (F : ρ → EReal) (h0 : F none = 0) :
    ∑ t : Fin 17, ∑ i : Fin 256, F (packed row none ⟨(t * 256 + i) / 2176, by omega⟩ ⟨(t * 256 + i) % 2176, by omega⟩)
      = ∑ b : Fin 2, ∑ s : Fin 2064, F (row b s) := by
  have per : ∀ b : Fin 2, ∑ s : Fin 2064, F (row b s) = ∑ s : Fin (2064 + 112), F (packed row none b s) := by
    intro b
    rw [Fin.sum_univ_add, Finset.sum_eq_zero (s := Finset.univ (α := Fin 112)), add_zero]
    · exact Finset.sum_congr rfl fun s _ => congrArg F (packed_in row none b s).symm
    · intro s _
      rw [packed_out row none b _ (by simp), h0]
  rw [Finset.sum_congr rfl fun b _ => per b, ← Fintype.sum_prod_type', ← Fintype.sum_prod_type']
  let G : Fin 4352 → EReal := fun n => F (packed row none ⟨n / 2176, by omega⟩ ⟨n % 2176, by omega⟩)
  refine Eq.trans (b := ∑ n, G n) (Fintype.sum_equiv (finProdFinEquiv (m := 17) (n := 256)) _ G fun x => ?_)
    (Fintype.sum_equiv (finProdFinEquiv (m := 2) (n := 2176)) _ G fun x => ?_).symm
  all_goals
    show _ = F _
    congr 2 <;> simp only [finProdFinEquiv, Equiv.coe_fn_mk] <;> refine Fin.ext ?_ <;> simp only [] <;> omega

end Cert.Packing

end
-- ==== Proof.InpSpec.lean ====
/- One row of the gradient of the layer's first norm and its projection: the projected columns' cotangent sent back through the
   product and the norm. -/
module

public import proofs.«01_k».proof.Proof.MixSpec
public import proofs.«01_k».proof.Proof.Packing

@[expose] public section

noncomputable section

open Idealize.ShloMosaic

namespace Cert.Inp

open Cert.Mix

/-- The norm's scales and the projection. -/
structure Weights where
  ln1 : Row 1024
  win : Fin 1024 → Row 1696

/-- What one row takes: the stream, the cotangents of the five groups of projected columns, and the stream's own. -/
structure RowIn where
  h : Row 1024
  dcq : Row 384
  dckv : Row 256
  dkr : Row 32
  dxr : Row 512
  dxg : Row 512
  dh1 : Row 1024

variable (w : Weights) (r : RowIn)

/-- The 32 rotary columns at lanes 64 to 95 of 128. -/
def krl : Row 128 := fun j => if hj : 64 ≤ (j : ℕ) ∧ (j : ℕ) - 64 < 32 then r.dkr ⟨j - 64, hj.2⟩ else 0
/-- The five groups side by side. -/
def cols : Row 1696 := fun k =>
  if h0 : (k : ℕ) < 384 then r.dcq ⟨k, h0⟩
  else if h1 : (k : ℕ) - 384 < 256 then r.dckv ⟨k - 384, h1⟩
  else if h2 : (k : ℕ) - 384 - 256 < 32 then r.dkr ⟨k - 384 - 256, h2⟩
  else if h3 : (k : ℕ) - 384 - 256 - 32 < 512 then r.dxr ⟨k - 384 - 256 - 32, h3⟩
  else r.dxg ⟨k - 384 - 256 - 32 - 512, by omega⟩
/-- The same with the rotary columns among 128 lanes. -/
def lanes : Row 1792 := fun k =>
  if h0 : (k : ℕ) < 384 then r.dcq ⟨k, h0⟩
  else if h1 : (k : ℕ) - 384 < 256 then r.dckv ⟨k - 384, h1⟩
  else if h2 : (k : ℕ) - 384 - 256 < 128 then krl r ⟨k - 384 - 256, h2⟩
  else if h3 : (k : ℕ) - 384 - 256 - 128 < 512 then r.dxr ⟨k - 384 - 256 - 128, h3⟩
  else r.dxg ⟨k - 384 - 256 - 128 - 512, by omega⟩
/-- The projection's columns among those lanes. -/
def winL (k : Fin 1792) (j : Fin 1024) : EReal :=
  if h0 : (k : ℕ) < 640 then w.win j ⟨k, by omega⟩
  else if h1 : (k : ℕ) < 704 then 0
  else if h2 : (k : ℕ) < 736 then w.win j ⟨k - 64, by omega⟩
  else if h3 : (k : ℕ) < 768 then 0
  else w.win j ⟨k - 96, by omega⟩
def hn : Row 1024 := fun j => unit c1024 r.h j * w.ln1 j
def dhn : Row 1024 := fun j => ∑ k, cols r k * w.win j k
/-- The cotangent of the stream. -/
def dh : Row 1024 := fun j => pull c1024 r.h (fun k => dhn w r k * w.ln1 k) j + r.dh1 j
/-- What the row adds to the gradient of the norm's scales. -/
def lnTerm : Row 1024 := fun j => unit c1024 r.h j * dhn w r j

/-- A row of padding. -/
def RowIn.pad : RowIn := ⟨0, 0, 0, 0, 0, 0, 0⟩

/-- The lane of a column. -/
def laneOf (k : Fin 1696) : Fin 1792 := if (k : ℕ) < 640 then ⟨k, by omega⟩ else if (k : ℕ) < 672 then ⟨k + 64, by omega⟩ else ⟨k + 96, by omega⟩

theorem laneOf_val (k : Fin 1696) : (laneOf k : ℕ)
    = if (k : ℕ) < 640 then (k : ℕ) else if (k : ℕ) < 672 then (k : ℕ) + 64 else (k : ℕ) + 96 := by
  unfold laneOf
  split_ifs <;> rfl

theorem lanes_laneOf (k : Fin 1696) : lanes r (laneOf k) = cols r k := by
  have e := laneOf_val k
  generalize laneOf k = l at e
  unfold lanes cols krl
  split_ifs at e ⊢ <;> (try dsimp only at *) <;> first | (exfalso; omega) | exact congrArg _ (Fin.ext (by first | omega | (dsimp only <;> omega)))

theorem winL_laneOf (k : Fin 1696) (j : Fin 1024) : winL w (laneOf k) j = w.win j k := by
  have e := laneOf_val k
  generalize laneOf k = l at e
  unfold winL
  split_ifs at e ⊢ <;> (try dsimp only at *) <;> first | (exfalso; omega) | exact congrArg _ (Fin.ext (by first | omega | (dsimp only <;> omega)))

theorem winL_other (l : Fin 1792) (h : ∀ k, laneOf k ≠ l) (j : Fin 1024) : winL w l j = 0 := by
  have at' : ∀ k : Fin 1696, (laneOf k : ℕ) ≠ l := fun k e => h k (Fin.ext e)
  unfold winL
  split_ifs with h0 h1 h2 h3
  · exact absurd (laneOf_val ⟨l, by omega⟩) (by rw [if_pos h0]; exact at' _)
  · rfl
  · refine absurd (laneOf_val ⟨l - 64, by omega⟩) ?_
    have := at' ⟨l - 64, by omega⟩
    split_ifs <;> (dsimp only at *; omega)
  · rfl
  · refine absurd (laneOf_val ⟨l - 96, by omega⟩) ?_
    have := at' ⟨l - 96, by omega⟩
    split_ifs <;> (dsimp only at *; omega)

/-- The product over the lanes is the product over the columns: the other lanes hold nothing. -/
theorem dhn_lanes (j : Fin 1024) : ∑ k, lanes r k * winL w k j = dhn w r j := by
  refine (Finset.sum_of_injOn laneOf (fun a _ b _ e => Fin.ext ?_) (fun _ _ => Finset.mem_coe.mpr (Finset.mem_univ _)) (fun l _ hl => ?_) fun k _ => ?_).symm
  · have ha := laneOf_val a
    have hb := laneOf_val b
    rw [e] at ha
    split_ifs at ha hb <;> omega
  · rw [winL_other w l (fun k e => hl ⟨k, Finset.mem_coe.mpr (Finset.mem_univ _), e⟩), mul_zero]
  · rw [lanes_laneOf, winL_laneOf]

/-! A row of padding sends nothing anywhere. -/

theorem krl_pad : krl .pad = 0 := by
  funext j; simp [krl, RowIn.pad]
theorem lanes_pad : lanes .pad = 0 := by
  have h : ∀ j, krl .pad j = 0 := congrFun krl_pad
  funext k
  unfold lanes
  split <;> [rfl; split <;> [rfl; split <;> [exact h _; split <;> rfl]]]
theorem cols_pad : cols .pad = 0 := by
  funext k; simp [cols, RowIn.pad]
theorem hn_pad : hn w .pad = 0 := by
  funext j; simp [hn, unit, RowIn.pad]
theorem dhn_pad : dhn w .pad = 0 := by
  funext j; simp [dhn, cols_pad]
theorem dh_pad : dh w .pad = 0 := by
  funext j
  show pull c1024 0 (fun k => dhn w .pad k * w.ln1 k) j + 0 = 0
  rw [pull_zero _ _ (by funext k; simp [dhn_pad])]
  simp
theorem lnTerm_pad : lnTerm w .pad = 0 := by funext j; simp [lnTerm, dhn_pad]

end Cert.Inp

end
-- ==== Proof.InpPay.lean ====
/- What the body of the first norm's gradient computes, element by element. -/
module

public import proofs.«01_k».proof.Proof.Gen.Kernel4Ideal.Skeleton
public import proofs.«01_k».proof.Proof.InpSpec
public import Idealize.ShloMosaic.Lib.Pointwise

@[expose] public section

set_option maxRecDepth 16384

noncomputable section

open Idealize.ShloMosaic Idealize.ShloMosaic.TcCoe Idealize.SL.Sem

namespace Cert.Kernel4Ideal.Value
open Cert.Kernel4Ideal Cert.Kernel4Ideal.Gen

open Cert.Mix (Row c1024 meanSq inv slope unit share pull)
open Cert.Inp

section
variable {v3 : FVec Ideal S256x1024 .f32} {v5 : FVec Ideal S1024 .f32} {w : Weights} {r : RowIn} {i : Fin 256}
variable (h3 : ∀ j, v3 (ix2 i j) = r.h j)
include h3

theorem pay6_at (z : Fin 1) : k0_pay6 (F := Ideal) v3 (ix2 i z) = meanSq c1024 r.h := by
  pointwise [k0_pay6, k0_pay5]
  simp only [h3]
  rfl
theorem pay7_at (z : Fin 1) : k0_pay7 (F := Ideal) v3 (ix2 i z) = inv c1024 r.h := by
  pointwise [k0_pay7]
  rw [pay6_at h3]
  rfl
theorem pay8_at (z : Fin 1) : k0_pay8 (F := Ideal) v3 (ix2 i z) = slope c1024 r.h := by
  pointwise [k0_pay8]
  rw [pay6_at h3, pay7_at h3]
  rfl
theorem pay9_at (j : Fin 1024) : k0_pay9 (F := Ideal) v3 (ix2 i j) = unit c1024 r.h j := by
  pointwise [k0_pay9, k0_pay5]
  rw [pay7_at h3, h3]
  rfl
theorem pay11_at (h5 : ∀ j, v5 (ix1 j) = w.ln1 j) (j : Fin 1024) : k0_pay11 (F := Ideal) v3 v5 (ix2 i j) = hn w r j := by
  pointwise [k0_pay11, k0_pay10]
  rw [pay9_at h3]
  exact congrArg _ (h5 j)

end

section
variable {v24 : FVec Ideal S256x384 .f32} {v26 : FVec Ideal S256x256 .f32} {v28 : FVec Ideal S256x128 .f32} {v30 v32 : FVec Ideal S256x512 .f32}
  {r : RowIn} {i : Fin 256}

theorem pay12_at (h24 : ∀ j, v24 (ix2 i j) = r.dcq j) (h26 : ∀ j, v26 (ix2 i j) = r.dckv j) (h28 : ∀ j, v28 (ix2 i j) = krl r j)
    (h30 : ∀ j, v30 (ix2 i j) = r.dxr j) (h32 : ∀ j, v32 (ix2 i j) = r.dxg j) (k : Fin 1792) :
    k0_pay12 (F := Ideal) v24 v26 v28 v30 v32 (ix2 i k) = lanes r k := by
  pointwise [k0_pay12]
  simp only [h24, h26, h28, h30, h32]
  rfl

end

section
variable {v4 v61 : FVec Ideal S256x1024 .f32} {v13 v16 : FVec Ideal S256x1 .f32} {v19 : FVec Ideal S1x1024 .f32} {v35 : FVec Ideal S256x1792 .bf16}
  {v37 : FVec Ideal S1792x1024 .bf16} {w : Weights} {r : RowIn} {i : Fin 256}
variable (h37 : ∀ k j, v37 (ix2 k j) = winL w k j)
include h37

theorem pay1_at (h35 : ∀ k, v35 (ix2 i k) = lanes r k) (j : Fin 1024) : k0_pay1 (F := Ideal) v35 v37 (ix2 i j) = dhn w r j := by
  pointwise [k0_pay1]
  simp only [h35, h37]
  exact dhn_lanes w r j

theorem pay2_at (h35 : ∀ k, v35 (ix2 i k) = lanes r k) (h4 : ∀ j, v4 (ix2 i j) = r.h j) (h13 : ∀ z, v13 (ix2 i z) = inv c1024 r.h)
    (h16 : ∀ z, v16 (ix2 i z) = slope c1024 r.h) (h19 : ∀ z j, v19 (ix2 z j) = w.ln1 j) (h61 : ∀ j, v61 (ix2 i j) = r.dh1 j) (j : Fin 1024) :
    k0_pay2 (F := Ideal) v4 v13 v16 v19 v35 v37 v61 (ix2 i j) = dh w r j := by
  pointwise [k0_pay2]
  simp only [pay1_at h37 h35, h4, h13, h16, h19, h61, Fin.sum_univ_one]
  rfl

theorem pay3_at {v18 : FVec Ideal S256x1024 .f32} {r : Fin 256 → RowIn} (h35 : ∀ i k, v35 (ix2 i k) = lanes (r i) k)
    (h18 : ∀ i j, v18 (ix2 i j) = unit c1024 (r i).h j) (acc : FVec Ideal S1x1024 .f32) (z : Fin 1) (j : Fin 1024) :
    k0_pay3 (F := Ideal) v18 v35 v37 acc (ix2 z j) = acc (ix2 z j) + ∑ i, lnTerm w (r i) j := by
  pointwise [k0_pay3]
  simp only [fun i => pay1_at h37 (h35 i), h18, Fin.sum_univ_one]
  rfl

end

theorem pay4_at (y : S1x1024.Idx) : k0_pay4 (F := Ideal) y = (0 : EReal) := by pointwise [k0_pay4]

end Cert.Kernel4Ideal.Value

end
-- ==== Proof.InpRows.lean ====
/- The rows of the first norm's gradient, read off the arrays the programs take. -/
module

public import proofs.«01_k».proof.Proof.InpSpec
public import Idealize.ShloMosaic.Lib.Pointwise

@[expose] public section

noncomputable section

open Idealize.ShloMosaic Idealize.ShloMosaic.TcCoe

namespace Cert.Inp

open Cert.Mix

/-- The weights, read off their arrays. -/
def weightsOf (ln1 : FVec Ideal ⟨1, ![1024]⟩ .f32) (win : FVec Ideal ⟨2, ![1024, 1696]⟩ .f32) : Weights where
  ln1 j := ln1 (ix1 j)
  win k j := win (ix2 k j)

/-- A row of a sequence. -/
def rowOf (h : FVec Ideal ⟨3, ![2, 2064, 1024]⟩ .f32) (dcq : FVec Ideal ⟨3, ![2, 2064, 384]⟩ .f32) (dckv : FVec Ideal ⟨3, ![2, 2064, 256]⟩ .f32)
    (dkr : FVec Ideal ⟨3, ![2, 2064, 32]⟩ .f32) (dxr dxg : FVec Ideal ⟨3, ![2, 2064, 512]⟩ .f32) (dh1 : FVec Ideal ⟨3, ![2, 2064, 1024]⟩ .f32)
    (b : Fin 2) (s : Fin 2064) : RowIn where
  h j := h (ix3 b s j)
  dcq j := dcq (ix3 b s j)
  dckv j := dckv (ix3 b s j)
  dkr j := dkr (ix3 b s j)
  dxr j := dxr (ix3 b s j)
  dxg j := dxg (ix3 b s j)
  dh1 j := dh1 (ix3 b s j)

end Cert.Inp

end
-- ==== Proof.InpHost.lean ====
/- The arrays the first norm's gradient takes, element by element: the rows padded and packed, the projection turned and spread
   over lanes. -/
module

public import proofs.«01_k».proof.Proof.InpPay
public import proofs.«01_k».proof.Proof.InpRows
public import proofs.«01_k».proof.Proof.Gen.Kernel4Ideal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel4Ideal.Value
open Cert.Kernel4Ideal Cert.Kernel4Ideal.Gen

open Cert.Mix (Row c1024 meanSq inv slope unit share pull)
open Cert.Inp Cert.Packing

variable (m : (ℓ : Loc nD τ sig) → Buf (Elt Ideal) ℓ) (c : Dev nD)

/-- The arguments of a device. -/
abbrev arg (b : Ref sig .tc) : Buf (Elt Ideal) ((c : Thread nD τ).loc b) := m ((c : Thread nD τ).loc b)

/-- The weights of a device. -/
abbrev wts : Weights := weightsOf (arg m c main_arg1) (arg m c main_arg2)
/-- A row of a device's sequence. -/
abbrev inRow (b : Fin 2) (s : Fin 2064) : RowIn := rowOf (arg m c main_arg0) (arg m c main_arg3) (arg m c main_arg4) (arg m c main_arg5)
  (arg m c main_arg6) (arg m c main_arg7) (arg m c main_arg8) b s
/-- A packed row of a device. -/
abbrev rowAt (b : Fin 2) (s : Fin 2176) : RowIn := packed (inRow m c) .pad b s

/-- The zero that fills the padding. -/
abbrev zeroF : FVec Ideal S_ .f32 := sitofp .f32 (constantI S_ 32 0#32)

theorem zero_at : FloatOps.sitofp (F := Ideal) FTy.f32 (0#32) = (0 : EReal) := by
  show (((0#32 : BitVec 32).toInt : ℝ) : EReal) = 0
  simp

abbrev pad128 (x : FVec Ideal S2x2064x128 .f32) : FVec Ideal S2x2176x128 .f32 :=
  pad S2x2176x128 ![0, 0, 0] ![0, 112, 0] ![0, 0, 0] x zeroF pads_S2x2064x128_S2x2176x128_000_01120_000 h_S_
abbrev pad256 (x : FVec Ideal S2x2064x256 .f32) : FVec Ideal S2x2176x256 .f32 :=
  pad S2x2176x256 ![0, 0, 0] ![0, 112, 0] ![0, 0, 0] x zeroF pads_S2x2064x256_S2x2176x256_000_01120_000 h_S_
abbrev pad384 (x : FVec Ideal S2x2064x384 .f32) : FVec Ideal S2x2176x384 .f32 :=
  pad S2x2176x384 ![0, 0, 0] ![0, 112, 0] ![0, 0, 0] x zeroF pads_S2x2064x384_S2x2176x384_000_01120_000 h_S_
abbrev pad512 (x : FVec Ideal S2x2064x512 .f32) : FVec Ideal S2x2176x512 .f32 :=
  pad S2x2176x512 ![0, 0, 0] ![0, 112, 0] ![0, 0, 0] x zeroF pads_S2x2064x512_S2x2176x512_000_01120_000 h_S_
abbrev pad1024 (x : FVec Ideal S2x2064x1024 .f32) : FVec Ideal S2x2176x1024 .f32 :=
  pad S2x2176x1024 ![0, 0, 0] ![0, 112, 0] ![0, 0, 0] x zeroF pads_S2x2064x1024_S2x2176x1024_000_01120_000 h_S_
abbrev padKr (x : FVec Ideal S2x2064x32 .f32) : FVec Ideal S2x2064x128 .f32 :=
  pad S2x2064x128 ![0, 0, 64] ![0, 0, 32] ![0, 0, 0] x zeroF pads_S2x2064x32_S2x2064x128_000_000_64320 h_S_

theorem entry_v9 : V m c main_v9 = (shapeCast S4352x384 (pad384 (arg m c main_arg3)) shapeCasts_S2x2176x384_S4352x384 : FVec Ideal S4352x384 .f32) := by
  entry_read
  rfl
theorem entry_v11 : V m c main_v11 = (shapeCast S4352x256 (pad256 (arg m c main_arg4)) shapeCasts_S2x2176x256_S4352x256 : FVec Ideal S4352x256 .f32) := by
  entry_read
  rfl
theorem entry_v14 : V m c main_v14 = (shapeCast S4352x128 (pad128 (padKr (arg m c main_arg5))) shapeCasts_S2x2176x128_S4352x128 : FVec Ideal S4352x128 .f32) := by
  entry_read
  rfl
theorem entry_v16 : V m c main_v16 = (shapeCast S4352x512 (pad512 (arg m c main_arg6)) shapeCasts_S2x2176x512_S4352x512 : FVec Ideal S4352x512 .f32) := by
  entry_read
  rfl
theorem entry_v18 : V m c main_v18 = (shapeCast S4352x512 (pad512 (arg m c main_arg7)) shapeCasts_S2x2176x512_S4352x512 : FVec Ideal S4352x512 .f32) := by
  entry_read
  rfl
theorem entry_v20 : V m c main_v20 = (shapeCast S4352x1024 (pad1024 (arg m c main_arg8)) shapeCasts_S2x2176x1024_S4352x1024 : FVec Ideal S4352x1024 .f32) := by
  entry_read
  rfl
theorem entry_v22 : V m c main_v22 = (shapeCast S4352x1024 (pad1024 (arg m c main_arg0)) shapeCasts_S2x2176x1024_S4352x1024 : FVec Ideal S4352x1024 .f32) := by
  entry_read
  rfl

section
variable (b : Fin 2) (s : Fin 2176)

theorem row_dcq (j : S4352x384.Idx) (l : Fin 384) (h0 : (j 0 : ℕ) = b * 2176 + s) (h1 : (j 1 : ℕ) = l) :
    V m c main_v9 j = RowIn.dcq (rowAt m c b s) l := by
  have e0 : (j 0 : ℕ) / 2176 = b := by omega
  have e1 : (j 0 : ℕ) % 2176 = s := by omega
  have e2 : j 1 = l := Fin.ext h1
  rw [entry_v9, packed_val _ _ fun r => RowIn.dcq r l]
  pointwise [pad384]
  simp only [e0, e1, e2, zero_at, b.2, l.2, true_and, and_true]
  rfl

theorem row_dckv (j : S4352x256.Idx) (l : Fin 256) (h0 : (j 0 : ℕ) = b * 2176 + s) (h1 : (j 1 : ℕ) = l) :
    V m c main_v11 j = RowIn.dckv (rowAt m c b s) l := by
  have e0 : (j 0 : ℕ) / 2176 = b := by omega
  have e1 : (j 0 : ℕ) % 2176 = s := by omega
  have e2 : j 1 = l := Fin.ext h1
  rw [entry_v11, packed_val _ _ fun r => RowIn.dckv r l]
  pointwise [pad256]
  simp only [e0, e1, e2, zero_at, b.2, l.2, true_and, and_true]
  rfl

theorem row_krl (j : S4352x128.Idx) (l : Fin 128) (h0 : (j 0 : ℕ) = b * 2176 + s) (h1 : (j 1 : ℕ) = l) :
    V m c main_v14 j = krl (rowAt m c b s) l := by
  have e0 : (j 0 : ℕ) / 2176 = b := by omega
  have e1 : (j 0 : ℕ) % 2176 = s := by omega
  have e2 : j 1 = l := Fin.ext h1
  rw [entry_v14, packed_val _ _ fun r => krl r l]
  pointwise [pad128, padKr]
  simp only [e0, e1, e2, zero_at, b.2, l.2, true_and, and_true, congrFun krl_pad l]
  refine dite_congr rfl (fun h => ?_) fun _ => rfl
  have h' : (s : ℕ) < 2064 := h
  simp only [h', true_and]
  rfl

theorem row_dxr (j : S4352x512.Idx) (l : Fin 512) (h0 : (j 0 : ℕ) = b * 2176 + s) (h1 : (j 1 : ℕ) = l) :
    V m c main_v16 j = RowIn.dxr (rowAt m c b s) l := by
  have e0 : (j 0 : ℕ) / 2176 = b := by omega
  have e1 : (j 0 : ℕ) % 2176 = s := by omega
  have e2 : j 1 = l := Fin.ext h1
  rw [entry_v16, packed_val _ _ fun r => RowIn.dxr r l]
  pointwise [pad512]
  simp only [e0, e1, e2, zero_at, b.2, l.2, true_and, and_true]
  rfl

theorem row_dxg (j : S4352x512.Idx) (l : Fin 512) (h0 : (j 0 : ℕ) = b * 2176 + s) (h1 : (j 1 : ℕ) = l) :
    V m c main_v18 j = RowIn.dxg (rowAt m c b s) l := by
  have e0 : (j 0 : ℕ) / 2176 = b := by omega
  have e1 : (j 0 : ℕ) % 2176 = s := by omega
  have e2 : j 1 = l := Fin.ext h1
  rw [entry_v18, packed_val _ _ fun r => RowIn.dxg r l]
  pointwise [pad512]
  simp only [e0, e1, e2, zero_at, b.2, l.2, true_and, and_true]
  rfl

theorem row_dh1 (j : S4352x1024.Idx) (l : Fin 1024) (h0 : (j 0 : ℕ) = b * 2176 + s) (h1 : (j 1 : ℕ) = l) :
    V m c main_v20 j = RowIn.dh1 (rowAt m c b s) l := by
  have e0 : (j 0 : ℕ) / 2176 = b := by omega
  have e1 : (j 0 : ℕ) % 2176 = s := by omega
  have e2 : j 1 = l := Fin.ext h1
  rw [entry_v20, packed_val _ _ fun r => RowIn.dh1 r l]
  pointwise [pad1024]
  simp only [e0, e1, e2, zero_at, b.2, l.2, true_and, and_true]
  rfl

theorem row_h (j : S4352x1024.Idx) (l : Fin 1024) (h0 : (j 0 : ℕ) = b * 2176 + s) (h1 : (j 1 : ℕ) = l) :
    V m c main_v22 j = RowIn.h (rowAt m c b s) l := by
  have e0 : (j 0 : ℕ) / 2176 = b := by omega
  have e1 : (j 0 : ℕ) % 2176 = s := by omega
  have e2 : j 1 = l := Fin.ext h1
  rw [entry_v22, packed_val _ _ fun r => RowIn.h r l]
  pointwise [pad1024]
  simp only [e0, e1, e2, zero_at, b.2, l.2, true_and, and_true]
  rfl

end

end Cert.Kernel4Ideal.Value

end
-- ==== Proof.InpWin.lean ====
/- The arrays the first norm's gradient takes, element by element: the rows padded and packed, the projection turned and spread
   over lanes. -/
module

public import proofs.«01_k».proof.Proof.InpHost
public import proofs.«01_k».proof.Proof.InpRows
public import proofs.«01_k».proof.Proof.Gen.Kernel4Ideal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel4Ideal.Value
open Cert.Kernel4Ideal Cert.Kernel4Ideal.Gen

open Cert.Mix (Row c1024 meanSq inv slope unit share pull)
open Cert.Inp Cert.Packing

variable (m : (ℓ : Loc nD τ sig) → Buf (Elt Ideal) ℓ) (c : Dev nD)

/-- The projection, turned, with rows of nothing around the rotary columns. -/
abbrev winT : FVec Ideal S1696x1024 .f32 := transpose S1696x1024 [1, 0] (arg m c main_arg2 : FVec Ideal S1024x1696 .f32) transposes_S1024x1696_S1696x1024_1_0

theorem weight_win (k : Fin 1792) (j : Fin 1024) : V m c main_v7 (ix2 k j) = winL (wts m c) k j := by
  have e : V m c main_v7 = (truncf .bf16 (concatenate S1792x1024 0
      [⟨S640x1024, extractStridedSlice S640x1024 ![0, 0] (winT m c) slices_S1696x1024_S640x1024_0_0⟩,
       ⟨S64x1024, broadcastInDim S64x1024 ![] bcast_S_S64x1024 (constant S_ .f32 0x00000000#32 : FVec Ideal S_ .f32)⟩,
       ⟨S32x1024, extractStridedSlice S32x1024 ![640, 0] (winT m c) slices_S1696x1024_S32x1024_640_0⟩,
       ⟨S32x1024, broadcastInDim S32x1024 ![] bcast_S_S32x1024 (constant S_ .f32 0x00000000#32 : FVec Ideal S_ .f32)⟩,
       ⟨S1024x1024, extractStridedSlice S1024x1024 ![672, 0] (winT m c) slices_S1696x1024_S1024x1024_672_0⟩] concatenates_S640x1024_S64x1024_S32x1024_S32x1024_S1024x1024_S1792x1024_d0) bitsLt_bf16_f32 : FVec Ideal S1792x1024 .bf16) := by
    entry_read
    rfl
  rw [e]
  pointwise [winT]
  unfold winL
  by_cases h0 : (k : ℕ) < 640
  · rw [dif_pos h0, dif_pos h0]
    rfl
  rw [dif_neg h0, dif_neg h0]
  by_cases h1 : (k : ℕ) < 704
  · rw [dif_pos (by omega), dif_pos h1]
  rw [dif_neg (by omega), dif_neg h1]
  by_cases h2 : (k : ℕ) < 736
  · rw [dif_pos (by omega), dif_pos h2]
    exact congrArg (arg m c main_arg2) (congrArg (ix2 j) (Fin.ext (by dsimp only; omega)))
  rw [dif_neg (by omega), dif_neg h2]
  by_cases h3 : (k : ℕ) < 768
  · rw [dif_pos (by omega), dif_pos h3]
  rw [dif_neg (by omega), dif_neg h3]
  exact congrArg (arg m c main_arg2) (congrArg (ix2 j) (Fin.ext (by dsimp only; omega)))

end Cert.Kernel4Ideal.Value

end
-- ==== Proof.InpBlocks.lean ====
/- The blocks the first norm's gradient reads at a grid point, and what its body computes of them. -/
module

public import proofs.«01_k».proof.Proof.InpWin

@[expose] public section

set_option maxRecDepth 16384

noncomputable section

open Idealize.ShloMosaic Idealize.ShloMosaic.TcCoe Idealize.SL.Sem

namespace Cert.Kernel4Ideal.Value
open Cert.Kernel4Ideal Cert.Kernel4Ideal.Gen

open Cert.Mix (Row c1024 meanSq inv slope unit share pull)
open Cert.Inp Cert.Packing

theorem idx_rows : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

theorem idx_weights : ∀ t : Fin cfg0.N, win0_7.index t = ![0]
    ∧ win0_8.index t = ![0, 0] :=
  (by decide +kernel : ∀ t : Fin grid0.N, _)

/-- The sequence of a row of a grid point's block. -/
def seqAt (t : Fin 17) (i : Fin 256) : Fin 2 := ⟨(t * 256 + i) / 2176, by omega⟩
/-- Its place in the sequence. -/
def posAt (t : Fin 17) (i : Fin 256) : Fin 2176 := ⟨(t * 256 + i) % 2176, by omega⟩

section
variable (m : (ℓ : Loc nD τ sig) → Buf (Elt Ideal) ℓ) (c : Dev nD)

/-- A row of a grid point's block. -/
abbrev blockRow (t : Fin 17) (i : Fin 256) : RowIn := rowAt m c (seqAt t i) (posAt t i)

variable (t : Fin cfg0.N)

theorem blk_dcq (i : Fin 256) (j : Fin 384) : iblk m c 0 t (ix2 i j) = (blockRow m c t i).dcq j := by
  blk_simp [iblk]
  refine row_dcq m c (seqAt t i) (posAt t i) _ j ?_ ?_
  · blk_simp [idx_rows t]
    simp only [seqAt, posAt]
    omega
  · blk_simp [idx_rows t]

theorem blk_dckv (i : Fin 256) (j : Fin 256) : iblk m c 1 t (ix2 i j) = (blockRow m c t i).dckv j := by
  blk_simp [iblk]
  refine row_dckv m c (seqAt t i) (posAt t i) _ j ?_ ?_
  · blk_simp [idx_rows t]
    simp only [seqAt, posAt]
    omega
  · blk_simp [idx_rows t]

theorem blk_krl (i : Fin 256) (j : Fin 128) : iblk m c 2 t (ix2 i j) = krl (blockRow m c t i) j := by
  blk_simp [iblk]
  refine row_krl m c (seqAt t i) (posAt t i) _ j ?_ ?_
  · blk_simp [idx_rows t]
    simp only [seqAt, posAt]
    omega
  · blk_simp [idx_rows t]

theorem blk_dxr (i : Fin 256) (j : Fin 512) : iblk m c 3 t (ix2 i j) = (blockRow m c t i).dxr j := by
  blk_simp [iblk]
  refine row_dxr m c (seqAt t i) (posAt t i) _ j ?_ ?_
  · blk_simp [idx_rows t]
    simp only [seqAt, posAt]
    omega
  · blk_simp [idx_rows t]

theorem blk_dxg (i : Fin 256) (j : Fin 512) : iblk m c 4 t (ix2 i j) = (blockRow m c t i).dxg j := by
  blk_simp [iblk]
  refine row_dxg m c (seqAt t i) (posAt t i) _ j ?_ ?_
  · blk_simp [idx_rows t]
    simp only [seqAt, posAt]
    omega
  · blk_simp [idx_rows t]

theorem blk_dh1 (i : Fin 256) (j : Fin 1024) : iblk m c 5 t (ix2 i j) = (blockRow m c t i).dh1 j := by
  blk_simp [iblk]
  refine row_dh1 m c (seqAt t i) (posAt t i) _ j ?_ ?_
  · blk_simp [idx_rows t]
    simp only [seqAt, posAt]
    omega
  · blk_simp [idx_rows t]

theorem blk_h (i : Fin 256) (j : Fin 1024) : iblk m c 6 t (ix2 i j) = (blockRow m c t i).h j := by
  blk_simp [iblk]
  refine row_h m c (seqAt t i) (posAt t i) _ j ?_ ?_
  · blk_simp [idx_rows t]
    simp only [seqAt, posAt]
    omega
  · blk_simp [idx_rows t]

theorem blk_ln1 (j : Fin 1024) : iblk m c 7 t (ix1 j) = (wts m c).ln1 j := by
  blk_simp [iblk]
  refine (congrFun (V_main_arg1 m c) _).trans ?_
  refine congrArg (arg m c main_arg1) ?_
  funext a
  match a with
  | ⟨0, _⟩ => exact Fin.ext (by blk_simp [idx_weights t])

theorem blk_win (k : Fin 1792) (j : Fin 1024) : iblk m c 8 t (ix2 k j) = winL (wts m c) k j := by
  blk_simp [iblk]
  refine Eq.trans (congrArg (V m c _) ?_) (weight_win m c k j)
  funext a
  match a with
  | ⟨0, _⟩ => exact Fin.ext (by blk_simp [idx_weights t])
  | ⟨1, _⟩ => exact Fin.ext (by blk_simp [idx_weights t])

/-! The body's values at a grid point. -/

abbrev pLanes : FVec Ideal S256x1792 .bf16 := k0_pay12 (iblk m c 0 t) (iblk m c 1 t) (iblk m c 2 t) (iblk m c 3 t) (iblk m c 4 t)
abbrev pOut : FVec Ideal S256x1024 .f32 :=
  k0_pay2 (k0_pay5 (iblk m c 6 t)) (k0_pay7 (iblk m c 6 t)) (k0_pay8 (iblk m c 6 t)) (k0_pay10 (iblk m c 7 t)) (pLanes m c t) (iblk m c 8 t) (iblk m c 5 t)

theorem pLanes_at (i : Fin 256) (k : Fin 1792) : pLanes m c t (ix2 i k) = lanes (blockRow m c t i) k :=
  pay12_at (blk_dcq m c t i) (blk_dckv m c t i) (blk_krl m c t i) (blk_dxr m c t i) (blk_dxg m c t i) k

theorem pHn_at (i : Fin 256) (j : Fin 1024) : k0_pay11 (F := Ideal) (iblk m c 6 t) (iblk m c 7 t) (ix2 i j) = hn (wts m c) (blockRow m c t i) j :=
  pay11_at (blk_h m c t i) (blk_ln1 m c t) j

theorem pay10_at {v5 : FVec Ideal S1024 .f32} (z : Fin 1) (j : Fin 1024) : k0_pay10 (F := Ideal) v5 (ix2 z j) = v5 (ix1 j) := by
  pointwise [k0_pay10]

theorem pay5_at {v3 : FVec Ideal S256x1024 .f32} (i : Fin 256) (j : Fin 1024) : k0_pay5 (F := Ideal) v3 (ix2 i j) = v3 (ix2 i j) := by
  pointwise [k0_pay5]

theorem pOut_at (i : Fin 256) (j : Fin 1024) : pOut m c t (ix2 i j) = dh (wts m c) (blockRow m c t i) j :=
  pay2_at (blk_win m c t) (pLanes_at m c t i) (fun j => (pay5_at i j).trans (blk_h m c t i j)) (pay7_at (blk_h m c t i)) (pay8_at (blk_h m c t i))
    (fun z j => (pay10_at z j).trans (blk_ln1 m c t j)) (blk_dh1 m c t i) j

theorem pLn_at (acc : FVec Ideal S1x1024 .f32) (z : Fin 1) (j : Fin 1024) :
    k0_pay3 (F := Ideal) (k0_pay9 (iblk m c 6 t)) (pLanes m c t) (iblk m c 8 t) acc (ix2 z j)
      = acc (ix2 z j) + ∑ i, lnTerm (wts m c) (blockRow m c t i) j :=
  pay3_at (blk_win m c t) (pLanes_at m c t) (fun i => pay9_at (blk_h m c t i)) acc z j

end

end Cert.Kernel4Ideal.Value

end
-- ==== Proof.InpArrays.lean ====
/- What the first norm's gradient leaves: its four arrays, by the row functions of the packed rows. -/
module

public import proofs.«01_k».proof.Proof.InpBlocks
public import proofs.«01_k».proof.Proof.Gen.Kernel4Ideal.Value

@[expose] public section

set_option maxRecDepth 16384

noncomputable section

open Idealize.ShloMosaic Idealize.ShloMosaic.TcCoe Idealize.SL.Sem

namespace Cert.Kernel4Ideal.Value
open Cert.Kernel4Ideal Cert.Kernel4Ideal.Gen

open Cert.Mix (Row c1024 meanSq inv slope unit share pull)
open Cert.Inp Cert.Packing

theorem idx_outs : ∀ t : Fin cfg0.N, win0_9.index t = ![t.val, 0]
    ∧ win0_10.index t = ![t.val, 0]
    ∧ win0_11.index t = ![t.val, 0] :=
  (by decide +kernel : ∀ t : Fin grid0.N, _)

theorem idx_sums : ∀ t : Fin cfg0.N, win0_12.index t = ![0, 0] :=
  (by decide +kernel : ∀ t : Fin grid0.N, _)

section
variable (m : (ℓ : Loc nD τ sig) → Buf (Elt Ideal) ℓ) (c : Dev nD)

/-- A packed row, by its place in the packed array. -/
abbrev packedRow (n : Fin 4352) : RowIn := rowAt m c ⟨n / 2176, by omega⟩ ⟨n % 2176, by omega⟩

theorem packed_place (t : Fin 17) (i : Fin 256) (n : Fin 4352) (h : (n : ℕ) = t * 256 + i) : blockRow m c t i = packedRow m c n := by
  show rowAt m c _ _ = rowAt m c _ _
  congr 1 <;> refine Fin.ext ?_ <;> simp only [seqAt, posAt] <;> omega

theorem block9 (t : Fin cfg0.N) (y : S256x1024.Idx) : (outsAt0 m c t.val t.isLt).1 y = dh (wts m c) (blockRow m c t (y 0)) (y 1) := by
  by_cases h : t.val % 17 = 0
  · rw [outsAt0_A _ c t h]
    frame_out
    idx_vars y
    exact pOut_at m c t y0 y1
  · rw [outsAt0_B _ c t h]
    frame_out
    idx_vars y
    exact pOut_at m c t y0 y1

theorem arr9 : (dats m 0 c).arrAt 9 cfg0.N = fun j : S4352x1024.Idx => dh (wts m c) (packedRow m c (j 0)) (j 1) := by
  refine (dats m 0 c).arrAt_eq_of_covers 9 _ (by decide +kernel) fun t hf y => ?_
  blk_simp
  rw [after0_9]
  idx_vars y
  have i0 : win0_9.index t 0 = t.val := by rw [(idx_outs t).1]; rfl
  have i1 : win0_9.index t 1 = 0 := by rw [(idx_outs t).1]; rfl
  refine (block9 m c t (ix2 y0 y1)).trans ?_
  refine congrArg₂ (fun r j => dh (wts m c) r j) (packed_place m c t y0 _ ?_) (Fin.ext ?_)
  · simp [i0]
  · simp [i1]

theorem block10 (t : Fin cfg0.N) (y : S256x1792.Idx) : (outsAt0 m c t.val t.isLt).2.1 y = lanes (blockRow m c t (y 0)) (y 1) := by
  by_cases h : t.val % 17 = 0
  · rw [outsAt0_A _ c t h]
    frame_out
    idx_vars y
    exact pLanes_at m c t y0 y1
  · rw [outsAt0_B _ c t h]
    frame_out
    idx_vars y
    exact pLanes_at m c t y0 y1

theorem arr10 : (dats m 0 c).arrAt 10 cfg0.N = fun j : S4352x1792.Idx => lanes (packedRow m c (j 0)) (j 1) := by
  refine (dats m 0 c).arrAt_eq_of_covers 10 _ (by decide +kernel) fun t hf y => ?_
  blk_simp
  rw [after0_10]
  idx_vars y
  have i0 : win0_10.index t 0 = t.val := by rw [(idx_outs t).2.1]; rfl
  have i1 : win0_10.index t 1 = 0 := by rw [(idx_outs t).2.1]; rfl
  refine (block10 m c t (ix2 y0 y1)).trans ?_
  refine congrArg₂ (fun r j => lanes r j) (packed_place m c t y0 _ ?_) (Fin.ext ?_)
  · simp [i0]
  · simp [i1]

theorem block11 (t : Fin cfg0.N) (y : S256x1024.Idx) : (outsAt0 m c t.val t.isLt).2.2.1 y = hn (wts m c) (blockRow m c t (y 0)) (y 1) := by
  by_cases h : t.val % 17 = 0
  · rw [outsAt0_A _ c t h]
    frame_out
    idx_vars y
    exact pHn_at m c t y0 y1
  · rw [outsAt0_B _ c t h]
    frame_out
    idx_vars y
    exact pHn_at m c t y0 y1

theorem arr11 : (dats m 0 c).arrAt 11 cfg0.N = fun j : S4352x1024.Idx => hn (wts m c) (packedRow m c (j 0)) (j 1) := by
  refine (dats m 0 c).arrAt_eq_of_covers 11 _ (by decide +kernel) fun t hf y => ?_
  blk_simp
  rw [after0_11]
  idx_vars y
  have i0 : win0_11.index t 0 = t.val := by rw [(idx_outs t).2.2]; rfl
  have i1 : win0_11.index t 1 = 0 := by rw [(idx_outs t).2.2]; rfl
  refine (block11 m c t (ix2 y0 y1)).trans ?_
  refine congrArg₂ (fun r j => hn (wts m c) r j) (packed_place m c t y0 _ ?_) (Fin.ext ?_)
  · simp [i0]
  · simp [i1]

theorem sum12 (t : Fin cfg0.N) (h : t.val % 17 = 16) (y : S1x1024.Idx) : (outsAt0 m c t.val t.isLt).2.2.2 y
    = ∑ s : Fin 17, (fun (t : Fin 17) (y : S1x1024.Idx) => ∑ i, lnTerm (wts m c) (blockRow m c t i) (y 1)) s y := by
  have ht : t.val / 17 = 0 := by have : t.val < 17 := t.2; omega
  rw [Pipeline.eq_sum_fin_of_reset_step_apply_of_flush (fun n h => (outsAt0 m c n h).2.2.2) 17 (fun _ => 0)
    (fun (t : Fin cfg0.N) (y : S1x1024.Idx) => ∑ i, lnTerm (wts m c) (blockRow m c t i) (y 1))
    (fun t h j => by
      rw [outsAt0_A _ c t h]
      frame_out
      idx_vars j
      exact (pLn_at m c t _ j0 j1).trans (congrArg (· + _) (pay4_at _)))
    (fun t h j => by
      rw [outsAt0_B _ c t h]
      frame_out
      idx_vars j
      exact pLn_at m c t _ j0 j1) t h _]
  refine (zero_add _).trans (Finset.sum_congr rfl fun s _ => ?_)
  exact congrArg (fun t : Fin 17 => ∑ i, lnTerm (wts m c) (blockRow m c t i) (y 1)) (Fin.ext (by simp only [ht]; omega))

theorem arr12 : (dats m 0 c).arrAt 12 cfg0.N = fun j : S1x1024.Idx => ∑ b : Fin 2, ∑ s : Fin 2064, lnTerm (wts m c) (inRow m c b s) (j 1) := by
  refine (dats m 0 c).arrAt_eq_of_covers 12 _ (by decide +kernel) fun t hf y => ?_
  blk_simp
  rw [after0_12]
  idx_vars y
  have i1 : win0_12.index t 1 = 0 := by rw [(idx_sums t)]; rfl
  refine (sum12 m c t ((flush0_12 t).mp hf) (ix2 y0 y1)).trans ?_
  refine (sum_packed (inRow m c) .pad (fun r => lnTerm (wts m c) r y1) (congrFun (lnTerm_pad (wts m c)) y1)).trans ?_
  exact congrArg (fun j => ∑ b : Fin 2, ∑ s : Fin 2064, lnTerm (wts m c) (inRow m c b s) j) (Fin.ext (by simp [i1]))

end

end Cert.Kernel4Ideal.Value

end
-- ==== Proof.InpRef.lean ====
/- The reference's gradient of the first norm and its projection, row by row, and its results. -/
module

public import proofs.«01_k».proof.Proof.Gen.Reference4Ideal.Read
public import proofs.«01_k».proof.Proof.MixScale
public import proofs.«01_k».proof.Proof.InpRows

@[expose] public section

set_option maxRecDepth 16384

noncomputable section

open Idealize.ShloMosaic Idealize.ShloMosaic.TcCoe Idealize.SL.Sem

namespace Cert.Reference4Ideal.Value
open Cert.Reference4Ideal Cert.Reference4Ideal.Gen Cert.Reference4Ideal.Read

open Cert.Mix (Row c1024 meanSq inv slope unit share pull div_1024 zero_word sum_first_two)
open Cert.Inp Cert.Packing

variable (x0 : FVec Ideal S2x2064x1024 .f32) (x1 : FVec Ideal S1024 .f32) (x2 : FVec Ideal S1024x1696 .f32) (x3 : FVec Ideal S2x2064x384 .f32)
  (x4 : FVec Ideal S2x2064x256 .f32) (x5 : FVec Ideal S2x2064x32 .f32) (x6 x7 : FVec Ideal S2x2064x512 .f32) (x8 : FVec Ideal S2x2064x1024 .f32)

section
variable (b : Fin 2) (s : Fin 2064)

include x0 x1 x2 x3 x4 x5 x6 x7 x8

theorem v6_at (z : Fin 1) : val_main_v6 (F := Ideal) x0 (ix3 b s z) = meanSq c1024 (rowOf x0 x3 x4 x5 x6 x7 x8 b s).h := by
  pointwise [val_main_v6, val_main_v5, val_main_v4, val_main_v3, val_main_v2, val_main_v1, val_main_v0, val_main_cst, val_main_cst_0, val_main_cst_1]
  rw [div_1024]
  rfl

theorem v7_at (z : Fin 1) : val_main_v7 (F := Ideal) x0 (ix3 b s z) = inv c1024 (rowOf x0 x3 x4 x5 x6 x7 x8 b s).h := by
  pointwise [val_main_v7]
  rw [v6_at x0 x1 x2 x3 x4 x5 x6 x7 x8 b s z]
  rfl

theorem v10_at (z : Fin 1) : val_main_v10 (F := Ideal) x0 (ix3 b s z) = slope c1024 (rowOf x0 x3 x4 x5 x6 x7 x8 b s).h := by
  pointwise [val_main_v10, val_main_v9, val_main_v8, val_main_cst_2]
  simp only [v6_at x0 x1 x2 x3 x4 x5 x6 x7 x8 b s, v7_at x0 x1 x2 x3 x4 x5 x6 x7 x8 b s]
  rfl

theorem v12_at (j : Fin 1024) : val_main_v12 (F := Ideal) x0 (ix3 b s j) = unit c1024 (rowOf x0 x3 x4 x5 x6 x7 x8 b s).h j := by
  pointwise [val_main_v12, val_main_v11]
  simp only [v7_at x0 x1 x2 x3 x4 x5 x6 x7 x8 b s]
  rfl

theorem v15_at (j : Fin 1024) : val_main_v15 (F := Ideal) x0 x1 (ix3 b s j) = hn (weightsOf x1 x2) (rowOf x0 x3 x4 x5 x6 x7 x8 b s) j := by
  pointwise [val_main_v15, val_main_v14, val_main_v13]
  simp only [v12_at x0 x1 x2 x3 x4 x5 x6 x7 x8 b s]
  rfl

theorem v17_at (j : Fin 1696) : val_main_v17 (F := Ideal) x3 x4 x5 x6 x7 (ix3 b s j) = cols (rowOf x0 x3 x4 x5 x6 x7 x8 b s) j := by
  pointwise [val_main_v17]
  rfl

theorem v18_at (j : Fin 1024) : val_main_v18 (F := Ideal) x2 x3 x4 x5 x6 x7 (ix3 b s j) = dhn (weightsOf x1 x2) (rowOf x0 x3 x4 x5 x6 x7 x8 b s) j := by
  pointwise [val_main_v18]
  simp only [v17_at x0 x1 x2 x3 x4 x5 x6 x7 x8 b s]
  rfl

theorem v19_at (j : Fin 1024) : val_main_v19 (F := Ideal) x0 x2 x3 x4 x5 x6 x7 (ix3 b s j) = lnTerm (weightsOf x1 x2) (rowOf x0 x3 x4 x5 x6 x7 x8 b s) j := by
  pointwise [val_main_v19]
  simp only [v12_at x0 x1 x2 x3 x4 x5 x6 x7 x8 b s, v18_at x0 x1 x2 x3 x4 x5 x6 x7 x8 b s]
  rfl

theorem v23_at (j : Fin 1024) : val_main_v23 (F := Ideal) x1 x2 x3 x4 x5 x6 x7 (ix3 b s j) = dhn (weightsOf x1 x2) (rowOf x0 x3 x4 x5 x6 x7 x8 b s) j * x1 (ix1 j) := by
  pointwise [val_main_v23, val_main_v22, val_main_v13]
  simp only [v18_at x0 x1 x2 x3 x4 x5 x6 x7 x8 b s]

theorem v35_at (j : Fin 1024) : val_main_v35 (F := Ideal) x0 x1 x2 x3 x4 x5 x6 x7 (ix3 b s j) = share c1024 (rowOf x0 x3 x4 x5 x6 x7 x8 b s).h fun k => dhn (weightsOf x1 x2) (rowOf x0 x3 x4 x5 x6 x7 x8 b s) k * x1 (ix1 k) := by
  pointwise [val_main_v35, val_main_v34, val_main_v33, val_main_v32, val_main_v31, val_main_v27, val_main_v26, val_main_v25, val_main_cst_5, val_main_cst_6, val_main_cst_7]
  simp only [v23_at x0 x1 x2 x3 x4 x5 x6 x7 x8 b s, v10_at x0 x1 x2 x3 x4 x5 x6 x7 x8 b s]
  simp only [div_1024, Fin.sum_univ_one]
  rfl

theorem v39_at (j : Fin 1024) : val_main_v39 (F := Ideal) x0 x1 x2 x3 x4 x5 x6 x7 x8 (ix3 b s j) = dh (weightsOf x1 x2) (rowOf x0 x3 x4 x5 x6 x7 x8 b s) j := by
  pointwise [val_main_v39, val_main_v38, val_main_v37, val_main_v36, val_main_v30, val_main_v29, val_main_v28]
  simp only [v23_at x0 x1 x2 x3 x4 x5 x6 x7 x8 b s, v7_at x0 x1 x2 x3 x4 x5 x6 x7 x8 b s, v35_at x0 x1 x2 x3 x4 x5 x6 x7 x8 b s]
  rw [dh, add_comm _ (RowIn.dh1 _ j), pull, ← add_assoc, ← add_assoc]
  rfl

theorem v41_at (j : Fin 1792) : val_main_v41 (F := Ideal) x3 x4 x5 x6 x7 (ix3 b s j) = lanes (rowOf x0 x3 x4 x5 x6 x7 x8 b s) j := by
  pointwise [val_main_v41, val_main_v40, val_main_call0_v0, val_main_c]
  simp only [zero_word, b.2, s.2, true_and]
  rfl

end

/-- A packed row. -/
abbrev packedIn (n : Fin 4352) : RowIn := packed (rowOf x0 x3 x4 x5 x6 x7 x8) .pad ⟨n / 2176, by omega⟩ ⟨n % 2176, by omega⟩

include x0 x1 x2 x3 x4 x5 x6 x7 x8

theorem v43_eq : val_main_v43 (F := Ideal) x0 x1 x2 x3 x4 x5 x6 x7 x8 = fun z : S4352x1024.Idx => dh (weightsOf x1 x2) (packedIn x0 x3 x4 x5 x6 x7 x8 (z 0)) (z 1) := by
  funext z
  pointwise [val_main_v43, val_main_v42, val_main_call1_v0, val_main_c_8]
  exact (dite_congr rfl (fun h => v39_at x0 x1 x2 x3 x4 x5 x6 x7 x8 _ _ (z 1)) fun _ => by first | rfl | exact zero_word).trans
    (packed_at (rowOf x0 x3 x4 x5 x6 x7 x8) .pad (fun r => dh (weightsOf x1 x2) r (z 1)) (congrFun (dh_pad (weightsOf x1 x2)) _) (z 0))

theorem v46_eq : val_main_v46 (F := Ideal) x3 x4 x5 x6 x7 = fun z : S4352x1792.Idx => lanes (packedIn x0 x3 x4 x5 x6 x7 x8 (z 0)) (z 1) := by
  funext z
  pointwise [val_main_v46, val_main_v45, val_main_v44, val_main_call2_v0, val_main_c_9]
  exact (dite_congr rfl (fun h => v41_at x0 x1 x2 x3 x4 x5 x6 x7 x8 _ _ (z 1)) fun _ => by first | rfl | exact zero_word).trans
    (packed_at (rowOf x0 x3 x4 x5 x6 x7 x8) .pad (fun r => lanes r (z 1)) (congrFun (lanes_pad) _) (z 0))

theorem v49_eq : val_main_v49 (F := Ideal) x0 x1 = fun z : S4352x1024.Idx => hn (weightsOf x1 x2) (packedIn x0 x3 x4 x5 x6 x7 x8 (z 0)) (z 1) := by
  funext z
  pointwise [val_main_v49, val_main_v48, val_main_v47, val_main_call3_v0, val_main_c_10]
  exact (dite_congr rfl (fun h => v15_at x0 x1 x2 x3 x4 x5 x6 x7 x8 _ _ (z 1)) fun _ => by first | rfl | exact zero_word).trans
    (packed_at (rowOf x0 x3 x4 x5 x6 x7 x8) .pad (fun r => hn (weightsOf x1 x2) r (z 1)) (congrFun (hn_pad (weightsOf x1 x2)) _) (z 0))

theorem v50_eq : val_main_v50 (F := Ideal) x0 x2 x3 x4 x5 x6 x7 = fun z : S1x1024.Idx => ∑ b : Fin 2, ∑ s : Fin 2064, lnTerm (weightsOf x1 x2) (rowOf x0 x3 x4 x5 x6 x7 x8 b s) (z 1) := by
  have e : ∀ j : Fin 1024, val_main_v20 (F := Ideal) x0 x2 x3 x4 x5 x6 x7 (ix1 j) = ∑ b : Fin 2, ∑ s : Fin 2064, lnTerm (weightsOf x1 x2) (rowOf x0 x3 x4 x5 x6 x7 x8 b s) j := by
    intro j
    pointwise [val_main_v20, val_main_cst_3]
    rw [sum_first_two, zero_add]
    simp only [v19_at x0 x1 x2 x3 x4 x5 x6 x7 x8]
  funext z
  pointwise [val_main_v50, val_main_v24, val_main_v21, val_main_cst_4]
  refine (sum_first_two _ _ _ (z 1)).trans ?_
  pointwise [val_main_v21]
  simp only [Fin.sum_univ_one, zero_add]
  exact e (z 1)

end Cert.Reference4Ideal.Value

end
-- ==== Proof.InpAgree.lean ====
/- The arrays of the first norm's gradient are the reference's. -/
module

public import proofs.«01_k».proof.Proof.InpArrays
public import proofs.«01_k».proof.Proof.InpRef

@[expose] public section

set_option maxRecDepth 16384

noncomputable section

open Idealize.ShloMosaic Idealize.ShloMosaic.TcCoe Idealize.SL.Sem

namespace Cert.Kernel4Ideal.Value
open Cert.Kernel4Ideal Cert.Kernel4Ideal.Gen

open Cert.Reference4Ideal.Read
open Cert.Reference4Ideal.Value

variable (m : (ℓ : Loc nD τ sig) → Buf (Elt Ideal) ℓ) (c : Dev nD)
  {x0 : FVec Ideal S2x2064x1024 .f32} {x1 : FVec Ideal S1024 .f32} {x2 : FVec Ideal S1024x1696 .f32} {x3 : FVec Ideal S2x2064x384 .f32}
  {x4 : FVec Ideal S2x2064x256 .f32} {x5 : FVec Ideal S2x2064x32 .f32} {x6 x7 : FVec Ideal S2x2064x512 .f32} {x8 : FVec Ideal S2x2064x1024 .f32}
  (e0 : x0 = arg m c main_arg0) (e1 : x1 = arg m c main_arg1) (e2 : x2 = arg m c main_arg2) (e3 : x3 = arg m c main_arg3) (e4 : x4 = arg m c main_arg4) (e5 : x5 = arg m c main_arg5) (e6 : x6 = arg m c main_arg6) (e7 : x7 = arg m c main_arg7) (e8 : x8 = arg m c main_arg8)

include e0 e1 e2 e3 e4 e5 e6 e7 e8

theorem same9 : val_main_v43 (F := Ideal) x0 x1 x2 x3 x4 x5 x6 x7 x8 = (dats m 0 c).arrAt 9 cfg0.N := by
  subst e0 e1 e2 e3 e4 e5 e6 e7 e8
  exact (v43_eq ..).trans (arr9 m c).symm
theorem same10 : val_main_v46 (F := Ideal) x3 x4 x5 x6 x7 = (dats m 0 c).arrAt 10 cfg0.N := by
  subst e0 e1 e2 e3 e4 e5 e6 e7 e8
  exact (v46_eq _ (arg m c main_arg1) (arg m c main_arg2) ..).trans (arr10 m c).symm
theorem same11 : val_main_v49 (F := Ideal) x0 x1 = (dats m 0 c).arrAt 11 cfg0.N := by
  subst e0 e1 e2 e3 e4 e5 e6 e7 e8
  exact (v49_eq ..).trans (arr11 m c).symm
theorem same12 : val_main_v50 (F := Ideal) x0 x2 x3 x4 x5 x6 x7 = (dats m 0 c).arrAt 12 cfg0.N := by
  subst e0 e1 e2 e3 e4 e5 e6 e7 e8
  exact (v50_eq ..).trans (arr12 m c).symm

end Cert.Kernel4Ideal.Value

end
-- ==== Proof.LatSpec.lean ====
/- One row of the gradient of the two latent norms: the latents' own cotangents, and the values' sent back through the second
   projection, taken through the norms. -/
module

public import proofs.«01_k».proof.Proof.MixScale
public import proofs.«01_k».proof.Proof.Packing

@[expose] public section

noncomputable section

open Idealize.ShloMosaic Idealize.ShloMosaic.TcCoe

namespace Cert.Lat

open Cert.Mix

/-- One 384th. -/
def c384 : EReal := ((1 / 384 : ℝ) : EReal)
/-- One 256th. -/
def c256 : EReal := Ideal.ofBits .f32 0x3B800000#32

theorem c256_real : c256 = ((1 / 256 : ℝ) : EReal) := by
  unfold c256; simp [Ideal.ofBits, Ideal.ieee, -EReal.coe_mul]; norm_num
theorem n384_real : Ideal.ofBits .f32 0x43C00000#32 = ((384 : ℝ) : EReal) := by
  simp [Ideal.ofBits, Ideal.ieee, -EReal.coe_mul]; norm_num
theorem n256_real : Ideal.ofBits .f32 0x43800000#32 = ((256 : ℝ) : EReal) := by
  simp [Ideal.ofBits, Ideal.ieee, -EReal.coe_mul]; norm_num
theorem div_384 (x : EReal) : Ideal.div x (Ideal.ofBits .f32 0x43C00000#32) = x * c384 := by
  rw [n384_real, c384, Ideal.div_coe (by norm_num)]
theorem div_256 (x : EReal) : Ideal.div x (Ideal.ofBits .f32 0x43800000#32) = x * c256 := by
  rw [n256_real, c256_real, Ideal.div_coe (by norm_num)]

/-- The two norms' scales and the second projection. -/
structure Weights where
  qag : Row 384
  kvag : Row 256
  wukv : Fin 256 → Row 1024

/-- What one row takes: the latents, the rotary columns beside them, and the cotangents of the normed latents and of the values. -/
structure RowIn where
  cq : Row 384
  ckv : Row 256
  kr : Row 32
  dcqn : Row 384
  dckvk : Row 256
  dv : Row 512

variable (w : Weights) (r : RowIn)

/-- The rotary columns at lanes 64 to 95 of 128. -/
def krl : Row 128 := fun j => if hj : 64 ≤ (j : ℕ) ∧ (j : ℕ) - 64 < 32 then r.kr ⟨j - 64, hj.2⟩ else 0
/-- The latents and the rotary columns side by side. -/
def panel : Row 768 := fun k =>
  if h0 : (k : ℕ) < 384 then r.cq ⟨k, h0⟩
  else if h1 : (k : ℕ) - 384 < 256 then r.ckv ⟨k - 384, h1⟩
  else krl r ⟨k - 384 - 256, by omega⟩
/-- The column of a head's value among the 128 of each head. -/
def laneOf (l : Fin 512) : Fin 1024 := ⟨l / 64 * 128 + 64 + l % 64, by omega⟩
/-- The values' cotangents among all the projected columns. -/
def cols : Row 1024 := fun k => if h : 64 ≤ (k : ℕ) % 128 then r.dv ⟨k / 128 * 64 + (k % 128 - 64), by omega⟩ else 0
def cqn : Row 384 := fun j => unit c384 r.cq j * w.qag j
def ckvn : Row 256 := fun j => unit c256 r.ckv j * w.kvag j
/-- The cotangent of the second normed latent: the keys' part, and the values' through the projection. -/
def dckvn : Row 256 := fun j => r.dckvk j + ∑ l, r.dv l * w.wukv j (laneOf l)
/-- The cotangents of the latents. -/
def dcq : Row 384 := pull c384 r.cq fun k => r.dcqn k * w.qag k
def dckv : Row 256 := pull c256 r.ckv fun k => dckvn w r k * w.kvag k
/-- What the row adds to the gradients of the norms' scales. -/
def qaTerm : Row 384 := fun j => unit c384 r.cq j * r.dcqn j
def kvTerm : Row 256 := fun j => unit c256 r.ckv j * dckvn w r j

/-- A row of padding. -/
def RowIn.pad : RowIn := ⟨0, 0, 0, 0, 0, 0⟩

theorem panel_lo (j : Fin 384) : panel r ⟨j, by omega⟩ = r.cq j := dif_pos j.2
theorem panel_hi (j : Fin 256) : panel r ⟨384 + j, by omega⟩ = r.ckv j := by
  unfold panel
  rw [dif_neg (by simp), dif_pos (by simp)]
  exact congrArg r.ckv (Fin.ext (by simp))

/-- The product over all the projected columns is the one over the values': the others hold nothing. -/
theorem sum_cols (j : Fin 256) : ∑ k, cols r k * w.wukv j k = ∑ l, r.dv l * w.wukv j (laneOf l) := by
  refine (Finset.sum_of_injOn laneOf (fun a _ b _ e => Fin.ext ?_) (fun _ _ => Finset.mem_coe.mpr (Finset.mem_univ _)) (fun k _ hk => ?_) fun l _ => ?_).symm
  · have e' : (a : ℕ) / 64 * 128 + 64 + a % 64 = (b : ℕ) / 64 * 128 + 64 + b % 64 := congrArg Fin.val e
    omega
  · have hn : ¬ 64 ≤ (k : ℕ) % 128 := fun h =>
      hk ⟨⟨k / 128 * 64 + (k % 128 - 64), by omega⟩, Finset.mem_coe.mpr (Finset.mem_univ _), Fin.ext (by simp only [laneOf]; omega)⟩
    rw [cols, dif_neg hn, zero_mul]
  · have hl : 64 ≤ (laneOf l : ℕ) % 128 := by simp only [laneOf]; omega
    rw [cols, dif_pos hl]
    exact congrArg (fun i => r.dv i * _) (Fin.ext (by simp only [laneOf]; omega))

/-! A row of padding sends nothing anywhere. -/

theorem krl_pad : krl .pad = 0 := by
  funext j; simp [krl, RowIn.pad]
theorem panel_pad : panel .pad = 0 := by
  have h : ∀ j, krl .pad j = 0 := congrFun krl_pad
  funext k
  unfold panel
  split <;> [rfl; split <;> [rfl; exact h _]]
theorem cqn_pad : cqn w .pad = 0 := by
  funext j; simp [cqn, unit, RowIn.pad]
theorem ckvn_pad : ckvn w .pad = 0 := by
  funext j; simp [ckvn, unit, RowIn.pad]
theorem dckvn_pad : dckvn w .pad = 0 := by
  funext j; simp [dckvn, RowIn.pad]
theorem dcq_pad : dcq w .pad = 0 := pull_zero _ _ (by funext k; simp [RowIn.pad])
theorem dckv_pad : dckv w .pad = 0 := pull_zero _ _ (by funext k; simp [dckvn_pad])
theorem qaTerm_pad : qaTerm .pad = 0 := by funext j; simp [qaTerm, RowIn.pad]
theorem kvTerm_pad : kvTerm w .pad = 0 := by funext j; simp [kvTerm, dckvn_pad]

/-- The weights, read off their arrays. -/
def weightsOf (qag : FVec Ideal ⟨1, ![384]⟩ .f32) (kvag : FVec Ideal ⟨1, ![256]⟩ .f32) (wukv : FVec Ideal ⟨2, ![256, 1024]⟩ .f32) : Weights where
  qag j := qag (ix1 j)
  kvag j := kvag (ix1 j)
  wukv k j := wukv (ix2 k j)

/-- A row of a sequence. -/
def rowOf (cq : FVec Ideal ⟨3, ![2, 2064, 384]⟩ .f32) (ckv : FVec Ideal ⟨3, ![2, 2064, 256]⟩ .f32) (kr : FVec Ideal ⟨3, ![2, 2064, 32]⟩ .f32)
    (dcqn : FVec Ideal ⟨3, ![2, 2064, 384]⟩ .f32) (dckvk : FVec Ideal ⟨3, ![2, 2064, 256]⟩ .f32) (dv : FVec Ideal ⟨3, ![2, 2064, 512]⟩ .f32)
    (b : Fin 2) (s : Fin 2064) : RowIn where
  cq j := cq (ix3 b s j)
  ckv j := ckv (ix3 b s j)
  kr j := kr (ix3 b s j)
  dcqn j := dcqn (ix3 b s j)
  dckvk j := dckvk (ix3 b s j)
  dv j := dv (ix3 b s j)

end Cert.Lat

end
-- ==== Proof.LatPay.lean ====
/- What the body of the latent norms' gradient computes, element by element. -/
module

public import proofs.«01_k».proof.Proof.Gen.Kernel5Ideal.Skeleton
public import proofs.«01_k».proof.Proof.LatSpec
public import Idealize.ShloMosaic.Lib.Pointwise

@[expose] public section

set_option maxRecDepth 16384

noncomputable section

open Idealize.ShloMosaic Idealize.ShloMosaic.TcCoe Idealize.SL.Sem

namespace Cert.Kernel5Ideal.Value
open Cert.Kernel5Ideal Cert.Kernel5Ideal.Gen

open Cert.Mix (Row meanSq inv slope unit share pull)
open Cert.Lat Cert.Packing

theorem named_384 : Named.named (F := Ideal) (φ := .f32) κ "inv_384" 0x3B2AAAAB#32 = c384 :=
  IdealRules.named_const.ideal_named_scalar _ _ _ _ rfl

section
variable {v3 : FVec Ideal S256x768 .f32} {v6 : FVec Ideal S384 .f32} {v24 : FVec Ideal S256 .f32} {w : Weights} {r : RowIn} {i : Fin 256}
variable (h3 : ∀ k, v3 (ix2 i k) = panel r k)
include h3

theorem pay7_at (j : Fin 384) : k0_pay7 (F := Ideal) v3 (ix2 i j) = r.cq j := by
  pointwise [k0_pay7, k0_pay6]
  exact (h3 _).trans (panel_lo r j)
theorem pay13_at (j : Fin 256) : k0_pay13 (F := Ideal) v3 (ix2 i j) = r.ckv j := by
  pointwise [k0_pay13, k0_pay6]
  exact (h3 _).trans (panel_hi r j)
theorem pay8_at (z : Fin 1) : k0_pay8 (F := Ideal) v3 (ix2 i z) = meanSq c384 r.cq := by
  pointwise [k0_pay8]
  simp only [pay7_at h3, named_384]
  rfl
theorem pay9_at (z : Fin 1) : k0_pay9 (F := Ideal) v3 (ix2 i z) = inv c384 r.cq := by
  pointwise [k0_pay9]
  rw [pay8_at h3]
  rfl
theorem pay10_at (z : Fin 1) : k0_pay10 (F := Ideal) v3 (ix2 i z) = slope c384 r.cq := by
  pointwise [k0_pay10]
  rw [pay8_at h3, pay9_at h3]
  rfl
theorem pay11_at (j : Fin 384) : k0_pay11 (F := Ideal) v3 (ix2 i j) = unit c384 r.cq j := by
  pointwise [k0_pay11]
  rw [pay9_at h3, pay7_at h3]
  rfl
theorem pay19_at (h6 : ∀ j, v6 (ix1 j) = w.qag j) (j : Fin 384) : k0_pay19 (F := Ideal) v3 v6 (ix2 i j) = cqn w r j := by
  pointwise [k0_pay19, k0_pay12]
  rw [pay11_at h3]
  exact congrArg _ (h6 j)
theorem pay14_at (z : Fin 1) : k0_pay14 (F := Ideal) v3 (ix2 i z) = meanSq c256 r.ckv := by
  pointwise [k0_pay14]
  simp only [pay13_at h3]
  rfl
theorem pay15_at (z : Fin 1) : k0_pay15 (F := Ideal) v3 (ix2 i z) = inv c256 r.ckv := by
  pointwise [k0_pay15]
  rw [pay14_at h3]
  rfl
theorem pay16_at (z : Fin 1) : k0_pay16 (F := Ideal) v3 (ix2 i z) = slope c256 r.ckv := by
  pointwise [k0_pay16]
  rw [pay14_at h3, pay15_at h3]
  rfl
theorem pay17_at (j : Fin 256) : k0_pay17 (F := Ideal) v3 (ix2 i j) = unit c256 r.ckv j := by
  pointwise [k0_pay17]
  rw [pay15_at h3, pay13_at h3]
  rfl
theorem pay20_at (h24 : ∀ j, v24 (ix1 j) = w.kvag j) (j : Fin 256) : k0_pay20 (F := Ideal) v3 v24 (ix2 i j) = ckvn w r j := by
  pointwise [k0_pay20, k0_pay18]
  rw [pay17_at h3]
  exact congrArg _ (h24 j)

end

theorem pay12_at {v6 : FVec Ideal S384 .f32} (z : Fin 1) (j : Fin 384) : k0_pay12 (F := Ideal) v6 (ix2 z j) = v6 (ix1 j) := by
  pointwise [k0_pay12]
theorem pay18_at {v24 : FVec Ideal S256 .f32} (z : Fin 1) (j : Fin 256) : k0_pay18 (F := Ideal) v24 (ix2 z j) = v24 (ix1 j) := by
  pointwise [k0_pay18]

section
variable {v5 v45 : FVec Ideal S256x384 .f32} {v14 v17 v32 v35 : FVec Ideal S256x1 .f32} {v20 : FVec Ideal S1x384 .f32}
  {v23 v68 v81 : FVec Ideal S256x256 .f32} {v38 : FVec Ideal S1x256 .f32} {v70 : FVec Ideal S256x512 .f32} {v73 : FVec Ideal S512x256 .bf16}
  {w : Weights} {r : RowIn} {i : Fin 256}

theorem pay23_at (h5 : ∀ j, v5 (ix2 i j) = r.cq j) (h14 : ∀ z, v14 (ix2 i z) = inv c384 r.cq) (h17 : ∀ z, v17 (ix2 i z) = slope c384 r.cq)
    (h20 : ∀ z j, v20 (ix2 z j) = w.qag j) (h45 : ∀ j, v45 (ix2 i j) = r.dcqn j) (j : Fin 384) :
    k0_pay23 (F := Ideal) v5 v14 v17 v20 v45 (ix2 i j) = dcq w r j := by
  pointwise [k0_pay23, k0_pay21]
  simp only [h5, h14, h17, h20, h45, named_384, Fin.sum_univ_one]
  rfl

theorem pay24_at (h68 : ∀ j, v68 (ix2 i j) = r.dckvk j) (h70 : ∀ l, v70 (ix2 i l) = r.dv l)
    (h73 : ∀ l j, v73 (ix2 l j) = w.wukv j (laneOf l)) (j : Fin 256) : k0_pay24 (F := Ideal) v68 v70 v73 (ix2 i j) = dckvn w r j := by
  pointwise [k0_pay24]
  simp only [h68, h70, h73]
  rfl

theorem pay26_at (h68 : ∀ j, v68 (ix2 i j) = r.dckvk j) (h70 : ∀ l, v70 (ix2 i l) = r.dv l)
    (h73 : ∀ l j, v73 (ix2 l j) = w.wukv j (laneOf l)) (h38 : ∀ z j, v38 (ix2 z j) = w.kvag j) (j : Fin 256) :
    k0_pay26 (F := Ideal) v38 v68 v70 v73 (ix2 i j) = dckvn w r j * w.kvag j := by
  pointwise [k0_pay26]
  rw [pay24_at h68 h70 h73, h38]

theorem pay1_at (h23 : ∀ j, v23 (ix2 i j) = r.ckv j) (h32 : ∀ z, v32 (ix2 i z) = inv c256 r.ckv) (h35 : ∀ z, v35 (ix2 i z) = slope c256 r.ckv)
    (h81 : ∀ j, v81 (ix2 i j) = dckvn w r j * w.kvag j) (j : Fin 256) : k0_pay1 (F := Ideal) v23 v32 v35 v81 (ix2 i j) = dckv w r j := by
  pointwise [k0_pay1]
  simp only [h23, h32, h35, h81, Fin.sum_univ_one]
  rfl

end

section
variable {v19 v45 : FVec Ideal S256x384 .f32} {v37 v68 : FVec Ideal S256x256 .f32} {v70 : FVec Ideal S256x512 .f32} {v73 : FVec Ideal S512x256 .bf16}
  {w : Weights} {r : Fin 256 → RowIn}

theorem pay2_at (h19 : ∀ i j, v19 (ix2 i j) = unit c384 (r i).cq j) (h45 : ∀ i j, v45 (ix2 i j) = (r i).dcqn j)
    (acc : FVec Ideal S1x384 .f32) (z : Fin 1) (j : Fin 384) :
    k0_pay2 (F := Ideal) (k0_pay22 v19 v45) acc (ix2 z j) = acc (ix2 z j) + ∑ i, qaTerm (r i) j := by
  pointwise [k0_pay2, k0_pay22, k0_pay21]
  simp only [h19, h45, Fin.sum_univ_one]
  rfl

theorem pay3_at (h37 : ∀ i j, v37 (ix2 i j) = unit c256 (r i).ckv j) (h68 : ∀ i j, v68 (ix2 i j) = (r i).dckvk j)
    (h70 : ∀ i l, v70 (ix2 i l) = (r i).dv l) (h73 : ∀ l j, v73 (ix2 l j) = w.wukv j (laneOf l))
    (acc : FVec Ideal S1x256 .f32) (z : Fin 1) (j : Fin 256) :
    k0_pay3 (F := Ideal) (k0_pay25 v37 v68 v70 v73) acc (ix2 z j) = acc (ix2 z j) + ∑ i, kvTerm w (r i) j := by
  pointwise [k0_pay3, k0_pay25]
  simp only [fun i => pay24_at (h68 i) (h70 i) h73, h37, Fin.sum_univ_one]
  rfl

end

theorem pay4_at (y : S1x384.Idx) : k0_pay4 (F := Ideal) y = (0 : EReal) := by pointwise [k0_pay4]
theorem pay5_at (y : S1x256.Idx) : k0_pay5 (F := Ideal) y = (0 : EReal) := by pointwise [k0_pay5]

end Cert.Kernel5Ideal.Value

end
-- ==== Proof.LatHost.lean ====
/- The arrays the latent norms' gradient takes, element by element: the rows padded and packed, the values' columns of the projection
   turned. -/
module

public import proofs.«01_k».proof.Proof.LatPay
public import proofs.«01_k».proof.Proof.Gen.Kernel5Ideal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel5Ideal.Value
open Cert.Kernel5Ideal Cert.Kernel5Ideal.Gen

open Cert.Mix (Row meanSq inv slope unit share pull)
open Cert.Lat Cert.Packing

variable (m : (ℓ : Loc nD τ sig) → Buf (Elt Ideal) ℓ) (c : Dev nD)

/-- The arguments of a device. -/
abbrev arg (b : Ref sig .tc) : Buf (Elt Ideal) ((c : Thread nD τ).loc b) := m ((c : Thread nD τ).loc b)

/-- The weights of a device. -/
abbrev wts : Weights := weightsOf (arg m c main_arg3) (arg m c main_arg4) (arg m c main_arg5)
/-- A row of a device's sequence. -/
abbrev inRow (b : Fin 2) (s : Fin 2064) : RowIn := rowOf (arg m c main_arg0) (arg m c main_arg1) (arg m c main_arg2) (arg m c main_arg6)
  (arg m c main_arg7) (arg m c main_arg8) b s
/-- A packed row of a device. -/
abbrev rowAt (b : Fin 2) (s : Fin 2176) : RowIn := packed (inRow m c) .pad b s

/-- The zero that fills the padding. -/
abbrev zeroF : FVec Ideal S_ .f32 := sitofp .f32 (constantI S_ 32 0#32)

abbrev pad256 (x : FVec Ideal S2x2064x256 .f32) : FVec Ideal S2x2176x256 .f32 :=
  pad S2x2176x256 ![0, 0, 0] ![0, 112, 0] ![0, 0, 0] x zeroF pads_S2x2064x256_S2x2176x256_000_01120_000 h_S_
abbrev pad384 (x : FVec Ideal S2x2064x384 .f32) : FVec Ideal S2x2176x384 .f32 :=
  pad S2x2176x384 ![0, 0, 0] ![0, 112, 0] ![0, 0, 0] x zeroF pads_S2x2064x384_S2x2176x384_000_01120_000 h_S_
abbrev pad512 (x : FVec Ideal S2x2064x512 .f32) : FVec Ideal S2x2176x512 .f32 :=
  pad S2x2176x512 ![0, 0, 0] ![0, 112, 0] ![0, 0, 0] x zeroF pads_S2x2064x512_S2x2176x512_000_01120_000 h_S_
abbrev pad768 (x : FVec Ideal S2x2064x768 .f32) : FVec Ideal S2x2176x768 .f32 :=
  pad S2x2176x768 ![0, 0, 0] ![0, 112, 0] ![0, 0, 0] x zeroF pads_S2x2064x768_S2x2176x768_000_01120_000 h_S_
abbrev padKr (x : FVec Ideal S2x2064x32 .f32) : FVec Ideal S2x2064x128 .f32 :=
  pad S2x2064x128 ![0, 0, 64] ![0, 0, 32] ![0, 0, 0] x zeroF pads_S2x2064x32_S2x2064x128_000_000_64320 h_S_
/-- The latents and the rotary columns side by side. -/
abbrev beside : FVec Ideal S2x2064x768 .f32 := concatenate S2x2064x768 2
  [⟨S2x2064x384, (arg m c main_arg0 : FVec Ideal S2x2064x384 .f32)⟩, ⟨S2x2064x256, (arg m c main_arg1 : FVec Ideal S2x2064x256 .f32)⟩,
    ⟨S2x2064x128, padKr (arg m c main_arg2)⟩] concatenates_S2x2064x384_S2x2064x256_S2x2064x128_S2x2064x768_d2

theorem entry_v10 : V m c main_v10 = (shapeCast S4352x384 (pad384 (arg m c main_arg6)) shapeCasts_S2x2176x384_S4352x384 : FVec Ideal S4352x384 .f32) := by
  entry_read
  rfl
theorem entry_v12 : V m c main_v12 = (shapeCast S4352x256 (pad256 (arg m c main_arg7)) shapeCasts_S2x2176x256_S4352x256 : FVec Ideal S4352x256 .f32) := by
  entry_read
  rfl
theorem entry_v14 : V m c main_v14 = (shapeCast S4352x512 (pad512 (arg m c main_arg8)) shapeCasts_S2x2176x512_S4352x512 : FVec Ideal S4352x512 .f32) := by
  entry_read
  rfl
theorem entry_v8 : V m c main_v8 = (shapeCast S4352x768 (pad768 (beside m c)) shapeCasts_S2x2176x768_S4352x768 : FVec Ideal S4352x768 .f32) := by
  entry_read
  rfl

section
variable (b : Fin 2) (s : Fin 2176)

theorem row_dcqn (j : S4352x384.Idx) (l : Fin 384) (h0 : (j 0 : ℕ) = b * 2176 + s) (h1 : (j 1 : ℕ) = l) :
    V m c main_v10 j = RowIn.dcqn (rowAt m c b s) l := by
  have e0 : (j 0 : ℕ) / 2176 = b := by omega
  have e1 : (j 0 : ℕ) % 2176 = s := by omega
  have e2 : j 1 = l := Fin.ext h1
  rw [entry_v10, packed_val _ _ fun r => RowIn.dcqn r l]
  pointwise [pad384]
  simp only [e0, e1, e2, Cert.Mix.zero_word, b.2, l.2, true_and, and_true]
  rfl

theorem row_dckvk (j : S4352x256.Idx) (l : Fin 256) (h0 : (j 0 : ℕ) = b * 2176 + s) (h1 : (j 1 : ℕ) = l) :
    V m c main_v12 j = RowIn.dckvk (rowAt m c b s) l := by
  have e0 : (j 0 : ℕ) / 2176 = b := by omega
  have e1 : (j 0 : ℕ) % 2176 = s := by omega
  have e2 : j 1 = l := Fin.ext h1
  rw [entry_v12, packed_val _ _ fun r => RowIn.dckvk r l]
  pointwise [pad256]
  simp only [e0, e1, e2, Cert.Mix.zero_word, b.2, l.2, true_and, and_true]
  rfl

theorem row_dv (j : S4352x512.Idx) (l : Fin 512) (h0 : (j 0 : ℕ) = b * 2176 + s) (h1 : (j 1 : ℕ) = l) :
    V m c main_v14 j = RowIn.dv (rowAt m c b s) l := by
  have e0 : (j 0 : ℕ) / 2176 = b := by omega
  have e1 : (j 0 : ℕ) % 2176 = s := by omega
  have e2 : j 1 = l := Fin.ext h1
  rw [entry_v14, packed_val _ _ fun r => RowIn.dv r l]
  pointwise [pad512]
  simp only [e0, e1, e2, Cert.Mix.zero_word, b.2, l.2, true_and, and_true]
  rfl

theorem row_panel (j : S4352x768.Idx) (l : Fin 768) (h0 : (j 0 : ℕ) = b * 2176 + s) (h1 : (j 1 : ℕ) = l) :
    V m c main_v8 j = panel (rowAt m c b s) l := by
  have e0 : (j 0 : ℕ) / 2176 = b := by omega
  have e1 : (j 0 : ℕ) % 2176 = s := by omega
  have e2 : j 1 = l := Fin.ext h1
  rw [entry_v8, packed_val _ _ fun r => panel r l]
  pointwise [pad768, beside, padKr]
  simp only [e0, e1, e2, Cert.Mix.zero_word, b.2, l.2, true_and, and_true, congrFun panel_pad l]
  refine dite_congr rfl (fun h => ?_) fun _ => rfl
  have h' : (s : ℕ) < 2064 := h
  simp only [h', true_and]
  rfl

end

theorem weight_wv (k : Fin 512) (j : Fin 256) : V m c main_v4 (ix2 k j) = (fun k j => (wts m c).wukv j (laneOf k)) k j := by
  have e : V m c main_v4 = (truncf .bf16 (shapeCast S512x256 (extractStridedSlice S8x64x256 ![0, 64, 0]
      (shapeCast S8x128x256 (transpose S1024x256 [1, 0] (arg m c main_arg5 : FVec Ideal S256x1024 .f32) transposes_S256x1024_S1024x256_1_0) shapeCasts_S1024x256_S8x128x256) slices_S8x128x256_S8x64x256_0_64_0) shapeCasts_S8x64x256_S512x256)
      bitsLt_bf16_f32 : FVec Ideal S512x256 .bf16) := by
    entry_read
    rfl
  rw [e]
  pointwise
  refine congrArg (arg m c main_arg5) (congrArg (ix2 j) (Fin.ext ?_))
  simp only [laneOf]
  omega

end Cert.Kernel5Ideal.Value

end
-- ==== Proof.LatBlocks.lean ====
/- The blocks the latent norms' gradient reads at a grid point, and what its body computes of them. -/
module

public import proofs.«01_k».proof.Proof.LatHost

@[expose] public section

set_option maxRecDepth 16384

noncomputable section

open Idealize.ShloMosaic Idealize.ShloMosaic.TcCoe Idealize.SL.Sem

namespace Cert.Kernel5Ideal.Value
open Cert.Kernel5Ideal Cert.Kernel5Ideal.Gen

open Cert.Mix (Row meanSq inv slope unit share pull)
open Cert.Lat Cert.Packing

theorem idx_rows : ∀ t : Fin cfg0.N, win0_0.index t = ![t.val, 0]
    ∧ win0_1.index t = ![t.val, 0]
    ∧ win0_2.index t = ![t.val, 0]
    ∧ win0_3.index t = ![t.val, 0] :=
  (by decide +kernel : ∀ t : Fin grid0.N, _)

theorem idx_weights : ∀ t : Fin cfg0.N, win0_4.index t = ![0]
    ∧ win0_5.index t = ![0]
    ∧ win0_6.index t = ![0, 0] :=
  (by decide +kernel : ∀ t : Fin grid0.N, _)

/-- The sequence of a row of a grid point's block. -/
def seqAt (t : Fin 17) (i : Fin 256) : Fin 2 := ⟨(t * 256 + i) / 2176, by omega⟩
/-- Its place in the sequence. -/
def posAt (t : Fin 17) (i : Fin 256) : Fin 2176 := ⟨(t * 256 + i) % 2176, by omega⟩

section
variable (m : (ℓ : Loc nD τ sig) → Buf (Elt Ideal) ℓ) (c : Dev nD)

/-- A row of a grid point's block. -/
abbrev blockRow (t : Fin 17) (i : Fin 256) : RowIn := rowAt m c (seqAt t i) (posAt t i)

variable (t : Fin cfg0.N)

theorem blk_dcqn (i : Fin 256) (j : Fin 384) : iblk m c 0 t (ix2 i j) = (blockRow m c t i).dcqn j := by
  blk_simp [iblk]
  refine row_dcqn m c (seqAt t i) (posAt t i) _ j ?_ ?_
  · blk_simp [idx_rows t]
    simp only [seqAt, posAt]
    omega
  · blk_simp [idx_rows t]

theorem blk_dckvk (i : Fin 256) (j : Fin 256) : iblk m c 1 t (ix2 i j) = (blockRow m c t i).dckvk j := by
  blk_simp [iblk]
  refine row_dckvk m c (seqAt t i) (posAt t i) _ j ?_ ?_
  · blk_simp [idx_rows t]
    simp only [seqAt, posAt]
    omega
  · blk_simp [idx_rows t]

theorem blk_dv (i : Fin 256) (j : Fin 512) : iblk m c 2 t (ix2 i j) = (blockRow m c t i).dv j := by
  blk_simp [iblk]
  refine row_dv m c (seqAt t i) (posAt t i) _ j ?_ ?_
  · blk_simp [idx_rows t]
    simp only [seqAt, posAt]
    omega
  · blk_simp [idx_rows t]

theorem blk_pa (i : Fin 256) (j : Fin 768) : iblk m c 3 t (ix2 i j) = panel (blockRow m c t i) j := by
  blk_simp [iblk]
  refine row_panel m c (seqAt t i) (posAt t i) _ j ?_ ?_
  · blk_simp [idx_rows t]
    simp only [seqAt, posAt]
    omega
  · blk_simp [idx_rows t]

theorem blk_qag (j : Fin 384) : iblk m c 4 t (ix1 j) = (wts m c).qag j := by
  blk_simp [iblk]
  refine (congrFun (V_main_arg3 m c) _).trans ?_
  refine congrArg (arg m c main_arg3) ?_
  funext a
  match a with
  | ⟨0, _⟩ => exact Fin.ext (by blk_simp [idx_weights t])

theorem blk_kvag (j : Fin 256) : iblk m c 5 t (ix1 j) = (wts m c).kvag j := by
  blk_simp [iblk]
  refine (congrFun (V_main_arg4 m c) _).trans ?_
  refine congrArg (arg m c main_arg4) ?_
  funext a
  match a with
  | ⟨0, _⟩ => exact Fin.ext (by blk_simp [idx_weights t])

theorem blk_wv (k : Fin 512) (j : Fin 256) : iblk m c 6 t (ix2 k j) = (fun k j => (wts m c).wukv j (laneOf k)) k j := by
  blk_simp [iblk]
  refine Eq.trans (congrArg (V m c _) ?_) (weight_wv m c k j)
  funext a
  match a with
  | ⟨0, _⟩ => exact Fin.ext (by blk_simp [idx_weights t])
  | ⟨1, _⟩ => exact Fin.ext (by blk_simp [idx_weights t])

/-! The body's values at a grid point. -/

abbrev pDcq : FVec Ideal S256x384 .f32 := k0_pay23 (k0_pay7 (iblk m c 3 t)) (k0_pay9 (iblk m c 3 t)) (k0_pay10 (iblk m c 3 t)) (k0_pay12 (iblk m c 4 t)) (iblk m c 0 t)
abbrev pDckv : FVec Ideal S256x256 .f32 := k0_pay1 (k0_pay13 (iblk m c 3 t)) (k0_pay15 (iblk m c 3 t)) (k0_pay16 (iblk m c 3 t))
  (k0_pay26 (k0_pay18 (iblk m c 5 t)) (iblk m c 1 t) (iblk m c 2 t) (iblk m c 6 t))

theorem pDcq_at (i : Fin 256) (j : Fin 384) : pDcq m c t (ix2 i j) = dcq (wts m c) (blockRow m c t i) j :=
  pay23_at (pay7_at (blk_pa m c t i)) (pay9_at (blk_pa m c t i)) (pay10_at (blk_pa m c t i)) (fun z j => (pay12_at z j).trans (blk_qag m c t j))
    (blk_dcqn m c t i) j

theorem pDckv_at (i : Fin 256) (j : Fin 256) : pDckv m c t (ix2 i j) = dckv (wts m c) (blockRow m c t i) j :=
  pay1_at (pay13_at (blk_pa m c t i)) (pay15_at (blk_pa m c t i)) (pay16_at (blk_pa m c t i))
    (pay26_at (blk_dckvk m c t i) (blk_dv m c t i) (blk_wv m c t) fun z j => (pay18_at z j).trans (blk_kvag m c t j)) j

theorem pCqn_at (i : Fin 256) (j : Fin 384) : k0_pay19 (F := Ideal) (iblk m c 3 t) (iblk m c 4 t) (ix2 i j) = cqn (wts m c) (blockRow m c t i) j :=
  pay19_at (blk_pa m c t i) (blk_qag m c t) j

theorem pCkvn_at (i : Fin 256) (j : Fin 256) : k0_pay20 (F := Ideal) (iblk m c 3 t) (iblk m c 5 t) (ix2 i j) = ckvn (wts m c) (blockRow m c t i) j :=
  pay20_at (blk_pa m c t i) (blk_kvag m c t) j

theorem pQa_at (acc : FVec Ideal S1x384 .f32) (z : Fin 1) (j : Fin 384) :
    k0_pay2 (F := Ideal) (k0_pay22 (k0_pay11 (iblk m c 3 t)) (iblk m c 0 t)) acc (ix2 z j) = acc (ix2 z j) + ∑ i, qaTerm (blockRow m c t i) j :=
  pay2_at (fun i => pay11_at (blk_pa m c t i)) (blk_dcqn m c t) acc z j

theorem pKv_at (acc : FVec Ideal S1x256 .f32) (z : Fin 1) (j : Fin 256) :
    k0_pay3 (F := Ideal) (k0_pay25 (k0_pay17 (iblk m c 3 t)) (iblk m c 1 t) (iblk m c 2 t) (iblk m c 6 t)) acc (ix2 z j)
      = acc (ix2 z j) + ∑ i, kvTerm (wts m c) (blockRow m c t i) j :=
  pay3_at (fun i => pay17_at (blk_pa m c t i)) (blk_dckvk m c t) (blk_dv m c t) (blk_wv m c t) acc z j

end

end Cert.Kernel5Ideal.Value

end
-- ==== Proof.LatArrays.lean ====
/- What the latent norms' gradient leaves: its six arrays, by the row functions of the packed rows. -/
module

public import proofs.«01_k».proof.Proof.LatBlocks
public import proofs.«01_k».proof.Proof.Gen.Kernel5Ideal.Value

@[expose] public section

set_option maxRecDepth 16384

noncomputable section

open Idealize.ShloMosaic Idealize.ShloMosaic.TcCoe Idealize.SL.Sem

namespace Cert.Kernel5Ideal.Value
open Cert.Kernel5Ideal Cert.Kernel5Ideal.Gen

open Cert.Mix (Row meanSq inv slope unit share pull)
open Cert.Lat Cert.Packing

theorem idx_outs : ∀ t : Fin cfg0.N, win0_7.index t = ![t.val, 0]
    ∧ win0_8.index t = ![t.val, 0]
    ∧ win0_9.index t = ![t.val, 0]
    ∧ win0_10.index t = ![t.val, 0] :=
  (by decide +kernel : ∀ t : Fin grid0.N, _)

theorem idx_sums : ∀ t : Fin cfg0.N, win0_11.index t = ![0, 0]
    ∧ win0_12.index t = ![0, 0] :=
  (by decide +kernel : ∀ t : Fin grid0.N, _)

section
variable (m : (ℓ : Loc nD τ sig) → Buf (Elt Ideal) ℓ) (c : Dev nD)

/-- A packed row, by its place in the packed array. -/
abbrev packedRow (n : Fin 4352) : RowIn := rowAt m c ⟨n / 2176, by omega⟩ ⟨n % 2176, by omega⟩

theorem packed_place (t : Fin 17) (i : Fin 256) (n : Fin 4352) (h : (n : ℕ) = t * 256 + i) : blockRow m c t i = packedRow m c n := by
  show rowAt m c _ _ = rowAt m c _ _
  congr 1 <;> refine Fin.ext ?_ <;> simp only [seqAt, posAt] <;> omega

theorem block7 (t : Fin cfg0.N) (y : S256x384.Idx) : (outsAt0 m c t.val t.isLt).1 y = dcq (wts m c) (blockRow m c t (y 0)) (y 1) := by
  by_cases h : t.val % 17 = 0
  · rw [outsAt0_A _ c t h]
    frame_out
    idx_vars y
    exact pDcq_at m c t y0 y1
  · rw [outsAt0_B _ c t h]
    frame_out
    idx_vars y
    exact pDcq_at m c t y0 y1

theorem arr7 : (dats m 0 c).arrAt 7 cfg0.N = fun j : S4352x384.Idx => dcq (wts m c) (packedRow m c (j 0)) (j 1) := by
  refine (dats m 0 c).arrAt_eq_of_covers 7 _ (by decide +kernel) fun t hf y => ?_
  blk_simp
  rw [after0_7]
  idx_vars y
  have i0 : win0_7.index t 0 = t.val := by rw [(idx_outs t).1]; rfl
  have i1 : win0_7.index t 1 = 0 := by rw [(idx_outs t).1]; rfl
  refine (block7 m c t (ix2 y0 y1)).trans ?_
  refine congrArg₂ (fun r j => dcq (wts m c) r j) (packed_place m c t y0 _ ?_) (Fin.ext ?_)
  · simp [i0]
  · simp [i1]

theorem block8 (t : Fin cfg0.N) (y : S256x256.Idx) : (outsAt0 m c t.val t.isLt).2.1 y = dckv (wts m c) (blockRow m c t (y 0)) (y 1) := by
  by_cases h : t.val % 17 = 0
  · rw [outsAt0_A _ c t h]
    frame_out
    idx_vars y
    exact pDckv_at m c t y0 y1
  · rw [outsAt0_B _ c t h]
    frame_out
    idx_vars y
    exact pDckv_at m c t y0 y1

theorem arr8 : (dats m 0 c).arrAt 8 cfg0.N = fun j : S4352x256.Idx => dckv (wts m c) (packedRow m c (j 0)) (j 1) := by
  refine (dats m 0 c).arrAt_eq_of_covers 8 _ (by decide +kernel) fun t hf y => ?_
  blk_simp
  rw [after0_8]
  idx_vars y
  have i0 : win0_8.index t 0 = t.val := by rw [(idx_outs t).2.1]; rfl
  have i1 : win0_8.index t 1 = 0 := by rw [(idx_outs t).2.1]; rfl
  refine (block8 m c t (ix2 y0 y1)).trans ?_
  refine congrArg₂ (fun r j => dckv (wts m c) r j) (packed_place m c t y0 _ ?_) (Fin.ext ?_)
  · simp [i0]
  · simp [i1]

theorem block9 (t : Fin cfg0.N) (y : S256x384.Idx) : (outsAt0 m c t.val t.isLt).2.2.1 y = cqn (wts m c) (blockRow m c t (y 0)) (y 1) := by
  by_cases h : t.val % 17 = 0
  · rw [outsAt0_A _ c t h]
    frame_out
    idx_vars y
    exact pCqn_at m c t y0 y1
  · rw [outsAt0_B _ c t h]
    frame_out
    idx_vars y
    exact pCqn_at m c t y0 y1

theorem arr9 : (dats m 0 c).arrAt 9 cfg0.N = fun j : S4352x384.Idx => cqn (wts m c) (packedRow m c (j 0)) (j 1) := by
  refine (dats m 0 c).arrAt_eq_of_covers 9 _ (by decide +kernel) fun t hf y => ?_
  blk_simp
  rw [after0_9]
  idx_vars y
  have i0 : win0_9.index t 0 = t.val := by rw [(idx_outs t).2.2.1]; rfl
  have i1 : win0_9.index t 1 = 0 := by rw [(idx_outs t).2.2.1]; rfl
  refine (block9 m c t (ix2 y0 y1)).trans ?_
  refine congrArg₂ (fun r j => cqn (wts m c) r j) (packed_place m c t y0 _ ?_) (Fin.ext ?_)
  · simp [i0]
  · simp [i1]

theorem block10 (t : Fin cfg0.N) (y : S256x256.Idx) : (outsAt0 m c t.val t.isLt).2.2.2.1 y = ckvn (wts m c) (blockRow m c t (y 0)) (y 1) := by
  by_cases h : t.val % 17 = 0
  · rw [outsAt0_A _ c t h]
    frame_out
    idx_vars y
    exact pCkvn_at m c t y0 y1
  · rw [outsAt0_B _ c t h]
    frame_out
    idx_vars y
    exact pCkvn_at m c t y0 y1

theorem arr10 : (dats m 0 c).arrAt 10 cfg0.N = fun j : S4352x256.Idx => ckvn (wts m c) (packedRow m c (j 0)) (j 1) := by
  refine (dats m 0 c).arrAt_eq_of_covers 10 _ (by decide +kernel) fun t hf y => ?_
  blk_simp
  rw [after0_10]
  idx_vars y
  have i0 : win0_10.index t 0 = t.val := by rw [(idx_outs t).2.2.2]; rfl
  have i1 : win0_10.index t 1 = 0 := by rw [(idx_outs t).2.2.2]; rfl
  refine (block10 m c t (ix2 y0 y1)).trans ?_
  refine congrArg₂ (fun r j => ckvn (wts m c) r j) (packed_place m c t y0 _ ?_) (Fin.ext ?_)
  · simp [i0]
  · simp [i1]

theorem sum11 (t : Fin cfg0.N) (h : t.val % 17 = 16) (y : S1x384.Idx) : (outsAt0 m c t.val t.isLt).2.2.2.2.1 y
    = ∑ s : Fin 17, (fun (t : Fin 17) (y : S1x384.Idx) => ∑ i, qaTerm (blockRow m c t i) (y 1)) s y := by
  have ht : t.val / 17 = 0 := by have : t.val < 17 := t.2; omega
  rw [Pipeline.eq_sum_fin_of_reset_step_apply_of_flush (fun n h => (outsAt0 m c n h).2.2.2.2.1) 17 (fun _ => 0)
    (fun (t : Fin cfg0.N) (y : S1x384.Idx) => ∑ i, qaTerm (blockRow m c t i) (y 1))
    (fun t h j => by
      rw [outsAt0_A _ c t h]
      frame_out
      idx_vars j
      exact (pQa_at m c t _ j0 j1).trans (congrArg (· + _) (pay4_at _)))
    (fun t h j => by
      rw [outsAt0_B _ c t h]
      frame_out
      idx_vars j
      exact pQa_at m c t _ j0 j1) t h _]
  refine (zero_add _).trans (Finset.sum_congr rfl fun s _ => ?_)
  exact congrArg (fun t : Fin 17 => ∑ i, qaTerm (blockRow m c t i) (y 1)) (Fin.ext (by simp only [ht]; omega))

theorem arr11 : (dats m 0 c).arrAt 11 cfg0.N = fun j : S1x384.Idx => ∑ b : Fin 2, ∑ s : Fin 2064, qaTerm (inRow m c b s) (j 1) := by
  refine (dats m 0 c).arrAt_eq_of_covers 11 _ (by decide +kernel) fun t hf y => ?_
  blk_simp
  rw [after0_11]
  idx_vars y
  have i1 : win0_11.index t 1 = 0 := by rw [(idx_sums t).1]; rfl
  refine (sum11 m c t ((flush0_11 t).mp hf) (ix2 y0 y1)).trans ?_
  refine (sum_packed (inRow m c) .pad (fun r => qaTerm r y1) (congrFun (qaTerm_pad) y1)).trans ?_
  exact congrArg (fun j => ∑ b : Fin 2, ∑ s : Fin 2064, qaTerm (inRow m c b s) j) (Fin.ext (by simp [i1]))

theorem sum12 (t : Fin cfg0.N) (h : t.val % 17 = 16) (y : S1x256.Idx) : (outsAt0 m c t.val t.isLt).2.2.2.2.2 y
    = ∑ s : Fin 17, (fun (t : Fin 17) (y : S1x256.Idx) => ∑ i, kvTerm (wts m c) (blockRow m c t i) (y 1)) s y := by
  have ht : t.val / 17 = 0 := by have : t.val < 17 := t.2; omega
  rw [Pipeline.eq_sum_fin_of_reset_step_apply_of_flush (fun n h => (outsAt0 m c n h).2.2.2.2.2) 17 (fun _ => 0)
    (fun (t : Fin cfg0.N) (y : S1x256.Idx) => ∑ i, kvTerm (wts m c) (blockRow m c t i) (y 1))
    (fun t h j => by
      rw [outsAt0_A _ c t h]
      frame_out
      idx_vars j
      exact (pKv_at m c t _ j0 j1).trans (congrArg (· + _) (pay5_at _)))
    (fun t h j => by
      rw [outsAt0_B _ c t h]
      frame_out
      idx_vars j
      exact pKv_at m c t _ j0 j1) t h _]
  refine (zero_add _).trans (Finset.sum_congr rfl fun s _ => ?_)
  exact congrArg (fun t : Fin 17 => ∑ i, kvTerm (wts m c) (blockRow m c t i) (y 1)) (Fin.ext (by simp only [ht]; omega))

theorem arr12 : (dats m 0 c).arrAt 12 cfg0.N = fun j : S1x256.Idx => ∑ b : Fin 2, ∑ s : Fin 2064, kvTerm (wts m c) (inRow m c b s) (j 1) := by
  refine (dats m 0 c).arrAt_eq_of_covers 12 _ (by decide +kernel) fun t hf y => ?_
  blk_simp
  rw [after0_12]
  idx_vars y
  have i1 : win0_12.index t 1 = 0 := by rw [(idx_sums t).2]; rfl
  refine (sum12 m c t ((flush0_12 t).mp hf) (ix2 y0 y1)).trans ?_
  refine (sum_packed (inRow m c) .pad (fun r => kvTerm (wts m c) r y1) (congrFun (kvTerm_pad (wts m c)) y1)).trans ?_
  exact congrArg (fun j => ∑ b : Fin 2, ∑ s : Fin 2064, kvTerm (wts m c) (inRow m c b s) j) (Fin.ext (by simp [i1]))

end

end Cert.Kernel5Ideal.Value

end
-- ==== Proof.LatRef.lean ====
/- The reference's gradient of the latent norms, row by row, and its results. -/
module

public import proofs.«01_k».proof.Proof.Gen.Reference5Ideal.Read
public import proofs.«01_k».proof.Proof.LatSpec

@[expose] public section

set_option maxRecDepth 16384

noncomputable section

open Idealize.ShloMosaic Idealize.ShloMosaic.TcCoe Idealize.SL.Sem

namespace Cert.Reference5Ideal.Value
open Cert.Reference5Ideal Cert.Reference5Ideal.Gen Cert.Reference5Ideal.Read

open Cert.Mix (Row meanSq inv slope unit share pull zero_word sum_first_two)
open Cert.Lat Cert.Packing

variable (x0 : FVec Ideal S2x2064x384 .f32) (x1 : FVec Ideal S2x2064x256 .f32) (x2 : FVec Ideal S2x2064x32 .f32) (x3 : FVec Ideal S384 .f32)
  (x4 : FVec Ideal S256 .f32) (x5 : FVec Ideal S256x1024 .f32) (x6 : FVec Ideal S2x2064x384 .f32) (x7 : FVec Ideal S2x2064x256 .f32) (x8 : FVec Ideal S2x2064x512 .f32)

section
variable (b : Fin 2) (s : Fin 2064)

include x0 x1 x2 x3 x4 x5 x6 x7 x8

theorem v6_at (z : Fin 1) : val_main_v6 (F := Ideal) x0 (ix3 b s z) = meanSq c384 (rowOf x0 x1 x2 x6 x7 x8 b s).cq := by
  pointwise [val_main_v6, val_main_v5, val_main_v4, val_main_v3, val_main_v2, val_main_v1, val_main_v0, val_main_cst, val_main_cst_0, val_main_cst_1]
  rw [div_384]
  rfl

theorem v7_at (z : Fin 1) : val_main_v7 (F := Ideal) x0 (ix3 b s z) = inv c384 (rowOf x0 x1 x2 x6 x7 x8 b s).cq := by
  pointwise [val_main_v7]
  rw [v6_at x0 x1 x2 x3 x4 x5 x6 x7 x8 b s z]
  rfl

theorem v10_at (z : Fin 1) : val_main_v10 (F := Ideal) x0 (ix3 b s z) = slope c384 (rowOf x0 x1 x2 x6 x7 x8 b s).cq := by
  pointwise [val_main_v10, val_main_v9, val_main_v8, val_main_cst_2]
  simp only [v6_at x0 x1 x2 x3 x4 x5 x6 x7 x8 b s, v7_at x0 x1 x2 x3 x4 x5 x6 x7 x8 b s]
  rfl

theorem v12_at (j : Fin 384) : val_main_v12 (F := Ideal) x0 (ix3 b s j) = unit c384 (rowOf x0 x1 x2 x6 x7 x8 b s).cq j := by
  pointwise [val_main_v12, val_main_v11]
  simp only [v7_at x0 x1 x2 x3 x4 x5 x6 x7 x8 b s]
  rfl

theorem v15_at (j : Fin 384) : val_main_v15 (F := Ideal) x0 x3 (ix3 b s j) = cqn (weightsOf x3 x4 x5) (rowOf x0 x1 x2 x6 x7 x8 b s) j := by
  pointwise [val_main_v15, val_main_v14, val_main_v13]
  simp only [v12_at x0 x1 x2 x3 x4 x5 x6 x7 x8 b s]
  rfl

theorem v61_at (j : Fin 384) : val_main_v61 (F := Ideal) x0 x6 (ix3 b s j) = qaTerm (rowOf x0 x1 x2 x6 x7 x8 b s) j := by
  pointwise [val_main_v61]
  simp only [v12_at x0 x1 x2 x3 x4 x5 x6 x7 x8 b s]
  rfl

theorem v65_at (j : Fin 384) : val_main_v65 (F := Ideal) x3 x6 (ix3 b s j) = RowIn.dcqn (rowOf x0 x1 x2 x6 x7 x8 b s) j * x3 (ix1 j) := by
  pointwise [val_main_v65, val_main_v64, val_main_v13]
  rfl

theorem v76_at (j : Fin 384) : val_main_v76 (F := Ideal) x0 x3 x6 (ix3 b s j) = share c384 (rowOf x0 x1 x2 x6 x7 x8 b s).cq (fun k => RowIn.dcqn (rowOf x0 x1 x2 x6 x7 x8 b s) k * x3 (ix1 k)) := by
  pointwise [val_main_v76, val_main_v75, val_main_v74, val_main_v73, val_main_v72, val_main_v69, val_main_v68, val_main_v67, val_main_cst_15, val_main_cst_16, val_main_cst_17]
  simp only [v65_at x0 x1 x2 x3 x4 x5 x6 x7 x8 b s, v10_at x0 x1 x2 x3 x4 x5 x6 x7 x8 b s]
  simp only [div_384, Fin.sum_univ_one]
  rfl

theorem v80_at (j : Fin 384) : val_main_v80 (F := Ideal) x0 x3 x6 (ix3 b s j) = dcq (weightsOf x3 x4 x5) (rowOf x0 x1 x2 x6 x7 x8 b s) j := by
  pointwise [val_main_v80, val_main_v79, val_main_v78, val_main_v77, val_main_v71, val_main_v70]
  simp only [v65_at x0 x1 x2 x3 x4 x5 x6 x7 x8 b s, v7_at x0 x1 x2 x3 x4 x5 x6 x7 x8 b s, v76_at x0 x1 x2 x3 x4 x5 x6 x7 x8 b s]
  rfl

theorem v22_at (z : Fin 1) : val_main_v22 (F := Ideal) x1 (ix3 b s z) = meanSq c256 (rowOf x0 x1 x2 x6 x7 x8 b s).ckv := by
  pointwise [val_main_v22, val_main_v21, val_main_v20, val_main_v19, val_main_v18, val_main_v17, val_main_v16, val_main_cst_3, val_main_cst_4, val_main_cst_5]
  rw [div_256]
  rfl

theorem v23_at (z : Fin 1) : val_main_v23 (F := Ideal) x1 (ix3 b s z) = inv c256 (rowOf x0 x1 x2 x6 x7 x8 b s).ckv := by
  pointwise [val_main_v23]
  rw [v22_at x0 x1 x2 x3 x4 x5 x6 x7 x8 b s z]
  rfl

theorem v26_at (z : Fin 1) : val_main_v26 (F := Ideal) x1 (ix3 b s z) = slope c256 (rowOf x0 x1 x2 x6 x7 x8 b s).ckv := by
  pointwise [val_main_v26, val_main_v25, val_main_v24, val_main_cst_6]
  simp only [v22_at x0 x1 x2 x3 x4 x5 x6 x7 x8 b s, v23_at x0 x1 x2 x3 x4 x5 x6 x7 x8 b s]
  rfl

theorem v28_at (j : Fin 256) : val_main_v28 (F := Ideal) x1 (ix3 b s j) = unit c256 (rowOf x0 x1 x2 x6 x7 x8 b s).ckv j := by
  pointwise [val_main_v28, val_main_v27]
  simp only [v23_at x0 x1 x2 x3 x4 x5 x6 x7 x8 b s]
  rfl

theorem v31_at (j : Fin 256) : val_main_v31 (F := Ideal) x1 x4 (ix3 b s j) = ckvn (weightsOf x3 x4 x5) (rowOf x0 x1 x2 x6 x7 x8 b s) j := by
  pointwise [val_main_v31, val_main_v30, val_main_v29]
  simp only [v28_at x0 x1 x2 x3 x4 x5 x6 x7 x8 b s]
  rfl

theorem v38_at (k : Fin 1024) : val_main_v38 (F := Ideal) x8 (ix3 b s k) = cols (rowOf x0 x1 x2 x6 x7 x8 b s) k := by
  pointwise [val_main_v38, val_main_v37, val_main_v36, val_main_cst_7]
  unfold cols
  have hb := b.2
  have hs := s.2
  have hk := k.2
  by_cases h : 64 ≤ (k : ℕ) % 128
  · rw [dif_pos (by omega), dif_pos h]
    refine congrArg x8 ?_
    funext a
    refine Fin.ext ?_
    match a with
    | ⟨0, _⟩ => dsimp only [ix3]
    | ⟨1, _⟩ => dsimp only [ix3]
    | ⟨2, _⟩ => dsimp only [ix3]
  · rw [dif_neg (by omega), dif_neg h]

theorem v40_at (j : Fin 256) : val_main_v40 (F := Ideal) x5 x7 x8 (ix3 b s j) = dckvn (weightsOf x3 x4 x5) (rowOf x0 x1 x2 x6 x7 x8 b s) j := by
  pointwise [val_main_v40, val_main_v39]
  simp only [v38_at x0 x1 x2 x3 x4 x5 x6 x7 x8 b s]
  exact congrArg (x7 (ix3 b s j) + ·) (sum_cols (weightsOf x3 x4 x5) (rowOf x0 x1 x2 x6 x7 x8 b s) j)

theorem v41_at (j : Fin 256) : val_main_v41 (F := Ideal) x1 x5 x7 x8 (ix3 b s j) = kvTerm (weightsOf x3 x4 x5) (rowOf x0 x1 x2 x6 x7 x8 b s) j := by
  pointwise [val_main_v41]
  simp only [v28_at x0 x1 x2 x3 x4 x5 x6 x7 x8 b s, v40_at x0 x1 x2 x3 x4 x5 x6 x7 x8 b s]
  rfl

theorem v45_at (j : Fin 256) : val_main_v45 (F := Ideal) x4 x5 x7 x8 (ix3 b s j) = dckvn (weightsOf x3 x4 x5) (rowOf x0 x1 x2 x6 x7 x8 b s) j * x4 (ix1 j) := by
  pointwise [val_main_v45, val_main_v44, val_main_v29]
  simp only [v40_at x0 x1 x2 x3 x4 x5 x6 x7 x8 b s]

theorem v56_at (j : Fin 256) : val_main_v56 (F := Ideal) x1 x4 x5 x7 x8 (ix3 b s j) = share c256 (rowOf x0 x1 x2 x6 x7 x8 b s).ckv (fun k => dckvn (weightsOf x3 x4 x5) (rowOf x0 x1 x2 x6 x7 x8 b s) k * x4 (ix1 k)) := by
  pointwise [val_main_v56, val_main_v55, val_main_v54, val_main_v53, val_main_v52, val_main_v49, val_main_v48, val_main_v47, val_main_cst_10, val_main_cst_11, val_main_cst_12]
  simp only [v45_at x0 x1 x2 x3 x4 x5 x6 x7 x8 b s, v26_at x0 x1 x2 x3 x4 x5 x6 x7 x8 b s]
  simp only [div_256, Fin.sum_univ_one]
  rfl

theorem v60_at (j : Fin 256) : val_main_v60 (F := Ideal) x1 x4 x5 x7 x8 (ix3 b s j) = dckv (weightsOf x3 x4 x5) (rowOf x0 x1 x2 x6 x7 x8 b s) j := by
  pointwise [val_main_v60, val_main_v59, val_main_v58, val_main_v57, val_main_v51, val_main_v50]
  simp only [v45_at x0 x1 x2 x3 x4 x5 x6 x7 x8 b s, v23_at x0 x1 x2 x3 x4 x5 x6 x7 x8 b s, v56_at x0 x1 x2 x3 x4 x5 x6 x7 x8 b s]
  rfl

end

/-- A packed row. -/
abbrev packedIn (n : Fin 4352) : RowIn := packed (rowOf x0 x1 x2 x6 x7 x8) .pad ⟨n / 2176, by omega⟩ ⟨n % 2176, by omega⟩

include x0 x1 x2 x3 x4 x5 x6 x7 x8

theorem v82_eq : val_main_v82 (F := Ideal) x0 x3 x6 = fun z : S4352x384.Idx => dcq (weightsOf x3 x4 x5) (packedIn x0 x1 x2 x6 x7 x8 (z 0)) (z 1) := by
  funext z
  pointwise [val_main_v82, val_main_v81, val_main_call0_v0, val_main_c]
  exact (dite_congr rfl (fun h => v80_at x0 x1 x2 x3 x4 x5 x6 x7 x8 _ _ (z 1)) fun _ => by first | rfl | exact zero_word).trans
    (packed_at (rowOf x0 x1 x2 x6 x7 x8) .pad (fun r => dcq (weightsOf x3 x4 x5) r (z 1)) (congrFun (dcq_pad (weightsOf x3 x4 x5)) _) (z 0))

theorem v84_eq : val_main_v84 (F := Ideal) x1 x4 x5 x7 x8 = fun z : S4352x256.Idx => dckv (weightsOf x3 x4 x5) (packedIn x0 x1 x2 x6 x7 x8 (z 0)) (z 1) := by
  funext z
  pointwise [val_main_v84, val_main_v83, val_main_call1_v0, val_main_c_18]
  exact (dite_congr rfl (fun h => v60_at x0 x1 x2 x3 x4 x5 x6 x7 x8 _ _ (z 1)) fun _ => by first | rfl | exact zero_word).trans
    (packed_at (rowOf x0 x1 x2 x6 x7 x8) .pad (fun r => dckv (weightsOf x3 x4 x5) r (z 1)) (congrFun (dckv_pad (weightsOf x3 x4 x5)) _) (z 0))

theorem v87_eq : val_main_v87 (F := Ideal) x0 x3 = fun z : S4352x384.Idx => cqn (weightsOf x3 x4 x5) (packedIn x0 x1 x2 x6 x7 x8 (z 0)) (z 1) := by
  funext z
  pointwise [val_main_v87, val_main_v86, val_main_v85, val_main_call2_v0, val_main_c_19]
  exact (dite_congr rfl (fun h => v15_at x0 x1 x2 x3 x4 x5 x6 x7 x8 _ _ (z 1)) fun _ => by first | rfl | exact zero_word).trans
    (packed_at (rowOf x0 x1 x2 x6 x7 x8) .pad (fun r => cqn (weightsOf x3 x4 x5) r (z 1)) (congrFun (cqn_pad (weightsOf x3 x4 x5)) _) (z 0))

theorem v90_eq : val_main_v90 (F := Ideal) x1 x4 = fun z : S4352x256.Idx => ckvn (weightsOf x3 x4 x5) (packedIn x0 x1 x2 x6 x7 x8 (z 0)) (z 1) := by
  funext z
  pointwise [val_main_v90, val_main_v89, val_main_v88, val_main_call3_v0, val_main_c_20]
  exact (dite_congr rfl (fun h => v31_at x0 x1 x2 x3 x4 x5 x6 x7 x8 _ _ (z 1)) fun _ => by first | rfl | exact zero_word).trans
    (packed_at (rowOf x0 x1 x2 x6 x7 x8) .pad (fun r => ckvn (weightsOf x3 x4 x5) r (z 1)) (congrFun (ckvn_pad (weightsOf x3 x4 x5)) _) (z 0))

theorem v91_eq : val_main_v91 (F := Ideal) x0 x6 = fun z : S1x384.Idx => ∑ b : Fin 2, ∑ s : Fin 2064, qaTerm (rowOf x0 x1 x2 x6 x7 x8 b s) (z 1) := by
  have e : ∀ j : Fin 384, val_main_v62 (F := Ideal) x0 x6 (ix1 j) = ∑ b : Fin 2, ∑ s : Fin 2064, qaTerm (rowOf x0 x1 x2 x6 x7 x8 b s) j := by
    intro j
    pointwise [val_main_v62, val_main_cst_13]
    rw [sum_first_two, zero_add]
    simp only [v61_at x0 x1 x2 x3 x4 x5 x6 x7 x8]
  funext z
  pointwise [val_main_v91, val_main_v66, val_main_v63, val_main_cst_14]
  refine (sum_first_two _ _ _ (z 1)).trans ?_
  pointwise [val_main_v63]
  simp only [Fin.sum_univ_one, zero_add]
  exact e (z 1)

theorem v92_eq : val_main_v92 (F := Ideal) x1 x5 x7 x8 = fun z : S1x256.Idx => ∑ b : Fin 2, ∑ s : Fin 2064, kvTerm (weightsOf x3 x4 x5) (rowOf x0 x1 x2 x6 x7 x8 b s) (z 1) := by
  have e : ∀ j : Fin 256, val_main_v42 (F := Ideal) x1 x5 x7 x8 (ix1 j) = ∑ b : Fin 2, ∑ s : Fin 2064, kvTerm (weightsOf x3 x4 x5) (rowOf x0 x1 x2 x6 x7 x8 b s) j := by
    intro j
    pointwise [val_main_v42, val_main_cst_8]
    rw [sum_first_two, zero_add]
    simp only [v41_at x0 x1 x2 x3 x4 x5 x6 x7 x8]
  funext z
  pointwise [val_main_v92, val_main_v46, val_main_v43, val_main_cst_9]
  refine (sum_first_two _ _ _ (z 1)).trans ?_
  pointwise [val_main_v43]
  simp only [Fin.sum_univ_one, zero_add]
  exact e (z 1)

end Cert.Reference5Ideal.Value

end
-- ==== Proof.LatAgree.lean ====
/- The arrays of the latent norms' gradient are the reference's. -/
module

public import proofs.«01_k».proof.Proof.LatArrays
public import proofs.«01_k».proof.Proof.LatRef

@[expose] public section

set_option maxRecDepth 16384

noncomputable section

open Idealize.ShloMosaic Idealize.ShloMosaic.TcCoe Idealize.SL.Sem

namespace Cert.Kernel5Ideal.Value
open Cert.Kernel5Ideal Cert.Kernel5Ideal.Gen

open Cert.Reference5Ideal.Read
open Cert.Reference5Ideal.Value

variable (m : (ℓ : Loc nD τ sig) → Buf (Elt Ideal) ℓ) (c : Dev nD)
  {x0 : FVec Ideal S2x2064x384 .f32} {x1 : FVec Ideal S2x2064x256 .f32} {x2 : FVec Ideal S2x2064x32 .f32} {x3 : FVec Ideal S384 .f32}
  {x4 : FVec Ideal S256 .f32} {x5 : FVec Ideal S256x1024 .f32} {x6 : FVec Ideal S2x2064x384 .f32} {x7 : FVec Ideal S2x2064x256 .f32} {x8 : FVec Ideal S2x2064x512 .f32}
  (e0 : x0 = arg m c main_arg0) (e1 : x1 = arg m c main_arg1) (e2 : x2 = arg m c main_arg2) (e3 : x3 = arg m c main_arg3) (e4 : x4 = arg m c main_arg4) (e5 : x5 = arg m c main_arg5) (e6 : x6 = arg m c main_arg6) (e7 : x7 = arg m c main_arg7) (e8 : x8 = arg m c main_arg8)

include e0 e1 e2 e3 e4 e5 e6 e7 e8

theorem same7 : val_main_v82 (F := Ideal) x0 x3 x6 = (dats m 0 c).arrAt 7 cfg0.N := by
  subst e0 e1 e2 e3 e4 e5 e6 e7 e8
  exact (v82_eq (arg m c main_arg0) (arg m c main_arg1) (arg m c main_arg2) (arg m c main_arg3) (arg m c main_arg4) (arg m c main_arg5) (arg m c main_arg6) (arg m c main_arg7) (arg m c main_arg8)).trans (arr7 m c).symm
theorem same8 : val_main_v84 (F := Ideal) x1 x4 x5 x7 x8 = (dats m 0 c).arrAt 8 cfg0.N := by
  subst e0 e1 e2 e3 e4 e5 e6 e7 e8
  exact (v84_eq (arg m c main_arg0) (arg m c main_arg1) (arg m c main_arg2) (arg m c main_arg3) (arg m c main_arg4) (arg m c main_arg5) (arg m c main_arg6) (arg m c main_arg7) (arg m c main_arg8)).trans (arr8 m c).symm
theorem same9 : val_main_v87 (F := Ideal) x0 x3 = (dats m 0 c).arrAt 9 cfg0.N := by
  subst e0 e1 e2 e3 e4 e5 e6 e7 e8
  exact (v87_eq (arg m c main_arg0) (arg m c main_arg1) (arg m c main_arg2) (arg m c main_arg3) (arg m c main_arg4) (arg m c main_arg5) (arg m c main_arg6) (arg m c main_arg7) (arg m c main_arg8)).trans (arr9 m c).symm
theorem same10 : val_main_v90 (F := Ideal) x1 x4 = (dats m 0 c).arrAt 10 cfg0.N := by
  subst e0 e1 e2 e3 e4 e5 e6 e7 e8
  exact (v90_eq (arg m c main_arg0) (arg m c main_arg1) (arg m c main_arg2) (arg m c main_arg3) (arg m c main_arg4) (arg m c main_arg5) (arg m c main_arg6) (arg m c main_arg7) (arg m c main_arg8)).trans (arr10 m c).symm
theorem same11 : val_main_v91 (F := Ideal) x0 x6 = (dats m 0 c).arrAt 11 cfg0.N := by
  subst e0 e1 e2 e3 e4 e5 e6 e7 e8
  exact (v91_eq (arg m c main_arg0) (arg m c main_arg1) (arg m c main_arg2) (arg m c main_arg3) (arg m c main_arg4) (arg m c main_arg5) (arg m c main_arg6) (arg m c main_arg7) (arg m c main_arg8)).trans (arr11 m c).symm
theorem same12 : val_main_v92 (F := Ideal) x1 x5 x7 x8 = (dats m 0 c).arrAt 12 cfg0.N := by
  subst e0 e1 e2 e3 e4 e5 e6 e7 e8
  exact (v92_eq (arg m c main_arg0) (arg m c main_arg1) (arg m c main_arg2) (arg m c main_arg3) (arg m c main_arg4) (arg m c main_arg5) (arg m c main_arg6) (arg m c main_arg7) (arg m c main_arg8)).trans (arr12 m c).symm

end Cert.Kernel5Ideal.Value

end
-- ==== Proof.HeadSpec.lean ====
/- One row of the gradient of the heads: the cotangents of the turned queries and keys, turned back, taken through the heads' norms and
   through the two projections. -/
module

public import proofs.«01_k».proof.Proof.LatSpec

@[expose] public section

noncomputable section

open Idealize.ShloMosaic Idealize.ShloMosaic.TcCoe

namespace Cert.Head

open Cert.Mix (Row meanSq inv slope unit share pull)
open Cert.Lat (c384 c256)

/-- One 96th. -/
def c96 : EReal := ((1 / 96 : ℝ) : EReal)

theorem n96_real : Ideal.ofBits .f32 0x42C00000#32 = ((96 : ℝ) : EReal) := by
  simp [Ideal.ofBits, Ideal.ieee, -EReal.coe_mul]; norm_num
theorem div_96 (x : EReal) : Ideal.div x (Ideal.ofBits .f32 0x42C00000#32) = x * c96 := by
  rw [n96_real, c96, Ideal.div_coe (by norm_num)]

/-- The norms' scales and the two projections. -/
structure Weights where
  qag : Row 384
  wuq : Fin 384 → Row 768
  kvag : Row 256
  wukv : Fin 256 → Row 1024
  qg : Row 96
  kg : Row 96

/-- What one row takes: the latents, the rotary columns, the cotangents of the heads' queries and keys, the position's cosines and sines. -/
structure RowIn where
  cq : Row 384
  ckv : Row 256
  kr : Row 32
  dq : Fin 8 → Row 96
  dk : Fin 8 → Row 96
  c : Row 16
  s : Row 16

/-- A head's column among the 768 of the queries. -/
def colQ (h : Fin 8) (j : Fin 96) : Fin 768 := ⟨96 * h + j, by omega⟩
/-- A head's column among the 1024 of keys and values. -/
def colK (h : Fin 8) (j : Fin 128) : Fin 1024 := ⟨128 * h + j, by omega⟩
def headQ (l : Fin 768) : Fin 8 := ⟨l / 96, by omega⟩
def laneQ (l : Fin 768) : Fin 96 := ⟨l % 96, by omega⟩
def headK (l : Fin 1024) : Fin 8 := ⟨l / 128, by omega⟩
def laneK (l : Fin 1024) : Fin 128 := ⟨l % 128, by omega⟩

/-- A head's 96 columns on 128 lanes, zeros on the rest. -/
def wide (x : Row 96) : Row 128 := fun l => if h : (l : ℕ) < 96 then x ⟨l, h⟩ else 0
/-- A head's first 64 columns on 128 lanes, zeros on the rest. -/
def first (x : Row 96) : Row 128 := fun l => if h : (l : ℕ) < 64 then x ⟨l, by omega⟩ else 0

variable (w : Weights) (r : RowIn)

def cqn : Row 384 := fun k => unit c384 r.cq k * w.qag k
def ckvn : Row 256 := fun k => unit c256 r.ckv k * w.kvag k
/-- A head's query and key before their norms. -/
def xq (h : Fin 8) : Row 96 := fun j => ∑ k, cqn w r k * w.wuq k (colQ h j)
def xk (h : Fin 8) : Row 96 := fun j =>
  if hj : (j : ℕ) < 64 then ∑ k, ckvn w r k * w.wukv k (colK h ⟨j, by omega⟩) else r.kr ⟨j - 64, by omega⟩

/-- A cotangent of a turned row, turned back. -/
def back (c s : Row 16) (d : Row 96) : Row 96 := fun j =>
  if h0 : (j : ℕ) < 64 then d j
  else if h1 : (j : ℕ) < 80 then d j * c ⟨j - 64, by omega⟩ + d ⟨j + 16, by omega⟩ * s ⟨j - 64, by omega⟩
  else d j * c ⟨j - 80, by omega⟩ - d ⟨j - 16, by omega⟩ * s ⟨j - 80, by omega⟩

def bq (h : Fin 8) : Row 96 := back r.c r.s (r.dq h)
def bk (h : Fin 8) : Row 96 := back r.c r.s (r.dk h)

/-- The gradient of a norm over 96 elements, from its argument and the scaled cotangent. -/
abbrev Grad := Row 96 → Row 96 → Row 96
/-- As the kernel writes it. -/
def closed : Grad := fun x c j => inv c96 x * (c j - unit c96 x j * ((∑ k, c k * unit c96 x k) * c96))

variable (P : Grad)

def dxq (h : Fin 8) : Row 96 := P (xq w r h) fun j => w.qg j * bq r h j
def dxk (h : Fin 8) : Row 96 := P (xk w r h) fun j => w.kg j * bk r h j
/-- The cotangents of the two projections' results, on the kernel's lanes. -/
def dqraw : Row 1024 := fun l => wide (dxq w r P (headK l)) (laneK l)
def dkraw : Row 1024 := fun l => wide (dxk w r P (headK l)) (laneK l)
/-- The cotangents of the normed latents. -/
def dcqn : Row 384 := fun k => ∑ l, dxq w r P (headQ l) (laneQ l) * w.wuq k l
def dckvk : Row 256 := fun k => ∑ l, first (dxk w r P (headK l)) (laneK l) * w.wukv k l
/-- The cotangent of the rotary columns, on the kernel's lanes. -/
def dkr : Row 128 := fun l => if h : 64 ≤ (l : ℕ) ∧ (l : ℕ) - 64 < 32 then ∑ h', dxk w r P h' ⟨l, by omega⟩ else 0
/-- What the row adds to the gradients of the heads' scales. -/
def qgTerm : Row 128 := fun l => ∑ h, wide (fun j => unit c96 (xq w r h) j * bq r h j) l
def kgTerm : Row 128 := fun l => ∑ h, wide (fun j => unit c96 (xk w r h) j * bk r h j) l

/-- A row of padding. -/
def RowIn.pad : RowIn := ⟨0, 0, 0, 0, 0, 0, 0⟩

/-! The kernel's 128 lanes. -/

theorem wide_lo (x : Row 96) (j : Fin 96) : wide x ⟨j, by omega⟩ = x j := dif_pos j.2
theorem wide_hi (x : Row 96) (j : Fin 128) (h : ¬ (j : ℕ) < 96) : wide x j = 0 := dif_neg h
theorem wide_mul (x y : Row 96) (l : Fin 128) : wide x l * wide y l = wide (fun j => x j * y j) l := by
  unfold wide; split <;> simp
theorem wide_scale (x : Row 96) (a : EReal) (l : Fin 128) : wide x l * a = wide (fun j => x j * a) l := by
  unfold wide; split <;> simp
theorem scale_wide (x : Row 96) (a : EReal) (l : Fin 128) : a * wide x l = wide (fun j => a * x j) l := by
  unfold wide; split <;> simp
theorem wide_sub (x y : Row 96) (l : Fin 128) : wide x l - wide y l = wide (fun j => x j - y j) l := by
  unfold wide; split <;> simp
theorem wide_zero : wide 0 = 0 := by funext l; unfold wide; split <;> rfl
theorem sum_wide (x : Row 96) : ∑ l, wide x l = ∑ j, x j := by
  show ∑ l : Fin (96 + 32), wide x l = _
  rw [Fin.sum_univ_add, Finset.sum_eq_zero (s := Finset.univ (α := Fin 32)), add_zero]
  · exact Finset.sum_congr rfl fun j _ => wide_lo x j
  · exact fun j _ => wide_hi x _ (by simp)

/-- The cosines on the lanes: ones beside the rotary columns. -/
def laneC (c : Row 16) : Row 128 := fun j =>
  if h0 : (j : ℕ) < 64 then 1 else if h1 : (j : ℕ) - 64 < 16 then c ⟨j - 64, h1⟩
  else if h2 : (j : ℕ) - 64 - 16 < 16 then c ⟨j - 64 - 16, h2⟩ else 1
/-- The sines on the lanes: zeros beside the rotary columns. -/
def laneS (s : Row 16) : Row 128 := fun j =>
  if h0 : (j : ℕ) < 64 then 0 else if h1 : (j : ℕ) - 64 < 16 then s ⟨j - 64, h1⟩
  else if h2 : (j : ℕ) - 64 - 16 < 16 then s ⟨j - 64 - 16, h2⟩ else 0

/-- A row of lanes turned back: by the tables on the lanes, the partner column's share taken away. -/
def turn (c s x : Row 128) : Row 128 := fun j => x j * c j -
  (if h : 64 ≤ (j : ℕ) ∧ (j : ℕ) < 80 then 0 - x ⟨j + 16, by omega⟩ * s ⟨j + 16, by omega⟩
   else if h : 80 ≤ (j : ℕ) ∧ (j : ℕ) < 96 then x ⟨j - 16, by omega⟩ * s ⟨j - 16, by omega⟩ else 0)

theorem turn_zero (c s : Row 128) : turn c s 0 = 0 := by
  funext j; unfold turn; split <;> [simp; split <;> simp]

theorem back_zero (c s : Row 16) : back c s 0 = 0 := by
  funext j; unfold back; split <;> [rfl; split <;> simp]

theorem turn_wide (c s : Row 16) (d : Row 96) (l : Fin 128) : turn (laneC c) (laneS s) (wide d) l = wide (back c s d) l := by
  unfold turn
  by_cases h0 : (l : ℕ) < 64
  · rw [dif_neg (by omega), dif_neg (by omega)]
    simp [wide, laneC, back, h0, show (l : ℕ) < 96 by omega]
  by_cases h1 : (l : ℕ) < 80
  · have a0 : (l : ℕ) < 96 := by omega
    have a1 : (l : ℕ) - 64 < 16 := by omega
    have a2 : (l : ℕ) + 16 < 96 := by omega
    have a3 : ¬ (l : ℕ) + 16 < 64 := by omega
    have a4 : ¬ (l : ℕ) + 16 - 64 < 16 := by omega
    have a5 : (l : ℕ) + 16 - 64 - 16 < 16 := by omega
    rw [dif_pos ⟨by omega, h1⟩]
    simp only [wide, laneC, laneS, back, h0, h1, a0, a1, a2, a3, a4, a5, dif_pos, dif_neg, not_false_eq_true, zero_sub, sub_eq_add_neg, neg_neg]
    rw [show (⟨(l : ℕ) + 16 - 64 - 16, a5⟩ : Fin 16) = ⟨l - 64, a1⟩ from Fin.ext (by show (l : ℕ) + 16 - 64 - 16 = l - 64; omega), zero_add, neg_neg]
  by_cases h2 : (l : ℕ) < 96
  · have a1 : ¬ (l : ℕ) - 64 < 16 := by omega
    have a2 : (l : ℕ) - 64 - 16 < 16 := by omega
    have a3 : (l : ℕ) - 16 < 96 := by omega
    have a4 : ¬ (l : ℕ) - 16 < 64 := by omega
    have a5 : (l : ℕ) - 16 - 64 < 16 := by omega
    rw [dif_neg (by omega), dif_pos ⟨by omega, h2⟩]
    simp only [wide, laneC, laneS, back, h0, h1, h2, a1, a2, a3, a4, a5, dif_pos, dif_neg, not_false_eq_true]
    exact congrArg₂ (fun i i' => d _ * c i - _ * s i') (Fin.ext (by show (l : ℕ) - 64 - 16 = l - 80; omega)) (Fin.ext (by show (l : ℕ) - 16 - 64 = l - 80; omega))
  · rw [dif_neg (by omega), dif_neg (by omega), wide_hi _ _ h2, wide_hi _ _ h2]
    simp

/-! A row of padding sends nothing anywhere. -/

theorem bq_pad (h : Fin 8) : bq .pad h = 0 := back_zero _ _
theorem bk_pad (h : Fin 8) : bk .pad h = 0 := back_zero _ _
theorem closed_zero (x : Row 96) : closed x 0 = 0 := by funext j; simp [closed]

section
variable (hP : ∀ x, P x 0 = 0)
include hP
theorem dxq_pad (h : Fin 8) : dxq w .pad P h = 0 := by
  unfold dxq; rw [bq_pad]
  exact (congrArg (P _) (by funext j; simp)).trans (hP _)
theorem dxk_pad (h : Fin 8) : dxk w .pad P h = 0 := by
  unfold dxk; rw [bk_pad]
  exact (congrArg (P _) (by funext j; simp)).trans (hP _)
theorem dqraw_pad : dqraw w .pad P = 0 := by funext l; simp [dqraw, dxq_pad w P hP, wide_zero]
theorem dkraw_pad : dkraw w .pad P = 0 := by funext l; simp [dkraw, dxk_pad w P hP, wide_zero]
theorem dcqn_pad : dcqn w .pad P = 0 := by funext l; simp [dcqn, dxq_pad w P hP]
theorem dckvk_pad : dckvk w .pad P = 0 := by funext l; simp [dckvk, dxk_pad w P hP, first]
theorem dkr_pad : dkr w .pad P = 0 := by funext l; simp [dkr, dxk_pad w P hP]
end
theorem qgTerm_pad : qgTerm w .pad = 0 := by
  funext l; simp only [qgTerm, bq_pad]; exact Finset.sum_eq_zero fun h _ => by simp [wide]
theorem kgTerm_pad : kgTerm w .pad = 0 := by
  funext l; simp only [kgTerm, bk_pad]; exact Finset.sum_eq_zero fun h _ => by simp [wide]

/-- The products over the kernel's 1024 lanes, the lanes past a head's columns holding nothing. -/
theorem sum_dqraw (k : Fin 384) : ∑ l, dqraw w r P l * (if h : (l : ℕ) % 128 < 96 then w.wuq k (colQ (headK l) ⟨l % 128, h⟩) else 0) = dcqn w r P k := by
  refine (Finset.sum_of_injOn (fun l : Fin 768 => colK (headQ l) ⟨laneQ l, by omega⟩) (fun a _ b _ e => Fin.ext ?_)
    (fun _ _ => Finset.mem_coe.mpr (Finset.mem_univ _)) (fun l _ hl => ?_) fun l _ => ?_).symm
  · have e' : 128 * ((a : ℕ) / 96) + a % 96 = 128 * ((b : ℕ) / 96) + b % 96 := congrArg Fin.val e
    omega
  · have hn : ¬ (l : ℕ) % 128 < 96 := fun h =>
      hl ⟨colQ (headK l) ⟨l % 128, h⟩, Finset.mem_coe.mpr (Finset.mem_univ _), Fin.ext (by simp only [colQ, colK, headK, headQ, laneQ]; omega)⟩
    rw [dif_neg hn, mul_zero]
  · have eh : headK (colK (headQ l) ⟨laneQ l, by omega⟩) = headQ l := Fin.ext (by simp only [colK, headK, headQ, laneQ]; omega)
    have el : laneK (colK (headQ l) ⟨laneQ l, by omega⟩) = ⟨laneQ l, by omega⟩ := Fin.ext (by simp only [colK, laneK, headQ, laneQ]; omega)
    have hm : ((colK (headQ l) ⟨laneQ l, by omega⟩ : Fin 1024) : ℕ) % 128 < 96 := by simp only [colK, headQ, laneQ]; omega
    rw [dif_pos hm, dqraw, eh, el, wide_lo]
    exact congrArg (fun i => _ * w.wuq k i) (Fin.ext (by simp only [colQ, colK, headQ, laneQ, headK]; omega))

theorem sum_dkraw (k : Fin 256) : ∑ l, dkraw w r P l * (if (l : ℕ) % 128 < 64 then w.wukv k l else 0) = dckvk w r P k := by
  refine Finset.sum_congr rfl fun l _ => ?_
  unfold dkraw first
  by_cases h : (l : ℕ) % 128 < 64
  · rw [if_pos h, dif_pos (show (laneK l : ℕ) < 64 from h), wide, dif_pos (show (laneK l : ℕ) < 96 from by simp only [laneK]; omega)]
  · rw [if_neg h, dif_neg (show ¬ (laneK l : ℕ) < 64 from h), mul_zero, zero_mul]

/-- The angle of a position's pair of rotary columns, and its cosine and sine. -/
def angle (s : ℕ) (a : Fin 16) : EReal :=
  (((BitVec.ofNat 32 s).toInt : ℝ) : EReal) * Ideal.div 1
    (Ideal.pow (Ideal.ofBits .f32 0x461C4000#32) (Ideal.div (((BitVec.ofNat 32 a).toInt : ℝ) : EReal) (Ideal.ofBits .f32 0x41800000#32)))
def cosAt (s : ℕ) : Row 16 := fun a => Ideal.cos (angle s a)
def sinAt (s : ℕ) : Row 16 := fun a => Ideal.sin (angle s a)

def weightsOf (qag : FVec Ideal ⟨1, ![384]⟩ .f32) (wuq : FVec Ideal ⟨2, ![384, 768]⟩ .f32) (kvag : FVec Ideal ⟨1, ![256]⟩ .f32)
    (wukv : FVec Ideal ⟨2, ![256, 1024]⟩ .f32) (qg kg : FVec Ideal ⟨1, ![96]⟩ .f32) : Weights where
  qag j := qag (ix1 j)
  wuq k j := wuq (ix2 k j)
  kvag j := kvag (ix1 j)
  wukv k j := wukv (ix2 k j)
  qg j := qg (ix1 j)
  kg j := kg (ix1 j)

/-- A row of a sequence. -/
def rowOf (cq : FVec Ideal ⟨3, ![2, 2064, 384]⟩ .f32) (ckv : FVec Ideal ⟨3, ![2, 2064, 256]⟩ .f32) (kr : FVec Ideal ⟨3, ![2, 2064, 32]⟩ .f32)
    (dq dk : FVec Ideal ⟨4, ![2, 2064, 8, 96]⟩ .f32) (b : Fin 2) (s : Fin 2064) : RowIn where
  cq j := cq (ix3 b s j)
  ckv j := ckv (ix3 b s j)
  kr j := kr (ix3 b s j)
  dq h j := dq (ix4 b s h j)
  dk h j := dk (ix4 b s h j)
  c := cosAt s
  s := sinAt s

end Cert.Head

end
-- ==== Proof.HeadPay.lean ====
/- What the body of the heads' gradient computes, element by element: every head by the same functions. -/
module

public import proofs.«01_k».proof.Proof.Gen.Kernel3Ideal.Skeleton
public import proofs.«01_k».proof.Proof.HeadSpec
public import Idealize.ShloMosaic.Lib.Pointwise

@[expose] public section

set_option maxRecDepth 16384

noncomputable section

open Idealize.ShloMosaic Idealize.ShloMosaic.TcCoe Idealize.SL.Sem

namespace Cert.Kernel3Ideal.Value
open Cert.Kernel3Ideal Cert.Kernel3Ideal.Gen

open Cert.Mix (Row meanSq inv slope unit share pull)
open Cert.Lat (c384 c256)
open Cert.Head Cert.Packing

theorem named_384 : Named.named (F := Ideal) (φ := .f32) κ "inv_384" 0x3B2AAAAB#32 = c384 :=
  IdealRules.named_const.ideal_named_scalar _ _ _ _ rfl
theorem named_96 : Named.named (F := Ideal) (φ := .f32) κ "inv_96" 0x3C2AAAAB#32 = c96 :=
  IdealRules.named_const.ideal_named_scalar _ _ _ _ rfl

/-- A head's lanes of the projected columns. -/
abbrev cut (o : ℕ) (x : FVec Ideal S256x1024 .f32) (ho : S256x1024.Slices ![0, o] S256x128) : FVec Ideal S256x128 .f32 :=
  extractStridedSlice S256x128 ![0, o] x ho

/-- The latents and the rotary columns side by side. -/
abbrev panelOf (r : RowIn) : Row 768 := Cert.Lat.panel ⟨r.cq, r.ckv, r.kr, 0, 0, 0⟩
/-- The rotary columns at lanes 64 to 95. -/
abbrev krl (r : RowIn) : Row 128 := Cert.Lat.krl ⟨r.cq, r.ckv, r.kr, 0, 0, 0⟩
/-- The queries' projection on the kernel's lanes. -/
def wqLane (w : Weights) (l : Fin 1024) (k : Fin 384) : EReal := if h : (l : ℕ) % 128 < 96 then w.wuq k (colQ (headK l) ⟨l % 128, h⟩) else 0
/-- The keys' projection on the kernel's lanes. -/
def wkLane (w : Weights) (l : Fin 1024) (k : Fin 256) : EReal := if (l : ℕ) % 128 < 64 then w.wukv k l else 0

section
variable {v3 : FVec Ideal S256x768 .f32} {v6 : FVec Ideal S384 .f32} {v21 : FVec Ideal S256 .f32} {w : Weights} {r : RowIn} {i : Fin 256}
variable (h3 : ∀ k, v3 (ix2 i k) = panelOf r k)
include h3

theorem pay5_at (j : Fin 128) : k0_pay5 (F := Ideal) v3 (ix2 i j) = krl r j := by
  pointwise [k0_pay5, k0_pay4]
  refine (h3 _).trans ?_
  unfold panelOf Cert.Lat.panel
  rw [dif_neg (by simp; omega), dif_neg (by simp; omega)]
  exact congrArg (krl r) (Fin.ext (by simp; omega))
theorem pay6_at (h6 : ∀ j, v6 (ix1 j) = w.qag j) (j : Fin 384) : k0_pay6 (F := Ideal) v3 v6 (ix2 i j) = cqn w r j := by
  pointwise [k0_pay6, k0_pay4]
  simp only [h3, h6, Cert.Lat.panel_lo, named_384]
  rfl
theorem pay7_at (h21 : ∀ j, v21 (ix1 j) = w.kvag j) (j : Fin 256) : k0_pay7 (F := Ideal) v3 v21 (ix2 i j) = ckvn w r j := by
  pointwise [k0_pay7, k0_pay4]
  simp only [h3, h21, Cert.Lat.panel_hi]
  rfl
end

section
variable {v36 : FVec Ideal S256x384 .bf16} {v53 : FVec Ideal S1024x384 .bf16} {v37 : FVec Ideal S256x256 .bf16} {v56 : FVec Ideal S1024x256 .bf16}
variable {w : Weights} {r : RowIn} {i : Fin 256}

theorem pay14_at (h36 : ∀ k, v36 (ix2 i k) = cqn w r k) (h53 : ∀ l k, v53 (ix2 l k) = wqLane w l k) (l : Fin 1024) :
    k0_pay14 (F := Ideal) v36 v53 (ix2 i l) = wide (xq w r (headK l)) (laneK l) := by
  pointwise [k0_pay14]
  simp only [h36, h53, wqLane, wide, laneK]
  by_cases h : (l : ℕ) % 128 < 96
  · simp only [h, dif_pos, ↓reduceDIte, xq]
  · simp [h]

theorem pay15_at (h37 : ∀ k, v37 (ix2 i k) = ckvn w r k) (h56 : ∀ l k, v56 (ix2 l k) = wkLane w l k) (l : Fin 1024) :
    k0_pay15 (F := Ideal) v37 v56 (ix2 i l) = if (l : ℕ) % 128 < 64 then ∑ k, ckvn w r k * w.wukv k l else 0 := by
  pointwise [k0_pay15]
  simp only [h37, h56, wkLane]
  by_cases h : (l : ℕ) % 128 < 64
  · simp only [h, if_pos]
  · simp [h]

end

theorem cut_at {x : FVec Ideal S256x1024 .f32} (h : Fin 8) (ho : S256x1024.Slices ![0, 128 * (h : ℕ)] S256x128) (i : Fin 256) (j : Fin 128) :
    cut (128 * h) x ho (ix2 i j) = x (ix2 i (colK h j)) := by
  pointwise [cut]
  rfl

theorem headK_colK (h : Fin 8) (j : Fin 128) : headK (colK h j) = h := Fin.ext (by simp only [headK, colK]; omega)
theorem laneK_colK (h : Fin 8) (j : Fin 128) : laneK (colK h j) = j := Fin.ext (by simp only [laneK, colK]; omega)

theorem query_at {x : FVec Ideal S256x1024 .f32} {w : Weights} {r : RowIn} {i : Fin 256} (hx : ∀ l, x (ix2 i l) = wide (xq w r (headK l)) (laneK l))
    (h : Fin 8) (ho : S256x1024.Slices ![0, 128 * (h : ℕ)] S256x128) (j : Fin 128) : cut (128 * h) x ho (ix2 i j) = wide (xq w r h) j := by
  rw [cut_at, hx, headK_colK, laneK_colK]

theorem key_at {x : FVec Ideal S256x1024 .f32} {kp : FVec Ideal S256x128 .f32} {w : Weights} {r : RowIn} {i : Fin 256}
    (hx : ∀ l : Fin 1024, x (ix2 i l) = if (l : ℕ) % 128 < 64 then ∑ k, ckvn w r k * w.wukv k l else 0) (hk : ∀ j, kp (ix2 i j) = krl r j)
    (h : Fin 8) (ho : S256x1024.Slices ![0, 128 * (h : ℕ)] S256x128) (j : Fin 128) : addf (cut (128 * h) x ho) kp (ix2 i j) = wide (xk w r h) j := by
  show cut (128 * h) x ho (ix2 i j) + kp (ix2 i j) = _
  have e : ((colK h j : Fin 1024) : ℕ) % 128 = j := by simp only [colK]; omega
  rw [cut_at, hx, hk, e]
  unfold krl Cert.Lat.krl wide xk
  by_cases h0 : (j : ℕ) < 64
  · rw [if_pos h0, dif_neg (by omega), dif_pos (by omega), dif_pos h0, add_zero]
  rw [if_neg h0, zero_add]
  by_cases h1 : (j : ℕ) < 96
  · rw [dif_pos ⟨by omega, by omega⟩, dif_pos h1, dif_neg h0]
  · rw [dif_neg (by omega), dif_neg h1]

/-- A row of the tables on the lanes: the position's, or any where the cotangent is nothing. -/
abbrev Tables (cs sn : FVec Ideal S256x128 .f32) (i : Fin 256) (C S : Row 16) (D : Row 96) : Prop :=
  (∀ j, cs (ix2 i j) = laneC C j ∧ sn (ix2 i j) = laneS S j) ∨ D = 0

theorem lanes_a : ∀ j : Fin 128, Scalar.andi (Scalar.cmpi .sge (BitVec.ofNat 32 j) 64#32) (Scalar.cmpi .slt (BitVec.ofNat 32 j) 80#32)
    = if 64 ≤ (j : ℕ) ∧ (j : ℕ) < 80 then 1#1 else 0#1 := by decide +kernel
theorem lanes_b : ∀ j : Fin 128, Scalar.andi (Scalar.cmpi .sge (BitVec.ofNat 32 j) 80#32) (Scalar.cmpi .slt (BitVec.ofNat 32 j) 96#32)
    = if 80 ≤ (j : ℕ) ∧ (j : ℕ) < 96 then 1#1 else 0#1 := by decide +kernel

section
variable {cs sn x d : FVec Ideal S256x128 .f32} {g : FVec Ideal S128 .f32} {i : Fin 256} {X D G : Row 96} {C S : Row 16}

theorem turn_at (j : Fin 128) : k0_pay80 (F := Ideal) cs sn d (ix2 i j)
    = turn (fun j => cs (ix2 i j)) (fun j => sn (ix2 i j)) (fun j => d (ix2 i j)) j := by
  pointwise [k0_pay80]
  let lo : Fin 128 := ⟨((j : ℕ) + 128 - 112) % 128, Nat.mod_lt _ (by decide)⟩
  let hi : Fin 128 := ⟨((j : ℕ) + 128 - 16) % 128, Nat.mod_lt _ (by decide)⟩
  show d (ix2 i j) * cs (ix2 i j) - Scalar.select (Scalar.andi (Scalar.cmpi .sge (BitVec.ofNat 32 j) 64#32) (Scalar.cmpi .slt (BitVec.ofNat 32 j) 80#32))
    (0 - d (ix2 i lo) * sn (ix2 i lo)) (Scalar.select (Scalar.andi (Scalar.cmpi .sge (BitVec.ofNat 32 j) 80#32) (Scalar.cmpi .slt (BitVec.ofNat 32 j) 96#32))
    (d (ix2 i hi) * sn (ix2 i hi)) 0) = _
  rw [lanes_a, lanes_b]
  simp only [turn]
  by_cases h0 : 64 ≤ (j : ℕ) ∧ (j : ℕ) < 80
  · have p : lo = ⟨j + 16, by omega⟩ := Fin.ext (by show ((j : ℕ) + 128 - 112) % 128 = j + 16; omega)
    rw [dif_pos h0, if_pos h0, p]
    rfl
  rw [if_neg h0, dif_neg h0]
  by_cases h1 : 80 ≤ (j : ℕ) ∧ (j : ℕ) < 96
  · have p : hi = ⟨j - 16, by omega⟩ := Fin.ext (by show ((j : ℕ) + 128 - 16) % 128 = j - 16; omega)
    rw [dif_pos h1, if_pos h1, p]
    rfl
  · rw [if_neg h1, dif_neg h1]
    rfl

theorem inv_at (hx : ∀ j, x (ix2 i j) = wide X j) (z : Fin 1) : k0_pay78 (F := Ideal) x (ix2 i z) = inv c96 X := by
  pointwise [k0_pay78]
  simp only [hx, named_96, wide_mul, sum_wide]
  rfl

theorem unit_at (hx : ∀ j, x (ix2 i j) = wide X j) (j : Fin 128) : k0_pay79 (F := Ideal) x (ix2 i j) = wide (unit c96 X) j := by
  pointwise [k0_pay79]
  rw [inv_at hx, hx, wide_scale]
  rfl

theorem back_at (hd : ∀ j, d (ix2 i j) = wide D j) (ht : Tables cs sn i C S D) (j : Fin 128) :
    k0_pay80 (F := Ideal) cs sn d (ix2 i j) = wide (back C S D) j := by
  rw [turn_at, show (fun j => d (ix2 i j)) = wide D from funext hd]
  rcases ht with ht | ht
  · rw [show (fun j => cs (ix2 i j)) = laneC C from funext fun j => (ht j).1, show (fun j => sn (ix2 i j)) = laneS S from funext fun j => (ht j).2,
      turn_wide]
  · rw [ht, wide_zero, turn_zero, back_zero, wide_zero]

theorem grad_at (hx : ∀ j, x (ix2 i j) = wide X j) (hd : ∀ j, d (ix2 i j) = wide D j) (hg : ∀ j, g (ix1 j) = wide G j)
    (ht : Tables cs sn i C S D) (j : Fin 128) :
    k0_pay81 (F := Ideal) cs sn x g d (ix2 i j) = wide (closed X fun j => G j * back C S D j) j := by
  pointwise [k0_pay81]
  simp only [inv_at hx, unit_at hx, back_at hd ht, hg, named_96, wide_mul, sum_wide]
  rw [wide_scale, wide_sub, scale_wide]
  rfl

end

theorem scale_at {cs sn x d : FVec Ideal S256x128 .f32} {X D : Fin 256 → Row 96} {C S : Fin 256 → Row 16}
    (hx : ∀ i j, x (ix2 i j) = wide (X i) j) (hd : ∀ i j, d (ix2 i j) = wide (D i) j) (ht : ∀ i, Tables cs sn i (C i) (S i) (D i)) (j : Fin 128) :
    k0_pay82 (F := Ideal) cs sn x d (ix1 j) = ∑ i, wide (fun j => unit c96 (X i) j * back (C i) (S i) (D i) j) j := by
  pointwise [k0_pay82]
  simp only [fun i => unit_at (hx i), fun i => back_at (hd i) (ht i), wide_mul]
  exact Finset.sum_congr rfl fun i _ => congrFun (congrArg wide (funext fun j => mul_comm _ _)) j

theorem pay76_eq (v : FVec Ideal S128 .f32) (j : Fin 128) : k0_pay76 (F := Ideal) v (ix1 j) = v (ix1 j) := by pointwise [k0_pay76]
theorem pay77_eq (v : FVec Ideal S256x128 .f32) (i : Fin 256) (j : Fin 128) : k0_pay77 (F := Ideal) v (ix2 i j) = v (ix2 i j) := by pointwise [k0_pay77]
theorem pay8_eq (v : FVec Ideal S256x128 .f32) (i : Fin 256) (j : Fin 128) : k0_pay8 (F := Ideal) v (ix2 i j) = v (ix2 i j) := by pointwise [k0_pay8]
theorem pay9_eq (v : FVec Ideal S256x128 .f32) (i : Fin 256) (j : Fin 128) : k0_pay9 (F := Ideal) v (ix2 i j) = v (ix2 i j) := by pointwise [k0_pay9]
theorem pay2_at (y : S1x128.Idx) : k0_pay2 (F := Ideal) y = (0 : EReal) := by pointwise [k0_pay2]
theorem pay3_at (y : S1x128.Idx) : k0_pay3 (F := Ideal) y = (0 : EReal) := by pointwise [k0_pay3]
theorem pay11_at (y : S256x128.Idx) : k0_pay11 (F := Ideal) y = (0 : EReal) := by pointwise [k0_pay11]
theorem pay12_at (y : S1x128.Idx) : k0_pay12 (F := Ideal) y = (0 : EReal) := by pointwise [k0_pay12]
theorem pay13_at (y : S1x128.Idx) : k0_pay13 (F := Ideal) y = (0 : EReal) := by pointwise [k0_pay13]
theorem pay83_at (a : FVec Ideal S1x128 .f32) (s : FVec Ideal S128 .f32) (z : Fin 1) (j : Fin 128) :
    k0_pay83 (F := Ideal) a s (ix2 z j) = a (ix2 z j) + s (ix1 j) := by pointwise [k0_pay83]
theorem pay84_eq (v : FVec Ideal S256x128 .f32) (i : Fin 256) (j : Fin 128) : k0_pay84 (F := Ideal) v (ix2 i j) = v (ix2 i j) := by pointwise [k0_pay84]
theorem pay1_at (s a : FVec Ideal S1x128 .f32) (y : S1x128.Idx) : k0_pay1 (F := Ideal) s a y = a y + s y := by
  idx_vars y; pointwise [k0_pay1]
theorem pay202_at (s a : FVec Ideal S1x128 .f32) (y : S1x128.Idx) : k0_pay202 (F := Ideal) s a y = a y + s y := by
  idx_vars y; pointwise [k0_pay202]

/-- The lanes of the rotary columns. -/
def lanes : Row 128 := fun j => if 64 ≤ (j : ℕ) ∧ (j : ℕ) < 96 then 1 else 0
theorem lanes_c : ∀ j : Fin 128, Scalar.andi (Scalar.cmpi .sge (BitVec.ofNat 32 j) 64#32) (Scalar.cmpi .slt (BitVec.ofNat 32 j) 96#32)
    = if 64 ≤ (j : ℕ) ∧ (j : ℕ) < 96 then 1#1 else 0#1 := by decide +kernel
theorem pay10_at (z : Fin 1) (j : Fin 128) : k0_pay10 (F := Ideal) (ix2 z j) = lanes j := by
  have e := lanes_c j
  pointwise [k0_pay10]
  show ((((Scalar.andi (Scalar.cmpi .sge (BitVec.ofNat 32 j) 64#32) (Scalar.cmpi .slt (BitVec.ofNat 32 j) 96#32)).setWidth 32).toInt : ℝ) : EReal) = _
  rw [e, lanes]
  split
  · rw [show (BitVec.setWidth 32 1#1).toInt = 1 from by decide]; norm_num
  · rw [show (BitVec.setWidth 32 0#1).toInt = 0 from by decide]; norm_num
theorem pay85_at (l : FVec Ideal S1x128 .f32) (a x : FVec Ideal S256x128 .f32) (i : Fin 256) (j : Fin 128) :
    k0_pay85 (F := Ideal) l a x (ix2 i j) = a (ix2 i j) + x (ix2 i j) * l (ix2 0 j) := by pointwise [k0_pay85]
theorem pay200_at (x : FVec Ideal S256x1024 .bf16) (y : FVec Ideal S1024x384 .bf16) (i : Fin 256) (k : Fin 384) :
    k0_pay200 (F := Ideal) x y (ix2 i k) = ∑ l, x (ix2 i l) * y (ix2 l k) := by pointwise [k0_pay200]
theorem pay201_at (x : FVec Ideal S256x1024 .bf16) (y : FVec Ideal S1024x256 .bf16) (i : Fin 256) (k : Fin 256) :
    k0_pay201 (F := Ideal) x y (ix2 i k) = ∑ l, x (ix2 i l) * y (ix2 l k) := by pointwise [k0_pay201]

end Cert.Kernel3Ideal.Value

end
-- ==== Proof.HeadHost.lean ====
/- The arrays the heads' gradient takes, element by element: the rows padded and packed, the projections turned and set on the lanes, the
   tables of the positions. -/
module

public import proofs.«01_k».proof.Proof.HeadPay
public import proofs.«01_k».proof.Proof.Gen.Kernel3Ideal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel3Ideal.Value
open Cert.Kernel3Ideal Cert.Kernel3Ideal.Gen

open Cert.Mix (Row meanSq inv slope unit share pull)
open Cert.Lat (c384 c256)
open Cert.Head Cert.Packing

variable (m : (ℓ : Loc nD τ sig) → Buf (Elt Ideal) ℓ) (c : Dev nD)

/-- The arguments of a device. -/
abbrev arg (b : Ref sig .tc) : Buf (Elt Ideal) ((c : Thread nD τ).loc b) := m ((c : Thread nD τ).loc b)

/-- The weights of a device. -/
abbrev wts : Weights := weightsOf (arg m c main_arg3) (arg m c main_arg4) (arg m c main_arg5) (arg m c main_arg6) (arg m c main_arg7) (arg m c main_arg8)
/-- A row of a device's sequence. -/
abbrev inRow (b : Fin 2) (s : Fin 2064) : RowIn :=
  rowOf (arg m c main_arg0) (arg m c main_arg1) (arg m c main_arg2) (arg m c main_arg9) (arg m c main_arg10) b s
/-- A packed row of a device. -/
abbrev rowAt (b : Fin 2) (s : Fin 2176) : RowIn := packed (inRow m c) .pad b s

/-- The zero that fills the padding. -/
abbrev zeroF : FVec Ideal S_ .f32 := sitofp .f32 (constantI S_ 32 0#32)

abbrev pad768 (x : FVec Ideal S2x2064x768 .f32) : FVec Ideal S2x2176x768 .f32 :=
  pad S2x2176x768 ![0, 0, 0] ![0, 112, 0] ![0, 0, 0] x zeroF pads_S2x2064x768_S2x2176x768_000_01120_000 h_S_
abbrev padKr (x : FVec Ideal S2x2064x32 .f32) : FVec Ideal S2x2064x128 .f32 :=
  pad S2x2064x128 ![0, 0, 64] ![0, 0, 32] ![0, 0, 0] x zeroF pads_S2x2064x32_S2x2064x128_000_000_64320 h_S_
/-- The latents and the rotary columns side by side. -/
abbrev beside : FVec Ideal S2x2064x768 .f32 := concatenate S2x2064x768 2
  [⟨S2x2064x384, (arg m c main_arg0 : FVec Ideal S2x2064x384 .f32)⟩, ⟨S2x2064x256, (arg m c main_arg1 : FVec Ideal S2x2064x256 .f32)⟩,
    ⟨S2x2064x128, padKr (arg m c main_arg2)⟩] concatenates_S2x2064x384_S2x2064x256_S2x2064x128_S2x2064x768_d2

abbrev padHeads (x : FVec Ideal S2x2064x8x96 .f32) : FVec Ideal S2x2064x8x128 .f32 :=
  pad S2x2064x8x128 ![0, 0, 0, 0] ![0, 0, 0, 32] ![0, 0, 0, 0] x zeroF pads_S2x2064x8x96_S2x2064x8x128_000_000_000_0320 h_S_
abbrev pad1024 (x : FVec Ideal S2x2064x1024 .f32) : FVec Ideal S2x2176x1024 .f32 :=
  pad S2x2176x1024 ![0, 0, 0] ![0, 112, 0] ![0, 0, 0] x zeroF pads_S2x2064x1024_S2x2176x1024_000_01120_000 h_S_
/-- The heads' rows on the lanes, padded and packed. -/
abbrev packHeads (x : FVec Ideal S2x2064x8x96 .f32) : FVec Ideal S4352x1024 .f32 :=
  shapeCast S4352x1024 (pad1024 (shapeCast S2x2064x1024 (padHeads x) shapeCasts_S2x2064x8x128_S2x2064x1024)) shapeCasts_S2x2176x1024_S4352x1024
abbrev pad96 (x : FVec Ideal S96 .f32) : FVec Ideal S128 .f32 := pad S128 ![0] ![32] ![0] x zeroF pads_S96_S128_0320 h_S_
/-- The queries' projection, turned, each head's columns on 128 lanes. -/
abbrev padQ (x : FVec Ideal S384x768 .f32) : FVec Ideal S1024x384 .bf16 :=
  shapeCast S1024x384 (truncf .bf16 (pad S8x128x384 ![0, 0, 0] ![0, 32, 0] ![0, 0, 0] (shapeCast S8x96x384 (transpose S768x384 [1, 0] x transposes_S384x768_S768x384_1_0) shapeCasts_S768x384_S8x96x384) zeroF pads_S8x96x384_S8x128x384_000_0320_000 h_S_) bitsLt_bf16_f32) shapeCasts_S8x128x384_S1024x384
/-- The keys' columns of the second projection, turned, each head's on 128 lanes. -/
abbrev padK (x : FVec Ideal S256x1024 .f32) : FVec Ideal S1024x256 .bf16 :=
  shapeCast S1024x256 (truncf .bf16 (pad S8x128x256 ![0, 0, 0] ![0, 64, 0] ![0, 0, 0] (extractStridedSlice S8x64x256 ![0, 0, 0] (shapeCast S8x128x256 (transpose S1024x256 [1, 0] x transposes_S256x1024_S1024x256_1_0) shapeCasts_S1024x256_S8x128x256) slices_S8x128x256_S8x64x256_0_0_0) zeroF pads_S8x64x256_S8x128x256_000_0640_000 h_S_) bitsLt_bf16_f32) shapeCasts_S8x128x256_S1024x256
/-- The positions' angles. -/
abbrev angles : FVec Ideal S2176x16 .f32 :=
  mulf (broadcastInDim S2176x16 ![0, 1] bcast_S2176x1_S2176x16_0_1 (broadcastInDim S2176x1 ![0] bcast_S2176_S2176x1_0 (sitofp .f32 (iotaInDim S2176 32 0) : FVec Ideal S2176 .f32)))
    (broadcastInDim S2176x16 ![0, 1] bcast_S1x16_S2176x16_0_1 (broadcastInDim S1x16 ![1] bcast_S16_S1x16_1 (Host.divf (broadcastInDim S16 ![] bcast_S_S16 (constant (F := Ideal) S_ .f32 0x3F800000#32))
      (Host.powf (broadcastInDim S16 ![] bcast_S_S16 (constant (F := Ideal) S_ .f32 0x461C4000#32)) (Host.divf (sitofp .f32 (iotaInDim S16 32 0)) (broadcastInDim S16 ![] bcast_S_S16 (constant (F := Ideal) S_ .f32 0x41800000#32)))))))
/-- A table on the lanes, the same for both sequences. -/
abbrev both (x : FVec Ideal S2176x128 .f32) : FVec Ideal S4352x128 .f32 :=
  shapeCast S4352x128 (broadcastInDim S2x2176x1x128 ![0, 1, 2, 3] bcast_S1x2176x1x128_S2x2176x1x128_0_1_2_3 (shapeCast S1x2176x1x128 x shapeCasts_S2176x128_S1x2176x1x128)) shapeCasts_S2x2176x1x128_S4352x128
abbrev lay (u : FVec Ideal S2176x64 .f32) (x y : FVec Ideal S2176x16 .f32) (v : FVec Ideal S2176x32 .f32) : FVec Ideal S2176x128 .f32 :=
  concatenate S2176x128 1 [⟨S2176x64, u⟩, ⟨S2176x16, x⟩, ⟨S2176x16, y⟩, ⟨S2176x32, v⟩] concatenates_S2176x64_S2176x16_S2176x16_S2176x32_S2176x128_d1

theorem entry_v45 : V m c main_v45 = (shapeCast S4352x768 (pad768 (beside m c)) shapeCasts_S2x2176x768_S4352x768 : FVec Ideal S4352x768 .f32) := by
  entry_read
  rfl
theorem entry_v46 : V m c main_v46 = padHeads (arg m c main_arg9) := by
  entry_read
  rfl
theorem step_v47 : V m c main_v47 = (shapeCast S2x2064x1024 (V m c main_v46 : FVec Ideal S2x2064x8x128 .f32) shapeCasts_S2x2064x8x128_S2x2064x1024 : FVec Ideal S2x2064x1024 .f32) := by
  entry_read
  rfl
theorem step_v48 : V m c main_v48 = pad1024 (V m c main_v47 : FVec Ideal S2x2064x1024 .f32) := by
  entry_read
  rfl
theorem step_v49 : V m c main_v49 = (shapeCast S4352x1024 (V m c main_v48 : FVec Ideal S2x2176x1024 .f32) shapeCasts_S2x2176x1024_S4352x1024 : FVec Ideal S4352x1024 .f32) := by
  entry_read
  rfl
theorem entry_v49 : V m c main_v49 = packHeads (arg m c main_arg9) := by
  rw [step_v49, step_v48, step_v47, entry_v46]
theorem entry_v50 : V m c main_v50 = padHeads (arg m c main_arg10) := by
  entry_read
  rfl
theorem step_v51 : V m c main_v51 = (shapeCast S2x2064x1024 (V m c main_v50 : FVec Ideal S2x2064x8x128 .f32) shapeCasts_S2x2064x8x128_S2x2064x1024 : FVec Ideal S2x2064x1024 .f32) := by
  entry_read
  rfl
theorem step_v52 : V m c main_v52 = pad1024 (V m c main_v51 : FVec Ideal S2x2064x1024 .f32) := by
  entry_read
  rfl
theorem step_v53 : V m c main_v53 = (shapeCast S4352x1024 (V m c main_v52 : FVec Ideal S2x2176x1024 .f32) shapeCasts_S2x2176x1024_S4352x1024 : FVec Ideal S4352x1024 .f32) := by
  entry_read
  rfl
theorem entry_v53 : V m c main_v53 = packHeads (arg m c main_arg10) := by
  rw [step_v53, step_v52, step_v51, entry_v50]
theorem entry_v11 : V m c main_v11 = pad96 (arg m c main_arg7) := by
  entry_read
  rfl
theorem entry_v12 : V m c main_v12 = pad96 (arg m c main_arg8) := by
  entry_read
  rfl
theorem entry_v8 : V m c main_v8 = padQ (arg m c main_arg4) := by
  entry_read
  rfl
theorem entry_v10 : V m c main_v10 = padK (arg m c main_arg6) := by
  entry_read
  rfl
theorem entry_v38 : V m c main_v38 = both (lay (broadcastInDim S2176x64 ![] bcast_S_S2176x64 (constant (F := Ideal) S_ .f32 0x3F800000#32)) (Host.cos angles) (Host.cos angles)
    (broadcastInDim S2176x32 ![] bcast_S_S2176x32 (constant (F := Ideal) S_ .f32 0x3F800000#32))) := by
  entry_read
  rfl
theorem entry_v41 : V m c main_v41 = both (lay (broadcastInDim S2176x64 ![] bcast_S_S2176x64 (constant (F := Ideal) S_ .f32 0x00000000#32)) (Host.sin angles) (Host.sin angles)
    (broadcastInDim S2176x32 ![] bcast_S_S2176x32 (constant (F := Ideal) S_ .f32 0x00000000#32))) := by
  entry_read
  rfl

theorem weight_qg (j : Fin 128) : V m c main_v11 (ix1 j) = wide (wts m c).qg j := by
  rw [entry_v11]
  pointwise [pad96]
  simp only [Cert.Mix.zero_word]
  rfl
theorem weight_kg (j : Fin 128) : V m c main_v12 (ix1 j) = wide (wts m c).kg j := by
  rw [entry_v12]
  pointwise [pad96]
  simp only [Cert.Mix.zero_word]
  rfl
theorem weight_wq (k : Fin 1024) (j : Fin 384) : V m c main_v8 (ix2 k j) = wqLane (wts m c) k j := by
  rw [entry_v8]
  pointwise [padQ]
  simp only [Cert.Mix.zero_word, show (k : ℕ) / 128 < 8 from by omega, true_and, wqLane]
  refine dite_congr rfl (fun h => congrArg (arg m c main_arg4) (congrArg (ix2 j) (Fin.ext ?_))) fun _ => rfl
  simp only [colQ, headK]
  omega
theorem weight_wk (k : Fin 1024) (j : Fin 256) : V m c main_v10 (ix2 k j) = wkLane (wts m c) k j := by
  rw [entry_v10]
  pointwise [padK]
  simp only [Cert.Mix.zero_word, show (k : ℕ) / 128 < 8 from by omega, true_and, wkLane]
  exact dite_eq_ite

section
variable (b : Fin 2) (s : Fin 2176)

theorem row_cos (j : S4352x128.Idx) (l : Fin 128) (h0 : (j 0 : ℕ) = b * 2176 + s) (h1 : (j 1 : ℕ) = l) : V m c main_v38 j = laneC (cosAt s) l := by
  have e1 : (j 0 : ℕ) % 2176 = s := by omega
  have e2 : j 1 = l := Fin.ext h1
  rw [entry_v38]
  pointwise [both, lay, angles]
  simp only [e1, e2]
  rfl
theorem row_sin (j : S4352x128.Idx) (l : Fin 128) (h0 : (j 0 : ℕ) = b * 2176 + s) (h1 : (j 1 : ℕ) = l) : V m c main_v41 j = laneS (sinAt s) l := by
  have e1 : (j 0 : ℕ) % 2176 = s := by omega
  have e2 : j 1 = l := Fin.ext h1
  rw [entry_v41]
  pointwise [both, lay, angles]
  simp only [e1, e2]
  rfl
theorem row_dq (j : S4352x1024.Idx) (l : Fin 1024) (h0 : (j 0 : ℕ) = b * 2176 + s) (h1 : (j 1 : ℕ) = l) :
    V m c main_v49 j = wide ((rowAt m c b s).dq (headK l)) (laneK l) := by
  have e0 : (j 0 : ℕ) / 2176 = b := by omega
  have e1 : (j 0 : ℕ) % 2176 = s := by omega
  have e2 : j 1 = l := Fin.ext h1
  rw [entry_v49, packed_val _ _ fun r => wide (RowIn.dq r (headK l)) (laneK l)]
  pointwise [packHeads, pad1024, padHeads]
  simp only [e0, e1, e2, Cert.Mix.zero_word, b.2, l.2, true_and, and_true]
  refine dite_congr rfl (fun h => ?_) fun _ => (congrFun wide_zero _).symm
  have h' : (s : ℕ) < 2064 := h
  simp only [h', true_and, show (l : ℕ) / 128 < 8 from by omega]
  rfl

theorem row_dk (j : S4352x1024.Idx) (l : Fin 1024) (h0 : (j 0 : ℕ) = b * 2176 + s) (h1 : (j 1 : ℕ) = l) :
    V m c main_v53 j = wide ((rowAt m c b s).dk (headK l)) (laneK l) := by
  have e0 : (j 0 : ℕ) / 2176 = b := by omega
  have e1 : (j 0 : ℕ) % 2176 = s := by omega
  have e2 : j 1 = l := Fin.ext h1
  rw [entry_v53, packed_val _ _ fun r => wide (RowIn.dk r (headK l)) (laneK l)]
  pointwise [packHeads, pad1024, padHeads]
  simp only [e0, e1, e2, Cert.Mix.zero_word, b.2, l.2, true_and, and_true]
  refine dite_congr rfl (fun h => ?_) fun _ => (congrFun wide_zero _).symm
  have h' : (s : ℕ) < 2064 := h
  simp only [h', true_and, show (l : ℕ) / 128 < 8 from by omega]
  rfl

theorem row_panel (j : S4352x768.Idx) (l : Fin 768) (h0 : (j 0 : ℕ) = b * 2176 + s) (h1 : (j 1 : ℕ) = l) :
    V m c main_v45 j = panelOf (rowAt m c b s) l := by
  have e0 : (j 0 : ℕ) / 2176 = b := by omega
  have e1 : (j 0 : ℕ) % 2176 = s := by omega
  have e2 : j 1 = l := Fin.ext h1
  rw [entry_v45, packed_val _ _ fun r => panelOf r l]
  pointwise [pad768, beside, padKr]
  simp only [e0, e1, e2, Cert.Mix.zero_word, b.2, l.2, true_and, and_true]
  refine dite_congr rfl (fun h => ?_) fun _ => (congrFun Cert.Lat.panel_pad l).symm
  have h' : (s : ℕ) < 2064 := h
  simp only [h', true_and]
  rfl

end

end Cert.Kernel3Ideal.Value

end
-- ==== Proof.HeadBlocks.lean ====
/- What a grid point of the heads' gradient reads: rows of its block, the weights. -/
module

public import proofs.«01_k».proof.Proof.HeadHost

@[expose] public section

set_option maxRecDepth 16384

noncomputable section

open Idealize.ShloMosaic Idealize.ShloMosaic.TcCoe Idealize.SL.Sem

namespace Cert.Kernel3Ideal.Value
open Cert.Kernel3Ideal Cert.Kernel3Ideal.Gen

open Cert.Mix (Row meanSq inv slope unit share pull)
open Cert.Lat (c384 c256)
open Cert.Head Cert.Packing

theorem idx_rows : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0] :=
  (by decide +kernel : ∀ t : Fin grid0.N, _)

theorem idx_weights : ∀ t : Fin cfg0.N, win0_5.index t = ![0]
    ∧ win0_6.index t = ![0, 0]
    ∧ win0_7.index t = ![0]
    ∧ win0_8.index t = ![0, 0]
    ∧ win0_9.index t = ![0]
    ∧ win0_10.index t = ![0] :=
  (by decide +kernel : ∀ t : Fin grid0.N, _)

/-- The sequence of a row of a grid point's block. -/
def seqAt (t : Fin 17) (i : Fin 256) : Fin 2 := ⟨(t * 256 + i) / 2176, by omega⟩
/-- Its place in the sequence. -/
def posAt (t : Fin 17) (i : Fin 256) : Fin 2176 := ⟨(t * 256 + i) % 2176, by omega⟩

section
variable (m : (ℓ : Loc nD τ sig) → Buf (Elt Ideal) ℓ) (c : Dev nD)

/-- A row of a grid point's block. -/
abbrev blockRow (t : Fin 17) (i : Fin 256) : RowIn := rowAt m c (seqAt t i) (posAt t i)

variable (t : Fin cfg0.N)

theorem blk_dq (i : Fin 256) (j : Fin 1024) : iblk m c 0 t (ix2 i j) = (fun l : Fin 1024 => wide ((blockRow m c t i).dq (headK l)) (laneK l)) j := by
  blk_simp [iblk]
  refine row_dq m c (seqAt t i) (posAt t i) _ j ?_ ?_
  · blk_simp [idx_rows t]
    simp only [seqAt, posAt]
    omega
  · blk_simp [idx_rows t]

theorem blk_dk (i : Fin 256) (j : Fin 1024) : iblk m c 1 t (ix2 i j) = (fun l : Fin 1024 => wide ((blockRow m c t i).dk (headK l)) (laneK l)) j := by
  blk_simp [iblk]
  refine row_dk m c (seqAt t i) (posAt t i) _ j ?_ ?_
  · blk_simp [idx_rows t]
    simp only [seqAt, posAt]
    omega
  · blk_simp [idx_rows t]

theorem blk_panel (i : Fin 256) (j : Fin 768) : iblk m c 2 t (ix2 i j) = panelOf (blockRow m c t i) j := by
  blk_simp [iblk]
  refine row_panel m c (seqAt t i) (posAt t i) _ j ?_ ?_
  · blk_simp [idx_rows t]
    simp only [seqAt, posAt]
    omega
  · blk_simp [idx_rows t]

theorem blk_cos (i : Fin 256) (j : Fin 128) : iblk m c 3 t (ix2 i j) = laneC (cosAt (posAt t i)) j := by
  blk_simp [iblk]
  refine row_cos m c (seqAt t i) (posAt t i) _ j ?_ ?_
  · blk_simp [idx_rows t]
    simp only [seqAt, posAt]
    omega
  · blk_simp [idx_rows t]

theorem blk_sin (i : Fin 256) (j : Fin 128) : iblk m c 4 t (ix2 i j) = laneS (sinAt (posAt t i)) j := by
  blk_simp [iblk]
  refine row_sin m c (seqAt t i) (posAt t i) _ j ?_ ?_
  · blk_simp [idx_rows t]
    simp only [seqAt, posAt]
    omega
  · blk_simp [idx_rows t]

theorem blk_qag (j : Fin 384) : iblk m c 5 t (ix1 j) = (wts m c).qag j := by
  blk_simp [iblk]
  refine (congrFun (V_main_arg3 m c) _).trans ?_
  refine congrArg (arg m c main_arg3) ?_
  funext a
  match a with
  | ⟨0, _⟩ => exact Fin.ext (by blk_simp [idx_weights t])

theorem blk_wq (k : Fin 1024) (j : Fin 384) : iblk m c 6 t (ix2 k j) = wqLane (wts m c) k j := by
  blk_simp [iblk]
  refine Eq.trans (congrArg (V m c _) ?_) (weight_wq m c k j)
  funext a
  match a with
  | ⟨0, _⟩ => exact Fin.ext (by blk_simp [idx_weights t])
  | ⟨1, _⟩ => exact Fin.ext (by blk_simp [idx_weights t])

theorem blk_kvag (j : Fin 256) : iblk m c 7 t (ix1 j) = (wts m c).kvag j := by
  blk_simp [iblk]
  refine (congrFun (V_main_arg5 m c) _).trans ?_
  refine congrArg (arg m c main_arg5) ?_
  funext a
  match a with
  | ⟨0, _⟩ => exact Fin.ext (by blk_simp [idx_weights t])

theorem blk_wk (k : Fin 1024) (j : Fin 256) : iblk m c 8 t (ix2 k j) = wkLane (wts m c) k j := by
  blk_simp [iblk]
  refine Eq.trans (congrArg (V m c _) ?_) (weight_wk m c k j)
  funext a
  match a with
  | ⟨0, _⟩ => exact Fin.ext (by blk_simp [idx_weights t])
  | ⟨1, _⟩ => exact Fin.ext (by blk_simp [idx_weights t])

theorem blk_qg (j : Fin 128) : iblk m c 9 t (ix1 j) = wide (wts m c).qg j := by
  blk_simp [iblk]
  refine Eq.trans (congrArg (V m c _) ?_) (weight_qg m c j)
  funext a
  match a with
  | ⟨0, _⟩ => exact Fin.ext (by blk_simp [idx_weights t])

theorem blk_kg (j : Fin 128) : iblk m c 10 t (ix1 j) = wide (wts m c).kg j := by
  blk_simp [iblk]
  refine Eq.trans (congrArg (V m c _) ?_) (weight_kg m c j)
  funext a
  match a with
  | ⟨0, _⟩ => exact Fin.ext (by blk_simp [idx_weights t])

end

end Cert.Kernel3Ideal.Value

end
-- ==== Proof.HeadBody.lean ====
/- What a grid point of the heads' gradient leaves, head by head and over the heads. -/
module

public import proofs.«01_k».proof.Proof.HeadBlocks

@[expose] public section

set_option maxRecDepth 16384

noncomputable section

open Idealize.ShloMosaic Idealize.ShloMosaic.TcCoe Idealize.SL.Sem

namespace Cert.Kernel3Ideal.Value
open Cert.Kernel3Ideal Cert.Kernel3Ideal.Gen

open Cert.Mix (Row meanSq inv slope unit share pull)
open Cert.Lat (c384 c256)
open Cert.Head Cert.Packing

/-- A head's lanes of a block of 1024, by the head's own rows. -/
theorem piece_at (p : Fin 8 → Vec Ideal S256x128 .bf16) (h : Fin 8) (o : ℕ) (ho : o = 128 * h) (inb : ∀ a, (![0, o] : Fin 2 → ℕ) a + (![256, 128] : Fin 2 → ℕ) a ≤ S256x1024.size a) (y : S256x128.Idx) :
    p h y = (fun y : S256x1024.Idx => p (headK (y 1)) (ix2 (y 0) (laneK (y 1)))) ((Rect.unit (s := S256x1024) ![0, o] ![256, 128] inb).emb y) := by
  idx_vars y
  subst ho
  have e : (Rect.unit (s := S256x1024) ![0, 128 * h] ![256, 128] inb).emb (ix2 y0 y1) = ix2 y0 (colK h y1) := by
    refine Rect.emb_eq_of_coords _ _ _ fun a => ?_
    match a with
    | ⟨0, _⟩ => simp
    | ⟨1, _⟩ => simp [colK]
  rw [e]
  show p h (ix2 y0 y1) = p (headK (colK h y1)) (ix2 y0 (laneK (colK h y1)))
  rw [headK_colK, laneK_colK]

theorem piece_mem (h : Fin 8) (o : ℕ) (ho : o = 128 * h) (inb : ∀ a, (![0, o] : Fin 2 → ℕ) a + (![256, 128] : Fin 2 → ℕ) a ≤ S256x1024.size a) (i : Fin 256) (l : Fin 1024) (hl : (l : ℕ) / 128 = h) :
    ix2 i l ∈ (Rect.unit (s := S256x1024) ![0, o] ![256, 128] inb).set := by
  rw [Rect.mem_set_unit]
  intro a
  match a with
  | ⟨0, _⟩ => exact ⟨Nat.zero_le _, by show (i : ℕ) < 0 + 256; omega⟩
  | ⟨1, _⟩ => exact ⟨by show o ≤ (l : ℕ); omega, by show (l : ℕ) < o + 128; omega⟩

/-- The eight heads' pieces stored side by side. -/
theorem canon_heads (p : Fin 8 → Vec Ideal S256x128 .bf16) (i : Fin 256) (l : Fin 1024) :
    View.canon [⟨Rect.unit (s := S256x1024) ![0, 896] ![256, 128] inb_S256x1024_S256x128_0_896, p 7⟩,
    ⟨Rect.unit (s := S256x1024) ![0, 768] ![256, 128] inb_S256x1024_S256x128_0_768, p 6⟩,
    ⟨Rect.unit (s := S256x1024) ![0, 640] ![256, 128] inb_S256x1024_S256x128_0_640, p 5⟩,
    ⟨Rect.unit (s := S256x1024) ![0, 512] ![256, 128] inb_S256x1024_S256x128_0_512, p 4⟩,
    ⟨Rect.unit (s := S256x1024) ![0, 384] ![256, 128] inb_S256x1024_S256x128_0_384, p 3⟩,
    ⟨Rect.unit (s := S256x1024) ![0, 256] ![256, 128] inb_S256x1024_S256x128_0_256, p 2⟩,
    ⟨Rect.unit (s := S256x1024) ![0, 128] ![256, 128] inb_S256x1024_S256x128_0_128, p 1⟩,
    ⟨Rect.unit (s := S256x1024) ![0, 0] ![256, 128] inb_S256x1024_S256x128_0_0, p 0⟩] (ix2 i l) = p (headK l) (ix2 i (laneK l)) := by
  refine View.canon_apply_of_pieces (fun y : S256x1024.Idx => p (headK (y 1)) (ix2 (y 0) (laneK (y 1)))) _ (fun q hq => ?_) (ix2 i l) ?_
  · simp only [List.mem_cons, List.not_mem_nil, or_false] at hq
    rcases hq with rfl | rfl | rfl | rfl | rfl | rfl | rfl | rfl
    · exact piece_at p 7 896 rfl inb_S256x1024_S256x128_0_896
    · exact piece_at p 6 768 rfl inb_S256x1024_S256x128_0_768
    · exact piece_at p 5 640 rfl inb_S256x1024_S256x128_0_640
    · exact piece_at p 4 512 rfl inb_S256x1024_S256x128_0_512
    · exact piece_at p 3 384 rfl inb_S256x1024_S256x128_0_384
    · exact piece_at p 2 256 rfl inb_S256x1024_S256x128_0_256
    · exact piece_at p 1 128 rfl inb_S256x1024_S256x128_0_128
    · exact piece_at p 0 0 rfl inb_S256x1024_S256x128_0_0
  · have hl : (l : ℕ) / 128 = 0 ∨ (l : ℕ) / 128 = 1 ∨ (l : ℕ) / 128 = 2 ∨ (l : ℕ) / 128 = 3 ∨ (l : ℕ) / 128 = 4 ∨ (l : ℕ) / 128 = 5
      ∨ (l : ℕ) / 128 = 6 ∨ (l : ℕ) / 128 = 7 := by omega
    rcases hl with e | e | e | e | e | e | e | e
    · exact ⟨⟨Rect.unit (s := S256x1024) ![0, 0] ![256, 128] inb_S256x1024_S256x128_0_0, p 0⟩, by simp, piece_mem 0 0 rfl inb_S256x1024_S256x128_0_0 i l e⟩
    · exact ⟨⟨Rect.unit (s := S256x1024) ![0, 128] ![256, 128] inb_S256x1024_S256x128_0_128, p 1⟩, by simp, piece_mem 1 128 rfl inb_S256x1024_S256x128_0_128 i l e⟩
    · exact ⟨⟨Rect.unit (s := S256x1024) ![0, 256] ![256, 128] inb_S256x1024_S256x128_0_256, p 2⟩, by simp, piece_mem 2 256 rfl inb_S256x1024_S256x128_0_256 i l e⟩
    · exact ⟨⟨Rect.unit (s := S256x1024) ![0, 384] ![256, 128] inb_S256x1024_S256x128_0_384, p 3⟩, by simp, piece_mem 3 384 rfl inb_S256x1024_S256x128_0_384 i l e⟩
    · exact ⟨⟨Rect.unit (s := S256x1024) ![0, 512] ![256, 128] inb_S256x1024_S256x128_0_512, p 4⟩, by simp, piece_mem 4 512 rfl inb_S256x1024_S256x128_0_512 i l e⟩
    · exact ⟨⟨Rect.unit (s := S256x1024) ![0, 640] ![256, 128] inb_S256x1024_S256x128_0_640, p 5⟩, by simp, piece_mem 5 640 rfl inb_S256x1024_S256x128_0_640 i l e⟩
    · exact ⟨⟨Rect.unit (s := S256x1024) ![0, 768] ![256, 128] inb_S256x1024_S256x128_0_768, p 6⟩, by simp, piece_mem 6 768 rfl inb_S256x1024_S256x128_0_768 i l e⟩
    · exact ⟨⟨Rect.unit (s := S256x1024) ![0, 896] ![256, 128] inb_S256x1024_S256x128_0_896, p 7⟩, by simp, piece_mem 7 896 rfl inb_S256x1024_S256x128_0_896 i l e⟩

section
variable (m : (ℓ : Loc nD τ sig) → Buf (Elt Ideal) ℓ) (c : Dev nD) (t : Fin cfg0.N)

/-! The body's arrays at a grid point: the normed latents, the projected columns, the rotary columns, the tables, a head's lanes of the cotangents. -/
abbrev CQ : FVec Ideal S256x384 .bf16 := k0_pay6 (iblk m c 2 t) (iblk m c 5 t)
abbrev QR : FVec Ideal S256x1024 .f32 := k0_pay14 (CQ m c t) (iblk m c 6 t)
abbrev KR : FVec Ideal S256x1024 .f32 := k0_pay15 (k0_pay7 (iblk m c 2 t) (iblk m c 7 t)) (iblk m c 8 t)
abbrev KP : FVec Ideal S256x128 .f32 := k0_pay5 (iblk m c 2 t)
abbrev CS : FVec Ideal S256x128 .f32 := k0_pay8 (iblk m c 3 t)
abbrev SN : FVec Ideal S256x128 .f32 := k0_pay9 (iblk m c 4 t)
abbrev DQ (o : ℕ) (inb : ∀ a, (![0, o] : Fin 2 → ℕ) a + (![256, 128] : Fin 2 → ℕ) a ≤ S256x1024.size a) : Vec Ideal S256x128 .f32 := View.ld (iblk m c 0 t) (Rect.unit (s := S256x1024) ![0, o] ![256, 128] inb)
abbrev DK (o : ℕ) (inb : ∀ a, (![0, o] : Fin 2 → ℕ) a + (![256, 128] : Fin 2 → ℕ) a ≤ S256x1024.size a) : Vec Ideal S256x128 .f32 := View.ld (iblk m c 1 t) (Rect.unit (s := S256x1024) ![0, o] ![256, 128] inb)

/-! What the body computes of one head, by the functions every head shares. -/
abbrev gradQ (o : ℕ) (ho : S256x1024.Slices ![0, o] S256x128) (inb : ∀ a, (![0, o] : Fin 2 → ℕ) a + (![256, 128] : Fin 2 → ℕ) a ≤ S256x1024.size a) : FVec Ideal S256x128 .f32 :=
  k0_pay81 (CS m c t) (SN m c t) (cut o (QR m c t) ho) (k0_pay76 (iblk m c 9 t)) (k0_pay77 (DQ m c t o inb))
abbrev gradK (o : ℕ) (ho : S256x1024.Slices ![0, o] S256x128) (inb : ∀ a, (![0, o] : Fin 2 → ℕ) a + (![256, 128] : Fin 2 → ℕ) a ≤ S256x1024.size a) : FVec Ideal S256x128 .f32 :=
  k0_pay81 (CS m c t) (SN m c t) (addf (cut o (KR m c t) ho) (KP m c t)) (k0_pay76 (iblk m c 10 t)) (k0_pay77 (DK m c t o inb))
abbrev scaleQ (o : ℕ) (ho : S256x1024.Slices ![0, o] S256x128) (inb : ∀ a, (![0, o] : Fin 2 → ℕ) a + (![256, 128] : Fin 2 → ℕ) a ≤ S256x1024.size a) : FVec Ideal S128 .f32 := k0_pay82 (CS m c t) (SN m c t) (cut o (QR m c t) ho) (k0_pay77 (DQ m c t o inb))
abbrev scaleK (o : ℕ) (ho : S256x1024.Slices ![0, o] S256x128) (inb : ∀ a, (![0, o] : Fin 2 → ℕ) a + (![256, 128] : Fin 2 → ℕ) a ≤ S256x1024.size a) : FVec Ideal S128 .f32 :=
  k0_pay82 (CS m c t) (SN m c t) (addf (cut o (KR m c t) ho) (KP m c t)) (k0_pay77 (DK m c t o inb))

variable (i : Fin 256)

theorem tables_at (j : Fin 128) : CS m c t (ix2 i j) = laneC (cosAt (posAt t i)) j ∧ SN m c t (ix2 i j) = laneS (sinAt (posAt t i)) j :=
  ⟨(pay8_eq _ i j).trans (blk_cos m c t i j), (pay9_eq _ i j).trans (blk_sin m c t i j)⟩

theorem tables_row : (blockRow m c t i = .pad) ∨ ((blockRow m c t i).c = cosAt (posAt t i) ∧ (blockRow m c t i).s = sinAt (posAt t i)) := by
  unfold blockRow rowAt packed
  split
  · exact Or.inr ⟨rfl, rfl⟩
  · exact Or.inl rfl

theorem tables_q (h : Fin 8) : Tables (CS m c t) (SN m c t) i (blockRow m c t i).c (blockRow m c t i).s ((blockRow m c t i).dq h) := by
  rcases tables_row m c t i with e | e
  · exact Or.inr (by rw [e]; rfl)
  · exact Or.inl (by rw [e.1, e.2]; exact tables_at m c t i)
theorem tables_k (h : Fin 8) : Tables (CS m c t) (SN m c t) i (blockRow m c t i).c (blockRow m c t i).s ((blockRow m c t i).dk h) := by
  rcases tables_row m c t i with e | e
  · exact Or.inr (by rw [e]; rfl)
  · exact Or.inl (by rw [e.1, e.2]; exact tables_at m c t i)

theorem ld_at (w : Vec Ideal S256x1024 .f32) (h : Fin 8) (inb : ∀ a, (![0, 128 * h] : Fin 2 → ℕ) a + (![256, 128] : Fin 2 → ℕ) a ≤ S256x1024.size a) (j : Fin 128) :
    View.ld w (Rect.unit (s := S256x1024) ![0, 128 * h] ![256, 128] inb) (ix2 i j) = w (ix2 i (colK h j)) := by
  refine congrArg w ?_
  refine Rect.emb_eq_of_coords _ _ _ fun a => ?_
  match a with
  | ⟨0, _⟩ => simp
  | ⟨1, _⟩ => simp [colK]

theorem dq_at (h : Fin 8) (inb : ∀ a, (![0, 128 * h] : Fin 2 → ℕ) a + (![256, 128] : Fin 2 → ℕ) a ≤ S256x1024.size a) (j : Fin 128) : k0_pay77 (F := Ideal) (DQ m c t (128 * h) inb) (ix2 i j) = wide ((blockRow m c t i).dq h) j := by
  exact (pay77_eq _ i j).trans ((ld_at i _ h inb j).trans ((blk_dq m c t i _).trans (congrArg₂ (fun a b => wide ((blockRow m c t i).dq a) b) (headK_colK h j) (laneK_colK h j))))
theorem dk_at (h : Fin 8) (inb : ∀ a, (![0, 128 * h] : Fin 2 → ℕ) a + (![256, 128] : Fin 2 → ℕ) a ≤ S256x1024.size a) (j : Fin 128) : k0_pay77 (F := Ideal) (DK m c t (128 * h) inb) (ix2 i j) = wide ((blockRow m c t i).dk h) j := by
  exact (pay77_eq _ i j).trans ((ld_at i _ h inb j).trans ((blk_dk m c t i _).trans (congrArg₂ (fun a b => wide ((blockRow m c t i).dk a) b) (headK_colK h j) (laneK_colK h j))))

theorem xq_at (h : Fin 8) (ho : S256x1024.Slices ![0, 128 * (h : ℕ)] S256x128) (j : Fin 128) : cut (128 * h) (QR m c t) ho (ix2 i j) = wide (xq (wts m c) (blockRow m c t i) h) j :=
  query_at (pay14_at (pay6_at (blk_panel m c t i) (blk_qag m c t)) (blk_wq m c t)) h ho j
theorem xk_at (h : Fin 8) (ho : S256x1024.Slices ![0, 128 * (h : ℕ)] S256x128) (j : Fin 128) :
    addf (cut (128 * h) (KR m c t) ho) (KP m c t) (ix2 i j) = wide (xk (wts m c) (blockRow m c t i) h) j :=
  key_at (pay15_at (pay7_at (blk_panel m c t i) (blk_kvag m c t)) (blk_wk m c t)) (pay5_at (blk_panel m c t i)) h ho j

theorem gradQ_at (h : Fin 8) (ho : S256x1024.Slices ![0, 128 * (h : ℕ)] S256x128) (inb : ∀ a, (![0, 128 * h] : Fin 2 → ℕ) a + (![256, 128] : Fin 2 → ℕ) a ≤ S256x1024.size a) (j : Fin 128) : gradQ m c t (128 * h) ho inb (ix2 i j) = wide (dxq (wts m c) (blockRow m c t i) closed h) j :=
  grad_at (xq_at m c t i h ho) (dq_at m c t i h inb) (fun j => (pay76_eq _ j).trans (blk_qg m c t j)) (tables_q m c t i h) j
theorem gradK_at (h : Fin 8) (ho : S256x1024.Slices ![0, 128 * (h : ℕ)] S256x128) (inb : ∀ a, (![0, 128 * h] : Fin 2 → ℕ) a + (![256, 128] : Fin 2 → ℕ) a ≤ S256x1024.size a) (j : Fin 128) : gradK m c t (128 * h) ho inb (ix2 i j) = wide (dxk (wts m c) (blockRow m c t i) closed h) j :=
  grad_at (xk_at m c t i h ho) (dk_at m c t i h inb) (fun j => (pay76_eq _ j).trans (blk_kg m c t j)) (tables_k m c t i h) j
theorem scaleQ_at (h : Fin 8) (ho : S256x1024.Slices ![0, 128 * (h : ℕ)] S256x128) (inb : ∀ a, (![0, 128 * h] : Fin 2 → ℕ) a + (![256, 128] : Fin 2 → ℕ) a ≤ S256x1024.size a) (j : Fin 128) : scaleQ m c t (128 * h) ho inb (ix1 j)
    = ∑ i, wide (fun j => unit c96 (xq (wts m c) (blockRow m c t i) h) j * bq (blockRow m c t i) h j) j :=
  scale_at (fun i => xq_at m c t i h ho) (fun i => dq_at m c t i h inb) (fun i => tables_q m c t i h) j
theorem scaleK_at (h : Fin 8) (ho : S256x1024.Slices ![0, 128 * (h : ℕ)] S256x128) (inb : ∀ a, (![0, 128 * h] : Fin 2 → ℕ) a + (![256, 128] : Fin 2 → ℕ) a ≤ S256x1024.size a) (j : Fin 128) : scaleK m c t (128 * h) ho inb (ix1 j)
    = ∑ i, wide (fun j => unit c96 (xk (wts m c) (blockRow m c t i) h) j * bk (blockRow m c t i) h j) j :=
  scale_at (fun i => xk_at m c t i h ho) (fun i => dk_at m c t i h inb) (fun i => tables_k m c t i h) j

/-! Over the heads. -/
abbrev piecesQ (h : Fin 8) : Vec Ideal S256x128 .bf16 := match h with
  | 0 => k0_pay84 (gradQ m c t 0 slices_S256x1024_o0_0_S256x128 inb_S256x1024_S256x128_0_0)
  | 1 => k0_pay84 (gradQ m c t 128 slices_S256x1024_o0_128_S256x128 inb_S256x1024_S256x128_0_128)
  | 2 => k0_pay84 (gradQ m c t 256 slices_S256x1024_o0_256_S256x128 inb_S256x1024_S256x128_0_256)
  | 3 => k0_pay84 (gradQ m c t 384 slices_S256x1024_o0_384_S256x128 inb_S256x1024_S256x128_0_384)
  | 4 => k0_pay84 (gradQ m c t 512 slices_S256x1024_o0_512_S256x128 inb_S256x1024_S256x128_0_512)
  | 5 => k0_pay84 (gradQ m c t 640 slices_S256x1024_o0_640_S256x128 inb_S256x1024_S256x128_0_640)
  | 6 => k0_pay84 (gradQ m c t 768 slices_S256x1024_o0_768_S256x128 inb_S256x1024_S256x128_0_768)
  | 7 => k0_pay84 (gradQ m c t 896 slices_S256x1024_o0_896_S256x128 inb_S256x1024_S256x128_0_896)
theorem piecesQ_at (h : Fin 8) (i : Fin 256) (j : Fin 128) : piecesQ m c t h (ix2 i j) = wide (dxq (wts m c) (blockRow m c t i) closed h) j :=
  match h with
  | 0 => (pay84_eq _ i j).trans (gradQ_at m c t i 0 _ _ j)
  | 1 => (pay84_eq _ i j).trans (gradQ_at m c t i 1 _ _ j)
  | 2 => (pay84_eq _ i j).trans (gradQ_at m c t i 2 _ _ j)
  | 3 => (pay84_eq _ i j).trans (gradQ_at m c t i 3 _ _ j)
  | 4 => (pay84_eq _ i j).trans (gradQ_at m c t i 4 _ _ j)
  | 5 => (pay84_eq _ i j).trans (gradQ_at m c t i 5 _ _ j)
  | 6 => (pay84_eq _ i j).trans (gradQ_at m c t i 6 _ _ j)
  | 7 => (pay84_eq _ i j).trans (gradQ_at m c t i 7 _ _ j)

abbrev listQ : List (View.Piece (Elt Ideal) S256x1024 .bf16) :=
    [⟨Rect.unit (s := S256x1024) ![0, 896] ![256, 128] inb_S256x1024_S256x128_0_896, piecesQ m c t 7⟩,
    ⟨Rect.unit (s := S256x1024) ![0, 768] ![256, 128] inb_S256x1024_S256x128_0_768, piecesQ m c t 6⟩,
    ⟨Rect.unit (s := S256x1024) ![0, 640] ![256, 128] inb_S256x1024_S256x128_0_640, piecesQ m c t 5⟩,
    ⟨Rect.unit (s := S256x1024) ![0, 512] ![256, 128] inb_S256x1024_S256x128_0_512, piecesQ m c t 4⟩,
    ⟨Rect.unit (s := S256x1024) ![0, 384] ![256, 128] inb_S256x1024_S256x128_0_384, piecesQ m c t 3⟩,
    ⟨Rect.unit (s := S256x1024) ![0, 256] ![256, 128] inb_S256x1024_S256x128_0_256, piecesQ m c t 2⟩,
    ⟨Rect.unit (s := S256x1024) ![0, 128] ![256, 128] inb_S256x1024_S256x128_0_128, piecesQ m c t 1⟩,
    ⟨Rect.unit (s := S256x1024) ![0, 0] ![256, 128] inb_S256x1024_S256x128_0_0, piecesQ m c t 0⟩]

theorem pDqraw_at (i : Fin 256) (l : Fin 1024) : View.canon (listQ m c t) (ix2 i l) = dqraw (wts m c) (blockRow m c t i) closed l :=
  (canon_heads (piecesQ m c t) i l).trans (piecesQ_at m c t _ i _)

abbrev piecesK (h : Fin 8) : Vec Ideal S256x128 .bf16 := match h with
  | 0 => k0_pay84 (gradK m c t 0 slices_S256x1024_o0_0_S256x128 inb_S256x1024_S256x128_0_0)
  | 1 => k0_pay84 (gradK m c t 128 slices_S256x1024_o0_128_S256x128 inb_S256x1024_S256x128_0_128)
  | 2 => k0_pay84 (gradK m c t 256 slices_S256x1024_o0_256_S256x128 inb_S256x1024_S256x128_0_256)
  | 3 => k0_pay84 (gradK m c t 384 slices_S256x1024_o0_384_S256x128 inb_S256x1024_S256x128_0_384)
  | 4 => k0_pay84 (gradK m c t 512 slices_S256x1024_o0_512_S256x128 inb_S256x1024_S256x128_0_512)
  | 5 => k0_pay84 (gradK m c t 640 slices_S256x1024_o0_640_S256x128 inb_S256x1024_S256x128_0_640)
  | 6 => k0_pay84 (gradK m c t 768 slices_S256x1024_o0_768_S256x128 inb_S256x1024_S256x128_0_768)
  | 7 => k0_pay84 (gradK m c t 896 slices_S256x1024_o0_896_S256x128 inb_S256x1024_S256x128_0_896)
theorem piecesK_at (h : Fin 8) (i : Fin 256) (j : Fin 128) : piecesK m c t h (ix2 i j) = wide (dxk (wts m c) (blockRow m c t i) closed h) j :=
  match h with
  | 0 => (pay84_eq _ i j).trans (gradK_at m c t i 0 _ _ j)
  | 1 => (pay84_eq _ i j).trans (gradK_at m c t i 1 _ _ j)
  | 2 => (pay84_eq _ i j).trans (gradK_at m c t i 2 _ _ j)
  | 3 => (pay84_eq _ i j).trans (gradK_at m c t i 3 _ _ j)
  | 4 => (pay84_eq _ i j).trans (gradK_at m c t i 4 _ _ j)
  | 5 => (pay84_eq _ i j).trans (gradK_at m c t i 5 _ _ j)
  | 6 => (pay84_eq _ i j).trans (gradK_at m c t i 6 _ _ j)
  | 7 => (pay84_eq _ i j).trans (gradK_at m c t i 7 _ _ j)

abbrev listK : List (View.Piece (Elt Ideal) S256x1024 .bf16) :=
    [⟨Rect.unit (s := S256x1024) ![0, 896] ![256, 128] inb_S256x1024_S256x128_0_896, piecesK m c t 7⟩,
    ⟨Rect.unit (s := S256x1024) ![0, 768] ![256, 128] inb_S256x1024_S256x128_0_768, piecesK m c t 6⟩,
    ⟨Rect.unit (s := S256x1024) ![0, 640] ![256, 128] inb_S256x1024_S256x128_0_640, piecesK m c t 5⟩,
    ⟨Rect.unit (s := S256x1024) ![0, 512] ![256, 128] inb_S256x1024_S256x128_0_512, piecesK m c t 4⟩,
    ⟨Rect.unit (s := S256x1024) ![0, 384] ![256, 128] inb_S256x1024_S256x128_0_384, piecesK m c t 3⟩,
    ⟨Rect.unit (s := S256x1024) ![0, 256] ![256, 128] inb_S256x1024_S256x128_0_256, piecesK m c t 2⟩,
    ⟨Rect.unit (s := S256x1024) ![0, 128] ![256, 128] inb_S256x1024_S256x128_0_128, piecesK m c t 1⟩,
    ⟨Rect.unit (s := S256x1024) ![0, 0] ![256, 128] inb_S256x1024_S256x128_0_0, piecesK m c t 0⟩]

theorem pDkraw_at (i : Fin 256) (l : Fin 1024) : View.canon (listK m c t) (ix2 i l) = dkraw (wts m c) (blockRow m c t i) closed l :=
  (canon_heads (piecesK m c t) i l).trans (piecesK_at m c t _ i _)

theorem pDcqn_at (i : Fin 256) (k : Fin 384) : k0_pay200 (F := Ideal) ((ms0_14 t).view.readCov (listQ m c t)
    (Rect.unit (s := S256x1024) ![0, 0] ![256, 1024] inb_S256x1024_S256x1024_0_0).toLoadRect) (iblk m c 6 t) (ix2 i k) = dcqn (wts m c) (blockRow m c t i) closed k := by
  rw [pay200_at, View.readCov_eq_canon', ← sum_dqraw]
  refine Finset.sum_congr rfl fun l _ => congrArg₂ (· * ·) ?_ (blk_wq m c t l k)
  refine Eq.trans (congrArg (View.canon (listQ m c t)) ?_) (pDqraw_at m c t i l)
  funext a
  match a with
  | ⟨0, _⟩ => exact Fin.ext (by simp)
  | ⟨1, _⟩ => exact Fin.ext (by simp)

theorem pDckvk_at (i : Fin 256) (k : Fin 256) : k0_pay201 (F := Ideal) ((ms0_15 t).view.readCov (listK m c t)
    (Rect.unit (s := S256x1024) ![0, 0] ![256, 1024] inb_S256x1024_S256x1024_0_0).toLoadRect) (iblk m c 8 t) (ix2 i k) = dckvk (wts m c) (blockRow m c t i) closed k := by
  rw [pay201_at, View.readCov_eq_canon', ← sum_dkraw]
  refine Finset.sum_congr rfl fun l _ => congrArg₂ (· * ·) ?_ (blk_wk m c t l k)
  refine Eq.trans (congrArg (View.canon (listK m c t)) ?_) (pDkraw_at m c t i l)
  funext a
  match a with
  | ⟨0, _⟩ => exact Fin.ext (by simp)
  | ⟨1, _⟩ => exact Fin.ext (by simp)

abbrev keys : FVec Ideal S256x128 .f32 :=
  k0_pay85 k0_pay10 (k0_pay85 k0_pay10 (k0_pay85 k0_pay10 (k0_pay85 k0_pay10 (k0_pay85 k0_pay10 (k0_pay85 k0_pay10 (k0_pay85 k0_pay10 (k0_pay85 k0_pay10 (k0_pay11) (gradK m c t 0 slices_S256x1024_o0_0_S256x128 inb_S256x1024_S256x128_0_0)) (gradK m c t 128 slices_S256x1024_o0_128_S256x128 inb_S256x1024_S256x128_0_128)) (gradK m c t 256 slices_S256x1024_o0_256_S256x128 inb_S256x1024_S256x128_0_256)) (gradK m c t 384 slices_S256x1024_o0_384_S256x128 inb_S256x1024_S256x128_0_384)) (gradK m c t 512 slices_S256x1024_o0_512_S256x128 inb_S256x1024_S256x128_0_512)) (gradK m c t 640 slices_S256x1024_o0_640_S256x128 inb_S256x1024_S256x128_0_640)) (gradK m c t 768 slices_S256x1024_o0_768_S256x128 inb_S256x1024_S256x128_0_768)) (gradK m c t 896 slices_S256x1024_o0_896_S256x128 inb_S256x1024_S256x128_0_896)
theorem pDkr_at (i : Fin 256) (j : Fin 128) : keys m c t (ix2 i j) = dkr (wts m c) (blockRow m c t i) closed j := by
  simp only [keys, pay85_at, pay10_at, pay11_at]
  have e0 : gradK m c t 0 slices_S256x1024_o0_0_S256x128 inb_S256x1024_S256x128_0_0 (ix2 i j) = _ := gradK_at m c t i 0 _ _ j
  have e1 : gradK m c t 128 slices_S256x1024_o0_128_S256x128 inb_S256x1024_S256x128_0_128 (ix2 i j) = _ := gradK_at m c t i 1 _ _ j
  have e2 : gradK m c t 256 slices_S256x1024_o0_256_S256x128 inb_S256x1024_S256x128_0_256 (ix2 i j) = _ := gradK_at m c t i 2 _ _ j
  have e3 : gradK m c t 384 slices_S256x1024_o0_384_S256x128 inb_S256x1024_S256x128_0_384 (ix2 i j) = _ := gradK_at m c t i 3 _ _ j
  have e4 : gradK m c t 512 slices_S256x1024_o0_512_S256x128 inb_S256x1024_S256x128_0_512 (ix2 i j) = _ := gradK_at m c t i 4 _ _ j
  have e5 : gradK m c t 640 slices_S256x1024_o0_640_S256x128 inb_S256x1024_S256x128_0_640 (ix2 i j) = _ := gradK_at m c t i 5 _ _ j
  have e6 : gradK m c t 768 slices_S256x1024_o0_768_S256x128 inb_S256x1024_S256x128_0_768 (ix2 i j) = _ := gradK_at m c t i 6 _ _ j
  have e7 : gradK m c t 896 slices_S256x1024_o0_896_S256x128 inb_S256x1024_S256x128_0_896 (ix2 i j) = _ := gradK_at m c t i 7 _ _ j
  rw [e0, e1, e2, e3, e4, e5, e6, e7]
  simp only [lanes, dkr, Fin.sum_univ_eight]
  by_cases h : 64 ≤ (j : ℕ) ∧ (j : ℕ) < 96
  · have h' : 64 ≤ (j : ℕ) ∧ (j : ℕ) - 64 < 32 := by omega
    rw [if_pos h, dif_pos h']
    simp only [mul_one, zero_add, wide, h.2, dif_pos]
  · have h' : ¬ (64 ≤ (j : ℕ) ∧ (j : ℕ) - 64 < 32) := by omega
    rw [if_neg h, dif_neg h']
    simp only [mul_zero, add_zero]

abbrev scalesQ : FVec Ideal S1x128 .f32 :=
  k0_pay83 (k0_pay83 (k0_pay83 (k0_pay83 (k0_pay83 (k0_pay83 (k0_pay83 (k0_pay83 (k0_pay12) (scaleQ m c t 0 slices_S256x1024_o0_0_S256x128 inb_S256x1024_S256x128_0_0)) (scaleQ m c t 128 slices_S256x1024_o0_128_S256x128 inb_S256x1024_S256x128_0_128)) (scaleQ m c t 256 slices_S256x1024_o0_256_S256x128 inb_S256x1024_S256x128_0_256)) (scaleQ m c t 384 slices_S256x1024_o0_384_S256x128 inb_S256x1024_S256x128_0_384)) (scaleQ m c t 512 slices_S256x1024_o0_512_S256x128 inb_S256x1024_S256x128_0_512)) (scaleQ m c t 640 slices_S256x1024_o0_640_S256x128 inb_S256x1024_S256x128_0_640)) (scaleQ m c t 768 slices_S256x1024_o0_768_S256x128 inb_S256x1024_S256x128_0_768)) (scaleQ m c t 896 slices_S256x1024_o0_896_S256x128 inb_S256x1024_S256x128_0_896)
theorem scalesQ_at (z : Fin 1) (j : Fin 128) : scalesQ m c t (ix2 z j) = ∑ i, qgTerm (wts m c) (blockRow m c t i) j := by
  simp only [scalesQ, pay83_at, pay12_at]
  have e0 : scaleQ m c t 0 slices_S256x1024_o0_0_S256x128 inb_S256x1024_S256x128_0_0 (ix1 j) = _ := scaleQ_at m c t 0 _ _ j
  have e1 : scaleQ m c t 128 slices_S256x1024_o0_128_S256x128 inb_S256x1024_S256x128_0_128 (ix1 j) = _ := scaleQ_at m c t 1 _ _ j
  have e2 : scaleQ m c t 256 slices_S256x1024_o0_256_S256x128 inb_S256x1024_S256x128_0_256 (ix1 j) = _ := scaleQ_at m c t 2 _ _ j
  have e3 : scaleQ m c t 384 slices_S256x1024_o0_384_S256x128 inb_S256x1024_S256x128_0_384 (ix1 j) = _ := scaleQ_at m c t 3 _ _ j
  have e4 : scaleQ m c t 512 slices_S256x1024_o0_512_S256x128 inb_S256x1024_S256x128_0_512 (ix1 j) = _ := scaleQ_at m c t 4 _ _ j
  have e5 : scaleQ m c t 640 slices_S256x1024_o0_640_S256x128 inb_S256x1024_S256x128_0_640 (ix1 j) = _ := scaleQ_at m c t 5 _ _ j
  have e6 : scaleQ m c t 768 slices_S256x1024_o0_768_S256x128 inb_S256x1024_S256x128_0_768 (ix1 j) = _ := scaleQ_at m c t 6 _ _ j
  have e7 : scaleQ m c t 896 slices_S256x1024_o0_896_S256x128 inb_S256x1024_S256x128_0_896 (ix1 j) = _ := scaleQ_at m c t 7 _ _ j
  rw [e0, e1, e2, e3, e4, e5, e6, e7]
  simp only [qgTerm]
  rw [Finset.sum_comm, Fin.sum_univ_eight, zero_add]

abbrev scalesK : FVec Ideal S1x128 .f32 :=
  k0_pay83 (k0_pay83 (k0_pay83 (k0_pay83 (k0_pay83 (k0_pay83 (k0_pay83 (k0_pay83 (k0_pay13) (scaleK m c t 0 slices_S256x1024_o0_0_S256x128 inb_S256x1024_S256x128_0_0)) (scaleK m c t 128 slices_S256x1024_o0_128_S256x128 inb_S256x1024_S256x128_0_128)) (scaleK m c t 256 slices_S256x1024_o0_256_S256x128 inb_S256x1024_S256x128_0_256)) (scaleK m c t 384 slices_S256x1024_o0_384_S256x128 inb_S256x1024_S256x128_0_384)) (scaleK m c t 512 slices_S256x1024_o0_512_S256x128 inb_S256x1024_S256x128_0_512)) (scaleK m c t 640 slices_S256x1024_o0_640_S256x128 inb_S256x1024_S256x128_0_640)) (scaleK m c t 768 slices_S256x1024_o0_768_S256x128 inb_S256x1024_S256x128_0_768)) (scaleK m c t 896 slices_S256x1024_o0_896_S256x128 inb_S256x1024_S256x128_0_896)
theorem scalesK_at (z : Fin 1) (j : Fin 128) : scalesK m c t (ix2 z j) = ∑ i, kgTerm (wts m c) (blockRow m c t i) j := by
  simp only [scalesK, pay83_at, pay13_at]
  have e0 : scaleK m c t 0 slices_S256x1024_o0_0_S256x128 inb_S256x1024_S256x128_0_0 (ix1 j) = _ := scaleK_at m c t 0 _ _ j
  have e1 : scaleK m c t 128 slices_S256x1024_o0_128_S256x128 inb_S256x1024_S256x128_0_128 (ix1 j) = _ := scaleK_at m c t 1 _ _ j
  have e2 : scaleK m c t 256 slices_S256x1024_o0_256_S256x128 inb_S256x1024_S256x128_0_256 (ix1 j) = _ := scaleK_at m c t 2 _ _ j
  have e3 : scaleK m c t 384 slices_S256x1024_o0_384_S256x128 inb_S256x1024_S256x128_0_384 (ix1 j) = _ := scaleK_at m c t 3 _ _ j
  have e4 : scaleK m c t 512 slices_S256x1024_o0_512_S256x128 inb_S256x1024_S256x128_0_512 (ix1 j) = _ := scaleK_at m c t 4 _ _ j
  have e5 : scaleK m c t 640 slices_S256x1024_o0_640_S256x128 inb_S256x1024_S256x128_0_640 (ix1 j) = _ := scaleK_at m c t 5 _ _ j
  have e6 : scaleK m c t 768 slices_S256x1024_o0_768_S256x128 inb_S256x1024_S256x128_0_768 (ix1 j) = _ := scaleK_at m c t 6 _ _ j
  have e7 : scaleK m c t 896 slices_S256x1024_o0_896_S256x128 inb_S256x1024_S256x128_0_896 (ix1 j) = _ := scaleK_at m c t 7 _ _ j
  rw [e0, e1, e2, e3, e4, e5, e6, e7]
  simp only [kgTerm]
  rw [Finset.sum_comm, Fin.sum_univ_eight, zero_add]

theorem pQg_at (acc : FVec Ideal S1x128 .f32) (z : Fin 1) (j : Fin 128) : k0_pay202 (F := Ideal) (scalesQ m c t) acc (ix2 z j)
    = acc (ix2 z j) + ∑ i, qgTerm (wts m c) (blockRow m c t i) j := by
  rw [pay202_at, scalesQ_at]
theorem pKg_at (acc : FVec Ideal S1x128 .f32) (z : Fin 1) (j : Fin 128) : k0_pay1 (F := Ideal) (scalesK m c t) acc (ix2 z j)
    = acc (ix2 z j) + ∑ i, kgTerm (wts m c) (blockRow m c t i) j := by
  rw [pay1_at, scalesK_at]

end

end Cert.Kernel3Ideal.Value

end
-- ==== Proof.HeadArrays.lean ====
/- What the heads' gradient leaves: its seven arrays, by the row functions of the packed rows. -/
module

public import proofs.«01_k».proof.Proof.HeadBody
public import proofs.«01_k».proof.Proof.Gen.Kernel3Ideal.Value

@[expose] public section

set_option maxRecDepth 16384

noncomputable section

open Idealize.ShloMosaic Idealize.ShloMosaic.TcCoe Idealize.SL.Sem

namespace Cert.Kernel3Ideal.Value
open Cert.Kernel3Ideal Cert.Kernel3Ideal.Gen

open Cert.Mix (Row meanSq inv slope unit share pull)
open Cert.Lat (c384 c256)
open Cert.Head Cert.Packing

theorem idx_outs : ∀ t : Fin cfg0.N, win0_11.index t = ![t.val, 0]
    ∧ win0_12.index t = ![t.val, 0]
    ∧ win0_13.index t = ![t.val, 0]
    ∧ win0_14.index t = ![t.val, 0]
    ∧ win0_15.index t = ![t.val, 0] :=
  (by decide +kernel : ∀ t : Fin grid0.N, _)

theorem idx_sums : ∀ t : Fin cfg0.N, win0_16.index t = ![0, 0]
    ∧ win0_17.index t = ![0, 0] :=
  (by decide +kernel : ∀ t : Fin grid0.N, _)

section
variable (m : (ℓ : Loc nD τ sig) → Buf (Elt Ideal) ℓ) (c : Dev nD)

/-- A packed row, by its place in the packed array. -/
abbrev packedRow (n : Fin 4352) : RowIn := rowAt m c ⟨n / 2176, by omega⟩ ⟨n % 2176, by omega⟩

theorem packed_place (t : Fin 17) (i : Fin 256) (n : Fin 4352) (h : (n : ℕ) = t * 256 + i) : blockRow m c t i = packedRow m c n := by
  show rowAt m c _ _ = rowAt m c _ _
  congr 1 <;> refine Fin.ext ?_ <;> simp only [seqAt, posAt] <;> omega

theorem block11 (t : Fin cfg0.N) (y : S256x384.Idx) : (outsAt0 m c t.val t.isLt).1 y = (fun r => dcqn (wts m c) r closed) (blockRow m c t (y 0)) (y 1) := by
  by_cases h : t.val % 17 = 0
  · rw [outsAt0_A _ c t h]
    frame_out
    idx_vars y
    exact pDcqn_at m c t y0 y1
  · rw [outsAt0_B _ c t h]
    frame_out
    idx_vars y
    exact pDcqn_at m c t y0 y1

theorem arr11 : (dats m 0 c).arrAt 11 cfg0.N = fun j : S4352x384.Idx => (fun r => dcqn (wts m c) r closed) (packedRow m c (j 0)) (j 1) := by
  refine (dats m 0 c).arrAt_eq_of_covers 11 _ (by decide +kernel) fun t hf y => ?_
  blk_simp
  rw [after0_11]
  idx_vars y
  have i0 : win0_11.index t 0 = t.val := by rw [(idx_outs t).1]; rfl
  have i1 : win0_11.index t 1 = 0 := by rw [(idx_outs t).1]; rfl
  refine (block11 m c t (ix2 y0 y1)).trans ?_
  refine congrArg₂ (fun r j => (fun r => dcqn (wts m c) r closed) r j) (packed_place m c t y0 _ ?_) (Fin.ext ?_)
  · simp [i0]
  · simp [i1]

theorem block12 (t : Fin cfg0.N) (y : S256x256.Idx) : (outsAt0 m c t.val t.isLt).2.1 y = (fun r => dckvk (wts m c) r closed) (blockRow m c t (y 0)) (y 1) := by
  by_cases h : t.val % 17 = 0
  · rw [outsAt0_A _ c t h]
    frame_out
    idx_vars y
    exact pDckvk_at m c t y0 y1
  · rw [outsAt0_B _ c t h]
    frame_out
    idx_vars y
    exact pDckvk_at m c t y0 y1

theorem arr12 : (dats m 0 c).arrAt 12 cfg0.N = fun j : S4352x256.Idx => (fun r => dckvk (wts m c) r closed) (packedRow m c (j 0)) (j 1) := by
  refine (dats m 0 c).arrAt_eq_of_covers 12 _ (by decide +kernel) fun t hf y => ?_
  blk_simp
  rw [after0_12]
  idx_vars y
  have i0 : win0_12.index t 0 = t.val := by rw [(idx_outs t).2.1]; rfl
  have i1 : win0_12.index t 1 = 0 := by rw [(idx_outs t).2.1]; rfl
  refine (block12 m c t (ix2 y0 y1)).trans ?_
  refine congrArg₂ (fun r j => (fun r => dckvk (wts m c) r closed) r j) (packed_place m c t y0 _ ?_) (Fin.ext ?_)
  · simp [i0]
  · simp [i1]

theorem block13 (t : Fin cfg0.N) (y : S256x128.Idx) : (outsAt0 m c t.val t.isLt).2.2.1 y = (fun r => dkr (wts m c) r closed) (blockRow m c t (y 0)) (y 1) := by
  by_cases h : t.val % 17 = 0
  · rw [outsAt0_A _ c t h]
    frame_out
    idx_vars y
    exact pDkr_at m c t y0 y1
  · rw [outsAt0_B _ c t h]
    frame_out
    idx_vars y
    exact pDkr_at m c t y0 y1

theorem arr13 : (dats m 0 c).arrAt 13 cfg0.N = fun j : S4352x128.Idx => (fun r => dkr (wts m c) r closed) (packedRow m c (j 0)) (j 1) := by
  refine (dats m 0 c).arrAt_eq_of_covers 13 _ (by decide +kernel) fun t hf y => ?_
  blk_simp
  rw [after0_13]
  idx_vars y
  have i0 : win0_13.index t 0 = t.val := by rw [(idx_outs t).2.2.1]; rfl
  have i1 : win0_13.index t 1 = 0 := by rw [(idx_outs t).2.2.1]; rfl
  refine (block13 m c t (ix2 y0 y1)).trans ?_
  refine congrArg₂ (fun r j => (fun r => dkr (wts m c) r closed) r j) (packed_place m c t y0 _ ?_) (Fin.ext ?_)
  · simp [i0]
  · simp [i1]

theorem block14 (t : Fin cfg0.N) (y : S256x1024.Idx) : (outsAt0 m c t.val t.isLt).2.2.2.1 y = (fun r => dqraw (wts m c) r closed) (blockRow m c t (y 0)) (y 1) := by
  by_cases h : t.val % 17 = 0
  · rw [outsAt0_A _ c t h]
    frame_out
    idx_vars y
    exact pDqraw_at m c t y0 y1
  · rw [outsAt0_B _ c t h]
    frame_out
    idx_vars y
    exact pDqraw_at m c t y0 y1

theorem arr14 : (dats m 0 c).arrAt 14 cfg0.N = fun j : S4352x1024.Idx => (fun r => dqraw (wts m c) r closed) (packedRow m c (j 0)) (j 1) := by
  refine (dats m 0 c).arrAt_eq_of_covers 14 _ (by decide +kernel) fun t hf y => ?_
  blk_simp
  rw [after0_14]
  idx_vars y
  have i0 : win0_14.index t 0 = t.val := by rw [(idx_outs t).2.2.2.1]; rfl
  have i1 : win0_14.index t 1 = 0 := by rw [(idx_outs t).2.2.2.1]; rfl
  refine (block14 m c t (ix2 y0 y1)).trans ?_
  refine congrArg₂ (fun r j => (fun r => dqraw (wts m c) r closed) r j) (packed_place m c t y0 _ ?_) (Fin.ext ?_)
  · simp [i0]
  · simp [i1]

theorem block15 (t : Fin cfg0.N) (y : S256x1024.Idx) : (outsAt0 m c t.val t.isLt).2.2.2.2.1 y = (fun r => dkraw (wts m c) r closed) (blockRow m c t (y 0)) (y 1) := by
  by_cases h : t.val % 17 = 0
  · rw [outsAt0_A _ c t h]
    frame_out
    idx_vars y
    exact pDkraw_at m c t y0 y1
  · rw [outsAt0_B _ c t h]
    frame_out
    idx_vars y
    exact pDkraw_at m c t y0 y1

theorem arr15 : (dats m 0 c).arrAt 15 cfg0.N = fun j : S4352x1024.Idx => (fun r => dkraw (wts m c) r closed) (packedRow m c (j 0)) (j 1) := by
  refine (dats m 0 c).arrAt_eq_of_covers 15 _ (by decide +kernel) fun t hf y => ?_
  blk_simp
  rw [after0_15]
  idx_vars y
  have i0 : win0_15.index t 0 = t.val := by rw [(idx_outs t).2.2.2.2]; rfl
  have i1 : win0_15.index t 1 = 0 := by rw [(idx_outs t).2.2.2.2]; rfl
  refine (block15 m c t (ix2 y0 y1)).trans ?_
  refine congrArg₂ (fun r j => (fun r => dkraw (wts m c) r closed) r j) (packed_place m c t y0 _ ?_) (Fin.ext ?_)
  · simp [i0]
  · simp [i1]

theorem sum16 (t : Fin cfg0.N) (h : t.val % 17 = 16) (y : S1x128.Idx) : (outsAt0 m c t.val t.isLt).2.2.2.2.2.1 y
    = ∑ s : Fin 17, (fun (t : Fin 17) (y : S1x128.Idx) => ∑ i, qgTerm (wts m c) (blockRow m c t i) (y 1)) s y := by
  have ht : t.val / 17 = 0 := by have : t.val < 17 := t.2; omega
  rw [Pipeline.eq_sum_fin_of_reset_step_apply_of_flush (fun n h => (outsAt0 m c n h).2.2.2.2.2.1) 17 (fun _ => 0)
    (fun (t : Fin cfg0.N) (y : S1x128.Idx) => ∑ i, qgTerm (wts m c) (blockRow m c t i) (y 1))
    (fun t h j => by
      rw [outsAt0_A _ c t h]
      frame_out
      idx_vars j
      exact (pQg_at m c t _ j0 j1).trans (congrArg (· + _) (pay2_at _)))
    (fun t h j => by
      rw [outsAt0_B _ c t h]
      frame_out
      idx_vars j
      exact pQg_at m c t _ j0 j1) t h _]
  refine (zero_add _).trans (Finset.sum_congr rfl fun s _ => ?_)
  exact congrArg (fun t : Fin 17 => ∑ i, qgTerm (wts m c) (blockRow m c t i) (y 1)) (Fin.ext (by simp only [ht]; omega))

theorem arr16 : (dats m 0 c).arrAt 16 cfg0.N = fun j : S1x128.Idx => ∑ b : Fin 2, ∑ s : Fin 2064, qgTerm (wts m c) (inRow m c b s) (j 1) := by
  refine (dats m 0 c).arrAt_eq_of_covers 16 _ (by decide +kernel) fun t hf y => ?_
  blk_simp
  rw [after0_16]
  idx_vars y
  have i1 : win0_16.index t 1 = 0 := by rw [(idx_sums t).1]; rfl
  refine (sum16 m c t ((flush0_16 t).mp hf) (ix2 y0 y1)).trans ?_
  refine (sum_packed (inRow m c) .pad (fun r => qgTerm (wts m c) r y1) (congrFun (qgTerm_pad (wts m c)) y1)).trans ?_
  exact congrArg (fun j => ∑ b : Fin 2, ∑ s : Fin 2064, qgTerm (wts m c) (inRow m c b s) j) (Fin.ext (by simp [i1]))

theorem sum17 (t : Fin cfg0.N) (h : t.val % 17 = 16) (y : S1x128.Idx) : (outsAt0 m c t.val t.isLt).2.2.2.2.2.2 y
    = ∑ s : Fin 17, (fun (t : Fin 17) (y : S1x128.Idx) => ∑ i, kgTerm (wts m c) (blockRow m c t i) (y 1)) s y := by
  have ht : t.val / 17 = 0 := by have : t.val < 17 := t.2; omega
  rw [Pipeline.eq_sum_fin_of_reset_step_apply_of_flush (fun n h => (outsAt0 m c n h).2.2.2.2.2.2) 17 (fun _ => 0)
    (fun (t : Fin cfg0.N) (y : S1x128.Idx) => ∑ i, kgTerm (wts m c) (blockRow m c t i) (y 1))
    (fun t h j => by
      rw [outsAt0_A _ c t h]
      frame_out
      idx_vars j
      exact (pKg_at m c t _ j0 j1).trans (congrArg (· + _) (pay3_at _)))
    (fun t h j => by
      rw [outsAt0_B _ c t h]
      frame_out
      idx_vars j
      exact pKg_at m c t _ j0 j1) t h _]
  refine (zero_add _).trans (Finset.sum_congr rfl fun s _ => ?_)
  exact congrArg (fun t : Fin 17 => ∑ i, kgTerm (wts m c) (blockRow m c t i) (y 1)) (Fin.ext (by simp only [ht]; omega))

theorem arr17 : (dats m 0 c).arrAt 17 cfg0.N = fun j : S1x128.Idx => ∑ b : Fin 2, ∑ s : Fin 2064, kgTerm (wts m c) (inRow m c b s) (j 1) := by
  refine (dats m 0 c).arrAt_eq_of_covers 17 _ (by decide +kernel) fun t hf y => ?_
  blk_simp
  rw [after0_17]
  idx_vars y
  have i1 : win0_17.index t 1 = 0 := by rw [(idx_sums t).2]; rfl
  refine (sum17 m c t ((flush0_17 t).mp hf) (ix2 y0 y1)).trans ?_
  refine (sum_packed (inRow m c) .pad (fun r => kgTerm (wts m c) r y1) (congrFun (kgTerm_pad (wts m c)) y1)).trans ?_
  exact congrArg (fun j => ∑ b : Fin 2, ∑ s : Fin 2064, kgTerm (wts m c) (inRow m c b s) j) (Fin.ext (by simp [i1]))

end

end Cert.Kernel3Ideal.Value

end
-- ==== Proof.HeadRef.lean ====
/- The reference's gradient of the heads, row by row. -/
module

public import proofs.«01_k».proof.Proof.Gen.Reference3Ideal.Read
public import proofs.«01_k».proof.Proof.HeadSpec

@[expose] public section

set_option maxRecDepth 16384

noncomputable section

open Idealize.ShloMosaic Idealize.ShloMosaic.TcCoe Idealize.SL.Sem

namespace Cert.Reference3Ideal.Value
open Cert.Reference3Ideal Cert.Reference3Ideal.Gen Cert.Reference3Ideal.Read

open Cert.Mix (Row meanSq inv slope unit share pull zero_word sum_first_two)
open Cert.Lat (c384 c256 div_384 div_256)
open Cert.Head Cert.Packing

/-- A cotangent turned back, as the reference pads and adds its parts. -/
theorem back_pads (c s : Row 16) (d : Row 96) (j : Fin 96) :
    ((if h1 : 64 ≤ (j : ℕ) ∧ (j : ℕ) - 64 < 32 then
        (if h2 : 16 ≤ (j : ℕ) - 64 ∧ (j : ℕ) - 64 - 16 < 16 then
            d ⟨64 + (16 + ((j : ℕ) - 64 - 16)), by omega⟩ * c ⟨(j : ℕ) - 64 - 16, h2.2⟩ + -d ⟨64 + ((j : ℕ) - 64 - 16), by omega⟩ * s ⟨(j : ℕ) - 64 - 16, h2.2⟩
          else 0) +
          if h2 : (j : ℕ) - 64 < 16 then
            d ⟨64 + (16 + ((j : ℕ) - 64)), by omega⟩ * s ⟨(j : ℕ) - 64, h2⟩ + d ⟨64 + ((j : ℕ) - 64), by omega⟩ * c ⟨(j : ℕ) - 64, h2⟩
          else 0
      else 0) +
      if h1 : (j : ℕ) < 64 then d j else 0) = back c s d j := by
  unfold back
  by_cases h0 : (j : ℕ) < 64
  · rw [dif_neg (by omega), dif_pos h0, dif_pos h0, zero_add]
  by_cases h1 : (j : ℕ) < 80
  · rw [dif_pos ⟨by omega, by omega⟩, dif_neg h0, dif_neg h0, dif_neg (by omega), dif_pos (by omega), dif_pos h1, zero_add, add_zero, add_comm]
    exact congrArg₂ (fun a b => d a * _ + d b * _) (Fin.ext (by show 64 + ((j : ℕ) - 64) = j; omega)) (Fin.ext (by show 64 + (16 + ((j : ℕ) - 64)) = j + 16; omega))
  · rw [dif_pos ⟨by omega, by omega⟩, dif_neg h0, dif_neg h0, dif_pos ⟨by omega, by omega⟩, dif_neg (by omega), dif_neg h1, add_zero, add_zero, EReal.neg_mul, sub_eq_add_neg]
    rw [show (⟨64 + (16 + ((j : ℕ) - 64 - 16)), by omega⟩ : Fin 96) = j from Fin.ext (by show 64 + (16 + ((j : ℕ) - 64 - 16)) = j; omega),
      show (⟨64 + ((j : ℕ) - 64 - 16), by omega⟩ : Fin 96) = ⟨j - 16, by omega⟩ from Fin.ext (by show 64 + ((j : ℕ) - 64 - 16) = j - 16; omega)]
    exact congrArg (fun a => d j * c a + -(d _ * s a)) (Fin.ext (by show (j : ℕ) - 64 - 16 = j - 80; omega))

/-- A sum over a rank-4 array's first three axes, read at an element. -/
theorem sum_first_three {n0 n1 n2 n3 : ℕ} (h : (⟨4, ![n0, n1, n2, n3]⟩ : Shape).ReducesTo [0, 1, 2] ⟨1, ![n3]⟩)
    (v : (⟨4, ![n0, n1, n2, n3]⟩ : Shape).Idx → EReal) (z : EReal) (j : Fin n3) :
    Ideal.hostReduceAdd h v z (ix1 j) = z + ∑ a : Fin n0, ∑ b : Fin n1, ∑ c : Fin n2, v (ix4 a b c j) := by
  refine congrArg (z + ·) ?_
  refine (Finset.sum_filter_eq_sum_of_fiber _ (fun k : Fin n0 × Fin n1 × Fin n2 => ix4 k.1 k.2.1 k.2.2 j)
    (fun _ _ e => Prod.ext (congrFun e 0) (Prod.ext (congrFun e 1) (congrFun e 2))) (fun i => ?_) v).trans ?_
  · constructor
    · intro e
      refine ⟨(i 0, i 1, i 2), ?_⟩
      funext a
      refine Fin.ext ?_
      match a with
      | ⟨0, _⟩ => rfl
      | ⟨1, _⟩ => rfl
      | ⟨2, _⟩ => rfl
      | ⟨3, _⟩ => exact (congrArg Fin.val (congrFun e (0 : Fin 1))).symm
    · rintro ⟨k, rfl⟩
      funext b
      refine Fin.ext ?_
      match b with
      | ⟨0, _⟩ => rfl
  · simp only [Fintype.sum_prod_type]

variable (x0 : FVec Ideal S2x2064x384 .f32) (x1 : FVec Ideal S2x2064x256 .f32) (x2 : FVec Ideal S2x2064x32 .f32) (x3 : FVec Ideal S384 .f32)
  (x4 : FVec Ideal S384x768 .f32) (x5 : FVec Ideal S256 .f32) (x6 : FVec Ideal S256x1024 .f32) (x7 x8 : FVec Ideal S96 .f32)
  (x9 x10 : FVec Ideal S2x2064x8x96 .f32)

section
variable (b : Fin 2) (s : Fin 2064)

include x0 x1 x2 x3 x4 x5 x6 x7 x8 x9 x10

theorem v6_at (z : Fin 1) : val_main_v6 (F := Ideal) x0 (ix3 b s z) = meanSq c384 (rowOf x0 x1 x2 x9 x10 b s).cq := by
  pointwise [val_main_v6, val_main_v4, val_main_v2, val_main_v1, val_main_v0, val_main_cst, val_main_v3, val_main_cst_0, val_main_v5, val_main_cst_1]
  rw [div_384]
  rfl

theorem v7_at (z : Fin 1) : val_main_v7 (F := Ideal) x0 (ix3 b s z) = inv c384 (rowOf x0 x1 x2 x9 x10 b s).cq := by
  pointwise [val_main_v7]
  simp only [v6_at x0 x1 x2 x3 x4 x5 x6 x7 x8 x9 x10 b s]
  rfl

theorem v12_at (j : Fin 384) : val_main_v12 (F := Ideal) x0 x3 (ix3 b s j) = cqn (weightsOf x3 x4 x5 x6 x7 x8) (rowOf x0 x1 x2 x9 x10 b s) j := by
  pointwise [val_main_v12, val_main_v9, val_main_v8, val_main_v11, val_main_v10]
  simp only [v7_at x0 x1 x2 x3 x4 x5 x6 x7 x8 x9 x10 b s]
  rfl

theorem v19_at (z : Fin 1) : val_main_v19 (F := Ideal) x1 (ix3 b s z) = meanSq c256 (rowOf x0 x1 x2 x9 x10 b s).ckv := by
  pointwise [val_main_v19, val_main_v17, val_main_v15, val_main_v14, val_main_v13, val_main_cst_2, val_main_v16, val_main_cst_3, val_main_v18, val_main_cst_4]
  rw [div_256]
  rfl

theorem v20_at (z : Fin 1) : val_main_v20 (F := Ideal) x1 (ix3 b s z) = inv c256 (rowOf x0 x1 x2 x9 x10 b s).ckv := by
  pointwise [val_main_v20]
  simp only [v19_at x0 x1 x2 x3 x4 x5 x6 x7 x8 x9 x10 b s]
  rfl

theorem v25_at (j : Fin 256) : val_main_v25 (F := Ideal) x1 x5 (ix3 b s j) = ckvn (weightsOf x3 x4 x5 x6 x7 x8) (rowOf x0 x1 x2 x9 x10 b s) j := by
  pointwise [val_main_v25, val_main_v22, val_main_v21, val_main_v24, val_main_v23]
  simp only [v20_at x0 x1 x2 x3 x4 x5 x6 x7 x8 x9 x10 b s]
  rfl

theorem v29_at (h : Fin 8) (j : Fin 96) : val_main_v29 (F := Ideal) x0 x3 x4 (ix4 b s h j) = xq (weightsOf x3 x4 x5 x6 x7 x8) (rowOf x0 x1 x2 x9 x10 b s) h j := by
  pointwise [val_main_v29, val_main_v28, val_main_v27, val_main_v26, val_main_cst_5]
  simp only [v12_at x0 x1 x2 x3 x4 x5 x6 x7 x8 x9 x10 b s]
  exact Finset.sum_congr rfl fun k _ => congrArg (fun a => cqn (weightsOf x3 x4 x5 x6 x7 x8) (rowOf x0 x1 x2 x9 x10 b s) k * x4 (ix2 k a)) (Fin.ext (by simp only [colQ]; omega))

theorem v36_at (h : Fin 8) (j : Fin 96) : val_main_v36 (F := Ideal) x1 x2 x5 x6 (ix4 b s h j) = xk (weightsOf x3 x4 x5 x6 x7 x8) (rowOf x0 x1 x2 x9 x10 b s) h j := by
  pointwise [val_main_v36, val_main_v35, val_main_v32, val_main_v31, val_main_v30, val_main_v34, val_main_v33, val_main_v26, val_main_cst_5]
  simp only [v25_at x0 x1 x2 x3 x4 x5 x6 x7 x8 x9 x10 b s]
  unfold xk
  exact dite_congr rfl (fun hj => Finset.sum_congr rfl fun k _ => congrArg (fun a => ckvn (weightsOf x3 x4 x5 x6 x7 x8) (rowOf x0 x1 x2 x9 x10 b s) k * x6 (ix2 k a)) (Fin.ext (by simp only [colK]; omega))) fun _ => rfl

theorem v43_at (h : Fin 8) (z : Fin 1) : val_main_v43 (F := Ideal) x0 x3 x4 (ix4 b s h z) = meanSq c96 (xq (weightsOf x3 x4 x5 x6 x7 x8) (rowOf x0 x1 x2 x9 x10 b s) h) := by
  pointwise [val_main_v43, val_main_v41, val_main_v39, val_main_v38, val_main_v37, val_main_cst_6, val_main_v40, val_main_cst_7, val_main_v42, val_main_cst_8]
  simp only [v29_at x0 x1 x2 x3 x4 x5 x6 x7 x8 x9 x10 b s]
  rw [div_96]
  rfl

theorem v44_at (h : Fin 8) (z : Fin 1) : val_main_v44 (F := Ideal) x0 x3 x4 (ix4 b s h z) = inv c96 (xq (weightsOf x3 x4 x5 x6 x7 x8) (rowOf x0 x1 x2 x9 x10 b s) h) := by
  pointwise [val_main_v44]
  simp only [v43_at x0 x1 x2 x3 x4 x5 x6 x7 x8 x9 x10 b s]
  rfl

theorem v47_at (h : Fin 8) (z : Fin 1) : val_main_v47 (F := Ideal) x0 x3 x4 (ix4 b s h z) = slope c96 (xq (weightsOf x3 x4 x5 x6 x7 x8) (rowOf x0 x1 x2 x9 x10 b s) h) := by
  pointwise [val_main_v47, val_main_v46, val_main_cst_9, val_main_v45]
  simp only [v44_at x0 x1 x2 x3 x4 x5 x6 x7 x8 x9 x10 b s, v43_at x0 x1 x2 x3 x4 x5 x6 x7 x8 x9 x10 b s]
  rfl

theorem v49_at (h : Fin 8) (j : Fin 96) : val_main_v49 (F := Ideal) x0 x3 x4 (ix4 b s h j) = unit c96 (xq (weightsOf x3 x4 x5 x6 x7 x8) (rowOf x0 x1 x2 x9 x10 b s) h) j := by
  pointwise [val_main_v49, val_main_v48]
  simp only [v29_at x0 x1 x2 x3 x4 x5 x6 x7 x8 x9 x10 b s, v44_at x0 x1 x2 x3 x4 x5 x6 x7 x8 x9 x10 b s]
  rfl

theorem v59_at (h : Fin 8) (z : Fin 1) : val_main_v59 (F := Ideal) x1 x2 x5 x6 (ix4 b s h z) = meanSq c96 (xk (weightsOf x3 x4 x5 x6 x7 x8) (rowOf x0 x1 x2 x9 x10 b s) h) := by
  pointwise [val_main_v59, val_main_v57, val_main_v55, val_main_v54, val_main_v53, val_main_cst_10, val_main_v56, val_main_cst_11, val_main_v58, val_main_cst_12]
  simp only [v36_at x0 x1 x2 x3 x4 x5 x6 x7 x8 x9 x10 b s]
  rw [div_96]
  rfl

theorem v60_at (h : Fin 8) (z : Fin 1) : val_main_v60 (F := Ideal) x1 x2 x5 x6 (ix4 b s h z) = inv c96 (xk (weightsOf x3 x4 x5 x6 x7 x8) (rowOf x0 x1 x2 x9 x10 b s) h) := by
  pointwise [val_main_v60]
  simp only [v59_at x0 x1 x2 x3 x4 x5 x6 x7 x8 x9 x10 b s]
  rfl

theorem v63_at (h : Fin 8) (z : Fin 1) : val_main_v63 (F := Ideal) x1 x2 x5 x6 (ix4 b s h z) = slope c96 (xk (weightsOf x3 x4 x5 x6 x7 x8) (rowOf x0 x1 x2 x9 x10 b s) h) := by
  pointwise [val_main_v63, val_main_v62, val_main_cst_13, val_main_v61]
  simp only [v60_at x0 x1 x2 x3 x4 x5 x6 x7 x8 x9 x10 b s, v59_at x0 x1 x2 x3 x4 x5 x6 x7 x8 x9 x10 b s]
  rfl

theorem v65_at (h : Fin 8) (j : Fin 96) : val_main_v65 (F := Ideal) x1 x2 x5 x6 (ix4 b s h j) = unit c96 (xk (weightsOf x3 x4 x5 x6 x7 x8) (rowOf x0 x1 x2 x9 x10 b s) h) j := by
  pointwise [val_main_v65, val_main_v64]
  simp only [v36_at x0 x1 x2 x3 x4 x5 x6 x7 x8 x9 x10 b s, v60_at x0 x1 x2 x3 x4 x5 x6 x7 x8 x9 x10 b s]
  rfl

theorem v83_at (a : Fin 16) : val_main_v83 (F := Ideal)  (ix2 s a) = angle s a := by
  pointwise [val_main_v83, val_main_v81, val_main_v79, val_main_v69, val_main_v82, val_main_v80, val_main_v78, val_main_v77, val_main_cst_16, val_main_v76, val_main_v75, val_main_cst_15, val_main_v74, val_main_v72, val_main_v73, val_main_cst_14]
  rfl

theorem v84_at (a : Fin 16) : val_main_v84 (F := Ideal)  (ix2 s a) = cosAt s a := by
  pointwise [val_main_v84]
  simp only [v83_at x0 x1 x2 x3 x4 x5 x6 x7 x8 x9 x10 s]
  rfl

theorem v86_at (a : Fin 16) : val_main_v86 (F := Ideal)  (ix2 s a) = sinAt s a := by
  pointwise [val_main_v86]
  simp only [v83_at x0 x1 x2 x3 x4 x5 x6 x7 x8 x9 x10 s]
  rfl

theorem v115_at (a : Fin 16) : val_main_v115 (F := Ideal)  (ix2 s a) = angle s a := by
  pointwise [val_main_v115, val_main_v113, val_main_v111, val_main_v69, val_main_v114, val_main_v112, val_main_v110, val_main_v109, val_main_cst_19, val_main_v108, val_main_v107, val_main_cst_18, val_main_v106, val_main_v104, val_main_v105, val_main_cst_17]
  rfl

theorem v116_at (a : Fin 16) : val_main_v116 (F := Ideal)  (ix2 s a) = cosAt s a := by
  pointwise [val_main_v116]
  simp only [v115_at x0 x1 x2 x3 x4 x5 x6 x7 x8 x9 x10 s]
  rfl

theorem v118_at (a : Fin 16) : val_main_v118 (F := Ideal)  (ix2 s a) = sinAt s a := by
  pointwise [val_main_v118]
  simp only [v115_at x0 x1 x2 x3 x4 x5 x6 x7 x8 x9 x10 s]
  rfl

theorem v175_at (h : Fin 8) (j : Fin 96) : val_main_v175 (F := Ideal) x9 (ix4 b s h j) = bq (rowOf x0 x1 x2 x9 x10 b s) h j := by
  pointwise [val_main_v175, val_main_v173, val_main_v172, val_main_v170, val_main_v166, val_main_v160, val_main_v158, val_main_v156, val_main_v159, val_main_v85, val_main_v165, val_main_v163, val_main_v157, val_main_v164, val_main_v87, val_main_cst_24, val_main_v171, val_main_v169, val_main_v162, val_main_v161, val_main_v168, val_main_v167, val_main_cst_25, val_main_cst_26, val_main_v174, val_main_v155, val_main_cst_27]
  simp only [v84_at x0 x1 x2 x3 x4 x5 x6 x7 x8 x9 x10 s, v86_at x0 x1 x2 x3 x4 x5 x6 x7 x8 x9 x10 s]
  exact back_pads (cosAt s) (sinAt s) (fun j => x9 (ix4 b s h j)) j

theorem v154_at (h : Fin 8) (j : Fin 96) : val_main_v154 (F := Ideal) x10 (ix4 b s h j) = bk (rowOf x0 x1 x2 x9 x10 b s) h j := by
  pointwise [val_main_v154, val_main_v152, val_main_v151, val_main_v149, val_main_v145, val_main_v139, val_main_v137, val_main_v135, val_main_v138, val_main_v117, val_main_v144, val_main_v142, val_main_v136, val_main_v143, val_main_v119, val_main_cst_20, val_main_v150, val_main_v148, val_main_v141, val_main_v140, val_main_v147, val_main_v146, val_main_cst_21, val_main_cst_22, val_main_v153, val_main_v134, val_main_cst_23]
  simp only [v116_at x0 x1 x2 x3 x4 x5 x6 x7 x8 x9 x10 s, v118_at x0 x1 x2 x3 x4 x5 x6 x7 x8 x9 x10 s]
  exact back_pads (cosAt s) (sinAt s) (fun j => x10 (ix4 b s h j)) j

theorem v196_at (h : Fin 8) (j : Fin 96) : val_main_v196 (F := Ideal) x0 x3 x4 x9 (ix4 b s h j) = unit c96 (xq (weightsOf x3 x4 x5 x6 x7 x8) (rowOf x0 x1 x2 x9 x10 b s) h) j * bq (rowOf x0 x1 x2 x9 x10 b s) h j := by
  pointwise [val_main_v196]
  simp only [v49_at x0 x1 x2 x3 x4 x5 x6 x7 x8 x9 x10 b s, v175_at x0 x1 x2 x3 x4 x5 x6 x7 x8 x9 x10 b s]

theorem v200_at (h : Fin 8) (j : Fin 96) : val_main_v200 (F := Ideal) x7 x9 (ix4 b s h j) = (weightsOf x3 x4 x5 x6 x7 x8).qg j * bq (rowOf x0 x1 x2 x9 x10 b s) h j := by
  pointwise [val_main_v200, val_main_v199, val_main_v50]
  simp only [v175_at x0 x1 x2 x3 x4 x5 x6 x7 x8 x9 x10 b s]
  exact mul_comm _ _

theorem v207_at (h : Fin 8) (z : Fin 1) : val_main_v207 (F := Ideal) x0 x3 x4 x7 x9 (ix4 b s h z) = (∑ k, xq (weightsOf x3 x4 x5 x6 x7 x8) (rowOf x0 x1 x2 x9 x10 b s) h k * (fun j => (weightsOf x3 x4 x5 x6 x7 x8).qg j * bq (rowOf x0 x1 x2 x9 x10 b s) h j) k) * slope c96 (xq (weightsOf x3 x4 x5 x6 x7 x8) (rowOf x0 x1 x2 x9 x10 b s) h) := by
  pointwise [val_main_v207, val_main_v204, val_main_v203, val_main_v202, val_main_cst_35]
  simp only [v47_at x0 x1 x2 x3 x4 x5 x6 x7 x8 x9 x10 b s, v29_at x0 x1 x2 x3 x4 x5 x6 x7 x8 x9 x10 b s, v200_at x0 x1 x2 x3 x4 x5 x6 x7 x8 x9 x10 b s]

theorem v211_at (h : Fin 8) (j : Fin 96) : val_main_v211 (F := Ideal) x0 x3 x4 x7 x9 (ix4 b s h j) = share c96 (xq (weightsOf x3 x4 x5 x6 x7 x8) (rowOf x0 x1 x2 x9 x10 b s) h) (fun j => (weightsOf x3 x4 x5 x6 x7 x8).qg j * bq (rowOf x0 x1 x2 x9 x10 b s) h j) := by
  pointwise [val_main_v211, val_main_v210, val_main_v209, val_main_v208, val_main_cst_36, val_main_cst_37]
  simp only [v207_at x0 x1 x2 x3 x4 x5 x6 x7 x8 x9 x10 b s]
  simp only [div_96, Fin.sum_univ_one]
  rfl

theorem v215_at (h : Fin 8) (j : Fin 96) : val_main_v215 (F := Ideal) x0 x3 x4 x7 x9 (ix4 b s h j) = dxq (weightsOf x3 x4 x5 x6 x7 x8) (rowOf x0 x1 x2 x9 x10 b s) (pull c96) h j := by
  pointwise [val_main_v215, val_main_v213, val_main_v206, val_main_v205, val_main_v212, val_main_v214]
  simp only [v200_at x0 x1 x2 x3 x4 x5 x6 x7 x8 x9 x10 b s, v44_at x0 x1 x2 x3 x4 x5 x6 x7 x8 x9 x10 b s, v29_at x0 x1 x2 x3 x4 x5 x6 x7 x8 x9 x10 b s, v211_at x0 x1 x2 x3 x4 x5 x6 x7 x8 x9 x10 b s]
  rfl

theorem v176_at (h : Fin 8) (j : Fin 96) : val_main_v176 (F := Ideal) x1 x2 x5 x6 x10 (ix4 b s h j) = unit c96 (xk (weightsOf x3 x4 x5 x6 x7 x8) (rowOf x0 x1 x2 x9 x10 b s) h) j * bk (rowOf x0 x1 x2 x9 x10 b s) h j := by
  pointwise [val_main_v176]
  simp only [v65_at x0 x1 x2 x3 x4 x5 x6 x7 x8 x9 x10 b s, v154_at x0 x1 x2 x3 x4 x5 x6 x7 x8 x9 x10 b s]

theorem v180_at (h : Fin 8) (j : Fin 96) : val_main_v180 (F := Ideal) x8 x10 (ix4 b s h j) = (weightsOf x3 x4 x5 x6 x7 x8).kg j * bk (rowOf x0 x1 x2 x9 x10 b s) h j := by
  pointwise [val_main_v180, val_main_v179, val_main_v66]
  simp only [v154_at x0 x1 x2 x3 x4 x5 x6 x7 x8 x9 x10 b s]
  exact mul_comm _ _

theorem v187_at (h : Fin 8) (z : Fin 1) : val_main_v187 (F := Ideal) x1 x2 x5 x6 x8 x10 (ix4 b s h z) = (∑ k, xk (weightsOf x3 x4 x5 x6 x7 x8) (rowOf x0 x1 x2 x9 x10 b s) h k * (fun j => (weightsOf x3 x4 x5 x6 x7 x8).kg j * bk (rowOf x0 x1 x2 x9 x10 b s) h j) k) * slope c96 (xk (weightsOf x3 x4 x5 x6 x7 x8) (rowOf x0 x1 x2 x9 x10 b s) h) := by
  pointwise [val_main_v187, val_main_v184, val_main_v183, val_main_v182, val_main_cst_30]
  simp only [v63_at x0 x1 x2 x3 x4 x5 x6 x7 x8 x9 x10 b s, v36_at x0 x1 x2 x3 x4 x5 x6 x7 x8 x9 x10 b s, v180_at x0 x1 x2 x3 x4 x5 x6 x7 x8 x9 x10 b s]

theorem v191_at (h : Fin 8) (j : Fin 96) : val_main_v191 (F := Ideal) x1 x2 x5 x6 x8 x10 (ix4 b s h j) = share c96 (xk (weightsOf x3 x4 x5 x6 x7 x8) (rowOf x0 x1 x2 x9 x10 b s) h) (fun j => (weightsOf x3 x4 x5 x6 x7 x8).kg j * bk (rowOf x0 x1 x2 x9 x10 b s) h j) := by
  pointwise [val_main_v191, val_main_v190, val_main_v189, val_main_v188, val_main_cst_31, val_main_cst_32]
  simp only [v187_at x0 x1 x2 x3 x4 x5 x6 x7 x8 x9 x10 b s]
  simp only [div_96, Fin.sum_univ_one]
  rfl

theorem v195_at (h : Fin 8) (j : Fin 96) : val_main_v195 (F := Ideal) x1 x2 x5 x6 x8 x10 (ix4 b s h j) = dxk (weightsOf x3 x4 x5 x6 x7 x8) (rowOf x0 x1 x2 x9 x10 b s) (pull c96) h j := by
  pointwise [val_main_v195, val_main_v193, val_main_v186, val_main_v185, val_main_v192, val_main_v194]
  simp only [v180_at x0 x1 x2 x3 x4 x5 x6 x7 x8 x9 x10 b s, v60_at x0 x1 x2 x3 x4 x5 x6 x7 x8 x9 x10 b s, v36_at x0 x1 x2 x3 x4 x5 x6 x7 x8 x9 x10 b s, v191_at x0 x1 x2 x3 x4 x5 x6 x7 x8 x9 x10 b s]
  rfl

theorem v225_at (j : Fin 384) : val_main_v225 (F := Ideal) x0 x3 x4 x7 x9 (ix3 b s j) = dcqn (weightsOf x3 x4 x5 x6 x7 x8) (rowOf x0 x1 x2 x9 x10 b s) (pull c96) j := by
  pointwise [val_main_v225, val_main_v224]
  simp only [v215_at x0 x1 x2 x3 x4 x5 x6 x7 x8 x9 x10 b s]
  rfl

theorem v223_at (j : Fin 256) : val_main_v223 (F := Ideal) x1 x2 x5 x6 x8 x10 (ix3 b s j) = dckvk (weightsOf x3 x4 x5 x6 x7 x8) (rowOf x0 x1 x2 x9 x10 b s) (pull c96) j := by
  pointwise [val_main_v223, val_main_v222, val_main_v221, val_main_v216, val_main_cst_40]
  simp only [v195_at x0 x1 x2 x3 x4 x5 x6 x7 x8 x9 x10 b s]
  refine Finset.sum_congr rfl fun l _ => congrArg (· * x6 (ix2 j l)) ?_
  exact dite_congr (propext ⟨fun h => h.2, fun h => ⟨by omega, h⟩⟩) (fun _ => rfl) fun _ => rfl

theorem v220_at (j : Fin 32) : val_main_v220 (F := Ideal) x1 x2 x5 x6 x8 x10 (ix3 b s j) = ∑ h, dxk (weightsOf x3 x4 x5 x6 x7 x8) (rowOf x0 x1 x2 x9 x10 b s) (pull c96) h ⟨64 + j, by omega⟩ := by
  pointwise [val_main_v220, val_main_v219, val_main_v218, val_main_v217, val_main_cst_38, val_main_cst_39]
  simp only [v195_at x0 x1 x2 x3 x4 x5 x6 x7 x8 x9 x10 b s]
  simp only [Fin.sum_univ_one]

theorem v230_at (l : Fin 128) : val_main_v230 (F := Ideal) x1 x2 x5 x6 x8 x10 (ix3 b s l) = dkr (weightsOf x3 x4 x5 x6 x7 x8) (rowOf x0 x1 x2 x9 x10 b s) (pull c96) l := by
  pointwise [val_main_v230, val_main_call2_v0, val_main_c_42]
  simp only [v220_at x0 x1 x2 x3 x4 x5 x6 x7 x8 x9 x10 b s]
  exact dite_congr rfl (fun hl => Finset.sum_congr rfl fun h _ => congrArg (dxk (weightsOf x3 x4 x5 x6 x7 x8) (rowOf x0 x1 x2 x9 x10 b s) (pull c96) h) (Fin.ext (by show 64 + ((l : ℕ) - 64) = l; omega))) fun _ => zero_word

theorem v234_at (l : Fin 1024) : val_main_v234 (F := Ideal) x0 x3 x4 x7 x9 (ix3 b s l) = dqraw (weightsOf x3 x4 x5 x6 x7 x8) (rowOf x0 x1 x2 x9 x10 b s) (pull c96) l := by
  pointwise [val_main_v234, val_main_v233, val_main_call4_v0, val_main_c_44]
  simp only [v215_at x0 x1 x2 x3 x4 x5 x6 x7 x8 x9 x10 b s]
  exact dite_congr (propext ⟨fun h => h.2, fun h => ⟨by omega, h⟩⟩) (fun _ => rfl) fun _ => zero_word

theorem v239_at (l : Fin 1024) : val_main_v239 (F := Ideal) x1 x2 x5 x6 x8 x10 (ix3 b s l) = dkraw (weightsOf x3 x4 x5 x6 x7 x8) (rowOf x0 x1 x2 x9 x10 b s) (pull c96) l := by
  pointwise [val_main_v239, val_main_v238, val_main_call6_v0, val_main_c_46]
  simp only [v195_at x0 x1 x2 x3 x4 x5 x6 x7 x8 x9 x10 b s]
  exact dite_congr (propext ⟨fun h => h.2, fun h => ⟨by omega, h⟩⟩) (fun _ => rfl) fun _ => zero_word

end

/-- A packed row. -/
abbrev packedIn (n : Fin 4352) : RowIn := packed (rowOf x0 x1 x2 x9 x10) .pad ⟨n / 2176, by omega⟩ ⟨n % 2176, by omega⟩

theorem pull_pad (x : Row 96) : pull c96 x 0 = 0 := by
  funext j; simp [pull, share]

include x0 x1 x2 x3 x4 x5 x6 x7 x8 x9 x10

theorem v227_eq : val_main_v227 (F := Ideal) x0 x3 x4 x7 x9 = fun z : S4352x384.Idx => dcqn (weightsOf x3 x4 x5 x6 x7 x8) (packedIn x0 x1 x2 x9 x10 (z 0)) (pull c96) (z 1) := by
  funext z
  pointwise [val_main_v227, val_main_v226, val_main_call0_v0, val_main_c]
  exact (dite_congr rfl (fun h => v225_at x0 x1 x2 x3 x4 x5 x6 x7 x8 x9 x10 _ _ (z 1)) fun _ => by first | rfl | exact zero_word).trans
    (packed_at (rowOf x0 x1 x2 x9 x10) .pad (fun r => dcqn (weightsOf x3 x4 x5 x6 x7 x8) r (pull c96) (z 1)) (congrFun (dcqn_pad (weightsOf x3 x4 x5 x6 x7 x8) (pull c96) pull_pad) _) (z 0))

theorem v229_eq : val_main_v229 (F := Ideal) x1 x2 x5 x6 x8 x10 = fun z : S4352x256.Idx => dckvk (weightsOf x3 x4 x5 x6 x7 x8) (packedIn x0 x1 x2 x9 x10 (z 0)) (pull c96) (z 1) := by
  funext z
  pointwise [val_main_v229, val_main_v228, val_main_call1_v0, val_main_c_41]
  exact (dite_congr rfl (fun h => v223_at x0 x1 x2 x3 x4 x5 x6 x7 x8 x9 x10 _ _ (z 1)) fun _ => by first | rfl | exact zero_word).trans
    (packed_at (rowOf x0 x1 x2 x9 x10) .pad (fun r => dckvk (weightsOf x3 x4 x5 x6 x7 x8) r (pull c96) (z 1)) (congrFun (dckvk_pad (weightsOf x3 x4 x5 x6 x7 x8) (pull c96) pull_pad) _) (z 0))

theorem v232_eq : val_main_v232 (F := Ideal) x1 x2 x5 x6 x8 x10 = fun z : S4352x128.Idx => dkr (weightsOf x3 x4 x5 x6 x7 x8) (packedIn x0 x1 x2 x9 x10 (z 0)) (pull c96) (z 1) := by
  funext z
  pointwise [val_main_v232, val_main_v231, val_main_call3_v0, val_main_c_43]
  exact (dite_congr rfl (fun h => v230_at x0 x1 x2 x3 x4 x5 x6 x7 x8 x9 x10 _ _ (z 1)) fun _ => by first | rfl | exact zero_word).trans
    (packed_at (rowOf x0 x1 x2 x9 x10) .pad (fun r => dkr (weightsOf x3 x4 x5 x6 x7 x8) r (pull c96) (z 1)) (congrFun (dkr_pad (weightsOf x3 x4 x5 x6 x7 x8) (pull c96) pull_pad) _) (z 0))

theorem v237_eq : val_main_v237 (F := Ideal) x0 x3 x4 x7 x9 = fun z : S4352x1024.Idx => dqraw (weightsOf x3 x4 x5 x6 x7 x8) (packedIn x0 x1 x2 x9 x10 (z 0)) (pull c96) (z 1) := by
  funext z
  pointwise [val_main_v237, val_main_v236, val_main_v235, val_main_call5_v0, val_main_c_45]
  exact (dite_congr rfl (fun h => v234_at x0 x1 x2 x3 x4 x5 x6 x7 x8 x9 x10 _ _ (z 1)) fun _ => by first | rfl | exact zero_word).trans
    (packed_at (rowOf x0 x1 x2 x9 x10) .pad (fun r => dqraw (weightsOf x3 x4 x5 x6 x7 x8) r (pull c96) (z 1)) (congrFun (dqraw_pad (weightsOf x3 x4 x5 x6 x7 x8) (pull c96) pull_pad) _) (z 0))

theorem v242_eq : val_main_v242 (F := Ideal) x1 x2 x5 x6 x8 x10 = fun z : S4352x1024.Idx => dkraw (weightsOf x3 x4 x5 x6 x7 x8) (packedIn x0 x1 x2 x9 x10 (z 0)) (pull c96) (z 1) := by
  funext z
  pointwise [val_main_v242, val_main_v241, val_main_v240, val_main_call7_v0, val_main_c_47]
  exact (dite_congr rfl (fun h => v239_at x0 x1 x2 x3 x4 x5 x6 x7 x8 x9 x10 _ _ (z 1)) fun _ => by first | rfl | exact zero_word).trans
    (packed_at (rowOf x0 x1 x2 x9 x10) .pad (fun r => dkraw (weightsOf x3 x4 x5 x6 x7 x8) r (pull c96) (z 1)) (congrFun (dkraw_pad (weightsOf x3 x4 x5 x6 x7 x8) (pull c96) pull_pad) _) (z 0))

theorem v244_eq : val_main_v244 (F := Ideal) x0 x3 x4 x9 = fun z : S1x128.Idx => ∑ b : Fin 2, ∑ s : Fin 2064, qgTerm (weightsOf x3 x4 x5 x6 x7 x8) (rowOf x0 x1 x2 x9 x10 b s) (z 1) := by
  have e0 : ∀ j : Fin 96, val_main_v197 (F := Ideal) x0 x3 x4 x9 (ix1 j) = ∑ b : Fin 2, ∑ s : Fin 2064, ∑ h, unit c96 (xq (weightsOf x3 x4 x5 x6 x7 x8) (rowOf x0 x1 x2 x9 x10 b s) h) j * bq (rowOf x0 x1 x2 x9 x10 b s) h j := by
    intro j
    pointwise [val_main_v197, val_main_cst_33]
    rw [sum_first_three, zero_add]
    simp only [v196_at x0 x1 x2 x3 x4 x5 x6 x7 x8 x9 x10]
  have e1 : ∀ j : Fin 96, val_main_v201 (F := Ideal) x0 x3 x4 x9 (ix1 j) = ∑ b : Fin 2, ∑ s : Fin 2064, ∑ h, unit c96 (xq (weightsOf x3 x4 x5 x6 x7 x8) (rowOf x0 x1 x2 x9 x10 b s) h) j * bq (rowOf x0 x1 x2 x9 x10 b s) h j := by
    intro j
    pointwise [val_main_v201, val_main_cst_34]
    rw [sum_first_three, zero_add]
    pointwise [val_main_v198]
    simp only [Fin.sum_univ_one]
    exact e0 j
  funext z
  pointwise [val_main_v244, val_main_v243, val_main_call8_v0, val_main_c_48]
  unfold qgTerm wide
  by_cases h : (z 1 : ℕ) < 96
  · simp only [h, dif_pos]
    exact e1 ⟨z 1, h⟩
  · simp only [h, dif_neg, not_false_eq_true, Finset.sum_const_zero]
    exact zero_word

theorem v246_eq : val_main_v246 (F := Ideal) x1 x2 x5 x6 x10 = fun z : S1x128.Idx => ∑ b : Fin 2, ∑ s : Fin 2064, kgTerm (weightsOf x3 x4 x5 x6 x7 x8) (rowOf x0 x1 x2 x9 x10 b s) (z 1) := by
  have e0 : ∀ j : Fin 96, val_main_v177 (F := Ideal) x1 x2 x5 x6 x10 (ix1 j) = ∑ b : Fin 2, ∑ s : Fin 2064, ∑ h, unit c96 (xk (weightsOf x3 x4 x5 x6 x7 x8) (rowOf x0 x1 x2 x9 x10 b s) h) j * bk (rowOf x0 x1 x2 x9 x10 b s) h j := by
    intro j
    pointwise [val_main_v177, val_main_cst_28]
    rw [sum_first_three, zero_add]
    simp only [v176_at x0 x1 x2 x3 x4 x5 x6 x7 x8 x9 x10]
  have e1 : ∀ j : Fin 96, val_main_v181 (F := Ideal) x1 x2 x5 x6 x10 (ix1 j) = ∑ b : Fin 2, ∑ s : Fin 2064, ∑ h, unit c96 (xk (weightsOf x3 x4 x5 x6 x7 x8) (rowOf x0 x1 x2 x9 x10 b s) h) j * bk (rowOf x0 x1 x2 x9 x10 b s) h j := by
    intro j
    pointwise [val_main_v181, val_main_cst_29]
    rw [sum_first_three, zero_add]
    pointwise [val_main_v178]
    simp only [Fin.sum_univ_one]
    exact e0 j
  funext z
  pointwise [val_main_v246, val_main_v245, val_main_call9_v0, val_main_c_49]
  unfold kgTerm wide
  by_cases h : (z 1 : ℕ) < 96
  · simp only [h, dif_pos]
    exact e1 ⟨z 1, h⟩
  · simp only [h, dif_neg, not_false_eq_true, Finset.sum_const_zero]
    exact zero_word

end Cert.Reference3Ideal.Value

end
-- ==== Proof.HeadNorm.lean ====
/- The gradient of a head's norm: the kernel's closed form is the reference's, whatever the row and the cotangent. -/
module

public import proofs.«01_k».proof.Proof.HeadSpec

@[expose] public section

noncomputable section

open Idealize.ShloMosaic Idealize.ShloMosaic.TcCoe

namespace Cert.Head

open Cert.Mix (Row meanSq inv slope unit share pull eps mhalf)

theorem mhalf_real : mhalf = ((-(1 / 2) : ℝ) : EReal) := by
  unfold mhalf; simp [Ideal.ofBits, Ideal.ieee, -EReal.coe_mul]; norm_num
theorem eps_real : ∃ e : ℝ, 0 < e ∧ eps = (e : EReal) := by
  refine ⟨_, ?_, by unfold eps; simp only [Ideal.ofBits, Ideal.ieee]; rfl⟩
  simp

/-- A sum times a positive real, term by term. -/
theorem sum_mul_real {n : ℕ} (F : Fin n → EReal) (v : ℝ) (hv : 0 ≤ v) : ∑ k, F k * (v : EReal) = (∑ k, F k) * v := by
  induction n with
  | zero => simp
  | succ n ih =>
    rw [Fin.sum_univ_succ, Fin.sum_univ_succ, ih, EReal.right_distrib_of_nonneg_of_ne_top (EReal.coe_nonneg.mpr hv) (EReal.coe_ne_top v)]

/-- Twice a real's multiple. -/
theorem twice (z : EReal) (a : ℝ) : z * (a : EReal) + z * a = z * ((2 * a : ℝ) : EReal) := by
  induction z with
  | coe r => rw [← EReal.coe_mul, ← EReal.coe_add, ← EReal.coe_mul]; exact congrArg _ (by ring)
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

theorem mul_self_nonneg' (x : EReal) : 0 ≤ x * x := by
  rcases le_total 0 x with h | h
  · exact EReal.mul_nonneg h h
  · exact EReal.mul_nonneg_iff.mpr (Or.inr ⟨h, h⟩)

/-- The mean square with its guard: infinite, or a positive real. -/
theorem meanSq_cases (x : Row 96) : meanSq c96 x = ⊤ ∨ ∃ a : ℝ, 0 < a ∧ meanSq c96 x = (a : EReal) := by
  obtain ⟨e, he, hE⟩ := eps_real
  have h0 : 0 ≤ ∑ k, x k * x k := Finset.sum_nonneg fun k _ => mul_self_nonneg' (x k)
  unfold meanSq
  rw [hE]
  generalize ∑ k, x k * x k = q at h0
  induction q with
  | coe r =>
    refine Or.inr ⟨r * (1 / 96) + e, ?_, ?_⟩
    · have : 0 ≤ r := EReal.coe_nonneg.mp h0
      positivity
    · rw [c96, ← EReal.coe_mul, ← EReal.coe_add]
  | top => exact Or.inl (by rw [c96, EReal.top_mul_coe_of_pos (by norm_num)]; exact EReal.top_add_coe e)
  | bot => simp at h0

/-- Kernel and reference take a cotangent through a head's norm alike. -/
theorem closed_eq : closed = pull c96 := by
  funext x c j
  unfold closed pull share Cert.Mix.slope unit
  rcases meanSq_cases x with h | ⟨a, ha, h⟩
  · have hi : inv c96 x = 0 := by rw [Cert.Mix.inv, h]; rfl
    simp [hi, h, Ideal.div]
  · have hs : 0 < Real.sqrt a := Real.sqrt_pos.mpr ha
    have hi : inv c96 x = (((Real.sqrt a)⁻¹ : ℝ) : EReal) := by
      rw [Cert.Mix.inv, h, Ideal.rsqrt_coe, if_neg (by linarith), if_neg (by linarith)]
    rw [hi, h, mhalf_real, Ideal.div_coe (by linarith)]
    set v : ℝ := (Real.sqrt a)⁻¹ with hv
    have hv0 : 0 ≤ v := by positivity
    have e1 : ∑ k, c k * (x k * (v : EReal)) = (∑ k, x k * c k) * v := by
      rw [← sum_mul_real _ v hv0]
      exact Finset.sum_congr rfl fun k _ => by rw [← mul_assoc, mul_comm (c k)]
    rw [e1]
    generalize (∑ k, x k * c k) = S
    have hva : v * v = 1 / a := by
      rw [hv, ← mul_inv, Real.mul_self_sqrt ha.le, one_div]
    rw [sub_eq_add_neg, EReal.left_distrib_of_nonneg_of_ne_top (EReal.coe_nonneg.mpr hv0) (EReal.coe_ne_top v), mul_comm (v : EReal) (c j), add_assoc]
    refine congrArg (c j * (v : EReal) + ·) ?_
    have e2 : S * (((-(1 / 2) : ℝ) : EReal) * ((v : EReal) * ((1 / a : ℝ) : EReal))) * c96 = S * ((-(1 / 2) * (v * (1 / a)) * (1 / 96) : ℝ) : EReal) := by
      rw [c96, ← EReal.coe_mul, ← EReal.coe_mul, mul_assoc, ← EReal.coe_mul]
    have e3 : (x j * (v : EReal)) * (S * v * c96) = (x j * S) * ((v * v * (1 / 96) : ℝ) : EReal) := by
      rw [c96, EReal.coe_mul, EReal.coe_mul]; ac_rfl
    rw [e2, e3, mul_comm _ (x j), ← mul_assoc, twice, mul_neg, mul_comm (v : EReal), mul_assoc, ← EReal.coe_mul, ← mul_neg, ← EReal.coe_neg]
    refine congrArg (fun t : ℝ => x j * S * (t : EReal)) ?_
    rw [← hva]; ring

end Cert.Head

end
-- ==== Proof.HeadAgree.lean ====
/- The arrays of the heads' gradient are the reference's. -/
module

public import proofs.«01_k».proof.Proof.HeadArrays
public import proofs.«01_k».proof.Proof.HeadRef
public import proofs.«01_k».proof.Proof.HeadNorm

@[expose] public section

set_option maxRecDepth 16384

noncomputable section

open Idealize.ShloMosaic Idealize.ShloMosaic.TcCoe Idealize.SL.Sem

namespace Cert.Kernel3Ideal.Value
open Cert.Kernel3Ideal Cert.Kernel3Ideal.Gen

open Cert.Reference3Ideal.Read
open Cert.Reference3Ideal.Value
open Cert.Head

variable (m : (ℓ : Loc nD τ sig) → Buf (Elt Ideal) ℓ) (c : Dev nD)
  {x0 : FVec Ideal S2x2064x384 .f32} {x1 : FVec Ideal S2x2064x256 .f32} {x2 : FVec Ideal S2x2064x32 .f32} {x3 : FVec Ideal S384 .f32}
  {x4 : FVec Ideal S384x768 .f32} {x5 : FVec Ideal S256 .f32} {x6 : FVec Ideal S256x1024 .f32} {x7 x8 : FVec Ideal S96 .f32}
  {x9 x10 : FVec Ideal S2x2064x8x96 .f32}
  (e0 : x0 = arg m c main_arg0) (e1 : x1 = arg m c main_arg1) (e2 : x2 = arg m c main_arg2) (e3 : x3 = arg m c main_arg3) (e4 : x4 = arg m c main_arg4) (e5 : x5 = arg m c main_arg5) (e6 : x6 = arg m c main_arg6) (e7 : x7 = arg m c main_arg7) (e8 : x8 = arg m c main_arg8) (e9 : x9 = arg m c main_arg9) (e10 : x10 = arg m c main_arg10)

include e0 e1 e2 e3 e4 e5 e6 e7 e8 e9 e10

theorem same11 : val_main_v227 (F := Ideal) x0 x3 x4 x7 x9 = (dats m 0 c).arrAt 11 cfg0.N := by
  subst e0 e1 e2 e3 e4 e5 e6 e7 e8 e9 e10
  exact (v227_eq (arg m c main_arg0) (arg m c main_arg1) (arg m c main_arg2) (arg m c main_arg3) (arg m c main_arg4) (arg m c main_arg5) (arg m c main_arg6) (arg m c main_arg7) (arg m c main_arg8) (arg m c main_arg9) (arg m c main_arg10)).trans (closed_eq ▸ arr11 m c).symm
theorem same12 : val_main_v229 (F := Ideal) x1 x2 x5 x6 x8 x10 = (dats m 0 c).arrAt 12 cfg0.N := by
  subst e0 e1 e2 e3 e4 e5 e6 e7 e8 e9 e10
  exact (v229_eq (arg m c main_arg0) (arg m c main_arg1) (arg m c main_arg2) (arg m c main_arg3) (arg m c main_arg4) (arg m c main_arg5) (arg m c main_arg6) (arg m c main_arg7) (arg m c main_arg8) (arg m c main_arg9) (arg m c main_arg10)).trans (closed_eq ▸ arr12 m c).symm
theorem same13 : val_main_v232 (F := Ideal) x1 x2 x5 x6 x8 x10 = (dats m 0 c).arrAt 13 cfg0.N := by
  subst e0 e1 e2 e3 e4 e5 e6 e7 e8 e9 e10
  exact (v232_eq (arg m c main_arg0) (arg m c main_arg1) (arg m c main_arg2) (arg m c main_arg3) (arg m c main_arg4) (arg m c main_arg5) (arg m c main_arg6) (arg m c main_arg7) (arg m c main_arg8) (arg m c main_arg9) (arg m c main_arg10)).trans (closed_eq ▸ arr13 m c).symm
theorem same14 : val_main_v237 (F := Ideal) x0 x3 x4 x7 x9 = (dats m 0 c).arrAt 14 cfg0.N := by
  subst e0 e1 e2 e3 e4 e5 e6 e7 e8 e9 e10
  exact (v237_eq (arg m c main_arg0) (arg m c main_arg1) (arg m c main_arg2) (arg m c main_arg3) (arg m c main_arg4) (arg m c main_arg5) (arg m c main_arg6) (arg m c main_arg7) (arg m c main_arg8) (arg m c main_arg9) (arg m c main_arg10)).trans (closed_eq ▸ arr14 m c).symm
theorem same15 : val_main_v242 (F := Ideal) x1 x2 x5 x6 x8 x10 = (dats m 0 c).arrAt 15 cfg0.N := by
  subst e0 e1 e2 e3 e4 e5 e6 e7 e8 e9 e10
  exact (v242_eq (arg m c main_arg0) (arg m c main_arg1) (arg m c main_arg2) (arg m c main_arg3) (arg m c main_arg4) (arg m c main_arg5) (arg m c main_arg6) (arg m c main_arg7) (arg m c main_arg8) (arg m c main_arg9) (arg m c main_arg10)).trans (closed_eq ▸ arr15 m c).symm
theorem same16 : val_main_v244 (F := Ideal) x0 x3 x4 x9 = (dats m 0 c).arrAt 16 cfg0.N := by
  subst e0 e1 e2 e3 e4 e5 e6 e7 e8 e9 e10
  exact (v244_eq (arg m c main_arg0) (arg m c main_arg1) (arg m c main_arg2) (arg m c main_arg3) (arg m c main_arg4) (arg m c main_arg5) (arg m c main_arg6) (arg m c main_arg7) (arg m c main_arg8) (arg m c main_arg9) (arg m c main_arg10)).trans (arr16 m c).symm
theorem same17 : val_main_v246 (F := Ideal) x1 x2 x5 x6 x10 = (dats m 0 c).arrAt 17 cfg0.N := by
  subst e0 e1 e2 e3 e4 e5 e6 e7 e8 e9 e10
  exact (v246_eq (arg m c main_arg0) (arg m c main_arg1) (arg m c main_arg2) (arg m c main_arg3) (arg m c main_arg4) (arg m c main_arg5) (arg m c main_arg6) (arg m c main_arg7) (arg m c main_arg8) (arg m c main_arg9) (arg m c main_arg10)).trans (arr17 m c).symm

end Cert.Kernel3Ideal.Value

end
-- ==== Proof.LeadSpec.lean ====
/- One row of the layer's first half: the first norm and its projection, the heads' normed and turned queries and keys, their values. -/
module

public import proofs.«01_k».proof.Proof.HeadSpec
public import proofs.«01_k».proof.Proof.InpRows

@[expose] public section

noncomputable section

open Idealize.ShloMosaic Idealize.ShloMosaic.TcCoe

namespace Cert.Lead

open Cert.Mix (Row meanSq inv unit c1024)
open Cert.Lat (c384 c256)
open Cert.Head (c96 xq xk wide laneC laneS headK laneK)

/-- The weights of the first norm and of the heads. -/
structure Weights where
  inp : Cert.Inp.Weights
  head : Cert.Head.Weights

/-- What one row takes: the stream, the position's cosines and sines. -/
structure RowIn where
  h : Row 1024
  c : Row 16
  s : Row 16

variable (w : Weights) (r : RowIn)

def hn : Row 1024 := fun j => unit c1024 r.h j * w.inp.ln1 j
/-- The projected columns. -/
def cols : Row 1696 := fun k => ∑ j, hn w r j * w.inp.win j k
/-- The same with the rotary columns among 128 lanes. -/
def plane : Row 1792 := fun l => ∑ j, hn w r j * Cert.Inp.winL w.inp l j
/-- The columns the heads take. -/
def hr : Cert.Head.RowIn := ⟨fun j => cols w r ⟨j, by omega⟩, fun j => cols w r ⟨384 + j, by omega⟩, fun j => cols w r ⟨640 + j, by omega⟩, 0, 0, r.c, r.s⟩
abbrev lat : Cert.Lat.RowIn := ⟨(hr w r).cq, (hr w r).ckv, (hr w r).kr, 0, 0, 0⟩
/-- The latents and the rotary columns side by side. -/
def pa : Row 768 := Cert.Lat.panel (lat w r)
/-- The recurrence's columns and its gate's. -/
def xr : Row 512 := fun j => cols w r ⟨672 + j, by omega⟩
def xg : Row 512 := fun j => cols w r ⟨1184 + j, by omega⟩

/-- A row of a head, normed and scaled. -/
def nrm (g x : Row 96) : Row 96 := fun j => unit c96 x j * g j
/-- A row of a head, its rotary columns turned by the position. -/
def turned (c s : Row 16) (x : Row 96) : Row 96 := fun j =>
  if h0 : (j : ℕ) < 64 then x j
  else if h1 : (j : ℕ) < 80 then x j * c ⟨j - 64, by omega⟩ - x ⟨j + 16, by omega⟩ * s ⟨j - 64, by omega⟩
  else x ⟨j - 16, by omega⟩ * s ⟨j - 80, by omega⟩ + x j * c ⟨j - 80, by omega⟩

def q (h : Fin 8) : Row 96 := turned r.c r.s (nrm w.head.qg (xq w.head (hr w r) h))
def k (h : Fin 8) : Row 96 := turned r.c r.s (nrm w.head.kg (xk w.head (hr w r) h))
/-- The heads' values. -/
def v : Row 512 := fun l => ∑ k, Cert.Head.ckvn w.head (hr w r) k * w.head.wukv k (Cert.Lat.laneOf l)

/-- The heads' rows on 128 lanes each, lane 96 holding a number of the row. -/
def tagged (t : EReal) (x : Fin 8 → Row 96) : Row 1024 := fun l => if (l : ℕ) % 128 = 96 then t else wide (x (headK l)) (laneK l)
/-- What lane 96 of a key holds: nothing in a sequence, a large negative number in the padding. -/
def keyMask (s : ℕ) : EReal := if s < 2064 then 0 else Ideal.ofBits .f32 0xC6EA6000#32

/-! The projected columns on the lanes. -/

theorem plane_lo (l : Fin 1792) (h : (l : ℕ) < 640) : plane w r l = cols w r ⟨l, by omega⟩ := by
  refine Finset.sum_congr rfl fun j _ => congrArg (hn w r j * ·) ?_
  unfold Cert.Inp.winL
  rw [dif_pos h]
theorem plane_left (l : Fin 1792) (h : 640 ≤ (l : ℕ)) (h' : (l : ℕ) < 704) : plane w r l = 0 := by
  refine Finset.sum_eq_zero fun j _ => ?_
  unfold Cert.Inp.winL
  rw [dif_neg (by omega), dif_pos h', mul_zero]
theorem plane_kr (l : Fin 1792) (h : 704 ≤ (l : ℕ)) (h' : (l : ℕ) < 736) : plane w r l = cols w r ⟨l - 64, by omega⟩ := by
  refine Finset.sum_congr rfl fun j _ => congrArg (hn w r j * ·) ?_
  unfold Cert.Inp.winL
  rw [dif_neg (by omega), dif_neg (by omega), dif_pos h']
theorem plane_right (l : Fin 1792) (h : 736 ≤ (l : ℕ)) (h' : (l : ℕ) < 768) : plane w r l = 0 := by
  refine Finset.sum_eq_zero fun j _ => ?_
  unfold Cert.Inp.winL
  rw [dif_neg (by omega), dif_neg (by omega), dif_neg (by omega), dif_pos h', mul_zero]
theorem plane_hi (l : Fin 1792) (h : 768 ≤ (l : ℕ)) : plane w r l = cols w r ⟨l - 96, by omega⟩ := by
  refine Finset.sum_congr rfl fun j _ => congrArg (hn w r j * ·) ?_
  unfold Cert.Inp.winL
  rw [dif_neg (by omega), dif_neg (by omega), dif_neg (by omega), dif_neg (by omega)]

theorem plane_krl (j : Fin 128) : plane w r ⟨640 + j, by omega⟩ = Cert.Lat.krl (lat w r) j := by
  unfold Cert.Lat.krl
  by_cases h0 : (j : ℕ) < 64
  · rw [dif_neg (by omega), plane_left w r _ (by simp) (by simp; omega)]
  by_cases h1 : (j : ℕ) < 96
  · rw [dif_pos ⟨by omega, by omega⟩, plane_kr w r _ (by simp; omega) (by simp; omega)]
    exact congrArg (cols w r) (Fin.ext (by simp; omega))
  · rw [dif_neg (by omega), plane_right w r _ (by simp; omega) (by simp; omega)]
theorem plane_pa (j : Fin 768) : plane w r ⟨j, by omega⟩ = pa w r j := by
  unfold pa Cert.Lat.panel
  by_cases h0 : (j : ℕ) < 384
  · rw [dif_pos h0, plane_lo w r _ (by simp; omega)]
    rfl
  rw [dif_neg h0]
  by_cases h1 : (j : ℕ) < 640
  · rw [dif_pos (by omega), plane_lo w r _ h1]
    exact congrArg (cols w r) (Fin.ext (by simp; omega))
  · rw [dif_neg (by omega), ← plane_krl]
    exact congrArg (plane w r) (Fin.ext (by simp; omega))
theorem plane_xr (j : Fin 512) : plane w r ⟨768 + j, by omega⟩ = xr w r j := by
  rw [plane_hi w r _ (by simp)]
  exact congrArg (cols w r) (Fin.ext (by simp; omega))
theorem plane_xg (j : Fin 512) : plane w r ⟨1280 + j, by omega⟩ = xg w r j := by
  rw [plane_hi w r _ (by simp; omega)]
  exact congrArg (cols w r) (Fin.ext (by simp; omega))

/-- A row of lanes turned, by the tables on the lanes. -/
def turnL (c s x : Row 128) : Row 128 := fun j => x j * c j +
  (if h : 64 ≤ (j : ℕ) ∧ (j : ℕ) < 80 then 0 - x ⟨j + 16, by omega⟩
   else if h : 80 ≤ (j : ℕ) ∧ (j : ℕ) < 96 then x ⟨j - 16, by omega⟩ else 0) * s j

theorem turnL_wide (c s : Row 16) (x : Row 96) (l : Fin 128) : turnL (laneC c) (laneS s) (wide x) l = wide (turned c s x) l := by
  unfold turnL
  by_cases h0 : (l : ℕ) < 64
  · rw [dif_neg (by omega), dif_neg (by omega)]
    simp [wide, laneC, turned, h0, show (l : ℕ) < 96 by omega]
  by_cases h1 : (l : ℕ) < 80
  · have a0 : (l : ℕ) < 96 := by omega
    have a1 : (l : ℕ) - 64 < 16 := by omega
    have a2 : (l : ℕ) + 16 < 96 := by omega
    rw [dif_pos ⟨by omega, h1⟩]
    simp only [wide, laneC, laneS, turned, h0, h1, a0, a1, a2, dif_pos, dif_neg, not_false_eq_true, zero_add, EReal.neg_mul, sub_eq_add_neg]
  by_cases h2 : (l : ℕ) < 96
  · have a1 : ¬ (l : ℕ) - 64 < 16 := by omega
    have a2 : (l : ℕ) - 64 - 16 < 16 := by omega
    have a3 : (l : ℕ) - 16 < 96 := by omega
    rw [dif_neg (by omega), dif_pos ⟨by omega, h2⟩]
    simp only [wide, laneC, laneS, turned, h0, h1, h2, a1, a2, a3, dif_pos, dif_neg, not_false_eq_true]
    rw [add_comm]
    exact congrArg₂ (fun i i' => _ * s i + _ * c i') (Fin.ext (by show (l : ℕ) - 64 - 16 = l - 80; omega)) (Fin.ext (by show (l : ℕ) - 64 - 16 = l - 80; omega))
  · rw [dif_neg (by omega), dif_neg (by omega), Cert.Head.wide_hi _ _ h2, Cert.Head.wide_hi _ _ h2]
    simp

/-! A row of padding gives nothing. -/

section
variable (c s : Row 16)
theorem cols_pad : cols w ⟨0, c, s⟩ = 0 := by funext k; simp [cols, hn, unit]
theorem hr_pad : hr w ⟨0, c, s⟩ = ⟨0, 0, 0, 0, 0, c, s⟩ := by
  have e : ∀ j, cols w ⟨0, c, s⟩ j = 0 := congrFun (cols_pad w c s)
  simp only [hr, e]
  rfl
theorem pa_pad : pa w ⟨0, c, s⟩ = 0 := by
  unfold pa lat
  rw [hr_pad]
  exact Cert.Lat.panel_pad
theorem xr_pad : xr w ⟨0, c, s⟩ = 0 := by funext j; exact congrFun (cols_pad w c s) _
theorem xg_pad : xg w ⟨0, c, s⟩ = 0 := by funext j; exact congrFun (cols_pad w c s) _
theorem turned_zero : turned c s 0 = 0 := by
  funext j; unfold turned; split <;> [rfl; split <;> simp]
theorem nrm_zero (g : Row 96) : nrm g 0 = 0 := by funext j; simp [nrm, unit]
theorem q_pad : q w ⟨0, c, s⟩ = 0 := by
  funext h
  unfold q
  rw [hr_pad, show xq w.head ⟨0, 0, 0, 0, 0, c, s⟩ h = 0 from by funext j; simp [xq, Cert.Head.cqn, unit], nrm_zero, turned_zero]
  rfl
theorem k_pad : k w ⟨0, c, s⟩ = 0 := by
  funext h
  unfold k
  rw [hr_pad, show xk w.head ⟨0, 0, 0, 0, 0, c, s⟩ h = 0 from by funext j; simp [xk, Cert.Head.ckvn, unit], nrm_zero, turned_zero]
  rfl
theorem v_pad : v w ⟨0, c, s⟩ = 0 := by
  funext l
  unfold v
  rw [hr_pad]
  exact Finset.sum_eq_zero fun k _ => by simp [Cert.Head.ckvn, unit]
end

/-- The weights, read off their arrays. -/
def weightsOf (ln1 : FVec Ideal ⟨1, ![1024]⟩ .f32) (win : FVec Ideal ⟨2, ![1024, 1696]⟩ .f32) (qag : FVec Ideal ⟨1, ![384]⟩ .f32) (wuq : FVec Ideal ⟨2, ![384, 768]⟩ .f32)
    (kvag : FVec Ideal ⟨1, ![256]⟩ .f32) (wukv : FVec Ideal ⟨2, ![256, 1024]⟩ .f32) (qg kg : FVec Ideal ⟨1, ![96]⟩ .f32) : Weights :=
  ⟨Cert.Inp.weightsOf ln1 win, Cert.Head.weightsOf qag wuq kvag wukv qg kg⟩

/-- A row of the packed sequences: a sequence's, or nothing, at its position. -/
def rowOf (h : FVec Ideal ⟨3, ![2, 2064, 1024]⟩ .f32) (b : Fin 2) (s : Fin 2176) : RowIn where
  h j := if hs : (s : ℕ) < 2064 then h (ix3 b ⟨s, hs⟩ j) else 0
  c := Cert.Head.cosAt s
  s := Cert.Head.sinAt s

theorem rowOf_pad (h : FVec Ideal ⟨3, ![2, 2064, 1024]⟩ .f32) (b : Fin 2) (s : Fin 2176) (hs : ¬ (s : ℕ) < 2064) :
    rowOf h b s = ⟨0, Cert.Head.cosAt s, Cert.Head.sinAt s⟩ := by
  unfold rowOf
  congr 1
  funext j
  exact dif_neg hs

end Cert.Lead

end
-- ==== Proof.LeadPay.lean ====
/- What the body of the layer's first half computes, element by element: every head by the same functions. -/
module

public import proofs.«01_k».proof.Proof.Gen.Kernel6Ideal.Skeleton
public import proofs.«01_k».proof.Proof.LeadSpec
public import Idealize.ShloMosaic.Lib.Pointwise

@[expose] public section

set_option maxRecDepth 16384

noncomputable section

open Idealize.ShloMosaic Idealize.ShloMosaic.TcCoe Idealize.SL.Sem

namespace Cert.Kernel6Ideal.Value
open Cert.Kernel6Ideal Cert.Kernel6Ideal.Gen

open Cert.Mix (Row meanSq inv unit c1024)
open Cert.Lat (c384 c256)
open Cert.Head (c96 xq xk wide laneC laneS headK laneK colK colQ cqn ckvn)
open Cert.Lead

theorem named_384 : Named.named (F := Ideal) (φ := .f32) κ "inv_384" 0x3B2AAAAB#32 = c384 :=
  IdealRules.named_const.ideal_named_scalar _ _ _ _ rfl
theorem named_96 : Named.named (F := Ideal) (φ := .f32) κ "inv_96" 0x3C2AAAAB#32 = c96 :=
  IdealRules.named_const.ideal_named_scalar _ _ _ _ rfl

/-! One head's row, as the body computes each of them. -/
/-- A head's lanes of the projected columns. -/
abbrev cut (o : ℕ) (x : FVec Ideal S272x1024 .f32) (ho : S272x1024.Slices ![0, o] S272x128) : FVec Ideal S272x128 .f32 :=
  extractStridedSlice S272x128 ![0, o] x ho
/-- Normed and scaled. -/
def normT (x : FVec Ideal S272x128 .f32) (g : FVec Ideal S1x128 .f32) : FVec Ideal S272x128 .f32 :=
  mulf (mulf x (broadcastTo S272x128 (rsqrt (addf (mulf (shapeCast S272x1 (multiReduction .add [1] S272 (mulf x x) 0x00000000#32 reduces_S272x128_S272 (.inl rfl) rfl) shapeCasts_S272_S272x1)
    (broadcast S272x1 (Named.named κ "inv_96" 0x3C2AAAAB#32))) (broadcast S272x1 (Scalar.ofBits .f32 0x358637BD#32)))) broadcasts_S272x1_S272x128))
    (broadcastTo S272x128 (shapeCast S1x128 g shapeCasts_S1x128_S1x128) broadcasts_S1x128_S272x128)
/-- The lanes from `a` to before `b`. -/
abbrev between (a b : BitVec 32) : IVec S272x128 1 :=
  andi (cmpi .sge (iota .tc S272x128 32 [1] iota_S272x128_d1_w32) (broadcast S272x128 a)) (cmpi .slt (iota .tc S272x128 32 [1] iota_S272x128_d1_w32) (broadcast S272x128 b))
/-- The rotary lanes exchanged. -/
def rotT (x : FVec Ideal S272x128 .f32) : FVec Ideal S272x128 .f32 :=
  select (between 64#32 80#32) (subf (broadcast S272x128 (Scalar.ofBits .f32 0x00000000#32)) (dynamicRotate 1 112#32 none x rotates_S272x128_d1))
    (select (between 80#32 96#32) (dynamicRotate 1 16#32 none x rotates_S272x128_d1) (broadcast S272x128 (Scalar.ofBits .f32 0x00000000#32)))
/-- Turned by the tables. -/
def turnT (cs sn x : FVec Ideal S272x128 .f32) : FVec Ideal S272x128 .f32 := addf (mulf x cs) (mulf (rotT x) sn)
/-- With a number of the row at the marked lane. -/
def tagT (a : IVec S1x128 1) (t x : FVec Ideal S272x128 .f32) : FVec Ideal S272x128 .bf16 :=
  truncf .bf16 (select (broadcastTo S272x128 (shapeCast S1x128 a shapeCasts_S1x128_S1x128) broadcasts_S1x128_S272x128) t x) bitsLt_bf16_f32
abbrev tagQ : FVec Ideal S272x128 .f32 := broadcast S272x128 (Scalar.ofBits .f32 0x3F800000#32)
abbrev tagK (t : FVec Ideal S272x1 .f32) : FVec Ideal S272x128 .f32 := broadcastTo S272x128 (shapeCast S272x1 t shapeCasts_S272x1_S272x1) broadcasts_S272x1_S272x128

/-- The queries' projection on the kernel's lanes. -/
def wqLane (w : Cert.Head.Weights) (l : Fin 1024) (k : Fin 384) : EReal := if h : (l : ℕ) % 128 < 96 then w.wuq k (colQ (headK l) ⟨l % 128, h⟩) else 0
/-- The keys' projection on the kernel's lanes. -/
def wkLane (w : Cert.Head.Weights) (l : Fin 1024) (k : Fin 256) : EReal := if (l : ℕ) % 128 < 64 then w.wukv k l else 0

section
variable {w : Weights} {r : RowIn} {i : Fin 272}

section
variable {v0 : FVec Ideal S272x1024 .f32} {v2 : FVec Ideal S1x1024 .f32} {v17 : FVec Ideal S1792x1024 .bf16}
variable (h0 : ∀ j, v0 (ix2 i j) = r.h j) (h2 : ∀ z j, v2 (ix2 z j) = w.inp.ln1 j) (h17 : ∀ l j, v17 (ix2 l j) = Cert.Inp.winL w.inp l j)
include h0 h2 h17

theorem pay3_at (l : Fin 1792) : k0_pay3 (F := Ideal) v0 v2 v17 (ix2 i l) = plane w r l := by
  pointwise [k0_pay3]
  simp only [h0, h2, h17]
  rfl
theorem pay4_at (j : Fin 768) : k0_pay4 (F := Ideal) v0 v2 v17 (ix2 i j) = pa w r j := by
  pointwise [k0_pay4]
  rw [pay3_at h0 h2 h17, ← plane_pa]
theorem pay5_at (j : Fin 512) : k0_pay5 (F := Ideal) v0 v2 v17 (ix2 i j) = xr w r j := by
  pointwise [k0_pay5]
  rw [pay3_at h0 h2 h17, ← plane_xr]
theorem pay6_at (j : Fin 512) : k0_pay6 (F := Ideal) v0 v2 v17 (ix2 i j) = xg w r j := by
  pointwise [k0_pay6]
  rw [pay3_at h0 h2 h17, ← plane_xg]
theorem pay7_at (j : Fin 384) : k0_pay7 (F := Ideal) v0 v2 v17 (ix2 i j) = (hr w r).cq j := by
  pointwise [k0_pay7]
  rw [pay3_at h0 h2 h17, plane_lo w r _ (by simp; omega)]
  exact congrArg (cols w r) (Fin.ext (by simp))
theorem cqn_at {g : FVec Ideal S1x384 .f32} (hg : ∀ z j, g (ix2 z j) = w.head.qag j) (j : Fin 384) :
    k0_pay11 (F := Ideal) (k0_pay7 v0 v2 v17) (k0_pay8 g) (k0_pay9 v0 v2 v17) k0_pay10 (ix2 i j) = cqn w.head (hr w r) j := by
  pointwise [k0_pay11, k0_pay8, k0_pay9, k0_pay10]
  simp only [pay7_at h0 h2 h17, hg, named_384]
  rfl
end

section
variable {v19 : FVec Ideal S272x1792 .f32} (h19 : ∀ l, v19 (ix2 i l) = plane w r l)
include h19
theorem pay12_at {g : FVec Ideal S1x256 .f32} (hg : ∀ z j, g (ix2 z j) = w.head.kvag j) (j : Fin 256) :
    k0_pay12 (F := Ideal) v19 g (ix2 i j) = ckvn w.head (hr w r) j := by
  have e : ∀ j : Fin 256, ∀ hj, v19 (ix2 i ⟨384 + j, hj⟩) = (hr w r).ckv j := fun j hj => (h19 _).trans (plane_lo w r _ (by simp; omega))
  pointwise [k0_pay12]
  simp only [e, hg]
  rfl
theorem pay13_at (j : Fin 128) : k0_pay13 (F := Ideal) v19 (ix2 i j) = Cert.Lat.krl (lat w r) j := by
  pointwise [k0_pay13]
  rw [h19, ← plane_krl]
end

theorem pay21_at {v41 : FVec Ideal S272x384 .bf16} {v80 : FVec Ideal S1024x384 .bf16} (h41 : ∀ k, v41 (ix2 i k) = cqn w.head (hr w r) k)
    (h80 : ∀ l k, v80 (ix2 l k) = wqLane w.head l k) (l : Fin 1024) :
    k0_pay21 (F := Ideal) v41 v80 (ix2 i l) = wide (xq w.head (hr w r) (headK l)) (laneK l) := by
  pointwise [k0_pay21]
  simp only [h41, h80, wqLane, wide, laneK]
  by_cases h : (l : ℕ) % 128 < 96
  · simp only [h, dif_pos, ↓reduceDIte, xq]
  · simp [h]

theorem pay22_at {v57 : FVec Ideal S272x256 .bf16} {v83 : FVec Ideal S1024x256 .bf16} (h57 : ∀ k, v57 (ix2 i k) = ckvn w.head (hr w r) k)
    (h83 : ∀ l k, v83 (ix2 l k) = wkLane w.head l k) (l : Fin 1024) :
    k0_pay22 (F := Ideal) v57 v83 (ix2 i l) = if (l : ℕ) % 128 < 64 then ∑ k, ckvn w.head (hr w r) k * w.head.wukv k l else 0 := by
  pointwise [k0_pay22]
  simp only [h57, h83, wkLane]
  by_cases h : (l : ℕ) % 128 < 64
  · simp only [h, if_pos]
  · simp [h]

theorem pay2_at {v57 : FVec Ideal S272x256 .bf16} {v774 : FVec Ideal S512x256 .bf16} (h57 : ∀ k, v57 (ix2 i k) = ckvn w.head (hr w r) k)
    (h774 : ∀ l k, v774 (ix2 l k) = w.head.wukv k (Cert.Lat.laneOf l)) (l : Fin 512) : k0_pay2 (F := Ideal) v57 v774 (ix2 i l) = v w r l := by
  pointwise [k0_pay2]
  simp only [h57, h774]
  rfl

theorem cut_at {x : FVec Ideal S272x1024 .f32} (h : Fin 8) (ho : S272x1024.Slices ![0, 128 * (h : ℕ)] S272x128) (i : Fin 272) (j : Fin 128) :
    cut (128 * h) x ho (ix2 i j) = x (ix2 i (colK h j)) := by
  pointwise [cut]
  rfl

theorem headK_colK (h : Fin 8) (j : Fin 128) : headK (colK h j) = h := Fin.ext (by simp only [headK, colK]; omega)
theorem laneK_colK (h : Fin 8) (j : Fin 128) : laneK (colK h j) = j := Fin.ext (by simp only [laneK, colK]; omega)

theorem query_at {x : FVec Ideal S272x1024 .f32} (hx : ∀ l, x (ix2 i l) = wide (xq w.head (hr w r) (headK l)) (laneK l))
    (h : Fin 8) (ho : S272x1024.Slices ![0, 128 * (h : ℕ)] S272x128) (j : Fin 128) : cut (128 * h) x ho (ix2 i j) = wide (xq w.head (hr w r) h) j := by
  rw [cut_at, hx, headK_colK, laneK_colK]

theorem key_at {x : FVec Ideal S272x1024 .f32} {kp : FVec Ideal S272x128 .f32}
    (hx : ∀ l : Fin 1024, x (ix2 i l) = if (l : ℕ) % 128 < 64 then ∑ k, ckvn w.head (hr w r) k * w.head.wukv k l else 0)
    (hk : ∀ j, kp (ix2 i j) = Cert.Lat.krl (lat w r) j)
    (h : Fin 8) (ho : S272x1024.Slices ![0, 128 * (h : ℕ)] S272x128) (j : Fin 128) : addf (cut (128 * h) x ho) kp (ix2 i j) = wide (xk w.head (hr w r) h) j := by
  show cut (128 * h) x ho (ix2 i j) + kp (ix2 i j) = _
  have e : ((colK h j : Fin 1024) : ℕ) % 128 = j := by simp only [colK]; omega
  rw [cut_at, hx, hk, e]
  unfold Cert.Lat.krl wide xk
  by_cases h0 : (j : ℕ) < 64
  · rw [if_pos h0, dif_neg (by omega), dif_pos (by omega), dif_pos h0, add_zero]
  rw [if_neg h0, zero_add]
  by_cases h1 : (j : ℕ) < 96
  · rw [dif_pos ⟨by omega, by omega⟩, dif_pos h1, dif_neg h0]
  · rw [dif_neg (by omega), dif_neg h1]
end

theorem lanes_a : ∀ j : Fin 128, Scalar.andi (Scalar.cmpi .sge (BitVec.ofNat 32 j) 64#32) (Scalar.cmpi .slt (BitVec.ofNat 32 j) 80#32)
    = if 64 ≤ (j : ℕ) ∧ (j : ℕ) < 80 then 1#1 else 0#1 := by decide +kernel
theorem lanes_b : ∀ j : Fin 128, Scalar.andi (Scalar.cmpi .sge (BitVec.ofNat 32 j) 80#32) (Scalar.cmpi .slt (BitVec.ofNat 32 j) 96#32)
    = if 80 ≤ (j : ℕ) ∧ (j : ℕ) < 96 then 1#1 else 0#1 := by decide +kernel

section
variable {cs sn x : FVec Ideal S272x128 .f32} {g : FVec Ideal S1x128 .f32} {i : Fin 272} {X G : Row 96} {C S : Row 16}

theorem norm_at (hx : ∀ j, x (ix2 i j) = wide X j) (hg : ∀ z j, g (ix2 z j) = wide G j) (j : Fin 128) : normT x g (ix2 i j) = wide (nrm G X) j := by
  pointwise [normT]
  simp only [hx, hg, named_96, Cert.Head.wide_mul, Cert.Head.sum_wide]
  rw [Cert.Head.wide_scale, Cert.Head.wide_mul]
  rfl

theorem rot_at (j : Fin 128) : rotT x (ix2 i j) = (if h : 64 ≤ (j : ℕ) ∧ (j : ℕ) < 80 then 0 - x (ix2 i ⟨j + 16, by omega⟩)
   else if h : 80 ≤ (j : ℕ) ∧ (j : ℕ) < 96 then x (ix2 i ⟨j - 16, by omega⟩) else 0 : EReal) := by
  pointwise [rotT, between]
  let lo : Fin 128 := ⟨((j : ℕ) + 128 - 112) % 128, Nat.mod_lt _ (by decide)⟩
  let hi : Fin 128 := ⟨((j : ℕ) + 128 - 16) % 128, Nat.mod_lt _ (by decide)⟩
  show Scalar.select (Scalar.andi (Scalar.cmpi .sge (BitVec.ofNat 32 j) 64#32) (Scalar.cmpi .slt (BitVec.ofNat 32 j) 80#32))
    (0 - x (ix2 i lo)) (Scalar.select (Scalar.andi (Scalar.cmpi .sge (BitVec.ofNat 32 j) 80#32) (Scalar.cmpi .slt (BitVec.ofNat 32 j) 96#32))
    (x (ix2 i hi)) 0) = _
  rw [lanes_a, lanes_b]
  by_cases h0 : 64 ≤ (j : ℕ) ∧ (j : ℕ) < 80
  · have p : lo = ⟨j + 16, by omega⟩ := Fin.ext (by show ((j : ℕ) + 128 - 112) % 128 = j + 16; omega)
    rw [dif_pos h0, if_pos h0, p]
    rfl
  rw [if_neg h0, dif_neg h0]
  by_cases h1 : 80 ≤ (j : ℕ) ∧ (j : ℕ) < 96
  · have p : hi = ⟨j - 16, by omega⟩ := Fin.ext (by show ((j : ℕ) + 128 - 16) % 128 = j - 16; omega)
    rw [dif_pos h1, if_pos h1, p]
    rfl
  · rw [if_neg h1, dif_neg h1]
    rfl

theorem turn_at (hx : ∀ j, x (ix2 i j) = wide X j) (hc : ∀ j, cs (ix2 i j) = laneC C j) (hs : ∀ j, sn (ix2 i j) = laneS S j) (j : Fin 128) :
    turnT cs sn x (ix2 i j) = wide (turned C S X) j := by
  rw [← turnL_wide]
  show x (ix2 i j) * cs (ix2 i j) + rotT x (ix2 i j) * sn (ix2 i j) = _
  rw [rot_at]
  simp only [hx, hc, hs]
  rfl

theorem tag_at {a : IVec S1x128 1} {t : FVec Ideal S272x128 .f32} {T : EReal} {Y : Row 128} (ha : ∀ z j, a (ix2 z j) = if (j : ℕ) = 96 then 1#1 else 0#1)
    (ht : ∀ j, t (ix2 i j) = T) (hx : ∀ j, x (ix2 i j) = Y j) (j : Fin 128) : tagT a t x (ix2 i j) = if (j : ℕ) = 96 then T else Y j := by
  pointwise [tagT]
  rw [ha, ht, hx]
  split <;> rfl
end

theorem lane_tag : ∀ j : Fin 128, Scalar.cmpi .eq (BitVec.ofNat 32 j) 96#32 = if (j : ℕ) = 96 then 1#1 else 0#1 := by decide +kernel
theorem pay16_at (z : Fin 1) (j : Fin 128) : k0_pay16 (ix2 z j) = if (j : ℕ) = 96 then 1#1 else 0#1 := by
  rw [← lane_tag]
  pointwise [k0_pay16]
  rfl

/-- Whether a row of a grid point's block is a sequence's. -/
theorem row_word : ∀ (t : Fin 16) (i : Fin 272), (let n := Scalar.addi (Scalar.muli (BitVec.ofNat 32 t) 272#32) (BitVec.ofNat 32 i)
    Scalar.cmpi .slt (Scalar.select (Scalar.cmpi .sge n 2176#32) (Scalar.subi n 2176#32) n) 2064#32) = if ((t : ℕ) * 272 + i) % 2176 < 2064 then 1#1 else 0#1 := by
  decide +kernel
theorem mask_at (t : Fin 16) (i : Fin 272) (z : Fin 1) : k0_pay20 (F := Ideal) (k0_pay17 (BitVec.ofNat 32 t)) k0_pay18 k0_pay19 (ix2 i z) = keyMask (((t : ℕ) * 272 + i) % 2176) := by
  have e := row_word t i
  pointwise [k0_pay20, k0_pay17, k0_pay18, k0_pay19]
  refine (congrArg (fun b => Scalar.select b _ _) e).trans ?_
  unfold keyMask
  split <;> rfl
theorem pay14_eq (v : FVec Ideal S272x128 .f32) (i : Fin 272) (j : Fin 128) : k0_pay14 (F := Ideal) v (ix2 i j) = v (ix2 i j) := by pointwise [k0_pay14]
theorem pay15_eq (v : FVec Ideal S272x128 .f32) (i : Fin 272) (j : Fin 128) : k0_pay15 (F := Ideal) v (ix2 i j) = v (ix2 i j) := by pointwise [k0_pay15]

end Cert.Kernel6Ideal.Value

end
-- ==== Proof.LeadHost.lean ====
/- The arrays the layer's first half takes, element by element: the rows padded and packed, the projections turned and set on the
   lanes, the tables of the positions. -/
module

public import proofs.«01_k».proof.Proof.LeadPay
public import proofs.«01_k».proof.Proof.Gen.Kernel6Ideal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel6Ideal.Value
open Cert.Kernel6Ideal Cert.Kernel6Ideal.Gen

open Cert.Mix (Row c1024)
open Cert.Head (wide laneC laneS headK laneK colK colQ cosAt sinAt)
open Cert.Inp (winL)
open Cert.Lead

variable (m : (ℓ : Loc nD τ sig) → Buf (Elt Ideal) ℓ) (c : Dev nD)

/-- The arguments of a device. -/
abbrev arg (b : Ref sig .tc) : Buf (Elt Ideal) ((c : Thread nD τ).loc b) := m ((c : Thread nD τ).loc b)

/-- The weights of a device. -/
abbrev wts : Weights := weightsOf (arg m c main_arg1) (arg m c main_arg2) (arg m c main_arg3) (arg m c main_arg4) (arg m c main_arg5) (arg m c main_arg6) (arg m c main_arg7) (arg m c main_arg8)
/-- A packed row of a device. -/
abbrev rowAt (b : Fin 2) (s : Fin 2176) : RowIn := rowOf (arg m c main_arg0) b s

/-- The zero that fills the padding. -/
abbrev zeroF : FVec Ideal S_ .f32 := sitofp .f32 (constantI S_ 32 0#32)

abbrev pad1024 (x : FVec Ideal S2x2064x1024 .f32) : FVec Ideal S2x2176x1024 .f32 :=
  pad S2x2176x1024 ![0, 0, 0] ![0, 112, 0] ![0, 0, 0] x zeroF pads_S2x2064x1024_S2x2176x1024_000_01120_000 h_S_
abbrev pad96 (x : FVec Ideal S96 .f32) : FVec Ideal S128 .f32 := pad S128 ![0] ![32] ![0] x zeroF pads_S96_S128_0320 h_S_
/-- The queries' projection, turned, each head's columns on 128 lanes. -/
abbrev padQ (x : FVec Ideal S384x768 .f32) : FVec Ideal S1024x384 .bf16 :=
  shapeCast S1024x384 (truncf .bf16 (pad S8x128x384 ![0, 0, 0] ![0, 32, 0] ![0, 0, 0] (shapeCast S8x96x384 (transpose S768x384 [1, 0] x transposes_S384x768_S768x384_1_0) shapeCasts_S768x384_S8x96x384) zeroF pads_S8x96x384_S8x128x384_000_0320_000 h_S_) bitsLt_bf16_f32) shapeCasts_S8x128x384_S1024x384
/-- The keys' columns of the second projection, turned, each head's on 128 lanes. -/
abbrev padK (x : FVec Ideal S256x1024 .f32) : FVec Ideal S1024x256 .bf16 :=
  shapeCast S1024x256 (truncf .bf16 (pad S8x128x256 ![0, 0, 0] ![0, 64, 0] ![0, 0, 0] (extractStridedSlice S8x64x256 ![0, 0, 0] (shapeCast S8x128x256 (transpose S1024x256 [1, 0] x transposes_S256x1024_S1024x256_1_0) shapeCasts_S1024x256_S8x128x256) slices_S8x128x256_S8x64x256_0_0_0) zeroF pads_S8x64x256_S8x128x256_000_0640_000 h_S_) bitsLt_bf16_f32) shapeCasts_S8x128x256_S1024x256
/-- The positions' angles. -/
abbrev angles : FVec Ideal S2176x16 .f32 :=
  mulf (broadcastInDim S2176x16 ![0, 1] bcast_S2176x1_S2176x16_0_1 (broadcastInDim S2176x1 ![0] bcast_S2176_S2176x1_0 (sitofp .f32 (iotaInDim S2176 32 0) : FVec Ideal S2176 .f32)))
    (broadcastInDim S2176x16 ![0, 1] bcast_S1x16_S2176x16_0_1 (broadcastInDim S1x16 ![1] bcast_S16_S1x16_1 (Host.divf (broadcastInDim S16 ![] bcast_S_S16 (constant (F := Ideal) S_ .f32 0x3F800000#32))
      (Host.powf (broadcastInDim S16 ![] bcast_S_S16 (constant (F := Ideal) S_ .f32 0x461C4000#32)) (Host.divf (sitofp .f32 (iotaInDim S16 32 0)) (broadcastInDim S16 ![] bcast_S_S16 (constant (F := Ideal) S_ .f32 0x41800000#32)))))))
/-- A table on the lanes, the same for both sequences. -/
abbrev both (x : FVec Ideal S2176x128 .f32) : FVec Ideal S4352x128 .f32 :=
  shapeCast S4352x128 (broadcastInDim S2x2176x1x128 ![0, 1, 2, 3] bcast_S1x2176x1x128_S2x2176x1x128_0_1_2_3 (shapeCast S1x2176x1x128 x shapeCasts_S2176x128_S1x2176x1x128)) shapeCasts_S2x2176x1x128_S4352x128
abbrev lay (u : FVec Ideal S2176x64 .f32) (x y : FVec Ideal S2176x16 .f32) (v : FVec Ideal S2176x32 .f32) : FVec Ideal S2176x128 .f32 :=
  concatenate S2176x128 1 [⟨S2176x64, u⟩, ⟨S2176x16, x⟩, ⟨S2176x16, y⟩, ⟨S2176x32, v⟩] concatenates_S2176x64_S2176x16_S2176x16_S2176x32_S2176x128_d1

theorem entry_v60 : V m c main_v60 = (shapeCast S4352x1024 (pad1024 (arg m c main_arg0)) shapeCasts_S2x2176x1024_S4352x1024 : FVec Ideal S4352x1024 .f32) := by
  entry_read
  rfl
theorem entry_v25 : V m c main_v25 = (shapeCast S1x1024 (arg m c main_arg1 : FVec Ideal S1024 .f32) shapeCasts_S1024_S1x1024 : FVec Ideal S1x1024 .f32) := by
  entry_read
  rfl
theorem entry_v26 : V m c main_v26 = (shapeCast S1x384 (arg m c main_arg3 : FVec Ideal S384 .f32) shapeCasts_S384_S1x384 : FVec Ideal S1x384 .f32) := by
  entry_read
  rfl
theorem entry_v27 : V m c main_v27 = (shapeCast S1x256 (arg m c main_arg5 : FVec Ideal S256 .f32) shapeCasts_S256_S1x256 : FVec Ideal S1x256 .f32) := by
  entry_read
  rfl
theorem entry_v28 : V m c main_v28 = (shapeCast S1x128 (pad96 (arg m c main_arg7)) shapeCasts_S128_S1x128 : FVec Ideal S1x128 .f32) := by
  entry_read
  rfl
theorem entry_v29 : V m c main_v29 = (shapeCast S1x128 (pad96 (arg m c main_arg8)) shapeCasts_S128_S1x128 : FVec Ideal S1x128 .f32) := by
  entry_read
  rfl
theorem entry_v16 : V m c main_v16 = padQ (arg m c main_arg4) := by
  entry_read
  rfl
theorem entry_v18 : V m c main_v18 = padK (arg m c main_arg6) := by
  entry_read
  rfl
theorem entry_v55 : V m c main_v55 = both (lay (broadcastInDim S2176x64 ![] bcast_S_S2176x64 (constant (F := Ideal) S_ .f32 0x3F800000#32)) (Host.cos angles) (Host.cos angles)
    (broadcastInDim S2176x32 ![] bcast_S_S2176x32 (constant (F := Ideal) S_ .f32 0x3F800000#32))) := by
  entry_read
  rfl
theorem entry_v58 : V m c main_v58 = both (lay (broadcastInDim S2176x64 ![] bcast_S_S2176x64 (constant (F := Ideal) S_ .f32 0x00000000#32)) (Host.sin angles) (Host.sin angles)
    (broadcastInDim S2176x32 ![] bcast_S_S2176x32 (constant (F := Ideal) S_ .f32 0x00000000#32))) := by
  entry_read
  rfl

theorem weight_ln1 (z : Fin 1) (j : Fin 1024) : V m c main_v25 (ix2 z j) = (wts m c).inp.ln1 j := by
  rw [entry_v25]
  pointwise
  rfl
theorem weight_qag (z : Fin 1) (j : Fin 384) : V m c main_v26 (ix2 z j) = (wts m c).head.qag j := by
  rw [entry_v26]
  pointwise
  rfl
theorem weight_kvag (z : Fin 1) (j : Fin 256) : V m c main_v27 (ix2 z j) = (wts m c).head.kvag j := by
  rw [entry_v27]
  pointwise
  rfl
theorem weight_qg (z : Fin 1) (j : Fin 128) : V m c main_v28 (ix2 z j) = wide (wts m c).head.qg j := by
  rw [entry_v28]
  pointwise [pad96]
  simp only [Cert.Mix.zero_word]
  rfl
theorem weight_kg (z : Fin 1) (j : Fin 128) : V m c main_v29 (ix2 z j) = wide (wts m c).head.kg j := by
  rw [entry_v29]
  pointwise [pad96]
  simp only [Cert.Mix.zero_word]
  rfl
theorem weight_wq (k : Fin 1024) (j : Fin 384) : V m c main_v16 (ix2 k j) = wqLane (wts m c).head k j := by
  rw [entry_v16]
  pointwise [padQ]
  simp only [Cert.Mix.zero_word, show (k : ℕ) / 128 < 8 from by omega, true_and, wqLane]
  refine dite_congr rfl (fun h => congrArg (arg m c main_arg4) (congrArg (ix2 j) (Fin.ext ?_))) fun _ => rfl
  simp only [colQ, headK]
  omega
theorem weight_wk (k : Fin 1024) (j : Fin 256) : V m c main_v18 (ix2 k j) = wkLane (wts m c).head k j := by
  rw [entry_v18]
  pointwise [padK]
  simp only [Cert.Mix.zero_word, show (k : ℕ) / 128 < 8 from by omega, true_and, wkLane]
  exact dite_eq_ite

/-- The projection, turned, with rows of nothing around the rotary columns. -/
abbrev winT : FVec Ideal S1696x1024 .f32 := transpose S1696x1024 [1, 0] (arg m c main_arg2 : FVec Ideal S1024x1696 .f32) transposes_S1024x1696_S1696x1024_1_0

theorem weight_win (k : Fin 1792) (j : Fin 1024) : V m c main_v9 (ix2 k j) = winL (wts m c).inp k j := by
  have e : V m c main_v9 = (truncf .bf16 (concatenate S1792x1024 0
      [⟨S640x1024, extractStridedSlice S640x1024 ![0, 0] (winT m c) slices_S1696x1024_S640x1024_0_0⟩,
       ⟨S64x1024, broadcastInDim S64x1024 ![] bcast_S_S64x1024 (constant S_ .f32 0x00000000#32 : FVec Ideal S_ .f32)⟩,
       ⟨S32x1024, extractStridedSlice S32x1024 ![640, 0] (winT m c) slices_S1696x1024_S32x1024_640_0⟩,
       ⟨S32x1024, broadcastInDim S32x1024 ![] bcast_S_S32x1024 (constant S_ .f32 0x00000000#32 : FVec Ideal S_ .f32)⟩,
       ⟨S1024x1024, extractStridedSlice S1024x1024 ![672, 0] (winT m c) slices_S1696x1024_S1024x1024_672_0⟩] concatenates_S640x1024_S64x1024_S32x1024_S32x1024_S1024x1024_S1792x1024_d0) bitsLt_bf16_f32 : FVec Ideal S1792x1024 .bf16) := by
    entry_read
    rfl
  rw [e]
  pointwise [winT]
  unfold winL
  by_cases h0 : (k : ℕ) < 640
  · rw [dif_pos h0, dif_pos h0]
    rfl
  rw [dif_neg h0, dif_neg h0]
  by_cases h1 : (k : ℕ) < 704
  · rw [dif_pos (by omega), dif_pos h1]
  rw [dif_neg (by omega), dif_neg h1]
  by_cases h2 : (k : ℕ) < 736
  · rw [dif_pos (by omega), dif_pos h2]
    exact congrArg (arg m c main_arg2) (congrArg (ix2 j) (Fin.ext (by dsimp only; omega)))
  rw [dif_neg (by omega), dif_neg h2]
  by_cases h3 : (k : ℕ) < 768
  · rw [dif_pos (by omega), dif_pos h3]
  rw [dif_neg (by omega), dif_neg h3]
  exact congrArg (arg m c main_arg2) (congrArg (ix2 j) (Fin.ext (by dsimp only; omega)))

theorem weight_wv (k : Fin 512) (j : Fin 256) : V m c main_v24 (ix2 k j) = (wts m c).head.wukv j (Cert.Lat.laneOf k) := by
  have e : V m c main_v24 = (truncf .bf16 (shapeCast S512x256 (extractStridedSlice S8x64x256 ![0, 64, 0]
      (shapeCast S8x128x256 (transpose S1024x256 [1, 0] (arg m c main_arg6 : FVec Ideal S256x1024 .f32) transposes_S256x1024_S1024x256_1_0) shapeCasts_S1024x256_S8x128x256) slices_S8x128x256_S8x64x256_0_64_0) shapeCasts_S8x64x256_S512x256)
      bitsLt_bf16_f32 : FVec Ideal S512x256 .bf16) := by
    entry_read
    rfl
  rw [e]
  pointwise
  refine congrArg (arg m c main_arg6) (congrArg (ix2 j) (Fin.ext ?_))
  simp only [Cert.Lat.laneOf]
  omega

section
variable (b : Fin 2) (s : Fin 2176)

theorem row_cos (j : S4352x128.Idx) (l : Fin 128) (h0 : (j 0 : ℕ) = b * 2176 + s) (h1 : (j 1 : ℕ) = l) : V m c main_v55 j = laneC (cosAt s) l := by
  have e1 : (j 0 : ℕ) % 2176 = s := by omega
  have e2 : j 1 = l := Fin.ext h1
  rw [entry_v55]
  pointwise [both, lay, angles]
  simp only [e1, e2]
  rfl
theorem row_sin (j : S4352x128.Idx) (l : Fin 128) (h0 : (j 0 : ℕ) = b * 2176 + s) (h1 : (j 1 : ℕ) = l) : V m c main_v58 j = laneS (sinAt s) l := by
  have e1 : (j 0 : ℕ) % 2176 = s := by omega
  have e2 : j 1 = l := Fin.ext h1
  rw [entry_v58]
  pointwise [both, lay, angles]
  simp only [e1, e2]
  rfl
theorem row_h (j : S4352x1024.Idx) (l : Fin 1024) (h0 : (j 0 : ℕ) = b * 2176 + s) (h1 : (j 1 : ℕ) = l) : V m c main_v60 j = (rowAt m c b s).h l := by
  have e0 : (j 0 : ℕ) / 2176 = b := by omega
  have e1 : (j 0 : ℕ) % 2176 = s := by omega
  have e2 : j 1 = l := Fin.ext h1
  rw [entry_v60]
  pointwise [pad1024]
  simp only [e0, e1, e2, Cert.Mix.zero_word, b.2, l.2, true_and, and_true]
  rfl

end

end Cert.Kernel6Ideal.Value

end
-- ==== Proof.LeadBlocks.lean ====
/- What a grid point of the layer's first half reads: rows of its block, the weights. -/
module

public import proofs.«01_k».proof.Proof.LeadHost

@[expose] public section

set_option maxRecDepth 16384

noncomputable section

open Idealize.ShloMosaic Idealize.ShloMosaic.TcCoe Idealize.SL.Sem

namespace Cert.Kernel6Ideal.Value
open Cert.Kernel6Ideal Cert.Kernel6Ideal.Gen

open Cert.Mix (Row c1024)
open Cert.Head (wide laneC laneS headK laneK colK colQ cosAt sinAt)
open Cert.Inp (winL)
open Cert.Lead

theorem idx_rows : ∀ t : Fin cfg0.N, win0_0.index t = ![t.val, 0]
    ∧ win0_1.index t = ![t.val, 0]
    ∧ win0_2.index t = ![t.val, 0] :=
  (by decide +kernel : ∀ t : Fin grid0.N, _)

theorem idx_weights : ∀ t : Fin cfg0.N, win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0] :=
  (by decide +kernel : ∀ t : Fin grid0.N, _)

/-- The sequence of a row of a grid point's block. -/
def seqAt (t : Fin 16) (i : Fin 272) : Fin 2 := ⟨(t * 272 + i) / 2176, by omega⟩
/-- Its place in the sequence. -/
def posAt (t : Fin 16) (i : Fin 272) : Fin 2176 := ⟨(t * 272 + i) % 2176, by omega⟩

theorem point_at : ∀ t : Fin cfg0.N, (grid0.coords t 0).val = t.val := (by decide +kernel : ∀ t : Fin grid0.N, _)

section
variable (m : (ℓ : Loc nD τ sig) → Buf (Elt Ideal) ℓ) (c : Dev nD)

/-- A row of a grid point's block. -/
abbrev blockRow (t : Fin 16) (i : Fin 272) : RowIn := rowAt m c (seqAt t i) (posAt t i)

variable (t : Fin cfg0.N)

theorem blk_h (i : Fin 272) (j : Fin 1024) : iblk m c 0 t (ix2 i j) = (blockRow m c t i).h j := by
  blk_simp [iblk]
  refine row_h m c (seqAt t i) (posAt t i) _ j ?_ ?_
  · blk_simp [idx_rows t]
    simp only [seqAt, posAt]
    omega
  · blk_simp [idx_rows t]

theorem blk_cos (i : Fin 272) (j : Fin 128) : iblk m c 1 t (ix2 i j) = laneC (cosAt (posAt t i)) j := by
  blk_simp [iblk]
  refine row_cos m c (seqAt t i) (posAt t i) _ j ?_ ?_
  · blk_simp [idx_rows t]
    simp only [seqAt, posAt]
    omega
  · blk_simp [idx_rows t]

theorem blk_sin (i : Fin 272) (j : Fin 128) : iblk m c 2 t (ix2 i j) = laneS (sinAt (posAt t i)) j := by
  blk_simp [iblk]
  refine row_sin m c (seqAt t i) (posAt t i) _ j ?_ ?_
  · blk_simp [idx_rows t]
    simp only [seqAt, posAt]
    omega
  · blk_simp [idx_rows t]

theorem blk_ln1 (k : Fin 1) (j : Fin 1024) : iblk m c 3 t (ix2 k j) = (wts m c).inp.ln1 j := by
  blk_simp [iblk]
  refine Eq.trans (congrArg (V m c _) ?_) (weight_ln1 m c k j)
  funext a
  match a with
  | ⟨0, _⟩ => exact Fin.ext (by blk_simp [idx_weights t])
  | ⟨1, _⟩ => exact Fin.ext (by blk_simp [idx_weights t])

theorem blk_win (k : Fin 1792) (j : Fin 1024) : iblk m c 4 t (ix2 k j) = winL (wts m c).inp k j := by
  blk_simp [iblk]
  refine Eq.trans (congrArg (V m c _) ?_) (weight_win m c k j)
  funext a
  match a with
  | ⟨0, _⟩ => exact Fin.ext (by blk_simp [idx_weights t])
  | ⟨1, _⟩ => exact Fin.ext (by blk_simp [idx_weights t])

theorem blk_qag (k : Fin 1) (j : Fin 384) : iblk m c 5 t (ix2 k j) = (wts m c).head.qag j := by
  blk_simp [iblk]
  refine Eq.trans (congrArg (V m c _) ?_) (weight_qag m c k j)
  funext a
  match a with
  | ⟨0, _⟩ => exact Fin.ext (by blk_simp [idx_weights t])
  | ⟨1, _⟩ => exact Fin.ext (by blk_simp [idx_weights t])

theorem blk_wq (k : Fin 1024) (j : Fin 384) : iblk m c 6 t (ix2 k j) = wqLane (wts m c).head k j := by
  blk_simp [iblk]
  refine Eq.trans (congrArg (V m c _) ?_) (weight_wq m c k j)
  funext a
  match a with
  | ⟨0, _⟩ => exact Fin.ext (by blk_simp [idx_weights t])
  | ⟨1, _⟩ => exact Fin.ext (by blk_simp [idx_weights t])

theorem blk_kvag (k : Fin 1) (j : Fin 256) : iblk m c 7 t (ix2 k j) = (wts m c).head.kvag j := by
  blk_simp [iblk]
  refine Eq.trans (congrArg (V m c _) ?_) (weight_kvag m c k j)
  funext a
  match a with
  | ⟨0, _⟩ => exact Fin.ext (by blk_simp [idx_weights t])
  | ⟨1, _⟩ => exact Fin.ext (by blk_simp [idx_weights t])

theorem blk_wk (k : Fin 1024) (j : Fin 256) : iblk m c 8 t (ix2 k j) = wkLane (wts m c).head k j := by
  blk_simp [iblk]
  refine Eq.trans (congrArg (V m c _) ?_) (weight_wk m c k j)
  funext a
  match a with
  | ⟨0, _⟩ => exact Fin.ext (by blk_simp [idx_weights t])
  | ⟨1, _⟩ => exact Fin.ext (by blk_simp [idx_weights t])

theorem blk_wv (k : Fin 512) (j : Fin 256) : iblk m c 9 t (ix2 k j) = (wts m c).head.wukv j (Cert.Lat.laneOf k) := by
  blk_simp [iblk]
  refine Eq.trans (congrArg (V m c _) ?_) (weight_wv m c k j)
  funext a
  match a with
  | ⟨0, _⟩ => exact Fin.ext (by blk_simp [idx_weights t])
  | ⟨1, _⟩ => exact Fin.ext (by blk_simp [idx_weights t])

theorem blk_qg (k : Fin 1) (j : Fin 128) : iblk m c 10 t (ix2 k j) = wide (wts m c).head.qg j := by
  blk_simp [iblk]
  refine Eq.trans (congrArg (V m c _) ?_) (weight_qg m c k j)
  funext a
  match a with
  | ⟨0, _⟩ => exact Fin.ext (by blk_simp [idx_weights t])
  | ⟨1, _⟩ => exact Fin.ext (by blk_simp [idx_weights t])

theorem blk_kg (k : Fin 1) (j : Fin 128) : iblk m c 11 t (ix2 k j) = wide (wts m c).head.kg j := by
  blk_simp [iblk]
  refine Eq.trans (congrArg (V m c _) ?_) (weight_kg m c k j)
  funext a
  match a with
  | ⟨0, _⟩ => exact Fin.ext (by blk_simp [idx_weights t])
  | ⟨1, _⟩ => exact Fin.ext (by blk_simp [idx_weights t])

end

end Cert.Kernel6Ideal.Value

end
-- ==== Proof.LeadBody.lean ====
/- What a grid point of the layer's first half leaves, head by head and over the heads. -/
module

public import proofs.«01_k».proof.Proof.LeadBlocks

@[expose] public section

set_option maxRecDepth 16384

noncomputable section

open Idealize.ShloMosaic Idealize.ShloMosaic.TcCoe Idealize.SL.Sem

namespace Cert.Kernel6Ideal.Value
open Cert.Kernel6Ideal Cert.Kernel6Ideal.Gen

open Cert.Mix (Row c1024)
open Cert.Head (wide laneC laneS headK laneK colK colQ cosAt sinAt)
open Cert.Inp (winL)
open Cert.Head (xq xk cqn ckvn)
open Cert.Lead

/-- A head's lanes of a block of 1024, by the head's own rows. -/
theorem piece_at (p : Fin 8 → Vec Ideal S272x128 .bf16) (h : Fin 8) (o : ℕ) (ho : o = 128 * h) (inb : ∀ a, (![0, o] : Fin 2 → ℕ) a + (![272, 128] : Fin 2 → ℕ) a ≤ S272x1024.size a) (y : S272x128.Idx) :
    p h y = (fun y : S272x1024.Idx => p (headK (y 1)) (ix2 (y 0) (laneK (y 1)))) ((Rect.unit (s := S272x1024) ![0, o] ![272, 128] inb).emb y) := by
  idx_vars y
  subst ho
  have e : (Rect.unit (s := S272x1024) ![0, 128 * h] ![272, 128] inb).emb (ix2 y0 y1) = ix2 y0 (colK h y1) := by
    refine Rect.emb_eq_of_coords _ _ _ fun a => ?_
    match a with
    | ⟨0, _⟩ => simp
    | ⟨1, _⟩ => simp [colK]
  rw [e]
  show p h (ix2 y0 y1) = p (headK (colK h y1)) (ix2 y0 (laneK (colK h y1)))
  rw [headK_colK, laneK_colK]

theorem piece_mem (h : Fin 8) (o : ℕ) (ho : o = 128 * h) (inb : ∀ a, (![0, o] : Fin 2 → ℕ) a + (![272, 128] : Fin 2 → ℕ) a ≤ S272x1024.size a) (i : Fin 272) (l : Fin 1024) (hl : (l : ℕ) / 128 = h) :
    ix2 i l ∈ (Rect.unit (s := S272x1024) ![0, o] ![272, 128] inb).set := by
  rw [Rect.mem_set_unit]
  intro a
  match a with
  | ⟨0, _⟩ => exact ⟨Nat.zero_le _, by show (i : ℕ) < 0 + 272; omega⟩
  | ⟨1, _⟩ => exact ⟨by show o ≤ (l : ℕ); omega, by show (l : ℕ) < o + 128; omega⟩

/-- The eight heads' pieces stored side by side. -/
theorem canon_heads (p : Fin 8 → Vec Ideal S272x128 .bf16) (i : Fin 272) (l : Fin 1024) :
    View.canon [⟨Rect.unit (s := S272x1024) ![0, 896] ![272, 128] inb_S272x1024_S272x128_0_896, p 7⟩,
    ⟨Rect.unit (s := S272x1024) ![0, 768] ![272, 128] inb_S272x1024_S272x128_0_768, p 6⟩,
    ⟨Rect.unit (s := S272x1024) ![0, 640] ![272, 128] inb_S272x1024_S272x128_0_640, p 5⟩,
    ⟨Rect.unit (s := S272x1024) ![0, 512] ![272, 128] inb_S272x1024_S272x128_0_512, p 4⟩,
    ⟨Rect.unit (s := S272x1024) ![0, 384] ![272, 128] inb_S272x1024_S272x128_0_384, p 3⟩,
    ⟨Rect.unit (s := S272x1024) ![0, 256] ![272, 128] inb_S272x1024_S272x128_0_256, p 2⟩,
    ⟨Rect.unit (s := S272x1024) ![0, 128] ![272, 128] inb_S272x1024_S272x128_0_128, p 1⟩,
    ⟨Rect.unit (s := S272x1024) ![0, 0] ![272, 128] inb_S272x1024_S272x128_0_0, p 0⟩] (ix2 i l) = p (headK l) (ix2 i (laneK l)) := by
  refine View.canon_apply_of_pieces (fun y : S272x1024.Idx => p (headK (y 1)) (ix2 (y 0) (laneK (y 1)))) _ (fun q hq => ?_) (ix2 i l) ?_
  · simp only [List.mem_cons, List.not_mem_nil, or_false] at hq
    rcases hq with rfl | rfl | rfl | rfl | rfl | rfl | rfl | rfl
    · exact piece_at p 7 896 rfl inb_S272x1024_S272x128_0_896
    · exact piece_at p 6 768 rfl inb_S272x1024_S272x128_0_768
    · exact piece_at p 5 640 rfl inb_S272x1024_S272x128_0_640
    · exact piece_at p 4 512 rfl inb_S272x1024_S272x128_0_512
    · exact piece_at p 3 384 rfl inb_S272x1024_S272x128_0_384
    · exact piece_at p 2 256 rfl inb_S272x1024_S272x128_0_256
    · exact piece_at p 1 128 rfl inb_S272x1024_S272x128_0_128
    · exact piece_at p 0 0 rfl inb_S272x1024_S272x128_0_0
  · have hl : (l : ℕ) / 128 = 0 ∨ (l : ℕ) / 128 = 1 ∨ (l : ℕ) / 128 = 2 ∨ (l : ℕ) / 128 = 3 ∨ (l : ℕ) / 128 = 4 ∨ (l : ℕ) / 128 = 5
      ∨ (l : ℕ) / 128 = 6 ∨ (l : ℕ) / 128 = 7 := by omega
    rcases hl with e | e | e | e | e | e | e | e
    · exact ⟨⟨Rect.unit (s := S272x1024) ![0, 0] ![272, 128] inb_S272x1024_S272x128_0_0, p 0⟩, by simp, piece_mem 0 0 rfl inb_S272x1024_S272x128_0_0 i l e⟩
    · exact ⟨⟨Rect.unit (s := S272x1024) ![0, 128] ![272, 128] inb_S272x1024_S272x128_0_128, p 1⟩, by simp, piece_mem 1 128 rfl inb_S272x1024_S272x128_0_128 i l e⟩
    · exact ⟨⟨Rect.unit (s := S272x1024) ![0, 256] ![272, 128] inb_S272x1024_S272x128_0_256, p 2⟩, by simp, piece_mem 2 256 rfl inb_S272x1024_S272x128_0_256 i l e⟩
    · exact ⟨⟨Rect.unit (s := S272x1024) ![0, 384] ![272, 128] inb_S272x1024_S272x128_0_384, p 3⟩, by simp, piece_mem 3 384 rfl inb_S272x1024_S272x128_0_384 i l e⟩
    · exact ⟨⟨Rect.unit (s := S272x1024) ![0, 512] ![272, 128] inb_S272x1024_S272x128_0_512, p 4⟩, by simp, piece_mem 4 512 rfl inb_S272x1024_S272x128_0_512 i l e⟩
    · exact ⟨⟨Rect.unit (s := S272x1024) ![0, 640] ![272, 128] inb_S272x1024_S272x128_0_640, p 5⟩, by simp, piece_mem 5 640 rfl inb_S272x1024_S272x128_0_640 i l e⟩
    · exact ⟨⟨Rect.unit (s := S272x1024) ![0, 768] ![272, 128] inb_S272x1024_S272x128_0_768, p 6⟩, by simp, piece_mem 6 768 rfl inb_S272x1024_S272x128_0_768 i l e⟩
    · exact ⟨⟨Rect.unit (s := S272x1024) ![0, 896] ![272, 128] inb_S272x1024_S272x128_0_896, p 7⟩, by simp, piece_mem 7 896 rfl inb_S272x1024_S272x128_0_896 i l e⟩

section
variable (m : (ℓ : Loc nD τ sig) → Buf (Elt Ideal) ℓ) (c : Dev nD) (t : Fin cfg0.N)

/-! The body's arrays at a grid point: the projected columns, the normed latents, the heads' columns, the rotary columns, the tables, the
   numbers the keys carry. -/
abbrev PL : FVec Ideal S272x1792 .f32 := k0_pay3 (iblk m c 0 t) (iblk m c 3 t) (iblk m c 4 t)
abbrev CQ : FVec Ideal S272x384 .bf16 := k0_pay11 (k0_pay7 (iblk m c 0 t) (iblk m c 3 t) (iblk m c 4 t)) (k0_pay8 (iblk m c 5 t)) (k0_pay9 (iblk m c 0 t) (iblk m c 3 t) (iblk m c 4 t)) k0_pay10
abbrev CKV : FVec Ideal S272x256 .bf16 := k0_pay12 (PL m c t) (iblk m c 7 t)
abbrev QR : FVec Ideal S272x1024 .f32 := k0_pay21 (CQ m c t) (iblk m c 6 t)
abbrev KR : FVec Ideal S272x1024 .f32 := k0_pay22 (CKV m c t) (iblk m c 8 t)
abbrev KP : FVec Ideal S272x128 .f32 := k0_pay13 (PL m c t)
abbrev CS : FVec Ideal S272x128 .f32 := k0_pay14 (iblk m c 1 t)
abbrev SN : FVec Ideal S272x128 .f32 := k0_pay15 (iblk m c 2 t)
abbrev MK : FVec Ideal S272x1 .f32 := k0_pay20 (k0_pay17 (BitVec.ofNat 32 (grid0.coords t 0).val)) k0_pay18 k0_pay19

/-! One head's rows. -/
def headQ (o : ℕ) (ho : S272x1024.Slices ![0, o] S272x128) : FVec Ideal S272x128 .bf16 :=
  tagT k0_pay16 tagQ (turnT (CS m c t) (SN m c t) (normT (cut o (QR m c t) ho) (iblk m c 10 t)))
def headKey (o : ℕ) (ho : S272x1024.Slices ![0, o] S272x128) : FVec Ideal S272x128 .bf16 :=
  tagT k0_pay16 (tagK (MK t)) (turnT (CS m c t) (SN m c t) (normT (addf (cut o (KR m c t) ho) (KP m c t)) (iblk m c 11 t)))

variable (i : Fin 272)

theorem pl_at (l : Fin 1792) : PL m c t (ix2 i l) = plane (wts m c) (blockRow m c t i) l := pay3_at (blk_h m c t i) (blk_ln1 m c t) (blk_win m c t) l
theorem cq_at (j : Fin 384) : CQ m c t (ix2 i j) = cqn (wts m c).head (hr (wts m c) (blockRow m c t i)) j :=
  cqn_at (blk_h m c t i) (blk_ln1 m c t) (blk_win m c t) (blk_qag m c t) j
theorem ckv_at (j : Fin 256) : CKV m c t (ix2 i j) = ckvn (wts m c).head (hr (wts m c) (blockRow m c t i)) j := pay12_at (pl_at m c t i) (blk_kvag m c t) j
theorem cs_at (j : Fin 128) : CS m c t (ix2 i j) = laneC (blockRow m c t i).c j := (pay14_eq _ i j).trans (blk_cos m c t i j)
theorem sn_at (j : Fin 128) : SN m c t (ix2 i j) = laneS (blockRow m c t i).s j := (pay15_eq _ i j).trans (blk_sin m c t i j)
theorem mk_at (z : Fin 1) : MK t (ix2 i z) = keyMask (posAt t i) := by
  unfold MK
  rw [point_at t]
  exact mask_at t i z
theorem xq_at (h : Fin 8) (ho : S272x1024.Slices ![0, 128 * (h : ℕ)] S272x128) (j : Fin 128) :
    cut (128 * h) (QR m c t) ho (ix2 i j) = wide (xq (wts m c).head (hr (wts m c) (blockRow m c t i)) h) j :=
  query_at (pay21_at (cq_at m c t i) (blk_wq m c t)) h ho j
theorem xk_at (h : Fin 8) (ho : S272x1024.Slices ![0, 128 * (h : ℕ)] S272x128) (j : Fin 128) :
    addf (cut (128 * h) (KR m c t) ho) (KP m c t) (ix2 i j) = wide (xk (wts m c).head (hr (wts m c) (blockRow m c t i)) h) j :=
  key_at (pay22_at (ckv_at m c t i) (blk_wk m c t)) (pay13_at (pl_at m c t i)) h ho j

theorem headQ_at (h : Fin 8) (ho : S272x1024.Slices ![0, 128 * (h : ℕ)] S272x128) (j : Fin 128) :
    headQ m c t (128 * h) ho (ix2 i j) = if (j : ℕ) = 96 then Ideal.ofBits .f32 0x3F800000#32 else wide (q (wts m c) (blockRow m c t i) h) j :=
  tag_at pay16_at (fun _ => rfl) (turn_at (norm_at (xq_at m c t i h ho) (blk_qg m c t)) (cs_at m c t i) (sn_at m c t i)) j
theorem tagK_at (j : Fin 128) : tagK (MK t) (ix2 i j) = keyMask (posAt t i) := by
  pointwise [tagK]
  exact mk_at t i 0
theorem headKey_at (h : Fin 8) (ho : S272x1024.Slices ![0, 128 * (h : ℕ)] S272x128) (j : Fin 128) :
    headKey m c t (128 * h) ho (ix2 i j) = if (j : ℕ) = 96 then keyMask (posAt t i) else wide (k (wts m c) (blockRow m c t i) h) j :=
  tag_at pay16_at (tagK_at t i) (turn_at (norm_at (xk_at m c t i h ho) (blk_kg m c t)) (cs_at m c t i) (sn_at m c t i)) j

/-! Over the heads. -/
abbrev piecesQ (h : Fin 8) : Vec Ideal S272x128 .bf16 := match h with
  | 0 => headQ m c t 0 slices_S272x1024_o0_0_S272x128
  | 1 => headQ m c t 128 slices_S272x1024_o0_128_S272x128
  | 2 => headQ m c t 256 slices_S272x1024_o0_256_S272x128
  | 3 => headQ m c t 384 slices_S272x1024_o0_384_S272x128
  | 4 => headQ m c t 512 slices_S272x1024_o0_512_S272x128
  | 5 => headQ m c t 640 slices_S272x1024_o0_640_S272x128
  | 6 => headQ m c t 768 slices_S272x1024_o0_768_S272x128
  | 7 => headQ m c t 896 slices_S272x1024_o0_896_S272x128
theorem piecesQ_at (h : Fin 8) (i : Fin 272) (j : Fin 128) : piecesQ m c t h (ix2 i j) = if (j : ℕ) = 96 then Ideal.ofBits .f32 0x3F800000#32 else wide (q (wts m c) (blockRow m c t i) h) j :=
  match h with
  | 0 => headQ_at m c t i 0 _ j
  | 1 => headQ_at m c t i 1 _ j
  | 2 => headQ_at m c t i 2 _ j
  | 3 => headQ_at m c t i 3 _ j
  | 4 => headQ_at m c t i 4 _ j
  | 5 => headQ_at m c t i 5 _ j
  | 6 => headQ_at m c t i 6 _ j
  | 7 => headQ_at m c t i 7 _ j

abbrev listQ : List (View.Piece (Elt Ideal) S272x1024 .bf16) :=
    [⟨Rect.unit (s := S272x1024) ![0, 896] ![272, 128] inb_S272x1024_S272x128_0_896, piecesQ m c t 7⟩,
    ⟨Rect.unit (s := S272x1024) ![0, 768] ![272, 128] inb_S272x1024_S272x128_0_768, piecesQ m c t 6⟩,
    ⟨Rect.unit (s := S272x1024) ![0, 640] ![272, 128] inb_S272x1024_S272x128_0_640, piecesQ m c t 5⟩,
    ⟨Rect.unit (s := S272x1024) ![0, 512] ![272, 128] inb_S272x1024_S272x128_0_512, piecesQ m c t 4⟩,
    ⟨Rect.unit (s := S272x1024) ![0, 384] ![272, 128] inb_S272x1024_S272x128_0_384, piecesQ m c t 3⟩,
    ⟨Rect.unit (s := S272x1024) ![0, 256] ![272, 128] inb_S272x1024_S272x128_0_256, piecesQ m c t 2⟩,
    ⟨Rect.unit (s := S272x1024) ![0, 128] ![272, 128] inb_S272x1024_S272x128_0_128, piecesQ m c t 1⟩,
    ⟨Rect.unit (s := S272x1024) ![0, 0] ![272, 128] inb_S272x1024_S272x128_0_0, piecesQ m c t 0⟩]

abbrev piecesK (h : Fin 8) : Vec Ideal S272x128 .bf16 := match h with
  | 0 => headKey m c t 0 slices_S272x1024_o0_0_S272x128
  | 1 => headKey m c t 128 slices_S272x1024_o0_128_S272x128
  | 2 => headKey m c t 256 slices_S272x1024_o0_256_S272x128
  | 3 => headKey m c t 384 slices_S272x1024_o0_384_S272x128
  | 4 => headKey m c t 512 slices_S272x1024_o0_512_S272x128
  | 5 => headKey m c t 640 slices_S272x1024_o0_640_S272x128
  | 6 => headKey m c t 768 slices_S272x1024_o0_768_S272x128
  | 7 => headKey m c t 896 slices_S272x1024_o0_896_S272x128
theorem piecesK_at (h : Fin 8) (i : Fin 272) (j : Fin 128) : piecesK m c t h (ix2 i j) = if (j : ℕ) = 96 then keyMask (posAt t i) else wide (k (wts m c) (blockRow m c t i) h) j :=
  match h with
  | 0 => headKey_at m c t i 0 _ j
  | 1 => headKey_at m c t i 1 _ j
  | 2 => headKey_at m c t i 2 _ j
  | 3 => headKey_at m c t i 3 _ j
  | 4 => headKey_at m c t i 4 _ j
  | 5 => headKey_at m c t i 5 _ j
  | 6 => headKey_at m c t i 6 _ j
  | 7 => headKey_at m c t i 7 _ j

abbrev listK : List (View.Piece (Elt Ideal) S272x1024 .bf16) :=
    [⟨Rect.unit (s := S272x1024) ![0, 896] ![272, 128] inb_S272x1024_S272x128_0_896, piecesK m c t 7⟩,
    ⟨Rect.unit (s := S272x1024) ![0, 768] ![272, 128] inb_S272x1024_S272x128_0_768, piecesK m c t 6⟩,
    ⟨Rect.unit (s := S272x1024) ![0, 640] ![272, 128] inb_S272x1024_S272x128_0_640, piecesK m c t 5⟩,
    ⟨Rect.unit (s := S272x1024) ![0, 512] ![272, 128] inb_S272x1024_S272x128_0_512, piecesK m c t 4⟩,
    ⟨Rect.unit (s := S272x1024) ![0, 384] ![272, 128] inb_S272x1024_S272x128_0_384, piecesK m c t 3⟩,
    ⟨Rect.unit (s := S272x1024) ![0, 256] ![272, 128] inb_S272x1024_S272x128_0_256, piecesK m c t 2⟩,
    ⟨Rect.unit (s := S272x1024) ![0, 128] ![272, 128] inb_S272x1024_S272x128_0_128, piecesK m c t 1⟩,
    ⟨Rect.unit (s := S272x1024) ![0, 0] ![272, 128] inb_S272x1024_S272x128_0_0, piecesK m c t 0⟩]

theorem pQ_at (i : Fin 272) (l : Fin 1024) : View.canon (listQ m c t) (ix2 i l) = tagged (Ideal.ofBits .f32 0x3F800000#32) (q (wts m c) (blockRow m c t i)) l :=
  (canon_heads (piecesQ m c t) i l).trans (piecesQ_at m c t _ i _)
theorem pK_at (i : Fin 272) (l : Fin 1024) : View.canon (listK m c t) (ix2 i l) = tagged (keyMask (posAt t i)) (k (wts m c) (blockRow m c t i)) l :=
  (canon_heads (piecesK m c t) i l).trans (piecesK_at m c t _ i _)

end

end Cert.Kernel6Ideal.Value

end
-- ==== Proof.LeadArrays.lean ====
/- What the layer's first half leaves: its six arrays, by the row functions of the packed rows. -/
module

public import proofs.«01_k».proof.Proof.LeadBody
public import proofs.«01_k».proof.Proof.Gen.Kernel6Ideal.Value

@[expose] public section

set_option maxRecDepth 16384

noncomputable section

open Idealize.ShloMosaic Idealize.ShloMosaic.TcCoe Idealize.SL.Sem

namespace Cert.Kernel6Ideal.Value
open Cert.Kernel6Ideal Cert.Kernel6Ideal.Gen

open Cert.Mix (Row c1024)
open Cert.Head (wide laneC laneS headK laneK colK colQ cosAt sinAt)
open Cert.Inp (winL)
open Cert.Head (xq xk cqn ckvn)
open Cert.Lead

theorem idx_outs : ∀ t : Fin cfg0.N, win0_12.index t = ![t.val, 0]
    ∧ win0_13.index t = ![t.val, 0]
    ∧ win0_14.index t = ![t.val, 0]
    ∧ win0_15.index t = ![t.val, 0]
    ∧ win0_16.index t = ![t.val, 0]
    ∧ win0_17.index t = ![t.val, 0] :=
  (by decide +kernel : ∀ t : Fin grid0.N, _)

section
variable (m : (ℓ : Loc nD τ sig) → Buf (Elt Ideal) ℓ) (c : Dev nD)

/-- A packed row, by its place in the packed array. -/
abbrev packedRow (n : Fin 4352) : RowIn := rowAt m c ⟨n / 2176, by omega⟩ ⟨n % 2176, by omega⟩

theorem packed_place (t : Fin 16) (i : Fin 272) (n : Fin 4352) (h : (n : ℕ) = t * 272 + i) : blockRow m c t i = packedRow m c n := by
  show rowAt m c _ _ = rowAt m c _ _
  congr 1 <;> refine Fin.ext ?_ <;> simp only [seqAt, posAt] <;> omega

theorem block12 (t : Fin cfg0.N) (y : S272x768.Idx) : (dats m 0 c).after 12 t y = pa (wts m c) (blockRow m c t (y 0)) (y 1) := by
  rw [after0_12]
  frame_out
  idx_vars y
  exact pay4_at (blk_h m c t y0) (blk_ln1 m c t) (blk_win m c t) y1

theorem arr12 : (dats m 0 c).arrAt 12 cfg0.N = fun j : S4352x768.Idx => pa (wts m c) (packedRow m c (j 0)) (j 1) := by
  refine (dats m 0 c).arrAt_eq_of_covers 12 _ (by decide +kernel) fun t hf y => ?_
  blk_simp
  idx_vars y
  have i0 : win0_12.index t 0 = t.val := by rw [(idx_outs t).1]; rfl
  have i1 : win0_12.index t 1 = 0 := by rw [(idx_outs t).1]; rfl
  refine (block12 m c t (ix2 y0 y1)).trans ?_
  refine congrArg₂ (fun r j => pa (wts m c) r j) (packed_place m c t y0 _ ?_) (Fin.ext ?_)
  · simp [i0]
  · simp [i1]

theorem block13 (t : Fin cfg0.N) (y : S272x512.Idx) : (dats m 0 c).after 13 t y = xr (wts m c) (blockRow m c t (y 0)) (y 1) := by
  rw [after0_13]
  frame_out
  idx_vars y
  exact pay5_at (blk_h m c t y0) (blk_ln1 m c t) (blk_win m c t) y1

theorem arr13 : (dats m 0 c).arrAt 13 cfg0.N = fun j : S4352x512.Idx => xr (wts m c) (packedRow m c (j 0)) (j 1) := by
  refine (dats m 0 c).arrAt_eq_of_covers 13 _ (by decide +kernel) fun t hf y => ?_
  blk_simp
  idx_vars y
  have i0 : win0_13.index t 0 = t.val := by rw [(idx_outs t).2.1]; rfl
  have i1 : win0_13.index t 1 = 0 := by rw [(idx_outs t).2.1]; rfl
  refine (block13 m c t (ix2 y0 y1)).trans ?_
  refine congrArg₂ (fun r j => xr (wts m c) r j) (packed_place m c t y0 _ ?_) (Fin.ext ?_)
  · simp [i0]
  · simp [i1]

theorem block14 (t : Fin cfg0.N) (y : S272x512.Idx) : (dats m 0 c).after 14 t y = xg (wts m c) (blockRow m c t (y 0)) (y 1) := by
  rw [after0_14]
  frame_out
  idx_vars y
  exact pay6_at (blk_h m c t y0) (blk_ln1 m c t) (blk_win m c t) y1

theorem arr14 : (dats m 0 c).arrAt 14 cfg0.N = fun j : S4352x512.Idx => xg (wts m c) (packedRow m c (j 0)) (j 1) := by
  refine (dats m 0 c).arrAt_eq_of_covers 14 _ (by decide +kernel) fun t hf y => ?_
  blk_simp
  idx_vars y
  have i0 : win0_14.index t 0 = t.val := by rw [(idx_outs t).2.2.1]; rfl
  have i1 : win0_14.index t 1 = 0 := by rw [(idx_outs t).2.2.1]; rfl
  refine (block14 m c t (ix2 y0 y1)).trans ?_
  refine congrArg₂ (fun r j => xg (wts m c) r j) (packed_place m c t y0 _ ?_) (Fin.ext ?_)
  · simp [i0]
  · simp [i1]

theorem block15 (t : Fin cfg0.N) (y : S272x1024.Idx) : (dats m 0 c).after 15 t y = tagged (Ideal.ofBits .f32 0x3F800000#32) (q (wts m c) (blockRow m c t (y 0))) (y 1) := by
  rw [after0_15]
  unfold_out out0_15
  frame_out
  idx_vars y
  exact pQ_at m c t y0 y1

theorem arr15 : (dats m 0 c).arrAt 15 cfg0.N = fun j : S4352x1024.Idx => tagged (Ideal.ofBits .f32 0x3F800000#32) (q (wts m c) (packedRow m c (j 0))) (j 1) := by
  refine (dats m 0 c).arrAt_eq_of_covers 15 _ (by decide +kernel) fun t hf y => ?_
  blk_simp
  idx_vars y
  have i0 : win0_15.index t 0 = t.val := by rw [(idx_outs t).2.2.2.1]; rfl
  have i1 : win0_15.index t 1 = 0 := by rw [(idx_outs t).2.2.2.1]; rfl
  refine (block15 m c t (ix2 y0 y1)).trans ?_
  refine congrArg₂ (fun r j => tagged (Ideal.ofBits .f32 0x3F800000#32) (q (wts m c) r) j) (packed_place m c t y0 _ ?_) (Fin.ext ?_)
  · simp [i0]
  · simp [i1]

theorem block16 (t : Fin cfg0.N) (y : S272x1024.Idx) : (dats m 0 c).after 16 t y = tagged (keyMask (posAt t (y 0))) (k (wts m c) (blockRow m c t (y 0))) (y 1) := by
  rw [after0_16]
  unfold_out out0_16
  frame_out
  idx_vars y
  exact pK_at m c t y0 y1

theorem arr16 : (dats m 0 c).arrAt 16 cfg0.N = fun j : S4352x1024.Idx => tagged (keyMask ((j 0 : ℕ) % 2176)) (k (wts m c) (packedRow m c (j 0))) (j 1) := by
  refine (dats m 0 c).arrAt_eq_of_covers 16 _ (by decide +kernel) fun t hf y => ?_
  blk_simp
  idx_vars y
  have i0 : win0_16.index t 0 = t.val := by rw [(idx_outs t).2.2.2.2.1]; rfl
  have i1 : win0_16.index t 1 = 0 := by rw [(idx_outs t).2.2.2.2.1]; rfl
  refine (block16 m c t (ix2 y0 y1)).trans ?_
  refine congr (congrArg₂ (fun s r => tagged (keyMask s) (k (wts m c) r)) ?_ (packed_place m c t y0 _ ?_)) (Fin.ext ?_)
  · simp [i0, posAt]
  · simp [i0]
  · simp [i1]

theorem block17 (t : Fin cfg0.N) (y : S272x512.Idx) : (dats m 0 c).after 17 t y = v (wts m c) (blockRow m c t (y 0)) (y 1) := by
  rw [after0_17]
  unfold_out out0_17
  frame_out
  idx_vars y
  exact pay2_at (ckv_at m c t y0) (blk_wv m c t) y1

theorem arr17 : (dats m 0 c).arrAt 17 cfg0.N = fun j : S4352x512.Idx => v (wts m c) (packedRow m c (j 0)) (j 1) := by
  refine (dats m 0 c).arrAt_eq_of_covers 17 _ (by decide +kernel) fun t hf y => ?_
  blk_simp
  idx_vars y
  have i0 : win0_17.index t 0 = t.val := by rw [(idx_outs t).2.2.2.2.2]; rfl
  have i1 : win0_17.index t 1 = 0 := by rw [(idx_outs t).2.2.2.2.2]; rfl
  refine (block17 m c t (ix2 y0 y1)).trans ?_
  refine congrArg₂ (fun r j => v (wts m c) r j) (packed_place m c t y0 _ ?_) (Fin.ext ?_)
  · simp [i0]
  · simp [i1]

end

end Cert.Kernel6Ideal.Value

end
-- ==== Proof.LeadRef.lean ====
/- The reference's first half of the layer, row by row. -/
module

public import proofs.«01_k».proof.Proof.Gen.Reference6Ideal.Read
public import proofs.«01_k».proof.Proof.LeadSpec
public import proofs.«01_k».proof.Proof.MixScale

@[expose] public section

set_option maxRecDepth 16384

noncomputable section

open Idealize.ShloMosaic Idealize.ShloMosaic.TcCoe Idealize.SL.Sem

namespace Cert.Reference6Ideal.Value
open Cert.Reference6Ideal Cert.Reference6Ideal.Gen Cert.Reference6Ideal.Read

open Cert.Mix (Row c1024 meanSq unit div_1024 zero_word)
open Cert.Lat (c384 c256 div_384 div_256)
open Cert.Head (c96 div_96 xq xk cqn ckvn colQ colK headK laneK wide angle cosAt sinAt)
open Cert.Lead

/-- A row turned, as the reference lays its parts out. -/
theorem turned_parts (c s : Row 16) (x : Row 96) (j : Fin 96) :
    (if h0 : (j : ℕ) < 64 then x j
     else if h1 : (j : ℕ) - 64 < 16 then
       x ⟨64 + (j - 64), by omega⟩ * c ⟨j - 64, h1⟩ - x ⟨64 + (16 + (j - 64)), by omega⟩ * s ⟨j - 64, h1⟩
     else x ⟨64 + (j - 64 - 16), by omega⟩ * s ⟨j - 64 - 16, by omega⟩ + x ⟨64 + (16 + (j - 64 - 16)), by omega⟩ * c ⟨j - 64 - 16, by omega⟩)
      = turned c s x j := by
  unfold turned
  by_cases h0 : (j : ℕ) < 64
  · rw [dif_pos h0, dif_pos h0]
  by_cases h1 : (j : ℕ) < 80
  · rw [dif_neg h0, dif_neg h0, dif_pos (by omega), dif_pos h1]
    exact congrArg₂ (fun a b => x a * _ - x b * _) (Fin.ext (by show 64 + ((j : ℕ) - 64) = j; omega)) (Fin.ext (by show 64 + (16 + ((j : ℕ) - 64)) = j + 16; omega))
  · rw [dif_neg h0, dif_neg h0, dif_neg (by omega), dif_neg h1]
    have e : (⟨j - 64 - 16, by omega⟩ : Fin 16) = ⟨j - 80, by omega⟩ := Fin.ext (by show (j : ℕ) - 64 - 16 = j - 80; omega)
    rw [e]
    exact congrArg₂ (fun a b => x a * _ + x b * _) (Fin.ext (by show 64 + ((j : ℕ) - 64 - 16) = j - 16; omega)) (Fin.ext (by show 64 + (16 + ((j : ℕ) - 64 - 16)) = j; omega))

/-- Which positions are a sequence's. -/
theorem position_word : ∀ s : Fin 2176, IntOp.cmpi .slt (BitVec.ofNat 32 s) 2064#32 = if (s : ℕ) < 2064 then 1#1 else 0#1 := by
  decide +kernel
theorem mask_word (s : Fin 2176) : Scalar.select (IntOp.cmpi .slt (BitVec.ofNat 32 s) 2064#32) (0 : EReal) (Ideal.ofBits .f32 0xC6EA6000#32) = keyMask s := by
  refine (congrArg (fun b => Scalar.select b _ _) (position_word s)).trans ?_
  unfold keyMask
  split <;> rfl

variable (x0 : FVec Ideal S2x2064x1024 .f32) (x1 : FVec Ideal S1024 .f32) (x2 : FVec Ideal S1024x1696 .f32) (x3 : FVec Ideal S384 .f32)
  (x4 : FVec Ideal S384x768 .f32) (x5 : FVec Ideal S256 .f32) (x6 : FVec Ideal S256x1024 .f32) (x7 x8 : FVec Ideal S96 .f32)

/-- A sequence's row at its position. -/
def seqRow (b : Fin 2) (s : Fin 2064) : RowIn := ⟨fun j => x0 (ix3 b s j), cosAt s, sinAt s⟩

/-- A quantity that padding has none of, at a place of the packed array. -/
theorem place (F : RowIn → EReal) (h0 : ∀ c s, F ⟨0, c, s⟩ = 0) (n : Fin 4352) :
    (if h : (n : ℕ) / 2176 < 2 ∧ (n : ℕ) % 2176 < 2064 then F (seqRow x0 ⟨n / 2176, h.1⟩ ⟨n % 2176, h.2⟩) else 0)
      = F (rowOf x0 ⟨n / 2176, by omega⟩ ⟨n % 2176, by omega⟩) := by
  by_cases hs : (n : ℕ) % 2176 < 2064
  · rw [dif_pos ⟨by omega, hs⟩]
    congr 1
    unfold seqRow rowOf
    congr 1
    funext j
    simp [hs]
  · rw [dif_neg fun x => hs x.2, rowOf_pad x0 _ _ hs, h0]

section
variable (b : Fin 2) (s : Fin 2064)

include x0 x1 x2 x3 x4 x5 x6 x7 x8

theorem v6_at (z : Fin 1) : val_main_v6 (F := Ideal) x0 (ix3 b s z) = meanSq c1024 (seqRow x0 b s).h := by
  pointwise [val_main_v6, val_main_v4, val_main_v2, val_main_v1, val_main_v0, val_main_cst, val_main_v3, val_main_cst_0, val_main_v5, val_main_cst_1]
  rw [div_1024]
  rfl

theorem v7_at (z : Fin 1) : val_main_v7 (F := Ideal) x0 (ix3 b s z) = Cert.Mix.inv c1024 (seqRow x0 b s).h := by
  pointwise [val_main_v7]
  simp only [v6_at x0 x1 x2 x3 x4 x5 x6 x7 x8 b s]
  rfl

theorem v12_at (j : Fin 1024) : val_main_v12 (F := Ideal) x0 x1 (ix3 b s j) = hn (weightsOf x1 x2 x3 x4 x5 x6 x7 x8) (seqRow x0 b s) j := by
  pointwise [val_main_v12, val_main_v9, val_main_v8, val_main_v11, val_main_v10]
  simp only [v7_at x0 x1 x2 x3 x4 x5 x6 x7 x8 b s]
  rfl

theorem v13_at (j : Fin 1696) : val_main_v13 (F := Ideal) x0 x1 x2 (ix3 b s j) = cols (weightsOf x1 x2 x3 x4 x5 x6 x7 x8) (seqRow x0 b s) j := by
  pointwise [val_main_v13]
  simp only [v12_at x0 x1 x2 x3 x4 x5 x6 x7 x8 b s]
  rfl

theorem v25_at (z : Fin 1) : val_main_v25 (F := Ideal) x0 x1 x2 (ix3 b s z) = meanSq c384 (hr (weightsOf x1 x2 x3 x4 x5 x6 x7 x8) (seqRow x0 b s)).cq := by
  pointwise [val_main_v25, val_main_v23, val_main_v21, val_main_v20, val_main_v19, val_main_v14, val_main_cst_2, val_main_v22, val_main_cst_3, val_main_v24, val_main_cst_4]
  simp only [v13_at x0 x1 x2 x3 x4 x5 x6 x7 x8 b s]
  rw [div_384]
  rfl

theorem v26_at (z : Fin 1) : val_main_v26 (F := Ideal) x0 x1 x2 (ix3 b s z) = Cert.Mix.inv c384 (hr (weightsOf x1 x2 x3 x4 x5 x6 x7 x8) (seqRow x0 b s)).cq := by
  pointwise [val_main_v26]
  simp only [v25_at x0 x1 x2 x3 x4 x5 x6 x7 x8 b s]
  rfl

theorem v31_at (j : Fin 384) : val_main_v31 (F := Ideal) x0 x1 x2 x3 (ix3 b s j) = cqn (weightsOf x1 x2 x3 x4 x5 x6 x7 x8).head (hr (weightsOf x1 x2 x3 x4 x5 x6 x7 x8) (seqRow x0 b s)) j := by
  pointwise [val_main_v31, val_main_v28, val_main_v14, val_main_v27, val_main_v30, val_main_v29]
  simp only [v13_at x0 x1 x2 x3 x4 x5 x6 x7 x8 b s, v26_at x0 x1 x2 x3 x4 x5 x6 x7 x8 b s]
  rfl

theorem v40_at (z : Fin 1) : val_main_v40 (F := Ideal) x0 x1 x2 (ix3 b s z) = meanSq c256 (hr (weightsOf x1 x2 x3 x4 x5 x6 x7 x8) (seqRow x0 b s)).ckv := by
  pointwise [val_main_v40, val_main_v38, val_main_v36, val_main_v35, val_main_v34, val_main_v15, val_main_cst_5, val_main_v37, val_main_cst_6, val_main_v39, val_main_cst_7]
  simp only [v13_at x0 x1 x2 x3 x4 x5 x6 x7 x8 b s]
  rw [div_256]
  rfl

theorem v41_at (z : Fin 1) : val_main_v41 (F := Ideal) x0 x1 x2 (ix3 b s z) = Cert.Mix.inv c256 (hr (weightsOf x1 x2 x3 x4 x5 x6 x7 x8) (seqRow x0 b s)).ckv := by
  pointwise [val_main_v41]
  simp only [v40_at x0 x1 x2 x3 x4 x5 x6 x7 x8 b s]
  rfl

theorem v46_at (j : Fin 256) : val_main_v46 (F := Ideal) x0 x1 x2 x5 (ix3 b s j) = ckvn (weightsOf x1 x2 x3 x4 x5 x6 x7 x8).head (hr (weightsOf x1 x2 x3 x4 x5 x6 x7 x8) (seqRow x0 b s)) j := by
  pointwise [val_main_v46, val_main_v43, val_main_v15, val_main_v42, val_main_v45, val_main_v44]
  simp only [v13_at x0 x1 x2 x3 x4 x5 x6 x7 x8 b s, v41_at x0 x1 x2 x3 x4 x5 x6 x7 x8 b s]
  rfl

theorem v33_at (h : Fin 8) (j : Fin 96) : val_main_v33 (F := Ideal) x0 x1 x2 x3 x4 (ix4 b s h j) = xq (weightsOf x1 x2 x3 x4 x5 x6 x7 x8).head (hr (weightsOf x1 x2 x3 x4 x5 x6 x7 x8) (seqRow x0 b s)) h j := by
  pointwise [val_main_v33, val_main_v32]
  simp only [v31_at x0 x1 x2 x3 x4 x5 x6 x7 x8 b s]
  exact Finset.sum_congr rfl fun k _ => congrArg (fun a => cqn (weightsOf x1 x2 x3 x4 x5 x6 x7 x8).head (hr (weightsOf x1 x2 x3 x4 x5 x6 x7 x8) (seqRow x0 b s)) k * x4 (ix2 k a)) (Fin.ext (by simp only [colQ]; omega))

theorem v53_at (h : Fin 8) (j : Fin 96) : val_main_v53 (F := Ideal) x0 x1 x2 x5 x6 (ix4 b s h j) = xk (weightsOf x1 x2 x3 x4 x5 x6 x7 x8).head (hr (weightsOf x1 x2 x3 x4 x5 x6 x7 x8) (seqRow x0 b s)) h j := by
  pointwise [val_main_v53, val_main_v49, val_main_v48, val_main_v47, val_main_v52, val_main_v51, val_main_v16]
  simp only [v46_at x0 x1 x2 x3 x4 x5 x6 x7 x8 b s, v13_at x0 x1 x2 x3 x4 x5 x6 x7 x8 b s]
  unfold xk
  exact dite_congr rfl (fun hj => Finset.sum_congr rfl fun k _ => congrArg (fun a => ckvn (weightsOf x1 x2 x3 x4 x5 x6 x7 x8).head (hr (weightsOf x1 x2 x3 x4 x5 x6 x7 x8) (seqRow x0 b s)) k * x6 (ix2 k a)) (Fin.ext (by simp only [colK]; omega))) fun _ => rfl

theorem v60_at (h : Fin 8) (z : Fin 1) : val_main_v60 (F := Ideal) x0 x1 x2 x3 x4 (ix4 b s h z) = meanSq c96 (xq (weightsOf x1 x2 x3 x4 x5 x6 x7 x8).head (hr (weightsOf x1 x2 x3 x4 x5 x6 x7 x8) (seqRow x0 b s)) h) := by
  pointwise [val_main_v60, val_main_v58, val_main_v56, val_main_v55, val_main_v54, val_main_cst_8, val_main_v57, val_main_cst_9, val_main_v59, val_main_cst_10]
  simp only [v33_at x0 x1 x2 x3 x4 x5 x6 x7 x8 b s]
  rw [div_96]
  rfl

theorem v61_at (h : Fin 8) (z : Fin 1) : val_main_v61 (F := Ideal) x0 x1 x2 x3 x4 (ix4 b s h z) = Cert.Mix.inv c96 (xq (weightsOf x1 x2 x3 x4 x5 x6 x7 x8).head (hr (weightsOf x1 x2 x3 x4 x5 x6 x7 x8) (seqRow x0 b s)) h) := by
  pointwise [val_main_v61]
  simp only [v60_at x0 x1 x2 x3 x4 x5 x6 x7 x8 b s]
  rfl

theorem v66_at (h : Fin 8) (j : Fin 96) : val_main_v66 (F := Ideal) x0 x1 x2 x3 x4 x7 (ix4 b s h j) = nrm (weightsOf x1 x2 x3 x4 x5 x6 x7 x8).head.qg (xq (weightsOf x1 x2 x3 x4 x5 x6 x7 x8).head (hr (weightsOf x1 x2 x3 x4 x5 x6 x7 x8) (seqRow x0 b s)) h) j := by
  pointwise [val_main_v66, val_main_v63, val_main_v62, val_main_v65, val_main_v64]
  simp only [v33_at x0 x1 x2 x3 x4 x5 x6 x7 x8 b s, v61_at x0 x1 x2 x3 x4 x5 x6 x7 x8 b s]
  rfl

theorem v73_at (h : Fin 8) (z : Fin 1) : val_main_v73 (F := Ideal) x0 x1 x2 x5 x6 (ix4 b s h z) = meanSq c96 (xk (weightsOf x1 x2 x3 x4 x5 x6 x7 x8).head (hr (weightsOf x1 x2 x3 x4 x5 x6 x7 x8) (seqRow x0 b s)) h) := by
  pointwise [val_main_v73, val_main_v71, val_main_v69, val_main_v68, val_main_v67, val_main_cst_11, val_main_v70, val_main_cst_12, val_main_v72, val_main_cst_13]
  simp only [v53_at x0 x1 x2 x3 x4 x5 x6 x7 x8 b s]
  rw [div_96]
  rfl

theorem v74_at (h : Fin 8) (z : Fin 1) : val_main_v74 (F := Ideal) x0 x1 x2 x5 x6 (ix4 b s h z) = Cert.Mix.inv c96 (xk (weightsOf x1 x2 x3 x4 x5 x6 x7 x8).head (hr (weightsOf x1 x2 x3 x4 x5 x6 x7 x8) (seqRow x0 b s)) h) := by
  pointwise [val_main_v74]
  simp only [v73_at x0 x1 x2 x3 x4 x5 x6 x7 x8 b s]
  rfl

theorem v79_at (h : Fin 8) (j : Fin 96) : val_main_v79 (F := Ideal) x0 x1 x2 x5 x6 x8 (ix4 b s h j) = nrm (weightsOf x1 x2 x3 x4 x5 x6 x7 x8).head.kg (xk (weightsOf x1 x2 x3 x4 x5 x6 x7 x8).head (hr (weightsOf x1 x2 x3 x4 x5 x6 x7 x8) (seqRow x0 b s)) h) j := by
  pointwise [val_main_v79, val_main_v76, val_main_v75, val_main_v78, val_main_v77]
  simp only [v53_at x0 x1 x2 x3 x4 x5 x6 x7 x8 b s, v74_at x0 x1 x2 x3 x4 x5 x6 x7 x8 b s]
  rfl

theorem v94_at (a : Fin 16) : val_main_v94 (F := Ideal)  (ix2 s a) = angle s a := by
  pointwise [val_main_v94, val_main_v92, val_main_v90, val_main_v80, val_main_v93, val_main_v91, val_main_v89, val_main_v88, val_main_cst_16, val_main_v87, val_main_v86, val_main_cst_15, val_main_v85, val_main_v83, val_main_v84, val_main_cst_14]
  rfl

theorem v95_at (a : Fin 16) : val_main_v95 (F := Ideal)  (ix2 s a) = cosAt s a := by
  pointwise [val_main_v95]
  simp only [v94_at x0 x1 x2 x3 x4 x5 x6 x7 x8 s]
  rfl

theorem v97_at (a : Fin 16) : val_main_v97 (F := Ideal)  (ix2 s a) = sinAt s a := by
  pointwise [val_main_v97]
  simp only [v94_at x0 x1 x2 x3 x4 x5 x6 x7 x8 s]
  rfl

theorem v126_at (a : Fin 16) : val_main_v126 (F := Ideal)  (ix2 s a) = angle s a := by
  pointwise [val_main_v126, val_main_v124, val_main_v122, val_main_v80, val_main_v125, val_main_v123, val_main_v121, val_main_v120, val_main_cst_19, val_main_v119, val_main_v118, val_main_cst_18, val_main_v117, val_main_v115, val_main_v116, val_main_cst_17]
  rfl

theorem v127_at (a : Fin 16) : val_main_v127 (F := Ideal)  (ix2 s a) = cosAt s a := by
  pointwise [val_main_v127]
  simp only [v126_at x0 x1 x2 x3 x4 x5 x6 x7 x8 s]
  rfl

theorem v129_at (a : Fin 16) : val_main_v129 (F := Ideal)  (ix2 s a) = sinAt s a := by
  pointwise [val_main_v129]
  simp only [v126_at x0 x1 x2 x3 x4 x5 x6 x7 x8 s]
  rfl

theorem v112_at (h : Fin 8) (j : Fin 96) : val_main_v112 (F := Ideal) x0 x1 x2 x3 x4 x7 (ix4 b s h j) = q (weightsOf x1 x2 x3 x4 x5 x6 x7 x8) (seqRow x0 b s) h j := by
  pointwise [val_main_v112, val_main_v81, val_main_v111, val_main_v105, val_main_v102, val_main_v99, val_main_v82, val_main_v101, val_main_v96, val_main_v104, val_main_v100, val_main_v103, val_main_v98, val_main_v110, val_main_v107, val_main_v106, val_main_v109, val_main_v108]
  simp only [v66_at x0 x1 x2 x3 x4 x5 x6 x7 x8 b s, v95_at x0 x1 x2 x3 x4 x5 x6 x7 x8 s, v97_at x0 x1 x2 x3 x4 x5 x6 x7 x8 s]
  exact turned_parts (cosAt s) (sinAt s) (nrm (weightsOf x1 x2 x3 x4 x5 x6 x7 x8).head.qg (xq (weightsOf x1 x2 x3 x4 x5 x6 x7 x8).head (hr (weightsOf x1 x2 x3 x4 x5 x6 x7 x8) (seqRow x0 b s)) h)) j

theorem v144_at (h : Fin 8) (j : Fin 96) : val_main_v144 (F := Ideal) x0 x1 x2 x5 x6 x8 (ix4 b s h j) = k (weightsOf x1 x2 x3 x4 x5 x6 x7 x8) (seqRow x0 b s) h j := by
  pointwise [val_main_v144, val_main_v113, val_main_v143, val_main_v137, val_main_v134, val_main_v131, val_main_v114, val_main_v133, val_main_v128, val_main_v136, val_main_v132, val_main_v135, val_main_v130, val_main_v142, val_main_v139, val_main_v138, val_main_v141, val_main_v140]
  simp only [v79_at x0 x1 x2 x3 x4 x5 x6 x7 x8 b s, v127_at x0 x1 x2 x3 x4 x5 x6 x7 x8 s, v129_at x0 x1 x2 x3 x4 x5 x6 x7 x8 s]
  exact turned_parts (cosAt s) (sinAt s) (nrm (weightsOf x1 x2 x3 x4 x5 x6 x7 x8).head.kg (xk (weightsOf x1 x2 x3 x4 x5 x6 x7 x8).head (hr (weightsOf x1 x2 x3 x4 x5 x6 x7 x8) (seqRow x0 b s)) h)) j

theorem v146_at (j : Fin 768) : val_main_v146 (F := Ideal) x0 x1 x2 (ix3 b s j) = pa (weightsOf x1 x2 x3 x4 x5 x6 x7 x8) (seqRow x0 b s) j := by
  pointwise [val_main_v146, val_main_v14, val_main_v15, val_main_v145, val_main_v16, val_main_call0_v0, val_main_c]
  simp only [v13_at x0 x1 x2 x3 x4 x5 x6 x7 x8 b s]
  unfold pa Cert.Lat.panel Cert.Lat.krl
  exact dite_congr rfl (fun _ => rfl) fun _ => dite_congr rfl (fun _ => rfl) fun _ => dite_congr rfl (fun _ => rfl) fun _ => zero_word

theorem v17_at (j : Fin 512) : val_main_v17 (F := Ideal) x0 x1 x2 (ix3 b s j) = xr (weightsOf x1 x2 x3 x4 x5 x6 x7 x8) (seqRow x0 b s) j := by
  pointwise [val_main_v17]
  simp only [v13_at x0 x1 x2 x3 x4 x5 x6 x7 x8 b s]
  rfl

theorem v18_at (j : Fin 512) : val_main_v18 (F := Ideal) x0 x1 x2 (ix3 b s j) = xg (weightsOf x1 x2 x3 x4 x5 x6 x7 x8) (seqRow x0 b s) j := by
  pointwise [val_main_v18]
  simp only [v13_at x0 x1 x2 x3 x4 x5 x6 x7 x8 b s]
  rfl

theorem v174_at (j : Fin 512) : val_main_v174 (F := Ideal) x0 x1 x2 x5 x6 (ix3 b s j) = v (weightsOf x1 x2 x3 x4 x5 x6 x7 x8) (seqRow x0 b s) j := by
  pointwise [val_main_v174, val_main_v50, val_main_v48, val_main_v47]
  simp only [v46_at x0 x1 x2 x3 x4 x5 x6 x7 x8 b s]
  exact Finset.sum_congr rfl fun k _ => congrArg (fun a => _ * x6 (ix2 k a)) (Fin.ext (by simp only [Cert.Lat.laneOf]; try omega))

end

/-- A packed row. -/
abbrev packedIn (n : Fin 4352) : RowIn := rowOf x0 ⟨n / 2176, by omega⟩ ⟨n % 2176, by omega⟩

/-- The heads' rows on their lanes, as the reference lays them out. -/
theorem tagged_parts (t : EReal) (X : RowIn → Fin 8 → Row 96) (h0 : ∀ c s, X ⟨0, c, s⟩ = 0) (n : Fin 4352) (l : Fin 1024) :
    (if _h : (l : ℕ) % 128 < 96 then
        if h1 : (n : ℕ) / 2176 < 2 ∧ (n : ℕ) % 2176 < 2064 ∧ (l : ℕ) / 128 < 8 ∧ (l : ℕ) % 128 < 96 then
          X (seqRow x0 ⟨n / 2176, h1.1⟩ ⟨n % 2176, h1.2.1⟩) ⟨l / 128, h1.2.2.1⟩ ⟨l % 128, h1.2.2.2⟩
        else 0
      else if _h : (l : ℕ) % 128 - 96 < 1 then t else 0) = tagged t (X (packedIn x0 n)) l := by
  unfold tagged wide
  by_cases h : (l : ℕ) % 128 < 96
  · rw [dif_pos h, if_neg (by omega), dif_pos (show (laneK l : ℕ) < 96 from h)]
    refine (dite_congr (propext ⟨fun a => ⟨a.1, a.2.1⟩, fun a => ⟨a.1, a.2, by omega, h⟩⟩) (fun _ => rfl) fun _ => rfl).trans
      (place x0 (fun r => X r ⟨l / 128, by omega⟩ ⟨l % 128, h⟩) (fun c s => congrFun (congrFun (h0 c s) _) _) n)
  · rw [dif_neg h]
    by_cases e : (l : ℕ) % 128 = 96
    · rw [dif_pos (by omega), if_pos e]
    · rw [dif_neg (by omega), if_neg e, dif_neg (show ¬ (laneK l : ℕ) < 96 from h)]

include x0 x1 x2 x3 x4 x5 x6 x7 x8

theorem v154_eq : val_main_v154 (F := Ideal) x0 x1 x2 = fun z : S4352x768.Idx => pa (weightsOf x1 x2 x3 x4 x5 x6 x7 x8) (packedIn x0 (z 0)) (z 1) := by
  funext z
  pointwise [val_main_v154, val_main_v153, val_main_call2_v0, val_main_c_23]
  exact (dite_congr rfl (fun h => v146_at x0 x1 x2 x3 x4 x5 x6 x7 x8 _ _ (z 1)) fun _ => by first | rfl | exact zero_word).trans
    (place x0 (fun r => pa (weightsOf x1 x2 x3 x4 x5 x6 x7 x8) r (z 1)) (fun c s => congrFun (pa_pad (weightsOf x1 x2 x3 x4 x5 x6 x7 x8) c s) _) (z 0))

theorem v156_eq : val_main_v156 (F := Ideal) x0 x1 x2 = fun z : S4352x512.Idx => xr (weightsOf x1 x2 x3 x4 x5 x6 x7 x8) (packedIn x0 (z 0)) (z 1) := by
  funext z
  pointwise [val_main_v156, val_main_v155, val_main_call3_v0, val_main_c_24]
  exact (dite_congr rfl (fun h => v17_at x0 x1 x2 x3 x4 x5 x6 x7 x8 _ _ (z 1)) fun _ => by first | rfl | exact zero_word).trans
    (place x0 (fun r => xr (weightsOf x1 x2 x3 x4 x5 x6 x7 x8) r (z 1)) (fun c s => congrFun (xr_pad (weightsOf x1 x2 x3 x4 x5 x6 x7 x8) c s) _) (z 0))

theorem v158_eq : val_main_v158 (F := Ideal) x0 x1 x2 = fun z : S4352x512.Idx => xg (weightsOf x1 x2 x3 x4 x5 x6 x7 x8) (packedIn x0 (z 0)) (z 1) := by
  funext z
  pointwise [val_main_v158, val_main_v157, val_main_call4_v0, val_main_c_25]
  exact (dite_congr rfl (fun h => v18_at x0 x1 x2 x3 x4 x5 x6 x7 x8 _ _ (z 1)) fun _ => by first | rfl | exact zero_word).trans
    (place x0 (fun r => xg (weightsOf x1 x2 x3 x4 x5 x6 x7 x8) r (z 1)) (fun c s => congrFun (xg_pad (weightsOf x1 x2 x3 x4 x5 x6 x7 x8) c s) _) (z 0))

theorem v177_eq : val_main_v177 (F := Ideal) x0 x1 x2 x5 x6 = fun z : S4352x512.Idx => v (weightsOf x1 x2 x3 x4 x5 x6 x7 x8) (packedIn x0 (z 0)) (z 1) := by
  funext z
  pointwise [val_main_v177, val_main_v176, val_main_v175, val_main_call7_v0, val_main_c_31]
  exact (dite_congr rfl (fun h => v174_at x0 x1 x2 x3 x4 x5 x6 x7 x8 _ _ (z 1)) fun _ => by first | rfl | exact zero_word).trans
    (place x0 (fun r => v (weightsOf x1 x2 x3 x4 x5 x6 x7 x8) r (z 1)) (fun c s => congrFun (v_pad (weightsOf x1 x2 x3 x4 x5 x6 x7 x8) c s) _) (z 0))

theorem v166_eq : val_main_v166 (F := Ideal) x0 x1 x2 x3 x4 x7 = fun z : S4352x1024.Idx =>
    tagged (Ideal.ofBits .f32 0x3F800000#32) (q (weightsOf x1 x2 x3 x4 x5 x6 x7 x8) (packedIn x0 (z 0))) (z 1) := by
  funext z
  pointwise [val_main_v166, val_main_v165, val_main_v164, val_main_v160, val_main_call5_v0, val_main_c_27, val_main_v162, val_main_v161, val_main_v159, val_main_cst_26, val_main_v163, val_main_cst_28]
  refine Eq.trans ?_ (tagged_parts x0 1 (q (weightsOf x1 x2 x3 x4 x5 x6 x7 x8)) (q_pad (weightsOf x1 x2 x3 x4 x5 x6 x7 x8)) (z 0) (z 1))
  exact dite_congr rfl (fun _ => dite_congr rfl (fun _ => v112_at x0 x1 x2 x3 x4 x5 x6 x7 x8 _ _ _ _) fun _ => zero_word) fun _ => rfl

theorem v173_eq : val_main_v173 (F := Ideal) x0 x1 x2 x5 x6 x8 = fun z : S4352x1024.Idx =>
    tagged (keyMask ((z 0 : ℕ) % 2176)) (k (weightsOf x1 x2 x3 x4 x5 x6 x7 x8) (packedIn x0 (z 0))) (z 1) := by
  funext z
  pointwise [val_main_v173, val_main_v172, val_main_v171, val_main_v167, val_main_call6_v0, val_main_c_29, val_main_v169, val_main_v168, val_main_v152, val_main_v149, val_main_v147, val_main_v148, val_main_c_20, val_main_v150, val_main_cst_21, val_main_v151, val_main_cst_22, val_main_v170, val_main_cst_30]
  refine Eq.trans ?_ (tagged_parts x0 (keyMask ((z 0 : ℕ) % 2176)) (k (weightsOf x1 x2 x3 x4 x5 x6 x7 x8)) (k_pad (weightsOf x1 x2 x3 x4 x5 x6 x7 x8)) (z 0) (z 1))
  exact dite_congr rfl (fun _ => dite_congr rfl (fun _ => v144_at x0 x1 x2 x3 x4 x5 x6 x7 x8 _ _ _ _) fun _ => zero_word) fun _ => dite_congr rfl (fun _ => mask_word ⟨(z 0 : ℕ) % 2176, by omega⟩) fun _ => rfl

end Cert.Reference6Ideal.Value

end
-- ==== Proof.LeadAgree.lean ====
/- The arrays of the layer's first half are the reference's. -/
module

public import proofs.«01_k».proof.Proof.LeadArrays
public import proofs.«01_k».proof.Proof.LeadRef

@[expose] public section

set_option maxRecDepth 16384

noncomputable section

open Idealize.ShloMosaic Idealize.ShloMosaic.TcCoe Idealize.SL.Sem

namespace Cert.Kernel6Ideal.Value
open Cert.Kernel6Ideal Cert.Kernel6Ideal.Gen

open Cert.Reference6Ideal.Read
open Cert.Reference6Ideal.Value

variable (m : (ℓ : Loc nD τ sig) → Buf (Elt Ideal) ℓ) (c : Dev nD)
  {x0 : FVec Ideal S2x2064x1024 .f32} {x1 : FVec Ideal S1024 .f32} {x2 : FVec Ideal S1024x1696 .f32} {x3 : FVec Ideal S384 .f32}
  {x4 : FVec Ideal S384x768 .f32} {x5 : FVec Ideal S256 .f32} {x6 : FVec Ideal S256x1024 .f32} {x7 x8 : FVec Ideal S96 .f32}
  (e0 : x0 = arg m c main_arg0) (e1 : x1 = arg m c main_arg1) (e2 : x2 = arg m c main_arg2) (e3 : x3 = arg m c main_arg3) (e4 : x4 = arg m c main_arg4) (e5 : x5 = arg m c main_arg5) (e6 : x6 = arg m c main_arg6) (e7 : x7 = arg m c main_arg7) (e8 : x8 = arg m c main_arg8)

include e0 e1 e2 e3 e4 e5 e6 e7 e8

theorem same12 : val_main_v154 (F := Ideal) x0 x1 x2 = (dats m 0 c).arrAt 12 cfg0.N := by
  subst e0 e1 e2 e3 e4 e5 e6 e7 e8
  exact (v154_eq (arg m c main_arg0) (arg m c main_arg1) (arg m c main_arg2) (arg m c main_arg3) (arg m c main_arg4) (arg m c main_arg5) (arg m c main_arg6) (arg m c main_arg7) (arg m c main_arg8)).trans (arr12 m c).symm
theorem same13 : val_main_v156 (F := Ideal) x0 x1 x2 = (dats m 0 c).arrAt 13 cfg0.N := by
  subst e0 e1 e2 e3 e4 e5 e6 e7 e8
  exact (v156_eq (arg m c main_arg0) (arg m c main_arg1) (arg m c main_arg2) (arg m c main_arg3) (arg m c main_arg4) (arg m c main_arg5) (arg m c main_arg6) (arg m c main_arg7) (arg m c main_arg8)).trans (arr13 m c).symm
theorem same14 : val_main_v158 (F := Ideal) x0 x1 x2 = (dats m 0 c).arrAt 14 cfg0.N := by
  subst e0 e1 e2 e3 e4 e5 e6 e7 e8
  exact (v158_eq (arg m c main_arg0) (arg m c main_arg1) (arg m c main_arg2) (arg m c main_arg3) (arg m c main_arg4) (arg m c main_arg5) (arg m c main_arg6) (arg m c main_arg7) (arg m c main_arg8)).trans (arr14 m c).symm
theorem same15 : val_main_v166 (F := Ideal) x0 x1 x2 x3 x4 x7 = (dats m 0 c).arrAt 15 cfg0.N := by
  subst e0 e1 e2 e3 e4 e5 e6 e7 e8
  exact (v166_eq (arg m c main_arg0) (arg m c main_arg1) (arg m c main_arg2) (arg m c main_arg3) (arg m c main_arg4) (arg m c main_arg5) (arg m c main_arg6) (arg m c main_arg7) (arg m c main_arg8)).trans (arr15 m c).symm
theorem same16 : val_main_v173 (F := Ideal) x0 x1 x2 x5 x6 x8 = (dats m 0 c).arrAt 16 cfg0.N := by
  subst e0 e1 e2 e3 e4 e5 e6 e7 e8
  exact (v173_eq (arg m c main_arg0) (arg m c main_arg1) (arg m c main_arg2) (arg m c main_arg3) (arg m c main_arg4) (arg m c main_arg5) (arg m c main_arg6) (arg m c main_arg7) (arg m c main_arg8)).trans (arr16 m c).symm
theorem same17 : val_main_v177 (F := Ideal) x0 x1 x2 x5 x6 = (dats m 0 c).arrAt 17 cfg0.N := by
  subst e0 e1 e2 e3 e4 e5 e6 e7 e8
  exact (v177_eq (arg m c main_arg0) (arg m c main_arg1) (arg m c main_arg2) (arg m c main_arg3) (arg m c main_arg4) (arg m c main_arg5) (arg m c main_arg6) (arg m c main_arg7) (arg m c main_arg8)).trans (arr17 m c).symm

end Cert.Kernel6Ideal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.On_read
public import proofs.«01_k».proof.Proof.Gen.ReferenceIdeal.Run
public import proofs.«01_k».proof.Proof.Gen.ReferenceIdeal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Agree
public import proofs.«01_k».proof.Proof.KRun
public import proofs.«01_k».proof.Proof.MixAgree
public import proofs.«01_k».proof.Proof.InpAgree
public import proofs.«01_k».proof.Proof.LatAgree
public import proofs.«01_k».proof.Proof.HeadAgree
public import proofs.«01_k».proof.Proof.LeadAgree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

open Cert.KernelIdeal.Value (real_args read_o read_l read_dk agree_o agree_l agree_dq agree_dk agree_dv)
open Cert.ReferenceIdeal.Read (val_main_v76_eq val_main_v73_eq val_main_v78_eq val_main_v80_eq val_main_v82_eq)

/-- The reference's run leaves its arguments unchanged, and it declares no semaphore. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The attention with its gradients: kernel and reference agree wherever the mask reads. -/
theorem attention : Cert.algebraic_KernelIdeal_ReferenceIdeal_on_read_pre_finite := by
  intro m g m' g' hpre hargs
  refine ⟨fun c => (Cert.KernelIdeal.Gen.dat1 (Cert.KernelIdeal.Gen.V9 m g) c).arrAt 3 Cert.KernelIdeal.cfg1.N,
    fun c => (Cert.KernelIdeal.Gen.dat1 (Cert.KernelIdeal.Gen.V9 m g) c).arrAt 4 Cert.KernelIdeal.cfg1.N,
    fun c => (Cert.KernelIdeal.Gen.dat2 (Cert.KernelIdeal.Gen.V13 m g) c).arrAt 6 Cert.KernelIdeal.cfg2.N,
    fun c => (Cert.KernelIdeal.Gen.dat2 (Cert.KernelIdeal.Gen.V13 m g) c).arrAt 7 Cert.KernelIdeal.cfg2.N,
    fun c => (Cert.KernelIdeal.Gen.dat2 (Cert.KernelIdeal.Gen.V13 m g) c).arrAt 8 Cert.KernelIdeal.cfg2.N, ?_, ?_⟩
  · refine (θ_run Cert.KernelIdeal.defs _ _).mono (fun r h c => ?_) (Cert.KernelIdeal.Value.run m g)
    obtain ⟨ho, hl, hdq, hdk, hdv, hargs'⟩ := h.1 c
    exact ⟨fun i _ => congrFun ho i, fun i _ => congrFun hl i, fun i _ => congrFun hdq i, fun i _ => congrFun hdk i,
      fun i _ => congrFun hdv i, hargs'⟩
  · refine (θ_run Cert.ReferenceIdeal.defs _ _).mono (fun r h c => ?_) (Cert.ReferenceIdeal.Value.run (F := Ideal) m' g')
    obtain ⟨ho, hl, hdq, hdk, hdv, hargs'⟩ := h c
    obtain ⟨e0, e1, e2, e3⟩ := hargs c
    obtain ⟨hq, hk, hv, hg⟩ := real_args _ _ _ _ (hpre c)
    rw [val_main_v76_eq, e0, e1, e2] at ho
    rw [val_main_v73_eq, e0, e1] at hl
    rw [val_main_v78_eq, e0, e1, e2, e3] at hdq
    rw [val_main_v80_eq, e0, e1, e2, e3] at hdk
    rw [val_main_v82_eq, e0, e1, e3] at hdv
    exact ⟨fun i hi => (congrFun ho i).trans (agree_o m g c hq hk hv i (read_o _ _ _ _ i hi)),
      fun i hi => (congrFun hl i).trans (agree_l m g c hq hk i (read_l _ _ _ _ i hi)),
      fun i _ => (congrFun hdq i).trans (agree_dq m g c hq hk hv hg i),
      fun i hi => (congrFun hdk i).trans (agree_dk m g c hq hk hv hg i (read_dk _ _ _ _ i hi)),
      fun i _ => (congrFun hdv i).trans (agree_dv m g c hq hk hg i), hargs'⟩

/-- The second reference's run leaves its arguments unchanged, and it declares no semaphore. -/
theorem frame_reference2 : Cert.quiescent_Reference2Ideal := fun m ρ _ =>
  (θ_run Cert.Reference2Ideal.defs _ _).mono (fun r h => ⟨fun c => (h c).2.2.2.2.2.2.2.2.2.2.2.2.2.2, sem_eq_zero_of_no_sems (by decide) r.2⟩)
    (Cert.Reference2Ideal.Value.run (F := Ideal) m ρ)

open Cert.Kernel2Ideal.Value (same11 same12 same13 same14 same15 same16 same17 same18 same19 same20 same21 same22 same23 same24)

set_option maxHeartbeats 1000000 in
/-- The layer's second half with its gradients: kernel and reference agree. -/
theorem feed_forward : Cert.algebraic_Kernel2Ideal_Reference2Ideal := by
  intro m g m' g' _ hargs
  refine ⟨fun c => (Cert.Kernel2Ideal.Gen.dats m 0 c).arrAt 11 Cert.Kernel2Ideal.cfg0.N,
    fun c => (Cert.Kernel2Ideal.Gen.dats m 0 c).arrAt 12 Cert.Kernel2Ideal.cfg0.N,
    fun c => (Cert.Kernel2Ideal.Gen.dats m 0 c).arrAt 13 Cert.Kernel2Ideal.cfg0.N,
    fun c => (Cert.Kernel2Ideal.Gen.dats m 0 c).arrAt 14 Cert.Kernel2Ideal.cfg0.N,
    fun c => (Cert.Kernel2Ideal.Gen.dats m 0 c).arrAt 15 Cert.Kernel2Ideal.cfg0.N,
    fun c => (Cert.Kernel2Ideal.Gen.dats m 0 c).arrAt 16 Cert.Kernel2Ideal.cfg0.N,
    fun c => (Cert.Kernel2Ideal.Gen.dats m 0 c).arrAt 17 Cert.Kernel2Ideal.cfg0.N,
    fun c => (Cert.Kernel2Ideal.Gen.dats m 0 c).arrAt 18 Cert.Kernel2Ideal.cfg0.N,
    fun c => (Cert.Kernel2Ideal.Gen.dats m 0 c).arrAt 19 Cert.Kernel2Ideal.cfg0.N,
    fun c => (Cert.Kernel2Ideal.Gen.dats m 0 c).arrAt 20 Cert.Kernel2Ideal.cfg0.N,
    fun c => (Cert.Kernel2Ideal.Gen.dats m 0 c).arrAt 21 Cert.Kernel2Ideal.cfg0.N,
    fun c => (Cert.Kernel2Ideal.Gen.dats m 0 c).arrAt 22 Cert.Kernel2Ideal.cfg0.N,
    fun c => (Cert.Kernel2Ideal.Gen.dats m 0 c).arrAt 23 Cert.Kernel2Ideal.cfg0.N,
    fun c => (Cert.Kernel2Ideal.Gen.dats m 0 c).arrAt 24 Cert.Kernel2Ideal.cfg0.N, ?_, ?_⟩
  · exact (θ_run Cert.Kernel2Ideal.defs _ _).mono (fun r h c => h c) (Cert.Kernel2Ideal.Value.run_blocks m g)
  · refine (θ_run Cert.Reference2Ideal.defs _ _).mono (fun r h c => ?_) (Cert.Reference2Ideal.Value.run (F := Ideal) m' g')
    obtain ⟨h11, h12, h13, h14, h15, h16, h17, h18, h19, h20, h21, h22, h23, h24, hargs'⟩ := h c
    obtain ⟨e0, e1, e2, e3, e4, e5, e6, e7, e8, e9, e10⟩ := hargs c
    exact ⟨h11.trans ((Cert.Reference2Ideal.Read.val_main_v151_eq _).trans (same11 m c e0 e1 e2 e3 e4 e5 e6 e7 e8 e9 e10)),
      h12.trans ((Cert.Reference2Ideal.Read.val_main_v153_eq _).trans (same12 m c e0 e1 e2 e3 e4 e5 e6 e7 e8 e9 e10)),
      h13.trans ((Cert.Reference2Ideal.Read.val_main_v155_eq _).trans (same13 m c e0 e1 e2 e3 e4 e5 e6 e7 e8 e9 e10)),
      h14.trans ((Cert.Reference2Ideal.Read.val_main_v158_eq _).trans (same14 m c e0 e1 e2 e3 e4 e5 e6 e7 e8 e9 e10)),
      h15.trans ((Cert.Reference2Ideal.Read.val_main_v161_eq _).trans (same15 m c e0 e1 e2 e3 e4 e5 e6 e7 e8 e9 e10)),
      h16.trans ((Cert.Reference2Ideal.Read.val_main_v164_eq _).trans (same16 m c e0 e1 e2 e3 e4 e5 e6 e7 e8 e9 e10)),
      h17.trans ((Cert.Reference2Ideal.Read.val_main_v167_eq _).trans (same17 m c e0 e1 e2 e3 e4 e5 e6 e7 e8 e9 e10)),
      h18.trans ((Cert.Reference2Ideal.Read.val_main_v170_eq _).trans (same18 m c e0 e1 e2 e3 e4 e5 e6 e7 e8 e9 e10)),
      h19.trans ((Cert.Reference2Ideal.Read.val_main_v173_eq _).trans (same19 m c e0 e1 e2 e3 e4 e5 e6 e7 e8 e9 e10)),
      h20.trans ((Cert.Reference2Ideal.Read.val_main_v176_eq _).trans (same20 m c e0 e1 e2 e3 e4 e5 e6 e7 e8 e9 e10)),
      h21.trans ((Cert.Reference2Ideal.Read.val_main_v177_eq _).trans (same21 m c e0 e1 e2 e3 e4 e5 e6 e7 e8 e9 e10)),
      h22.trans ((Cert.Reference2Ideal.Read.val_main_v178_eq _).trans (same22 m c e0 e1 e2 e3 e4 e5 e6 e7 e8 e9 e10)),
      h23.trans ((Cert.Reference2Ideal.Read.val_main_v179_eq _).trans (same23 m c e0 e1 e2 e3 e4 e5 e6 e7 e8 e9 e10)),
      h24.trans ((Cert.Reference2Ideal.Read.val_main_v180_eq _).trans (same24 m c e0 e1 e2 e3 e4 e5 e6 e7 e8 e9 e10)), hargs'⟩

/-- The third reference's run leaves its arguments unchanged, and it declares no semaphore. -/
theorem frame_reference3 : Cert.quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

open Cert.Kernel3Ideal.Value (same11 same12 same13 same14 same15 same16 same17) in
set_option maxHeartbeats 1000000 in
/-- The gradient of the heads: kernel and reference agree. -/
theorem heads : Cert.algebraic_Kernel3Ideal_Reference3Ideal := by
  intro m g m' g' _ hargs
  refine ⟨fun c => (Cert.Kernel3Ideal.Gen.dats m 0 c).arrAt 11 Cert.Kernel3Ideal.cfg0.N,
    fun c => (Cert.Kernel3Ideal.Gen.dats m 0 c).arrAt 12 Cert.Kernel3Ideal.cfg0.N,
    fun c => (Cert.Kernel3Ideal.Gen.dats m 0 c).arrAt 13 Cert.Kernel3Ideal.cfg0.N,
    fun c => (Cert.Kernel3Ideal.Gen.dats m 0 c).arrAt 14 Cert.Kernel3Ideal.cfg0.N,
    fun c => (Cert.Kernel3Ideal.Gen.dats m 0 c).arrAt 15 Cert.Kernel3Ideal.cfg0.N,
    fun c => (Cert.Kernel3Ideal.Gen.dats m 0 c).arrAt 16 Cert.Kernel3Ideal.cfg0.N,
    fun c => (Cert.Kernel3Ideal.Gen.dats m 0 c).arrAt 17 Cert.Kernel3Ideal.cfg0.N, ?_, ?_⟩
  · exact (θ_run Cert.Kernel3Ideal.defs _ _).mono (fun r h c => h c) (Cert.Kernel3Ideal.Value.run_blocks m g)
  · refine (θ_run Cert.Reference3Ideal.defs _ _).mono (fun r h c => ?_) (Cert.Reference3Ideal.Value.run (F := Ideal) m' g')
    obtain ⟨h11, h12, h13, h14, h15, h16, h17, hargs'⟩ := h c
    obtain ⟨e0, e1, e2, e3, e4, e5, e6, e7, e8, e9, e10⟩ := hargs c
    exact ⟨h11.trans ((Cert.Reference3Ideal.Read.val_main_v227_eq ..).trans (same11 m c e0 e1 e2 e3 e4 e5 e6 e7 e8 e9 e10)),
      h12.trans ((Cert.Reference3Ideal.Read.val_main_v229_eq ..).trans (same12 m c e0 e1 e2 e3 e4 e5 e6 e7 e8 e9 e10)),
      h13.trans ((Cert.Reference3Ideal.Read.val_main_v232_eq ..).trans (same13 m c e0 e1 e2 e3 e4 e5 e6 e7 e8 e9 e10)),
      h14.trans ((Cert.Reference3Ideal.Read.val_main_v237_eq ..).trans (same14 m c e0 e1 e2 e3 e4 e5 e6 e7 e8 e9 e10)),
      h15.trans ((Cert.Reference3Ideal.Read.val_main_v242_eq ..).trans (same15 m c e0 e1 e2 e3 e4 e5 e6 e7 e8 e9 e10)),
      h16.trans ((Cert.Reference3Ideal.Read.val_main_v244_eq ..).trans (same16 m c e0 e1 e2 e3 e4 e5 e6 e7 e8 e9 e10)),
      h17.trans ((Cert.Reference3Ideal.Read.val_main_v246_eq ..).trans (same17 m c e0 e1 e2 e3 e4 e5 e6 e7 e8 e9 e10)), hargs'⟩

/-- The fourth reference's run leaves its arguments unchanged, and it declares no semaphore. -/
theorem frame_reference4 : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

open Cert.Kernel4Ideal.Value (same9 same10 same11 same12) in
set_option maxHeartbeats 1000000 in
/-- The gradient of the first norm and its projection: kernel and reference agree. -/
theorem input_norm : Cert.algebraic_Kernel4Ideal_Reference4Ideal := by
  intro m g m' g' _ hargs
  refine ⟨fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N, ?_, ?_⟩
  · exact (θ_run Cert.Kernel4Ideal.defs _ _).mono (fun r h c => h c) (Cert.Kernel4Ideal.Value.run_blocks m g)
  · refine (θ_run Cert.Reference4Ideal.defs _ _).mono (fun r h c => ?_) (Cert.Reference4Ideal.Value.run (F := Ideal) m' g')
    obtain ⟨h9, h10, h11, h12, hargs'⟩ := h c
    obtain ⟨e0, e1, e2, e3, e4, e5, e6, e7, e8⟩ := hargs c
    exact ⟨h9.trans ((Cert.Reference4Ideal.Read.val_main_v43_eq ..).trans (same9 m c e0 e1 e2 e3 e4 e5 e6 e7 e8)),
      h10.trans ((Cert.Reference4Ideal.Read.val_main_v46_eq ..).trans (same10 m c e0 e1 e2 e3 e4 e5 e6 e7 e8)),
      h11.trans ((Cert.Reference4Ideal.Read.val_main_v49_eq ..).trans (same11 m c e0 e1 e2 e3 e4 e5 e6 e7 e8)),
      h12.trans ((Cert.Reference4Ideal.Read.val_main_v50_eq ..).trans (same12 m c e0 e1 e2 e3 e4 e5 e6 e7 e8)), hargs'⟩

/-- The fifth reference's run leaves its arguments unchanged, and it declares no semaphore. -/
theorem frame_reference5 : Cert.quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run (F := Ideal) m ρ)

open Cert.Kernel5Ideal.Value (same7 same8 same9 same10 same11 same12) in
set_option maxHeartbeats 1000000 in
/-- The gradient of the latent norms: kernel and reference agree. -/
theorem latent_norms : Cert.algebraic_Kernel5Ideal_Reference5Ideal := by
  intro m g m' g' _ hargs
  refine ⟨fun c => (Cert.Kernel5Ideal.Gen.dats m 0 c).arrAt 7 Cert.Kernel5Ideal.cfg0.N,
    fun c => (Cert.Kernel5Ideal.Gen.dats m 0 c).arrAt 8 Cert.Kernel5Ideal.cfg0.N,
    fun c => (Cert.Kernel5Ideal.Gen.dats m 0 c).arrAt 9 Cert.Kernel5Ideal.cfg0.N,
    fun c => (Cert.Kernel5Ideal.Gen.dats m 0 c).arrAt 10 Cert.Kernel5Ideal.cfg0.N,
    fun c => (Cert.Kernel5Ideal.Gen.dats m 0 c).arrAt 11 Cert.Kernel5Ideal.cfg0.N,
    fun c => (Cert.Kernel5Ideal.Gen.dats m 0 c).arrAt 12 Cert.Kernel5Ideal.cfg0.N, ?_, ?_⟩
  · exact (θ_run Cert.Kernel5Ideal.defs _ _).mono (fun r h c => h c) (Cert.Kernel5Ideal.Value.run_blocks m g)
  · refine (θ_run Cert.Reference5Ideal.defs _ _).mono (fun r h c => ?_) (Cert.Reference5Ideal.Value.run (F := Ideal) m' g')
    obtain ⟨h7, h8, h9, h10, h11, h12, hargs'⟩ := h c
    obtain ⟨e0, e1, e2, e3, e4, e5, e6, e7, e8⟩ := hargs c
    exact ⟨h7.trans ((Cert.Reference5Ideal.Read.val_main_v82_eq ..).trans (same7 m c e0 e1 e2 e3 e4 e5 e6 e7 e8)),
      h8.trans ((Cert.Reference5Ideal.Read.val_main_v84_eq ..).trans (same8 m c e0 e1 e2 e3 e4 e5 e6 e7 e8)),
      h9.trans ((Cert.Reference5Ideal.Read.val_main_v87_eq ..).trans (same9 m c e0 e1 e2 e3 e4 e5 e6 e7 e8)),
      h10.trans ((Cert.Reference5Ideal.Read.val_main_v90_eq ..).trans (same10 m c e0 e1 e2 e3 e4 e5 e6 e7 e8)),
      h11.trans ((Cert.Reference5Ideal.Read.val_main_v91_eq ..).trans (same11 m c e0 e1 e2 e3 e4 e5 e6 e7 e8)),
      h12.trans ((Cert.Reference5Ideal.Read.val_main_v92_eq ..).trans (same12 m c e0 e1 e2 e3 e4 e5 e6 e7 e8)), hargs'⟩

/-- The sixth reference's run leaves its arguments unchanged, and it declares no semaphore. -/
theorem frame_reference6 : Cert.quiescent_Reference6Ideal := fun m ρ _ =>
  (θ_run Cert.Reference6Ideal.defs _ _).mono (fun r h => ⟨fun c => (h c).2.2.2.2.2.2, sem_eq_zero_of_no_sems (by decide) r.2⟩)
    (Cert.Reference6Ideal.Value.run (F := Ideal) m ρ)

open Cert.Kernel6Ideal.Value (same12 same13 same14 same15 same16 same17) in
set_option maxHeartbeats 1000000 in
/-- The first half of the layer: kernel and reference agree. -/
theorem layer_input : Cert.algebraic_Kernel6Ideal_Reference6Ideal := by
  intro m g m' g' _ hargs
  refine ⟨fun c => (Cert.Kernel6Ideal.Gen.dats m 0 c).arrAt 12 Cert.Kernel6Ideal.cfg0.N,
    fun c => (Cert.Kernel6Ideal.Gen.dats m 0 c).arrAt 13 Cert.Kernel6Ideal.cfg0.N,
    fun c => (Cert.Kernel6Ideal.Gen.dats m 0 c).arrAt 14 Cert.Kernel6Ideal.cfg0.N,
    fun c => (Cert.Kernel6Ideal.Gen.dats m 0 c).arrAt 15 Cert.Kernel6Ideal.cfg0.N,
    fun c => (Cert.Kernel6Ideal.Gen.dats m 0 c).arrAt 16 Cert.Kernel6Ideal.cfg0.N,
    fun c => (Cert.Kernel6Ideal.Gen.dats m 0 c).arrAt 17 Cert.Kernel6Ideal.cfg0.N, ?_, ?_⟩
  · exact (θ_run Cert.Kernel6Ideal.defs _ _).mono (fun r h c => h c) (Cert.Kernel6Ideal.Value.run_blocks m g)
  · refine (θ_run Cert.Reference6Ideal.defs _ _).mono (fun r h c => ?_) (Cert.Reference6Ideal.Value.run (F := Ideal) m' g')
    obtain ⟨h12, h13, h14, h15, h16, h17, hargs'⟩ := h c
    obtain ⟨e0, e1, e2, e3, e4, e5, e6, e7, e8⟩ := hargs c
    exact ⟨h12.trans ((Cert.Reference6Ideal.Read.val_main_v154_eq ..).trans (same12 m c e0 e1 e2 e3 e4 e5 e6 e7 e8)),
      h13.trans ((Cert.Reference6Ideal.Read.val_main_v156_eq ..).trans (same13 m c e0 e1 e2 e3 e4 e5 e6 e7 e8)),
      h14.trans ((Cert.Reference6Ideal.Read.val_main_v158_eq ..).trans (same14 m c e0 e1 e2 e3 e4 e5 e6 e7 e8)),
      h15.trans ((Cert.Reference6Ideal.Read.val_main_v166_eq ..).trans (same15 m c e0 e1 e2 e3 e4 e5 e6 e7 e8)),
      h16.trans ((Cert.Reference6Ideal.Read.val_main_v173_eq ..).trans (same16 m c e0 e1 e2 e3 e4 e5 e6 e7 e8)),
      h17.trans ((Cert.Reference6Ideal.Read.val_main_v177_eq ..).trans (same17 m c e0 e1 e2 e3 e4 e5 e6 e7 e8)), hargs'⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.On_read.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  ⟨IdealRules.named_const.statement Cert.KernelIdeal.κ "mask" .f32 0xC6EA6000#32 _ rfl,
    IdealRules.named_const.statement Cert.KernelIdeal.κ "scale_log2" .f32 0x3E16C740#32 _ rfl,
    IdealRules.named_const.statement Cert.KernelIdeal.κ "log2_e" .f32 0x3FB8AA3B#32 _ rfl⟩,
  attention, trivial, feed_forward,
  ⟨IdealRules.named_const.statement Cert.Kernel3Ideal.κ "inv_384" .f32 0x3B2AAAAB#32 _ rfl,
    IdealRules.named_const.statement Cert.Kernel3Ideal.κ "inv_96" .f32 0x3C2AAAAB#32 _ rfl⟩, heads,
  trivial, input_norm,
  IdealRules.named_const.statement Cert.Kernel5Ideal.κ "inv_384" .f32 0x3B2AAAAB#32 _ rfl, latent_norms,
  ⟨IdealRules.named_const.statement Cert.Kernel6Ideal.κ "inv_384" .f32 0x3B2AAAAB#32 _ rfl,
    IdealRules.named_const.statement Cert.Kernel6Ideal.κ "inv_96" .f32 0x3C2AAAAB#32 _ rfl⟩, layer_input⟩

end Cert.Proof

end
